-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  IdealRules.named_const.Statement Cert.KernelIdeal.κ "log_g0" .f32 0xBD020AEC#32 ((Real.log (31 / 32) : ℝ) : EReal)
  ∧ IdealRules.named_const.Statement Cert.KernelIdeal.κ "log_g1" .f32 0xBC8102B3#32 ((Real.log (63 / 64) : ℝ) : EReal)
  ∧ IdealRules.named_const.Statement Cert.KernelIdeal.κ "log_g2" .f32 0xBC0080AC#32 ((Real.log (127 / 128) : ℝ) : EReal)
  ∧ IdealRules.named_const.Statement Cert.KernelIdeal.κ "log_g3" .f32 0xBB80402B#32 ((Real.log (255 / 256) : ℝ) : EReal)
  ∧ IdealRules.named_const.Statement Cert.KernelIdeal.κ "g_chunk0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "g_chunk1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "g_chunk2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "g_chunk3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v211_0)) (v1 : (c : Dev Cert.KernelIdeal.nD) → Buf (Elt Ideal) ((c.tc : Thread Cert.KernelIdeal.nD Cert.KernelIdeal.τ).loc Cert.KernelIdeal.main_v211_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211_0) = v0 c
          ∧ r.2.mem ((c.tc : Thread Cert.KernelIdeal.nD Cert.KernelIdeal.τ).loc Cert.KernelIdeal.main_v211_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)) (v3 : (c : Dev Cert.Kernel2Ideal.nD) → Buf (Elt Ideal) ((c.tc : Thread Cert.Kernel2Ideal.nD Cert.Kernel2Ideal.τ).loc Cert.Kernel2Ideal.main_v27_3)) (v4 : (c : Dev Cert.Kernel2Ideal.nD) → Buf (Elt Ideal) ((c.tc : Thread Cert.Kernel2Ideal.nD Cert.Kernel2Ideal.τ).loc Cert.Kernel2Ideal.main_v27_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_v27_3) = v3 c
          ∧ r.2.mem ((c.tc : Thread Cert.Kernel2Ideal.nD Cert.Kernel2Ideal.τ).loc Cert.Kernel2Ideal.main_v27_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_v51) = v3 c
          ∧ r.2.mem ((c.tc : Thread Cert.Reference2Ideal.nD Cert.Reference2Ideal.τ).loc Cert.Reference2Ideal.main_v31) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v16_0)) (v1 : (c : Dev Cert.Kernel12Ideal.nD) → Buf (Elt Ideal) ((c.tc : Thread Cert.Kernel12Ideal.nD Cert.Kernel12Ideal.τ).loc Cert.Kernel12Ideal.main_v16_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v16_0) = v0 c
          ∧ r.2.mem ((c.tc : Thread Cert.Kernel12Ideal.nD Cert.Kernel12Ideal.τ).loc Cert.Kernel12Ideal.main_v16_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v20) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8208x2560 : Shape := ⟨2, ![8208, 2560]⟩
abbrev S1x512 : Shape := ⟨2, ![1, 512]⟩
abbrev S8208x1024 : Shape := ⟨2, ![8208, 1024]⟩
abbrev S8208x2048 : Shape := ⟨2, ![8208, 2048]⟩
abbrev S8208x512 : Shape := ⟨2, ![8208, 512]⟩
abbrev S_ : Shape := ⟨0, ![]⟩

class Facts : Prop where
  slices_S8208x2560_S8208x2048_0_0 : S8208x2560.Slices ![0, 0] S8208x2048
  slices_S8208x1024_S8208x512_0_0 : S8208x1024.Slices ![0, 0] S8208x512
  bcast_S_S8208x2048 : S_.BroadcastsInDim S8208x2048 (![] : Fin 0 → Fin S8208x2048.rank)
  reducesTo_S8208x2048_S_d0_1 : S8208x2048.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S8208x512 : S_.BroadcastsInDim S8208x512 (![] : Fin 0 → Fin S8208x512.rank)
  reducesTo_S8208x512_S_d0_1 : S8208x512.ReducesTo [0, 1] S_

variable [Facts]

def fn {F : FTy → Type} [FloatOps F] (main_arg0 : FVec F S8208x2560 .f32) (main_arg1 : FVec F S1x512 .f32) (main_arg2 : FVec F S8208x1024 .f32) : IVec S_ 1 :=
  let main_v0 : FVec F S8208x2048 .f32 := (extractStridedSlice S8208x2048 ![0, 0] · slices_S8208x2560_S8208x2048_0_0) main_arg0
  let main_v1 : FVec F S8208x512 .f32 := (extractStridedSlice S8208x512 ![0, 0] · slices_S8208x1024_S8208x512_0_0) main_arg2
  let main_v2 : FVec F S8208x2048 .f32 := Host.absf main_v0
  let main_cst : FVec F S_ .f32 := constant S_ .f32 0x7F800000#32
  let main_v3 : FVec F S8208x2048 .f32 := broadcastInDim S8208x2048 ![] bcast_S_S8208x2048 main_cst
  let main_v4 : IVec S8208x2048 1 := cmpf .olt main_v2 main_v3
  let main_c : IVec S_ 1 := constantI S_ 1 1#1
  let main_v5 : IVec S_ 1 := (fun x v => Host.reduce IntOp.andi x v reducesTo_S8208x2048_S_d0_1 h_S_) main_v4 main_c
  let main_v6 : FVec F S1x512 .f32 := Host.absf main_arg1
  let main_cst_0 : FVec F S_ .f32 := constant S_ .f32 0x7F800000#32
  let main_v7 : FVec F S1x512 .f32 := broadcastInDim S1x512 ![] bcast_S_S1x512 main_cst_0
  let main_v8 : IVec S1x512 1 := cmpf .olt main_v6 main_v7
  let main_c_1 : IVec S_ 1 := constantI S_ 1 1#1
  let main_v9 : IVec S_ 1 := (fun x v => Host.reduce IntOp.andi x v reducesTo_S1x512_S_d0_1 h_S_) main_v8 main_c_1
  let main_v10 : IVec S_ 1 := andi main_v5 main_v9
  let main_v11 : FVec F S8208x512 .f32 := Host.absf main_v1
  let main_cst_2 : FVec F S_ .f32 := constant S_ .f32 0x7F800000#32
  let main_v12 : FVec F S8208x512 .f32 := broadcastInDim S8208x512 ![] bcast_S_S8208x512 main_cst_2
  let main_v13 : IVec S8208x512 1 := cmpf .olt main_v11 main_v12
  let main_c_3 : IVec S_ 1 := constantI S_ 1 1#1
  let main_v14 : IVec S_ 1 := (fun x v => Host.reduce IntOp.andi x v reducesTo_S8208x512_S_d0_1 h_S_) main_v13 main_c_3
  let main_v15 : IVec S_ 1 := andi main_v10 main_v14
  main_v15
-- ==== Pre_finite2.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8320x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S8320x1024 .f32 := Host.absf main_arg5
  let main_cst_8 : FVec F S_ .f32 := constant S_ .f32 0x7F800000#32
  let main_v21 : FVec F S8320x1024 .f32 := broadcastInDim S8320x1024 ![] bcast_S_S8320x1024 main_cst_8
  let main_v22 : IVec S8320x1024 1 := cmpf .olt main_v20 main_v21
  let main_c_9 : IVec S_ 1 := constantI S_ 1 1#1
  let main_v23 : IVec S_ 1 := (fun x v => Host.reduce IntOp.andi x v reducesTo_S8320x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8320x1024 .f32) (main_arg1 : FVec F S1x1024 .f32) (main_arg2 : FVec F S1024x2816 .f32) (main_arg3 : FVec F S1024x2816 .f32) (main_arg4 : FVec F S2816x1024 .f32) (main_arg5 : FVec F S8320x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite5.lean ====
abbrev S8320x2816 : Shape := ⟨2, ![8320, 2816]⟩
abbrev S2816x1024 : Shape := ⟨2, ![2816, 1024]⟩
abbrev S8320x1024 : Shape := ⟨2, ![8320, 1024]⟩
abbrev S_ : Shape := ⟨0, ![]⟩

class Facts : Prop where
  bcast_S_S8320x2816 : S_.BroadcastsInDim S8320x2816 (![] : Fin 0 → Fin S8320x2816.rank)
  reducesTo_S8320x2816_S_d0_1 : S8320x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8320x1024 : S_.BroadcastsInDim S8320x1024 (![] : Fin 0 → Fin S8320x1024.rank)
  reducesTo_S8320x1024_S_d0_1 : S8320x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8320x2816 .f32) (main_arg1 : FVec F S8320x2816 .f32) (main_arg2 : FVec F S2816x1024 .f32) (main_arg3 : FVec F S8320x1024 .f32) : IVec S_ 1 :=
  let main_v0 : FVec F S8320x2816 .f32 := Host.absf main_arg0
  let main_cst : FVec F S_ .f32 := constant S_ .f32 0x7F800000#32
  let main_v1 : FVec F S8320x2816 .f32 := broadcastInDim S8320x2816 ![] bcast_S_S8320x2816 main_cst
  let main_v2 : IVec S8320x2816 1 := cmpf .olt main_v0 main_v1
  let main_c : IVec S_ 1 := constantI S_ 1 1#1
  let main_v3 : IVec S_ 1 := (fun x v => Host.reduce IntOp.andi x v reducesTo_S8320x2816_S_d0_1 h_S_) main_v2 main_c
  let main_v4 : FVec F S8320x2816 .f32 := Host.absf main_arg1
  let main_cst_0 : FVec F S_ .f32 := constant S_ .f32 0x7F800000#32
  let main_v5 : FVec F S8320x2816 .f32 := broadcastInDim S8320x2816 ![] bcast_S_S8320x2816 main_cst_0
  let main_v6 : IVec S8320x2816 1 := cmpf .olt main_v4 main_v5
  let main_c_1 : IVec S_ 1 := constantI S_ 1 1#1
  let main_v7 : IVec S_ 1 := (fun x v => Host.reduce IntOp.andi x v reducesTo_S8320x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S8320x1024 .f32 := Host.absf main_arg3
  let main_cst_4 : FVec F S_ .f32 := constant S_ .f32 0x7F800000#32
  let main_v13 : FVec F S8320x1024 .f32 := broadcastInDim S8320x1024 ![] bcast_S_S8320x1024 main_cst_4
  let main_v14 : IVec S8320x1024 1 := cmpf .olt main_v12 main_v13
  let main_c_5 : IVec S_ 1 := constantI S_ 1 1#1
  let main_v15 : IVec S_ 1 := (fun x v => Host.reduce IntOp.andi x v reducesTo_S8320x1024_S_d0_1 h_S_) main_v14 main_c_5
  fn_part1 (F := F) main_v3 main_v7 main_v11 main_v15
-- ==== Pre_finite6.lean ====
abbrev S8320x1024 : Shape := ⟨2, ![8320, 1024]⟩
abbrev S1x1024 : Shape := ⟨2, ![1, 1024]⟩
abbrev S1024x2560 : Shape := ⟨2, ![1024, 2560]⟩
abbrev S8320x2560 : Shape := ⟨2, ![8320, 2560]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_
  bcast_S_S8320x2560 : S_.BroadcastsInDim S8320x2560 (![] : Fin 0 → Fin S8320x2560.rank)
  reducesTo_S8320x2560_S_d0_1 : S8320x2560.ReducesTo [0, 1] S_

variable [Facts]

def fn_part1 {F : FTy → Type} [FloatOps F] (main_arg4 : FVec F S8320x1024 .f32) (main_v3 : IVec S_ 1) (main_v7 : IVec S_ 1) (main_v11 : IVec S_ 1) (main_v15 : IVec S_ 1) : IVec S_ 1 :=
  let main_v16 : FVec F S8320x1024 .f32 := Host.absf main_arg4
  let main_cst_6 : FVec F S_ .f32 := constant S_ .f32 0x7F800000#32
  let main_v17 : FVec F S8320x1024 .f32 := broadcastInDim S8320x1024 ![] bcast_S_S8320x1024 main_cst_6
  let main_v18 : IVec S8320x1024 1 := cmpf .olt main_v16 main_v17
  let main_c_7 : IVec S_ 1 := constantI S_ 1 1#1
  let main_v19 : IVec S_ 1 := (fun x v => Host.reduce IntOp.andi x v reducesTo_S8320x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8320x1024 .f32) (main_arg1 : FVec F S1x1024 .f32) (main_arg2 : FVec F S1024x2560 .f32) (main_arg3 : FVec F S8320x2560 .f32) (main_arg4 : FVec F S8320x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2560 .f32 := Host.absf main_arg2
  let main_cst_2 : FVec F S_ .f32 := constant S_ .f32 0x7F800000#32
  let main_v9 : FVec F S1024x2560 .f32 := broadcastInDim S1024x2560 ![] bcast_S_S1024x2560 main_cst_2
  let main_v10 : IVec S1024x2560 1 := cmpf .olt main_v8 main_v9
  let main_c_3 : IVec S_ 1 := constantI S_ 1 1#1
  let main_v11 : IVec S_ 1 := (fun x v => Host.reduce IntOp.andi x v reducesTo_S1024x2560_S_d0_1 h_S_) main_v10 main_c_3
  let main_v12 : FVec F S8320x2560 .f32 := Host.absf main_arg3
  let main_cst_4 : FVec F S_ .f32 := constant S_ .f32 0x7F800000#32
  let main_v13 : FVec F S8320x2560 .f32 := broadcastInDim S8320x2560 ![] bcast_S_S8320x2560 main_cst_4
  let main_v14 : IVec S8320x2560 1 := cmpf .olt main_v12 main_v13
  let main_c_5 : IVec S_ 1 := constantI S_ 1 1#1
  let main_v15 : IVec S_ 1 := (fun x v => Host.reduce IntOp.andi x v reducesTo_S8320x2560_S_d0_1 h_S_) main_v14 main_c_5
  fn_part1 (F := F) main_arg4 main_v3 main_v7 main_v11 main_v15
-- ==== Kernel.lean ====
abbrev S8208x2560 : Shape := ⟨2, ![8208, 2560]⟩
abbrev S1x512 : Shape := ⟨2, ![1, 512]⟩
abbrev S8208x1024 : Shape := ⟨2, ![8208, 1024]⟩
abbrev S8208x512 : Shape := ⟨2, ![8208, 512]⟩
abbrev S8208 : Shape := ⟨1, ![8208]⟩
abbrev S8208x4x128 : Shape := ⟨3, ![8208, 4, 128]⟩
abbrev S64 : Shape := ⟨1, ![64]⟩
abbrev S_ : Shape := ⟨0, ![]⟩
abbrev S8208x1 : Shape := ⟨2, ![8208, 1]⟩
abbrev S1x64 : Shape := ⟨2, ![1, 64]⟩
abbrev S8208x64 : Shape := ⟨2, ![8208, 64]⟩
abbrev S8208x1x64 : Shape := ⟨3, ![8208, 1, 64]⟩
abbrev S8208x4x64 : Shape := ⟨3, ![8208, 4, 64]⟩
abbrev S1x8208 : Shape := ⟨2, ![1, 8208]⟩
abbrev S8208x8208 : Shape := ⟨2, ![8208, 8208]⟩
abbrev S1x8208x8208 : Shape := ⟨3, ![1, 8208, 8208]⟩
abbrev S4 : Shape := ⟨1, ![4]⟩
abbrev S4x1x1 : Shape := ⟨3, ![4, 1, 1]⟩
abbrev S4x8208x8208 : Shape := ⟨3, ![4, 8208, 8208]⟩
abbrev S4x128x8208 : Shape := ⟨3, ![4, 128, 8208]⟩
abbrev S8320x512 : Shape := ⟨2, ![8320, 512]⟩
abbrev S65 : Shape := ⟨1, ![65]⟩
abbrev S65x1 : Shape := ⟨2, ![65, 1]⟩
abbrev S65x8208 : Shape := ⟨2, ![65, 8208]⟩
abbrev S1x65x8208 : Shape := ⟨3, ![1, 65, 8208]⟩
abbrev S4x65x8208 : Shape := ⟨3, ![4, 65, 8208]⟩
abbrev S4x65x8208x1 : Shape := ⟨4, ![4, 65, 8208, 1]⟩
abbrev S4x8208x128 : Shape := ⟨3, ![4, 8208, 128]⟩
abbrev S4x1x8208x128 : Shape := ⟨4, ![4, 1, 8208, 128]⟩
abbrev S4x65x8208x128 : Shape := ⟨4, ![4, 65, 8208, 128]⟩
abbrev S4x128x65x128 : Shape := ⟨4, ![4, 128, 65, 128]⟩
abbrev S65x4x128x128 : Shape := ⟨4, ![65, 4, 128, 128]⟩
abbrev S8320x2560 : Shape := ⟨2, ![8320, 2560]⟩
abbrev S65x64 : Shape := ⟨2, ![65, 64]⟩
abbrev S128 : Shape := ⟨1, ![128]⟩
abbrev S128x1 : Shape := ⟨2, ![128, 1]⟩
abbrev S128x64 : Shape := ⟨2, ![128, 64]⟩
abbrev S65x1x64 : Shape := ⟨3, ![65, 1, 64]⟩
abbrev S1x128x64 : Shape := ⟨3, ![1, 128, 64]⟩
abbrev S65x128x64 : Shape := ⟨3, ![65, 128, 64]⟩
abbrev S8320x64 : Shape := ⟨2, ![8320, 64]⟩
abbrev S8320x128 : Shape := ⟨2, ![8320, 128]⟩
abbrev S8320x1024 : Shape := ⟨2, ![8320, 1024]⟩
abbrev S8320x2048 : Shape := ⟨2, ![8320, 2048]⟩
abbrev S640x512 : Shape := ⟨2, ![640, 512]⟩
abbrev S640x128 : Shape := ⟨2, ![640, 128]⟩
abbrev S5x4x128x128 : Shape := ⟨4, ![5, 4, 128, 128]⟩
abbrev S640x2048 : Shape := ⟨2, ![640, 2048]⟩
abbrev S4x128x128 : Shape := ⟨3, ![4, 128, 128]⟩
abbrev S3x4x128x128 : Shape := ⟨4, ![3, 4, 128, 128]⟩
abbrev S128x128 : Shape := ⟨2, ![128, 128]⟩
abbrev S1x1x128x128 : Shape := ⟨4, ![1, 1, 128, 128]⟩
abbrev S1x128 : Shape := ⟨2, ![1, 128]⟩
abbrev S1x128x128 : Shape := ⟨3, ![1, 128, 128]⟩

abbrev nBuf : Space → Nat
  | .hbm => 261
  | .vmem => 24
  | .smem => 0
  | _ => 0

abbrev hbmTy0_0 (i : Nat) : BufTy := match i % 128 with
  | 0 => ⟨S8208x2560, .f32⟩
  | 1 => ⟨S1x512, .f32⟩
  | 2 => ⟨S8208x1024, .f32⟩
  | 3 => ⟨S8208x512, .f32⟩
  | 4 => ⟨S8208x512, .f32⟩
  | 5 => ⟨S8208x512, .f32⟩
  | 6 => ⟨S8208x512, .f32⟩
  | 7 => ⟨S8208, .i32⟩
  | 8 => ⟨S8208x4x128, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S8208, .f32⟩
  | 26 => ⟨S8208x1, .f32⟩
  | 27 => ⟨S1x64, .f32⟩
  | 28 => ⟨S8208x64, .f32⟩
  | 29 => ⟨S8208x64, .f32⟩
  | 30 => ⟨S8208x64, .f32⟩
  | 31 => ⟨S8208x64, .f32⟩
  | 32 => ⟨S8208x1x64, .f32⟩
  | 33 => ⟨S8208x64, .f32⟩
  | 34 => ⟨S8208x1x64, .f32⟩
  | 35 => ⟨S8208x4x64, .f32⟩
  | 36 => ⟨S8208x4x64, .f32⟩
  | 37 => ⟨S8208x4x64, .f32⟩
  | 38 => ⟨S8208x4x64, .f32⟩
  | 39 => ⟨S8208x4x64, .f32⟩
  | 40 => ⟨S8208x4x64, .f32⟩
  | 41 => ⟨S8208x4x64, .f32⟩
  | 42 => ⟨S8208x4x64, .f32⟩
  | 43 => ⟨S8208x4x64, .f32⟩
  | 44 => ⟨S8208x4x64, .f32⟩
  | 45 => ⟨S8208x4x64, .f32⟩
  | 46 => ⟨S8208x4x64, .f32⟩
  | 47 => ⟨S8208x4x128, .f32⟩
  | 48 => ⟨S8208x4x128, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S8208, .f32⟩
  | 66 => ⟨S8208x1, .f32⟩
  | 67 => ⟨S1x64, .f32⟩
  | 68 => ⟨S8208x64, .f32⟩
  | 69 => ⟨S8208x64, .f32⟩
  | 70 => ⟨S8208x64, .f32⟩
  | 71 => ⟨S8208x64, .f32⟩
  | 72 => ⟨S8208x1x64, .f32⟩
  | 73 => ⟨S8208x64, .f32⟩
  | 74 => ⟨S8208x1x64, .f32⟩
  | 75 => ⟨S8208x4x64, .f32⟩
  | 76 => ⟨S8208x4x64, .f32⟩
  | 77 => ⟨S8208x4x64, .f32⟩
  | 78 => ⟨S8208x4x64, .f32⟩
  | 79 => ⟨S8208x4x64, .f32⟩
  | 80 => ⟨S8208x4x64, .f32⟩
  | 81 => ⟨S8208x4x64, .f32⟩
  | 82 => ⟨S8208x4x64, .f32⟩
  | 83 => ⟨S8208x4x64, .f32⟩
  | 84 => ⟨S8208x4x64, .f32⟩
  | 85 => ⟨S8208x4x64, .f32⟩
  | 86 => ⟨S8208x4x64, .f32⟩
  | 87 => ⟨S8208x4x128, .f32⟩
  | 88 => ⟨S_, .f32⟩
  | 89 => ⟨S8208x4x128, .f32⟩
  | 90 => ⟨S8208x4x128, .f32⟩
  | 91 => ⟨S8208x4x128, .f32⟩
  | 92 => ⟨S8208, .i32⟩
  | 93 => ⟨S8208x1, .i32⟩
  | 94 => ⟨S1x8208, .i32⟩
  | 95 => ⟨S8208x8208, .i32⟩
  | 96 => ⟨S8208x8208, .i32⟩
  | 97 => ⟨S8208x8208, .i32⟩
  | 98 => ⟨S1x8208x8208, .i32⟩
  | 99 => ⟨S_, .i32⟩
  | 100 => ⟨S1x8208x8208, .i32⟩
  | 101 => ⟨S1x8208x8208, .i1⟩
  | 102 => ⟨S4, .f32⟩
  | 103 => ⟨S_, .f32⟩
  | 104 => ⟨S4, .f32⟩
  | 105 => ⟨S4, .f32⟩
  | 106 => ⟨S_, .f32⟩
  | 107 => ⟨S4, .f32⟩
  | 108 => ⟨S4, .f32⟩
  | 109 => ⟨S_, .f32⟩
  | 110 => ⟨S4, .f32⟩
  | 111 => ⟨S4, .f32⟩
  | 112 => ⟨S4, .f32⟩
  | 113 => ⟨S4x1x1, .f32⟩
  | 114 => ⟨S_, .i32⟩
  | 115 => ⟨S8208x8208, .i32⟩
  | 116 => ⟨S8208x8208, .i32⟩
  | 117 => ⟨S1x8208x8208, .i32⟩
  | 118 => ⟨S1x8208x8208, .f32⟩
  | 119 => ⟨S4x8208x8208, .f32⟩
  | 120 => ⟨S4x8208x8208, .f32⟩
  | 121 => ⟨S4x8208x8208, .f32⟩
  | 122 => ⟨S4x8208x8208, .f32⟩
  | 123 => ⟨S_, .f32⟩
  | 124 => ⟨S_, .f32⟩
  | 125 => ⟨S4x8208x8208, .i1⟩
  | 126 => ⟨S4x8208x8208, .f32⟩
  | 127 => ⟨S4x8208x8208, .f32⟩
  | _ => ⟨S8208x2560, .f32⟩

abbrev hbmTy0_1 (i : Nat) : BufTy := match i % 128 with
  | 0 => ⟨S4x8208x8208, .f32⟩
  | 1 => ⟨S4x8208x8208, .f32⟩
  | 2 => ⟨S4x128x8208, .f32⟩
  | 3 => ⟨S8208x4x128, .f32⟩
  | 4 => ⟨S8208x512, .f32⟩
  | 5 => ⟨S_, .i32⟩
  | 6 => ⟨S_, .f32⟩
  | 7 => ⟨S8320x512, .f32⟩
  | 8 => ⟨S8208x4x128, .f32⟩
  | 9 => ⟨S65, .i32⟩
  | 10 => ⟨S_, .i32⟩
  | 11 => ⟨S65, .i32⟩
  | 12 => ⟨S65, .i32⟩
  | 13 => ⟨S_, .i32⟩
  | 14 => ⟨S65, .i32⟩
  | 15 => ⟨S65, .i32⟩
  | 16 => ⟨S_, .i32⟩
  | 17 => ⟨S65, .i32⟩
  | 18 => ⟨S65, .i32⟩
  | 19 => ⟨S65x1, .i32⟩
  | 20 => ⟨S8208, .i32⟩
  | 21 => ⟨S1x8208, .i32⟩
  | 22 => ⟨S65x8208, .i32⟩
  | 23 => ⟨S65x8208, .i32⟩
  | 24 => ⟨S65x8208, .i32⟩
  | 25 => ⟨S1x65x8208, .i32⟩
  | 26 => ⟨S_, .i32⟩
  | 27 => ⟨S1x65x8208, .i32⟩
  | 28 => ⟨S1x65x8208, .i1⟩
  | 29 => ⟨S4, .f32⟩
  | 30 => ⟨S_, .f32⟩
  | 31 => ⟨S4, .f32⟩
  | 32 => ⟨S4, .f32⟩
  | 33 => ⟨S_, .f32⟩
  | 34 => ⟨S4, .f32⟩
  | 35 => ⟨S4, .f32⟩
  | 36 => ⟨S_, .f32⟩
  | 37 => ⟨S4, .f32⟩
  | 38 => ⟨S4, .f32⟩
  | 39 => ⟨S4, .f32⟩
  | 40 => ⟨S4x1x1, .f32⟩
  | 41 => ⟨S_, .i32⟩
  | 42 => ⟨S65x8208, .i32⟩
  | 43 => ⟨S65x8208, .i32⟩
  | 44 => ⟨S1x65x8208, .i32⟩
  | 45 => ⟨S1x65x8208, .f32⟩
  | 46 => ⟨S4x65x8208, .f32⟩
  | 47 => ⟨S4x65x8208, .f32⟩
  | 48 => ⟨S4x65x8208, .f32⟩
  | 49 => ⟨S4x65x8208, .f32⟩
  | 50 => ⟨S_, .f32⟩
  | 51 => ⟨S_, .f32⟩
  | 52 => ⟨S4x65x8208, .i1⟩
  | 53 => ⟨S4x65x8208, .f32⟩
  | 54 => ⟨S4x65x8208, .f32⟩
  | 55 => ⟨S4x65x8208x1, .f32⟩
  | 56 => ⟨S4x8208x128, .f32⟩
  | 57 => ⟨S4x1x8208x128, .f32⟩
  | 58 => ⟨S4x65x8208x128, .f32⟩
  | 59 => ⟨S4x65x8208x128, .f32⟩
  | 60 => ⟨S4x65x8208x128, .f32⟩
  | 61 => ⟨S4x128x65x128, .f32⟩
  | 62 => ⟨S65x4x128x128, .f32⟩
  | 63 => ⟨S_, .i32⟩
  | 64 => ⟨S_, .f32⟩
  | 65 => ⟨S8320x2560, .f32⟩
  | 66 => ⟨S8320x2560, .bf16⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S65, .f32⟩
  | 84 => ⟨S_, .f32⟩
  | 85 => ⟨S65, .f32⟩
  | 86 => ⟨S65, .f32⟩
  | 87 => ⟨S_, .f32⟩
  | 88 => ⟨S65, .f32⟩
  | 89 => ⟨S65, .f32⟩
  | 90 => ⟨S65x1, .f32⟩
  | 91 => ⟨S1x64, .f32⟩
  | 92 => ⟨S65x64, .f32⟩
  | 93 => ⟨S65x64, .f32⟩
  | 94 => ⟨S65x64, .f32⟩
  | 95 => ⟨S128, .f32⟩
  | 96 => ⟨S128x1, .f32⟩
  | 97 => ⟨S1x64, .f32⟩
  | 98 => ⟨S128x64, .f32⟩
  | 99 => ⟨S128x64, .f32⟩
  | 100 => ⟨S128x64, .f32⟩
  | 101 => ⟨S65x64, .f32⟩
  | 102 => ⟨S65x1x64, .f32⟩
  | 103 => ⟨S65x64, .f32⟩
  | 104 => ⟨S65x1x64, .f32⟩
  | 105 => ⟨S128x64, .f32⟩
  | 106 => ⟨S1x128x64, .f32⟩
  | 107 => ⟨S128x64, .f32⟩
  | 108 => ⟨S1x128x64, .f32⟩
  | 109 => ⟨S65x128x64, .f32⟩
  | 110 => ⟨S65x128x64, .f32⟩
  | 111 => ⟨S65x128x64, .f32⟩
  | 112 => ⟨S65x128x64, .f32⟩
  | 113 => ⟨S65x128x64, .f32⟩
  | 114 => ⟨S65x128x64, .f32⟩
  | 115 => ⟨S65x128x64, .f32⟩
  | 116 => ⟨S8320x64, .f32⟩
  | 117 => ⟨S65x128x64, .f32⟩
  | 118 => ⟨S65x128x64, .f32⟩
  | 119 => ⟨S65x128x64, .f32⟩
  | 120 => ⟨S65x128x64, .f32⟩
  | 121 => ⟨S65x128x64, .f32⟩
  | 122 => ⟨S65x128x64, .f32⟩
  | 123 => ⟨S65x128x64, .f32⟩
  | 124 => ⟨S8320x64, .f32⟩
  | 125 => ⟨S8320x128, .f32⟩
  | 126 => ⟨S8320x64, .f32⟩
  | 127 => ⟨S8320x128, .f32⟩
  | _ => ⟨S8208x2560, .f32⟩

abbrev hbmTy0_2 (i : Nat) : BufTy := match i % 128 with
  | 0 => ⟨S_, .i32⟩
  | 1 => ⟨S_, .f32⟩
  | 2 => ⟨S8320x1024, .f32⟩
  | 3 => ⟨S8320x2048, .bf16⟩
  | 4 => ⟨S1x512, .f32⟩
  | _ => ⟨S8208x2560, .f32⟩

abbrev hbmTy (i : Nat) : BufTy := match i / 128 with
  | 0 => hbmTy0_0 i
  | 1 => hbmTy0_1 i
  | 2 => hbmTy0_2 i
  | _ => ⟨S8208x2560, .f32⟩

abbrev bufTy : (tb : Table) → Fin (tcTables nBuf tb) → BufTy
  | .hbm, ⟨i, _⟩ => hbmTy i
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S640x512, .bf16⟩
  | .local _ .vmem, ⟨7, _⟩ => ⟨S640x512, .bf16⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S1x512, .f32⟩
  | .local _ .vmem, ⟨13, _⟩ => ⟨S640x512, .f32⟩
  | .local _ .vmem, ⟨14, _⟩ => ⟨S640x512, .f32⟩
  | .local _ .vmem, ⟨15, _⟩ => ⟨S5x4x128x128, .f32⟩
  | .local _ .vmem, ⟨16, _⟩ => ⟨S5x4x128x128, .f32⟩
  | .local _ .vmem, ⟨17, _⟩ => ⟨S640x512, .f32⟩
  | .local _ .vmem, ⟨18, _⟩ => ⟨S640x512, .f32⟩
  | .local _ .vmem, ⟨19, _⟩ => ⟨S640x2048, .bf16⟩
  | .local _ .vmem, ⟨20, _⟩ => ⟨S640x2048, .bf16⟩
  | .local _ .vmem, ⟨21, _⟩ => ⟨S1x512, .f32⟩
  | .local _ .vmem, ⟨22, _⟩ => ⟨S4x128x128, .f32⟩
  | .local _ .vmem, ⟨23, _⟩ => ⟨S3x4x128x128, .f32⟩
  | _, _ => ⟨S8208x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_9 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_c : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_10 : Ref sig .tc := ⟨.hbm, 103, rfl⟩
abbrev main_v88 : Ref sig .tc := ⟨.hbm, 104, rfl⟩
abbrev main_v89 : Ref sig .tc := ⟨.hbm, 105, rfl⟩
abbrev main_cst_11 : Ref sig .tc := ⟨.hbm, 106, rfl⟩
abbrev main_v90 : Ref sig .tc := ⟨.hbm, 107, rfl⟩
abbrev main_v91 : Ref sig .tc := ⟨.hbm, 108, rfl⟩
abbrev main_cst_12 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_13 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_14 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_c_15 : Ref sig .tc := ⟨.hbm, 133, rfl⟩
abbrev main_call1_v0 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_c_16 : Ref sig .tc := ⟨.hbm, 138, rfl⟩
abbrev main_v113 : Ref sig .tc := ⟨.hbm, 139, rfl⟩
abbrev main_v114 : Ref sig .tc := ⟨.hbm, 140, rfl⟩
abbrev main_c_17 : Ref sig .tc := ⟨.hbm, 141, rfl⟩
abbrev main_v115 : Ref sig .tc := ⟨.hbm, 142, rfl⟩
abbrev main_v116 : Ref sig .tc := ⟨.hbm, 143, rfl⟩
abbrev main_c_18 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_c_19 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_20 : Ref sig .tc := ⟨.hbm, 158, rfl⟩
abbrev main_v129 : Ref sig .tc := ⟨.hbm, 159, rfl⟩
abbrev main_v130 : Ref sig .tc := ⟨.hbm, 160, rfl⟩
abbrev main_cst_21 : Ref sig .tc := ⟨.hbm, 161, rfl⟩
abbrev main_v131 : Ref sig .tc := ⟨.hbm, 162, rfl⟩
abbrev main_v132 : Ref sig .tc := ⟨.hbm, 163, rfl⟩
abbrev main_cst_22 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_c_23 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_24 : Ref sig .tc := ⟨.hbm, 178, rfl⟩
abbrev main_call2_v0 : Ref sig .tc := ⟨.hbm, 179, rfl⟩
abbrev main_call2_v1 : Ref sig .tc := ⟨.hbm, 180, rfl⟩
abbrev main_call2_v2 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_c_25 : Ref sig .tc := ⟨.hbm, 191, rfl⟩
abbrev main_call3_v0 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_26 : Ref sig .tc := ⟨.hbm, 196, rfl⟩
abbrev main_v157 : Ref sig .tc := ⟨.hbm, 197, rfl⟩
abbrev main_v158 : Ref sig .tc := ⟨.hbm, 198, rfl⟩
abbrev main_cst_27 : Ref sig .tc := ⟨.hbm, 199, rfl⟩
abbrev main_v159 : Ref sig .tc := ⟨.hbm, 200, rfl⟩
abbrev main_v160 : Ref sig .tc := ⟨.hbm, 201, rfl⟩
abbrev main_cst_28 : Ref sig .tc := ⟨.hbm, 202, rfl⟩
abbrev main_v161 : Ref sig .tc := ⟨.hbm, 203, rfl⟩
abbrev main_v162 : Ref sig .tc := ⟨.hbm, 204, rfl⟩
abbrev main_cst_29 : Ref sig .tc := ⟨.hbm, 205, rfl⟩
abbrev main_v163 : Ref sig .tc := ⟨.hbm, 206, rfl⟩
abbrev main_v164 : Ref sig .tc := ⟨.hbm, 207, rfl⟩
abbrev main_cst_30 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_31 : Ref sig .tc := ⟨.hbm, 212, rfl⟩
abbrev main_v168 : Ref sig .tc := ⟨.hbm, 213, rfl⟩
abbrev main_v169 : Ref sig .tc := ⟨.hbm, 214, rfl⟩
abbrev main_cst_32 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_c_33 : Ref sig .tc := ⟨.hbm, 256, rfl⟩
abbrev main_call4_v0 : Ref sig .tc := ⟨.hbm, 257, rfl⟩
abbrev main_v210 : Ref sig .tc := ⟨.hbm, 258, rfl⟩
abbrev main_v211_0 : Ref sig .tc := ⟨.hbm, 259, rfl⟩
abbrev main_v211_1 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c12_i32 : BitVec 32 := 12#32
  let v0 : BitVec 32 := Scalar.subi c12_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c12_i32 : BitVec 32 := 12#32
  let v0 : BitVec 32 := Scalar.subi c12_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "g_chunk0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "g_chunk1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "g_chunk2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "g_chunk3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== ReferenceIdeal.lean ====
abbrev S8208x2560 : Shape := ⟨2, ![8208, 2560]⟩
abbrev S1x512 : Shape := ⟨2, ![1, 512]⟩
abbrev S8208x1024 : Shape := ⟨2, ![8208, 1024]⟩
abbrev S8208x512 : Shape := ⟨2, ![8208, 512]⟩
abbrev S8208 : Shape := ⟨1, ![8208]⟩
abbrev S8208x4x128 : Shape := ⟨3, ![8208, 4, 128]⟩
abbrev S64 : Shape := ⟨1, ![64]⟩
abbrev S_ : Shape := ⟨0, ![]⟩
abbrev S8208x1 : Shape := ⟨2, ![8208, 1]⟩
abbrev S1x64 : Shape := ⟨2, ![1, 64]⟩
abbrev S8208x64 : Shape := ⟨2, ![8208, 64]⟩
abbrev S8208x1x64 : Shape := ⟨3, ![8208, 1, 64]⟩
abbrev S8208x4x64 : Shape := ⟨3, ![8208, 4, 64]⟩
abbrev S1x8208 : Shape := ⟨2, ![1, 8208]⟩
abbrev S8208x8208 : Shape := ⟨2, ![8208, 8208]⟩
abbrev S1x8208x8208 : Shape := ⟨3, ![1, 8208, 8208]⟩
abbrev S4 : Shape := ⟨1, ![4]⟩
abbrev S4x1x1 : Shape := ⟨3, ![4, 1, 1]⟩
abbrev S4x8208x8208 : Shape := ⟨3, ![4, 8208, 8208]⟩
abbrev S4x128x8208 : Shape := ⟨3, ![4, 128, 8208]⟩
abbrev S8208x4 : Shape := ⟨2, ![8208, 4]⟩
abbrev S8208x4x1 : Shape := ⟨3, ![8208, 4, 1]⟩
abbrev S512 : Shape := ⟨1, ![512]⟩
abbrev S4x8208x128 : Shape := ⟨3, ![4, 8208, 128]⟩
abbrev S8208x2048 : Shape := ⟨2, ![8208, 2048]⟩
abbrev S8320x2048 : Shape := ⟨2, ![8320, 2048]⟩

abbrev nBuf : Space → Nat
  | .hbm => 280
  | .vmem => 0
  | .smem => 0
  | _ => 0

abbrev hbmTy0_0 (i : Nat) : BufTy := match i % 128 with
  | 0 => ⟨S8208x2560, .f32⟩
  | 1 => ⟨S1x512, .f32⟩
  | 2 => ⟨S8208x1024, .f32⟩
  | 3 => ⟨S8208x512, .f32⟩
  | 4 => ⟨S8208x512, .f32⟩
  | 5 => ⟨S8208x512, .f32⟩
  | 6 => ⟨S8208x512, .f32⟩
  | 7 => ⟨S8208, .i32⟩
  | 8 => ⟨S8208x4x128, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S8208, .f32⟩
  | 26 => ⟨S8208x1, .f32⟩
  | 27 => ⟨S1x64, .f32⟩
  | 28 => ⟨S8208x64, .f32⟩
  | 29 => ⟨S8208x64, .f32⟩
  | 30 => ⟨S8208x64, .f32⟩
  | 31 => ⟨S8208x64, .f32⟩
  | 32 => ⟨S8208x1x64, .f32⟩
  | 33 => ⟨S8208x64, .f32⟩
  | 34 => ⟨S8208x1x64, .f32⟩
  | 35 => ⟨S8208x4x64, .f32⟩
  | 36 => ⟨S8208x4x64, .f32⟩
  | 37 => ⟨S8208x4x64, .f32⟩
  | 38 => ⟨S8208x4x64, .f32⟩
  | 39 => ⟨S8208x4x64, .f32⟩
  | 40 => ⟨S8208x4x64, .f32⟩
  | 41 => ⟨S8208x4x64, .f32⟩
  | 42 => ⟨S8208x4x64, .f32⟩
  | 43 => ⟨S8208x4x64, .f32⟩
  | 44 => ⟨S8208x4x64, .f32⟩
  | 45 => ⟨S8208x4x64, .f32⟩
  | 46 => ⟨S8208x4x64, .f32⟩
  | 47 => ⟨S8208x4x128, .f32⟩
  | 48 => ⟨S8208x4x128, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S8208, .f32⟩
  | 66 => ⟨S8208x1, .f32⟩
  | 67 => ⟨S1x64, .f32⟩
  | 68 => ⟨S8208x64, .f32⟩
  | 69 => ⟨S8208x64, .f32⟩
  | 70 => ⟨S8208x64, .f32⟩
  | 71 => ⟨S8208x64, .f32⟩
  | 72 => ⟨S8208x1x64, .f32⟩
  | 73 => ⟨S8208x64, .f32⟩
  | 74 => ⟨S8208x1x64, .f32⟩
  | 75 => ⟨S8208x4x64, .f32⟩
  | 76 => ⟨S8208x4x64, .f32⟩
  | 77 => ⟨S8208x4x64, .f32⟩
  | 78 => ⟨S8208x4x64, .f32⟩
  | 79 => ⟨S8208x4x64, .f32⟩
  | 80 => ⟨S8208x4x64, .f32⟩
  | 81 => ⟨S8208x4x64, .f32⟩
  | 82 => ⟨S8208x4x64, .f32⟩
  | 83 => ⟨S8208x4x64, .f32⟩
  | 84 => ⟨S8208x4x64, .f32⟩
  | 85 => ⟨S8208x4x64, .f32⟩
  | 86 => ⟨S8208x4x64, .f32⟩
  | 87 => ⟨S8208x4x128, .f32⟩
  | 88 => ⟨S_, .f32⟩
  | 89 => ⟨S8208x4x128, .f32⟩
  | 90 => ⟨S8208x4x128, .f32⟩
  | 91 => ⟨S8208x4x128, .f32⟩
  | 92 => ⟨S8208, .i32⟩
  | 93 => ⟨S8208x1, .i32⟩
  | 94 => ⟨S1x8208, .i32⟩
  | 95 => ⟨S8208x8208, .i32⟩
  | 96 => ⟨S8208x8208, .i32⟩
  | 97 => ⟨S8208x8208, .i32⟩
  | 98 => ⟨S1x8208x8208, .i32⟩
  | 99 => ⟨S_, .i32⟩
  | 100 => ⟨S1x8208x8208, .i32⟩
  | 101 => ⟨S1x8208x8208, .i1⟩
  | 102 => ⟨S4, .f32⟩
  | 103 => ⟨S_, .f32⟩
  | 104 => ⟨S4, .f32⟩
  | 105 => ⟨S4, .f32⟩
  | 106 => ⟨S_, .f32⟩
  | 107 => ⟨S4, .f32⟩
  | 108 => ⟨S4, .f32⟩
  | 109 => ⟨S_, .f32⟩
  | 110 => ⟨S4, .f32⟩
  | 111 => ⟨S4, .f32⟩
  | 112 => ⟨S4, .f32⟩
  | 113 => ⟨S4x1x1, .f32⟩
  | 114 => ⟨S_, .i32⟩
  | 115 => ⟨S8208x8208, .i32⟩
  | 116 => ⟨S8208x8208, .i32⟩
  | 117 => ⟨S1x8208x8208, .i32⟩
  | 118 => ⟨S1x8208x8208, .f32⟩
  | 119 => ⟨S4x8208x8208, .f32⟩
  | 120 => ⟨S4x8208x8208, .f32⟩
  | 121 => ⟨S4x8208x8208, .f32⟩
  | 122 => ⟨S4x8208x8208, .f32⟩
  | 123 => ⟨S_, .f32⟩
  | 124 => ⟨S_, .f32⟩
  | 125 => ⟨S4x8208x8208, .i1⟩
  | 126 => ⟨S4x8208x8208, .f32⟩
  | 127 => ⟨S4x8208x8208, .f32⟩
  | _ => ⟨S8208x2560, .f32⟩

abbrev hbmTy0_1 (i : Nat) : BufTy := match i % 128 with
  | 0 => ⟨S4x8208x8208, .f32⟩
  | 1 => ⟨S4x8208x8208, .f32⟩
  | 2 => ⟨S4x128x8208, .f32⟩
  | 3 => ⟨S8208x4x128, .f32⟩
  | 4 => ⟨S_, .f32⟩
  | 5 => ⟨S8208x4, .f32⟩
  | 6 => ⟨S8208x4x1, .f32⟩
  | 7 => ⟨S_, .f32⟩
  | 8 => ⟨S8208x4x1, .f32⟩
  | 9 => ⟨S8208x4x1, .f32⟩
  | 10 => ⟨S8208x4x128, .f32⟩
  | 11 => ⟨S8208x4x128, .f32⟩
  | 12 => ⟨S8208x4x128, .f32⟩
  | 13 => ⟨S_, .f32⟩
  | 14 => ⟨S8208x4x128, .f32⟩
  | 15 => ⟨S8208x4x128, .f32⟩
  | 16 => ⟨S_, .f32⟩
  | 17 => ⟨S8208x4, .f32⟩
  | 18 => ⟨S8208x4x1, .f32⟩
  | 19 => ⟨S_, .f32⟩
  | 20 => ⟨S8208x4x1, .f32⟩
  | 21 => ⟨S8208x4x1, .f32⟩
  | 22 => ⟨S8208x4x128, .f32⟩
  | 23 => ⟨S8208x4x128, .f32⟩
  | 24 => ⟨S_, .f32⟩
  | 25 => ⟨S8208x4x1, .f32⟩
  | 26 => ⟨S8208x4x1, .f32⟩
  | 27 => ⟨S8208x4x1, .f32⟩
  | 28 => ⟨S8208x4x1, .f32⟩
  | 29 => ⟨S_, .f32⟩
  | 30 => ⟨S8208x4x1, .f32⟩
  | 31 => ⟨S8208x4x1, .f32⟩
  | 32 => ⟨S8208x4x128, .f32⟩
  | 33 => ⟨S8208x4x128, .f32⟩
  | 34 => ⟨S8208x512, .f32⟩
  | 35 => ⟨S8208x512, .f32⟩
  | 36 => ⟨S8208x512, .f32⟩
  | 37 => ⟨S8208x512, .f32⟩
  | 38 => ⟨S8208x512, .f32⟩
  | 39 => ⟨S_, .f32⟩
  | 40 => ⟨S8208x512, .f32⟩
  | 41 => ⟨S8208x512, .f32⟩
  | 42 => ⟨S_, .f32⟩
  | 43 => ⟨S8208x512, .f32⟩
  | 44 => ⟨S8208x512, .f32⟩
  | 45 => ⟨S_, .f32⟩
  | 46 => ⟨S8208x512, .f32⟩
  | 47 => ⟨S8208x512, .f32⟩
  | 48 => ⟨S8208x512, .f32⟩
  | 49 => ⟨S8208x512, .f32⟩
  | 50 => ⟨S8208x512, .f32⟩
  | 51 => ⟨S8208x512, .f32⟩
  | 52 => ⟨S8208x512, .f32⟩
  | 53 => ⟨S8208x512, .f32⟩
  | 54 => ⟨S8208x512, .f32⟩
  | 55 => ⟨S8208x512, .f32⟩
  | 56 => ⟨S8208x512, .f32⟩
  | 57 => ⟨S8208x512, .f32⟩
  | 58 => ⟨S8208x512, .f32⟩
  | 59 => ⟨S_, .f32⟩
  | 60 => ⟨S512, .f32⟩
  | 61 => ⟨S1x512, .f32⟩
  | 62 => ⟨S8208x512, .f32⟩
  | 63 => ⟨S8208x512, .f32⟩
  | 64 => ⟨S8208x4x128, .f32⟩
  | 65 => ⟨S8208x4x128, .f32⟩
  | 66 => ⟨S_, .f32⟩
  | 67 => ⟨S8208x4, .f32⟩
  | 68 => ⟨S8208x4x1, .f32⟩
  | 69 => ⟨S8208x4x128, .f32⟩
  | 70 => ⟨S8208x4x128, .f32⟩
  | 71 => ⟨S8208x4x1, .f32⟩
  | 72 => ⟨S8208x4x128, .f32⟩
  | 73 => ⟨S_, .f32⟩
  | 74 => ⟨S8208x4, .f32⟩
  | 75 => ⟨S8208x4x1, .f32⟩
  | 76 => ⟨S_, .f32⟩
  | 77 => ⟨S8208x4x1, .f32⟩
  | 78 => ⟨S8208x4x1, .f32⟩
  | 79 => ⟨S_, .f32⟩
  | 80 => ⟨S8208x4, .f32⟩
  | 81 => ⟨S8208x4x128, .f32⟩
  | 82 => ⟨S8208x4x128, .f32⟩
  | 83 => ⟨S8208x4x128, .f32⟩
  | 84 => ⟨S_, .f32⟩
  | 85 => ⟨S8208x4, .f32⟩
  | 86 => ⟨S8208x4x1, .f32⟩
  | 87 => ⟨S8208x4x128, .f32⟩
  | 88 => ⟨S8208x4x1, .f32⟩
  | 89 => ⟨S_, .f32⟩
  | 90 => ⟨S8208x4x1, .f32⟩
  | 91 => ⟨S8208x4x1, .f32⟩
  | 92 => ⟨S_, .f32⟩
  | 93 => ⟨S8208x4, .f32⟩
  | 94 => ⟨S8208x4x128, .f32⟩
  | 95 => ⟨S8208x4x128, .f32⟩
  | 96 => ⟨S4x128x8208, .f32⟩
  | 97 => ⟨S4x8208x8208, .f32⟩
  | 98 => ⟨S4x128x8208, .f32⟩
  | 99 => ⟨S8208x4x128, .f32⟩
  | 100 => ⟨S4x8208x8208, .f32⟩
  | 101 => ⟨S4x8208x128, .f32⟩
  | 102 => ⟨S8208x4x128, .f32⟩
  | 103 => ⟨S4x8208x128, .f32⟩
  | 104 => ⟨S8208x4x128, .f32⟩
  | 105 => ⟨S8208x512, .f32⟩
  | 106 => ⟨S_, .f32⟩
  | 107 => ⟨S8208x4x128, .f32⟩
  | 108 => ⟨S8208x4x128, .f32⟩
  | 109 => ⟨S8208x4x64, .f32⟩
  | 110 => ⟨S8208x4x64, .f32⟩
  | 111 => ⟨S8208x4x64, .f32⟩
  | 112 => ⟨S8208x4x64, .f32⟩
  | 113 => ⟨S8208x4x64, .f32⟩
  | 114 => ⟨S8208x4x64, .f32⟩
  | 115 => ⟨S8208x4x64, .f32⟩
  | 116 => ⟨S8208x4x64, .f32⟩
  | 117 => ⟨S8208x4x64, .f32⟩
  | 118 => ⟨S8208x4x64, .f32⟩
  | 119 => ⟨S8208x4x64, .f32⟩
  | 120 => ⟨S8208x4x64, .f32⟩
  | 121 => ⟨S8208x4x64, .f32⟩
  | 122 => ⟨S_, .f32⟩
  | 123 => ⟨S8208x4x128, .f32⟩
  | 124 => ⟨S_, .f32⟩
  | 125 => ⟨S8208x4x128, .f32⟩
  | 126 => ⟨S8208x4x128, .f32⟩
  | 127 => ⟨S8208x512, .f32⟩
  | _ => ⟨S8208x2560, .f32⟩

abbrev hbmTy0_2 (i : Nat) : BufTy := match i % 128 with
  | 0 => ⟨S8208x4x64, .f32⟩
  | 1 => ⟨S8208x4x64, .f32⟩
  | 2 => ⟨S8208x4x64, .f32⟩
  | 3 => ⟨S8208x4x64, .f32⟩
  | 4 => ⟨S8208x4x64, .f32⟩
  | 5 => ⟨S8208x4x64, .f32⟩
  | 6 => ⟨S8208x4x64, .f32⟩
  | 7 => ⟨S8208x4x64, .f32⟩
  | 8 => ⟨S8208x4x64, .f32⟩
  | 9 => ⟨S8208x4x64, .f32⟩
  | 10 => ⟨S8208x4x64, .f32⟩
  | 11 => ⟨S8208x4x64, .f32⟩
  | 12 => ⟨S8208x4x64, .f32⟩
  | 13 => ⟨S_, .f32⟩
  | 14 => ⟨S8208x4x128, .f32⟩
  | 15 => ⟨S_, .f32⟩
  | 16 => ⟨S8208x4x128, .f32⟩
  | 17 => ⟨S8208x4x128, .f32⟩
  | 18 => ⟨S8208x512, .f32⟩
  | 19 => ⟨S8208x2048, .f32⟩
  | 20 => ⟨S_, .i32⟩
  | 21 => ⟨S_, .f32⟩
  | 22 => ⟨S8320x2048, .f32⟩
  | 23 => ⟨S8320x2048, .bf16⟩
  | _ => ⟨S8208x2560, .f32⟩

abbrev hbmTy (i : Nat) : BufTy := match i / 128 with
  | 0 => hbmTy0_0 i
  | 1 => hbmTy0_1 i
  | 2 => hbmTy0_2 i
  | _ => ⟨S8208x2560, .f32⟩

abbrev bufTy : (tb : Table) → Fin (tcTables nBuf tb) → BufTy
  | .hbm, ⟨i, _⟩ => hbmTy i
  | _, _ => ⟨S8208x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_9 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_c : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_10 : Ref sig .tc := ⟨.hbm, 103, rfl⟩
abbrev main_v88 : Ref sig .tc := ⟨.hbm, 104, rfl⟩
abbrev main_v89 : Ref sig .tc := ⟨.hbm, 105, rfl⟩
abbrev main_cst_11 : Ref sig .tc := ⟨.hbm, 106, rfl⟩
abbrev main_v90 : Ref sig .tc := ⟨.hbm, 107, rfl⟩
abbrev main_v91 : Ref sig .tc := ⟨.hbm, 108, rfl⟩
abbrev main_cst_12 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_13 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_14 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_15 : Ref sig .tc := ⟨.hbm, 132, rfl⟩
abbrev main_v109 : Ref sig .tc := ⟨.hbm, 133, rfl⟩
abbrev main_v110 : Ref sig .tc := ⟨.hbm, 134, rfl⟩
abbrev main_cst_16 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_17 : Ref sig .tc := ⟨.hbm, 141, rfl⟩
abbrev main_v116 : Ref sig .tc := ⟨.hbm, 142, rfl⟩
abbrev main_v117 : Ref sig .tc := ⟨.hbm, 143, rfl⟩
abbrev main_cst_18 : Ref sig .tc := ⟨.hbm, 144, rfl⟩
abbrev main_v118 : Ref sig .tc := ⟨.hbm, 145, rfl⟩
abbrev main_v119 : Ref sig .tc := ⟨.hbm, 146, rfl⟩
abbrev main_cst_19 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_20 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_21 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_call1_v0 : Ref sig .tc := ⟨.hbm, 165, rfl⟩
abbrev main_call1_v1 : Ref sig .tc := ⟨.hbm, 166, rfl⟩
abbrev main_call1_cst : Ref sig .tc := ⟨.hbm, 167, rfl⟩
abbrev main_call1_v2 : Ref sig .tc := ⟨.hbm, 168, rfl⟩
abbrev main_call1_v3 : Ref sig .tc := ⟨.hbm, 169, rfl⟩
abbrev main_call1_cst_0 : Ref sig .tc := ⟨.hbm, 170, rfl⟩
abbrev main_call1_v4 : Ref sig .tc := ⟨.hbm, 171, rfl⟩
abbrev main_v135_2 : Ref sig .tc := ⟨.hbm, 172, rfl⟩
abbrev main_call1_cst_1 : Ref sig .tc := ⟨.hbm, 173, rfl⟩
abbrev main_call1_v6 : Ref sig .tc := ⟨.hbm, 174, rfl⟩
abbrev main_call1_v7 : Ref sig .tc := ⟨.hbm, 175, rfl⟩
abbrev main_v135_1 : Ref sig .tc := ⟨.hbm, 176, rfl⟩
abbrev main_v135_0 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_v140 : Ref sig .tc := ⟨.hbm, 185, rfl⟩
abbrev main_v141 : Ref sig .tc := ⟨.hbm, 186, rfl⟩
abbrev main_cst_22 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_23 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_24 : Ref sig .tc := ⟨.hbm, 201, rfl⟩
abbrev main_v154 : Ref sig .tc := ⟨.hbm, 202, rfl⟩
abbrev main_v155 : Ref sig .tc := ⟨.hbm, 203, rfl⟩
abbrev main_cst_25 : Ref sig .tc := ⟨.hbm, 204, rfl⟩
abbrev main_v156 : Ref sig .tc := ⟨.hbm, 205, rfl⟩
abbrev main_v157 : Ref sig .tc := ⟨.hbm, 206, rfl⟩
abbrev main_cst_26 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_27 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_28 : Ref sig .tc := ⟨.hbm, 217, rfl⟩
abbrev main_v166 : Ref sig .tc := ⟨.hbm, 218, rfl⟩
abbrev main_v167 : Ref sig .tc := ⟨.hbm, 219, rfl⟩
abbrev main_cst_29 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_30 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_31 : Ref sig .tc := ⟨.hbm, 250, rfl⟩
abbrev main_v196 : Ref sig .tc := ⟨.hbm, 251, rfl⟩
abbrev main_cst_32 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_33 : Ref sig .tc := ⟨.hbm, 269, rfl⟩
abbrev main_v213 : Ref sig .tc := ⟨.hbm, 270, rfl⟩
abbrev main_cst_34 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_c_35 : Ref sig .tc := ⟨.hbm, 276, rfl⟩
abbrev main_call3_v0 : Ref sig .tc := ⟨.hbm, 277, rfl⟩
abbrev main_v218 : Ref sig .tc := ⟨.hbm, 278, rfl⟩
abbrev main_v219 : Ref sig .tc := ⟨.hbm, 279, rfl⟩

abbrev nD : Nat := 1
abbrev τ : Topo := Topo.v7x

variable {F : FTy → Type} [FloatOps F]
-- ==== Kernel2.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S320x1024 : Shape := ⟨2, ![320, 1024]⟩
abbrev S320x2816 : Shape := ⟨2, ![320, 2816]⟩
abbrev S256x1024 : Shape := ⟨2, ![256, 1024]⟩
abbrev S320x256 : Shape := ⟨2, ![320, 256]⟩
abbrev S320 : Shape := ⟨1, ![320]⟩
abbrev S320x1 : Shape := ⟨2, ![320, 1]⟩
abbrev S1024 : Shape := ⟨1, ![1024]⟩

abbrev nBuf : Space → Nat
  | .hbm => 57
  | .vmem => 21
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x2816, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S_, .f32⟩
  | .hbm, ⟨26, _⟩ => ⟨S8320x2816, .f32⟩
  | .hbm, ⟨27, _⟩ => ⟨S8320x2816, .f32⟩
  | .hbm, ⟨28, _⟩ => ⟨S_, .f32⟩
  | .hbm, ⟨29, _⟩ => ⟨S8320x2816, .f32⟩
  | .hbm, ⟨30, _⟩ => ⟨S8320x2816, .f32⟩
  | .hbm, ⟨31, _⟩ => ⟨S_, .f32⟩
  | .hbm, ⟨32, _⟩ => ⟨S8320x2816, .f32⟩
  | .hbm, ⟨33, _⟩ => ⟨S8320x2816, .f32⟩
  | .hbm, ⟨34, _⟩ => ⟨S8320x2816, .f32⟩
  | .hbm, ⟨35, _⟩ => ⟨S8320x2816, .f32⟩
  | .hbm, ⟨36, _⟩ => ⟨S8320x2816, .f32⟩
  | .hbm, ⟨37, _⟩ => ⟨S_, .f32⟩
  | .hbm, ⟨38, _⟩ => ⟨S8320x2816, .f32⟩
  | .hbm, ⟨39, _⟩ => ⟨S8320x2816, .f32⟩
  | .hbm, ⟨40, _⟩ => ⟨S8320x2816, .f32⟩
  | .hbm, ⟨41, _⟩ => ⟨S8320x2816, .f32⟩
  | .hbm, ⟨42, _⟩ => ⟨S8320x2816, .f32⟩
  | .hbm, ⟨43, _⟩ => ⟨S8320x2816, .f32⟩
  | .hbm, ⟨44, _⟩ => ⟨S8320x2816, .f32⟩
  | .hbm, ⟨45, _⟩ => ⟨S2816x1024, .f32⟩
  | .hbm, ⟨46, _⟩ => ⟨S2816x1024, .bf16⟩
  | .hbm, ⟨47, _⟩ => ⟨S2816x1024, .f32⟩
  | .hbm, ⟨48, _⟩ => ⟨S2816x1024, .bf16⟩
  | .hbm, ⟨49, _⟩ => ⟨S8320x2816, .bf16⟩
  | .hbm, ⟨50, _⟩ => ⟨S8320x2816, .bf16⟩
  | .hbm, ⟨51, _⟩ => ⟨S2816x1024, .bf16⟩
  | .hbm, ⟨52, _⟩ => ⟨S8320x1024, .f32⟩
  | .hbm, ⟨53, _⟩ => ⟨S8320x2816, .bf16⟩
  | .hbm, ⟨54, _⟩ => ⟨S8320x2816, .bf16⟩
  | .hbm, ⟨55, _⟩ => ⟨S8320x1024, .bf16⟩
  | .hbm, ⟨56, _⟩ => ⟨S1x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S1x1024, .f32⟩
  | .local _ .vmem, ⟨5, _⟩ => ⟨S320x2816, .bf16⟩
  | .local _ .vmem, ⟨6, _⟩ => ⟨S320x2816, .bf16⟩
  | .local _ .vmem, ⟨7, _⟩ => ⟨S320x2816, .bf16⟩
  | .local _ .vmem, ⟨8, _⟩ => ⟨S320x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S320x1024, .f32⟩
  | .local _ .vmem, ⟨13, _⟩ => ⟨S320x1024, .f32⟩
  | .local _ .vmem, ⟨14, _⟩ => ⟨S320x2816, .bf16⟩
  | .local _ .vmem, ⟨15, _⟩ => ⟨S320x2816, .bf16⟩
  | .local _ .vmem, ⟨16, _⟩ => ⟨S320x2816, .bf16⟩
  | .local _ .vmem, ⟨17, _⟩ => ⟨S320x2816, .bf16⟩
  | .local _ .vmem, ⟨18, _⟩ => ⟨S320x1024, .bf16⟩
  | .local _ .vmem, ⟨19, _⟩ => ⟨S320x1024, .bf16⟩
  | .local _ .vmem, ⟨20, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27_0 : Ref sig .tc := ⟨.hbm, 52, rfl⟩
abbrev main_v27_1 : Ref sig .tc := ⟨.hbm, 53, rfl⟩
abbrev main_v27_2 : Ref sig .tc := ⟨.hbm, 54, rfl⟩
abbrev main_v27_3 : Ref sig .tc := ⟨.hbm, 55, rfl⟩
abbrev main_v27_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8320x1024 : Shape := ⟨2, ![8320, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8320 : Shape := ⟨1, ![8320]⟩
abbrev S8320x1 : Shape := ⟨2, ![8320, 1]⟩
abbrev S8320x2816 : Shape := ⟨2, ![8320, 2816]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S8320x2816, .f32⟩
  | .hbm, ⟨26, _⟩ => ⟨S8320x2816, .f32⟩
  | .hbm, ⟨27, _⟩ => ⟨S_, .f32⟩
  | .hbm, ⟨28, _⟩ => ⟨S8320x1024, .f32⟩
  | .hbm, ⟨29, _⟩ => ⟨S8320x1024, .f32⟩
  | .hbm, ⟨30, _⟩ => ⟨S8320x2816, .f32⟩
  | .hbm, ⟨31, _⟩ => ⟨S8320x2816, .f32⟩
  | .hbm, ⟨32, _⟩ => ⟨S_, .f32⟩
  | .hbm, ⟨33, _⟩ => ⟨S8320x2816, .f32⟩
  | .hbm, ⟨34, _⟩ => ⟨S8320x2816, .f32⟩
  | .hbm, ⟨35, _⟩ => ⟨S_, .f32⟩
  | .hbm, ⟨36, _⟩ => ⟨S8320x2816, .f32⟩
  | .hbm, ⟨37, _⟩ => ⟨S8320x2816, .f32⟩
  | .hbm, ⟨38, _⟩ => ⟨S_, .f32⟩
  | .hbm, ⟨39, _⟩ => ⟨S8320x2816, .f32⟩
  | .hbm, ⟨40, _⟩ => ⟨S8320x2816, .f32⟩
  | .hbm, ⟨41, _⟩ => ⟨S8320x2816, .f32⟩
  | .hbm, ⟨42, _⟩ => ⟨S8320x2816, .f32⟩
  | .hbm, ⟨43, _⟩ => ⟨S8320x2816, .f32⟩
  | .hbm, ⟨44, _⟩ => ⟨S8320x1024, .f32⟩
  | .hbm, ⟨45, _⟩ => ⟨S8320x2816, .f32⟩
  | .hbm, ⟨46, _⟩ => ⟨S8320x2816, .f32⟩
  | .hbm, ⟨47, _⟩ => ⟨S8320x2816, .f32⟩
  | .hbm, ⟨48, _⟩ => ⟨S8320x2816, .f32⟩
  | .hbm, ⟨49, _⟩ => ⟨S8320x2816, .f32⟩
  | .hbm, ⟨50, _⟩ => ⟨S8320x2816, .f32⟩
  | .hbm, ⟨51, _⟩ => ⟨S8320x2816, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8320x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8320x1024, .f32⟩
  | .hbm, ⟨60, _⟩ => ⟨S8320x1024, .f32⟩
  | .hbm, ⟨61, _⟩ => ⟨S8320x1024, .f32⟩
  | .hbm, ⟨62, _⟩ => ⟨S_, .f32⟩
  | .hbm, ⟨63, _⟩ => ⟨S8320, .f32⟩
  | .hbm, ⟨64, _⟩ => ⟨S8320x1, .f32⟩
  | .hbm, ⟨65, _⟩ => ⟨S8320x1024, .f32⟩
  | .hbm, ⟨66, _⟩ => ⟨S8320x1024, .f32⟩
  | .hbm, ⟨67, _⟩ => ⟨S8320x1, .f32⟩
  | .hbm, ⟨68, _⟩ => ⟨S_, .f32⟩
  | .hbm, ⟨69, _⟩ => ⟨S8320x1, .f32⟩
  | .hbm, ⟨70, _⟩ => ⟨S8320x1, .f32⟩
  | .hbm, ⟨71, _⟩ => ⟨S_, .f32⟩
  | .hbm, ⟨72, _⟩ => ⟨S8320, .f32⟩
  | .hbm, ⟨73, _⟩ => ⟨S8320x1024, .f32⟩
  | .hbm, ⟨74, _⟩ => ⟨S8320x1024, .f32⟩
  | .hbm, ⟨75, _⟩ => ⟨S8320x1024, .f32⟩
  | .hbm, ⟨76, _⟩ => ⟨S8320x1024, .f32⟩
  | .hbm, ⟨77, _⟩ => ⟨S8320x1024, .f32⟩
  | .hbm, ⟨78, _⟩ => ⟨S8320x1024, .f32⟩
  | .hbm, ⟨79, _⟩ => ⟨S8320x2816, .bf16⟩
  | .hbm, ⟨80, _⟩ => ⟨S8320x2816, .bf16⟩
  | .hbm, ⟨81, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== Kernel3.lean ====
abbrev S8320x1024 : Shape := ⟨2, ![8320, 1024]⟩
abbrev S1x1024 : Shape := ⟨2, ![1, 1024]⟩
abbrev S8320x2816 : Shape := ⟨2, ![8320, 2816]⟩
abbrev S_ : Shape := ⟨0, ![]⟩
abbrev S8320 : Shape := ⟨1, ![8320]⟩
abbrev S8320x1 : Shape := ⟨2, ![8320, 1]⟩
abbrev S1x8320x1024 : Shape := ⟨3, ![1, 8320, 1024]⟩
abbrev S2816x1024 : Shape := ⟨2, ![2816, 1024]⟩
abbrev S8320x256 : Shape := ⟨2, ![8320, 256]⟩
abbrev S256x1024 : Shape := ⟨2, ![256, 1024]⟩
abbrev S1024x8320 : Shape := ⟨2, ![1024, 8320]⟩
abbrev S2x640x1024 : Shape := ⟨3, ![2, 640, 1024]⟩
abbrev S2 : Shape := ⟨1, ![2]⟩
abbrev S1 : Shape := ⟨1, ![1]⟩
abbrev S1x640x1024 : Shape := ⟨3, ![1, 640, 1024]⟩
abbrev S640x1024 : Shape := ⟨2, ![640, 1024]⟩
abbrev S1024x640 : Shape := ⟨2, ![1024, 640]⟩
abbrev S1024x256 : Shape := ⟨2, ![1024, 256]⟩

abbrev nBuf : Space → Nat
  | .hbm => 25
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x2816, .f32⟩
  | .hbm, ⟨3, _⟩ => ⟨S8320x2816, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x2816, .bf16⟩
  | .hbm, ⟨20, _⟩ => ⟨S8320x2816, .bf16⟩
  | .hbm, ⟨21, _⟩ => ⟨S8320x1024, .bf16⟩
  | .hbm, ⟨22, _⟩ => ⟨S1x8320x1024, .bf16⟩
  | .hbm, ⟨23, _⟩ => ⟨S2816x1024, .bf16⟩
  | .hbm, ⟨24, _⟩ => ⟨S2816x1024, .bf16⟩
  | .local _ .vmem, ⟨0, _⟩ => ⟨S8320x256, .bf16⟩
  | .local _ .vmem, ⟨1, _⟩ => ⟨S8320x256, .bf16⟩
  | .local _ .vmem, ⟨2, _⟩ => ⟨S8320x256, .bf16⟩
  | .local _ .vmem, ⟨3, _⟩ => ⟨S8320x256, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x8320, .bf16⟩
  | .local _ .vmem, ⟨9, _⟩ => ⟨S2x640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8320x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8320x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8320x1024 : Shape := ⟨2, ![8320, 1024]⟩
abbrev S1x1024 : Shape := ⟨2, ![1, 1024]⟩
abbrev S8320x2816 : Shape := ⟨2, ![8320, 2816]⟩
abbrev S_ : Shape := ⟨0, ![]⟩
abbrev S8320 : Shape := ⟨1, ![8320]⟩
abbrev S8320x1 : Shape := ⟨2, ![8320, 1]⟩
abbrev S1024x2816 : Shape := ⟨2, ![1024, 2816]⟩
abbrev S2816x1024 : Shape := ⟨2, ![2816, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x2816, .f32⟩
  | .hbm, ⟨3, _⟩ => ⟨S8320x2816, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S1024x2816, .f32⟩
  | .hbm, ⟨21, _⟩ => ⟨S8320x2816, .f32⟩
  | .hbm, ⟨22, _⟩ => ⟨S8320x2816, .f32⟩
  | .hbm, ⟨23, _⟩ => ⟨S2816x1024, .f32⟩
  | .hbm, ⟨24, _⟩ => ⟨S1024x2816, .f32⟩
  | .hbm, ⟨25, _⟩ => ⟨S2816x1024, .f32⟩
  | .hbm, ⟨26, _⟩ => ⟨S1024x2816, .f32⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel4.lean ====
abbrev S8320x2816 : Shape := ⟨2, ![8320, 2816]⟩
abbrev S8320x1024 : Shape := ⟨2, ![8320, 1024]⟩
abbrev S_ : Shape := ⟨0, ![]⟩
abbrev S1x8320x1024 : Shape := ⟨3, ![1, 8320, 1024]⟩
abbrev S2816x1024 : Shape := ⟨2, ![2816, 1024]⟩
abbrev S8320x256 : Shape := ⟨2, ![8320, 256]⟩
abbrev S256x1024 : Shape := ⟨2, ![256, 1024]⟩
abbrev S1024x8320 : Shape := ⟨2, ![1024, 8320]⟩
abbrev S2x640x1024 : Shape := ⟨3, ![2, 640, 1024]⟩
abbrev S2 : Shape := ⟨1, ![2]⟩
abbrev S1 : Shape := ⟨1, ![1]⟩
abbrev S1x640x1024 : Shape := ⟨3, ![1, 640, 1024]⟩
abbrev S640x1024 : Shape := ⟨2, ![640, 1024]⟩
abbrev S1024x640 : Shape := ⟨2, ![1024, 640]⟩
abbrev S1024x256 : Shape := ⟨2, ![1024, 256]⟩

abbrev nBuf : Space → Nat
  | .hbm => 20
  | .vmem => 6
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S8320x1024, .f32⟩
  | .hbm, ⟨3, _⟩ => ⟨S8320x2816, .f32⟩
  | .hbm, ⟨4, _⟩ => ⟨S8320x2816, .f32⟩
  | .hbm, ⟨5, _⟩ => ⟨S_, .f32⟩
  | .hbm, ⟨6, _⟩ => ⟨S8320x2816, .f32⟩
  | .hbm, ⟨7, _⟩ => ⟨S8320x2816, .f32⟩
  | .hbm, ⟨8, _⟩ => ⟨S_, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S8320x2816, .f32⟩
  | .hbm, ⟨13, _⟩ => ⟨S_, .f32⟩
  | .hbm, ⟨14, _⟩ => ⟨S8320x1024, .f32⟩
  | .hbm, ⟨15, _⟩ => ⟨S8320x1024, .f32⟩
  | .hbm, ⟨16, _⟩ => ⟨S8320x2816, .bf16⟩
  | .hbm, ⟨17, _⟩ => ⟨S8320x1024, .bf16⟩
  | .hbm, ⟨18, _⟩ => ⟨S1x8320x1024, .bf16⟩
  | .hbm, ⟨19, _⟩ => ⟨S2816x1024, .bf16⟩
  | .local _ .vmem, ⟨0, _⟩ => ⟨S8320x256, .bf16⟩
  | .local _ .vmem, ⟨1, _⟩ => ⟨S8320x256, .bf16⟩
  | .local _ .vmem, ⟨2, _⟩ => ⟨S256x1024, .bf16⟩
  | .local _ .vmem, ⟨3, _⟩ => ⟨S256x1024, .bf16⟩
  | .local _ .vmem, ⟨4, _⟩ => ⟨S1024x8320, .bf16⟩
  | .local _ .vmem, ⟨5, _⟩ => ⟨S2x640x1024, .bf16⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8320x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S8320x1024, .f32⟩
  | .hbm, ⟨3, _⟩ => ⟨S8320x2816, .f32⟩
  | .hbm, ⟨4, _⟩ => ⟨S8320x2816, .f32⟩
  | .hbm, ⟨5, _⟩ => ⟨S_, .f32⟩
  | .hbm, ⟨6, _⟩ => ⟨S8320x2816, .f32⟩
  | .hbm, ⟨7, _⟩ => ⟨S8320x2816, .f32⟩
  | .hbm, ⟨8, _⟩ => ⟨S_, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S8320x2816, .f32⟩
  | .hbm, ⟨13, _⟩ => ⟨S_, .f32⟩
  | .hbm, ⟨14, _⟩ => ⟨S2816x1024, .f32⟩
  | .hbm, ⟨15, _⟩ => ⟨S8320x1024, .f32⟩
  | .hbm, ⟨16, _⟩ => ⟨S_, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320x1024, .f32⟩
  | .hbm, ⟨21, _⟩ => ⟨S8320x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Kernel5.lean ====
abbrev S8320x2816 : Shape := ⟨2, ![8320, 2816]⟩
abbrev S2816x1024 : Shape := ⟨2, ![2816, 1024]⟩
abbrev S8320x1024 : Shape := ⟨2, ![8320, 1024]⟩
abbrev S_ : Shape := ⟨0, ![]⟩
abbrev S320x1024 : Shape := ⟨2, ![320, 1024]⟩
abbrev S320x2816 : Shape := ⟨2, ![320, 2816]⟩
abbrev S256x1024 : Shape := ⟨2, ![256, 1024]⟩
abbrev S320x256 : Shape := ⟨2, ![320, 256]⟩

abbrev nBuf : Space → Nat
  | .hbm => 35
  | .vmem => 11
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S2816x1024, .f32⟩
  | .hbm, ⟨3, _⟩ => ⟨S8320x1024, .f32⟩
  | .hbm, ⟨4, _⟩ => ⟨S8320x2816, .f32⟩
  | .hbm, ⟨5, _⟩ => ⟨S8320x2816, .f32⟩
  | .hbm, ⟨6, _⟩ => ⟨S_, .f32⟩
  | .hbm, ⟨7, _⟩ => ⟨S8320x2816, .f32⟩
  | .hbm, ⟨8, _⟩ => ⟨S8320x2816, .f32⟩
  | .hbm, ⟨9, _⟩ => ⟨S_, .f32⟩
  | .hbm, ⟨10, _⟩ => ⟨S8320x2816, .f32⟩
  | .hbm, ⟨11, _⟩ => ⟨S8320x2816, .f32⟩
  | .hbm, ⟨12, _⟩ => ⟨S_, .f32⟩
  | .hbm, ⟨13, _⟩ => ⟨S8320x2816, .f32⟩
  | .hbm, ⟨14, _⟩ => ⟨S8320x2816, .f32⟩
  | .hbm, ⟨15, _⟩ => ⟨S8320x2816, .f32⟩
  | .hbm, ⟨16, _⟩ => ⟨S8320x2816, .f32⟩
  | .hbm, ⟨17, _⟩ => ⟨S8320x2816, .f32⟩
  | .hbm, ⟨18, _⟩ => ⟨S_, .f32⟩
  | .hbm, ⟨19, _⟩ => ⟨S8320x2816, .f32⟩
  | .hbm, ⟨20, _⟩ => ⟨S8320x2816, .f32⟩
  | .hbm, ⟨21, _⟩ => ⟨S8320x2816, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S8320x2816, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S8320x1024, .bf16⟩
  | .hbm, ⟨30, _⟩ => ⟨S8320x2816, .bf16⟩
  | .hbm, ⟨31, _⟩ => ⟨S8320x2816, .bf16⟩
  | .hbm, ⟨32, _⟩ => ⟨S2816x1024, .bf16⟩
  | .hbm, ⟨33, _⟩ => ⟨S8320x2816, .bf16⟩
  | .hbm, ⟨34, _⟩ => ⟨S8320x2816, .bf16⟩
  | .local _ .vmem, ⟨0, _⟩ => ⟨S320x1024, .bf16⟩
  | .local _ .vmem, ⟨1, _⟩ => ⟨S320x1024, .bf16⟩
  | .local _ .vmem, ⟨2, _⟩ => ⟨S320x2816, .bf16⟩
  | .local _ .vmem, ⟨3, _⟩ => ⟨S320x2816, .bf16⟩
  | .local _ .vmem, ⟨4, _⟩ => ⟨S320x2816, .bf16⟩
  | .local _ .vmem, ⟨5, _⟩ => ⟨S320x2816, .bf16⟩
  | .local _ .vmem, ⟨6, _⟩ => ⟨S2816x1024, .bf16⟩
  | .local _ .vmem, ⟨7, _⟩ => ⟨S320x2816, .bf16⟩
  | .local _ .vmem, ⟨8, _⟩ => ⟨S320x2816, .bf16⟩
  | .local _ .vmem, ⟨9, _⟩ => ⟨S320x2816, .bf16⟩
  | .local _ .vmem, ⟨10, _⟩ => ⟨S320x2816, .bf16⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8320x2816 : Shape := ⟨2, ![8320, 2816]⟩
abbrev S2816x1024 : Shape := ⟨2, ![2816, 1024]⟩
abbrev S8320x1024 : Shape := ⟨2, ![8320, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S2816x1024, .f32⟩
  | .hbm, ⟨3, _⟩ => ⟨S8320x1024, .f32⟩
  | .hbm, ⟨4, _⟩ => ⟨S_, .f32⟩
  | .hbm, ⟨5, _⟩ => ⟨S8320x1024, .f32⟩
  | .hbm, ⟨6, _⟩ => ⟨S8320x1024, .f32⟩
  | .hbm, ⟨7, _⟩ => ⟨S8320x2816, .f32⟩
  | .hbm, ⟨8, _⟩ => ⟨S8320x2816, .f32⟩
  | .hbm, ⟨9, _⟩ => ⟨S_, .f32⟩
  | .hbm, ⟨10, _⟩ => ⟨S8320x2816, .f32⟩
  | .hbm, ⟨11, _⟩ => ⟨S8320x2816, .f32⟩
  | .hbm, ⟨12, _⟩ => ⟨S_, .f32⟩
  | .hbm, ⟨13, _⟩ => ⟨S8320x2816, .f32⟩
  | .hbm, ⟨14, _⟩ => ⟨S8320x2816, .f32⟩
  | .hbm, ⟨15, _⟩ => ⟨S_, .f32⟩
  | .hbm, ⟨16, _⟩ => ⟨S8320x2816, .f32⟩
  | .hbm, ⟨17, _⟩ => ⟨S8320x2816, .f32⟩
  | .hbm, ⟨18, _⟩ => ⟨S8320x2816, .f32⟩
  | .hbm, ⟨19, _⟩ => ⟨S8320x2816, .f32⟩
  | .hbm, ⟨20, _⟩ => ⟨S8320x2816, .f32⟩
  | .hbm, ⟨21, _⟩ => ⟨S8320x1024, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S8320x2816, .f32⟩
  | .hbm, ⟨26, _⟩ => ⟨S8320x2816, .f32⟩
  | .hbm, ⟨27, _⟩ => ⟨S8320x2816, .f32⟩
  | .hbm, ⟨28, _⟩ => ⟨S8320x2816, .f32⟩
  | .hbm, ⟨29, _⟩ => ⟨S8320x2816, .bf16⟩
  | .hbm, ⟨30, _⟩ => ⟨S8320x2816, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel6.lean ====
abbrev S8320x1024 : Shape := ⟨2, ![8320, 1024]⟩
abbrev S1x1024 : Shape := ⟨2, ![1, 1024]⟩
abbrev S1024x2560 : Shape := ⟨2, ![1024, 2560]⟩
abbrev S8320x2560 : Shape := ⟨2, ![8320, 2560]⟩
abbrev S2560x1024 : Shape := ⟨2, ![2560, 1024]⟩
abbrev S8320x2048 : Shape := ⟨2, ![8320, 2048]⟩
abbrev S8320x512 : Shape := ⟨2, ![8320, 512]⟩
abbrev S640x2048 : Shape := ⟨2, ![640, 2048]⟩
abbrev S640x512 : Shape := ⟨2, ![640, 512]⟩
abbrev S640x1024 : Shape := ⟨2, ![640, 1024]⟩
abbrev S2048x1024 : Shape := ⟨2, ![2048, 1024]⟩
abbrev S512x1024 : Shape := ⟨2, ![512, 1024]⟩
abbrev S640 : Shape := ⟨1, ![640]⟩
abbrev S640x1 : Shape := ⟨2, ![640, 1]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2560, .f32⟩
  | .hbm, ⟨3, _⟩ => ⟨S8320x2560, .f32⟩
  | .hbm, ⟨4, _⟩ => ⟨S8320x1024, .f32⟩
  | .hbm, ⟨5, _⟩ => ⟨S2560x1024, .f32⟩
  | .hbm, ⟨6, _⟩ => ⟨S2560x1024, .bf16⟩
  | .hbm, ⟨7, _⟩ => ⟨S8320x2048, .f32⟩
  | .hbm, ⟨8, _⟩ => ⟨S8320x2048, .bf16⟩
  | .hbm, ⟨9, _⟩ => ⟨S8320x512, .f32⟩
  | .hbm, ⟨10, _⟩ => ⟨S8320x512, .bf16⟩
  | .hbm, ⟨11, _⟩ => ⟨S8320x1024, .f32⟩
  | .hbm, ⟨12, _⟩ => ⟨S1x1024, .f32⟩
  | .hbm, ⟨13, _⟩ => ⟨S8320x1024, .bf16⟩
  | .local _ .vmem, ⟨0, _⟩ => ⟨S640x2048, .bf16⟩
  | .local _ .vmem, ⟨1, _⟩ => ⟨S640x2048, .bf16⟩
  | .local _ .vmem, ⟨2, _⟩ => ⟨S640x512, .bf16⟩
  | .local _ .vmem, ⟨3, _⟩ => ⟨S640x512, .bf16⟩
  | .local _ .vmem, ⟨4, _⟩ => ⟨S2560x1024, .bf16⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | .local _ .vmem, ⟨12, _⟩ => ⟨S1x1024, .f32⟩
  | .local _ .vmem, ⟨13, _⟩ => ⟨S640x1024, .bf16⟩
  | .local _ .vmem, ⟨14, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8320x1024 : Shape := ⟨2, ![8320, 1024]⟩
abbrev S1x1024 : Shape := ⟨2, ![1, 1024]⟩
abbrev S1024x2560 : Shape := ⟨2, ![1024, 2560]⟩
abbrev S8320x2560 : Shape := ⟨2, ![8320, 2560]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2560, .f32⟩
  | .hbm, ⟨3, _⟩ => ⟨S8320x2560, .f32⟩
  | .hbm, ⟨4, _⟩ => ⟨S8320x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x2560, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S8320, .f32⟩
  | .hbm, ⟨35, _⟩ => ⟨S8320x1, .f32⟩
  | .hbm, ⟨36, _⟩ => ⟨S8320x1024, .f32⟩
  | .hbm, ⟨37, _⟩ => ⟨S8320x1024, .f32⟩
  | .hbm, ⟨38, _⟩ => ⟨S8320x1, .f32⟩
  | .hbm, ⟨39, _⟩ => ⟨S_, .f32⟩
  | .hbm, ⟨40, _⟩ => ⟨S8320x1, .f32⟩
  | .hbm, ⟨41, _⟩ => ⟨S8320x1, .f32⟩
  | .hbm, ⟨42, _⟩ => ⟨S_, .f32⟩
  | .hbm, ⟨43, _⟩ => ⟨S8320, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S_, .f32⟩
  | .hbm, ⟨51, _⟩ => ⟨S8320x1024, .f32⟩
  | .hbm, ⟨52, _⟩ => ⟨S8320x1024, .f32⟩
  | .hbm, ⟨53, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel7.lean ====
abbrev S8320x1024 : Shape := ⟨2, ![8320, 1024]⟩
abbrev S1x1024 : Shape := ⟨2, ![1, 1024]⟩
abbrev S8320x2560 : Shape := ⟨2, ![8320, 2560]⟩
abbrev S_ : Shape := ⟨0, ![]⟩
abbrev S8320 : Shape := ⟨1, ![8320]⟩
abbrev S8320x1 : Shape := ⟨2, ![8320, 1]⟩
abbrev S8320x2048 : Shape := ⟨2, ![8320, 2048]⟩
abbrev S8320x512 : Shape := ⟨2, ![8320, 512]⟩
abbrev S2560x1024 : Shape := ⟨2, ![2560, 1024]⟩
abbrev S640x1024 : Shape := ⟨2, ![640, 1024]⟩
abbrev S640x2048 : Shape := ⟨2, ![640, 2048]⟩
abbrev S640x512 : Shape := ⟨2, ![640, 512]⟩
abbrev S2048x1024 : Shape := ⟨2, ![2048, 1024]⟩
abbrev S512x1024 : Shape := ⟨2, ![512, 1024]⟩

abbrev nBuf : Space → Nat
  | .hbm => 24
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x2560, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x2048, .f32⟩
  | .hbm, ⟨19, _⟩ => ⟨S8320x2048, .bf16⟩
  | .hbm, ⟨20, _⟩ => ⟨S8320x512, .f32⟩
  | .hbm, ⟨21, _⟩ => ⟨S8320x512, .bf16⟩
  | .hbm, ⟨22, _⟩ => ⟨S8320x1024, .bf16⟩
  | .hbm, ⟨23, _⟩ => ⟨S2560x1024, .bf16⟩
  | .local _ .vmem, ⟨0, _⟩ => ⟨S640x1024, .bf16⟩
  | .local _ .vmem, ⟨1, _⟩ => ⟨S640x1024, .bf16⟩
  | .local _ .vmem, ⟨2, _⟩ => ⟨S640x2048, .bf16⟩
  | .local _ .vmem, ⟨3, _⟩ => ⟨S640x2048, .bf16⟩
  | .local _ .vmem, ⟨4, _⟩ => ⟨S640x512, .bf16⟩
  | .local _ .vmem, ⟨5, _⟩ => ⟨S640x512, .bf16⟩
  | .local _ .vmem, ⟨6, _⟩ => ⟨S2560x1024, .bf16⟩
  | .local _ .vmem, ⟨7, _⟩ => ⟨S2560x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32 : BitVec 32 := 12#32
  let v21 : BitVec 1 := Scalar.cmpi .eq arg0 c12_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S8320x1024 : Shape := ⟨2, ![8320, 1024]⟩
abbrev S1x1024 : Shape := ⟨2, ![1, 1024]⟩
abbrev S8320x2560 : Shape := ⟨2, ![8320, 2560]⟩
abbrev S_ : Shape := ⟨0, ![]⟩
abbrev S8320 : Shape := ⟨1, ![8320]⟩
abbrev S8320x1 : Shape := ⟨2, ![8320, 1]⟩
abbrev S1024x2560 : Shape := ⟨2, ![1024, 2560]⟩
abbrev S2560x1024 : Shape := ⟨2, ![2560, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x2560, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S_, .f32⟩
  | .hbm, ⟨19, _⟩ => ⟨S1024x2560, .f32⟩
  | .hbm, ⟨20, _⟩ => ⟨S8320x2560, .f32⟩
  | .hbm, ⟨21, _⟩ => ⟨S2560x1024, .f32⟩
  | .hbm, ⟨22, _⟩ => ⟨S1024x2560, .f32⟩
  | .hbm, ⟨23, _⟩ => ⟨S2560x1024, .f32⟩
  | .hbm, ⟨24, _⟩ => ⟨S2560x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S8320x512 : Shape := ⟨2, ![8320, 512]⟩
abbrev S1024x1024 : Shape := ⟨2, ![1024, 1024]⟩
abbrev S8320x1024 : Shape := ⟨2, ![8320, 1024]⟩
abbrev S640x1024 : Shape := ⟨2, ![640, 1024]⟩
abbrev S640x512 : Shape := ⟨2, ![640, 512]⟩
abbrev S512x1024 : Shape := ⟨2, ![512, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8320x512, .f32⟩
  | .hbm, ⟨1, _⟩ => ⟨S8320x512, .f32⟩
  | .hbm, ⟨2, _⟩ => ⟨S1024x1024, .f32⟩
  | .hbm, ⟨3, _⟩ => ⟨S8320x1024, .f32⟩
  | .hbm, ⟨4, _⟩ => ⟨S1024x1024, .bf16⟩
  | .hbm, ⟨5, _⟩ => ⟨S8320x512, .bf16⟩
  | .hbm, ⟨6, _⟩ => ⟨S8320x512, .bf16⟩
  | .hbm, ⟨7, _⟩ => ⟨S8320x1024, .f32⟩
  | .hbm, ⟨8, _⟩ => ⟨S1024x1024, .bf16⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S640x512, .bf16⟩
  | .local _ .vmem, ⟨7, _⟩ => ⟨S640x1024, .f32⟩
  | .local _ .vmem, ⟨8, _⟩ => ⟨S640x1024, .f32⟩
  | .local _ .vmem, ⟨9, _⟩ => ⟨S1024x1024, .bf16⟩
  | .local _ .vmem, ⟨10, _⟩ => ⟨S1024x1024, .f32⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32 : BitVec 32 := 12#32
  let v25 : BitVec 1 := Scalar.cmpi .eq arg0 c12_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S8320x512 : Shape := ⟨2, ![8320, 512]⟩
abbrev S1024x1024 : Shape := ⟨2, ![1024, 1024]⟩
abbrev S8320x1024 : Shape := ⟨2, ![8320, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S8320x512, .f32⟩
  | .hbm, ⟨2, _⟩ => ⟨S1024x1024, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S1024x1024, .f32⟩
  | .hbm, ⟨7, _⟩ => ⟨S1024x1024, .f32⟩
  | .hbm, ⟨8, _⟩ => ⟨S8320x1024, .f32⟩
  | .hbm, ⟨9, _⟩ => ⟨S1024x1024, .bf16⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S8320x1024 : Shape := ⟨2, ![8320, 1024]⟩
abbrev S1x1024 : Shape := ⟨2, ![1, 1024]⟩
abbrev S1024x2560 : Shape := ⟨2, ![1024, 2560]⟩
abbrev S2560x1024 : Shape := ⟨2, ![2560, 1024]⟩
abbrev S8320x2560 : Shape := ⟨2, ![8320, 2560]⟩
abbrev S640x1024 : Shape := ⟨2, ![640, 1024]⟩
abbrev S640x2560 : Shape := ⟨2, ![640, 2560]⟩
abbrev S640 : Shape := ⟨1, ![640]⟩
abbrev S640x1 : Shape := ⟨2, ![640, 1]⟩

abbrev nBuf : Space → Nat
  | .hbm => 7
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2560, .f32⟩
  | .hbm, ⟨3, _⟩ => ⟨S2560x1024, .f32⟩
  | .hbm, ⟨4, _⟩ => ⟨S2560x1024, .bf16⟩
  | .hbm, ⟨5, _⟩ => ⟨S8320x2560, .bf16⟩
  | .hbm, ⟨6, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S2560x1024, .bf16⟩
  | .local _ .vmem, ⟨4, _⟩ => ⟨S640x2560, .bf16⟩
  | .local _ .vmem, ⟨5, _⟩ => ⟨S640x2560, .bf16⟩
  | .local _ .vmem, ⟨6, _⟩ => ⟨S640x1024, .bf16⟩
  | .local _ .vmem, ⟨7, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8320x1024 : Shape := ⟨2, ![8320, 1024]⟩
abbrev S1x1024 : Shape := ⟨2, ![1, 1024]⟩
abbrev S1024x2560 : Shape := ⟨2, ![1024, 2560]⟩
abbrev S_ : Shape := ⟨0, ![]⟩
abbrev S8320 : Shape := ⟨1, ![8320]⟩
abbrev S8320x1 : Shape := ⟨2, ![8320, 1]⟩
abbrev S8320x2560 : Shape := ⟨2, ![8320, 2560]⟩

abbrev nBuf : Space → Nat
  | .hbm => 21
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2560, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x2560, .f32⟩
  | .hbm, ⟨19, _⟩ => ⟨S8320x2560, .bf16⟩
  | .hbm, ⟨20, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S8320x1024 : Shape := ⟨2, ![8320, 1024]⟩
abbrev S8320x512 : Shape := ⟨2, ![8320, 512]⟩
abbrev S1024x1024 : Shape := ⟨2, ![1024, 1024]⟩
abbrev S640x512 : Shape := ⟨2, ![640, 512]⟩
abbrev S640x1024 : Shape := ⟨2, ![640, 1024]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S8320x512, .f32⟩
  | .hbm, ⟨3, _⟩ => ⟨S1024x1024, .f32⟩
  | .hbm, ⟨4, _⟩ => ⟨S8320x512, .bf16⟩
  | .hbm, ⟨5, _⟩ => ⟨S8320x512, .bf16⟩
  | .hbm, ⟨6, _⟩ => ⟨S1024x1024, .bf16⟩
  | .hbm, ⟨7, _⟩ => ⟨S8320x1024, .f32⟩
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S1024x1024, .bf16⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8320x1024 : Shape := ⟨2, ![8320, 1024]⟩
abbrev S8320x512 : Shape := ⟨2, ![8320, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S8320x512, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel11.lean ====
abbrev S8320x2816 : Shape := ⟨2, ![8320, 2816]⟩
abbrev S8320x1024 : Shape := ⟨2, ![8320, 1024]⟩
abbrev S_ : Shape := ⟨0, ![]⟩
abbrev S1x8320x1024 : Shape := ⟨3, ![1, 8320, 1024]⟩
abbrev S2816x1024 : Shape := ⟨2, ![2816, 1024]⟩
abbrev S8320x256 : Shape := ⟨2, ![8320, 256]⟩
abbrev S256x1024 : Shape := ⟨2, ![256, 1024]⟩
abbrev S1024x8320 : Shape := ⟨2, ![1024, 8320]⟩
abbrev S2x640x1024 : Shape := ⟨3, ![2, 640, 1024]⟩
abbrev S2 : Shape := ⟨1, ![2]⟩
abbrev S1 : Shape := ⟨1, ![1]⟩
abbrev S1x640x1024 : Shape := ⟨3, ![1, 640, 1024]⟩
abbrev S640x1024 : Shape := ⟨2, ![640, 1024]⟩
abbrev S1024x640 : Shape := ⟨2, ![1024, 640]⟩
abbrev S1024x256 : Shape := ⟨2, ![1024, 256]⟩

abbrev nBuf : Space → Nat
  | .hbm => 20
  | .vmem => 6
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S8320x1024, .f32⟩
  | .hbm, ⟨3, _⟩ => ⟨S8320x2816, .f32⟩
  | .hbm, ⟨4, _⟩ => ⟨S8320x2816, .f32⟩
  | .hbm, ⟨5, _⟩ => ⟨S_, .f32⟩
  | .hbm, ⟨6, _⟩ => ⟨S8320x2816, .f32⟩
  | .hbm, ⟨7, _⟩ => ⟨S8320x2816, .f32⟩
  | .hbm, ⟨8, _⟩ => ⟨S_, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S8320x2816, .f32⟩
  | .hbm, ⟨13, _⟩ => ⟨S_, .f32⟩
  | .hbm, ⟨14, _⟩ => ⟨S8320x1024, .f32⟩
  | .hbm, ⟨15, _⟩ => ⟨S8320x1024, .f32⟩
  | .hbm, ⟨16, _⟩ => ⟨S8320x2816, .bf16⟩
  | .hbm, ⟨17, _⟩ => ⟨S8320x1024, .bf16⟩
  | .hbm, ⟨18, _⟩ => ⟨S1x8320x1024, .bf16⟩
  | .hbm, ⟨19, _⟩ => ⟨S2816x1024, .bf16⟩
  | .local _ .vmem, ⟨0, _⟩ => ⟨S8320x256, .bf16⟩
  | .local _ .vmem, ⟨1, _⟩ => ⟨S8320x256, .bf16⟩
  | .local _ .vmem, ⟨2, _⟩ => ⟨S256x1024, .bf16⟩
  | .local _ .vmem, ⟨3, _⟩ => ⟨S256x1024, .bf16⟩
  | .local _ .vmem, ⟨4, _⟩ => ⟨S1024x8320, .bf16⟩
  | .local _ .vmem, ⟨5, _⟩ => ⟨S2x640x1024, .bf16⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8320x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference11Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S8320x1024, .f32⟩
  | .hbm, ⟨3, _⟩ => ⟨S8320x2816, .f32⟩
  | .hbm, ⟨4, _⟩ => ⟨S8320x2816, .f32⟩
  | .hbm, ⟨5, _⟩ => ⟨S_, .f32⟩
  | .hbm, ⟨6, _⟩ => ⟨S8320x2816, .f32⟩
  | .hbm, ⟨7, _⟩ => ⟨S8320x2816, .f32⟩
  | .hbm, ⟨8, _⟩ => ⟨S_, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S8320x2816, .f32⟩
  | .hbm, ⟨13, _⟩ => ⟨S_, .f32⟩
  | .hbm, ⟨14, _⟩ => ⟨S2816x1024, .f32⟩
  | .hbm, ⟨15, _⟩ => ⟨S8320x1024, .f32⟩
  | .hbm, ⟨16, _⟩ => ⟨S_, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320x1024, .f32⟩
  | .hbm, ⟨21, _⟩ => ⟨S8320x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Kernel12.lean ====
abbrev S8320x1024 : Shape := ⟨2, ![8320, 1024]⟩
abbrev S1x1024 : Shape := ⟨2, ![1, 1024]⟩
abbrev S8320x2816 : Shape := ⟨2, ![8320, 2816]⟩
abbrev S_ : Shape := ⟨0, ![]⟩
abbrev S8320 : Shape := ⟨1, ![8320]⟩
abbrev S8320x1 : Shape := ⟨2, ![8320, 1]⟩
abbrev S1x8320x1024 : Shape := ⟨3, ![1, 8320, 1024]⟩
abbrev S2816x1024 : Shape := ⟨2, ![2816, 1024]⟩
abbrev S8320x256 : Shape := ⟨2, ![8320, 256]⟩
abbrev S256x1024 : Shape := ⟨2, ![256, 1024]⟩
abbrev S1024x8320 : Shape := ⟨2, ![1024, 8320]⟩
abbrev S2x640x1024 : Shape := ⟨3, ![2, 640, 1024]⟩
abbrev S2 : Shape := ⟨1, ![2]⟩
abbrev S1 : Shape := ⟨1, ![1]⟩
abbrev S1x640x1024 : Shape := ⟨3, ![1, 640, 1024]⟩
abbrev S640x1024 : Shape := ⟨2, ![640, 1024]⟩
abbrev S1024x640 : Shape := ⟨2, ![1024, 640]⟩
abbrev S1024x256 : Shape := ⟨2, ![1024, 256]⟩

abbrev nBuf : Space → Nat
  | .hbm => 25
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x2816, .f32⟩
  | .hbm, ⟨3, _⟩ => ⟨S8320x2816, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x2816, .bf16⟩
  | .hbm, ⟨20, _⟩ => ⟨S8320x2816, .bf16⟩
  | .hbm, ⟨21, _⟩ => ⟨S8320x1024, .bf16⟩
  | .hbm, ⟨22, _⟩ => ⟨S1x8320x1024, .bf16⟩
  | .hbm, ⟨23, _⟩ => ⟨S2816x1024, .bf16⟩
  | .hbm, ⟨24, _⟩ => ⟨S2816x1024, .bf16⟩
  | .local _ .vmem, ⟨0, _⟩ => ⟨S8320x256, .bf16⟩
  | .local _ .vmem, ⟨1, _⟩ => ⟨S8320x256, .bf16⟩
  | .local _ .vmem, ⟨2, _⟩ => ⟨S8320x256, .bf16⟩
  | .local _ .vmem, ⟨3, _⟩ => ⟨S8320x256, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x8320, .bf16⟩
  | .local _ .vmem, ⟨9, _⟩ => ⟨S2x640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8320x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8320x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8320x1024 : Shape := ⟨2, ![8320, 1024]⟩
abbrev S1x1024 : Shape := ⟨2, ![1, 1024]⟩
abbrev S8320x2816 : Shape := ⟨2, ![8320, 2816]⟩
abbrev S_ : Shape := ⟨0, ![]⟩
abbrev S8320 : Shape := ⟨1, ![8320]⟩
abbrev S8320x1 : Shape := ⟨2, ![8320, 1]⟩
abbrev S1024x2816 : Shape := ⟨2, ![1024, 2816]⟩
abbrev S2816x1024 : Shape := ⟨2, ![2816, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x2816, .f32⟩
  | .hbm, ⟨3, _⟩ => ⟨S8320x2816, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S1024x2816, .f32⟩
  | .hbm, ⟨21, _⟩ => ⟨S8320x2816, .f32⟩
  | .hbm, ⟨22, _⟩ => ⟨S8320x2816, .f32⟩
  | .hbm, ⟨23, _⟩ => ⟨S2816x1024, .f32⟩
  | .hbm, ⟨24, _⟩ => ⟨S1024x2816, .f32⟩
  | .hbm, ⟨25, _⟩ => ⟨S2816x1024, .f32⟩
  | .hbm, ⟨26, _⟩ => ⟨S1024x2816, .f32⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Unit.lean ====
/- One grid point of the backward kernel, written once for a general chunk and head.

   A grid point treats five chunks of 128 rows, and in each chunk four heads of 128 columns. `Loads` holds what the
   point reads; the definitions under `Loads` are the body's values for chunk `c` and head `h`; `dpPieces`,
   `gsPieces` and `dwChain` are the stores they end in. -/
module

public import proofs.«01_k».proof.Proof.Gen.KernelIdeal.Skeleton

@[expose] public section

noncomputable section

namespace Cert.KernelIdeal.Unit

open Idealize.ShloMosaic Cert.KernelIdeal Cert.KernelIdeal.Gen

variable {F : FTy → Type} [FloatOps F] [Named F]

/-- What a grid point reads, block by block: chunk `c` of five, head `h` of four. -/
structure Loads (F : FTy → Type) where
  /-- queries, keys, values and gates -/
  q : Fin 5 → Fin 4 → Vec F S128x128 .bf16
  k : Fin 5 → Fin 4 → Vec F S128x128 .bf16
  v : Fin 5 → Fin 4 → Vec F S128x128 .bf16
  g : Fin 5 → Fin 4 → Vec F S128x128 .bf16
  /-- the rotation's two tables -/
  cs : Fin 5 → Vec F S128x128 .f32
  sn : Fin 5 → Vec F S128x128 .f32
  /-- the gain -/
  w : Fin 4 → Vec F S1x128 .f32
  /-- the retention's output, its entering states, and the gradient that comes in -/
  o : Fin 5 → Fin 4 → Vec F S128x128 .f32
  st : Fin 5 → Fin 4 → Vec F S1x1x128x128 .f32
  dret : Fin 5 → Fin 4 → Vec F S128x128 .f32
  /-- the decay tables and the state gradient carried from the later rows -/
  dec : Fin 3 → Fin 4 → Vec F S1x1x128x128 .f32
  gs : Fin 4 → Vec F S1x128x128 .f32

/-- The word of each head's decay over one chunk. -/
def chunkDecay : Fin 4 → F .f32 :=
  ![Named.named κ "g_chunk0" 0x3C8CC36A#32, Named.named κ "g_chunk1" 0x3E08698E#32,
    Named.named κ "g_chunk2" 0x3EBB9DB9#32, Named.named κ "g_chunk3" 0x3F1B1EB1#32]

/-- The word of each head's logarithmic decay. -/
def logDecay : Fin 4 → F .f32 :=
  ![Named.named κ "log_g0" 0xBD020AEC#32, Named.named κ "log_g1" 0xBC8102B3#32,
    Named.named κ "log_g2" 0xBC0080AC#32, Named.named κ "log_g3" 0xBB80402B#32]

def rowNo : IVec S128x128 32 := iota .tc S128x128 32 [0] iota_S128x128_d0_w32
def colNo : IVec S128x128 32 := iota .tc S128x128 32 [1] iota_S128x128_d1_w32
def rowNoF : FVec F S128x128 .f32 := sitofp .f32 rowNo

/-- The three decay tables of a head: inside a chunk, from the chunk's start, to the chunk's end. -/
def decTable (h : Fin 4) : Fin 3 → FVec F S128x128 .f32
  | 0 => select (cmpi .sge rowNo colNo)
      (exp (mulf (broadcast S128x128 (logDecay h)) (sitofp .f32 (maxsi (subi rowNo colNo) (broadcast S128x128 0#32)))))
      (broadcast S128x128 (Scalar.ofBits .f32 0x00000000#32))
  | 1 => exp (mulf (broadcast S128x128 (logDecay h)) (addf rowNoF (broadcast S128x128 (Scalar.ofBits .f32 0x3F800000#32))))
  | 2 => exp (mulf (broadcast S128x128 (logDecay h)) (subf (broadcast S128x128 (Scalar.ofBits .f32 0x42FE0000#32)) rowNoF))

/-- The mean of each row, repeated along it: the sum over the row divided by 128. -/
def rowMean1 (x : FVec F S128x128 .f32) : FVec F S128x1 .f32 :=
  divf (shapeCast S128x1 (multiReduction .add [1] S128 x 0x00000000#32 reduces_S128x128_S128 (.inl rfl) rfl) shapeCasts_S128_S128x1)
    (broadcast S128x1 (Scalar.ofBits .f32 0x43000000#32))

def spread (x : FVec F S128x1 .f32) : FVec F S128x128 .f32 := broadcastTo S128x128 x broadcasts_S128x1_S128x128

/-- A block through the rotation. -/
def rot (x cs sn : FVec F S128x128 .f32) : FVec F S128x128 .f32 :=
  addf (mulf x cs) (mulf (dynamicRotate 1 64#32 none x rotates_S128x128_d1) sn)

/-- A block back through the rotation. -/
def rotBack (y cs sn : FVec F S128x128 .f32) : FVec F S128x128 .f32 :=
  addf (mulf y cs) (dynamicRotate 1 64#32 none (mulf y sn) rotates_S128x128_d1)

def zero : FVec F S128x128 .f32 := constant S128x128 .f32 0x00000000#32

/-- The three products: `aᵀ b`, `a bᵀ`, `a b`. -/
def tn (a b : FVec F S128x128 .bf16) : FVec F S128x128 .f32 := matmul dot_S128x128_S128x128_S128x128_0_0_1_1_n_n none a b zero
def nt (a b : FVec F S128x128 .bf16) : FVec F S128x128 .f32 := matmul dot_S128x128_S128x128_S128x128_1_1_0_0_n_n none a b zero
def nn (a b : FVec F S128x128 .bf16) : FVec F S128x128 .f32 := matmul dot_S128x128_S128x128_S128x128_1_0_0_1_n_n none a b zero

def half : FVec F S128x128 .f32 := broadcast S128x128 (Scalar.ofBits .f32 0x3F000000#32)
def one : FVec F S128x128 .f32 := broadcast S128x128 (Scalar.ofBits .f32 0x3F800000#32)
def keyScale : FVec F S128x128 .f32 := broadcast S128x128 (Scalar.ofBits .f32 0x3DB504F3#32)

def narrow (x : FVec F S128x128 .f32) : FVec F S128x128 .bf16 := truncf .bf16 x bitsLt_bf16_f32
def widen (x : FVec F S128x128 .bf16) : FVec F S128x128 .f32 := extf .f32 x bitsLt_bf16_f32
def same {e : EltTy} (x : Vec F S128x128 e) : Vec F S128x128 e := shapeCast S128x128 x shapeCasts_S128x128_S128x128

namespace Loads

variable (L : Loads F) (c : Fin 5) (h : Fin 4)

def csB : FVec F S128x128 .f32 := same (e := .f32) (L.cs c)
def snB : FVec F S128x128 .f32 := same (e := .f32) (L.sn c)
def decB (n : Fin 3) : FVec F S128x128 .f32 := shapeCast S128x128 (L.dec n h) shapeCasts_S1x1x128x128_S128x128

def qr : FVec F S128x128 .f32 := rot (widen (same (e := .bf16) (L.q c h))) (L.csB c) (L.snB c)
def kr : FVec F S128x128 .f32 := mulf (rot (widen (same (e := .bf16) (L.k c h))) (L.csB c) (L.snB c)) keyScale
def vb : FVec F S128x128 .bf16 := same (e := .bf16) (L.v c h)

/-- The output centred along its row, its reciprocal deviation, and the normalised output. -/
def oc : FVec F S128x128 .f32 := subf (same (e := .f32) (L.o c h)) (spread (rowMean1 (same (e := .f32) (L.o c h))))
def rs : FVec F S128x128 .f32 :=
  spread (rsqrt (addf (rowMean1 (mulf (L.oc c h) (L.oc c h))) (broadcast S128x1 (Scalar.ofBits .f32 0x358637BD#32))))
def y : FVec F S128x128 .f32 := mulf (L.oc c h) (L.rs c h)

/-- The gate, its logistic value, and the gradient past the gate. -/
def gf : FVec F S128x128 .f32 := widen (same (e := .bf16) (L.g c h))
def sg : FVec F S128x128 .f32 := addf (mulf half (tanh (mulf half (L.gf c h)))) half
def dr : FVec F S128x128 .f32 := same (e := .f32) (L.dret c h)
def wb : FVec F S128x128 .f32 := broadcastTo S128x128 (L.w h) broadcasts_S1x128_S128x128
def dyw : FVec F S128x128 .f32 := mulf (mulf (L.dr c h) (L.gf c h)) (L.sg c h)
def dg : FVec F S128x128 .f32 :=
  mulf (mulf (mulf (mulf (L.dr c h) (L.y c h)) (L.wb h)) (L.sg c h)) (addf one (mulf (L.gf c h) (subf one (L.sg c h))))
def dwSum : FVec F S1x128 .f32 :=
  shapeCast S1x128 (multiReduction .add [0] S128 (mulf (L.dyw c h) (L.y c h)) 0x00000000#32 reduces_S128x128_S128_2 (.inl rfl) rfl) shapeCasts_S128_S1x128
def dy : FVec F S128x128 .f32 := mulf (L.dyw c h) (L.wb h)
/-- The gradient of the retention's output. -/
def dob : FVec F S128x128 .bf16 :=
  narrow (mulf (L.rs c h) (subf (subf (L.dy c h) (spread (rowMean1 (L.dy c h))))
    (mulf (L.y c h) (spread (rowMean1 (mulf (L.dy c h) (L.y c h)))))))

def qb : FVec F S128x128 .bf16 := narrow (L.qr c h)
def kb : FVec F S128x128 .bf16 := narrow (L.kr c h)
def qw : FVec F S128x128 .bf16 := narrow (mulf (L.qr c h) (L.decB h 1))
def kw : FVec F S128x128 .bf16 := narrow (mulf (L.kr c h) (L.decB h 2))
def gnew : FVec F S128x128 .f32 := tn (L.qw c h) (L.dob c h)

/-- The state gradient that has passed the last `n` of the point's five chunks. -/
def state : ℕ → FVec F S128x128 .f32
  | 0 => shapeCast S128x128 (L.gs h) shapeCasts_S1x128x128_S128x128
  | n + 1 => addf (mulf (broadcast S128x128 (chunkDecay h)) (state n)) (L.gnew (Fin.ofNat 5 (4 - n)) h)

def gsb : FVec F S128x128 .bf16 := narrow (L.state h (4 - c.val))
def sb : FVec F S128x128 .bf16 := narrow (shapeCast S128x128 (L.st c h) shapeCasts_S1x1x128x128_S128x128)
def a : FVec F S128x128 .bf16 := narrow (mulf (nt (L.qb c h) (L.kb c h)) (L.decB h 0))
def da : FVec F S128x128 .bf16 := narrow (mulf (nt (L.dob c h) (L.vb c h)) (L.decB h 0))
def dv : FVec F S128x128 .f32 := addf (tn (L.a c h) (L.dob c h)) (nn (L.kw c h) (L.gsb c h))
def dqr : FVec F S128x128 .f32 := addf (nn (L.da c h) (L.kb c h)) (mulf (nt (L.dob c h) (L.sb c h)) (L.decB h 1))
def dkr : FVec F S128x128 .f32 := addf (tn (L.da c h) (L.qb c h)) (mulf (nt (L.vb c h) (L.gsb c h)) (L.decB h 2))

/-- The four blocks a unit stores: the gradients of query, key, value and gate. -/
def dp : Fin 4 → FVec F S128x128 .bf16
  | 0 => narrow (rotBack (L.dqr c h) (L.csB c) (L.snB c))
  | 1 => narrow (mulf (rotBack (L.dkr c h) (L.csB c) (L.snB c)) keyScale)
  | 2 => narrow (L.dv c h)
  | 3 => narrow (L.dg c h)

end Loads

theorem inb_dp (c : Fin 5) (p h : Fin 4) (a : Fin 2) :
    (![128 * c.val, 512 * p.val + 128 * h.val] : Fin 2 → ℕ) a + S128x128.size a ≤ S640x2048.size a := by
  revert c p h a; decide

theorem inb_gs (h : Fin 4) (a : Fin 3) : (![h.val, 0, 0] : Fin 3 → ℕ) a + S1x128x128.size a ≤ S4x128x128.size a := by
  revert h a; decide

theorem inb_dw (h : Fin 4) (a : Fin 2) : (![0, 128 * h.val] : Fin 2 → ℕ) a + S1x128.size a ≤ S1x512.size a := by
  revert h a; decide

/-- One store of the gradient block: part `p` of unit `(c, h)`. -/
def dpPiece (L : Loads F) (c : Fin 5) (h p : Fin 4) : View.Piece (Elt F) S640x2048 .bf16 :=
  ⟨Rect.unit ![128 * c.val, 512 * p.val + 128 * h.val] S128x128.size (inb_dp c p h), L.dp c h p⟩

/-- All stores of the gradient block, the last first. -/
def dpPieces (L : Loads F) : List (View.Piece (Elt F) S640x2048 .bf16) :=
  [4, 3, 2, 1, 0].flatMap fun c => [3, 2, 1, 0].flatMap fun h => [3, 2, 1, 0].map fun p => dpPiece L c h p

def gsPiece (L : Loads F) (h : Fin 4) : View.Piece (Elt F) S4x128x128 .f32 :=
  ⟨Rect.unit ![h.val, 0, 0] S1x128x128.size (inb_gs h), shapeCast S1x128x128 (L.state h 5) shapeCasts_S128x128_S1x128x128⟩

/-- The stores of the carried state gradient. -/
def gsPieces (L : Loads F) : List (View.Piece (Elt F) S4x128x128 .f32) := [3, 2, 1, 0].map (gsPiece L)

/-- The stores of the gain's gradient after `n` units, each adding its row sum to what `rd` reads back. -/
def dwChain (L : Loads F) (rd : ℕ → List (View.Piece (Elt F) S1x512 .f32) → Fin 4 → Vec F S1x128 .f32)
    (base : List (View.Piece (Elt F) S1x512 .f32)) : ℕ → List (View.Piece (Elt F) S1x512 .f32)
  | 0 => base
  | n + 1 => ⟨Rect.unit ![0, 128 * (Fin.ofNat 4 n).val] S1x128.size (inb_dw (Fin.ofNat 4 n)),
      addf (shapeCast S1x128 (rd n (dwChain L rd base n) (Fin.ofNat 4 n)) shapeCasts_S1x128_S1x128)
        (L.dwSum (Fin.ofNat 5 (n / 4)) (Fin.ofNat 4 n))⟩ :: dwChain L rd base n

theorem inb_dec (n : Fin 3) (h : Fin 4) (a : Fin 4) :
    (![n.val, h.val, 0, 0] : Fin 4 → ℕ) a + S1x1x128x128.size a ≤ S3x4x128x128.size a := by
  revert n h a; decide

/-- The stores of the decay tables. -/
def decPiece (h : Fin 4) (n : Fin 3) : View.Piece (Elt F) S3x4x128x128 .f32 :=
  ⟨Rect.unit ![n.val, h.val, 0, 0] S1x1x128x128.size (inb_dec n h), shapeCast S1x1x128x128 (decTable h n) shapeCasts_S128x128_S1x1x128x128⟩

def decPieces : List (View.Piece (Elt F) S3x4x128x128 .f32) :=
  [3, 2, 1, 0].flatMap fun h => [2, 1, 0].map fun n => decPiece h n

/-- The fills of the carried state gradient and of the gain's gradient at the first point. -/
def gsFill : List (View.Piece (Elt F) S4x128x128 .f32) :=
  [⟨Rect.unit ![0, 0, 0] S4x128x128.size inb_S4x128x128_S4x128x128_0_0_0, k0_pay4⟩]
def dwFill : List (View.Piece (Elt F) S1x512 .f32) :=
  [⟨Rect.unit ![0, 0] S1x512.size inb_S1x512_S1x512_0_0, k0_pay5⟩]

end Cert.KernelIdeal.Unit
-- ==== Proof.Match.lean ====
/- What a grid point's run stores is what `Unit` says, for the blocks it loads.

   The run of the first point (case A) reads the scratch arrays it has just filled; the run of a later point
   (case B) reads what the point before left. Apart from that the two are one text. -/
module

public import proofs.«01_k».proof.Proof.Unit
public import proofs.«01_k».proof.Proof.Gen.KernelIdeal.Frame

@[expose] public section

noncomputable section

namespace Cert.KernelIdeal.Unit

open Idealize.ShloMosaic Idealize.ShloMosaic.TcCoe Cert.KernelIdeal Cert.KernelIdeal.Gen
open Idealize.SL.Sem

variable {F : FTy → Type} [FloatOps F] [Named F]

theorem inb_block (c : Fin 5) (h : Fin 4) (a : Fin 2) :
    (![128 * c.val, 128 * h.val] : Fin 2 → ℕ) a + S128x128.size a ≤ S640x512.size a := by
  revert c h a; decide
theorem inb_table (c : Fin 5) (a : Fin 2) :
    (![128 * c.val, 0] : Fin 2 → ℕ) a + S128x128.size a ≤ S640x128.size a := by
  revert c a; decide
theorem inb_st (c : Fin 5) (h : Fin 4) (a : Fin 4) :
    (![c.val, h.val, 0, 0] : Fin 4 → ℕ) a + S1x1x128x128.size a ≤ S5x4x128x128.size a := by
  revert c h a; decide
/-- The rectangles the point loads through. -/
def blockR (c : Fin 5) (h : Fin 4) : Rect S640x512 := Rect.unit ![128 * c.val, 128 * h.val] S128x128.size (inb_block c h)
def tableR (c : Fin 5) : Rect S640x128 := Rect.unit ![128 * c.val, 0] S128x128.size (inb_table c)
def gainR (h : Fin 4) : Rect S1x512 := Rect.unit ![0, 128 * h.val] S1x128.size (inb_dw h)
def stR (c : Fin 5) (h : Fin 4) : Rect S5x4x128x128 := Rect.unit ![c.val, h.val, 0, 0] S1x1x128x128.size (inb_st c h)
def decR (n : Fin 3) (h : Fin 4) : Rect S3x4x128x128 := Rect.unit ![n.val, h.val, 0, 0] S1x1x128x128.size (inb_dec n h)
def gsR (h : Fin 4) : Rect S4x128x128 := Rect.unit ![h.val, 0, 0] S1x128x128.size (inb_gs h)

variable (c : Dev nD) (i : grid0.Coords)
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg11 : Memref sig .tc .vmem S640x2048 .bf16} (harg11 : arg11.IsWhole)
  {arg12 : Memref sig .tc .vmem S1x512 .f32} (harg12 : arg12.IsWhole)
  {arg13 : Memref sig .tc .vmem S4x128x128 .f32} (harg13 : arg13.IsWhole)
  {arg14 : Memref sig .tc .vmem S3x4x128x128 .f32} (harg14 : arg14.IsWhole)
  (x0 x1 x2 x3 : Vec F S640x512 .bf16) (x4 x5 : Vec F S640x128 .f32) (x6 : Vec F S1x512 .f32) (x7 : Vec F S640x512 .f32)
  (x8 : Vec F S5x4x128x128 .f32) (x9 : Vec F S640x512 .f32)
  (xo11 : Vec F S1x512 .f32) (xs0 : Vec F S4x128x128 .f32) (xs1 : Vec F S3x4x128x128 .f32)

/-- The blocks a point loads, the decay tables and the carried state gradient given. -/
def loads (dec : Fin 3 → Fin 4 → Vec F S1x1x128x128 .f32) (gs : Fin 4 → Vec F S1x128x128 .f32) : Loads F where
  q c h := View.readAt (Elt F) arg1.view (blockR c h).toLoadRect (harg1.unread x0)
  k c h := View.readAt (Elt F) arg2.view (blockR c h).toLoadRect (harg2.unread x1)
  v c h := View.readAt (Elt F) arg3.view (blockR c h).toLoadRect (harg3.unread x2)
  g c h := View.readAt (Elt F) arg4.view (blockR c h).toLoadRect (harg4.unread x3)
  cs c := View.readAt (Elt F) arg5.view (tableR c).toLoadRect (harg5.unread x4)
  sn c := View.readAt (Elt F) arg6.view (tableR c).toLoadRect (harg6.unread x5)
  w h := View.readAt (Elt F) arg7.view (gainR h).toLoadRect (harg7.unread x6)
  o c h := View.readAt (Elt F) arg8.view (blockR c h).toLoadRect (harg8.unread x7)
  st c h := View.readAt (Elt F) arg9.view (stR c h).toLoadRect (harg9.unread x8)
  dret c h := View.readAt (Elt F) arg10.view (blockR c h).toLoadRect (harg10.unread x9)
  dec := dec
  gs := gs

/-- The blocks a later point loads. -/
def loadsB : Loads F :=
  loads harg1 harg2 harg3 harg4 harg5 harg6 harg7 harg8 harg9 harg10 x0 x1 x2 x3 x4 x5 x6 x7 x8 x9
    (fun n h => View.readAt (Elt F) arg14.view (decR n h).toLoadRect (harg14.unread xs1))
    (fun h => View.readAt (Elt F) arg13.view (gsR h).toLoadRect (harg13.unread xs0))

/-- The blocks the first point loads: the tables and the carried array are those it has just filled. -/
def loadsA (arg13 : Memref sig .tc .vmem S4x128x128 .f32) (arg14 : Memref sig .tc .vmem S3x4x128x128 .f32) : Loads F :=
  loads harg1 harg2 harg3 harg4 harg5 harg6 harg7 harg8 harg9 harg10 x0 x1 x2 x3 x4 x5 x6 x7 x8 x9
    (fun n h => arg14.view.readCov decPieces (decR n h).toLoadRect)
    (fun h => arg13.view.readCov gsFill (gsR h).toLoadRect)

end Cert.KernelIdeal.Unit
-- ==== Proof.Num.lean ====
/- The float words of the two programs as real numbers, and the operations on extended reals at finite reals. -/
module

public import Idealize.ShloMosaic.Lib.IdealHost

@[expose] public section

noncomputable section

namespace Cert.Num

open Idealize.ShloMosaic

/-- The word of `1/√128`, rounded to a float: the factor on the rotated keys. -/
def scale : ℝ := (0x3504F3 + 2 ^ 23 : ℕ) * (2 : ℝ) ^ (-27 : ℤ)
/-- The word of the norm's `1e-6`. -/
def eps : ℝ := (0x0637BD + 2 ^ 23 : ℕ) * (2 : ℝ) ^ (-43 : ℤ)

theorem eps_pos : 0 < eps := by unfold eps; positivity

theorem w_scale : Ideal.ofBits .f32 0x3DB504F3#32 = (scale : EReal) := by
  unfold scale; simp [Ideal.ofBits, Ideal.ieee, -EReal.coe_mul]
theorem w_eps : Ideal.ofBits .f32 0x358637BD#32 = (eps : EReal) := by
  unfold eps; simp [Ideal.ofBits, Ideal.ieee, -EReal.coe_mul]
theorem w_zero : Ideal.ofBits .f32 0x00000000#32 = ((0 : ℝ) : EReal) := by simp
theorem w_one : Ideal.ofBits .f32 0x3F800000#32 = ((1 : ℝ) : EReal) := by simp
theorem w_two : Ideal.ofBits .f32 0x40000000#32 = ((2 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-(1 / 2) : ℝ) : EReal) := by
  simp [Ideal.ofBits, Ideal.ieee, -EReal.coe_mul, -EReal.coe_neg]; norm_num
theorem w_neg_five : Ideal.ofBits .f32 0xC0A00000#32 = ((-5 : ℝ) : EReal) := by
  simp [Ideal.ofBits, Ideal.ieee, -EReal.coe_mul, -EReal.coe_neg]; norm_num
theorem w_112 : Ideal.ofBits .f32 0x42E00000#32 = ((112 : ℝ) : EReal) := by
  simp [Ideal.ofBits, Ideal.ieee, -EReal.coe_mul]; norm_num
theorem w_127 : Ideal.ofBits .f32 0x42FE0000#32 = ((127 : ℝ) : EReal) := by
  simp [Ideal.ofBits, Ideal.ieee, -EReal.coe_mul]; norm_num
theorem w_128 : Ideal.ofBits .f32 0x43000000#32 = ((128 : ℝ) : EReal) := by
  simp [Ideal.ofBits, Ideal.ieee, -EReal.coe_mul]; norm_num
theorem w_10000 : Ideal.ofBits .f32 0x461C4000#32 = ((10000 : ℝ) : EReal) := by
  simp [Ideal.ofBits, Ideal.ieee, -EReal.coe_mul]; norm_num

/-- A finite sum of finite reals is the real sum. -/
theorem sum_coe {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A sum whose terms are finite reals. -/
theorem sum_eq {ι : Type} [Fintype ι] {g : ι → EReal} {f : ι → ℝ} (h : ∀ i, g i = (f i : EReal)) :
    (∑ i, g i) = ((∑ i, f i : ℝ) : EReal) := by
  rw [← sum_coe]; exact Finset.sum_congr rfl fun i _ => h i

/-- Division of finite reals by one that is not zero. -/
theorem div_eq (a : ℝ) {b : ℝ} (hb : b ≠ 0) : Ideal.div (a : EReal) (b : EReal) = ((a / b : ℝ) : EReal) := by
  rw [Ideal.div_coe hb, ← EReal.coe_mul]; congr 1; ring

/-- The reciprocal root of a positive real. -/
theorem rsqrt_eq {a : ℝ} (ha : 0 < a) : Ideal.rsqrt (a : EReal) = (((Real.sqrt a)⁻¹ : ℝ) : EReal) := by
  rw [Ideal.rsqrt_coe, if_neg (not_lt.mpr ha.le), if_neg ha.ne']

/-- The gate `1/(1+e^{-x})` as the kernel forms it. -/
theorem half_tanh (x : ℝ) : 1 / 2 * Real.tanh (1 / 2 * x) + 1 / 2 = (1 + Real.exp (-x))⁻¹ := by
  have h : Real.exp (-x) = Real.exp (-(1 / 2 * x)) * Real.exp (-(1 / 2 * x)) := by rw [← Real.exp_add]; ring_nf
  have h1 : Real.exp (1 / 2 * x) * Real.exp (-(1 / 2 * x)) = 1 := by rw [← Real.exp_add]; simp
  rw [Real.tanh_eq_sinh_div_cosh, Real.sinh_eq, Real.cosh_eq, h]
  have p := Real.exp_pos (1 / 2 * x)
  have q := Real.exp_pos (-(1 / 2 * x))
  generalize Real.exp (1 / 2 * x) = a at *
  generalize Real.exp (-(1 / 2 * x)) = b at *
  have : a + b ≠ 0 := by positivity
  have : 1 + b * b ≠ 0 := by positivity
  field_simp
  linear_combination 2 * b * h1

end Cert.Num

end
-- ==== Proof.Decay.lean ====
/- Sums with a decaying weight, cut into chunks of 128 rows: one head of the retention. Everything here is over the
   real numbers, rows are counted from the start of the padded sequence. -/
module

public import Mathlib.Analysis.SpecialFunctions.Log.Basic
public import Mathlib.Tactic.Linarith
public import Mathlib.Tactic.Ring

@[expose] public section

noncomputable section

namespace Cert.Decay

open Finset

/-- The weight of row `j` in row `i`: `γ^(i-j)` at and below the diagonal, nothing above it. -/
def wt (γ : ℝ) (i j : ℕ) : ℝ := if j ≤ i then γ ^ (i - j) else 0

theorem wt_add (γ : ℝ) (a i j : ℕ) : wt γ (a + i) (a + j) = wt γ i j := by
  unfold wt; rw [Nat.add_sub_add_left]; simp only [Nat.add_le_add_iff_left]

/-- A sum over the rows from `j` on, `j` in row `s` of chunk `n` of `N`: the chunk's own rows, then the rows of the
    later chunks weighted from the chunk's end. -/
theorem later (γ : ℝ) (F : ℕ → ℝ) {N n s : ℕ} (hn : n < N) (hs : s < 128) :
    ∑ i ∈ range (128 * N), wt γ i (128 * n + s) * F i =
      (∑ r ∈ range 128, wt γ r s * F (128 * n + r))
        + γ ^ (127 - s) * ∑ x ∈ range (128 * (N - 1 - n)), γ ^ (x + 1) * F (128 * (n + 1) + x) := by
  have e : 128 * N = 128 * n + (128 + 128 * (N - 1 - n)) := by omega
  rw [e, sum_range_add, sum_range_add]
  have z : ∑ i ∈ range (128 * n), wt γ i (128 * n + s) * F i = 0 := by
    refine sum_eq_zero fun i hi => ?_
    rw [mem_range] at hi
    rw [wt, if_neg (by omega), zero_mul]
  rw [z, zero_add, mul_sum]
  congr 1
  · exact sum_congr rfl fun r _ => by rw [wt_add]
  · refine sum_congr rfl fun x _ => ?_
    rw [wt_add, wt, if_pos (by omega), show 128 * n + (128 + x) = 128 * (n + 1) + x by ring, ← mul_assoc, ← pow_add]
    congr 2; omega

/-- A sum over the rows up to `i`, `i` in row `r` of chunk `n` of `N`: the chunk's own rows, then the rows of the
    earlier chunks weighted up to the chunk's start. -/
theorem earlier (γ : ℝ) (F : ℕ → ℝ) {N n r : ℕ} (hn : n < N) (hr : r < 128) :
    ∑ j ∈ range (128 * N), wt γ (128 * n + r) j * F j =
      (∑ s ∈ range 128, wt γ r s * F (128 * n + s))
        + γ ^ (r + 1) * ∑ j ∈ range (128 * n), γ ^ (128 * n - 1 - j) * F j := by
  have e : 128 * N = 128 * n + (128 + 128 * (N - 1 - n)) := by omega
  rw [e, sum_range_add, sum_range_add]
  have z : ∑ x ∈ range (128 * (N - 1 - n)), wt γ (128 * n + r) (128 * n + (128 + x)) * F (128 * n + (128 + x)) = 0 := by
    refine sum_eq_zero fun x _ => ?_
    rw [wt, if_neg (by omega), zero_mul]
  rw [z, add_zero, add_comm, mul_sum]
  congr 1
  · exact sum_congr rfl fun s _ => by rw [wt_add]
  · refine sum_congr rfl fun j hj => ?_
    rw [mem_range] at hj
    rw [wt, if_pos (by omega), ← mul_assoc, ← pow_add]
    congr 2; omega

/-- What the walk over the chunks from the last to the first carries: after `m` of the `N` chunks, starting from
    nothing, each step scaling by `γ^128` and adding the chunk's own weighted rows. -/
def carried (γ : ℝ) (N : ℕ) (F : ℕ → ℝ) : ℕ → ℝ
  | 0 => 0
  | m + 1 => γ ^ 128 * carried γ N F m + ∑ r ∈ range 128, γ ^ (r + 1) * F (128 * (N - 1 - m) + r)

/-- The carried value in one sum: the rows of the `m` last chunks, weighted from the start of the first of them. -/
theorem carried_eq (γ : ℝ) (N : ℕ) (F : ℕ → ℝ) : ∀ m, m ≤ N →
    carried γ N F m = ∑ x ∈ range (128 * m), γ ^ (x + 1) * F (128 * (N - m) + x)
  | 0, _ => by simp [carried]
  | m + 1, h => by
    rw [carried, carried_eq γ N F m (by omega), show 128 * (m + 1) = 128 + 128 * m by ring, sum_range_add, add_comm, mul_sum]
    congr 1
    · exact sum_congr rfl fun r _ => by rw [show N - (m + 1) = N - 1 - m by omega]
    · refine sum_congr rfl fun x _ => ?_
      rw [show 128 * (N - (m + 1)) + (128 + x) = 128 * (N - m) + x by omega, ← mul_assoc, ← pow_add]
      congr 2

/-- A sum over the padded rows of terms that vanish on the padding is the sum over the tokens. -/
theorem tokens (F : ℕ → ℝ) {a L : ℕ} (h : ∀ p, p < a → F p = 0) :
    ∑ p ∈ range (a + L), F p = ∑ t : Fin L, F (a + t.val) := by
  rw [sum_range_add, sum_eq_zero (fun p hp => h p (mem_range.mp hp)), zero_add, ← Fin.sum_univ_eq_sum_range (fun t => F (a + t))]

/-- The gradient with respect to the values, row `s` of chunk `n`: the chunk's own block and the carried state give the
    sum over all later rows. -/
theorem dv_chunk (γ : ℝ) (Q K D : ℕ → Fin 128 → ℝ) {N n s : ℕ} (hn : n < N) (hs : s < 128) (e : Fin 128) :
    (∑ r : Fin 128, (∑ d, Q (128 * n + r.val) d * K (128 * n + s) d) * wt γ r.val s * D (128 * n + r.val) e)
      + ∑ d, K (128 * n + s) d * γ ^ (127 - s) * carried γ N (fun i => Q i d * D i e) (N - 1 - n)
    = ∑ i ∈ range (128 * N), wt γ i (128 * n + s) * ((∑ d, Q i d * K (128 * n + s) d) * D i e) := by
  rw [later γ (fun i => (∑ d, Q i d * K (128 * n + s) d) * D i e) hn hs]
  congr 1
  · rw [← Fin.sum_univ_eq_sum_range (fun r => wt γ r s * ((∑ d, Q (128 * n + r) d * K (128 * n + s) d) * D (128 * n + r) e))]
    exact sum_congr rfl fun r _ => by ring
  · rw [mul_sum]
    simp only [carried_eq γ N _ (N - 1 - n) (by omega), show N - (N - 1 - n) = n + 1 by omega, mul_sum, sum_mul]
    rw [sum_comm]
    exact sum_congr rfl fun x _ => sum_congr rfl fun d _ => by ring

/-- The gradient with respect to the keys, row `s` of chunk `n`. -/
theorem dk_chunk (γ : ℝ) (Q V D : ℕ → Fin 128 → ℝ) {N n s : ℕ} (hn : n < N) (hs : s < 128) (d : Fin 128) :
    (∑ r : Fin 128, (∑ e, D (128 * n + r.val) e * V (128 * n + s) e) * wt γ r.val s * Q (128 * n + r.val) d)
      + (∑ e, V (128 * n + s) e * carried γ N (fun i => Q i d * D i e) (N - 1 - n)) * γ ^ (127 - s)
    = ∑ i ∈ range (128 * N), wt γ i (128 * n + s) * ((∑ e, D i e * V (128 * n + s) e) * Q i d) := by
  rw [later γ (fun i => (∑ e, D i e * V (128 * n + s) e) * Q i d) hn hs]
  congr 1
  · rw [← Fin.sum_univ_eq_sum_range (fun r => wt γ r s * ((∑ e, D (128 * n + r) e * V (128 * n + s) e) * Q (128 * n + r) d))]
    exact sum_congr rfl fun r _ => by ring
  · rw [mul_sum]
    simp only [carried_eq γ N _ (N - 1 - n) (by omega), show N - (N - 1 - n) = n + 1 by omega, mul_sum, sum_mul]
    rw [sum_comm]
    exact sum_congr rfl fun x _ => sum_congr rfl fun e _ => by ring

/-- The gradient with respect to the queries, row `r` of chunk `n`: the chunk's own block and the state that entered the
    chunk give the sum over all earlier rows. -/
theorem dq_chunk (γ : ℝ) (K V D : ℕ → Fin 128 → ℝ) {N n r : ℕ} (hn : n < N) (hr : r < 128) (d : Fin 128) :
    (∑ s : Fin 128, (∑ e, D (128 * n + r) e * V (128 * n + s.val) e) * wt γ r s.val * K (128 * n + s.val) d)
      + (∑ e, D (128 * n + r) e * ∑ j ∈ range (128 * n), γ ^ (128 * n - 1 - j) * (K j d * V j e)) * γ ^ (r + 1)
    = ∑ j ∈ range (128 * N), wt γ (128 * n + r) j * ((∑ e, D (128 * n + r) e * V j e) * K j d) := by
  rw [earlier γ (fun j => (∑ e, D (128 * n + r) e * V j e) * K j d) hn hr]
  congr 1
  · rw [← Fin.sum_univ_eq_sum_range (fun s => wt γ r s * ((∑ e, D (128 * n + r) e * V (128 * n + s) e) * K (128 * n + s) d))]
    exact sum_congr rfl fun s _ => by ring
  · rw [mul_sum]
    simp only [mul_sum, sum_mul]
    rw [sum_comm]
    exact sum_congr rfl fun x _ => sum_congr rfl fun e _ => by ring

/-- The state that enters chunk `n`, as a sum over the tokens that follow `a` rows of padding. -/
theorem entering (γ : ℝ) (F : ℕ → ℝ) {a L n : ℕ} (h : ∀ p, p < a → F p = 0) (hn : 128 * n ≤ a + L) :
    (∑ t : Fin L, (if a + t.val + 1 ≤ 128 * n then γ ^ (128 * n - 1 - (a + t.val)) else 0) * F (a + t.val))
      = ∑ j ∈ range (128 * n), γ ^ (128 * n - 1 - j) * F j := by
  rw [← tokens (fun p => (if p + 1 ≤ 128 * n then γ ^ (128 * n - 1 - p) else 0) * F p) (fun p hp => by simp only [h p hp, mul_zero])]
  rw [show a + L = 128 * n + (a + L - 128 * n) by omega, sum_range_add]
  rw [sum_eq_zero (s := range (a + L - 128 * n)) (fun x _ => by rw [if_neg (by omega), zero_mul]), add_zero]
  refine sum_congr rfl fun p hp => ?_
  rw [mem_range] at hp
  rw [if_pos (by omega)]

/-- The decay as the programs form it. -/
theorem exp_log {γ : ℝ} (hγ : 0 < γ) (n : ℕ) : Real.exp (Real.log γ * (n : ℝ)) = γ ^ n := by
  rw [mul_comm, Real.exp_nat_mul, Real.exp_log hγ]

end Cert.Decay

end
-- ==== Proof.Words.lean ====
/- Row numbers as machine integers, and the decay table entry they select. -/
module

public import proofs.«01_k».proof.Proof.Num
public import proofs.«01_k».proof.Proof.Decay

@[expose] public section

noncomputable section

namespace Cert.Words

open Idealize.ShloMosaic

theorem toInt_ofNat {n : ℕ} (h : n < 2 ^ 31) : (BitVec.ofNat 32 n).toInt = n := by
  rw [BitVec.toInt_eq_toNat_cond, BitVec.toNat_ofNat, Nat.mod_eq_of_lt (by omega)]
  rw [if_pos (by omega)]

/-- The difference of two row numbers. -/
theorem toInt_sub {i j : ℕ} (hi : i < 2 ^ 30) (hj : j < 2 ^ 30) :
    (BitVec.ofNat 32 i - BitVec.ofNat 32 j).toInt = (i : ℤ) - j := by
  rw [BitVec.toInt_sub, toInt_ofNat (by omega), toInt_ofNat (by omega)]
  exact Int.bmod_eq_of_le (by omega) (by omega)

theorem toInt_maxsi_zero (b : BitVec 32) : (IntOp.maxsi b 0#32).toInt = max b.toInt 0 := by
  unfold IntOp.maxsi
  by_cases h : 0 < b.toInt
  · rw [if_pos (BitVec.slt_iff_toInt_lt.mpr (by simpa using h))]; omega
  · rw [if_neg (fun k => h (by simpa using BitVec.slt_iff_toInt_lt.mp k))]; simp; omega

/-- The table's entry at distance `z`: `γ^z`, or zero before the row. -/
theorem entry {γ : ℝ} (hk : 0 < γ) {b : BitVec 32} {z : ℤ} (hb : b.toInt = z) :
    Scalar.select (α := EReal) (IntOp.cmpi .sge b 0#32)
      (Ideal.exp (((Real.log (γ) : ℝ) : EReal) * (((IntOp.maxsi b 0#32).toInt : ℝ) : EReal))) (((0 : ℝ) : EReal))
      = ((if 0 ≤ z then γ ^ z.toNat else 0 : ℝ) : EReal) := by
  rw [toInt_maxsi_zero, hb, ← EReal.coe_mul, Ideal.exp_coe]
  by_cases hz : 0 ≤ z
  · have hc : IntOp.cmpi .sge b 0#32 = 1#1 := by
      have : (0#32).sle b = true := BitVec.sle_iff_toInt_le.mpr (by simpa [hb] using hz)
      show BitVec.ofBool ((0#32).sle b) = 1#1
      rw [this]; rfl
    rw [hc, if_pos hz]
    have : ((max z 0 : ℤ) : ℝ) = ((z.toNat : ℕ) : ℝ) := by
      rw [max_eq_left hz]; exact_mod_cast (Int.toNat_of_nonneg hz).symm
    rw [this, Decay.exp_log hk]; rfl
  · have hc : IntOp.cmpi .sge b 0#32 = 0#1 := by
      have : (0#32).sle b = false := by
        rw [Bool.eq_false_iff]; intro k; exact hz (by simpa [hb] using BitVec.sle_iff_toInt_le.mp k)
      show BitVec.ofBool ((0#32).sle b) = 0#1
      rw [this]; rfl
    rw [hc, if_neg hz]; rfl

theorem wt_eq (γ : ℝ) (i j : ℕ) : (if 0 ≤ (i : ℤ) - j then γ ^ ((i : ℤ) - j).toNat else 0 : ℝ) = Decay.wt γ i j := by
  unfold Decay.wt
  by_cases h : j ≤ i
  · rw [if_pos h, if_pos (by omega)]; congr 1; omega
  · rw [if_neg h, if_neg (by omega)]

end Cert.Words

end
-- ==== Proof.Spec.lean ====
/- What the backward pass of the retention heads computes, in real numbers. -/
module

public import proofs.«01_k».proof.Proof.Num
public import proofs.«01_k».proof.Proof.Decay

@[expose] public section

noncomputable section

namespace Cert.Spec

open Finset

/-- The finite inputs: queries, keys, values and gates by token, head and lane, the norm's gain, the incoming gradient. -/
structure In where
  q : Fin 8208 → Fin 4 → Fin 128 → ℝ
  k : Fin 8208 → Fin 4 → Fin 128 → ℝ
  v : Fin 8208 → Fin 4 → Fin 128 → ℝ
  g : Fin 8208 → Fin 4 → Fin 128 → ℝ
  w : Fin 4 → Fin 128 → ℝ
  dret : Fin 8208 → Fin 4 → Fin 128 → ℝ

/-- A lane of the first half, and one of the second. -/
def lo (m : Fin 64) : Fin 128 := ⟨m.val, by omega⟩
def hi (m : Fin 64) : Fin 128 := ⟨64 + m.val, by omega⟩

/-- The rotary frequency of lane pair `m`. -/
def freq (m : Fin 64) : ℝ := 1 / (10000 : ℝ) ^ ((0 + 2 * (m.val : ℝ)) / 128)
def ang (t : ℝ) (m : Fin 64) : ℝ := t * freq m

/-- Lane `d` paired: its place in its half. -/
def pairOf (d : Fin 128) : Fin 64 := ⟨d.val % 64, by omega⟩

/-- Rotation of the lane pairs by the angles `a`, and its transpose. -/
def rot (x : Fin 128 → ℝ) (a : Fin 64 → ℝ) (d : Fin 128) : ℝ :=
  if d.val < 64 then x (lo (pairOf d)) * Real.cos (a (pairOf d)) - x (hi (pairOf d)) * Real.sin (a (pairOf d))
  else x (lo (pairOf d)) * Real.sin (a (pairOf d)) + x (hi (pairOf d)) * Real.cos (a (pairOf d))
def unrot (y : Fin 128 → ℝ) (a : Fin 64 → ℝ) (d : Fin 128) : ℝ :=
  if d.val < 64 then y (hi (pairOf d)) * Real.sin (a (pairOf d)) + y (lo (pairOf d)) * Real.cos (a (pairOf d))
  else y (hi (pairOf d)) * Real.cos (a (pairOf d)) + -y (lo (pairOf d)) * Real.sin (a (pairOf d))

/-- The decay of head `h`. -/
def gam (h : Fin 4) : ℝ := 1 - 1 / 2 ^ (5 + h.val)

theorem gam_pos (h : Fin 4) : 0 < gam h := by
  unfold gam
  have : (1 : ℝ) / 2 ^ (5 + h.val) < 1 := by
    rw [div_lt_one (by positivity)]; exact one_lt_pow₀ (by norm_num) (by omega)
  linarith

/-- Layer norm of one row of a head without its gain, and the gradient through it. -/
def mean (o : Fin 128 → ℝ) : ℝ := (∑ e, o e) / 128
def centred (o : Fin 128 → ℝ) (e : Fin 128) : ℝ := o e - mean o
def var (o : Fin 128 → ℝ) : ℝ := (∑ e, centred o e * centred o e) / 128
def rs (o : Fin 128 → ℝ) : ℝ := (Real.sqrt (var o + Num.eps))⁻¹
def normed (o : Fin 128 → ℝ) (e : Fin 128) : ℝ := centred o e * rs o
def normBwd (o dy : Fin 128 → ℝ) (e : Fin 128) : ℝ :=
  rs o * (dy e - (∑ j, dy j) / 128 - normed o e * ((∑ j, dy j * normed o j) / 128))

theorem var_pos (o : Fin 128 → ℝ) : 0 < var o + Num.eps := by
  have : 0 ≤ var o := div_nonneg (sum_nonneg fun e _ => mul_self_nonneg _) (by norm_num)
  linarith [Num.eps_pos]

theorem sum_centred (o : Fin 128 → ℝ) : ∑ e, centred o e = 0 := by
  simp only [centred, sum_sub_distrib, sum_const, card_univ, Fintype.card_fin, mean, nsmul_eq_mul]
  push_cast; ring

/-- The gradient through the norm as reverse differentiation writes it: through the variance, through the centring and
    straight through. -/
theorem normBwd_eq (o dy : Fin 128 → ℝ) (e : Fin 128) :
    (dy e * rs o + ((∑ j, centred o j * dy j) * (-(1 / 2) * (rs o / (var o + Num.eps))) / 128) * (2 * centred o e))
      + ((∑ j, -(dy j * rs o)) + ∑ j, -(((∑ j, centred o j * dy j) * (-(1 / 2) * (rs o / (var o + Num.eps))) / 128) * (2 * centred o j))) / 128
    = normBwd o dy e := by
  have h2 : ∑ j, -(((∑ j, centred o j * dy j) * (-(1 / 2) * (rs o / (var o + Num.eps))) / 128) * (2 * centred o j)) = 0 := by
    rw [sum_neg_distrib, ← mul_sum, ← mul_sum, sum_centred]; ring
  have h1 : ∑ j, -(dy j * rs o) = -(∑ j, dy j) * rs o := by rw [sum_neg_distrib, ← sum_mul]; ring
  have h3 : ∑ j, dy j * normed o j = rs o * ∑ j, centred o j * dy j := by
    rw [mul_sum]; exact sum_congr rfl fun j _ => by unfold normed; ring
  have hr : rs o / (var o + Num.eps) = rs o * (rs o * rs o) := by
    have hp := var_pos o
    unfold rs
    rw [← mul_inv, Real.mul_self_sqrt hp.le]; rfl
  rw [h2, h1, hr]; unfold normBwd; rw [h3]; unfold normed; ring

/-- The gate of `silu` and its derivative's second factor. -/
def sig (x : ℝ) : ℝ := (1 + Real.exp (-x))⁻¹

namespace In

variable (X : In)

def qh (t : Fin 8208) (h : Fin 4) : Fin 128 → ℝ := rot (X.q t h) (ang (t.val : ℝ))
def kh (t : Fin 8208) (h : Fin 4) (d : Fin 128) : ℝ := rot (X.k t h) (ang (t.val : ℝ)) d * Num.scale
/-- The weights of the retention: entry `(i, j)` for `j ≤ i`. -/
def att (h : Fin 4) (i j : Fin 8208) : ℝ := (∑ d, X.qh i h d * X.kh j h d) * Decay.wt (gam h) i.val j.val
def o (i : Fin 8208) (h : Fin 4) (e : Fin 128) : ℝ := ∑ j, X.v j h e * X.att h i j
def y (t : Fin 8208) (h : Fin 4) : Fin 128 → ℝ := normed (X.o t h)
/-- The gradient at the gated gain, before and after the gain. -/
def dyw (t : Fin 8208) (h : Fin 4) (d : Fin 128) : ℝ := X.g t h d * sig (X.g t h d) * X.dret t h d
def dw (h : Fin 4) (d : Fin 128) : ℝ := ∑ t, X.y t h d * X.dyw t h d
def dg (t : Fin 8208) (h : Fin 4) (d : Fin 128) : ℝ :=
  X.dret t h d * (X.y t h d * X.w h d) * sig (X.g t h d)
    + X.g t h d * (X.dret t h d * (X.y t h d * X.w h d)) * (sig (X.g t h d) * (1 - sig (X.g t h d)))
def dO (t : Fin 8208) (h : Fin 4) : Fin 128 → ℝ := normBwd (X.o t h) (fun d => X.dyw t h d * X.w h d)
/-- The gradient at the scores. -/
def ds (h : Fin 4) (i j : Fin 8208) : ℝ := (∑ e, X.dO i h e * X.v j h e) * Decay.wt (gam h) i.val j.val
def dv (j : Fin 8208) (h : Fin 4) (e : Fin 128) : ℝ := ∑ i, X.dO i h e * X.att h i j
def dkh (j : Fin 8208) (h : Fin 4) (d : Fin 128) : ℝ := ∑ i, X.ds h i j * X.qh i h d
def dqh (i : Fin 8208) (h : Fin 4) (d : Fin 128) : ℝ := ∑ j, X.ds h i j * X.kh j h d
def dk (t : Fin 8208) (h : Fin 4) : Fin 128 → ℝ := unrot (fun d => X.dkh t h d * Num.scale) (ang (t.val : ℝ))
def dq (t : Fin 8208) (h : Fin 4) : Fin 128 → ℝ := unrot (X.dqh t h) (ang (t.val : ℝ))

/-- The four gradients side by side, lane by lane: queries, keys, values, gates. -/
def dp (t : Fin 8208) (c : Fin 4) (h : Fin 4) (d : Fin 128) : ℝ :=
  match c with
  | 0 => X.dq t h d
  | 1 => X.dk t h d
  | 2 => X.dv t h d
  | 3 => X.dg t h d

end In

end Cert.Spec

end
-- ==== Proof.UnitOps.lean ====
/- The operations of a grid point's body on blocks of finite reals.

   `Is x f` says that the block `x` holds the reals `f`; each lemma gives the reals of an operation's result. -/
module

public import proofs.«01_k».proof.Proof.Unit
public import proofs.«01_k».proof.Proof.Words
public import proofs.«01_k».proof.Proof.Spec
public import Idealize.ShloMosaic.Lib.KernelVsHost
public import Idealize.ShloMosaic.Lib.ValueLayout
public import Idealize.ShloMosaic.Lib.ValueLayoutCasts
public import Idealize.ShloMosaic.Lib.Pointwise.Contract

@[expose] public section

noncomputable section

namespace Cert.KernelIdeal.Unit

open Idealize.ShloMosaic hiding ix1 ix2 ix3 ix4
open Cert.KernelIdeal Cert.KernelIdeal.Gen Idealize.ShloMosaic.ValueIdx
open Cert.Spec (rs normed normBwd centred mean var sig gam lo hi pairOf)

/-- The block holds these reals. -/
def Is {φ : FTy} (x : FVec Ideal S128x128 φ) (f : Fin 128 → Fin 128 → ℝ) : Prop :=
  ∀ r d : Fin 128, x (ix2 r d) = ((f r d : ℝ) : EReal)

variable {φ : FTy} {x y : FVec Ideal S128x128 φ} {f g : Fin 128 → Fin 128 → ℝ}

theorem Is.congr (hx : Is x f) (h : ∀ r d, f r d = g r d) : Is x g := fun r d => by rw [hx, h]

theorem Is.add (hx : Is x f) (hy : Is y g) : Is (addf x y) fun r d => f r d + g r d := fun r d => by
  show FloatOps.addf _ _ = _
  rw [hx, hy, Ideal.addf_def, EReal.coe_add]
theorem Is.sub (hx : Is x f) (hy : Is y g) : Is (subf x y) fun r d => f r d - g r d := fun r d => by
  show FloatOps.subf _ _ = _
  rw [hx, hy, Ideal.subf_def, EReal.coe_sub]
theorem Is.mul (hx : Is x f) (hy : Is y g) : Is (mulf x y) fun r d => f r d * g r d := fun r d => by
  show FloatOps.mulf _ _ = _
  rw [hx, hy, Ideal.mulf_def, EReal.coe_mul]

theorem Is.narrow {x : FVec Ideal S128x128 .f32} (hx : Is x f) : Is (narrow x) f := hx
theorem Is.widen {x : FVec Ideal S128x128 .bf16} (hx : Is x f) : Is (widen x) f := hx
theorem Is.sameF {x : FVec Ideal S128x128 .f32} (hx : Is x f) : Is (φ := .f32) (same (F := Ideal) (e := .f32) x) f := by
  unfold Unit.same; rw [shapeCast_self]; exact hx
theorem Is.sameB {x : FVec Ideal S128x128 .bf16} (hx : Is x f) : Is (φ := .bf16) (same (F := Ideal) (e := .bf16) x) f := by
  unfold Unit.same; rw [shapeCast_self]; exact hx

theorem is_half : Is half fun _ _ => 1 / 2 := fun _ _ => Num.w_half
theorem is_one : Is one fun _ _ => 1 := fun _ _ => Num.w_one
theorem is_scale : Is keyScale fun _ _ => Num.scale := fun _ _ => Num.w_scale

theorem Is.tanh {x : FVec Ideal S128x128 .f32} (hx : Is x f) : Is (tanh x) fun r d => Real.tanh (f r d) := fun r d => by
  show Ideal.tanh (x (ix2 r d)) = _
  rw [hx, Ideal.tanh_coe]

/-- A column of reals, one per row. -/
def IsCol (x : FVec Ideal S128x1 .f32) (f : Fin 128 → ℝ) : Prop := ∀ r : Fin 128, ∀ u : Fin 1, x (ix2 r u) = ((f r : ℝ) : EReal)

theorem Is.rowMean {x : FVec Ideal S128x128 .f32} (hx : Is x f) : IsCol (rowMean1 x) fun r => (∑ d, f r d) / 128 := fun r u => by
  show FloatOps.divf _ _ = _
  rw [shapeCast_a_a1_apply]
  have e : (∑ k : Fin 128, x (reduces_S128x128_S128.lift (ix1 r) k)) = ((∑ d, f r d : ℝ) : EReal) :=
    Num.sum_eq fun k => by rw [← hx r k]; congr 1; funext a; match a with | ⟨0, _⟩ => rfl | ⟨1, _⟩ => rfl
  refine (congrArg₂ FloatOps.divf ((Ideal.multiReduction_add_single _ _ _ _ _ _).trans e) Num.w_128).trans ?_
  exact Num.div_eq _ (by norm_num)

theorem IsCol.spread {x : FVec Ideal S128x1 .f32} {f : Fin 128 → ℝ} (hx : IsCol x f) : Is (spread x) fun r _ => f r := fun r d => by
  unfold Unit.spread
  rw [broadcastTo_apply x broadcasts_S128x1_S128x128 (ix2 r d) (ix2 r 0) (fun a => by match a with | ⟨0, _⟩ => rfl | ⟨1, _⟩ => rfl)]
  exact hx r 0

/-- The reciprocal root of a column, shifted by the norm's constant. -/
theorem IsCol.rsqrt {x : FVec Ideal S128x1 .f32} {f : Fin 128 → ℝ} (hx : IsCol x f) (hp : ∀ r, 0 < f r + Num.eps) :
    IsCol (rsqrt (addf x (broadcast S128x1 (Scalar.ofBits .f32 0x358637BD#32)))) fun r => (Real.sqrt (f r + Num.eps))⁻¹ := fun r u => by
  show Ideal.rsqrt (FloatOps.addf (x (ix2 r u)) (Ideal.ofBits .f32 0x358637BD#32)) = _
  rw [hx, Num.w_eps, Ideal.addf_def, ← EReal.coe_add, Num.rsqrt_eq (hp r)]

/-- The sum of each column, as a row. -/
theorem Is.colSum {x : FVec Ideal S128x128 .f32} (hx : Is x f) (u : Fin 1) (d : Fin 128) :
    shapeCast S1x128 (multiReduction .add [0] S128 x 0x00000000#32 reduces_S128x128_S128_2 (.inl rfl) rfl) shapeCasts_S128_S1x128 (ix2 u d)
      = ((∑ r, f r d : ℝ) : EReal) := by
  rw [shapeCast_a_1a_apply]
  refine (Ideal.multiReduction_add_single _ _ _ _ _ _).trans ?_
  exact Num.sum_eq fun k => by rw [← hx k d]; congr 1; funext a; match a with | ⟨0, _⟩ => rfl | ⟨1, _⟩ => rfl

theorem is_wb {w : FVec Ideal S1x128 .f32} {v : Fin 128 → ℝ} (hw : ∀ d, w (ix2 0 d) = ((v d : ℝ) : EReal)) :
    Is (broadcastTo S128x128 w broadcasts_S1x128_S128x128) fun _ d => v d := fun r d => by
  rw [broadcastTo_1b_ab_apply, hw]

section products
variable {a b : FVec Ideal S128x128 .bf16}

theorem Is.tn (ha : Is a f) (hb : Is b g) : Is (tn a b) fun r d => ∑ k, f k r * g k d := fun r d => by
  show Ideal.matmul _ _ _ _ _ = _
  rw [Ideal.matmul_apply₁ _ (a := 0) rfl (K := 128) rfl]
  refine (congrArg₂ (· + ·) Num.w_zero (Num.sum_eq (f := fun k => f k r * g k d) fun k => ?_)).trans (by rw [← EReal.coe_add, zero_add])
  rw [EReal.coe_mul]
  exact congrArg₂ (· * ·) ((congrArg a (by funext z; match z with | ⟨0, _⟩ => rfl | ⟨1, _⟩ => rfl)).trans (ha k r))
    ((congrArg b (by funext z; match z with | ⟨0, _⟩ => rfl | ⟨1, _⟩ => rfl)).trans (hb k d))
theorem Is.nt (ha : Is a f) (hb : Is b g) : Is (nt a b) fun r d => ∑ k, f r k * g d k := fun r d => by
  show Ideal.matmul _ _ _ _ _ = _
  rw [Ideal.matmul_apply₁ _ (a := 1) rfl (K := 128) rfl]
  refine (congrArg₂ (· + ·) Num.w_zero (Num.sum_eq (f := fun k => f r k * g d k) fun k => ?_)).trans (by rw [← EReal.coe_add, zero_add])
  rw [EReal.coe_mul]
  exact congrArg₂ (· * ·) ((congrArg a (by funext z; match z with | ⟨0, _⟩ => rfl | ⟨1, _⟩ => rfl)).trans (ha r k))
    ((congrArg b (by funext z; match z with | ⟨0, _⟩ => rfl | ⟨1, _⟩ => rfl)).trans (hb d k))
theorem Is.nn (ha : Is a f) (hb : Is b g) : Is (nn a b) fun r d => ∑ k, f r k * g k d := fun r d => by
  show Ideal.matmul _ _ _ _ _ = _
  rw [Ideal.matmul_apply₁ _ (a := 1) rfl (K := 128) rfl]
  refine (congrArg₂ (· + ·) Num.w_zero (Num.sum_eq (f := fun k => f r k * g k d) fun k => ?_)).trans (by rw [← EReal.coe_add, zero_add])
  rw [EReal.coe_mul]
  exact congrArg₂ (· * ·) ((congrArg a (by funext z; match z with | ⟨0, _⟩ => rfl | ⟨1, _⟩ => rfl)).trans (ha r k))
    ((congrArg b (by funext z; match z with | ⟨0, _⟩ => rfl | ⟨1, _⟩ => rfl)).trans (hb k d))

end products

/-- The lane half a row away. -/
def opp (d : Fin 128) : Fin 128 := ⟨(d.val + 64) % 128, Nat.mod_lt _ (by norm_num)⟩

theorem Is.roll {x : FVec Ideal S128x128 .f32} (hx : Is x f) : Is (dynamicRotate 1 64#32 none x rotates_S128x128_d1) fun r d => f r (opp d) :=
  fun r d => by
    rw [← hx r (opp d)]
    refine dynamicRotate_apply 1 64#32 x rotates_S128x128_d1 (ix2 r d) (ix2 r (opp d)) fun b => ?_
    match b with
    | ⟨0, _⟩ => rfl
    | ⟨1, _⟩ =>
      show (d.val + 64) % 128 = (d.val + 128 - 64) % 128
      congr 1

/-- The tables of a rotation by the angles `al`: the cosine on both halves, the sine with a minus on the first. -/
def IsTab (cs sn : FVec Ideal S128x128 .f32) (al : Fin 128 → Fin 64 → ℝ) : Prop :=
  (Is cs fun r d => Real.cos (al r (pairOf d))) ∧
  Is sn fun r d => if d.val < 64 then -Real.sin (al r (pairOf d)) else Real.sin (al r (pairOf d))

theorem lane_lo {d : Fin 128} (h : d.val < 64) : lo (pairOf d) = d ∧ hi (pairOf d) = opp d := by
  refine ⟨Fin.ext ?_, Fin.ext ?_⟩
  · show d.val % 64 = d.val; omega
  · show 64 + d.val % 64 = (d.val + 64) % 128; omega
theorem lane_hi {d : Fin 128} (h : ¬d.val < 64) : hi (pairOf d) = d ∧ lo (pairOf d) = opp d := by
  refine ⟨Fin.ext ?_, Fin.ext ?_⟩
  · show 64 + d.val % 64 = d.val; omega
  · show d.val % 64 = (d.val + 64) % 128; omega
theorem pair_opp (d : Fin 128) : pairOf (opp d) = pairOf d := Fin.ext (by show (d.val + 64) % 128 % 64 = d.val % 64; omega)

theorem IsTab.rot {cs sn x : FVec Ideal S128x128 .f32} {al : Fin 128 → Fin 64 → ℝ} (ht : IsTab cs sn al) (hx : Is x f) :
    Is (rot x cs sn) fun r d => Spec.rot (f r) (al r) d :=
  ((hx.mul ht.1).add (hx.roll.mul ht.2)).congr fun r d => by
    unfold Spec.rot
    by_cases h : d.val < 64
    · rw [if_pos h, if_pos h, (lane_lo h).1, (lane_lo h).2]; ring
    · rw [if_neg h, if_neg h, (lane_hi h).1, (lane_hi h).2]; ring

theorem IsTab.rotBack {cs sn x : FVec Ideal S128x128 .f32} {al : Fin 128 → Fin 64 → ℝ} (ht : IsTab cs sn al) (hx : Is x f) :
    Is (rotBack x cs sn) fun r d => Spec.unrot (f r) (al r) d :=
  ((hx.mul ht.1).add (hx.mul ht.2).roll).congr fun r d => by
    simp only [pair_opp]
    unfold Spec.unrot
    have ho : (opp d).val = (d.val + 64) % 128 := rfl
    have hd := d.isLt
    by_cases h : d.val < 64
    · rw [if_neg (by omega), if_pos h, (lane_lo h).1, (lane_lo h).2]; ring
    · rw [if_pos (by omega), if_neg h, (lane_hi h).1, (lane_hi h).2]; ring

end Cert.KernelIdeal.Unit

end
-- ==== Proof.UnitValue.lean ====
/- What one grid point computes, in real numbers: the body's values when everything it reads is finite. -/
module

public import proofs.«01_k».proof.Proof.UnitOps

@[expose] public section

noncomputable section

namespace Cert.KernelIdeal.Unit

open Idealize.ShloMosaic hiding ix1 ix2 ix3 ix4
open Cert.KernelIdeal Cert.KernelIdeal.Gen Idealize.ShloMosaic.ValueIdx
open Cert.Spec (normed normBwd gam)

/-- The decay over one chunk, as its named constant. -/
theorem chunkDecay_eq (h : Fin 4) : chunkDecay (F := Ideal) h = ((gam h ^ 128 : ℝ) : EReal) := by
  match h with
  | 0 => show ((_ : ℝ) : EReal) = _; congr 1; unfold gam; norm_num
  | 1 => show ((_ : ℝ) : EReal) = _; congr 1; unfold gam; norm_num
  | 2 => show ((_ : ℝ) : EReal) = _; congr 1; unfold gam; norm_num
  | 3 => show ((_ : ℝ) : EReal) = _; congr 1; unfold gam; norm_num

theorem logDecay_eq (h : Fin 4) : logDecay (F := Ideal) h = ((Real.log (gam h) : ℝ) : EReal) := by
  match h with
  | 0 => show ((_ : ℝ) : EReal) = _; congr 2; unfold gam; norm_num
  | 1 => show ((_ : ℝ) : EReal) = _; congr 2; unfold gam; norm_num
  | 2 => show ((_ : ℝ) : EReal) = _; congr 2; unfold gam; norm_num
  | 3 => show ((_ : ℝ) : EReal) = _; congr 2; unfold gam; norm_num

/-- The entries of a head's three decay tables. -/
def weight (h : Fin 4) : Fin 3 → Fin 128 → Fin 128 → ℝ
  | 0 => fun r s => Decay.wt (gam h) r.val s.val
  | 1 => fun r _ => gam h ^ (r.val + 1)
  | 2 => fun r _ => gam h ^ (127 - r.val)

theorem rowNo_apply (r d : Fin 128) : rowNo (ix2 r d) = BitVec.ofNat 32 r.val := by
  show BitVec.ofNat 32 (((0 * 128) + r.val)) = _; congr 1; omega
theorem colNo_apply (r d : Fin 128) : colNo (ix2 r d) = BitVec.ofNat 32 d.val := by
  show BitVec.ofNat 32 (((0 * 128) + d.val)) = _; congr 1; omega

/-- Comparing two row numbers is comparing their difference with zero. -/
theorem sge_diff (r d : Fin 128) : IntOp.cmpi .sge (BitVec.ofNat 32 r.val) (BitVec.ofNat 32 d.val)
    = IntOp.cmpi .sge (BitVec.ofNat 32 r.val - BitVec.ofNat 32 d.val) 0#32 := by
  show BitVec.ofBool ((BitVec.ofNat 32 d.val).sle (BitVec.ofNat 32 r.val)) = BitVec.ofBool ((0#32).sle (BitVec.ofNat 32 r.val - BitVec.ofNat 32 d.val))
  congr 1
  rw [Bool.eq_iff_iff, BitVec.sle_iff_toInt_le, BitVec.sle_iff_toInt_le, Words.toInt_sub (by omega) (by omega),
    Words.toInt_ofNat (by omega), Words.toInt_ofNat (by omega)]
  simp

theorem rowNoF_is : Is (rowNoF (F := Ideal)) fun r _ => (r.val : ℝ) := fun r d => by
  show ((((rowNo (ix2 r d)).toInt : ℤ) : ℝ) : EReal) = _
  rw [rowNo_apply, Words.toInt_ofNat (by omega)]; norm_cast

theorem decTable_is (h : Fin 4) (n : Fin 3) : Is (decTable (F := Ideal) h n) (weight h n) := fun r d => by
  match n with
  | 0 =>
    show Scalar.select (α := EReal) (IntOp.cmpi .sge (rowNo (ix2 r d)) (colNo (ix2 r d)))
      (Ideal.exp (logDecay (F := Ideal) h * ((((IntOp.maxsi (rowNo (ix2 r d) - colNo (ix2 r d)) 0#32).toInt : ℤ) : ℝ) : EReal))) (Ideal.ofBits .f32 0x00000000#32) = _
    rw [logDecay_eq, Num.w_zero, rowNo_apply, colNo_apply, sge_diff, Words.entry (Spec.gam_pos h) (Words.toInt_sub (by omega) (by omega)), Words.wt_eq]
    rfl
  | 1 =>
    show Ideal.exp (logDecay (F := Ideal) h * (rowNoF (F := Ideal) (ix2 r d) + Ideal.ofBits .f32 0x3F800000#32)) = _
    rw [logDecay_eq, rowNoF_is, Num.w_one, ← EReal.coe_add, ← EReal.coe_mul, Ideal.exp_coe]
    have := Decay.exp_log (Spec.gam_pos h) (r.val + 1)
    push_cast at this
    rw [this]; rfl
  | 2 =>
    show Ideal.exp (logDecay (F := Ideal) h * (Ideal.ofBits .f32 0x42FE0000#32 - rowNoF (F := Ideal) (ix2 r d))) = _
    rw [logDecay_eq, rowNoF_is, Num.w_127, ← EReal.coe_sub, ← EReal.coe_mul, Ideal.exp_coe]
    have := Decay.exp_log (Spec.gam_pos h) (127 - r.val)
    rw [Nat.cast_sub (by omega)] at this
    push_cast at this
    rw [this]; rfl

/-- The reals a grid point reads: by chunk, head, row and lane. -/
structure Reals where
  q : Fin 5 → Fin 4 → Fin 128 → Fin 128 → ℝ
  k : Fin 5 → Fin 4 → Fin 128 → Fin 128 → ℝ
  v : Fin 5 → Fin 4 → Fin 128 → Fin 128 → ℝ
  g : Fin 5 → Fin 4 → Fin 128 → Fin 128 → ℝ
  /-- the rotation's angles -/
  al : Fin 5 → Fin 128 → Fin 64 → ℝ
  w : Fin 4 → Fin 128 → ℝ
  o : Fin 5 → Fin 4 → Fin 128 → Fin 128 → ℝ
  st : Fin 5 → Fin 4 → Fin 128 → Fin 128 → ℝ
  dret : Fin 5 → Fin 4 → Fin 128 → Fin 128 → ℝ
  gs : Fin 4 → Fin 128 → Fin 128 → ℝ

/-- The point's reads hold these reals, and its decay tables the weights. -/
structure Reads (L : Loads Ideal) (R : Reals) : Prop where
  q : ∀ c h, Is (φ := .bf16) (L.q c h) (R.q c h)
  k : ∀ c h, Is (φ := .bf16) (L.k c h) (R.k c h)
  v : ∀ c h, Is (φ := .bf16) (L.v c h) (R.v c h)
  g : ∀ c h, Is (φ := .bf16) (L.g c h) (R.g c h)
  tab : ∀ c, IsTab (L.cs c) (L.sn c) (R.al c)
  w : ∀ h d, L.w h (ix2 0 d) = ((R.w h d : ℝ) : EReal)
  o : ∀ c h, Is (φ := .f32) (L.o c h) (R.o c h)
  st : ∀ c h r d, L.st c h (ix4 0 0 r d) = ((R.st c h r d : ℝ) : EReal)
  dret : ∀ c h, Is (φ := .f32) (L.dret c h) (R.dret c h)
  dec : ∀ n h r d, L.dec n h (ix4 0 0 r d) = ((weight h n r d : ℝ) : EReal)
  gs : ∀ h r d, L.gs h (ix3 0 r d) = ((R.gs h r d : ℝ) : EReal)

namespace Reals

variable (R : Reals) (c : Fin 5) (h : Fin 4)

def qr (r : Fin 128) : Fin 128 → ℝ := Spec.rot (R.q c h r) (R.al c r)
def kr (r d : Fin 128) : ℝ := Spec.rot (R.k c h r) (R.al c r) d * Num.scale
def y (r : Fin 128) : Fin 128 → ℝ := normed (R.o c h r)
def dyw (r d : Fin 128) : ℝ := R.g c h r d * Spec.sig (R.g c h r d) * R.dret c h r d
def dg (r d : Fin 128) : ℝ :=
  R.dret c h r d * (R.y c h r d * R.w h d) * Spec.sig (R.g c h r d)
    + R.g c h r d * (R.dret c h r d * (R.y c h r d * R.w h d)) * (Spec.sig (R.g c h r d) * (1 - Spec.sig (R.g c h r d)))
def dO (r : Fin 128) : Fin 128 → ℝ := normBwd (R.o c h r) fun d => R.dyw c h r d * R.w h d
def gnew (a e : Fin 128) : ℝ := ∑ r : Fin 128, R.qr c h r a * gam h ^ (r.val + 1) * R.dO c h r e
/-- The state gradient past the last `n` chunks. -/
def state : ℕ → Fin 128 → Fin 128 → ℝ
  | 0 => R.gs h
  | n + 1 => fun a e => gam h ^ 128 * state n a e + R.gnew (Fin.ofNat 5 (4 - n)) h a e
def dv (s e : Fin 128) : ℝ :=
  (∑ r : Fin 128, (∑ d, R.qr c h r d * R.kr c h s d) * Decay.wt (gam h) r.val s.val * R.dO c h r e)
    + ∑ d, R.kr c h s d * gam h ^ (127 - s.val) * R.state h (4 - c.val) d e
def dqr (r d : Fin 128) : ℝ :=
  (∑ s : Fin 128, (∑ e, R.dO c h r e * R.v c h s e) * Decay.wt (gam h) r.val s.val * R.kr c h s d)
    + (∑ e, R.dO c h r e * R.st c h d e) * gam h ^ (r.val + 1)
def dkr (s d : Fin 128) : ℝ :=
  (∑ r : Fin 128, (∑ e, R.dO c h r e * R.v c h s e) * Decay.wt (gam h) r.val s.val * R.qr c h r d)
    + (∑ e, R.v c h s e * R.state h (4 - c.val) d e) * gam h ^ (127 - s.val)

/-- The four gradients of a unit. -/
def dp (p : Fin 4) (r d : Fin 128) : ℝ :=
  match p with
  | 0 => Spec.unrot (R.dqr c h r) (R.al c r) d
  | 1 => Spec.unrot (fun d => R.dkr c h r d * Num.scale) (R.al c r) d
  | 2 => R.dv c h r d
  | 3 => R.dg c h r d

end Reals

theorem unrot_scale (f : Fin 128 → ℝ) (a : Fin 64 → ℝ) (s : ℝ) (d : Fin 128) : Spec.unrot f a d * s = Spec.unrot (fun d => f d * s) a d := by
  unfold Spec.unrot; split <;> ring

variable {L : Loads Ideal} {R : Reals}

namespace Reads

section
variable (H : Reads L R) (c : Fin 5) (h : Fin 4)
include H

theorem tabB : IsTab (L.csB c) (L.snB c) (R.al c) := ⟨(H.tab c).1.sameF, (H.tab c).2.sameF⟩

theorem decB_is (n : Fin 3) : Is (L.decB h n) (weight h n) := fun r d => by
  rw [← H.dec n h r d]
  exact congrArg (L.dec n h) (reshapeEquiv_ix2_11ab _ r d)

theorem st_is : Is (shapeCast S128x128 (L.st c h) shapeCasts_S1x1x128x128_S128x128 : FVec Ideal S128x128 .f32) (R.st c h) := fun r d => by
  rw [← H.st c h r d]
  exact congrArg (L.st c h) (reshapeEquiv_ix2_11ab _ r d)

theorem qr_is : Is (L.qr c h) (R.qr c h) := (H.tabB c).rot (H.q c h).sameB.widen
theorem kr_is : Is (L.kr c h) (R.kr c h) := ((H.tabB c).rot (H.k c h).sameB.widen).mul is_scale
theorem vb_is : Is (L.vb c h) (R.v c h) := (H.v c h).sameB

theorem oc_is : Is (L.oc c h) fun r => Spec.centred (R.o c h r) := (H.o c h).sameF.sub (H.o c h).sameF.rowMean.spread
theorem rs_is : Is (L.rs c h) fun r _ => Spec.rs (R.o c h r) :=
  ((((H.oc_is c h).mul (H.oc_is c h)).rowMean).rsqrt fun r => Spec.var_pos (R.o c h r)).spread
theorem y_is : Is (L.y c h) (R.y c h) := (H.oc_is c h).mul (H.rs_is c h)

theorem gf_is : Is (L.gf c h) (R.g c h) := (H.g c h).sameB.widen
theorem sg_is : Is (L.sg c h) fun r d => Spec.sig (R.g c h r d) :=
  ((is_half.mul (is_half.mul (H.gf_is c h)).tanh).add is_half).congr fun _ _ => Num.half_tanh _
theorem dr_is : Is (L.dr c h) (R.dret c h) := (H.dret c h).sameF
theorem wb_is : Is (L.wb h) fun _ d => R.w h d := is_wb (H.w h)
theorem dyw_is : Is (L.dyw c h) (R.dyw c h) :=
  (((H.dr_is c h).mul (H.gf_is c h)).mul (H.sg_is c h)).congr fun _ _ => by unfold Reals.dyw; ring
theorem dg_is : Is (L.dg c h) (R.dg c h) :=
  (((((H.dr_is c h).mul (H.y_is c h)).mul (H.wb_is h)).mul (H.sg_is c h)).mul
    (is_one.add ((H.gf_is c h).mul (is_one.sub (H.sg_is c h))))).congr fun _ _ => by unfold Reals.dg; ring
theorem dwSum_is (u : Fin 1) (d : Fin 128) :
    L.dwSum c h (ix2 u d) = ((∑ r, R.y c h r d * R.dyw c h r d : ℝ) : EReal) := by
  refine (((H.dyw_is c h).mul (H.y_is c h)).colSum u d).trans ?_
  simp only [mul_comm]
theorem dy_is : Is (L.dy c h) fun r d => R.dyw c h r d * R.w h d := (H.dyw_is c h).mul (H.wb_is h)
theorem dO_is : Is (L.dob c h) (R.dO c h) :=
  ((H.rs_is c h).mul (((H.dy_is c h).sub (H.dy_is c h).rowMean.spread).sub
    ((H.y_is c h).mul ((H.dy_is c h).mul (H.y_is c h)).rowMean.spread))).narrow

theorem gnew_is : Is (L.gnew c h) (R.gnew c h) := (((H.qr_is c h).mul (H.decB_is h 1)).narrow).tn (H.dO_is c h)

theorem state_is : ∀ n, Is (L.state h n) (R.state h n)
  | 0 => fun r d => by
    show shapeCast S128x128 (L.gs h) shapeCasts_S1x128x128_S128x128 (ix2 r d) = _
    rw [shapeCast_1ab_ab_apply]; exact H.gs h r d
  | n + 1 => (Is.mul (f := fun _ _ => gam h ^ 128) (fun _ _ => chunkDecay_eq h) (state_is n)).add (H.gnew_is _ h)

theorem gsb_is : Is (L.gsb c h) (R.state h (4 - c.val)) := (H.state_is h _).narrow

theorem dv_is : Is (L.dv c h) (R.dv c h) :=
  ((((((H.qr_is c h).narrow.nt (H.kr_is c h).narrow).mul (H.decB_is h 0)).narrow).tn (H.dO_is c h)).add
    ((((H.kr_is c h).mul (H.decB_is h 2)).narrow).nn (H.gsb_is c h)))
theorem dqr_is : Is (L.dqr c h) (R.dqr c h) :=
  ((((((H.dO_is c h).nt (H.vb_is c h)).mul (H.decB_is h 0)).narrow).nn (H.kr_is c h).narrow).add
    (((H.dO_is c h).nt (H.st_is c h).narrow).mul (H.decB_is h 1)))
theorem dkr_is : Is (L.dkr c h) (R.dkr c h) :=
  ((((((H.dO_is c h).nt (H.vb_is c h)).mul (H.decB_is h 0)).narrow).tn (H.qr_is c h).narrow).add
    (((H.vb_is c h).nt (H.gsb_is c h)).mul (H.decB_is h 2)))

/-- The four gradients of a unit, as reals. -/
theorem dp_is (p : Fin 4) : Is (L.dp c h p) (R.dp c h p) := by
  match p with
  | 0 => exact ((H.tabB c).rotBack (H.dqr_is c h)).narrow
  | 1 => exact ((((H.tabB c).rotBack (H.dkr_is c h)).mul is_scale).narrow).congr fun r d => unrot_scale _ _ _ d
  | 2 => exact (H.dv_is c h).narrow
  | 3 => exact (H.dg_is c h).narrow

end

end Reads

end Cert.KernelIdeal.Unit

end
-- ==== Proof.Seq.lean ====
/- The whole padded sequence, in real numbers: what the grid's points compute chunk by chunk is the gradient of the
   retention heads. Rows are counted from the start of the padding, row `p` being token `p - 112`. -/
module

public import proofs.«01_k».proof.Proof.UnitValue

@[expose] public section

noncomputable section

namespace Cert.KernelIdeal.Unit

open Finset
open Cert.Spec (normed normBwd gam)

/-- Padded row `r` of chunk `c` at point `t`: the points walk the sequence from its end. -/
def row (t : ℕ) (c : Fin 5) (r : Fin 128) : ℕ := 128 * (5 * (12 - t) + c.val) + r.val

/-- A quantity of the tokens, zero on the padding. -/
def padded (f : Fin 8208 → Fin 128 → ℝ) (p : ℕ) (d : Fin 128) : ℝ :=
  if h : 112 ≤ p ∧ p < 8320 then f ⟨p - 112, by omega⟩ d else 0

theorem padded_tok (f : Fin 8208 → Fin 128 → ℝ) (t : Fin 8208) (d : Fin 128) : padded f (112 + t.val) d = f t d := by
  unfold padded
  rw [dif_pos ⟨by omega, by omega⟩]
  congr 1; exact Fin.ext (by show 112 + t.val - 112 = t.val; omega)
theorem padded_pad (f : Fin 8208 → Fin 128 → ℝ) {p : ℕ} (hp : p < 112) (d : Fin 128) : padded f p d = 0 := by
  unfold padded; rw [dif_neg (by omega)]

namespace Seq

variable (X : Spec.In)

def ang (p : ℕ) : Fin 64 → ℝ := Spec.ang ((p : ℝ) - 112)
def qh (h : Fin 4) (p : ℕ) : Fin 128 → ℝ := Spec.rot (padded (fun t => X.q t h) p) (ang p)
def kh (h : Fin 4) (p : ℕ) (d : Fin 128) : ℝ := Spec.rot (padded (fun t => X.k t h) p) (ang p) d * Num.scale
def v (h : Fin 4) (p : ℕ) : Fin 128 → ℝ := padded (fun t => X.v t h) p
def st (h : Fin 4) (n : ℕ) (d e : Fin 128) : ℝ :=
  ∑ j ∈ range (128 * n), gam h ^ (128 * n - 1 - j) * (kh X h j d * v X h j e)

/-- What point `t` reads, the state gradient given. -/
def point (t : ℕ) (gs : Fin 4 → Fin 128 → Fin 128 → ℝ) : Reals where
  q c h r := padded (fun t => X.q t h) (row t c r)
  k c h r := padded (fun t => X.k t h) (row t c r)
  v c h r := padded (fun t => X.v t h) (row t c r)
  g c h r := padded (fun t => X.g t h) (row t c r)
  al c r := ang (row t c r)
  w := X.w
  o c h r := padded (fun t => X.o t h) (row t c r)
  st c h := st X h (5 * (12 - t) + c.val)
  dret c h r := padded (fun t => X.dret t h) (row t c r)
  gs := gs

def y (h : Fin 4) (p : ℕ) : Fin 128 → ℝ := normed (padded (fun t => X.o t h) p)
def dyw (h : Fin 4) (p : ℕ) (d : Fin 128) : ℝ :=
  padded (fun t => X.g t h) p d * Spec.sig (padded (fun t => X.g t h) p d) * padded (fun t => X.dret t h) p d
def dO (h : Fin 4) (p : ℕ) : Fin 128 → ℝ := normBwd (padded (fun t => X.o t h) p) fun d => dyw X h p d * X.w h d

/-- The state gradient that reaches point `t`. -/
def carried (m : ℕ) (h : Fin 4) (a e : Fin 128) : ℝ := Decay.carried (gam h) 65 (fun p => qh X h p a * dO X h p e) m

theorem state_eq {t : ℕ} (ht : t ≤ 12) (h : Fin 4) (a e : Fin 128) : ∀ n, n ≤ 5 →
    (point X t (carried X (5 * t))).state h n a e = carried X (5 * t + n) h a e
  | 0, _ => rfl
  | n + 1, hn => by
    show gam h ^ 128 * (point X t (carried X (5 * t))).state h n a e + (point X t (carried X (5 * t))).gnew (Fin.ofNat 5 (4 - n)) h a e = _
    rw [state_eq ht h a e n (by omega)]
    show _ = gam h ^ 128 * _ + _
    congr 1
    refine Eq.trans ?_ (Fin.sum_univ_eq_sum_range (fun r => gam h ^ (r + 1) * (qh X h (128 * (65 - 1 - (5 * t + n)) + r) a * dO X h (128 * (65 - 1 - (5 * t + n)) + r) e)) 128)
    refine sum_congr rfl fun r _ => ?_
    have e1 : row t (Fin.ofNat 5 (4 - n)) r = 128 * (65 - 1 - (5 * t + n)) + r.val := by
      show 128 * (5 * (12 - t) + (4 - n) % 5) + r.val = _
      rw [Nat.mod_eq_of_lt (by omega)]; omega
    show qh X h (row t _ r) a * gam h ^ (r.val + 1) * dO X h (row t _ r) e = _
    rw [e1]; ring

/-- Sums over all padded rows. -/
def dv (h : Fin 4) (p : ℕ) (e : Fin 128) : ℝ := ∑ i ∈ range (128 * 65), Decay.wt (gam h) i p * ((∑ d, qh X h i d * kh X h p d) * dO X h i e)
def dkr (h : Fin 4) (p : ℕ) (d : Fin 128) : ℝ := ∑ i ∈ range (128 * 65), Decay.wt (gam h) i p * ((∑ e, dO X h i e * v X h p e) * qh X h i d)
def dqr (h : Fin 4) (p : ℕ) (d : Fin 128) : ℝ := ∑ j ∈ range (128 * 65), Decay.wt (gam h) p j * ((∑ e, dO X h p e * v X h j e) * kh X h j d)
def dg (h : Fin 4) (p : ℕ) (d : Fin 128) : ℝ :=
  padded (fun t => X.dret t h) p d * (y X h p d * X.w h d) * Spec.sig (padded (fun t => X.g t h) p d)
    + padded (fun t => X.g t h) p d * (padded (fun t => X.dret t h) p d * (y X h p d * X.w h d))
      * (Spec.sig (padded (fun t => X.g t h) p d) * (1 - Spec.sig (padded (fun t => X.g t h) p d)))

/-- The four gradients of padded row `p`. -/
def dp (p : ℕ) (part h : Fin 4) (d : Fin 128) : ℝ :=
  match part with
  | 0 => Spec.unrot (dqr X h p) (ang p) d
  | 1 => Spec.unrot (fun d => dkr X h p d * Num.scale) (ang p) d
  | 2 => dv X h p d
  | 3 => dg X h p d

theorem dv_eq {t : ℕ} (ht : t ≤ 12) (c : Fin 5) (h : Fin 4) (s : Fin 128) (e : Fin 128) :
    (point X t (carried X (5 * t))).dv c h s e = dv X h (row t c s) e := by
  refine Eq.trans ?_ (Decay.dv_chunk (gam h) (qh X h) (kh X h) (dO X h) (N := 65) (n := 5 * (12 - t) + c.val) (by omega) s.isLt e)
  refine congrArg₂ (· + ·) rfl (sum_congr rfl fun d _ => ?_)
  rw [state_eq X ht h d e _ (by omega), show 65 - 1 - (5 * (12 - t) + c.val) = 5 * t + (4 - c.val) by omega]
  rfl
theorem dkr_eq {t : ℕ} (ht : t ≤ 12) (c : Fin 5) (h : Fin 4) (s : Fin 128) (d : Fin 128) :
    (point X t (carried X (5 * t))).dkr c h s d = dkr X h (row t c s) d := by
  refine Eq.trans ?_ (Decay.dk_chunk (gam h) (qh X h) (v X h) (dO X h) (N := 65) (n := 5 * (12 - t) + c.val) (by omega) s.isLt d)
  refine congrArg₂ (· + ·) rfl (congrArg (· * _) (sum_congr rfl fun e _ => ?_))
  rw [state_eq X ht h d e _ (by omega), show 65 - 1 - (5 * (12 - t) + c.val) = 5 * t + (4 - c.val) by omega]
  rfl
theorem dqr_eq {t : ℕ} (ht : t ≤ 12) (c : Fin 5) (h : Fin 4) (r : Fin 128) (d : Fin 128) (gs : Fin 4 → Fin 128 → Fin 128 → ℝ) :
    (point X t gs).dqr c h r d = dqr X h (row t c r) d :=
  Decay.dq_chunk (gam h) (kh X h) (v X h) (dO X h) (N := 65) (n := 5 * (12 - t) + c.val) (by omega) r.isLt d

theorem dp_eq {t : ℕ} (ht : t ≤ 12) (c : Fin 5) (h part : Fin 4) (r d : Fin 128) :
    (point X t (carried X (5 * t))).dp c h part r d = dp X (row t c r) part h d := by
  match part with
  | 0 => exact congrFun (congrArg₂ Spec.unrot (funext fun d => dqr_eq X ht c h r d _) rfl) d
  | 1 => exact congrFun (congrArg₂ Spec.unrot (funext fun d => congrArg (· * _) (dkr_eq X ht c h r d)) rfl) d
  | 2 => exact dv_eq X ht c h r d
  | 3 => rfl

/-! The padded sums are the sums over the tokens. -/

theorem rot_zero (a : Fin 64 → ℝ) (d : Fin 128) : Spec.rot (fun _ => 0) a d = 0 := by unfold Spec.rot; simp
theorem unrot_zero (a : Fin 64 → ℝ) (d : Fin 128) : Spec.unrot (fun _ => 0) a d = 0 := by unfold Spec.unrot; simp
theorem normed_zero (e : Fin 128) : normed (fun _ => 0) e = 0 := by simp [normed, Spec.centred, Spec.mean]
theorem normBwd_zero (o : Fin 128 → ℝ) (e : Fin 128) : normBwd o (fun _ => 0) e = 0 := by simp [normBwd]

theorem ang_tok (t : Fin 8208) : ang (112 + t.val) = Spec.ang (t.val : ℝ) := by
  unfold ang; congr 1; push_cast; ring

variable (h : Fin 4)
theorem qh_tok (t : Fin 8208) : qh X h (112 + t.val) = X.qh t h := by
  unfold qh Spec.In.qh; rw [ang_tok]; congr 1; exact funext fun d => padded_tok _ t d
theorem kh_tok (t : Fin 8208) : kh X h (112 + t.val) = X.kh t h := by
  funext d; unfold kh Spec.In.kh; rw [ang_tok, show padded (fun t => X.k t h) (112 + t.val) = X.k t h from funext fun d => padded_tok _ t d]
theorem v_tok (t : Fin 8208) : v X h (112 + t.val) = X.v t h := funext fun d => padded_tok _ t d
theorem y_tok (t : Fin 8208) : y X h (112 + t.val) = X.y t h := by
  unfold y Spec.In.y; rw [show padded (fun t => X.o t h) (112 + t.val) = X.o t h from funext fun d => padded_tok _ t d]
theorem dyw_tok (t : Fin 8208) : dyw X h (112 + t.val) = X.dyw t h := by
  funext d; unfold dyw Spec.In.dyw; simp only [padded_tok]
theorem dO_tok (t : Fin 8208) : dO X h (112 + t.val) = X.dO t h := by
  unfold dO Spec.In.dO; rw [dyw_tok, show padded (fun t => X.o t h) (112 + t.val) = X.o t h from funext fun d => padded_tok _ t d]

variable {p : ℕ} (hp : p < 112)
include hp
theorem kh_pad (d : Fin 128) : kh X h p d = 0 := by
  unfold kh; rw [show padded (fun t => X.k t h) p = fun _ => 0 from funext fun d => padded_pad _ hp d, rot_zero, zero_mul]
theorem v_pad (d : Fin 128) : v X h p d = 0 := padded_pad _ hp d
theorem dyw_pad (d : Fin 128) : dyw X h p d = 0 := by unfold dyw; rw [padded_pad _ hp, zero_mul, zero_mul]
theorem dO_pad (d : Fin 128) : dO X h p d = 0 := by
  unfold dO
  rw [show (fun d => dyw X h p d * X.w h d) = fun _ => 0 from funext fun d => by rw [dyw_pad X h hp, zero_mul], normBwd_zero]

/-- The padding rows get no gradient. -/
theorem dp_pad (part : Fin 4) (d : Fin 128) : dp X p part h d = 0 := by
  match part with
  | 0 =>
    show Spec.unrot (dqr X h p) _ d = 0
    rw [show dqr X h p = fun _ => 0 from funext fun d => by unfold dqr; simp [dO_pad X h hp], unrot_zero]
  | 1 =>
    show Spec.unrot (fun d => dkr X h p d * _) _ d = 0
    rw [show (fun d => dkr X h p d * Num.scale) = fun _ => 0 from funext fun d => by unfold dkr; simp [v_pad X h hp], unrot_zero]
  | 2 => show dv X h p d = 0; unfold dv; simp [kh_pad X h hp]
  | 3 => show dg X h p d = 0; unfold dg; simp [padded_pad _ hp]
omit hp

/-- The gradients of a token's row. -/
theorem dp_tok (t : Fin 8208) (part : Fin 4) (d : Fin 128) : dp X (112 + t.val) part h d = X.dp t part h d := by
  match part with
  | 0 =>
    show Spec.unrot _ _ d = Spec.unrot (X.dqh t h) _ d
    rw [ang_tok]
    refine congrFun (congrArg₂ Spec.unrot (funext fun d => ?_) rfl) d
    unfold dqr
    rw [show 128 * 65 = 112 + 8208 from rfl, Decay.tokens _ fun p hp => by simp [kh_pad X h hp]]
    unfold Spec.In.dqh Spec.In.ds
    refine sum_congr rfl fun j _ => ?_
    rw [dO_tok, v_tok, kh_tok, Decay.wt_add]; ring
  | 1 =>
    have key (d : Fin 128) : dkr X h (112 + t.val) d = X.dkh t h d := by
      unfold dkr
      rw [show 128 * 65 = 112 + 8208 from rfl, Decay.tokens _ fun p hp => by simp [dO_pad X h hp]]
      unfold Spec.In.dkh Spec.In.ds
      refine sum_congr rfl fun j _ => ?_
      rw [dO_tok, v_tok, qh_tok, Decay.wt_add]; ring
    show Spec.unrot (fun d => dkr X h (112 + t.val) d * Num.scale) (ang (112 + t.val)) d = X.dk t h d
    simp only [key, ang_tok]
    rfl
  | 2 =>
    show dv X h _ d = X.dv t h d
    unfold dv
    rw [show 128 * 65 = 112 + 8208 from rfl, Decay.tokens _ fun p hp => by simp [dO_pad X h hp]]
    unfold Spec.In.dv Spec.In.att
    refine sum_congr rfl fun j _ => ?_
    rw [dO_tok, qh_tok, kh_tok, Decay.wt_add]; ring
  | 3 =>
    show dg X h _ d = X.dg t h d
    unfold dg Spec.In.dg; simp only [padded_tok, y_tok]

/-- One point's share of the gain's gradient. -/
def dwPoint (t : ℕ) (d : Fin 128) : ℝ := ∑ c : Fin 5, ∑ r : Fin 128, y X h (row t c r) d * dyw X h (row t c r) d

theorem sum_blocks (F : ℕ → ℝ) (a : ℕ) : ∀ b, ∑ p ∈ range (a * b), F p = ∑ i ∈ range b, ∑ r ∈ range a, F (a * i + r)
  | 0 => by simp
  | b + 1 => by rw [Nat.mul_succ, sum_range_add, sum_blocks F a b, sum_range_succ]

/-- The points' shares add up to the gain's gradient. -/
theorem dw_total (d : Fin 128) : ∑ t ∈ range 13, dwPoint X h t d = X.dw h d := by
  have e := Decay.tokens (a := 112) (L := 8208) (fun p => y X h p d * dyw X h p d) fun p hp => by simp [dyw_pad X h hp]
  unfold Spec.In.dw
  simp only [y_tok, dyw_tok] at e
  rw [← e, show 112 + 8208 = 128 * 5 * 13 from rfl, sum_blocks, ← sum_range_reflect]
  refine sum_congr rfl fun t ht => ?_
  rw [mem_range] at ht
  unfold dwPoint
  rw [sum_blocks (fun r => y X h (128 * 5 * t + r) d * dyw X h (128 * 5 * t + r) d), ← Fin.sum_univ_eq_sum_range (fun i => ∑ r ∈ range 128, _)]
  refine sum_congr rfl fun c _ => ?_
  rw [← Fin.sum_univ_eq_sum_range (fun r => y X h (128 * 5 * t + (128 * c.val + r)) d * dyw X h (128 * 5 * t + (128 * c.val + r)) d)]
  refine sum_congr rfl fun r _ => ?_
  rw [show row (13 - 1 - t) c r = 128 * 5 * t + (128 * c.val + r.val) by unfold row; omega]

end Seq

end Cert.KernelIdeal.Unit

end
-- ==== Proof.Point.lean ====
/- One grid point on the blocks of the padded sequence. -/
module

public import proofs.«01_k».proof.Proof.Match
public import proofs.«01_k».proof.Proof.Seq
public import Idealize.ShloMosaic.Lib.WholeRead

@[expose] public section

noncomputable section

namespace Cert.KernelIdeal.Unit

open Idealize.ShloMosaic hiding ix1 ix2 ix3 ix4
open Idealize.ShloMosaic.TcCoe Cert.KernelIdeal Cert.KernelIdeal.Gen Idealize.ShloMosaic.ValueIdx
open Idealize.SL.Sem

/-- Row `r` of chunk `c`, and lane `d` of head `h`, in a block. -/
def bRow (c : Fin 5) (r : Fin 128) : Fin 640 := ⟨128 * c.val + r.val, by omega⟩
def bLane (h : Fin 4) (d : Fin 128) : Fin 512 := ⟨128 * h.val + d.val, by omega⟩

theorem blockR_idx (c : Fin 5) (h : Fin 4) (r d : Fin 128) : (blockR c h).toLoadRect.idx (ix2 r d) = ix2 (bRow c r) (bLane h d) := by
  funext a
  match a with
  | ⟨0, _⟩ => exact Fin.ext (by show 128 * c.val + 1 * r.val = 128 * c.val + r.val; omega)
  | ⟨1, _⟩ => exact Fin.ext (by show 128 * h.val + 1 * d.val = 128 * h.val + d.val; omega)
theorem tableR_idx (c : Fin 5) (r d : Fin 128) : (tableR c).toLoadRect.idx (ix2 r d) = ix2 (bRow c r) d := by
  funext a
  match a with
  | ⟨0, _⟩ => exact Fin.ext (by show 128 * c.val + 1 * r.val = 128 * c.val + r.val; omega)
  | ⟨1, _⟩ => exact Fin.ext (by show 0 + 1 * d.val = d.val; omega)
theorem gainR_idx (h : Fin 4) (d : Fin 128) : (gainR h).toLoadRect.idx (ix2 0 d) = ix2 0 (bLane h d) := by
  funext a
  match a with
  | ⟨0, _⟩ => rfl
  | ⟨1, _⟩ => exact Fin.ext (by show 128 * h.val + 1 * d.val = 128 * h.val + d.val; omega)
theorem stR_idx (c : Fin 5) (h : Fin 4) (r d : Fin 128) : (stR c h).toLoadRect.idx (ix4 0 0 r d) = ix4 c h r d := by
  funext a
  match a with
  | ⟨0, _⟩ => exact Fin.ext (by show c.val + 1 * 0 = c.val; omega)
  | ⟨1, _⟩ => exact Fin.ext (by show h.val + 1 * 0 = h.val; omega)
  | ⟨2, _⟩ => exact Fin.ext (by show 0 + 1 * r.val = r.val; omega)
  | ⟨3, _⟩ => exact Fin.ext (by show 0 + 1 * d.val = d.val; omega)
theorem decR_idx (n : Fin 3) (h : Fin 4) (r d : Fin 128) : (decR n h).toLoadRect.idx (ix4 0 0 r d) = ix4 n h r d := by
  funext a
  match a with
  | ⟨0, _⟩ => exact Fin.ext (by show n.val + 1 * 0 = n.val; omega)
  | ⟨1, _⟩ => exact Fin.ext (by show h.val + 1 * 0 = h.val; omega)
  | ⟨2, _⟩ => exact Fin.ext (by show 0 + 1 * r.val = r.val; omega)
  | ⟨3, _⟩ => exact Fin.ext (by show 0 + 1 * d.val = d.val; omega)
theorem gsR_idx (h : Fin 4) (r d : Fin 128) : (gsR h).toLoadRect.idx (ix3 0 r d) = ix3 h r d := by
  funext a
  match a with
  | ⟨0, _⟩ => exact Fin.ext (by show h.val + 1 * 0 = h.val; omega)
  | ⟨1, _⟩ => exact Fin.ext (by show 0 + 1 * r.val = r.val; omega)
  | ⟨2, _⟩ => exact Fin.ext (by show 0 + 1 * d.val = d.val; omega)

/-- A block of 640 rows that holds these reals by chunk, head, row and lane. -/
def BlockIs {φ : FTy} (x : FVec Ideal S640x512 φ) (f : Fin 5 → Fin 4 → Fin 128 → Fin 128 → ℝ) : Prop :=
  ∀ c h r d, x (ix2 (bRow c r) (bLane h d)) = ((f c h r d : ℝ) : EReal)

/-- The scratch arrays: the decay tables, and the state gradient. -/
def DecIs (x : FVec Ideal S3x4x128x128 .f32) : Prop := ∀ n h r d, x (ix4 n h r d) = ((weight h n r d : ℝ) : EReal)
def GsIs (x : FVec Ideal S4x128x128 .f32) (f : Fin 4 → Fin 128 → Fin 128 → ℝ) : Prop := ∀ h r d, x (ix3 h r d) = ((f h r d : ℝ) : EReal)
/-- The gain's gradient so far. -/
def DwIs (x : FVec Ideal S1x512 .f32) (f : Fin 4 → Fin 128 → ℝ) : Prop := ∀ h d, x (ix2 0 (bLane h d)) = ((f h d : ℝ) : EReal)

/-- The ten blocks of a point hold these reals. -/
structure Blocks (R : Reals) (x0 x1 x2 x3 : FVec Ideal S640x512 .bf16) (x4 x5 : FVec Ideal S640x128 .f32) (x6 : FVec Ideal S1x512 .f32)
    (x7 : FVec Ideal S640x512 .f32) (x8 : FVec Ideal S5x4x128x128 .f32) (x9 : FVec Ideal S640x512 .f32) : Prop where
  q : BlockIs x0 R.q
  k : BlockIs x1 R.k
  v : BlockIs x2 R.v
  g : BlockIs x3 R.g
  cs : ∀ c r d, x4 (ix2 (bRow c r) d) = ((Real.cos (R.al c r (Spec.pairOf d)) : ℝ) : EReal)
  sn : ∀ c r d, x5 (ix2 (bRow c r) d) = ((if d.val < 64 then -Real.sin (R.al c r (Spec.pairOf d)) else Real.sin (R.al c r (Spec.pairOf d)) : ℝ) : EReal)
  w : DwIs x6 R.w
  o : BlockIs x7 R.o
  st : ∀ c h r d, x8 (ix4 c h r d) = ((R.st c h r d : ℝ) : EReal)
  dret : BlockIs x9 R.dret

section
variable
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg13 : Memref sig .tc .vmem S4x128x128 .f32} (harg13 : arg13.IsWhole)
  {arg14 : Memref sig .tc .vmem S3x4x128x128 .f32} (harg14 : arg14.IsWhole)
  (x0 x1 x2 x3 : FVec Ideal S640x512 .bf16) (x4 x5 : FVec Ideal S640x128 .f32) (x6 : FVec Ideal S1x512 .f32) (x7 : FVec Ideal S640x512 .f32)
  (x8 : FVec Ideal S5x4x128x128 .f32) (x9 : FVec Ideal S640x512 .f32)
  {R : Reals}

/-- A point that reads these blocks, tables and state reads these reals. -/
theorem reads_loads (B : Blocks R x0 x1 x2 x3 x4 x5 x6 x7 x8 x9) (dec : Fin 3 → Fin 4 → FVec Ideal S1x1x128x128 .f32) (gs : Fin 4 → FVec Ideal S1x128x128 .f32)
    (hd : ∀ n h r d, dec n h (ix4 0 0 r d) = ((weight h n r d : ℝ) : EReal)) (hg : ∀ h r d, gs h (ix3 0 r d) = ((R.gs h r d : ℝ) : EReal)) :
    Reads (loads (F := Ideal) harg1 harg2 harg3 harg4 harg5 harg6 harg7 harg8 harg9 harg10 x0 x1 x2 x3 x4 x5 x6 x7 x8 x9 dec gs) R where
  q c h r d := ((harg1.readAt_unread _ _ _).trans (congrArg x0 (blockR_idx c h r d))).trans (B.q c h r d)
  k c h r d := ((harg2.readAt_unread _ _ _).trans (congrArg x1 (blockR_idx c h r d))).trans (B.k c h r d)
  v c h r d := ((harg3.readAt_unread _ _ _).trans (congrArg x2 (blockR_idx c h r d))).trans (B.v c h r d)
  g c h r d := ((harg4.readAt_unread _ _ _).trans (congrArg x3 (blockR_idx c h r d))).trans (B.g c h r d)
  tab c := ⟨fun r d => ((harg5.readAt_unread _ _ _).trans (congrArg x4 (tableR_idx c r d))).trans (B.cs c r d),
    fun r d => ((harg6.readAt_unread _ _ _).trans (congrArg x5 (tableR_idx c r d))).trans (B.sn c r d)⟩
  w h d := ((harg7.readAt_unread _ _ _).trans (congrArg x6 (gainR_idx h d))).trans (B.w h d)
  o c h r d := ((harg8.readAt_unread _ _ _).trans (congrArg x7 (blockR_idx c h r d))).trans (B.o c h r d)
  st c h r d := ((harg9.readAt_unread _ _ _).trans (congrArg x8 (stR_idx c h r d))).trans (B.st c h r d)
  dret c h r d := ((harg10.readAt_unread _ _ _).trans (congrArg x9 (blockR_idx c h r d))).trans (B.dret c h r d)
  dec := hd
  gs := hg

theorem reads_loadsB (B : Blocks R x0 x1 x2 x3 x4 x5 x6 x7 x8 x9) (xs0 : FVec Ideal S4x128x128 .f32) (xs1 : FVec Ideal S3x4x128x128 .f32)
    (hd : DecIs xs1) (hg : GsIs xs0 R.gs) :
    Reads (loadsB (F := Ideal) harg1 harg2 harg3 harg4 harg5 harg6 harg7 harg8 harg9 harg10 harg13 harg14 x0 x1 x2 x3 x4 x5 x6 x7 x8 x9 xs0 xs1) R :=
  reads_loads harg1 harg2 harg3 harg4 harg5 harg6 harg7 harg8 harg9 harg10 x0 x1 x2 x3 x4 x5 x6 x7 x8 x9 B _ _
    (fun n h r d => ((harg14.readAt_unread _ _ _).trans (congrArg xs1 (decR_idx n h r d))).trans (hd n h r d))
    (fun h r d => ((harg13.readAt_unread _ _ _).trans (congrArg xs0 (gsR_idx h r d))).trans (hg h r d))

theorem mem_of_emb {s : Shape} (r : Rect s) {i : s.Idx} (x : r.shape.Idx) (h : r.emb x = i) : i ∈ r.set := by
  rw [← r.map_emb_univ, ← h]; exact Finset.mem_map_of_mem _ (Finset.mem_univ _)

/-- The value of an index of the tables' array that the stores of `decPieces` leave. -/
def decEntry (i : S3x4x128x128.Idx) : Ideal .f32 := ((weight (i 1) (i 0) (i 2) (i 3) : ℝ) : EReal)

theorem mem_decPieces {p : View.Piece (Elt Ideal) S3x4x128x128 .f32} : p ∈ decPieces (F := Ideal) ↔ ∃ h n, p = decPiece h n := by
  unfold decPieces
  simp only [List.mem_flatMap, List.mem_map]
  constructor
  · rintro ⟨h, -, n, -, rfl⟩; exact ⟨h, n, rfl⟩
  · rintro ⟨h, n, rfl⟩; exact ⟨h, by revert h; decide, n, by revert n; decide, rfl⟩

theorem decPiece_apply (h : Fin 4) (n : Fin 3) (x : S1x1x128x128.Idx) :
    (decPiece (F := Ideal) h n).2 x = decEntry ((decPiece (F := Ideal) h n).1.emb x) := by
  have hx : x = ix4 0 0 (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  obtain ⟨r, d, rfl⟩ : ∃ r d : Fin 128, x = ix4 0 0 r d := ⟨x 2, x 3, hx⟩
  have e : (decPiece (F := Ideal) h n).1.emb (ix4 0 0 r d) = ix4 n h r d := decR_idx n h r d
  show shapeCast S1x1x128x128 (decTable (F := Ideal) h n) shapeCasts_S128x128_S1x1x128x128 (ix4 0 0 r d) = _
  rw [e]
  refine Eq.trans ?_ (decTable_is h n r d)
  refine shapeCast_apply _ _ _ (ix2 r d) ?_
  rw [Shape.rowMajor_val_four, Shape.rowMajor_val_two]
  show r.val * 128 + d.val = ((0 * 1 + 0) * 128 + r.val) * 128 + d.val
  omega

theorem canon_dec (n : Fin 3) (h : Fin 4) (r d : Fin 128) :
    View.canon (decPieces (F := Ideal)) (ix4 n h r d) = ((weight h n r d : ℝ) : EReal) :=
  View.canon_apply_of_pieces decEntry decPieces
    (fun p hp x => by obtain ⟨h, n, rfl⟩ := mem_decPieces.mp hp; exact decPiece_apply h n x) (ix4 n h r d)
    ⟨decPiece h n, mem_decPieces.mpr ⟨h, n, rfl⟩, mem_of_emb _ (ix4 0 0 r d) (decR_idx n h r d)⟩

theorem canon_fill (i : S4x128x128.Idx) : View.canon (gsFill (F := Ideal)) i = ((0 : ℝ) : EReal) := by
  refine (View.canon_apply_of_pieces (Val := Elt Ideal) (e := .f32) (fun _ => ((0 : ℝ) : EReal)) gsFill (fun p hp x => ?_) i ?_)
  · obtain rfl := List.mem_singleton.mp hp
    exact Num.w_zero
  · refine ⟨_, List.mem_singleton.mpr rfl, mem_of_emb _ i ?_⟩
    funext a
    exact Fin.ext (by show _ + 1 * (i a).val = (i a).val; match a with | ⟨0, _⟩ => show 0 + _ = _; omega | ⟨1, _⟩ => show 0 + _ = _; omega | ⟨2, _⟩ => show 0 + _ = _; omega)

theorem reads_loadsA (arg13 : Memref sig .tc .vmem S4x128x128 .f32) (arg14 : Memref sig .tc .vmem S3x4x128x128 .f32)
    (B : Blocks R x0 x1 x2 x3 x4 x5 x6 x7 x8 x9) (hg : ∀ h r d, R.gs h r d = 0) :
    Reads (loadsA (F := Ideal) harg1 harg2 harg3 harg4 harg5 harg6 harg7 harg8 harg9 harg10 x0 x1 x2 x3 x4 x5 x6 x7 x8 x9 arg13 arg14) R :=
  reads_loads harg1 harg2 harg3 harg4 harg5 harg6 harg7 harg8 harg9 harg10 x0 x1 x2 x3 x4 x5 x6 x7 x8 x9 B _ _
    (fun n h r d => by
      refine (congrFun (View.readCov_eq_canon' arg14.view decPieces (decR n h).toLoadRect) (ix4 0 0 r d)).trans ?_
      show View.canon _ _ = _
      rw [decR_idx, canon_dec])
    (fun h r d => by
      refine (congrFun (View.readCov_eq_canon' arg13.view gsFill (gsR h).toLoadRect) (ix3 0 r d)).trans ?_
      rw [hg]; exact canon_fill _)

end

end Cert.KernelIdeal.Unit

end
-- ==== Proof.Out.lean ====
/- What a grid point's stores leave: the gradient block, the state gradient, the gain's gradient. -/
module

public import proofs.«01_k».proof.Proof.Point
public import Idealize.ShloMosaic.Lib.Pipeline.CanonAppend

@[expose] public section

noncomputable section

namespace Cert.KernelIdeal.Unit

open Idealize.ShloMosaic hiding ix1 ix2 ix3 ix4
open Idealize.ShloMosaic.TcCoe Cert.KernelIdeal Cert.KernelIdeal.Gen Idealize.ShloMosaic.ValueIdx
open Idealize.SL.Sem

variable {L : Loads Ideal} {R : Reals} (H : Reads L R)

theorem index2 {a b : ℕ} (x : (⟨2, ![a, b]⟩ : Shape).Idx) : ∃ (r : Fin a) (d : Fin b), x = ix2 r d :=
  ⟨x 0, x 1, by funext z; match z with | ⟨0, _⟩ => rfl | ⟨1, _⟩ => rfl⟩

/-! ## The gradient block -/

/-- Lane `d` of head `h` in part `p`. -/
def pLane (p h : Fin 4) (d : Fin 128) : Fin 2048 := ⟨512 * p.val + 128 * h.val + d.val, by omega⟩

/-- The entry of the gradient block at an index. -/
def dpEntry (R : Reals) (i : S640x2048.Idx) : Ideal .bf16 :=
  ((R.dp ⟨(i 0).val / 128, by have : (i 0).val < 640 := (i 0).isLt; omega⟩ ⟨(i 1).val % 512 / 128, by omega⟩
    ⟨(i 1).val / 512, by have : (i 1).val < 2048 := (i 1).isLt; omega⟩ ⟨(i 0).val % 128, by omega⟩ ⟨(i 1).val % 128, by omega⟩ : ℝ) : EReal)

theorem dpEntry_ix (R : Reals) (c : Fin 5) (h p : Fin 4) (r d : Fin 128) :
    dpEntry R (ix2 (bRow c r) (pLane p h d)) = ((R.dp c h p r d : ℝ) : EReal) := by
  unfold dpEntry
  congr 2
  · exact Fin.ext (by show (128 * c.val + r.val) / 128 = c.val; omega)
  · exact Fin.ext (by show (512 * p.val + 128 * h.val + d.val) % 512 / 128 = h.val; omega)
  · exact Fin.ext (by show (512 * p.val + 128 * h.val + d.val) / 512 = p.val; omega)
  · exact Fin.ext (by show (128 * c.val + r.val) % 128 = r.val; omega)
  · exact Fin.ext (by show (512 * p.val + 128 * h.val + d.val) % 128 = d.val; omega)

theorem dpPiece_emb (c : Fin 5) (h p : Fin 4) (r d : Fin 128) : (dpPiece L c h p).1.emb (ix2 r d) = ix2 (bRow c r) (pLane p h d) := by
  funext a
  match a with
  | ⟨0, _⟩ => exact Fin.ext (by show 128 * c.val + 1 * r.val = 128 * c.val + r.val; omega)
  | ⟨1, _⟩ => exact Fin.ext (by show 512 * p.val + 128 * h.val + 1 * d.val = 512 * p.val + 128 * h.val + d.val; omega)

theorem mem_dpPieces {q : View.Piece (Elt Ideal) S640x2048 .bf16} : q ∈ dpPieces L ↔ ∃ c h p, q = dpPiece L c h p := by
  unfold dpPieces
  simp only [List.mem_flatMap, List.mem_map]
  constructor
  · rintro ⟨c, -, h, -, p, -, rfl⟩; exact ⟨c, h, p, rfl⟩
  · rintro ⟨c, h, p, rfl⟩
    exact ⟨c, by revert c; decide, h, by revert h; decide, p, by revert p; decide, rfl⟩

include H

theorem canon_dp (c : Fin 5) (h p : Fin 4) (r d : Fin 128) :
    View.canon (dpPieces L) (ix2 (bRow c r) (pLane p h d)) = ((R.dp c h p r d : ℝ) : EReal) := by
  rw [← dpEntry_ix]
  refine View.canon_apply_of_pieces (Val := Elt Ideal) (e := .bf16) (dpEntry R) (dpPieces L) (fun q hq x => ?_) _
    ⟨dpPiece L c h p, mem_dpPieces.mpr ⟨c, h, p, rfl⟩, mem_of_emb _ (ix2 r d) (dpPiece_emb c h p r d)⟩
  obtain ⟨c, h, p, rfl⟩ := mem_dpPieces.mp hq
  obtain ⟨r, d, rfl⟩ := index2 (a := 128) (b := 128) x
  rw [dpPiece_emb, dpEntry_ix]
  exact H.dp_is c h p r d

/-! ## The state gradient -/

theorem gsPiece_apply (h : Fin 4) (x : S1x128x128.Idx) :
    (gsPiece L h).2 x = (((fun i : S4x128x128.Idx => (((R.state (i 0) 5 (i 1) (i 2) : ℝ) : EReal) : Ideal .f32)) ((gsPiece L h).1.emb x) : Ideal .f32)) := by
  obtain ⟨r, d, rfl⟩ : ∃ r d : Fin 128, x = ix3 0 r d := ⟨x 1, x 2, by
    funext a
    match a with
    | ⟨0, _⟩ => exact Subsingleton.elim (α := Fin 1) _ _
    | ⟨1, _⟩ => rfl
    | ⟨2, _⟩ => rfl⟩
  have e : (gsPiece L h).1.emb (ix3 0 r d) = ix3 h r d := gsR_idx h r d
  rw [e]
  show shapeCast S1x128x128 (L.state h 5) shapeCasts_S128x128_S1x128x128 (ix3 0 r d) = _
  rw [shapeCast_ab_1ab_apply]
  exact H.state_is h 5 r d

theorem canon_gs (L' : List (View.Piece (Elt Ideal) S4x128x128 .f32)) : GsIs (View.canon (gsPieces L ++ L')) fun h => R.state h 5 := fun h r d => by
  have hm : ∀ h, gsPiece L h ∈ gsPieces L := fun h => List.mem_map.mpr ⟨h, by revert h; decide, rfl⟩
  refine View.canon_append_of_pieces (Val := Elt Ideal) (e := .f32)
    (fun i : S4x128x128.Idx => (((R.state (i 0) 5 (i 1) (i 2) : ℝ) : EReal) : Ideal .f32)) L' (gsPieces L) (fun p hp x => ?_) (ix3 h r d)
    ⟨gsPiece L h, hm h, mem_of_emb _ (ix3 0 r d) (gsR_idx h r d)⟩
  obtain ⟨h, -, rfl⟩ := List.mem_map.mp hp
  exact gsPiece_apply H h x

/-! ## The gain's gradient -/

omit H in
/-- One unit's share of the gain's gradient. -/
def share (R : Reals) (c : Fin 5) (h : Fin 4) (d : Fin 128) : ℝ := ∑ r, R.y c h r d * R.dyw c h r d

omit H in
/-- The gain's gradient after `n` of the point's units. -/
def acc (R : Reals) (f : Fin 4 → Fin 128 → ℝ) : ℕ → Fin 4 → Fin 128 → ℝ
  | 0 => f
  | n + 1 => fun h d => if h = Fin.ofNat 4 n then acc R f n h d + share R (Fin.ofNat 5 (n / 4)) h d else acc R f n h d

omit H in
theorem acc_early (R : Reals) (f : Fin 4 → Fin 128 → ℝ) (h : Fin 4) (d : Fin 128) : ∀ n, n ≤ h.val → acc R f n h d = f h d
  | 0, _ => rfl
  | n + 1, hn => by
    show (if _ then _ else _) = _
    rw [if_neg (fun e => by have := congrArg Fin.val e; simp [Fin.ofNat] at this; omega), acc_early R f h d n (by omega)]

omit H in
theorem acc_end (R : Reals) (f : Fin 4 → Fin 128 → ℝ) (h : Fin 4) (d : Fin 128) : acc R f 20 h d = f h d + ∑ c, share R c h d := by
  match h with
  | 0 => simp [acc, Fin.sum_univ_five, Fin.ofNat]; ring
  | 1 => simp [acc, Fin.sum_univ_five, Fin.ofNat]; ring
  | 2 => simp [acc, Fin.sum_univ_five, Fin.ofNat]; ring
  | 3 => simp [acc, Fin.sum_univ_five, Fin.ofNat]; ring

omit H in
theorem not_mem_gain {h h' : Fin 4} (hne : h ≠ h') (d : Fin 128) :
    (ix2 0 (bLane h d) : S1x512.Idx) ∉ (Rect.unit (s := S1x512) ![0, 128 * h'.val] S1x128.size (inb_dw h')).set := by
  rw [Rect.mem_set_unit]
  intro hh
  have h1 := hh 1
  have : 128 * h'.val ≤ 128 * h.val + d.val ∧ 128 * h.val + d.val < 128 * h'.val + 128 := h1
  have hv : h.val ≠ h'.val := fun e => hne (Fin.ext e)
  omega

variable (rd : ℕ → List (View.Piece (Elt Ideal) S1x512 .f32) → Fin 4 → FVec Ideal S1x128 .f32) (base : List (View.Piece (Elt Ideal) S1x512 .f32))

omit H in
/-- The store of unit `n`. -/
theorem chain_succ (n : ℕ) : dwChain L rd base (n + 1) = (⟨gainR (Fin.ofNat 4 n),
    addf (shapeCast S1x128 (rd n (dwChain L rd base n) (Fin.ofNat 4 n)) shapeCasts_S1x128_S1x128) (L.dwSum (Fin.ofNat 5 (n / 4)) (Fin.ofNat 4 n))⟩
      : View.Piece (Elt Ideal) S1x512 .f32) :: dwChain L rd base n := rfl

omit H in
theorem chain_off (n : ℕ) {h : Fin 4} (hne : h ≠ Fin.ofNat 4 n) (d : Fin 128) :
    View.canon (dwChain L rd base (n + 1)) (ix2 0 (bLane h d)) = View.canon (dwChain L rd base n) (ix2 0 (bLane h d)) := by
  rw [chain_succ]
  exact View.canon_cons_of_not_mem _ _ (not_mem_gain hne d)

omit H in
theorem chain_on (n : ℕ) (d : Fin 128) :
    View.canon (dwChain L rd base (n + 1)) (ix2 0 (bLane (Fin.ofNat 4 n) d))
      = (rd n (dwChain L rd base n) (Fin.ofNat 4 n) (ix2 0 d) + L.dwSum (Fin.ofNat 5 (n / 4)) (Fin.ofNat 4 n) (ix2 0 d) : EReal) := by
  rw [chain_succ, ← gainR_idx, shapeCast_self]
  exact View.canon_cons_emb (Val := Elt Ideal) (e := .f32) (gainR (Fin.ofNat 4 n)) _ (dwChain L rd base n) (ix2 0 d : S1x128.Idx)

omit H in
/-- Before its first unit a head's lanes hold what the chain began with. -/
theorem canon_chain_early (h : Fin 4) (d : Fin 128) : ∀ n, n ≤ h.val →
    View.canon (dwChain L rd base n) (ix2 0 (bLane h d)) = View.canon base (ix2 0 (bLane h d))
  | 0, _ => rfl
  | n + 1, hn => by
    refine (chain_off rd base n (fun e => ?_) d).trans (canon_chain_early h d n (by omega))
    have := congrArg Fin.val e; simp [Fin.ofNat] at this; omega

/-- After `n` units the lanes of the heads met so far hold the sums so far. -/
theorem canon_chain (f : Fin 4 → Fin 128 → ℝ)
    (hb : ∀ n, n < 4 → ∀ d, rd n (dwChain L rd base n) (Fin.ofNat 4 n) (ix2 0 d) = ((f (Fin.ofNat 4 n) d : ℝ) : EReal))
    (hs : ∀ n, ¬n < 4 → ∀ d, rd n (dwChain L rd base n) (Fin.ofNat 4 n) (ix2 0 d) = View.canon (dwChain L rd base n) (ix2 0 (bLane (Fin.ofNat 4 n) d))) :
    ∀ n, n ≤ 20 → ∀ h : Fin 4, h.val < n → ∀ d, View.canon (dwChain L rd base n) (ix2 0 (bLane h d)) = ((acc R f n h d : ℝ) : EReal)
  | 0, _, _, hh, _ => absurd hh (by omega)
  | n + 1, hn, h, hh, d => by
    by_cases e : h = Fin.ofNat 4 n
    · subst e
      rw [chain_on, H.dwSum_is]
      show _ = ((if _ then _ else _ : ℝ) : EReal)
      rw [if_pos rfl, EReal.coe_add]
      refine congrArg₂ (· + ·) ?_ rfl
      by_cases h4 : n < 4
      · rw [hb n h4, acc_early]
        simp [Fin.ofNat]; omega
      · rw [hs n h4]
        exact canon_chain f hb hs n (by omega) _ (by simp [Fin.ofNat]; omega) d
    · refine (chain_off rd base n e d).trans ?_
      rw [canon_chain f hb hs n (by omega) h (by
        rcases Nat.lt_succ_iff_lt_or_eq.mp hh with h' | h'
        · exact h'
        · exact absurd (Fin.ext (by simp [Fin.ofNat]; omega)) e) d]
      show _ = ((if _ then _ else _ : ℝ) : EReal)
      rw [if_neg e]

/-- A later point: the first reads find what the point before left, the others what this point stored. -/
theorem canon_dw_later {arg12 : Memref sig .tc .vmem S1x512 .f32} (harg12 : arg12.IsWhole) (xo11 : FVec Ideal S1x512 .f32)
    (f : Fin 4 → Fin 128 → ℝ) (hx : DwIs xo11 f) :
    DwIs (View.canon (dwChain L (fun n l h => bif Nat.blt n 4 then View.readAt (Elt Ideal) arg12.view (gainR h).toLoadRect (harg12.unread xo11)
      else arg12.view.readCov l (gainR h).toLoadRect) [] 20)) fun h d => f h d + ∑ c, share R c h d := fun h d => by
  refine Eq.trans ?_ (congrArg Real.toEReal (acc_end R f h d))
  refine canon_chain H _ [] f (fun n hn d => ?_) (fun n hn d => ?_) 20 le_rfl h (by omega) d
  · have e : Nat.blt n 4 = true := by simpa using hn
    show (bif Nat.blt n 4 then _ else _ : FVec Ideal S1x128 .f32) _ = _
    rw [e]
    exact ((harg12.readAt_unread _ _ _).trans (congrArg xo11 (gainR_idx _ d))).trans (hx _ d)
  · have e : Nat.blt n 4 = false := by rw [Bool.eq_false_iff]; intro k; exact hn (by simpa using k)
    show (bif Nat.blt n 4 then _ else _ : FVec Ideal S1x128 .f32) _ = _
    rw [e]
    refine (congrFun (View.readCov_eq_canon' arg12.view _ (gainR _).toLoadRect) (ix2 0 d)).trans ?_
    show View.canon _ _ = _
    rw [gainR_idx]

omit H in
theorem canon_dwFill (i : S1x512.Idx) : View.canon (dwFill (F := Ideal)) i = ((0 : ℝ) : EReal) := by
  refine (View.canon_apply_of_pieces (Val := Elt Ideal) (e := .f32) (fun _ => ((0 : ℝ) : EReal)) dwFill (fun p hp x => ?_) i ?_)
  · obtain rfl := List.mem_singleton.mp hp
    exact Num.w_zero
  · refine ⟨_, List.mem_singleton.mpr rfl, mem_of_emb _ i ?_⟩
    funext a
    exact Fin.ext (by show _ + 1 * (i a).val = (i a).val; match a with | ⟨0, _⟩ => show 0 + _ = _; omega | ⟨1, _⟩ => show 0 + _ = _; omega)

/-- The first point: the reads find the fill, then what this point stored. -/
theorem canon_dw_first (arg12 : Memref sig .tc .vmem S1x512 .f32) :
    DwIs (View.canon (dwChain L (fun _ l h => arg12.view.readCov l (gainR h).toLoadRect) dwFill 20)) fun h d => 0 + ∑ c, share R c h d := fun h d => by
  have hr : ∀ n d, (arg12.view.readCov (dwChain L (fun _ l h => arg12.view.readCov l (gainR h).toLoadRect) dwFill n) (gainR (Fin.ofNat 4 n)).toLoadRect : FVec Ideal S1x128 .f32) (ix2 0 d)
      = View.canon (dwChain L (fun _ l h => arg12.view.readCov l (gainR h).toLoadRect) dwFill n) (ix2 0 (bLane (Fin.ofNat 4 n) d)) := fun n d => by
    refine (congrFun (View.readCov_eq_canon' arg12.view _ (gainR _).toLoadRect) (ix2 0 d)).trans ?_
    show View.canon _ _ = _
    rw [gainR_idx]
  refine Eq.trans ?_ (congrArg Real.toEReal (acc_end R (fun _ _ => 0) h d))
  refine canon_chain H _ dwFill (fun _ _ => 0) (fun n hn d => ?_) (fun n hn d => hr n d) 20 le_rfl h (by omega) d
  refine (hr n d).trans ?_
  exact (canon_chain_early _ _ _ _ n (by simp [Fin.ofNat]; omega)).trans (canon_dwFill _)

end Cert.KernelIdeal.Unit

end
-- ==== Proof.MatchA.lean ====
/- The gradient block stored by the first point. -/
module

public import proofs.«01_k».proof.Proof.Match

@[expose] public section

noncomputable section

namespace Cert.KernelIdeal.Unit

open Idealize.ShloMosaic Idealize.ShloMosaic.TcCoe Cert.KernelIdeal Cert.KernelIdeal.Gen
open Idealize.SL.Sem

variable {F : FTy → Type} [FloatOps F] [Named F]

variable (c : Dev nD) (i : grid0.Coords)
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg11 : Memref sig .tc .vmem S640x2048 .bf16} (harg11 : arg11.IsWhole)
  {arg12 : Memref sig .tc .vmem S1x512 .f32} (harg12 : arg12.IsWhole)
  {arg13 : Memref sig .tc .vmem S4x128x128 .f32} (harg13 : arg13.IsWhole)
  {arg14 : Memref sig .tc .vmem S3x4x128x128 .f32} (harg14 : arg14.IsWhole)
  (x0 x1 x2 x3 : Vec F S640x512 .bf16) (x4 x5 : Vec F S640x128 .f32) (x6 : Vec F S1x512 .f32) (x7 : Vec F S640x512 .f32)
  (x8 : Vec F S5x4x128x128 .f32) (x9 : Vec F S640x512 .f32)
  (xo11 : Vec F S1x512 .f32) (xs0 : Vec F S4x128x128 .f32) (xs1 : Vec F S3x4x128x128 .f32)

set_option maxHeartbeats 40000000 in
theorem runA_dp (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9).1 = dpPieces (loadsA harg1 harg2 harg3 harg4 harg5 harg6 harg7 harg8 harg9 harg10 x0 x1 x2 x3 x4 x5 x6 x7 x8 x9 arg13 arg14) := by
  rfl

end Cert.KernelIdeal.Unit
-- ==== Proof.MatchB.lean ====
/- The gradient block stored by a later point. -/
module

public import proofs.«01_k».proof.Proof.Match

@[expose] public section

noncomputable section

namespace Cert.KernelIdeal.Unit

open Idealize.ShloMosaic Idealize.ShloMosaic.TcCoe Cert.KernelIdeal Cert.KernelIdeal.Gen
open Idealize.SL.Sem

variable {F : FTy → Type} [FloatOps F] [Named F]

variable (c : Dev nD) (i : grid0.Coords)
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg11 : Memref sig .tc .vmem S640x2048 .bf16} (harg11 : arg11.IsWhole)
  {arg12 : Memref sig .tc .vmem S1x512 .f32} (harg12 : arg12.IsWhole)
  {arg13 : Memref sig .tc .vmem S4x128x128 .f32} (harg13 : arg13.IsWhole)
  {arg14 : Memref sig .tc .vmem S3x4x128x128 .f32} (harg14 : arg14.IsWhole)
  (x0 x1 x2 x3 : Vec F S640x512 .bf16) (x4 x5 : Vec F S640x128 .f32) (x6 : Vec F S1x512 .f32) (x7 : Vec F S640x512 .f32)
  (x8 : Vec F S5x4x128x128 .f32) (x9 : Vec F S640x512 .f32)
  (xo11 : Vec F S1x512 .f32) (xs0 : Vec F S4x128x128 .f32) (xs1 : Vec F S3x4x128x128 .f32)

set_option maxHeartbeats 40000000 in
theorem runB_dp (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xo11 xs0 xs1).1 = dpPieces (loadsB harg1 harg2 harg3 harg4 harg5 harg6 harg7 harg8 harg9 harg10 harg13 harg14 x0 x1 x2 x3 x4 x5 x6 x7 x8 x9 xs0 xs1) := by
  rfl

end Cert.KernelIdeal.Unit
-- ==== Proof.MatchFirstDecay.lean ====
/- The decay tables stored by the first point. -/
module

public import proofs.«01_k».proof.Proof.Match

@[expose] public section

noncomputable section

namespace Cert.KernelIdeal.Unit

open Idealize.ShloMosaic Idealize.ShloMosaic.TcCoe Cert.KernelIdeal Cert.KernelIdeal.Gen
open Idealize.SL.Sem

variable {F : FTy → Type} [FloatOps F] [Named F]

variable (c : Dev nD) (i : grid0.Coords)
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg11 : Memref sig .tc .vmem S640x2048 .bf16} (harg11 : arg11.IsWhole)
  {arg12 : Memref sig .tc .vmem S1x512 .f32} (harg12 : arg12.IsWhole)
  {arg13 : Memref sig .tc .vmem S4x128x128 .f32} (harg13 : arg13.IsWhole)
  {arg14 : Memref sig .tc .vmem S3x4x128x128 .f32} (harg14 : arg14.IsWhole)
  (x0 x1 x2 x3 : Vec F S640x512 .bf16) (x4 x5 : Vec F S640x128 .f32) (x6 : Vec F S1x512 .f32) (x7 : Vec F S640x512 .f32)
  (x8 : Vec F S5x4x128x128 .f32) (x9 : Vec F S640x512 .f32)
  (xo11 : Vec F S1x512 .f32) (xs0 : Vec F S4x128x128 .f32) (xs1 : Vec F S3x4x128x128 .f32)

set_option maxHeartbeats 40000000 in
theorem runA_dec (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9).2.2.2.1 = decPieces := by
  rfl

end Cert.KernelIdeal.Unit

end
-- ==== Proof.MatchFirstState.lean ====
/- The carried state gradient stored by the first point. -/
module

public import proofs.«01_k».proof.Proof.Match

@[expose] public section

noncomputable section

namespace Cert.KernelIdeal.Unit

open Idealize.ShloMosaic Idealize.ShloMosaic.TcCoe Cert.KernelIdeal Cert.KernelIdeal.Gen
open Idealize.SL.Sem

variable {F : FTy → Type} [FloatOps F] [Named F]

variable (c : Dev nD) (i : grid0.Coords)
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg11 : Memref sig .tc .vmem S640x2048 .bf16} (harg11 : arg11.IsWhole)
  {arg12 : Memref sig .tc .vmem S1x512 .f32} (harg12 : arg12.IsWhole)
  {arg13 : Memref sig .tc .vmem S4x128x128 .f32} (harg13 : arg13.IsWhole)
  {arg14 : Memref sig .tc .vmem S3x4x128x128 .f32} (harg14 : arg14.IsWhole)
  (x0 x1 x2 x3 : Vec F S640x512 .bf16) (x4 x5 : Vec F S640x128 .f32) (x6 : Vec F S1x512 .f32) (x7 : Vec F S640x512 .f32)
  (x8 : Vec F S5x4x128x128 .f32) (x9 : Vec F S640x512 .f32)
  (xo11 : Vec F S1x512 .f32) (xs0 : Vec F S4x128x128 .f32) (xs1 : Vec F S3x4x128x128 .f32)

set_option maxHeartbeats 40000000 in
theorem runA_gs (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9).2.2.1 = gsPieces (loadsA harg1 harg2 harg3 harg4 harg5 harg6 harg7 harg8 harg9 harg10 x0 x1 x2 x3 x4 x5 x6 x7 x8 x9 arg13 arg14) ++ gsFill := by
  rfl

end Cert.KernelIdeal.Unit

end
-- ==== Proof.MatchLaterState.lean ====
/- The carried state gradient stored by a later point. -/
module

public import proofs.«01_k».proof.Proof.Match

@[expose] public section

noncomputable section

namespace Cert.KernelIdeal.Unit

open Idealize.ShloMosaic Idealize.ShloMosaic.TcCoe Cert.KernelIdeal Cert.KernelIdeal.Gen
open Idealize.SL.Sem

variable {F : FTy → Type} [FloatOps F] [Named F]

variable (c : Dev nD) (i : grid0.Coords)
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg11 : Memref sig .tc .vmem S640x2048 .bf16} (harg11 : arg11.IsWhole)
  {arg12 : Memref sig .tc .vmem S1x512 .f32} (harg12 : arg12.IsWhole)
  {arg13 : Memref sig .tc .vmem S4x128x128 .f32} (harg13 : arg13.IsWhole)
  {arg14 : Memref sig .tc .vmem S3x4x128x128 .f32} (harg14 : arg14.IsWhole)
  (x0 x1 x2 x3 : Vec F S640x512 .bf16) (x4 x5 : Vec F S640x128 .f32) (x6 : Vec F S1x512 .f32) (x7 : Vec F S640x512 .f32)
  (x8 : Vec F S5x4x128x128 .f32) (x9 : Vec F S640x512 .f32)
  (xo11 : Vec F S1x512 .f32) (xs0 : Vec F S4x128x128 .f32) (xs1 : Vec F S3x4x128x128 .f32)

set_option maxHeartbeats 40000000 in
theorem runB_gs (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xo11 xs0 xs1).2.2.1 = gsPieces (loadsB harg1 harg2 harg3 harg4 harg5 harg6 harg7 harg8 harg9 harg10 harg13 harg14 x0 x1 x2 x3 x4 x5 x6 x7 x8 x9 xs0 xs1) := by
  rfl

end Cert.KernelIdeal.Unit

end
-- ==== Proof.GainChain.lean ====
/- The stores of the gain's gradient, one after another. -/
module

public import proofs.«01_k».proof.Proof.Match

@[expose] public section

noncomputable section

namespace Cert.KernelIdeal.Unit

open Idealize.ShloMosaic Cert.KernelIdeal Cert.KernelIdeal.Gen

variable {F : FTy → Type} [FloatOps F] [Named F]

/-- The stores after unit `n`, those before it being `t`. -/
def dwNext (L : Loads F) (rd : ℕ → List (View.Piece (Elt F) S1x512 .f32) → Fin 4 → Vec F S1x128 .f32) (n : ℕ)
    (t : List (View.Piece (Elt F) S1x512 .f32)) : List (View.Piece (Elt F) S1x512 .f32) :=
  ⟨Rect.unit ![0, 128 * (Fin.ofNat 4 n).val] S1x128.size (inb_dw (Fin.ofNat 4 n)),
    addf (shapeCast S1x128 (rd n t (Fin.ofNat 4 n)) shapeCasts_S1x128_S1x128) (L.dwSum (Fin.ofNat 5 (n / 4)) (Fin.ofNat 4 n))⟩ :: t

/-- A list of twenty stores on `base`, each the next of those before it, is the chain. -/
theorem eq_dwChain (L : Loads F) (rd : ℕ → List (View.Piece (Elt F) S1x512 .f32) → Fin 4 → Vec F S1x128 .f32)
    (base l : List (View.Piece (Elt F) S1x512 .f32)) (h0 : l.drop 20 = base)
    (hs : ∀ n < 20, l.drop (19 - n) = dwNext L rd n (l.drop (20 - n))) : l = dwChain L rd base 20 := by
  have h : ∀ n ≤ 20, l.drop (20 - n) = dwChain L rd base n := by
    intro n
    induction n with
    | zero => exact fun _ => h0
    | succ n ih =>
      intro hn
      rw [show 20 - (n + 1) = 19 - n by omega, hs n (by omega), ih (by omega)]
      rfl
  exact h 20 le_rfl

end Cert.KernelIdeal.Unit

end
-- ==== Proof.MatchFirstGain.lean ====
/- The gain's gradient stored by the first point. -/
module

public import proofs.«01_k».proof.Proof.GainChain

@[expose] public section

noncomputable section

namespace Cert.KernelIdeal.Unit

open Idealize.ShloMosaic Idealize.ShloMosaic.TcCoe Cert.KernelIdeal Cert.KernelIdeal.Gen
open Idealize.SL.Sem

variable {F : FTy → Type} [FloatOps F] [Named F]

variable (c : Dev nD) (i : grid0.Coords)
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg11 : Memref sig .tc .vmem S640x2048 .bf16} (harg11 : arg11.IsWhole)
  {arg12 : Memref sig .tc .vmem S1x512 .f32} (harg12 : arg12.IsWhole)
  {arg13 : Memref sig .tc .vmem S4x128x128 .f32} (harg13 : arg13.IsWhole)
  {arg14 : Memref sig .tc .vmem S3x4x128x128 .f32} (harg14 : arg14.IsWhole)
  (x0 x1 x2 x3 : Vec F S640x512 .bf16) (x4 x5 : Vec F S640x128 .f32) (x6 : Vec F S1x512 .f32) (x7 : Vec F S640x512 .f32)
  (x8 : Vec F S5x4x128x128 .f32) (x9 : Vec F S640x512 .f32)
  (xo11 : Vec F S1x512 .f32) (xs0 : Vec F S4x128x128 .f32) (xs1 : Vec F S3x4x128x128 .f32)

set_option maxHeartbeats 40000000 in
theorem runA_dw (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9).2.1 = dwChain (loadsA harg1 harg2 harg3 harg4 harg5 harg6 harg7 harg8 harg9 harg10 x0 x1 x2 x3 x4 x5 x6 x7 x8 x9 arg13 arg14)
    (fun _ l h => arg12.view.readCov l (gainR h).toLoadRect) dwFill 20 := by
  refine eq_dwChain _ _ _ _ rfl fun n hn => ?_
  interval_cases n <;> rfl

end Cert.KernelIdeal.Unit

end
-- ==== Proof.MatchLaterGain.lean ====
/- The gain's gradient stored by a later point. -/
module

public import proofs.«01_k».proof.Proof.GainChain

@[expose] public section

noncomputable section

namespace Cert.KernelIdeal.Unit

open Idealize.ShloMosaic Idealize.ShloMosaic.TcCoe Cert.KernelIdeal Cert.KernelIdeal.Gen
open Idealize.SL.Sem

variable {F : FTy → Type} [FloatOps F] [Named F]

variable (c : Dev nD) (i : grid0.Coords)
  {arg1 : Memref sig .tc .vmem S640x512 .bf16} (harg1 : arg1.IsWhole)
  {arg2 : Memref sig .tc .vmem S640x512 .bf16} (harg2 : arg2.IsWhole)
  {arg3 : Memref sig .tc .vmem S640x512 .bf16} (harg3 : arg3.IsWhole)
  {arg4 : Memref sig .tc .vmem S640x512 .bf16} (harg4 : arg4.IsWhole)
  {arg5 : Memref sig .tc .vmem S640x128 .f32} (harg5 : arg5.IsWhole)
  {arg6 : Memref sig .tc .vmem S640x128 .f32} (harg6 : arg6.IsWhole)
  {arg7 : Memref sig .tc .vmem S1x512 .f32} (harg7 : arg7.IsWhole)
  {arg8 : Memref sig .tc .vmem S640x512 .f32} (harg8 : arg8.IsWhole)
  {arg9 : Memref sig .tc .vmem S5x4x128x128 .f32} (harg9 : arg9.IsWhole)
  {arg10 : Memref sig .tc .vmem S640x512 .f32} (harg10 : arg10.IsWhole)
  {arg11 : Memref sig .tc .vmem S640x2048 .bf16} (harg11 : arg11.IsWhole)
  {arg12 : Memref sig .tc .vmem S1x512 .f32} (harg12 : arg12.IsWhole)
  {arg13 : Memref sig .tc .vmem S4x128x128 .f32} (harg13 : arg13.IsWhole)
  {arg14 : Memref sig .tc .vmem S3x4x128x128 .f32} (harg14 : arg14.IsWhole)
  (x0 x1 x2 x3 : Vec F S640x512 .bf16) (x4 x5 : Vec F S640x128 .f32) (x6 : Vec F S1x512 .f32) (x7 : Vec F S640x512 .f32)
  (x8 : Vec F S5x4x128x128 .f32) (x9 : Vec F S640x512 .f32)
  (xo11 : Vec F S1x512 .f32) (xs0 : Vec F S4x128x128 .f32) (xs1 : Vec F S3x4x128x128 .f32)

set_option maxHeartbeats 40000000 in
theorem runB_dw (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xo11 xs0 xs1).2.1 = dwChain (loadsB harg1 harg2 harg3 harg4 harg5 harg6 harg7 harg8 harg9 harg10 harg13 harg14 x0 x1 x2 x3 x4 x5 x6 x7 x8 x9 xs0 xs1)
    (fun n l h => bif Nat.blt n 4 then View.readAt (Elt F) arg12.view (gainR h).toLoadRect (harg12.unread xo11) else arg12.view.readCov l (gainR h).toLoadRect) [] 20 := by
  refine eq_dwChain _ _ _ _ rfl fun n hn => ?_
  interval_cases n <;> rfl

end Cert.KernelIdeal.Unit

end
-- ==== Proof.Steps.lean ====
/- One grid point's outputs and scratch arrays after it has run, in real numbers. -/
module

public import proofs.«01_k».proof.Proof.Out
public import proofs.«01_k».proof.Proof.MatchA
public import proofs.«01_k».proof.Proof.MatchB
public import proofs.«01_k».proof.Proof.MatchFirstDecay
public import proofs.«01_k».proof.Proof.MatchFirstState
public import proofs.«01_k».proof.Proof.MatchLaterState
public import proofs.«01_k».proof.Proof.MatchFirstGain
public import proofs.«01_k».proof.Proof.MatchLaterGain

@[expose] public section

noncomputable section

namespace Cert.KernelIdeal.Unit

open Idealize.ShloMosaic hiding ix1 ix2 ix3 ix4
open Idealize.ShloMosaic.TcCoe Cert.KernelIdeal Cert.KernelIdeal.Gen Idealize.ShloMosaic.ValueIdx
open Idealize.SL.Sem

/-- The gradient block holds a point's four gradients. -/
def DpIs (R : Reals) (x : FVec Ideal S640x2048 .bf16) : Prop :=
  ∀ c h p r d, x (ix2 (bRow c r) (pLane p h d)) = ((R.dp c h p r d : ℝ) : EReal)

variable (c : Dev nD) (i : grid0.Coords)
  (arg1 : Memref sig .tc .vmem S640x512 .bf16) (harg1 : arg1.IsWhole)
  (arg2 : Memref sig .tc .vmem S640x512 .bf16) (harg2 : arg2.IsWhole)
  (arg3 : Memref sig .tc .vmem S640x512 .bf16) (harg3 : arg3.IsWhole)
  (arg4 : Memref sig .tc .vmem S640x512 .bf16) (harg4 : arg4.IsWhole)
  (arg5 : Memref sig .tc .vmem S640x128 .f32) (harg5 : arg5.IsWhole)
  (arg6 : Memref sig .tc .vmem S640x128 .f32) (harg6 : arg6.IsWhole)
  (arg7 : Memref sig .tc .vmem S1x512 .f32) (harg7 : arg7.IsWhole)
  (arg8 : Memref sig .tc .vmem S640x512 .f32) (harg8 : arg8.IsWhole)
  (arg9 : Memref sig .tc .vmem S5x4x128x128 .f32) (harg9 : arg9.IsWhole)
  (arg10 : Memref sig .tc .vmem S640x512 .f32) (harg10 : arg10.IsWhole)
  (arg11 : Memref sig .tc .vmem S640x2048 .bf16) (harg11 : arg11.IsWhole)
  (arg12 : Memref sig .tc .vmem S1x512 .f32) (harg12 : arg12.IsWhole)
  (arg13 : Memref sig .tc .vmem S4x128x128 .f32) (harg13 : arg13.IsWhole)
  (arg14 : Memref sig .tc .vmem S3x4x128x128 .f32) (harg14 : arg14.IsWhole)
  {x0 x1 x2 x3 : FVec Ideal S640x512 .bf16} {x4 x5 : FVec Ideal S640x128 .f32} {x6 : FVec Ideal S1x512 .f32} {x7 : FVec Ideal S640x512 .f32}
  {x8 : FVec Ideal S5x4x128x128 .f32} {x9 : FVec Ideal S640x512 .f32}
  {R : Reals} (B : Blocks R x0 x1 x2 x3 x4 x5 x6 x7 x8 x9)

include B

/-! The first point. -/

section first
variable (hc : cond0_0 i) (hg : ∀ h r d, R.gs h r d = 0)
include hg

theorem first_dp : DpIs R (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9) := fun ch h p r d => by
  unfold out0_A_10
  rw [View.read_writes_junk_eq_canon, runA_dp]
  exact canon_dp (reads_loadsA harg1 harg2 harg3 harg4 harg5 harg6 harg7 harg8 harg9 harg10 x0 x1 x2 x3 x4 x5 x6 x7 x8 x9 arg13 arg14 B hg) ch h p r d

theorem first_dw : DwIs (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9) fun h d => 0 + ∑ c, share R c h d := by
  unfold out0_A_11
  rw [View.read_writes_junk_eq_canon, runA_dw]
  exact canon_dw_first (reads_loadsA harg1 harg2 harg3 harg4 harg5 harg6 harg7 harg8 harg9 harg10 x0 x1 x2 x3 x4 x5 x6 x7 x8 x9 arg13 arg14 B hg) arg12

theorem first_gs : GsIs (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9) fun h => R.state h 5 := by
  unfold sout0_A_0
  rw [View.read_writes_junk_eq_canon, runA_gs]
  exact canon_gs (reads_loadsA harg1 harg2 harg3 harg4 harg5 harg6 harg7 harg8 harg9 harg10 x0 x1 x2 x3 x4 x5 x6 x7 x8 x9 arg13 arg14 B hg) gsFill

omit B hg in
theorem first_dec : DecIs (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9) := fun n h r d => by
  unfold sout0_A_1
  rw [View.read_writes_junk_eq_canon, runA_dec]
  exact canon_dec n h r d

end first

/-! A later point. -/

section later
variable (hc : ¬cond0_0 i) {xo11 : FVec Ideal S1x512 .f32} {xs0 : FVec Ideal S4x128x128 .f32} {xs1 : FVec Ideal S3x4x128x128 .f32}
  (hd : DecIs xs1) (hg : GsIs xs0 R.gs)
include hd hg

theorem later_dp : DpIs R (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xo11 xs0 xs1) := fun ch h p r d => by
  unfold out0_B_10
  rw [View.read_writes_junk_eq_canon, runB_dp]
  exact canon_dp (reads_loadsB harg1 harg2 harg3 harg4 harg5 harg6 harg7 harg8 harg9 harg10 harg13 harg14 x0 x1 x2 x3 x4 x5 x6 x7 x8 x9 B xs0 xs1 hd hg) ch h p r d

theorem later_dw {f : Fin 4 → Fin 128 → ℝ} (hf : DwIs xo11 f) :
    DwIs (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xo11 xs0 xs1) fun h d => f h d + ∑ c, share R c h d := by
  unfold out0_B_11
  rw [View.read_writes_junk_eq_canon, runB_dw]
  exact canon_dw_later (reads_loadsB harg1 harg2 harg3 harg4 harg5 harg6 harg7 harg8 harg9 harg10 harg13 harg14 x0 x1 x2 x3 x4 x5 x6 x7 x8 x9 B xs0 xs1 hd hg) harg12 xo11 f hf

theorem later_gs : GsIs (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 x9 xo11 xs0 xs1) fun h => R.state h 5 := by
  unfold sout0_B_0
  rw [View.read_writes_junk_eq_canon, runB_gs]
  have := canon_gs (reads_loadsB harg1 harg2 harg3 harg4 harg5 harg6 harg7 harg8 harg9 harg10 harg13 harg14 x0 x1 x2 x3 x4 x5 x6 x7 x8 x9 B xs0 xs1 hd hg) []
  rwa [List.append_nil] at this

end later

end Cert.KernelIdeal.Unit

end
-- ==== Proof.Chain.lean ====
/- The walk over the thirteen points: what each leaves in its gradient block, the scratch arrays and the gain's gradient. -/
module

public import proofs.«01_k».proof.Proof.Steps

@[expose] public section

noncomputable section

namespace Cert.KernelIdeal.Unit

open Idealize.ShloMosaic hiding ix1 ix2 ix3 ix4
open Idealize.ShloMosaic.TcCoe Cert.KernelIdeal Cert.KernelIdeal.Gen Idealize.ShloMosaic.ValueIdx
open Idealize.SL.Sem

variable (m : (ℓ : Loc nD τ sig) → Buf (Elt Ideal) ℓ) (c : Dev nD) (X : Spec.In)

/-- The blocks every point finds are those of the padded sequence. -/
def BlocksAt : Prop := ∀ t : Fin cfg0.N, ∀ gs, Blocks (Seq.point X t.val gs) (iblk m c 0 t) (iblk m c 1 t) (iblk m c 2 t) (iblk m c 3 t) (iblk m c 4 t) (iblk m c 5 t) (iblk m c 6 t) (iblk m c 7 t) (iblk m c 8 t) (iblk m c 9 t)

/-- What a point leaves. -/
structure Left (n : ℕ) (x : Vec Ideal S640x2048 .bf16 × Vec Ideal S1x512 .f32 × Vec Ideal S4x128x128 .f32 × Vec Ideal S3x4x128x128 .f32) : Prop where
  dp : DpIs (Seq.point X n (Seq.carried X (5 * n))) x.1
  dw : DwIs x.2.1 fun h d => ∑ t ∈ Finset.range (n + 1), Seq.dwPoint X h t d
  gs : GsIs x.2.2.1 (Seq.carried X (5 * (n + 1)))
  dec : DecIs x.2.2.2

variable {m c X}

theorem dp_first (t : Fin cfg0.N) (h0 : t.val % 13 = 0) {R : Reals} (B : Blocks R (iblk m c 0 t) (iblk m c 1 t) (iblk m c 2 t) (iblk m c 3 t) (iblk m c 4 t) (iblk m c 5 t) (iblk m c 6 t) (iblk m c 7 t) (iblk m c 8 t) (iblk m c 9 t)) (hg : ∀ h r d, R.gs h r d = 0) :
    DpIs R (outsAt0 m c t.val t.isLt).1 := by
  rw [outsAt0_A m c t h0]
  dsimp only
  exact first_dp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) B ((hcond0_0 t).mpr h0) hg

theorem dw_first (t : Fin cfg0.N) (h0 : t.val % 13 = 0) {R : Reals} (B : Blocks R (iblk m c 0 t) (iblk m c 1 t) (iblk m c 2 t) (iblk m c 3 t) (iblk m c 4 t) (iblk m c 5 t) (iblk m c 6 t) (iblk m c 7 t) (iblk m c 8 t) (iblk m c 9 t)) (hg : ∀ h r d, R.gs h r d = 0) :
    DwIs (outsAt0 m c t.val t.isLt).2.1 fun h d => 0 + ∑ k, share R k h d := by
  rw [outsAt0_A m c t h0]
  dsimp only
  exact first_dw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) B ((hcond0_0 t).mpr h0) hg

theorem gs_first (t : Fin cfg0.N) (h0 : t.val % 13 = 0) {R : Reals} (B : Blocks R (iblk m c 0 t) (iblk m c 1 t) (iblk m c 2 t) (iblk m c 3 t) (iblk m c 4 t) (iblk m c 5 t) (iblk m c 6 t) (iblk m c 7 t) (iblk m c 8 t) (iblk m c 9 t)) (hg : ∀ h r d, R.gs h r d = 0) :
    GsIs (outsAt0 m c t.val t.isLt).2.2.1 fun h => R.state h 5 := by
  rw [outsAt0_A m c t h0]
  dsimp only
  exact first_gs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) B ((hcond0_0 t).mpr h0) hg

theorem dec_first (t : Fin cfg0.N) (h0 : t.val % 13 = 0) : DecIs (outsAt0 m c t.val t.isLt).2.2.2 := by
  rw [outsAt0_A m c t h0]
  dsimp only
  exact first_dec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) ((hcond0_0 t).mpr h0)

theorem dp_later (t : Fin cfg0.N) (h0 : ¬t.val % 13 = 0) (hp : t.val - 1 < cfg0.N) {R : Reals} (B : Blocks R (iblk m c 0 t) (iblk m c 1 t) (iblk m c 2 t) (iblk m c 3 t) (iblk m c 4 t) (iblk m c 5 t) (iblk m c 6 t) (iblk m c 7 t) (iblk m c 8 t) (iblk m c 9 t))
    (hd : DecIs (outsAt0 m c (t.val - 1) hp).2.2.2) (hg : GsIs (outsAt0 m c (t.val - 1) hp).2.2.1 R.gs) :
    DpIs R (outsAt0 m c t.val t.isLt).1 := by
  rw [outsAt0_B m c t h0]
  dsimp only
  exact later_dp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) B (fun h => h0 ((hcond0_0 t).mp h)) (xo11 := (outsAt0 m c (t.val - 1) hp).2.1) hd hg

theorem dw_later (t : Fin cfg0.N) (h0 : ¬t.val % 13 = 0) (hp : t.val - 1 < cfg0.N) {R : Reals} (B : Blocks R (iblk m c 0 t) (iblk m c 1 t) (iblk m c 2 t) (iblk m c 3 t) (iblk m c 4 t) (iblk m c 5 t) (iblk m c 6 t) (iblk m c 7 t) (iblk m c 8 t) (iblk m c 9 t))
    (hd : DecIs (outsAt0 m c (t.val - 1) hp).2.2.2) (hg : GsIs (outsAt0 m c (t.val - 1) hp).2.2.1 R.gs)
    {f} (hf : DwIs (outsAt0 m c (t.val - 1) hp).2.1 f) :
    DwIs (outsAt0 m c t.val t.isLt).2.1 fun h d => f h d + ∑ k, share R k h d := by
  rw [outsAt0_B m c t h0]
  dsimp only
  exact later_dw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) B (fun h => h0 ((hcond0_0 t).mp h)) hd hg hf

theorem gs_later (t : Fin cfg0.N) (h0 : ¬t.val % 13 = 0) (hp : t.val - 1 < cfg0.N) {R : Reals} (B : Blocks R (iblk m c 0 t) (iblk m c 1 t) (iblk m c 2 t) (iblk m c 3 t) (iblk m c 4 t) (iblk m c 5 t) (iblk m c 6 t) (iblk m c 7 t) (iblk m c 8 t) (iblk m c 9 t))
    (hd : DecIs (outsAt0 m c (t.val - 1) hp).2.2.2) (hg : GsIs (outsAt0 m c (t.val - 1) hp).2.2.1 R.gs) :
    GsIs (outsAt0 m c t.val t.isLt).2.2.1 fun h => R.state h 5 := by
  rw [outsAt0_B m c t h0]
  dsimp only
  exact later_gs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) B (fun h => h0 ((hcond0_0 t).mp h)) (xo11 := (outsAt0 m c (t.val - 1) hp).2.1) hd hg

set_option maxHeartbeats 1000000 in
theorem dec_later (t : Fin cfg0.N) (h0 : ¬t.val % 13 = 0) (hp : t.val - 1 < cfg0.N)
    (hd : DecIs (outsAt0 m c (t.val - 1) hp).2.2.2) : DecIs (outsAt0 m c t.val t.isLt).2.2.2 := by
  rw [outsAt0_B m c t h0]
  dsimp only
  unfold sout0_B_1
  exact hd

theorem left (hB : BlocksAt m c X) : ∀ n (hn : n < cfg0.N), Left X n (outsAt0 m c n hn)
  | 0, hn => by
    have B := hB ⟨0, hn⟩ (Seq.carried X (5 * 0))
    have hg : ∀ h r d, (Seq.point X 0 (Seq.carried X (5 * 0))).gs h r d = 0 := fun _ _ _ => rfl
    refine ⟨dp_first ⟨0, hn⟩ rfl B hg, fun hh d => (dw_first ⟨0, hn⟩ rfl B hg hh d).trans ?_,
      fun hh r d => (gs_first ⟨0, hn⟩ rfl B hg hh r d).trans (congrArg Real.toEReal (Seq.state_eq X (t := 0) (by omega) hh r d 5 le_rfl)),
      dec_first ⟨0, hn⟩ rfl⟩
    refine congrArg Real.toEReal ?_
    show 0 + _ = ∑ t ∈ Finset.range (0 + 1), Seq.dwPoint X hh t d
    rw [Finset.sum_range_one, zero_add]; rfl
  | n + 1, hn => by
    have hN := lt_of_lt_of_eq hn (show cfg0.N = 13 from N_0)
    have h0 : ¬(n + 1) % 13 = 0 := by omega
    have ih := left hB n (by omega)
    have B := hB ⟨n + 1, hn⟩ (Seq.carried X (5 * (n + 1)))
    refine ⟨dp_later ⟨n + 1, hn⟩ h0 _ B ih.dec ih.gs, fun hh d => (dw_later ⟨n + 1, hn⟩ h0 _ B ih.dec ih.gs ih.dw hh d).trans ?_,
      fun hh r d => (gs_later ⟨n + 1, hn⟩ h0 _ B ih.dec ih.gs hh r d).trans (congrArg Real.toEReal (Seq.state_eq X (t := n + 1) (by omega) hh r d 5 le_rfl)),
      dec_later ⟨n + 1, hn⟩ h0 _ ih.dec⟩
    exact congrArg Real.toEReal (Finset.sum_range_succ (fun t => Seq.dwPoint X hh t d) (n + 1)).symm

end Cert.KernelIdeal.Unit

end
-- ==== Proof.Ref1.lean ====
/- The reference read in real numbers: the rotated heads and the retention. -/
module

public import proofs.«01_k».proof.Proof.Spec
public import proofs.«01_k».proof.Proof.Words
public import proofs.«01_k».proof.Proof.Gen.ReferenceIdeal.Read
public import Idealize.ShloMosaic.Lib.IdealHost

@[expose] public section

noncomputable section

namespace Cert.Ref

open Cert.ReferenceIdeal Cert.ReferenceIdeal.Read Idealize.ShloMosaic Cert.Spec

/-- The head and the lane of one of the 512 columns. -/
def hd (c : Fin 512) : Fin 4 := ⟨c.val / 128, by omega⟩
def ln (c : Fin 512) : Fin 128 := ⟨c.val % 128, by omega⟩

/-- Column block `c` of the projection. -/
def part (X : In) (c : Fin 4) : Fin 8208 → Fin 4 → Fin 128 → ℝ :=
  match c with
  | 0 => X.q
  | 1 => X.k
  | 2 => X.v
  | 3 => X.g

/-- The arguments hold the finite inputs `X`, in the columns that are read. -/
structure Holds (X : In) (x0 : S8208x2560.Idx → EReal) (x1 : S1x512.Idx → EReal) (x2 : S8208x1024.Idx → EReal) : Prop where
  proj : ∀ (i : S8208x2560.Idx) (c : Fin 4) (l : Fin 512), (i 1).val = 512 * c.val + l.val →
    x0 i = ((part X c (i 0) (hd l) (ln l) : ℝ) : EReal)
  gain : ∀ i : S1x512.Idx, x1 i = ((X.w (hd (i 1)) (ln (i 1)) : ℝ) : EReal)
  grad : ∀ (i : S8208x1024.Idx) (l : Fin 512), (i 1).val = l.val → x2 i = ((X.dret (i 0) (hd l) (ln l) : ℝ) : EReal)

theorem flat (f : Fin 8208 → Fin 4 → Fin 128 → ℝ) (t : Fin 8208) (h : Fin 4) (d : Fin 128) (a : Fin 8208) (b : Fin 512)
    (ha : a.val = ((t.val * 4 + h.val) * 128 + d.val) / 512) (hb : b.val = ((t.val * 4 + h.val) * 128 + d.val) % 512) :
    f a (hd b) (ln b) = f t h d := by
  have e1 : a = t := Fin.ext (by omega)
  have e2 : hd b = h := Fin.ext (by show b.val / 128 = h.val; omega)
  have e3 : ln b = d := Fin.ext (by show b.val % 128 = d.val; omega)
  rw [e1, e2, e3]

section

variable {X : In} {x0 : S8208x2560.Idx → EReal} {x1 : S1x512.Idx → EReal} {x2 : S8208x1024.Idx → EReal} (H : Holds X x0 x1 x2)
include H

theorem r0 (i : S8208x512.Idx) : val_main_v0 (F := Ideal) x0 i = ((X.q (i 0) (hd (i 1)) (ln (i 1)) : ℝ) : EReal) := by
  rw [val_main_v0_apply]; exact H.proj _ 0 (i 1) (by show (i 1).val = 512 * 0 + (i 1).val; omega)
theorem r1 (i : S8208x512.Idx) : val_main_v1 (F := Ideal) x0 i = ((X.k (i 0) (hd (i 1)) (ln (i 1)) : ℝ) : EReal) := by
  rw [val_main_v1_apply]; exact H.proj _ 1 (i 1) (by show 512 + (i 1).val = 512 * 1 + (i 1).val; omega)
theorem r2 (i : S8208x512.Idx) : val_main_v2 (F := Ideal) x0 i = ((X.v (i 0) (hd (i 1)) (ln (i 1)) : ℝ) : EReal) := by
  rw [val_main_v2_apply]; exact H.proj _ 2 (i 1) (by show 1024 + (i 1).val = 512 * 2 + (i 1).val; omega)
theorem r3 (i : S8208x512.Idx) : val_main_v3 (F := Ideal) x0 i = ((X.g (i 0) (hd (i 1)) (ln (i 1)) : ℝ) : EReal) := by
  rw [val_main_v3_apply]; exact H.proj _ 3 (i 1) (by show 1536 + (i 1).val = 512 * 3 + (i 1).val; omega)
theorem r5 (i : S8208x4x128.Idx) : val_main_v5 (F := Ideal) x0 i = ((X.q (i 0) (i 1) (i 2) : ℝ) : EReal) := by
  rw [val_main_v5_apply, r0 H]; exact congrArg _ (flat _ _ _ _ _ _ rfl rfl)
theorem r40 (i : S8208x4x128.Idx) : val_main_v40 (F := Ideal) x0 i = ((X.k (i 0) (i 1) (i 2) : ℝ) : EReal) := by
  rw [val_main_v40_apply, r1 H]; exact congrArg _ (flat _ _ _ _ _ _ rfl rfl)
theorem r77 (i : S8208x4x128.Idx) : val_main_v77 (F := Ideal) x0 i = ((X.v (i 0) (i 1) (i 2) : ℝ) : EReal) := by
  rw [val_main_v77_apply, r2 H]; exact congrArg _ (flat _ _ _ _ _ _ rfl rfl)

end

/-- Two halves side by side along the lanes. -/
theorem cat (a b : S8208x4x64.Idx → EReal) (h : Shape.Concatenates [S8208x4x64, S8208x4x64] S8208x4x128 2) (i : S8208x4x128.Idx) :
    concatenate S8208x4x128 2 [⟨S8208x4x64, a⟩, ⟨S8208x4x64, b⟩] h i
      = if (i 2).val < 64 then a (ValueIdx.ix3 (i 0) (i 1) (pairOf (i 2))) else b (ValueIdx.ix3 (i 0) (i 1) (pairOf (i 2))) := by
  have hi : (i 2).val < 128 := (i 2).isLt
  split
  · rename_i hl
    refine concatenate_pair_apply_left 2 a b h i rfl _ fun c => ?_
    match c with
    | ⟨0, _⟩ => rfl
    | ⟨1, _⟩ => rfl
    | ⟨2, _⟩ => exact Nat.mod_eq_of_lt hl
  · rename_i hl
    refine concatenate_pair_apply_right 2 a b h i rfl rfl _ (fun c hc => ?_) ?_
    · match c with
      | ⟨0, _⟩ => rfl
      | ⟨1, _⟩ => rfl
      | ⟨2, _⟩ => exact absurd rfl hc
    · show (i 2).val % 64 + 64 = (i 2).val; omega

theorem coe_ite (p : Prop) [Decidable p] (a b : ℝ) : (if p then (a : EReal) else b) = ((if p then a else b : ℝ) : EReal) := by
  split <;> rfl

theorem r6 (i : S64.Idx) : val_main_v6 (F := Ideal) i = (((i 0).val : ℝ) : EReal) := by
  show Scalar.sitofp (F := Ideal) .f32 (BitVec.ofNat 32 (i 0).val) = _
  have h : (i 0).val < 64 := (i 0).isLt
  rw [Ideal.scalar_sitofp_def, Words.toInt_ofNat (by omega)]; norm_cast

theorem r16 (i : S64.Idx) : val_main_v16 (F := Ideal) i = ((freq (i 0) : ℝ) : EReal) := by
  rw [val_main_v16_apply, val_main_v15_apply, val_main_cst_3_apply, val_main_v14_apply, val_main_v13_apply,
    val_main_cst_2_apply, val_main_v12_apply, val_main_v10_apply, val_main_v9_apply, val_main_cst_0_apply, val_main_v8_apply,
    val_main_v7_apply, val_main_cst_apply, r6, val_main_v11_apply, val_main_cst_1_apply]
  simp only [Ideal.ofBits_def, Ideal.hostDivf_def, Ideal.hostPowf_def, Ideal.addf_def, Ideal.mulf_def]
  rw [Num.w_one, Num.w_two, Num.w_zero, Num.w_128, Num.w_10000, ← EReal.coe_mul, ← EReal.coe_add, Num.div_eq _ (by norm_num), Ideal.pow_coe_coe]
  rw [Num.div_eq _ (by exact (Real.rpow_pos_of_pos (by norm_num) _).ne')]; rfl

theorem r17 (i : S8208.Idx) : val_main_v17 (F := Ideal) i = (((i 0).val : ℝ) : EReal) := by
  rw [val_main_v17_apply, val_main_v4_apply]
  show Scalar.sitofp (F := Ideal) .f32 (BitVec.ofNat 32 (i 0).val) = _
  have h : (i 0).val < 8208 := (i 0).isLt
  rw [Ideal.scalar_sitofp_def, Words.toInt_ofNat (by omega)]; norm_cast

theorem r22 (i : S8208x64.Idx) : val_main_v22 (F := Ideal) i = ((ang ((i 0).val : ℝ) (i 1) : ℝ) : EReal) := by
  rw [val_main_v22_apply, val_main_v20_apply, val_main_v18_apply, r17, val_main_v21_apply, val_main_v19_apply, r16, Ideal.mulf_def, ← EReal.coe_mul]
  rfl

theorem r24 (i : S8208x1x64.Idx) : val_main_v24 (F := Ideal) i = ((Real.cos (ang ((i 0).val : ℝ) (i 2)) : ℝ) : EReal) := by
  rw [val_main_v24_apply, val_main_v23_apply, r22, Ideal.hostUnary_cos_def, Ideal.cos_coe]; rfl
theorem r26 (i : S8208x1x64.Idx) : val_main_v26 (F := Ideal) i = ((Real.sin (ang ((i 0).val : ℝ) (i 2)) : ℝ) : EReal) := by
  rw [val_main_v26_apply, val_main_v25_apply, r22, Ideal.hostUnary_sin_def, Ideal.sin_coe]; rfl

/-- The second reading of the angles is the first one again. -/
theorem same59 : val_main_v59 (F := Ideal) = val_main_v24 := rfl
theorem same61 : val_main_v61 (F := Ideal) = val_main_v26 := rfl
theorem r59 (i : S8208x1x64.Idx) : val_main_v59 (F := Ideal) i = ((Real.cos (ang ((i 0).val : ℝ) (i 2)) : ℝ) : EReal) := by
  rw [same59]; exact r24 i
theorem r61 (i : S8208x1x64.Idx) : val_main_v61 (F := Ideal) i = ((Real.sin (ang ((i 0).val : ℝ) (i 2)) : ℝ) : EReal) := by
  rw [same61]; exact r26 i

section

variable {X : In} {x0 : S8208x2560.Idx → EReal} {x1 : S1x512.Idx → EReal} {x2 : S8208x1024.Idx → EReal} (H : Holds X x0 x1 x2)
include H

theorem r33 (i : S8208x4x64.Idx) : val_main_v33 (F := Ideal) x0 i =
    ((X.q (i 0) (i 1) (lo (i 2)) * Real.cos (ang ((i 0).val : ℝ) (i 2)) - X.q (i 0) (i 1) (hi (i 2)) * Real.sin (ang ((i 0).val : ℝ) (i 2)) : ℝ) : EReal) := by
  rw [val_main_v33_apply, val_main_v30_apply, val_main_v32_apply, val_main_v27_apply, val_main_v28_apply, val_main_v29_apply, val_main_v31_apply, r5 H, r5 H, r24, r26]
  simp only [Ideal.addf_def, Ideal.subf_def, Ideal.mulf_def, ← EReal.coe_mul, ← EReal.coe_sub, ← EReal.coe_add]
  rfl
theorem r38 (i : S8208x4x64.Idx) : val_main_v38 (F := Ideal) x0 i =
    ((X.q (i 0) (i 1) (lo (i 2)) * Real.sin (ang ((i 0).val : ℝ) (i 2)) + X.q (i 0) (i 1) (hi (i 2)) * Real.cos (ang ((i 0).val : ℝ) (i 2)) : ℝ) : EReal) := by
  rw [val_main_v38_apply, val_main_v35_apply, val_main_v37_apply, val_main_v27_apply, val_main_v28_apply, val_main_v34_apply, val_main_v36_apply, r5 H, r5 H, r24, r26]
  simp only [Ideal.addf_def, Ideal.subf_def, Ideal.mulf_def, ← EReal.coe_mul, ← EReal.coe_sub, ← EReal.coe_add]
  rfl
theorem r68 (i : S8208x4x64.Idx) : val_main_v68 (F := Ideal) x0 i =
    ((X.k (i 0) (i 1) (lo (i 2)) * Real.cos (ang ((i 0).val : ℝ) (i 2)) - X.k (i 0) (i 1) (hi (i 2)) * Real.sin (ang ((i 0).val : ℝ) (i 2)) : ℝ) : EReal) := by
  rw [val_main_v68_apply, val_main_v65_apply, val_main_v67_apply, val_main_v62_apply, val_main_v63_apply, val_main_v64_apply, val_main_v66_apply, r40 H, r40 H, r59, r61]
  simp only [Ideal.addf_def, Ideal.subf_def, Ideal.mulf_def, ← EReal.coe_mul, ← EReal.coe_sub, ← EReal.coe_add]
  rfl
theorem r73 (i : S8208x4x64.Idx) : val_main_v73 (F := Ideal) x0 i =
    ((X.k (i 0) (i 1) (lo (i 2)) * Real.sin (ang ((i 0).val : ℝ) (i 2)) + X.k (i 0) (i 1) (hi (i 2)) * Real.cos (ang ((i 0).val : ℝ) (i 2)) : ℝ) : EReal) := by
  rw [val_main_v73_apply, val_main_v70_apply, val_main_v72_apply, val_main_v62_apply, val_main_v63_apply, val_main_v69_apply, val_main_v71_apply, r40 H, r40 H, r59, r61]
  simp only [Ideal.addf_def, Ideal.subf_def, Ideal.mulf_def, ← EReal.coe_mul, ← EReal.coe_sub, ← EReal.coe_add]
  rfl

/-- The rotated queries. -/
theorem r39 (i : S8208x4x128.Idx) : val_main_v39 (F := Ideal) x0 i = ((X.qh (i 0) (i 1) (i 2) : ℝ) : EReal) := by
  unfold val_main_v39
  rw [cat, r33 H, r38 H, coe_ite]; rfl

/-- The rotated and scaled keys. -/
theorem r76 (i : S8208x4x128.Idx) : val_main_v76 (F := Ideal) x0 i = ((X.kh (i 0) (i 1) (i 2) : ℝ) : EReal) := by
  rw [val_main_v76_apply, val_main_v75_apply, val_main_cst_9_apply]
  unfold val_main_v74
  rw [cat, r68 H, r73 H, coe_ite, Ideal.mulf_def, Ideal.ofBits_def, Num.w_scale, ← EReal.coe_mul]; rfl

end

/-- Row distance as a word. -/
theorem r83 (i : S8208x8208.Idx) : val_main_v83 (F := Ideal) i = BitVec.ofNat 32 (i 0).val - BitVec.ofNat 32 (i 1).val := by
  rw [val_main_v83_apply, val_main_v81_apply, val_main_v79_apply, val_main_v78_apply, val_main_v82_apply, val_main_v80_apply, val_main_v78_apply]
  rfl

theorem r94 (i : S4.Idx) : val_main_v94 (F := Ideal) i = ((Real.log (gam (i 0)) : ℝ) : EReal) := by
  have h : (i 0).val < 4 := (i 0).isLt
  have e : val_main_v87 (F := Ideal) i = (((i 0).val : ℝ) : EReal) := by
    show Scalar.sitofp (F := Ideal) .f32 (BitVec.ofNat 32 (i 0).val) = _
    rw [Ideal.scalar_sitofp_def, Words.toInt_ofNat (by omega)]; norm_cast
  rw [val_main_v94_apply, val_main_v93_apply, val_main_v92_apply, val_main_cst_12_apply, val_main_v91_apply, val_main_v90_apply,
    val_main_cst_11_apply, val_main_v89_apply, val_main_v88_apply, val_main_cst_10_apply, e]
  simp only [Ideal.ofBits_def, Ideal.hostPowf_def, Ideal.subf_def, Ideal.hostUnary_log_def]
  rw [Num.w_one, Num.w_two, Num.w_neg_five, ← EReal.coe_sub, Ideal.pow_coe_coe, ← EReal.coe_sub]
  have hp : (1 : ℝ) - Real.rpow 2 (-5 - ((i 0).val : ℝ)) = gam (i 0) := by
    unfold gam
    have : Real.rpow 2 (-5 - ((i 0).val : ℝ)) = 1 / 2 ^ (5 + (i 0).val) := by
      show (2 : ℝ) ^ (-5 - ((i 0).val : ℝ)) = _
      rw [show (-5 - ((i 0).val : ℝ)) = -((5 + (i 0).val : ℕ) : ℝ) by push_cast; ring, Real.rpow_neg (by norm_num), Real.rpow_natCast, one_div]
    rw [this]
  rw [hp, Ideal.log_coe]
  have := gam_pos (i 0)
  simp [this.not_gt, this.ne', this]

theorem r104 (i : S4x8208x8208.Idx) : val_main_v104 (F := Ideal) i = ((Decay.wt (gam (i 0)) (i 1).val (i 2).val : ℝ) : EReal) := by
  rw [val_main_v104_apply, val_main_call0_v1_apply, val_main_v86_apply, val_main_v84_apply, r83, val_main_v85_apply, val_main_c_apply,
    val_main_v103_apply, val_main_v102_apply, val_main_v100_apply, val_main_v95_apply, r94, val_main_v101_apply, val_main_v99_apply,
    val_main_v98_apply, val_main_v97_apply, r83, val_main_v96_apply, val_main_c_13_apply, val_main_call0_v2_apply,
    val_main_call0_v0_apply, val_main_cst_14_apply]
  have h1 : (i 1).val < 8208 := (i 1).isLt
  have h2 : (i 2).val < 8208 := (i 2).isLt
  rw [← Words.wt_eq, ← Words.entry (gam_pos (i 0)) (Words.toInt_sub (i := (i 1).val) (j := (i 2).val) (by omega) (by omega)), ← Num.w_zero]
  rfl

section

variable {X : In} {x0 : S8208x2560.Idx → EReal} {x1 : S1x512.Idx → EReal} {x2 : S8208x1024.Idx → EReal} (H : Holds X x0 x1 x2)
include H

theorem r106 (i : S4x8208x8208.Idx) : val_main_v106 (F := Ideal) x0 i = ((X.att (i 0) (i 1) (i 2) : ℝ) : EReal) := by
  rw [val_main_v106_apply, r104, val_main_v105_apply, Num.sum_eq fun k => by rw [r39 H, r76 H, ← EReal.coe_mul], Ideal.mulf_def, ← EReal.coe_mul]
  rfl

/-- The retention before the norm. -/
theorem r108 (i : S8208x4x128.Idx) : val_main_v108 (F := Ideal) x0 i = ((X.o (i 0) (i 1) (i 2) : ℝ) : EReal) := by
  rw [val_main_v108_apply, val_main_v107_apply, Num.sum_eq fun k => by rw [r77 H, r106 H, ← EReal.coe_mul]]
  rfl

end

end Cert.Ref

end
-- ==== Proof.Host.lean ====
/- The arrays the region is entered with, as the host operations leave them. -/
module

public import proofs.«01_k».proof.Proof.Ref1
public import proofs.«01_k».proof.Proof.Gen.KernelIdeal.Frame.Runs
public import Idealize.ShloMosaic.Lib.Claim

@[expose] public section

set_option maxRecDepth 16384

noncomputable section

namespace Cert.KernelIdeal.Entry

open Idealize.ShloMosaic Idealize.ShloMosaic.TcCoe Cert.KernelIdeal Cert.KernelIdeal.Gen Idealize.SL.Sem Idealize.ShloMosaic.StableHlo
open Cert.ReferenceIdeal.Read (val_main_v39 val_main_v76 val_main_v77 val_main_v86 val_main_v94 val_main_v103 val_main_v104 val_main_v108 val_main_v16)

abbrev Vals := Valuation τ sig (Elt Ideal)

variable (V0 : Vals)

/-- The contents after the first lines of host operations. -/
def w1 : Vals := after hostOps0 V0
def w2 : Vals := after hostOps0_1 (w1 V0)
def w3 : Vals := after hostOps0_2 (w2 V0)
def w4 : Vals := after hostOps0_3 (w3 V0)
def w5 : Vals := after hostOps0_4 (w4 V0)
def w6 : Vals := after hostOps0_5 (w5 V0)
def w7 : Vals := after hostOps0_6 (w6 V0)
def w8 : Vals := after hostOps0_7 (w7 V0)
def w9 : Vals := after hostOps0_8 (w8 V0)
def w10 : Vals := after hostOps0_9 (w9 V0)

/-- The three arguments. -/
abbrev a0 : FVec Ideal S8208x2560 .f32 := V0 (Proc.devRef .tc main_arg0)
abbrev a2 : FVec Ideal S8208x1024 .f32 := V0 (Proc.devRef .tc main_arg2)

set_option maxHeartbeats 4000000 in
theorem w1_arg0 : w1 V0 (no_index (Proc.devRef .tc main_arg0)) = a0 V0 := by
  unfold w1
  simp only [hostOps0]
  after_results_simp
  all_goals rfl
set_option maxHeartbeats 4000000 in
theorem w1_arg2 : w1 V0 (no_index (Proc.devRef .tc main_arg2)) = a2 V0 := by
  unfold w1
  simp only [hostOps0]
  after_results_simp
  all_goals rfl
set_option maxHeartbeats 4000000 in
theorem w1_v2 : w1 V0 (no_index (Proc.devRef .tc main_v2)) = extractStridedSlice S8208x512 ![0, 1024] (a0 V0) slices_S8208x2560_S8208x512_0_1024 := by
  unfold w1
  simp only [hostOps0]
  after_results_simp
  all_goals rfl
set_option maxHeartbeats 4000000 in
theorem w1_v39 : w1 V0 (no_index (Proc.devRef .tc main_v39)) = val_main_v39 (F := Ideal) (a0 V0) := by
  unfold w1
  simp only [hostOps0]
  after_results_simp
  after_results_loop
  all_goals rfl
set_option maxHeartbeats 4000000 in
theorem w1_v76 : w1 V0 (no_index (Proc.devRef .tc main_v76)) = val_main_v76 (F := Ideal) (a0 V0) := by
  unfold w1
  simp only [hostOps0]
  after_results_simp
  after_results_loop
  all_goals rfl
set_option maxHeartbeats 4000000 in
theorem w1_v77 : w1 V0 (no_index (Proc.devRef .tc main_v77)) = val_main_v77 (F := Ideal) (a0 V0) := by
  unfold w1
  simp only [hostOps0]
  after_results_simp
  all_goals rfl
set_option maxHeartbeats 4000000 in
theorem w1_v86 : w1 V0 (no_index (Proc.devRef .tc main_v86)) = val_main_v86 (F := Ideal) := by
  unfold w1
  simp only [hostOps0]
  after_results_simp
  all_goals rfl
set_option maxHeartbeats 4000000 in
theorem w1_v103 : w1 V0 (no_index (Proc.devRef .tc main_v103)) = val_main_v103 (F := Ideal) := by
  unfold w1
  simp only [hostOps0]
  after_results_simp
  all_goals rfl
set_option maxHeartbeats 4000000 in
theorem w1_cst_14 : w1 V0 (no_index (Proc.devRef .tc main_cst_14)) = constant (F := Ideal) S_ .f32 0x00000000#32 := by
  unfold w1
  simp only [hostOps0]
  after_results_simp
  all_goals rfl
set_option maxHeartbeats 4000000 in
theorem w2_arg0 : w2 V0 (no_index (Proc.devRef .tc main_arg0)) = a0 V0 := by
  unfold w2
  simp only [hostOps0_1]
  after_results_simp
  simp only [w1_arg0] <;> rfl
set_option maxHeartbeats 4000000 in
theorem w2_arg2 : w2 V0 (no_index (Proc.devRef .tc main_arg2)) = a2 V0 := by
  unfold w2
  simp only [hostOps0_1]
  after_results_simp
  simp only [w1_arg2] <;> rfl
set_option maxHeartbeats 4000000 in
theorem w2_v2 : w2 V0 (no_index (Proc.devRef .tc main_v2)) = extractStridedSlice S8208x512 ![0, 1024] (a0 V0) slices_S8208x2560_S8208x512_0_1024 := by
  unfold w2
  simp only [hostOps0_1]
  after_results_simp
  simp only [w1_v2] <;> rfl
set_option maxHeartbeats 4000000 in
theorem w2_v39 : w2 V0 (no_index (Proc.devRef .tc main_v39)) = val_main_v39 (F := Ideal) (a0 V0) := by
  unfold w2
  simp only [hostOps0_1]
  after_results_simp
  simp only [w1_v39] <;> rfl
set_option maxHeartbeats 4000000 in
theorem w2_v76 : w2 V0 (no_index (Proc.devRef .tc main_v76)) = val_main_v76 (F := Ideal) (a0 V0) := by
  unfold w2
  simp only [hostOps0_1]
  after_results_simp
  simp only [w1_v76] <;> rfl
set_option maxHeartbeats 4000000 in
theorem w2_v77 : w2 V0 (no_index (Proc.devRef .tc main_v77)) = val_main_v77 (F := Ideal) (a0 V0) := by
  unfold w2
  simp only [hostOps0_1]
  after_results_simp
  simp only [w1_v77] <;> rfl
set_option maxHeartbeats 4000000 in
theorem w2_v104 : w2 V0 (no_index (Proc.devRef .tc main_v104)) = val_main_v104 (F := Ideal) := by
  unfold w2
  simp only [hostOps0_1]
  after_results_simp
  simp only [w1_v86, w1_v103, w1_cst_14] <;> rfl
set_option maxHeartbeats 4000000 in
theorem w3_arg0 : w3 V0 (no_index (Proc.devRef .tc main_arg0)) = a0 V0 := by
  unfold w3
  simp only [hostOps0_2]
  after_results_simp
  simp only [w2_arg0] <;> rfl
set_option maxHeartbeats 4000000 in
theorem w3_arg2 : w3 V0 (no_index (Proc.devRef .tc main_arg2)) = a2 V0 := by
  unfold w3
  simp only [hostOps0_2]
  after_results_simp
  simp only [w2_arg2] <;> rfl
set_option maxHeartbeats 4000000 in
theorem w3_v2 : w3 V0 (no_index (Proc.devRef .tc main_v2)) = extractStridedSlice S8208x512 ![0, 1024] (a0 V0) slices_S8208x2560_S8208x512_0_1024 := by
  unfold w3
  simp only [hostOps0_2]
  after_results_simp
  simp only [w2_v2] <;> rfl
set_option maxHeartbeats 4000000 in
theorem w3_v76 : w3 V0 (no_index (Proc.devRef .tc main_v76)) = val_main_v76 (F := Ideal) (a0 V0) := by
  unfold w3
  simp only [hostOps0_2]
  after_results_simp
  simp only [w2_v76] <;> rfl
set_option maxHeartbeats 4000000 in
theorem w3_v109 : w3 V0 (no_index (Proc.devRef .tc main_v109)) = shapeCast _ (val_main_v108 (F := Ideal) (a0 V0)) shapeCasts_S8208x4x128_S8208x512 := by
  unfold w3
  simp only [hostOps0_2]
  after_results_simp
  simp only [w2_v39, w2_v76, w2_v77, w2_v104] <;> rfl
set_option maxHeartbeats 4000000 in
theorem w3_c_15 : w3 V0 (no_index (Proc.devRef .tc main_c_15)) = constantI S_ 32 0#32 := by
  unfold w3
  simp only [hostOps0_2]
  after_results_simp
  all_goals rfl
/-- The forward's output before the norm, with 112 rows of zeros on top. -/
def o : FVec Ideal S8320x512 .f32 :=
  pad S8320x512 ![112, 0] ![0, 0] ![0, 0] (shapeCast S8208x512 (val_main_v108 (F := Ideal) (a0 V0)) shapeCasts_S8208x4x128_S8208x512) (sitofp (F := Ideal) .f32 (constantI S_ 32 0#32)) pads_S8208x512_S8320x512_11200_000 h_S_

set_option maxHeartbeats 4000000 in
theorem w4_arg0 : w4 V0 (no_index (Proc.devRef .tc main_arg0)) = a0 V0 := by
  unfold w4
  simp only [hostOps0_3]
  after_results_simp
  simp only [w3_arg0] <;> rfl
set_option maxHeartbeats 4000000 in
theorem w4_arg2 : w4 V0 (no_index (Proc.devRef .tc main_arg2)) = a2 V0 := by
  unfold w4
  simp only [hostOps0_3]
  after_results_simp
  simp only [w3_arg2] <;> rfl
set_option maxHeartbeats 4000000 in
theorem w4_v2 : w4 V0 (no_index (Proc.devRef .tc main_v2)) = extractStridedSlice S8208x512 ![0, 1024] (a0 V0) slices_S8208x2560_S8208x512_0_1024 := by
  unfold w4
  simp only [hostOps0_3]
  after_results_simp
  simp only [w3_v2] <;> rfl
set_option maxHeartbeats 4000000 in
theorem w4_v76 : w4 V0 (no_index (Proc.devRef .tc main_v76)) = val_main_v76 (F := Ideal) (a0 V0) := by
  unfold w4
  simp only [hostOps0_3]
  after_results_simp
  simp only [w3_v76] <;> rfl
set_option maxHeartbeats 4000000 in
theorem w4_v110 : w4 V0 (no_index (Proc.devRef .tc main_v110)) = o V0 := by
  unfold w4
  simp only [hostOps0_3]
  after_results_simp
  simp only [w3_v109, w3_c_15] <;> rfl
/-- How many positions a chunk's start lies past a position. -/
def dist : (⟨S65x8208, .i32⟩ : BufTy).Contents (Elt Ideal) :=
  subi (broadcastInDim S65x8208 ![0, 1] bcast_S65x1_S65x8208_0_1 (broadcastInDim S65x1 ![0] bcast_S65_S65x1_0
    (subi (subi (muli (iotaInDim S65 32 0) (broadcastInDim S65 ![] bcast_S_S65 (constantI S_ 32 128#32))) (broadcastInDim S65 ![] bcast_S_S65 (constantI S_ 32 112#32)))
      (broadcastInDim S65 ![] bcast_S_S65 (constantI S_ 32 1#32)))))
    (broadcastInDim S65x8208 ![0, 1] bcast_S1x8208_S65x8208_0_1 (broadcastInDim S1x8208 ![1] bcast_S8208_S1x8208_1 (iotaInDim S8208 32 0)))

def isBefore : (⟨S1x65x8208, .i1⟩ : BufTy).Contents (Elt Ideal) :=
  cmpi .sge (broadcastInDim S1x65x8208 ![1, 2] bcast_S65x8208_S1x65x8208_1_2 dist) (broadcastInDim S1x65x8208 ![] bcast_S_S1x65x8208 (constantI S_ 32 0#32))

def power : FVec Ideal S4x65x8208 .f32 :=
  Host.exp (mulf (broadcastInDim S4x65x8208 ![0, 1, 2] bcast_S4x1x1_S4x65x8208_0_1_2 (broadcastInDim S4x1x1 ![0] bcast_S4_S4x1x1_0 (val_main_v94 (F := Ideal))))
    (broadcastInDim S4x65x8208 ![0, 1, 2] bcast_S1x65x8208_S4x65x8208_0_1_2
      (sitofp (F := Ideal) .f32 (broadcastInDim S1x65x8208 ![1, 2] bcast_S65x8208_S1x65x8208_1_2 (maxsi dist (broadcastInDim S65x8208 ![] bcast_S_S65x8208 (constantI S_ 32 0#32)))))))

set_option maxHeartbeats 4000000 in
theorem w5_arg0 : w5 V0 (no_index (Proc.devRef .tc main_arg0)) = a0 V0 := by
  unfold w5
  simp only [hostOps0_4]
  after_results_simp
  simp only [w4_arg0] <;> rfl
set_option maxHeartbeats 4000000 in
theorem w5_arg2 : w5 V0 (no_index (Proc.devRef .tc main_arg2)) = a2 V0 := by
  unfold w5
  simp only [hostOps0_4]
  after_results_simp
  simp only [w4_arg2] <;> rfl
set_option maxHeartbeats 4000000 in
theorem w5_v76 : w5 V0 (no_index (Proc.devRef .tc main_v76)) = val_main_v76 (F := Ideal) (a0 V0) := by
  unfold w5
  simp only [hostOps0_4]
  after_results_simp
  simp only [w4_v76] <;> rfl
set_option maxHeartbeats 4000000 in
theorem w5_v110 : w5 V0 (no_index (Proc.devRef .tc main_v110)) = o V0 := by
  unfold w5
  simp only [hostOps0_4]
  after_results_simp
  simp only [w4_v110] <;> rfl
set_option maxHeartbeats 4000000 in
theorem w5_v111 : w5 V0 (no_index (Proc.devRef .tc main_v111)) = val_main_v77 (F := Ideal) (a0 V0) := by
  unfold w5
  simp only [hostOps0_4]
  after_results_simp
  simp only [w4_v2] <;> rfl
set_option maxHeartbeats 4000000 in
theorem w5_v127 : w5 V0 (no_index (Proc.devRef .tc main_v127)) = isBefore := by
  unfold w5
  simp only [hostOps0_4]
  after_results_simp
  all_goals rfl
set_option maxHeartbeats 4000000 in
theorem w5_v144 : w5 V0 (no_index (Proc.devRef .tc main_v144)) = power := by
  unfold w5
  simp only [hostOps0_4]
  after_results_simp
  all_goals rfl
set_option maxHeartbeats 4000000 in
theorem w5_cst_24 : w5 V0 (no_index (Proc.devRef .tc main_cst_24)) = constant (F := Ideal) S_ .f32 0x00000000#32 := by
  unfold w5
  simp only [hostOps0_4]
  after_results_simp
  all_goals rfl
/-- The weight of a position in the state a chunk is entered with. -/
def weights : FVec Ideal S4x65x8208 .f32 :=
  select (broadcastInDim S4x65x8208 ![0, 1, 2] bcast_S1x65x8208_S4x65x8208_0_1_2 isBefore) power
    (broadcastInDim S4x65x8208 ![] bcast_S_S4x65x8208 (constant (F := Ideal) S_ .f32 0x00000000#32))

set_option maxHeartbeats 4000000 in
theorem w6_arg0 : w6 V0 (no_index (Proc.devRef .tc main_arg0)) = a0 V0 := by
  unfold w6
  simp only [hostOps0_5]
  after_results_simp
  simp only [w5_arg0] <;> rfl
set_option maxHeartbeats 4000000 in
theorem w6_arg2 : w6 V0 (no_index (Proc.devRef .tc main_arg2)) = a2 V0 := by
  unfold w6
  simp only [hostOps0_5]
  after_results_simp
  simp only [w5_arg2] <;> rfl
set_option maxHeartbeats 4000000 in
theorem w6_v76 : w6 V0 (no_index (Proc.devRef .tc main_v76)) = val_main_v76 (F := Ideal) (a0 V0) := by
  unfold w6
  simp only [hostOps0_5]
  after_results_simp
  simp only [w5_v76] <;> rfl
set_option maxHeartbeats 4000000 in
theorem w6_v110 : w6 V0 (no_index (Proc.devRef .tc main_v110)) = o V0 := by
  unfold w6
  simp only [hostOps0_5]
  after_results_simp
  simp only [w5_v110] <;> rfl
set_option maxHeartbeats 4000000 in
theorem w6_v111 : w6 V0 (no_index (Proc.devRef .tc main_v111)) = val_main_v77 (F := Ideal) (a0 V0) := by
  unfold w6
  simp only [hostOps0_5]
  after_results_simp
  simp only [w5_v111] <;> rfl
set_option maxHeartbeats 4000000 in
theorem w6_v145 : w6 V0 (no_index (Proc.devRef .tc main_v145)) = weights := by
  unfold w6
  simp only [hostOps0_5]
  after_results_simp
  simp only [w5_v127, w5_v144, w5_cst_24] <;> rfl
/-- The states the chunks are entered with. -/
def outer : FVec Ideal S4x65x8208x128 .f32 :=
  mulf (F := Ideal) (φ := .f32) (broadcastInDim S4x65x8208x128 ![0, 1, 2, 3] bcast_S4x65x8208x1_S4x65x8208x128_0_1_2_3 (broadcastInDim S4x65x8208x1 ![0, 1, 2] bcast_S4x65x8208_S4x65x8208x1_0_1_2 weights))
    (broadcastInDim S4x65x8208x128 ![0, 1, 2, 3] bcast_S4x1x8208x128_S4x65x8208x128_0_1_2_3
      (broadcastInDim S4x1x8208x128 ![0, 2, 3] bcast_S4x8208x128_S4x1x8208x128_0_2_3 (transpose S4x8208x128 [1, 0, 2] (val_main_v76 (F := Ideal) (a0 V0)) transposes_S8208x4x128_S4x8208x128_1_0_2)))

def summed : FVec Ideal S4x128x65x128 .f32 :=
  Host.dotGeneral (F := Ideal) dot_S8208x4x128_S4x65x8208x128_S4x128x65x128_0_2_2_13_1_0 (φ₁ := .f32) (φ₂ := .f32) none (val_main_v77 (F := Ideal) (a0 V0)) (outer V0)

def states : FVec Ideal S65x4x128x128 .f32 :=
  transpose S65x4x128x128 [2, 0, 3, 1] (summed V0) transposes_S4x128x65x128_S65x4x128x128_2_0_3_1

set_option maxHeartbeats 4000000 in
theorem w7_arg0 : w7 V0 (no_index (Proc.devRef .tc main_arg0)) = a0 V0 := by
  unfold w7
  simp only [hostOps0_6]
  after_results_simp
  simp only [w6_arg0] <;> rfl
set_option maxHeartbeats 4000000 in
theorem w7_arg2 : w7 V0 (no_index (Proc.devRef .tc main_arg2)) = a2 V0 := by
  unfold w7
  simp only [hostOps0_6]
  after_results_simp
  simp only [w6_arg2] <;> rfl
set_option maxHeartbeats 4000000 in
theorem w7_v110 : w7 V0 (no_index (Proc.devRef .tc main_v110)) = o V0 := by
  unfold w7
  simp only [hostOps0_6]
  after_results_simp
  simp only [w6_v110] <;> rfl
set_option maxHeartbeats 4000000 in
theorem w7_v153 : w7 V0 (no_index (Proc.devRef .tc main_v153)) = states V0 := by
  unfold w7
  simp only [hostOps0_6]
  after_results_simp
  simp only [w6_v76, w6_v111, w6_v145] <;> rfl
set_option maxHeartbeats 4000000 in
theorem w7_c_25 : w7 V0 (no_index (Proc.devRef .tc main_c_25)) = constantI S_ 32 0#32 := by
  unfold w7
  simp only [hostOps0_6]
  after_results_simp
  all_goals rfl
/-- The projections, with 112 rows of zeros on top. -/
def proj : FVec Ideal S8320x2560 .f32 :=
  pad S8320x2560 ![112, 0] ![0, 0] ![0, 0] (a0 V0) (sitofp (F := Ideal) .f32 (constantI S_ 32 0#32)) pads_S8208x2560_S8320x2560_11200_000 h_S_

set_option maxHeartbeats 4000000 in
theorem w8_arg0 : w8 V0 (no_index (Proc.devRef .tc main_arg0)) = a0 V0 := by
  unfold w8
  simp only [hostOps0_7]
  after_results_simp
  simp only [w7_arg0] <;> rfl
set_option maxHeartbeats 4000000 in
theorem w8_arg2 : w8 V0 (no_index (Proc.devRef .tc main_arg2)) = a2 V0 := by
  unfold w8
  simp only [hostOps0_7]
  after_results_simp
  simp only [w7_arg2] <;> rfl
set_option maxHeartbeats 4000000 in
theorem w8_v110 : w8 V0 (no_index (Proc.devRef .tc main_v110)) = o V0 := by
  unfold w8
  simp only [hostOps0_7]
  after_results_simp
  simp only [w7_v110] <;> rfl
set_option maxHeartbeats 4000000 in
theorem w8_v153 : w8 V0 (no_index (Proc.devRef .tc main_v153)) = states V0 := by
  unfold w8
  simp only [hostOps0_7]
  after_results_simp
  simp only [w7_v153] <;> rfl
set_option maxHeartbeats 4000000 in
theorem w8_v154 : w8 V0 (no_index (Proc.devRef .tc main_v154)) = proj V0 := by
  unfold w8
  simp only [hostOps0_7]
  after_results_simp
  simp only [w7_arg0, w7_c_25] <;> rfl
/-- The angles of the chunks' starts, and of the rows of a chunk. -/
def start : FVec Ideal S65x64 .f32 :=
  mulf (broadcastInDim S65x64 ![0, 1] bcast_S65x1_S65x64_0_1 (broadcastInDim S65x1 ![0] bcast_S65_S65x1_0
      (subf (mulf (sitofp (F := Ideal) .f32 (iotaInDim S65 32 0)) (broadcastInDim S65 ![] bcast_S_S65 (constant (F := Ideal) S_ .f32 0x43000000#32)))
        (broadcastInDim S65 ![] bcast_S_S65 (constant (F := Ideal) S_ .f32 0x42E00000#32)))))
    (broadcastInDim S65x64 ![0, 1] bcast_S1x64_S65x64_0_1 (broadcastInDim S1x64 ![1] bcast_S64_S1x64_1 (val_main_v16 (F := Ideal))))

def step : FVec Ideal S128x64 .f32 :=
  mulf (broadcastInDim S128x64 ![0, 1] bcast_S128x1_S128x64_0_1 (broadcastInDim S128x1 ![0] bcast_S128_S128x1_0 (sitofp (F := Ideal) .f32 (iotaInDim S128 32 0))))
    (broadcastInDim S128x64 ![0, 1] bcast_S1x64_S128x64_0_1 (broadcastInDim S1x64 ![1] bcast_S64_S1x64_1 (val_main_v16 (F := Ideal))))

/-- A table of the starts spread over the rows, and one of the rows spread over the chunks. -/
def over (x : FVec Ideal S65x64 .f32) : FVec Ideal S65x128x64 .f32 :=
  broadcastInDim S65x128x64 ![0, 1, 2] bcast_S65x1x64_S65x128x64_0_1_2 (broadcastInDim S65x1x64 ![0, 2] bcast_S65x64_S65x1x64_0_2 x)
def across (x : FVec Ideal S128x64 .f32) : FVec Ideal S65x128x64 .f32 :=
  broadcastInDim S65x128x64 ![0, 1, 2] bcast_S1x128x64_S65x128x64_0_1_2 (broadcastInDim S1x128x64 ![1, 2] bcast_S128x64_S1x128x64_1_2 x)

def cosines : FVec Ideal S8320x64 .f32 :=
  shapeCast S8320x64 (subf (F := Ideal) (mulf (F := Ideal) (over (Host.cos start)) (across (Host.cos step))) (mulf (F := Ideal) (over (Host.sin start)) (across (Host.sin step)))) shapeCasts_S65x128x64_S8320x64
def sines : FVec Ideal S8320x64 .f32 :=
  shapeCast S8320x64 (addf (F := Ideal) (mulf (F := Ideal) (over (Host.sin start)) (across (Host.cos step))) (mulf (F := Ideal) (over (Host.cos start)) (across (Host.sin step)))) shapeCasts_S65x128x64_S8320x64

def cs : FVec Ideal S8320x128 .f32 :=
  concatenate S8320x128 1 [⟨S8320x64, cosines⟩, ⟨S8320x64, cosines⟩] concatenates_S8320x64_S8320x64_S8320x128_d1
def sn : FVec Ideal S8320x128 .f32 :=
  concatenate S8320x128 1 [⟨S8320x64, Host.negf (F := Ideal) sines⟩, ⟨S8320x64, sines⟩] concatenates_S8320x64_S8320x64_S8320x128_d1

set_option maxHeartbeats 4000000 in
theorem w9_arg2 : w9 V0 (no_index (Proc.devRef .tc main_arg2)) = a2 V0 := by
  unfold w9
  simp only [hostOps0_8]
  after_results_simp
  simp only [w8_arg2] <;> rfl
set_option maxHeartbeats 4000000 in
theorem w9_v110 : w9 V0 (no_index (Proc.devRef .tc main_v110)) = o V0 := by
  unfold w9
  simp only [hostOps0_8]
  after_results_simp
  simp only [w8_v110] <;> rfl
set_option maxHeartbeats 4000000 in
theorem w9_v153 : w9 V0 (no_index (Proc.devRef .tc main_v153)) = states V0 := by
  unfold w9
  simp only [hostOps0_8]
  after_results_simp
  simp only [w8_v153] <;> rfl
set_option maxHeartbeats 4000000 in
theorem w9_v155 : w9 V0 (no_index (Proc.devRef .tc main_v155)) = truncf (F := Ideal) .bf16 (proj V0) bitsLt_bf16_f32 := by
  unfold w9
  simp only [hostOps0_8]
  after_results_simp
  simp only [w8_v154] <;> rfl
set_option maxHeartbeats 4000000 in
theorem w9_v207 : w9 V0 (no_index (Proc.devRef .tc main_v207)) = cs := by
  unfold w9
  simp only [hostOps0_8]
  after_results_simp
  after_results_loop
  all_goals rfl
set_option maxHeartbeats 4000000 in
theorem w9_v209 : w9 V0 (no_index (Proc.devRef .tc main_v209)) = sn := by
  unfold w9
  simp only [hostOps0_8]
  after_results_simp
  after_results_loop
  all_goals rfl
set_option maxHeartbeats 4000000 in
theorem w9_c_33 : w9 V0 (no_index (Proc.devRef .tc main_c_33)) = constantI S_ 32 0#32 := by
  unfold w9
  simp only [hostOps0_8]
  after_results_simp
  all_goals rfl
/-- The gradient handed back, with 112 rows of zeros on top. -/
def dret : FVec Ideal S8320x1024 .f32 :=
  pad S8320x1024 ![112, 0] ![0, 0] ![0, 0] (a2 V0) (sitofp (F := Ideal) .f32 (constantI S_ 32 0#32)) pads_S8208x1024_S8320x1024_11200_000 h_S_

set_option maxHeartbeats 4000000 in
theorem w10_v110 : w10 V0 (no_index (Proc.devRef .tc main_v110)) = o V0 := by
  unfold w10
  simp only [hostOps0_9]
  after_results_simp
  simp only [w9_v110] <;> rfl
set_option maxHeartbeats 4000000 in
theorem w10_v153 : w10 V0 (no_index (Proc.devRef .tc main_v153)) = states V0 := by
  unfold w10
  simp only [hostOps0_9]
  after_results_simp
  simp only [w9_v153] <;> rfl
set_option maxHeartbeats 4000000 in
theorem w10_v155 : w10 V0 (no_index (Proc.devRef .tc main_v155)) = truncf (F := Ideal) .bf16 (proj V0) bitsLt_bf16_f32 := by
  unfold w10
  simp only [hostOps0_9]
  after_results_simp
  simp only [w9_v155] <;> rfl
set_option maxHeartbeats 4000000 in
theorem w10_v207 : w10 V0 (no_index (Proc.devRef .tc main_v207)) = cs := by
  unfold w10
  simp only [hostOps0_9]
  after_results_simp
  simp only [w9_v207] <;> rfl
set_option maxHeartbeats 4000000 in
theorem w10_v209 : w10 V0 (no_index (Proc.devRef .tc main_v209)) = sn := by
  unfold w10
  simp only [hostOps0_9]
  after_results_simp
  simp only [w9_v209] <;> rfl
set_option maxHeartbeats 4000000 in
theorem w10_v210 : w10 V0 (no_index (Proc.devRef .tc main_v210)) = dret V0 := by
  unfold w10
  simp only [hostOps0_9]
  after_results_simp
  simp only [w9_arg2, w9_c_33] <;> rfl
variable (m : (ℓ : Loc nD τ sig) → Buf (Elt Ideal) ℓ) (c : Dev nD)

/-- A buffer as the region finds it. -/
theorem entry (b : Ref sig .tc) : V m c b = w10 (fun b => m (c, b)) (Proc.devRef .tc b) := by
  show after (List.flatten [hostOps0, hostOps0_1, hostOps0_2, hostOps0_3, hostOps0_4, hostOps0_5, hostOps0_6, hostOps0_7, hostOps0_8, hostOps0_9]) (fun b => m (c, b)) (Proc.devRef .tc b) = _
  rw [List.flatten_cons, List.flatten_cons, List.flatten_cons, List.flatten_cons, List.flatten_cons, List.flatten_cons, List.flatten_cons, List.flatten_cons, List.flatten_cons, List.flatten_cons, List.flatten_nil, List.append_nil]
  simp only [after_append]
  rfl

end Cert.KernelIdeal.Entry

end
-- ==== Proof.PadRead.lean ====
/- The padded arrays the region is entered with, and the tables of cosines and sines, read in real numbers. -/
module

public import proofs.«01_k».proof.Proof.Host
public import proofs.«01_k».proof.Proof.Seq
public import Idealize.ShloMosaic.Lib.KernelVsHost

@[expose] public section

noncomputable section

namespace Cert.KernelIdeal.Entry

open Idealize.ShloMosaic hiding ix1 ix2 ix3 ix4
open Cert.KernelIdeal Cert.KernelIdeal.Gen Cert.KernelIdeal.Unit Idealize.ShloMosaic.ValueIdx
open Cert.Ref (Holds part hd ln)
open Cert.Spec (In freq pairOf)

/-- The columns of a head's lane. -/
def lane (h : Fin 4) (d : Fin 128) : Fin 512 := ⟨128 * h.val + d.val, by omega⟩
theorem hd_lane (h : Fin 4) (d : Fin 128) : hd (lane h d) = h := Fin.ext (by show (128 * h.val + d.val) / 128 = h.val; omega)
theorem ln_lane (h : Fin 4) (d : Fin 128) : ln (lane h d) = d := Fin.ext (by show (128 * h.val + d.val) % 128 = d.val; omega)

/-- Rows below 112 zeros. -/
theorem pad_read {n : ℕ} (x : (⟨2, ![8208, n]⟩ : Shape).Idx → EReal) (f : Fin 8208 → Fin 128 → ℝ) (d : Fin 128)
    (hp : (⟨2, ![8208, n]⟩ : Shape).Pads ![112, 0] ![0, 0] ![0, 0] ⟨2, ![8320, n]⟩) (hu : 0 < S_.numel)
    (i : (⟨2, ![8320, n]⟩ : Shape).Idx)
    (hx : ∀ t : Fin 8208, x (ix2 t (i 1)) = ((f t d : ℝ) : EReal)) :
    pad ⟨2, ![8320, n]⟩ ![112, 0] ![0, 0] ![0, 0] x (sitofp (F := Ideal) .f32 (constantI S_ 32 0#32)) hp hu i
      = ((padded f (i 0).val d : ℝ) : EReal) := by
  have hi : (i 0).val < 8320 := (i 0).isLt
  unfold padded
  by_cases h : 112 ≤ (i 0).val
  · rw [dif_pos ⟨h, hi⟩]
    refine (pad_apply_of_inside ![112, 0] ![0, 0] ![0, 0] x _ _ _ i
      (ix2 (⟨(i 0).val - 112, by omega⟩ : Fin 8208) (i 1)) (fun a => ?_)).trans (hx _)
    match a with
    | ⟨0, _⟩ => show (i 0).val = 112 + ((i 0).val - 112) * 1; omega
    | ⟨1, _⟩ => show (i 1).val = 0 + (i 1).val * 1; omega
  · rw [dif_neg (by omega)]
    refine (pad_apply_of_not_inside ![112, 0] ![0, 0] ![0, 0] x _ _ _ i 0
      (fun k => by have := k.1; change 112 ≤ (i 0).val at this; omega)).trans ?_
    show Scalar.sitofp (F := Ideal) .f32 (0#32) = _
    rw [Ideal.scalar_sitofp_def]; simp

section

variable {V0 : Vals} {X : In} {x1 : S1x512.Idx → EReal} (H : Holds X (a0 V0) x1 (a2 V0))
include H

theorem o_read (i : S8320x512.Idx) (h : Fin 4) (d : Fin 128) (hi : (i 1).val = 128 * h.val + d.val) :
    o V0 i = ((padded (fun t => X.o t h) (i 0).val d : ℝ) : EReal) := by
  unfold o
  refine pad_read _ _ d _ h_S_ i fun t => ?_
  refine (shapeCast_apply _ _ (ix2 t (i 1)) (ix3 t h d) ?_).trans (Cert.Ref.r108 H (ix3 t h d))
  rw [Shape.rowMajor_val_two, Shape.rowMajor_val_three]
  show (t.val * 4 + h.val) * 128 + d.val = t.val * 512 + (i 1).val
  omega

theorem proj_read (i : S8320x2560.Idx) (k h : Fin 4) (d : Fin 128) (hi : (i 1).val = 512 * k.val + (128 * h.val + d.val)) :
    truncf (F := Ideal) .bf16 (proj V0) bitsLt_bf16_f32 i = ((padded (fun t => part X k t h) (i 0).val d : ℝ) : EReal) := by
  show proj V0 i = _
  unfold proj
  refine pad_read _ _ d _ h_S_ i fun t => (H.proj _ k (lane h d) hi).trans ?_
  rw [hd_lane, ln_lane]

theorem dret_read (i : S8320x1024.Idx) (h : Fin 4) (d : Fin 128) (hi : (i 1).val = 128 * h.val + d.val) :
    dret V0 i = ((padded (fun t => X.dret t h) (i 0).val d : ℝ) : EReal) := by
  unfold dret
  refine pad_read _ _ d _ h_S_ i fun t => (H.grad _ (lane h d) hi).trans ?_
  rw [hd_lane, ln_lane]

end

theorem start_read (i : S65x64.Idx) : start i = ((Spec.ang (((i 0).val : ℝ) * 128 - 112) (i 1) : ℝ) : EReal) := by
  have h : (i 0).val < 65 := (i 0).isLt
  show (Scalar.sitofp (F := Ideal) .f32 (BitVec.ofNat 32 (i 0).val) * Ideal.ofBits .f32 0x43000000#32 - Ideal.ofBits .f32 0x42E00000#32)
    * Cert.ReferenceIdeal.Read.val_main_v16 (F := Ideal) (ix1 (i 1)) = _
  rw [Cert.Ref.r16, Ideal.scalar_sitofp_def, Words.toInt_ofNat (by omega), Num.w_128, Num.w_112]
  norm_cast

theorem step_read (i : S128x64.Idx) : step i = ((Spec.ang ((i 0).val : ℝ) (i 1) : ℝ) : EReal) := by
  have h : (i 0).val < 128 := (i 0).isLt
  show Scalar.sitofp (F := Ideal) .f32 (BitVec.ofNat 32 (i 0).val) * Cert.ReferenceIdeal.Read.val_main_v16 (F := Ideal) (ix1 (i 1)) = _
  rw [Cert.Ref.r16, Ideal.scalar_sitofp_def, Words.toInt_ofNat (by omega)]
  norm_cast

/-- The angle of a row is that of its chunk's start and that of its place in the chunk. -/
theorem ang_add {p : ℕ} (m : Fin 64) :
    Spec.ang (((p / 128 : ℕ) : ℝ) * 128 - 112) m + Spec.ang ((p % 128 : ℕ) : ℝ) m = Seq.ang p m := by
  unfold Seq.ang Spec.ang
  rw [← add_mul]
  congr 1
  have : (p : ℝ) = 128 * ((p / 128 : ℕ) : ℝ) + ((p % 128 : ℕ) : ℝ) := by exact_mod_cast (Nat.div_add_mod p 128).symm
  rw [this]; ring

theorem cosines_read (i : S8320x64.Idx) : cosines i = ((Real.cos (Seq.ang (i 0).val (i 1)) : ℝ) : EReal) := by
  have h : (i 0).val < 8320 := (i 0).isLt
  unfold cosines
  refine (shapeCast_apply _ _ i (ix3 (⟨(i 0).val / 128, by omega⟩ : Fin 65) (⟨(i 0).val % 128, by omega⟩ : Fin 128) (i 1)) ?_).trans ?_
  · rw [Shape.rowMajor_val_two, Shape.rowMajor_val_three]
    show ((i 0).val / 128 * 128 + (i 0).val % 128) * 64 + (i 1).val = (i 0).val * 64 + (i 1).val
    omega
  · show Ideal.cos (start (ix2 _ (i 1))) * Ideal.cos (step (ix2 _ (i 1))) - Ideal.sin (start (ix2 _ (i 1))) * Ideal.sin (step (ix2 _ (i 1))) = _
    rw [start_read, step_read, Ideal.cos_coe, Ideal.cos_coe, Ideal.sin_coe, Ideal.sin_coe, ← EReal.coe_mul, ← EReal.coe_mul, ← EReal.coe_sub,
      ← Real.cos_add]
    exact congrArg (fun x : ℝ => ((Real.cos x : ℝ) : EReal)) (ang_add (i 1))

theorem sines_read (i : S8320x64.Idx) : sines i = ((Real.sin (Seq.ang (i 0).val (i 1)) : ℝ) : EReal) := by
  have h : (i 0).val < 8320 := (i 0).isLt
  unfold sines
  refine (shapeCast_apply _ _ i (ix3 (⟨(i 0).val / 128, by omega⟩ : Fin 65) (⟨(i 0).val % 128, by omega⟩ : Fin 128) (i 1)) ?_).trans ?_
  · rw [Shape.rowMajor_val_two, Shape.rowMajor_val_three]
    show ((i 0).val / 128 * 128 + (i 0).val % 128) * 64 + (i 1).val = (i 0).val * 64 + (i 1).val
    omega
  · show Ideal.sin (start (ix2 _ (i 1))) * Ideal.cos (step (ix2 _ (i 1))) + Ideal.cos (start (ix2 _ (i 1))) * Ideal.sin (step (ix2 _ (i 1))) = _
    rw [start_read, step_read, Ideal.cos_coe, Ideal.cos_coe, Ideal.sin_coe, Ideal.sin_coe, ← EReal.coe_mul, ← EReal.coe_mul, ← EReal.coe_add,
      ← Real.sin_add]
    exact congrArg (fun x : ℝ => ((Real.sin x : ℝ) : EReal)) (ang_add (i 1))

/-- Two tables side by side. -/
theorem halves (a b : S8320x64.Idx → EReal) (h : Shape.Concatenates [S8320x64, S8320x64] S8320x128 1) (i : S8320x128.Idx) :
    concatenate S8320x128 1 [⟨S8320x64, a⟩, ⟨S8320x64, b⟩] h i
      = if (i 1).val < 64 then a (ix2 (i 0) (pairOf (i 1))) else b (ix2 (i 0) (pairOf (i 1))) := by
  have hi : (i 1).val < 128 := (i 1).isLt
  split
  · rename_i hl
    refine concatenate_pair_apply_left 1 a b h i rfl _ fun c => ?_
    match c with
    | ⟨0, _⟩ => rfl
    | ⟨1, _⟩ => exact Nat.mod_eq_of_lt hl
  · rename_i hl
    refine concatenate_pair_apply_right 1 a b h i rfl rfl _ (fun c hc => ?_) ?_
    · match c with
      | ⟨0, _⟩ => rfl
      | ⟨1, _⟩ => exact absurd rfl hc
    · show (i 1).val % 64 + 64 = (i 1).val; omega

theorem cs_read (i : S8320x128.Idx) : cs i = ((Real.cos (Seq.ang (i 0).val (pairOf (i 1))) : ℝ) : EReal) := by
  unfold cs
  rw [halves, ite_self, cosines_read]

theorem sn_read (i : S8320x128.Idx) :
    sn i = ((if (i 1).val < 64 then -Real.sin (Seq.ang (i 0).val (pairOf (i 1))) else Real.sin (Seq.ang (i 0).val (pairOf (i 1))) : ℝ) : EReal) := by
  unfold sn
  rw [halves, ← Cert.Ref.coe_ite]
  split
  · show -sines _ = _
    rw [sines_read, EReal.coe_neg]
  · rw [sines_read]

end Cert.KernelIdeal.Entry

end
-- ==== Proof.StateRead.lean ====
/- The states the chunks are entered with, read in real numbers. -/
module

public import proofs.«01_k».proof.Proof.Host
public import proofs.«01_k».proof.Proof.Seq

@[expose] public section

set_option maxRecDepth 16384

noncomputable section

namespace Cert.KernelIdeal.Entry

open Idealize.ShloMosaic hiding ix1 ix2 ix3 ix4
open Cert.KernelIdeal Cert.KernelIdeal.Gen Cert.KernelIdeal.Unit Idealize.ShloMosaic.ValueIdx
open Cert.Ref (Holds part hd ln)
open Cert.Spec (In gam gam_pos)
open Cert.ReferenceIdeal.Read (val_main_v76 val_main_v77 val_main_v94)

theorem dist_word (i : S65x8208.Idx) : dist i = (BitVec.ofNat 32 (i 0).val * 128#32 - 112#32 - 1#32) - BitVec.ofNat 32 (i 1).val := rfl

theorem dist_toInt (i : S65x8208.Idx) : (dist i).toInt = 128 * ((i 0).val : ℤ) - 113 - (i 1).val := by
  have h0 : (i 0).val < 65 := (i 0).isLt
  have h1 : (i 1).val < 8208 := (i 1).isLt
  have e : dist i = BitVec.ofNat 32 (128 * (i 0).val) - BitVec.ofNat 32 (113 + (i 1).val) := by
    rw [dist_word]
    have e1 : BitVec.ofNat 32 (128 * (i 0).val) = BitVec.ofNat 32 (i 0).val * 128#32 := by
      rw [BitVec.ofNat_mul, BitVec.mul_comm]
    have e2 : BitVec.ofNat 32 (113 + (i 1).val) = 113#32 + BitVec.ofNat 32 (i 1).val := BitVec.ofNat_add _ _
    rw [e1, e2]
    generalize BitVec.ofNat 32 (i 0).val * 128#32 = a
    generalize BitVec.ofNat 32 (i 1).val = b
    rw [show (113#32 : BitVec 32) = 112#32 + 1#32 from rfl]
    simp only [BitVec.sub_eq_add_neg, BitVec.neg_add, BitVec.add_assoc]
  rw [e, Words.toInt_sub (by omega) (by omega)]
  push_cast; ring

theorem weights_word (i : S4x65x8208.Idx) : weights i
    = Scalar.select (IntOp.cmpi .sge (dist (ix2 (i 1) (i 2))) 0#32)
      (Ideal.exp (val_main_v94 (F := Ideal) (ix1 (i 0)) * Scalar.sitofp (F := Ideal) .f32 (IntOp.maxsi (dist (ix2 (i 1) (i 2))) 0#32)))
      (Ideal.ofBits .f32 0x00000000#32) := rfl

theorem weights_read (i : S4x65x8208.Idx) : weights i
    = ((if 112 + (i 2).val + 1 ≤ 128 * (i 1).val then gam (i 0) ^ (128 * (i 1).val - 1 - (112 + (i 2).val)) else 0 : ℝ) : EReal) := by
  rw [weights_word, Cert.Ref.r94, Ideal.scalar_sitofp_def, Num.w_zero]
  refine (Words.entry (gam_pos _) (dist_toInt _)).trans ?_
  refine congrArg _ ?_
  show (if 0 ≤ 128 * ((i 1).val : ℤ) - 113 - (i 2).val then gam (i 0) ^ (128 * ((i 1).val : ℤ) - 113 - (i 2).val).toNat else 0) = _
  by_cases h : 112 + (i 2).val + 1 ≤ 128 * (i 1).val
  · rw [if_pos h, if_pos (by omega)]; congr 1; omega
  · rw [if_neg h, if_neg (by omega)]

abbrev D : DotDims S8208x4x128 S4x65x8208x128 S4x128x65x128 := dot_S8208x4x128_S4x65x8208x128_S4x128x65x128_0_2_2_13_1_0

theorem lhs0 (i : S4x128x65x128.Idx) (q : D.contr.Idx) : (D.lhsIdx i q 0).val = (q ⟨0, by decide⟩).val := D.lhsIdx_val_of_single rfl i q
theorem lhs1 (i : S4x128x65x128.Idx) (q : D.contr.Idx) : (D.lhsIdx i q 1).val = (i 0).val := by
  unfold DotDims.lhsIdx
  rw [dif_pos (show (1 : Fin S8208x4x128.rank) ∈ D.lhsBatch by decide)]
  rfl
theorem lhs2 (i : S4x128x65x128.Idx) (q : D.contr.Idx) : (D.lhsIdx i q 2).val = (i 1).val := by
  unfold DotDims.lhsIdx
  rw [dif_neg (show ¬(2 : Fin S8208x4x128.rank) ∈ D.lhsBatch by decide), dif_pos (show (2 : Fin S8208x4x128.rank) ∈ D.lhsNonContracting by decide)]
  rfl
theorem rhs0 (i : S4x128x65x128.Idx) (q : D.contr.Idx) : (D.rhsIdx i q 0).val = (i 0).val := by
  unfold DotDims.rhsIdx
  rw [dif_pos (show (0 : Fin S4x65x8208x128.rank) ∈ D.rhsBatch by decide)]
  rfl
theorem rhs1 (i : S4x128x65x128.Idx) (q : D.contr.Idx) : (D.rhsIdx i q 1).val = (i 2).val := by
  unfold DotDims.rhsIdx
  rw [dif_neg (show ¬(1 : Fin S4x65x8208x128.rank) ∈ D.rhsBatch by decide), dif_pos (show (1 : Fin S4x65x8208x128.rank) ∈ D.rhsNonContracting by decide)]
  rfl
theorem rhs2 (i : S4x128x65x128.Idx) (q : D.contr.Idx) : (D.rhsIdx i q 2).val = (q ⟨0, by decide⟩).val := D.rhsIdx_val_of_single rfl i q
theorem rhs3 (i : S4x128x65x128.Idx) (q : D.contr.Idx) : (D.rhsIdx i q 3).val = (i 3).val := by
  unfold DotDims.rhsIdx
  rw [dif_neg (show ¬(3 : Fin S4x65x8208x128.rank) ∈ D.rhsBatch by decide), dif_pos (show (3 : Fin S4x65x8208x128.rank) ∈ D.rhsNonContracting by decide)]
  rfl

/-- The sum over the tokens. -/
theorem dot_read (x : FVec Ideal S8208x4x128 .f32) (y : FVec Ideal S4x65x8208x128 .f32) (i : S4x128x65x128.Idx) :
    Host.dotGeneral (F := Ideal) D (φ₁ := .f32) (φ₂ := .f32) none x y i
      = ∑ t : Fin 8208, (x (ix3 t (i 0) (i 1)) : EReal) * y (ix4 (i 0) (i 2) t (i 3)) := by
  simp only [Host.dotGeneral]
  rw [Ideal.dotGeneral_apply, ← Equiv.sum_comp (ValueIdx.contrEquiv1 D 8208 rfl rfl).symm]
  refine Finset.sum_congr rfl fun k _ => ?_
  have hk := ValueIdx.contrEquiv1_symm_val D 8208 rfl rfl k
  have el : D.lhsIdx i ((ValueIdx.contrEquiv1 D 8208 rfl rfl).symm k) = ix3 k (i 0) (i 1) := funext fun a => Fin.ext (by
    match a with
    | ⟨0, _⟩ => exact (lhs0 _ _).trans hk
    | ⟨1, _⟩ => exact lhs1 _ _
    | ⟨2, _⟩ => exact lhs2 _ _)
  have er : D.rhsIdx i ((ValueIdx.contrEquiv1 D 8208 rfl rfl).symm k) = ix4 (i 0) (i 2) k (i 3) := funext fun a => Fin.ext (by
    match a with
    | ⟨0, _⟩ => exact rhs0 _ _
    | ⟨1, _⟩ => exact rhs1 _ _
    | ⟨2, _⟩ => exact (rhs2 _ _).trans hk
    | ⟨3, _⟩ => exact rhs3 _ _)
  rw [el, er]
  rfl

variable {V0 : Vals} {X : In} {x1 : S1x512.Idx → EReal} (H : Holds X (a0 V0) x1 (a2 V0))

theorem outer_word (h : Fin 4) (n : Fin 65) (t : Fin 8208) (d : Fin 128) :
    outer V0 (ix4 h n t d) = (weights (ix3 h n t) : EReal) * val_main_v76 (F := Ideal) (a0 V0) (ix3 t h d) := by
  refine congrArg₂ (fun a b : EReal => a * b)
    ((broadcastInDim_apply _ _ _ (ix4 h n t d) (ix4 h n t 0) fun a => ?_).trans (broadcastInDim_apply _ _ _ (ix4 h n t 0) (ix3 h n t) fun a => ?_))
    (((broadcastInDim_apply _ _ _ (ix4 h n t d) (ix4 h 0 t d) fun a => ?_).trans (broadcastInDim_apply _ _ _ (ix4 h 0 t d) (ix3 h t d) fun a => ?_)).trans
      (transpose_apply _ _ _ (ix3 h t d) (ix3 t h d) fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
  · match a with
    | ⟨0, _⟩ => rfl
    | ⟨1, _⟩ => rfl
    | ⟨2, _⟩ => rfl

include H

theorem outer_read (h : Fin 4) (n : Fin 65) (t : Fin 8208) (d : Fin 128) :
    outer V0 (ix4 h n t d)
      = (((if 112 + t.val + 1 ≤ 128 * n.val then gam h ^ (128 * n.val - 1 - (112 + t.val)) else 0) * X.kh t h d : ℝ) : EReal) := by
  rw [EReal.coe_mul]
  exact (outer_word h n t d).trans (congrArg₂ (fun a b : EReal => a * b) (weights_read (ix3 h n t)) (Cert.Ref.r76 H (ix3 t h d)))

theorem summed_read (h : Fin 4) (e : Fin 128) (n : Fin 65) (d : Fin 128) :
    summed V0 (ix4 h e n d) = ((Seq.st X h n.val d e : ℝ) : EReal) := by
  refine (dot_read _ _ _).trans ?_
  refine (Num.sum_eq (f := fun t : Fin 8208 => X.v t h e
    * ((if 112 + t.val + 1 ≤ 128 * n.val then gam h ^ (128 * n.val - 1 - (112 + t.val)) else 0) * X.kh t h d)) fun t => ?_).trans ?_
  · rw [EReal.coe_mul]
    exact congrArg₂ (fun a b : EReal => a * b) (Cert.Ref.r77 H (ix3 t h e)) (outer_read H h n t d)
  refine congrArg _ ?_
  refine Eq.trans (Finset.sum_congr rfl fun t _ => ?_)
    (Decay.entering (gam h) (fun p => Seq.kh X h p d * Seq.v X h p e) (a := 112) (L := 8208) (n := n.val)
      (fun p hp => by simp only [Seq.v_pad X h hp, mul_zero]) (by omega))
  simp only [Seq.kh_tok, Seq.v_tok]
  ring

theorem states_read (n : Fin 65) (h : Fin 4) (d e : Fin 128) : states V0 (ix4 n h d e) = ((Seq.st X h n.val d e : ℝ) : EReal) := by
  refine (transpose_apply _ _ _ (ix4 n h d e) (ix4 h e n d) fun a => ?_).trans (summed_read H h e n d)
  match a with
  | ⟨0, _⟩ => rfl
  | ⟨1, _⟩ => rfl
  | ⟨2, _⟩ => rfl
  | ⟨3, _⟩ => rfl

end Cert.KernelIdeal.Entry

end
-- ==== Proof.BlockRead.lean ====
/- The blocks a grid point finds are those of the padded sequence. -/
module

public import proofs.«01_k».proof.Proof.PadRead
public import proofs.«01_k».proof.Proof.StateRead
public import proofs.«01_k».proof.Proof.Point
public import proofs.«01_k».proof.Proof.Gen.KernelIdeal.Points

@[expose] public section

set_option maxRecDepth 16384

noncomputable section

namespace Cert.KernelIdeal.Entry

open Idealize.ShloMosaic hiding ix1 ix2 ix3 ix4
open Idealize.ShloMosaic.TcCoe Cert.KernelIdeal Cert.KernelIdeal.Gen Cert.KernelIdeal.Unit Idealize.ShloMosaic.ValueIdx
open Idealize.SL.Sem
open Cert.Ref (Holds part hd ln)
open Cert.Spec (In)

/-- The block each window is on: the points walk the rows from the end. -/
theorem places : ∀ t : Fin cfg0.N,
    (win0_0.index t 0 = 12 - t.val ∧ win0_0.index t 1 = 0) ∧ (win0_1.index t 0 = 12 - t.val ∧ win0_1.index t 1 = 1)
    ∧ (win0_2.index t 0 = 12 - t.val ∧ win0_2.index t 1 = 2) ∧ (win0_3.index t 0 = 12 - t.val ∧ win0_3.index t 1 = 3)
    ∧ (win0_4.index t 0 = 12 - t.val ∧ win0_4.index t 1 = 0) ∧ (win0_5.index t 0 = 12 - t.val ∧ win0_5.index t 1 = 0)
    ∧ (win0_6.index t 0 = 0 ∧ win0_6.index t 1 = 0) ∧ (win0_7.index t 0 = 12 - t.val ∧ win0_7.index t 1 = 0)
    ∧ (win0_8.index t 0 = 12 - t.val ∧ win0_8.index t 1 = 0 ∧ win0_8.index t 2 = 0 ∧ win0_8.index t 3 = 0)
    ∧ (win0_9.index t 0 = 12 - t.val ∧ win0_9.index t 1 = 0) ∧ (win0_10.index t 0 = 12 - t.val ∧ win0_10.index t 1 = 0)
    ∧ (win0_11.index t 0 = 0 ∧ win0_11.index t 1 = 0) :=
  (by decide +kernel : ∀ t : Fin grid0.N, _)

variable {m : (ℓ : Loc nD τ sig) → Buf (Elt Ideal) ℓ} {c : Dev nD} {X : In}

/-- The contents the region is launched with. -/
abbrev V0 (m : (ℓ : Loc nD τ sig) → Buf (Elt Ideal) ℓ) (c : Dev nD) : Vals := fun b => m (c, b)

variable (H : Holds X (a0 (V0 m c)) (m ((c : Thread nD τ).loc main_arg1)) (a2 (V0 m c)))
include H

/-- A block of the projections. -/
theorem proj_block (t : Fin cfg0.N) (k : Fin 4) (i : S8320x2560.Idx) (b : Fin 5) (h : Fin 4) (r d : Fin 128)
    (h0 : (i 0).val = (12 - t.val) * 640 + 1 * (128 * b.val + r.val)) (h1 : (i 1).val = k.val * 512 + 1 * (128 * h.val + d.val)) :
    V m c main_v155 i = ((padded (fun s => part X k s h) (row t.val b r) d : ℝ) : EReal) := by
  rw [entry, w10_v155]
  refine (proj_read H i k h d (by omega)).trans ?_
  rw [show (i 0).val = row t.val b r by unfold row; omega]

theorem block0 (t : Fin cfg0.N) : BlockIs (φ := .bf16) (iblk m c 0 t) fun b h r => padded (fun s => X.q s h) (row t.val b r) := by
  intro b h r d
  have hp := places t
  exact proj_block H t 0 _ b h r d (by show win0_0.index t 0 * 640 + 1 * (128 * b.val + r.val) = _; rw [hp.1.1])
    (by show win0_0.index t 1 * 512 + 1 * (128 * h.val + d.val) = _; rw [hp.1.2]; rfl)
theorem block1 (t : Fin cfg0.N) : BlockIs (φ := .bf16) (iblk m c 1 t) fun b h r => padded (fun s => X.k s h) (row t.val b r) := by
  intro b h r d
  have hp := places t
  exact proj_block H t 1 _ b h r d (by show win0_1.index t 0 * 640 + 1 * (128 * b.val + r.val) = _; rw [hp.2.1.1])
    (by show win0_1.index t 1 * 512 + 1 * (128 * h.val + d.val) = _; rw [hp.2.1.2]; rfl)
theorem block2 (t : Fin cfg0.N) : BlockIs (φ := .bf16) (iblk m c 2 t) fun b h r => padded (fun s => X.v s h) (row t.val b r) := by
  intro b h r d
  have hp := places t
  exact proj_block H t 2 _ b h r d (by show win0_2.index t 0 * 640 + 1 * (128 * b.val + r.val) = _; rw [hp.2.2.1.1])
    (by show win0_2.index t 1 * 512 + 1 * (128 * h.val + d.val) = _; rw [hp.2.2.1.2]; rfl)
theorem block3 (t : Fin cfg0.N) : BlockIs (φ := .bf16) (iblk m c 3 t) fun b h r => padded (fun s => X.g s h) (row t.val b r) := by
  intro b h r d
  have hp := places t
  exact proj_block H t 3 _ b h r d (by show win0_3.index t 0 * 640 + 1 * (128 * b.val + r.val) = _; rw [hp.2.2.2.1.1])
    (by show win0_3.index t 1 * 512 + 1 * (128 * h.val + d.val) = _; rw [hp.2.2.2.1.2]; rfl)

theorem block7 (t : Fin cfg0.N) : BlockIs (φ := .f32) (iblk m c 7 t) fun b h r => padded (fun s => X.o s h) (row t.val b r) := by
  intro b h r d
  obtain ⟨-, -, -, -, -, -, -, hp, -⟩ := places t
  have key : ∀ i : S8320x512.Idx, (i 0).val = (12 - t.val) * 640 + 1 * (128 * b.val + r.val) → (i 1).val = 0 * 512 + 1 * (128 * h.val + d.val) →
      V m c main_v110 i = ((padded (fun s => X.o s h) (row t.val b r) d : ℝ) : EReal) := fun i h0 h1 => by
    rw [entry, w10_v110]
    refine (o_read H i h d (by omega)).trans ?_
    rw [show (i 0).val = row t.val b r by unfold row; omega]
  exact key _ (by show win0_7.index t 0 * 640 + 1 * (128 * b.val + r.val) = _; rw [hp.1])
    (by show win0_7.index t 1 * 512 + 1 * (128 * h.val + d.val) = _; rw [hp.2])

theorem block9 (t : Fin cfg0.N) : BlockIs (φ := .f32) (iblk m c 9 t) fun b h r => padded (fun s => X.dret s h) (row t.val b r) := by
  intro b h r d
  obtain ⟨-, -, -, -, -, -, -, -, -, hp, -⟩ := places t
  have key : ∀ i : S8320x1024.Idx, (i 0).val = (12 - t.val) * 640 + 1 * (128 * b.val + r.val) → (i 1).val = 0 * 512 + 1 * (128 * h.val + d.val) →
      V m c main_v210 i = ((padded (fun s => X.dret s h) (row t.val b r) d : ℝ) : EReal) := fun i h0 h1 => by
    rw [entry, w10_v210]
    refine (dret_read H i h d (by omega)).trans ?_
    rw [show (i 0).val = row t.val b r by unfold row; omega]
  exact key _ (by show win0_9.index t 0 * 640 + 1 * (128 * b.val + r.val) = _; rw [hp.1])
    (by show win0_9.index t 1 * 512 + 1 * (128 * h.val + d.val) = _; rw [hp.2])

theorem block8 (t : Fin cfg0.N) (b : Fin 5) (h : Fin 4) (r d : Fin 128) :
    (iblk m c 8 t : FVec Ideal S5x4x128x128 .f32) (ix4 b h r d) = ((Seq.st X h (5 * (12 - t.val) + b.val) r d : ℝ) : EReal) := by
  obtain ⟨-, -, -, -, -, -, -, -, hp, -⟩ := places t
  have hb : 5 * (12 - t.val) + b.val < 65 := by omega
  have key : ∀ i : S65x4x128x128.Idx, i = ix4 (⟨5 * (12 - t.val) + b.val, hb⟩ : Fin 65) h r d →
      V m c main_v153 i = ((Seq.st X h (5 * (12 - t.val) + b.val) r d : ℝ) : EReal) := fun i hi => by
    rw [entry, w10_v153, hi]
    exact states_read H _ h r d
  refine key _ (funext fun a => Fin.ext ?_)
  match a with
  | ⟨0, _⟩ => show win0_8.index t 0 * 5 + 1 * b.val = 5 * (12 - t.val) + b.val; rw [hp.1]; omega
  | ⟨1, _⟩ => show win0_8.index t 1 * 4 + 1 * h.val = h.val; rw [hp.2.1]; omega
  | ⟨2, _⟩ => show win0_8.index t 2 * 128 + 1 * r.val = r.val; rw [hp.2.2.1]; omega
  | ⟨3, _⟩ => show win0_8.index t 3 * 128 + 1 * d.val = d.val; rw [hp.2.2.2]; omega

theorem block6 (t : Fin cfg0.N) : DwIs (iblk m c 6 t) X.w := by
  intro h d
  obtain ⟨-, -, -, -, -, -, hp, -⟩ := places t
  have key : ∀ i : S1x512.Idx, (i 1).val = 128 * h.val + d.val → V m c main_arg1 i = ((X.w h d : ℝ) : EReal) := fun i h1 => by
    rw [V_main_arg1]
    refine (H.gain i).trans ?_
    rw [show hd (i 1) = h from Fin.ext (by show (i 1).val / 128 = _; omega), show ln (i 1) = d from Fin.ext (by show (i 1).val % 128 = _; omega)]
  exact key _ (by show win0_6.index t 1 * 512 + 1 * (128 * h.val + d.val) = _; rw [hp.2]; omega)

omit H

theorem block4 (t : Fin cfg0.N) (b : Fin 5) (r d : Fin 128) :
    (iblk m c 4 t : FVec Ideal S640x128 .f32) (ix2 (bRow b r) d) = ((Real.cos (Seq.ang (row t.val b r) (Spec.pairOf d)) : ℝ) : EReal) := by
  obtain ⟨-, -, -, -, hp, -⟩ := places t
  have key : ∀ i : S8320x128.Idx, (i 0).val = row t.val b r → (i 1 : Fin 128) = d →
      V m c main_v207 i = ((Real.cos (Seq.ang (row t.val b r) (Spec.pairOf d)) : ℝ) : EReal) := fun i h0 h1 => by
    rw [entry, w10_v207]
    refine (cs_read i).trans ?_
    rw [h0, h1]
  exact key _ (by show win0_4.index t 0 * 640 + 1 * (128 * b.val + r.val) = _; rw [hp.1]; unfold row; omega)
    (Fin.ext (by show win0_4.index t 1 * 128 + 1 * d.val = _; rw [hp.2]; omega))

theorem block5 (t : Fin cfg0.N) (b : Fin 5) (r d : Fin 128) :
    (iblk m c 5 t : FVec Ideal S640x128 .f32) (ix2 (bRow b r) d)
      = ((if d.val < 64 then -Real.sin (Seq.ang (row t.val b r) (Spec.pairOf d)) else Real.sin (Seq.ang (row t.val b r) (Spec.pairOf d)) : ℝ) : EReal) := by
  obtain ⟨-, -, -, -, -, hp, -⟩ := places t
  have key : ∀ i : S8320x128.Idx, (i 0).val = row t.val b r → (i 1 : Fin 128) = d →
      V m c main_v209 i = ((if d.val < 64 then -Real.sin (Seq.ang (row t.val b r) (Spec.pairOf d)) else Real.sin (Seq.ang (row t.val b r) (Spec.pairOf d)) : ℝ) : EReal) := fun i h0 h1 => by
    rw [entry, w10_v209]
    refine (sn_read i).trans ?_
    rw [h0, h1]
  exact key _ (by show win0_5.index t 0 * 640 + 1 * (128 * b.val + r.val) = _; rw [hp.1]; unfold row; omega)
    (Fin.ext (by show win0_5.index t 1 * 128 + 1 * d.val = _; rw [hp.2]; omega))

include H

/-- All ten blocks of a point. -/
theorem blocks (t : Fin cfg0.N) (gs : Fin 4 → Fin 128 → Fin 128 → ℝ) :
    Blocks (Seq.point X t.val gs) (iblk m c 0 t) (iblk m c 1 t) (iblk m c 2 t) (iblk m c 3 t) (iblk m c 4 t) (iblk m c 5 t) (iblk m c 6 t) (iblk m c 7 t) (iblk m c 8 t) (iblk m c 9 t) where
  q := block0 H t
  k := block1 H t
  v := block2 H t
  g := block3 H t
  cs := block4 t
  sn := block5 t
  w := block6 H t
  o := block7 H t
  st := block8 H t
  dret := block9 H t

end Cert.KernelIdeal.Entry

end
-- ==== Proof.Final.lean ====
/- The two results the kernel leaves, read in real numbers. -/
module

public import proofs.«01_k».proof.Proof.Chain
public import proofs.«01_k».proof.Proof.BlockRead
public import proofs.«01_k».proof.Proof.Gen.KernelIdeal.Value

@[expose] public section

set_option maxRecDepth 16384

noncomputable section

namespace Cert.KernelIdeal.Entry

open Idealize.ShloMosaic hiding ix1 ix2 ix3 ix4
open Idealize.ShloMosaic.TcCoe Cert.KernelIdeal Cert.KernelIdeal.Gen Cert.KernelIdeal.Unit Idealize.ShloMosaic.ValueIdx
open Idealize.SL.Sem
open Cert.Ref (Holds part hd ln)
open Cert.Spec (In)

variable {m : (ℓ : Loc nD τ sig) → Buf (Elt Ideal) ℓ} {c : Dev nD} {X : In}
variable (H : Holds X (a0 (V0 m c)) (m ((c : Thread nD τ).loc main_arg1)) (a2 (V0 m c)))
include H

theorem dp_array (t : Fin cfg0.N) (b : Fin 5) (h p : Fin 4) (r d : Fin 128) (i : S8320x2048.Idx)
    (h0 : (i 0).val = row t.val b r) (h1 : (i 1).val = 512 * p.val + (128 * h.val + d.val)) :
    (dats m 0 c).arrAt 10 cfg0.N i = ((Seq.dp X (row t.val b r) p h d : ℝ) : EReal) := by
  obtain ⟨-, -, -, -, -, -, -, -, -, -, hp, -⟩ := places t
  have e := congrFun (Value.blocks10 m c t (flush0_10 t)) (ix2 (bRow b r) (pLane p h d))
  rw [Value.flushed10] at e
  have ht : t.val ≤ 12 := by have h := lt_of_lt_of_eq t.isLt (show cfg0.N = 13 from N_0); omega
  have e2 := (left (fun t gs => blocks H t gs) t.val t.isLt).dp b h p r d
  rw [Seq.dp_eq X ht] at e2
  refine Eq.trans ?_ (e.trans e2)
  refine congrArg ((dats m 0 c).arrAt 10 cfg0.N) (funext fun a => Fin.ext ?_)
  match a with
  | ⟨0, _⟩ => show (i 0).val = win0_10.index t 0 * 640 + 1 * (128 * b.val + r.val); rw [hp.1, h0]; unfold row; omega
  | ⟨1, _⟩ => show (i 1).val = win0_10.index t 1 * 2048 + 1 * (512 * p.val + 128 * h.val + d.val); rw [hp.2, h1]; omega

/-- The gradient of the four projections, 112 rows of zeros on top. -/
theorem dp_read (i : S8320x2048.Idx) (p : Fin 4) (l : Fin 512) (hl : (i 1).val = 512 * p.val + l.val) :
    (dats m 0 c).arrAt 10 cfg0.N i
      = ((if h : 112 ≤ (i 0).val then X.dp ⟨(i 0).val - 112, by have : (i 0).val < 8320 := (i 0).isLt; omega⟩ p (hd l) (ln l) else 0 : ℝ) : EReal) := by
  have hi : (i 0).val < 8320 := (i 0).isLt
  have hr : row (12 - (i 0).val / 640) ⟨(i 0).val % 640 / 128, by omega⟩ ⟨(i 0).val % 128, by omega⟩ = (i 0).val := by
    unfold row; show 128 * (5 * (12 - (12 - (i 0).val / 640)) + (i 0).val % 640 / 128) + (i 0).val % 128 = _; omega
  refine (dp_array H ⟨12 - (i 0).val / 640, by rw [show cfg0.N = 13 from N_0]; omega⟩ ⟨(i 0).val % 640 / 128, by omega⟩ (hd l) p ⟨(i 0).val % 128, by omega⟩ (ln l) i hr.symm
    (by show _ = 512 * p.val + (128 * (l.val / 128) + l.val % 128); omega)).trans ?_
  rw [hr]
  refine congrArg _ ?_
  by_cases h : 112 ≤ (i 0).val
  · rw [dif_pos h, ← Seq.dp_tok X (hd l) ⟨(i 0).val - 112, by omega⟩ p (ln l)]
    rw [show 112 + ((i 0).val - 112) = (i 0).val by omega]
  · rw [dif_neg h, Seq.dp_pad X (hd l) (by omega)]

omit H in
/-- Only the last point writes the gain's gradient back. -/
theorem once (t t' : Fin cfg0.N) (h : (cfg0.win 11).flush t = true) (h' : (cfg0.win 11).flush t' = true) : t = t' := by
  have h1 := (flush0_11 t).mp h
  have h2 := (flush0_11 t').mp h'
  have h3 := lt_of_lt_of_eq t.isLt (show cfg0.N = 13 from N_0)
  have h4 := lt_of_lt_of_eq t'.isLt (show cfg0.N = 13 from N_0)
  exact Fin.ext (by omega)

theorem dw_last (t : Fin cfg0.N) (ht : t.val = 12) (h : Fin 4) (d : Fin 128) :
    ((cfg0.win 11).cut (grid0.coords t) ((outsAt0 m c t.val t.isLt).2.1) : FVec Ideal S1x512 .f32) (ix2 0 (bLane h d)) = ((X.dw h d : ℝ) : EReal) := by
  refine ((left (fun t gs => blocks H t gs) t.val t.isLt).dw h d).trans (congrArg (fun x : ℝ => (x : EReal)) ?_)
  show ∑ s ∈ Finset.range (t.val + 1), Seq.dwPoint X h s d = _
  rw [ht]
  exact Seq.dw_total X h d

theorem dw_array (t : Fin cfg0.N) (ht : t.val = 12) (h : Fin 4) (d : Fin 128) (i : S1x512.Idx) (h1 : (i 1).val = 128 * h.val + d.val) :
    (dats m 0 c).arrAt 11 cfg0.N i = ((X.dw h d : ℝ) : EReal) := by
  have hf : (cfg0.win 11).flush t = true := (flush0_11 t).mpr (by rw [ht])
  obtain ⟨-, -, -, -, -, -, -, -, -, -, -, hp⟩ := places t
  have e := congrFun ((dats m 0 c).read_blk_arrAt_eq_flushed 11 (fun t t' h h' hne => absurd (once t t' h h') hne) cfg0.N t t.isLt hf) (ix2 0 (bLane h d))
  rw [Value.flushed11] at e
  refine Eq.trans ?_ (e.trans (dw_last H t ht h d))
  refine congrArg ((dats m 0 c).arrAt 11 cfg0.N) (funext fun a => Fin.ext ?_)
  match a with
  | ⟨0, _⟩ => show (i 0).val = win0_11.index t 0 * 1 + 1 * 0; rw [hp.1]; have : (i 0).val < 1 := (i 0).isLt; omega
  | ⟨1, _⟩ => show (i 1).val = win0_11.index t 1 * 512 + 1 * (128 * h.val + d.val); rw [hp.2]; omega

/-- The gradient of the gain. -/
theorem dw_read (i : S1x512.Idx) :
    (dats m 0 c).arrAt 11 cfg0.N i = ((X.dw (hd (i 1)) (ln (i 1)) : ℝ) : EReal) := by
  have hN : (12 : ℕ) < cfg0.N := by rw [show cfg0.N = 13 from N_0]; decide
  refine dw_array H ⟨12, hN⟩ rfl (hd (i 1)) (ln (i 1)) i ?_
  show (i 1).val = 128 * ((i 1).val / 128) + (i 1).val % 128
  omega

end Cert.KernelIdeal.Entry

end
-- ==== Proof.Inputs.lean ====
/- What the precondition says: the entries that are read are real numbers. -/
module

public import proofs.«01_k».proof.Pre_finite
public import proofs.«01_k».proof.Proof.Gen.Pre_finite
public import proofs.«01_k».proof.Proof.Ref1
public import Idealize.ShloMosaic.Lib.ReduceAll
public import Idealize.ShloMosaic.Lib.Pointwise.Select

@[expose] public section

noncomputable section

namespace Cert.Inputs

open Idealize.ShloMosaic hiding ix1 ix2 ix3 ix4
open Idealize.ShloMosaic.ValueIdx Cert.Pre_finite
open Cert.Ref (Holds part hd ln)
open Cert.Spec (In)

instance : Subsingleton S_.Idx := ⟨fun a b => funext fun k => k.elim0⟩

/-- A value whose absolute value is below infinity is a real number. -/
theorem real_of_abs_lt (x : EReal) (h : FloatOps.cmpf .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h1 : Ideal.cmp .olt (max x (-x)) (Ideal.ofBits .f32 0x7F800000#32) = 1#1 := h
  rw [htop] at h1
  have h2 := max_lt_iff.mp ((Ideal.cmp_olt_eq_one _ _).mp h1)
  refine (EReal.coe_toReal h2.1.ne fun hb => ?_).symm
  rw [hb] at h2
  exact absurd h2.2 (by simp)

variable (x0 : FVec Ideal S8208x2560 .f32) (x1 : FVec Ideal S1x512 .f32) (x2 : FVec Ideal S8208x1024 .f32)

/-- Column `512 c + 128 h + d` of the projection. -/
def projAt (c : Fin 4) (t : Fin 8208) (h : Fin 4) (d : Fin 128) : ℝ :=
  EReal.toReal (x0 (ix2 (n0 := 8208) (n1 := 2560) t ⟨512 * c.val + (128 * h.val + d.val), by show _ < 2560; omega⟩))

/-- The real numbers the three arrays hold in the columns that are read. -/
def reals : In where
  q := projAt x0 0
  k := projAt x0 1
  v := projAt x0 2
  g := projAt x0 3
  w h d := EReal.toReal (x1 (ix2 (n0 := 1) (n1 := 512) 0 ⟨128 * h.val + d.val, by show _ < 512; omega⟩))
  dret t h d := EReal.toReal (x2 (ix2 (n0 := 8208) (n1 := 1024) t ⟨128 * h.val + d.val, by show _ < 1024; omega⟩))

theorem part_reals (c : Fin 4) : part (reals x0 x1 x2) c = projAt x0 c := by
  match c with
  | 0 => rfl
  | 1 => rfl
  | 2 => rfl
  | 3 => rfl

/-- Under the precondition the three arrays hold real numbers in the columns that are read. -/
theorem holds (e : Cert.Pre_finite.fn (F := Ideal) x0 x1 x2 = fun _ => 1#1) : Holds (reals x0 x1 x2) x0 x1 x2 := by
  have e1 := congrFun e (fun k => k.elim0)
  dsimp only [Cert.Pre_finite.fn] at e1
  have s1 := IntOp.andi_eq_one.mp e1
  have s2 := IntOp.andi_eq_one.mp s1.1
  have p0 := Host.reduce_andi_all _ _ _ _ _ s2.1
  have p1 := Host.reduce_andi_all _ _ _ _ _ s2.2
  have p2 := Host.reduce_andi_all _ _ _ _ _ s1.2
  refine ⟨fun i c l hl => ?_, fun i => ?_, fun i l hl => ?_⟩
  · have hb : (i 1).val < 2048 := by omega
    have r := p0 (ix2 (n0 := 8208) (n1 := 2048) (i 0) ⟨(i 1).val, hb⟩)
    have r' : x0 i = ((EReal.toReal (x0 i) : ℝ) : EReal) := by
      refine real_of_abs_lt (x0 i) ?_
      refine Eq.trans (congrArg (fun y => FloatOps.cmpf .olt (FloatOps.hostAbsf (F := Ideal) (φ := .f32) y) (FloatOps.ofBits (F := Ideal) .f32 0x7F800000#32)) ?_) r
      refine (extractStridedSlice_apply _ _ _ _ i fun a => ?_).symm
      match a with
      | ⟨0, _⟩ => show (i 0).val = 0 + (i 0).val; omega
      | ⟨1, _⟩ => show (i 1).val = 0 + (i 1).val; omega
    rw [r', part_reals]
    unfold projAt
    refine congrArg (fun y : EReal => ((EReal.toReal y : ℝ) : EReal)) (congrArg x0 (funext fun a => Fin.ext ?_))
    match a with
    | ⟨0, _⟩ => rfl
    | ⟨1, _⟩ => show (i 1).val = 512 * c.val + (128 * (l.val / 128) + l.val % 128); omega
  · rw [real_of_abs_lt (x1 i) (p1 i)]
    refine congrArg (fun y : EReal => ((EReal.toReal y : ℝ) : EReal)) (congrArg x1 (funext fun a => Fin.ext ?_))
    match a with
    | ⟨0, _⟩ => show (i 0).val = 0; have : (i 0).val < 1 := (i 0).isLt; omega
    | ⟨1, _⟩ => show (i 1).val = 128 * ((i 1).val / 128) + (i 1).val % 128; omega
  · have hb : (i 1).val < 512 := by omega
    have r := p2 (ix2 (n0 := 8208) (n1 := 512) (i 0) ⟨(i 1).val, hb⟩)
    have r' : x2 i = ((EReal.toReal (x2 i) : ℝ) : EReal) := by
      refine real_of_abs_lt (x2 i) ?_
      refine Eq.trans (congrArg (fun y => FloatOps.cmpf .olt (FloatOps.hostAbsf (F := Ideal) (φ := .f32) y) (FloatOps.ofBits (F := Ideal) .f32 0x7F800000#32)) ?_) r
      refine (extractStridedSlice_apply _ _ _ _ i fun a => ?_).symm
      match a with
      | ⟨0, _⟩ => show (i 0).val = 0 + (i 0).val; omega
      | ⟨1, _⟩ => show (i 1).val = 0 + (i 1).val; omega
    rw [r']
    refine congrArg (fun y : EReal => ((EReal.toReal y : ℝ) : EReal)) (congrArg x2 (funext fun a => Fin.ext ?_))
    match a with
    | ⟨0, _⟩ => rfl
    | ⟨1, _⟩ => show (i 1).val = 128 * (l.val / 128) + l.val % 128; omega

end Cert.Inputs

end
-- ==== Proof.Ref2.lean ====
/- The reference read in real numbers: the norm, the gate and their gradients. -/
module

public import proofs.«01_k».proof.Proof.Ref1
public import Idealize.ShloMosaic.Lib.KernelVsHost

@[expose] public section

noncomputable section

namespace Cert.Ref

open Cert.ReferenceIdeal Cert.ReferenceIdeal.Read Idealize.ShloMosaic Cert.Spec

theorem unflat (f : Fin 8208 → Fin 4 → Fin 128 → ℝ) (t : Fin 8208) (l : Fin 512) (a : Fin 8208) (b : Fin 4) (c : Fin 128)
    (ha : a.val = (t.val * 512 + l.val) / 512) (hb : b.val = (t.val * 512 + l.val) / 128 % 4)
    (hc : c.val = (t.val * 512 + l.val) % 128) : f a b c = f t (hd l) (ln l) := by
  have e1 : a = t := Fin.ext (by omega)
  have e2 : b = hd l := Fin.ext (by show b.val = l.val / 128; omega)
  have e3 : c = ln l := Fin.ext (by show c.val = l.val % 128; omega)
  rw [e1, e2, e3]

theorem unrow (f : Fin 8208 → Fin 4 → ℝ) (t : Fin 8208) (h : Fin 4) (z : Fin 1) (a : Fin 8208) (b : Fin 4)
    (ha : a.val = ((t.val * 4 + h.val) * 1 + z.val) / 4) (hb : b.val = ((t.val * 4 + h.val) * 1 + z.val) % 4) : f a b = f t h := by
  have e1 : a = t := Fin.ext (by omega)
  have e2 : b = h := Fin.ext (by omega)
  rw [e1, e2]

theorem zero_add_coe (a : ℝ) : ((0 : ℝ) : EReal) + (a : EReal) = (a : EReal) := by rw [← EReal.coe_add, zero_add]

section

variable {X : In} {x0 : S8208x2560.Idx → EReal} {x1 : S1x512.Idx → EReal} {x2 : S8208x1024.Idx → EReal} (H : Holds X x0 x1 x2)
include H

theorem r112 (i : S8208x4x1.Idx) : val_main_v112 (F := Ideal) x0 i = ((mean (X.o (i 0) (i 1)) : ℝ) : EReal) := by
  rw [val_main_v112_apply, val_main_v110_apply, val_main_v109_apply, val_main_cst_15_apply, val_main_v111_apply, val_main_cst_16_apply,
    Num.sum_eq fun k => r108 H _, Ideal.ofBits_def, Num.w_zero, zero_add_coe, Ideal.hostDivf_def, Ideal.ofBits_def, Num.w_128, Num.div_eq _ (by norm_num)]
  rfl
theorem r114 (i : S8208x4x128.Idx) : val_main_v114 (F := Ideal) x0 i = ((centred (X.o (i 0) (i 1)) (i 2) : ℝ) : EReal) := by
  rw [val_main_v114_apply, val_main_v113_apply, r108 H, r112 H, Ideal.subf_def, ← EReal.coe_sub]; rfl
theorem r123 (i : S8208x4x128.Idx) : val_main_v123 (F := Ideal) x0 i = ((centred (X.o (i 0) (i 1)) (i 2) : ℝ) : EReal) := by
  rw [val_main_v123_apply, val_main_v122_apply, r108 H, r112 H, Ideal.subf_def, ← EReal.coe_sub]; rfl
theorem r117 (i : S8208x4x128.Idx) : val_main_v117 (F := Ideal) x0 i = ((2 * centred (X.o (i 0) (i 1)) (i 2) : ℝ) : EReal) := by
  rw [val_main_v117_apply, val_main_v116_apply, val_main_cst_17_apply, r114 H, Ideal.ofBits_def, Num.w_two, Ideal.mulf_def, ← EReal.coe_mul]
theorem r115 (i : S8208x4x128.Idx) : val_main_v115 (F := Ideal) x0 i
    = ((centred (X.o (i 0) (i 1)) (i 2) * centred (X.o (i 0) (i 1)) (i 2) : ℝ) : EReal) := by
  rw [val_main_v115_apply, r114 H, Ideal.mulf_def, ← EReal.coe_mul]
theorem r125 (i : S8208x4x1.Idx) : val_main_v125 (F := Ideal) x0 i = ((var (X.o (i 0) (i 1)) + Num.eps : ℝ) : EReal) := by
  rw [val_main_v125_apply, val_main_v121_apply, val_main_v119_apply, val_main_v118_apply, val_main_cst_18_apply, val_main_v120_apply,
    val_main_cst_19_apply, val_main_v124_apply, val_main_cst_20_apply, Num.sum_eq fun k => r115 H _]
  simp only [Ideal.ofBits_def, Ideal.hostDivf_def, Ideal.addf_def]
  rw [Num.w_zero, Num.w_128, Num.w_eps, zero_add_coe, Num.div_eq _ (by norm_num), ← EReal.coe_add]; rfl
theorem r126 (i : S8208x4x1.Idx) : val_main_v126 (F := Ideal) x0 i = ((rs (X.o (i 0) (i 1)) : ℝ) : EReal) := by
  rw [val_main_v126_apply, r125 H, Ideal.hostUnary_rsqrt_def, Num.rsqrt_eq (var_pos _)]; rfl
theorem r129 (i : S8208x4x1.Idx) : val_main_v129 (F := Ideal) x0 i
    = ((-(1 / 2) * (rs (X.o (i 0) (i 1)) / (var (X.o (i 0) (i 1)) + Num.eps)) : ℝ) : EReal) := by
  rw [val_main_v129_apply, val_main_v128_apply, val_main_cst_21_apply, val_main_v127_apply, r126 H, r125 H, Ideal.hostDivf_def,
    Num.div_eq _ (var_pos _).ne', Ideal.ofBits_def, Num.w_neg_half, Ideal.mulf_def, ← EReal.coe_mul]
theorem r132 (i : S8208x512.Idx) : val_main_v132 (F := Ideal) x0 i = ((X.y (i 0) (hd (i 1)) (ln (i 1)) : ℝ) : EReal) := by
  rw [val_main_v132_apply, val_main_v131_apply, val_main_v130_apply, r123 H, r126 H, Ideal.mulf_def, ← EReal.coe_mul]
  exact congrArg _ (unflat X.y (i 0) (i 1) _ _ _ rfl rfl rfl)
theorem r134 (i : S8208x512.Idx) : val_main_v134 (F := Ideal) x0 x1 i
    = ((X.y (i 0) (hd (i 1)) (ln (i 1)) * X.w (hd (i 1)) (ln (i 1)) : ℝ) : EReal) := by
  rw [val_main_v134_apply, r132 H, val_main_v133_apply, H.gain, Ideal.mulf_def, ← EReal.coe_mul]; rfl
theorem r135_2 (i : S8208x512.Idx) : val_main_v135_2 (F := Ideal) x0 i = ((sig (X.g (i 0) (hd (i 1)) (ln (i 1))) : ℝ) : EReal) := by
  rw [val_main_v135_2_apply, val_main_call1_v4_apply, val_main_call1_cst_0_apply, val_main_call1_v3_apply, val_main_call1_v2_apply,
    val_main_call1_cst_apply, val_main_call1_v1_apply, val_main_call1_v0_apply, r3 H]
  simp only [Ideal.ofBits_def, Ideal.hostDivf_def, Ideal.addf_def, Ideal.hostUnary_exp_def, Ideal.hostNegf_def, Ideal.negf_def]
  rw [Num.w_one, ← EReal.coe_neg, Ideal.exp_coe, ← EReal.coe_add, Num.div_eq _ (by positivity), one_div]; rfl
theorem r135_1 (i : S8208x512.Idx) : val_main_v135_1 (F := Ideal) x0 i
    = ((sig (X.g (i 0) (hd (i 1)) (ln (i 1))) * (1 - sig (X.g (i 0) (hd (i 1)) (ln (i 1)))) : ℝ) : EReal) := by
  rw [val_main_v135_1_apply, r135_2 H, val_main_call1_v7_apply, val_main_call1_v6_apply, val_main_call1_cst_1_apply, r135_2 H,
    Ideal.ofBits_def, Num.w_one, Ideal.subf_def, ← EReal.coe_sub, Ideal.mulf_def, ← EReal.coe_mul]
theorem r137 (i : S8208x512.Idx) : val_main_v137 (F := Ideal) x2 i = ((X.dret (i 0) (hd (i 1)) (ln (i 1)) : ℝ) : EReal) := by
  rw [val_main_v137_apply]; exact H.grad _ (i 1) rfl
theorem r138 (i : S8208x512.Idx) : val_main_v138 (F := Ideal) x0 x2 i = ((X.dyw (i 0) (hd (i 1)) (ln (i 1)) : ℝ) : EReal) := by
  rw [val_main_v138_apply, val_main_v135_0_apply, r3 H, r135_2 H, r137 H, Ideal.mulf_def, Ideal.mulf_def, ← EReal.coe_mul, ← EReal.coe_mul]; rfl
theorem r139 (i : S8208x512.Idx) : val_main_v139 (F := Ideal) x0 x1 x2 i
    = ((X.dret (i 0) (hd (i 1)) (ln (i 1)) * (X.y (i 0) (hd (i 1)) (ln (i 1)) * X.w (hd (i 1)) (ln (i 1))) : ℝ) : EReal) := by
  rw [val_main_v139_apply, r137 H, r134 H, Ideal.mulf_def, ← EReal.coe_mul]

/-- The gradient of the gates. -/
theorem r140 (i : S8208x512.Idx) : val_main_v140 (F := Ideal) x0 x1 x2 i = ((X.dg (i 0) (hd (i 1)) (ln (i 1)) : ℝ) : EReal) := by
  rw [val_main_v140_apply, val_main_call2_v1_apply, val_main_call2_v2_apply, val_main_call2_v0_apply, r139 H, r135_2 H, r3 H, r135_1 H]
  simp only [Ideal.addf_def, Ideal.mulf_def, ← EReal.coe_mul, ← EReal.coe_add]; rfl

/-- The gradient of the gain. -/
theorem r143 (i : S1x512.Idx) : val_main_v143 (F := Ideal) x0 x2 i = ((X.dw (hd (i 1)) (ln (i 1)) : ℝ) : EReal) := by
  rw [val_main_v143_apply, val_main_v142_apply, val_main_cst_22_apply,
    Num.sum_eq fun k => by rw [val_main_v141_apply, r132 H, r138 H, Ideal.mulf_def, ← EReal.coe_mul], Ideal.ofBits_def, Num.w_zero, zero_add_coe]
  have h0 : (i 0).val < 1 := (i 0).isLt
  have e : (⟨(i 0).val * 512 + (i 1).val, by have h1 : (i 1).val < 512 := (i 1).isLt; omega⟩ : Fin 512) = i 1 := Fin.ext (by show (i 0).val * 512 + (i 1).val = (i 1).val; omega)
  show ((X.dw (hd ⟨(i 0).val * 512 + (i 1).val, _⟩) (ln ⟨(i 0).val * 512 + (i 1).val, _⟩) : ℝ) : EReal) = _
  rw [e]

theorem r146 (i : S8208x4x128.Idx) : val_main_v146 (F := Ideal) x0 x1 x2 i = ((X.dyw (i 0) (i 1) (i 2) * X.w (i 1) (i 2) : ℝ) : EReal) := by
  rw [val_main_v146_apply, val_main_v145_apply, r138 H, val_main_v144_apply, H.gain, Ideal.mulf_def, ← EReal.coe_mul]
  exact congrArg _ (flat (fun t h d => X.dyw t h d * X.w h d) (i 0) (i 1) (i 2) _ _ rfl rfl)
theorem r151 (i : S8208x4x128.Idx) : val_main_v151 (F := Ideal) x0 x1 x2 i
    = ((X.dyw (i 0) (i 1) (i 2) * X.w (i 1) (i 2) * rs (X.o (i 0) (i 1)) : ℝ) : EReal) := by
  rw [val_main_v151_apply, r146 H, val_main_v150_apply, r126 H, Ideal.mulf_def, ← EReal.coe_mul]; rfl

/-- The gradient at the variance, over 128. -/
def gvar (X : In) (t : Fin 8208) (h : Fin 4) : ℝ :=
  (∑ j, centred (X.o t h) j * (X.dyw t h j * X.w h j)) * (-(1 / 2) * (rs (X.o t h) / (var (X.o t h) + Num.eps))) / 128

theorem r158 (i : S8208x4.Idx) : val_main_v158 (F := Ideal) x0 x1 x2 i = ((gvar X (i 0) (i 1) : ℝ) : EReal) := by
  rw [val_main_v158_apply, Fin.sum_univ_one, val_main_cst_26_apply, val_main_v157_apply, val_main_v152_apply, val_main_v149_apply, val_main_v148_apply,
    val_main_cst_23_apply, Num.sum_eq fun k => by rw [val_main_v147_apply, r123 H, r146 H, Ideal.mulf_def, ← EReal.coe_mul],
    r129 H, val_main_v156_apply, val_main_cst_25_apply]
  simp only [Ideal.ofBits_def, Ideal.hostDivf_def, Ideal.mulf_def]
  rw [Num.w_zero, Num.w_128, zero_add_coe, ← EReal.coe_mul, Num.div_eq _ (by norm_num), zero_add_coe]
  refine congrArg _ (congrArg (· / (128 : ℝ)) (congrArg₂ (· * ·) ?_ rfl))
  exact unrow (fun t h => ∑ j, centred (X.o t h) j * (X.dyw t h j * X.w h j)) (i 0) (i 1) 0 _ _ rfl rfl
theorem r160 (i : S8208x4x128.Idx) : val_main_v160 (F := Ideal) x0 x1 x2 i
    = ((gvar X (i 0) (i 1) * (2 * centred (X.o (i 0) (i 1)) (i 2)) : ℝ) : EReal) := by
  rw [val_main_v160_apply, val_main_v159_apply, r158 H, r117 H, Ideal.mulf_def, ← EReal.coe_mul]; rfl
theorem r155 (i : S8208x4x1.Idx) : val_main_v155 (F := Ideal) x0 x1 x2 i
    = ((∑ j, -(X.dyw (i 0) (i 1) j * X.w (i 1) j * rs (X.o (i 0) (i 1))) : ℝ) : EReal) := by
  rw [val_main_v155_apply, val_main_v154_apply, val_main_cst_24_apply,
    Num.sum_eq fun k => by rw [val_main_v153_apply, r151 H, Ideal.hostNegf_def, Ideal.negf_def, ← EReal.coe_neg], Ideal.ofBits_def, Num.w_zero, zero_add_coe]
  refine congrArg _ ?_
  exact (unrow (fun t h => ∑ j, -(X.dyw t h j * X.w h j * rs (X.o t h))) (i 0) (i 1) (i 2) _ _ rfl rfl)
theorem r163 (i : S8208x4x1.Idx) : val_main_v163 (F := Ideal) x0 x1 x2 i
    = ((∑ j, -(gvar X (i 0) (i 1) * (2 * centred (X.o (i 0) (i 1)) j)) : ℝ) : EReal) := by
  rw [val_main_v163_apply, val_main_v162_apply, val_main_cst_27_apply,
    Num.sum_eq fun k => by rw [val_main_v161_apply, r160 H, Ideal.hostNegf_def, Ideal.negf_def, ← EReal.coe_neg], Ideal.ofBits_def, Num.w_zero, zero_add_coe]
  refine congrArg _ ?_
  exact (unrow (fun t h => ∑ j, -(gvar X t h * (2 * centred (X.o t h) j))) (i 0) (i 1) (i 2) _ _ rfl rfl)

/-- The gradient at the retention's output. -/
theorem r170 (i : S8208x4x128.Idx) : val_main_v170 (F := Ideal) x0 x1 x2 i = ((X.dO (i 0) (i 1) (i 2) : ℝ) : EReal) := by
  rw [val_main_v170_apply, val_main_v164_apply, r151 H, r160 H, val_main_v169_apply, val_main_v168_apply, Fin.sum_univ_one,
    val_main_cst_29_apply, val_main_v167_apply, val_main_v165_apply, r155 H, r163 H, val_main_v166_apply, val_main_cst_28_apply]
  simp only [Ideal.ofBits_def, Ideal.hostDivf_def, Ideal.addf_def, ← EReal.coe_add]
  rw [Num.w_zero, Num.w_128, Num.div_eq _ (by norm_num), zero_add_coe, ← EReal.coe_add]
  exact congrArg _ (normBwd_eq (X.o (i 0) (i 1)) (fun d => X.dyw (i 0) (i 1) d * X.w (i 1) d) (i 2))

theorem r175 (i : S4x8208x8208.Idx) : val_main_v175 (F := Ideal) x0 x1 x2 i = ((X.ds (i 0) (i 1) (i 2) : ℝ) : EReal) := by
  rw [val_main_v175_apply, val_main_v172_apply, r104, Num.sum_eq fun k => by rw [val_main_v171_apply, r170 H, r77 H, ← EReal.coe_mul],
    Ideal.mulf_def, ← EReal.coe_mul]
  rfl
theorem r174 (i : S8208x4x128.Idx) : val_main_v174 (F := Ideal) x0 x1 x2 i = ((X.dv (i 0) (i 1) (i 2) : ℝ) : EReal) := by
  rw [val_main_v174_apply, val_main_v173_apply, Num.sum_eq fun k => by rw [val_main_v171_apply, r170 H, r106 H, ← EReal.coe_mul]]
  rfl
theorem r177 (i : S8208x4x128.Idx) : val_main_v177 (F := Ideal) x0 x1 x2 i = ((X.dkh (i 0) (i 1) (i 2) : ℝ) : EReal) := by
  rw [val_main_v177_apply, val_main_v176_apply, Num.sum_eq fun k => by rw [r175 H, r39 H, ← EReal.coe_mul]]
  rfl
theorem r179 (i : S8208x4x128.Idx) : val_main_v179 (F := Ideal) x0 x1 x2 i = ((X.dqh (i 0) (i 1) (i 2) : ℝ) : EReal) := by
  rw [val_main_v179_apply, val_main_v178_apply, Num.sum_eq fun k => by rw [r175 H, r76 H, ← EReal.coe_mul]]
  rfl
theorem r182 (i : S8208x4x128.Idx) : val_main_v182 (F := Ideal) x0 x1 x2 i = ((X.dkh (i 0) (i 1) (i 2) * Num.scale : ℝ) : EReal) := by
  rw [val_main_v182_apply, r177 H, val_main_v181_apply, val_main_cst_30_apply, Ideal.ofBits_def, Num.w_scale, Ideal.mulf_def, ← EReal.coe_mul]

theorem r192 (i : S8208x4x64.Idx) : val_main_v192 (F := Ideal) x0 x1 x2 i =
    ((X.dkh (i 0) (i 1) (hi (i 2)) * Num.scale * Real.cos (ang ((i 0).val : ℝ) (i 2))
      + -(X.dkh (i 0) (i 1) (lo (i 2)) * Num.scale) * Real.sin (ang ((i 0).val : ℝ) (i 2)) : ℝ) : EReal) := by
  rw [val_main_v192_apply, val_main_v186_apply, val_main_v191_apply, val_main_v184_apply, val_main_v189_apply, val_main_v183_apply,
    val_main_v185_apply, val_main_v190_apply, r182 H, r182 H, r59, r61]
  simp only [Ideal.addf_def, Ideal.mulf_def, Ideal.hostNegf_def, Ideal.negf_def, ← EReal.coe_mul, ← EReal.coe_neg, ← EReal.coe_add]
  rfl
theorem r195 (i : S8208x4x64.Idx) : val_main_v195 (F := Ideal) x0 x1 x2 i =
    ((X.dkh (i 0) (i 1) (hi (i 2)) * Num.scale * Real.sin (ang ((i 0).val : ℝ) (i 2))
      + X.dkh (i 0) (i 1) (lo (i 2)) * Num.scale * Real.cos (ang ((i 0).val : ℝ) (i 2)) : ℝ) : EReal) := by
  rw [val_main_v195_apply, val_main_v188_apply, val_main_v194_apply, val_main_v184_apply, val_main_v183_apply,
    val_main_v187_apply, val_main_v193_apply, r182 H, r182 H, r59, r61]
  simp only [Ideal.addf_def, Ideal.mulf_def, ← EReal.coe_mul, ← EReal.coe_add]
  rfl
theorem r209 (i : S8208x4x64.Idx) : val_main_v209 (F := Ideal) x0 x1 x2 i =
    ((X.dqh (i 0) (i 1) (hi (i 2)) * Real.cos (ang ((i 0).val : ℝ) (i 2))
      + -X.dqh (i 0) (i 1) (lo (i 2)) * Real.sin (ang ((i 0).val : ℝ) (i 2)) : ℝ) : EReal) := by
  rw [val_main_v209_apply, val_main_v203_apply, val_main_v208_apply, val_main_v201_apply, val_main_v206_apply, val_main_v200_apply,
    val_main_v202_apply, val_main_v207_apply, r179 H, r179 H, r24, r26]
  simp only [Ideal.addf_def, Ideal.mulf_def, Ideal.hostNegf_def, Ideal.negf_def, ← EReal.coe_mul, ← EReal.coe_neg, ← EReal.coe_add]
  rfl
theorem r212 (i : S8208x4x64.Idx) : val_main_v212 (F := Ideal) x0 x1 x2 i =
    ((X.dqh (i 0) (i 1) (hi (i 2)) * Real.sin (ang ((i 0).val : ℝ) (i 2))
      + X.dqh (i 0) (i 1) (lo (i 2)) * Real.cos (ang ((i 0).val : ℝ) (i 2)) : ℝ) : EReal) := by
  rw [val_main_v212_apply, val_main_v205_apply, val_main_v211_apply, val_main_v201_apply, val_main_v200_apply,
    val_main_v204_apply, val_main_v210_apply, r179 H, r179 H, r24, r26]
  simp only [Ideal.addf_def, Ideal.mulf_def, ← EReal.coe_mul, ← EReal.coe_add]
  rfl

end

/-- Two halves put in their places, the other half zero, and added. -/
theorem halves (a b : S8208x4x64.Idx → EReal) (A B : S8208x4x64.Idx → ℝ) (ha : ∀ i, a i = (A i : EReal)) (hb : ∀ i, b i = (B i : EReal))
    (z z' : S_.Idx → EReal) (hz : ∀ i, z i = ((0 : ℝ) : EReal)) (hz' : ∀ i, z' i = ((0 : ℝ) : EReal))
    (h1 : S8208x4x64.Pads ![0, 0, 64] ![0, 0, 0] ![0, 0, 0] S8208x4x128) (h2 : S8208x4x64.Pads ![0, 0, 0] ![0, 0, 64] ![0, 0, 0] S8208x4x128)
    (hu : 0 < S_.numel) (i : S8208x4x128.Idx) :
    pad S8208x4x128 ![0, 0, 64] ![0, 0, 0] ![0, 0, 0] a z h1 hu i + pad S8208x4x128 ![0, 0, 0] ![0, 0, 64] ![0, 0, 0] b z' h2 hu i
      = ((if (i 2).val < 64 then B (ValueIdx.ix3 (i 0) (i 1) (pairOf (i 2))) else A (ValueIdx.ix3 (i 0) (i 1) (pairOf (i 2))) : ℝ) : EReal) := by
  have hi : (i 2).val < 128 := (i 2).isLt
  split
  · rename_i hl
    rw [pad_apply_of_not_inside _ _ _ a z h1 hu i 2 (fun h => by have := h.1; change 64 ≤ (i 2).val at this; omega), hz,
      pad_apply_of_inside _ _ _ b z' h2 hu i (ValueIdx.ix3 (i 0) (i 1) (pairOf (i 2))) (fun c => match c with
        | ⟨0, _⟩ => by show (i 0).val = 0 + (i 0).val * 1; omega
        | ⟨1, _⟩ => by show (i 1).val = 0 + (i 1).val * 1; omega
        | ⟨2, _⟩ => by show (i 2).val = 0 + (i 2).val % 64 * 1; omega), hb, zero_add_coe]
  · rename_i hl
    rw [pad_apply_of_inside _ _ _ a z h1 hu i (ValueIdx.ix3 (i 0) (i 1) (pairOf (i 2))) (fun c => match c with
        | ⟨0, _⟩ => by show (i 0).val = 0 + (i 0).val * 1; omega
        | ⟨1, _⟩ => by show (i 1).val = 0 + (i 1).val * 1; omega
        | ⟨2, _⟩ => by show (i 2).val = 64 + (i 2).val % 64 * 1; omega), ha,
      pad_apply_of_not_inside _ _ _ b z' h2 hu i 2 (fun h => by
        have := h.2.2; change ((i 2).val - 0) / 1 < 64 at this; omega), hz', ← EReal.coe_add, add_zero]

section

variable {X : In} {x0 : S8208x2560.Idx → EReal} {x1 : S1x512.Idx → EReal} {x2 : S8208x1024.Idx → EReal} (H : Holds X x0 x1 x2)
include H

theorem r198 (i : S8208x4x128.Idx) : val_main_v198 (F := Ideal) x0 x1 x2 i = ((X.dk (i 0) (i 1) (i 2) : ℝ) : EReal) := by
  rw [val_main_v198_apply]
  unfold val_main_v196 val_main_v197
  rw [Ideal.addf_def]
  exact halves _ _ _ _ (r192 H) (r195 H) _ _ (fun _ => Num.w_zero) (fun _ => Num.w_zero) _ _ _ i
theorem r215 (i : S8208x4x128.Idx) : val_main_v215 (F := Ideal) x0 x1 x2 i = ((X.dq (i 0) (i 1) (i 2) : ℝ) : EReal) := by
  rw [val_main_v215_apply]
  unfold val_main_v213 val_main_v214
  rw [Ideal.addf_def]
  exact halves _ _ _ _ (r209 H) (r212 H) _ _ (fun _ => Num.w_zero) (fun _ => Num.w_zero) _ _ _ i
theorem r199 (i : S8208x512.Idx) : val_main_v199 (F := Ideal) x0 x1 x2 i = ((X.dk (i 0) (hd (i 1)) (ln (i 1)) : ℝ) : EReal) := by
  rw [val_main_v199_apply, r198 H]; exact congrArg _ (unflat X.dk (i 0) (i 1) _ _ _ rfl rfl rfl)
theorem r216 (i : S8208x512.Idx) : val_main_v216 (F := Ideal) x0 x1 x2 i = ((X.dq (i 0) (hd (i 1)) (ln (i 1)) : ℝ) : EReal) := by
  rw [val_main_v216_apply, r215 H]; exact congrArg _ (unflat X.dq (i 0) (i 1) _ _ _ rfl rfl rfl)
theorem r180 (i : S8208x512.Idx) : val_main_v180 (F := Ideal) x0 x1 x2 i = ((X.dv (i 0) (hd (i 1)) (ln (i 1)) : ℝ) : EReal) := by
  rw [val_main_v180_apply, r174 H]; exact congrArg _ (unflat X.dv (i 0) (i 1) _ _ _ rfl rfl rfl)

/-- The four gradients side by side. -/
theorem r217 (i : S8208x2048.Idx) (c : Fin 4) (l : Fin 512) (hc : (i 1).val = 512 * c.val + l.val) :
    val_main_v217 (F := Ideal) x0 x1 x2 i = ((X.dp (i 0) c (hd l) (ln l) : ℝ) : EReal) := by
  unfold val_main_v217
  match c with
  | ⟨0, _⟩ =>
    refine (concatenate_apply_piece 1 _ _ i 0 (by simp) S8208x512 (val_main_v216 (F := Ideal) x0 x1 x2) rfl rfl 0 rfl (ValueIdx.ix2 (i 0) l) (fun b hb => ?_) ?_).trans (r216 H _)
    · match b with
      | ⟨0, _⟩ => rfl
      | ⟨1, _⟩ => exact absurd rfl hb
    · show 0 + l.val = (i 1).val; rw [hc]; show _ = 512 * 0 + l.val; omega
  | ⟨1, _⟩ =>
    refine (concatenate_apply_piece 1 _ _ i 1 (by simp) S8208x512 (val_main_v199 (F := Ideal) x0 x1 x2) rfl rfl 512 rfl (ValueIdx.ix2 (i 0) l) (fun b hb => ?_) ?_).trans (r199 H _)
    · match b with
      | ⟨0, _⟩ => rfl
      | ⟨1, _⟩ => exact absurd rfl hb
    · show 512 + l.val = (i 1).val; rw [hc]; show _ = 512 * 1 + l.val; omega
  | ⟨2, _⟩ =>
    refine (concatenate_apply_piece 1 _ _ i 2 (by simp) S8208x512 (val_main_v180 (F := Ideal) x0 x1 x2) rfl rfl 1024 rfl (ValueIdx.ix2 (i 0) l) (fun b hb => ?_) ?_).trans (r180 H _)
    · match b with
      | ⟨0, _⟩ => rfl
      | ⟨1, _⟩ => exact absurd rfl hb
    · show 1024 + l.val = (i 1).val; rw [hc]; show _ = 512 * 2 + l.val; omega
  | ⟨3, _⟩ =>
    refine (concatenate_apply_piece 1 _ _ i 3 (by simp) S8208x512 (val_main_v140 (F := Ideal) x0 x1 x2) rfl rfl 1536 rfl (ValueIdx.ix2 (i 0) l) (fun b hb => ?_) ?_).trans (r140 H _)
    · match b with
      | ⟨0, _⟩ => rfl
      | ⟨1, _⟩ => exact absurd rfl hb
    · show 1536 + l.val = (i 1).val; rw [hc]; show _ = 512 * 3 + l.val; omega

/-- The reference's first result: the gradients below 112 rows of zeros. -/
theorem r219 (i : S8320x2048.Idx) (c : Fin 4) (l : Fin 512) (hc : (i 1).val = 512 * c.val + l.val) :
    val_main_v219 (F := Ideal) x0 x1 x2 i
      = ((if h : 112 ≤ (i 0).val then X.dp ⟨(i 0).val - 112, by have : (i 0).val < 8320 := (i 0).isLt; omega⟩ c (hd l) (ln l) else 0 : ℝ) : EReal) := by
  have hi : (i 0).val < 8320 := (i 0).isLt
  have hj : (i 1).val < 2048 := (i 1).isLt
  rw [val_main_v219_apply, Ideal.truncf_def]
  unfold val_main_v218
  by_cases h : 112 ≤ (i 0).val
  · rw [dif_pos h]
    refine (pad_apply_of_inside ![112, 0] ![0, 0] ![0, 0] (val_main_v217 (F := Ideal) x0 x1 x2) _ _ _ i
      (ValueIdx.ix2 (⟨(i 0).val - 112, by omega⟩ : Fin 8208) (i 1)) (fun a => ?_)).trans (r217 H _ c l hc)
    match a with
    | ⟨0, _⟩ => show (i 0).val = 112 + ((i 0).val - 112) * 1; omega
    | ⟨1, _⟩ => show (i 1).val = 0 + (i 1).val * 1; omega
  · rw [dif_neg h]
    refine (pad_apply_of_not_inside ![112, 0] ![0, 0] ![0, 0] (val_main_v217 (F := Ideal) x0 x1 x2) _ _ _ i 0
      (fun k => by have := k.1; change 112 ≤ (i 0).val at this; omega)).trans ?_
    rw [val_main_call3_v0_apply, val_main_c_35_apply]
    show Scalar.sitofp (F := Ideal) .f32 (0#32) = _
    rw [Ideal.scalar_sitofp_def]; simp

end

end Cert.Ref

end
-- ==== Proof.Agree.lean ====
/- Both programs leave the same two arrays. -/
module

public import proofs.«01_k».proof.Proof.Final
public import proofs.«01_k».proof.Proof.Inputs
public import proofs.«01_k».proof.Proof.Ref2

@[expose] public section

noncomputable section

namespace Cert.Agree

open Idealize.ShloMosaic Idealize.ShloMosaic.TcCoe Idealize.SL.Sem
open Cert.KernelIdeal Cert.KernelIdeal.Gen Cert.KernelIdeal.Entry
open Cert.Ref (Holds hd ln)

variable {m : (ℓ : Loc nD τ sig) → Buf (Elt Ideal) ℓ} {c : Dev nD}
variable (e : Cert.Pre_finite.fn (F := Ideal) (m ((c : Thread nD τ).loc main_arg0)) (m ((c : Thread nD τ).loc main_arg1)) (m ((c : Thread nD τ).loc main_arg2)) = fun _ => 1#1)
include e

/-- The gradient of the four projections. -/
theorem projections : Cert.ReferenceIdeal.Read.val_main_v219 (F := Ideal) (m ((c : Thread nD τ).loc main_arg0)) (m ((c : Thread nD τ).loc main_arg1)) (m ((c : Thread nD τ).loc main_arg2))
    = (dats m 0 c).arrAt 10 cfg0.N := by
  have H := Cert.Inputs.holds _ _ _ e
  funext i
  have h1 : (i 1).val < 2048 := (i 1).isLt
  have hl : (i 1).val = 512 * (⟨(i 1).val / 512, by omega⟩ : Fin 4).val + (⟨(i 1).val % 512, by omega⟩ : Fin 512).val := by
    show (i 1).val = 512 * ((i 1).val / 512) + (i 1).val % 512; omega
  exact (Cert.Ref.r219 H i _ _ hl).trans (dp_read H i _ _ hl).symm

/-- The gradient of the gain. -/
theorem gains : Cert.ReferenceIdeal.Read.val_main_v143 (F := Ideal) (m ((c : Thread nD τ).loc main_arg0)) (m ((c : Thread nD τ).loc main_arg2))
    = (dats m 0 c).arrAt 11 cfg0.N := by
  have H := Cert.Inputs.holds _ _ _ e
  funext i
  exact (Cert.Ref.r143 H i).trans (dw_read H i).symm

end Cert.Agree

end
-- ==== Proof.FfnSpec.lean ====
/- What the backward pass of a SwiGLU layer computes, in real numbers.

   The layer norms a row, takes its gate and up products, multiplies silu of the gate with the up product, takes the
   down product, halves it and adds it to the row. -/
module

public import proofs.«01_k».proof.Proof.Num

@[expose] public section

noncomputable section

namespace Cert.Ffn

open Finset Idealize.ShloMosaic

theorem w_1024 : Ideal.ofBits .f32 0x44800000#32 = ((1024 : ℝ) : EReal) := by
  simp [Ideal.ofBits, Ideal.ieee, -EReal.coe_mul]; norm_num

/-- The finite inputs: the rows, the norm's gain, the gate, up and down weights, the incoming gradient. -/
structure In where
  h : Fin 8320 → Fin 1024 → ℝ
  w : Fin 1024 → ℝ
  wg : Fin 1024 → Fin 2816 → ℝ
  wu : Fin 1024 → Fin 2816 → ℝ
  wd : Fin 2816 → Fin 1024 → ℝ
  g : Fin 8320 → Fin 1024 → ℝ

/-- The logistic function. -/
def sg (x : ℝ) : ℝ := (1 + Real.exp (-x))⁻¹

/-- The mean square of a row with the norm's constant, its reciprocal root, the row normed. -/
def zz (x : Fin 1024 → ℝ) : ℝ := (∑ d, x d * x d) / 1024 + Num.eps
def rr (x : Fin 1024 → ℝ) : ℝ := (Real.sqrt (zz x))⁻¹
def xh (x : Fin 1024 → ℝ) (d : Fin 1024) : ℝ := x d * rr x

theorem zz_pos (x : Fin 1024 → ℝ) : 0 < zz x := by
  have : 0 ≤ (∑ d, x d * x d) / 1024 := div_nonneg (sum_nonneg fun e _ => mul_self_nonneg _) (by norm_num)
  unfold zz; linarith [Num.eps_pos]

/-- The gradient through the norm without its gain. -/
def normBwd (x y : Fin 1024 → ℝ) (d : Fin 1024) : ℝ := rr x * (y d - xh x d * ((∑ e, y e * xh x e) / 1024))

/-- The same as reverse differentiation writes it: straight through, and through the two factors of the square. -/
theorem normBwd_eq (x y : Fin 1024 → ℝ) (d : Fin 1024) :
    y d * rr x + x d * ((∑ e, x e * y e) * (-(1 / 2) * (rr x / zz x)) / 1024)
      + (∑ e, x e * y e) * (-(1 / 2) * (rr x / zz x)) / 1024 * x d = normBwd x y d := by
  have h3 : ∑ e, y e * xh x e = rr x * ∑ e, x e * y e := by
    rw [mul_sum]; exact sum_congr rfl fun j _ => by unfold xh; ring
  have hr : rr x / zz x = rr x * (rr x * rr x) := by
    have hp := zz_pos x
    unfold rr
    rw [← mul_inv, Real.mul_self_sqrt hp.le]; rfl
  rw [hr]; unfold normBwd; rw [h3]; unfold xh; ring

namespace In

variable (X : In)

def n (t : Fin 8320) (d : Fin 1024) : ℝ := xh (X.h t) d * X.w d
def gate (t : Fin 8320) (f : Fin 2816) : ℝ := ∑ d, X.n t d * X.wg d f
def up (t : Fin 8320) (f : Fin 2816) : ℝ := ∑ d, X.n t d * X.wu d f
def s (t : Fin 8320) (f : Fin 2816) : ℝ := sg (X.gate t f)

/-- The derivatives of the gated product in the gate and in the up product. -/
def dag (t : Fin 8320) (f : Fin 2816) : ℝ := X.up t f * X.s t f + X.gate t f * X.up t f * (X.s t f * (1 - X.s t f))
def dau (t : Fin 8320) (f : Fin 2816) : ℝ := X.gate t f * X.s t f

def dy (t : Fin 8320) (d : Fin 1024) : ℝ := 1 / 2 * X.g t d
def dact (t : Fin 8320) (f : Fin 2816) : ℝ := ∑ d, X.dy t d * X.wd f d
def dgate (t : Fin 8320) (f : Fin 2816) : ℝ := X.dact t f * X.dag t f
def dup (t : Fin 8320) (f : Fin 2816) : ℝ := X.dact t f * X.dau t f
def dn (t : Fin 8320) (d : Fin 1024) : ℝ := (∑ f, X.dgate t f * X.wg d f) + ∑ f, X.dup t f * X.wu d f
def dw (d : Fin 1024) : ℝ := ∑ t, X.dn t d * xh (X.h t) d
def dh (t : Fin 8320) (d : Fin 1024) : ℝ := normBwd (X.h t) (fun e => X.dn t e * X.w e) d + X.g t d

end In

end Cert.Ffn

end
-- ==== Proof.FfnRef.lean ====
/- The reference of the SwiGLU layer's backward pass, read in real numbers. -/
module

public import proofs.«01_k».proof.Proof.FfnSpec
public import proofs.«01_k».proof.Proof.Gen.Reference2Ideal.Read
public import Idealize.ShloMosaic.Lib.IdealHost
public import Idealize.ShloMosaic.Lib.KernelVsHost

@[expose] public section

noncomputable section

namespace Cert.FfnRef

open Cert.Reference2Ideal Cert.Reference2Ideal.Read Idealize.ShloMosaic Cert.Ffn

/-- The arguments hold the finite inputs `X`. -/
structure Holds (X : In) (x0 : S8320x1024.Idx → EReal) (x1 : S1x1024.Idx → EReal) (x2 x3 : S1024x2816.Idx → EReal)
    (x4 : S2816x1024.Idx → EReal) (x5 : S8320x1024.Idx → EReal) : Prop where
  h : ∀ i : S8320x1024.Idx, x0 i = ((X.h (i 0) (i 1) : ℝ) : EReal)
  w : ∀ i : S1x1024.Idx, x1 i = ((X.w (i 1) : ℝ) : EReal)
  wg : ∀ i : S1024x2816.Idx, x2 i = ((X.wg (i 0) (i 1) : ℝ) : EReal)
  wu : ∀ i : S1024x2816.Idx, x3 i = ((X.wu (i 0) (i 1) : ℝ) : EReal)
  wd : ∀ i : S2816x1024.Idx, x4 i = ((X.wd (i 0) (i 1) : ℝ) : EReal)
  g : ∀ i : S8320x1024.Idx, x5 i = ((X.g (i 0) (i 1) : ℝ) : EReal)

theorem zero_add_coe (a : ℝ) : ((0 : ℝ) : EReal) + (a : EReal) = (a : EReal) := by rw [← EReal.coe_add, zero_add]

section

variable {X : In} {x0 : S8320x1024.Idx → EReal} {x1 : S1x1024.Idx → EReal} {x2 x3 : S1024x2816.Idx → EReal}
  {x4 : S2816x1024.Idx → EReal} {x5 : S8320x1024.Idx → EReal} (H : Holds X x0 x1 x2 x3 x4 x5)
include H

theorem r6 (i : S8320x1.Idx) : val_main_v6 (F := Ideal) x0 i = ((zz (X.h (i 0)) : ℝ) : EReal) := by
  rw [val_main_v6_apply, val_main_v4_apply, val_main_v2_apply, val_main_v1_apply, val_main_cst_apply, val_main_v3_apply, val_main_cst_0_apply,
    val_main_v5_apply, val_main_cst_1_apply,
    Num.sum_eq (f := fun d => X.h (i 0) d * X.h (i 0) d) fun k => by
      rw [val_main_v0_apply, H.h, Ideal.mulf_def, ← EReal.coe_mul]; rfl]
  simp only [Ideal.ofBits_def, Ideal.hostDivf_def, Ideal.addf_def]
  rw [Num.w_zero, w_1024, Num.w_eps, zero_add_coe, Num.div_eq _ (by norm_num), ← EReal.coe_add]; rfl
theorem r7 (i : S8320x1.Idx) : val_main_v7 (F := Ideal) x0 i = ((rr (X.h (i 0)) : ℝ) : EReal) := by
  rw [val_main_v7_apply, r6 H, Ideal.hostUnary_rsqrt_def, Num.rsqrt_eq (zz_pos _)]; rfl
theorem r10 (i : S8320x1.Idx) : val_main_v10 (F := Ideal) x0 i = ((-(1 / 2) * (rr (X.h (i 0)) / zz (X.h (i 0))) : ℝ) : EReal) := by
  rw [val_main_v10_apply, val_main_v9_apply, val_main_cst_2_apply, val_main_v8_apply, r7 H, r6 H, Ideal.hostDivf_def,
    Num.div_eq _ (zz_pos _).ne', Ideal.ofBits_def, Num.w_neg_half, Ideal.mulf_def, ← EReal.coe_mul]
theorem r12 (i : S8320x1024.Idx) : val_main_v12 (F := Ideal) x0 i = ((xh (X.h (i 0)) (i 1) : ℝ) : EReal) := by
  rw [val_main_v12_apply, val_main_v11_apply, r7 H, H.h, Ideal.mulf_def, ← EReal.coe_mul]; rfl
theorem r14 (i : S8320x1024.Idx) : val_main_v14 (F := Ideal) x0 x1 i = ((X.n (i 0) (i 1) : ℝ) : EReal) := by
  rw [val_main_v14_apply, r12 H, val_main_v13_apply, H.w, Ideal.mulf_def, ← EReal.coe_mul]; rfl
theorem r15 (i : S8320x2816.Idx) : val_main_v15 (F := Ideal) x0 x1 x2 i = ((X.gate (i 0) (i 1) : ℝ) : EReal) := by
  rw [val_main_v15_apply]
  exact Num.sum_eq fun k => by rw [r14 H, H.wg, ← EReal.coe_mul]; rfl
theorem r16 (i : S8320x2816.Idx) : val_main_v16 (F := Ideal) x0 x1 x3 i = ((X.up (i 0) (i 1) : ℝ) : EReal) := by
  rw [val_main_v16_apply]
  exact Num.sum_eq fun k => by rw [r14 H, H.wu, ← EReal.coe_mul]; rfl
theorem r18 (i : S8320x1024.Idx) : val_main_v18 (F := Ideal) x5 i = ((X.dy (i 0) (i 1) : ℝ) : EReal) := by
  rw [val_main_v18_apply, val_main_v17_apply, val_main_cst_3_apply, H.g, Ideal.ofBits_def, Num.w_half, Ideal.mulf_def, ← EReal.coe_mul]; rfl
theorem r19_2 (i : S8320x2816.Idx) : val_main_v19_2 (F := Ideal) x0 x1 x2 i = ((X.s (i 0) (i 1) : ℝ) : EReal) := by
  rw [val_main_v19_2_apply, val_main_call0_v4_apply, val_main_call0_cst_0_apply, val_main_call0_v3_apply, val_main_call0_v2_apply,
    val_main_call0_cst_apply, val_main_call0_v1_apply, val_main_call0_v0_apply, r15 H]
  simp only [Ideal.ofBits_def, Ideal.hostDivf_def, Ideal.addf_def, Ideal.hostUnary_exp_def, Ideal.hostNegf_def, Ideal.negf_def]
  rw [Num.w_one, ← EReal.coe_neg, Ideal.exp_coe, ← EReal.coe_add, Num.div_eq _ (by positivity), one_div]; rfl
theorem r19_1 (i : S8320x2816.Idx) : val_main_v19_1 (F := Ideal) x0 x1 x2 i = ((X.s (i 0) (i 1) * (1 - X.s (i 0) (i 1)) : ℝ) : EReal) := by
  rw [val_main_v19_1_apply, r19_2 H, val_main_call0_v7_apply, val_main_call0_v6_apply, val_main_call0_cst_1_apply, r19_2 H,
    Ideal.ofBits_def, Num.w_one, Ideal.subf_def, ← EReal.coe_sub, Ideal.mulf_def, ← EReal.coe_mul]
theorem r19_0 (i : S8320x2816.Idx) : val_main_v19_0 (F := Ideal) x0 x1 x2 i = ((X.dau (i 0) (i 1) : ℝ) : EReal) := by
  rw [val_main_v19_0_apply, r15 H, r19_2 H, Ideal.mulf_def, ← EReal.coe_mul]; rfl
theorem r22 (i : S8320x2816.Idx) : val_main_v22 (F := Ideal) x4 x5 i = ((X.dact (i 0) (i 1) : ℝ) : EReal) := by
  rw [val_main_v22_apply]
  exact Num.sum_eq fun k => by rw [r18 H, H.wd, ← EReal.coe_mul]; rfl
theorem r23 (i : S8320x2816.Idx) : val_main_v23 (F := Ideal) x0 x1 x2 x4 x5 i = ((X.dup (i 0) (i 1) : ℝ) : EReal) := by
  rw [val_main_v23_apply, r19_0 H, r22 H, Ideal.mulf_def, ← EReal.coe_mul, mul_comm]; rfl
theorem r25 (i : S8320x2816.Idx) : val_main_v25 (F := Ideal) x0 x1 x2 x3 x4 x5 i = ((X.dgate (i 0) (i 1) : ℝ) : EReal) := by
  rw [val_main_v25_apply, val_main_call1_v1_apply, val_main_call1_v2_apply, val_main_call1_v0_apply, val_main_v24_apply, r15 H, r16 H, r22 H,
    r19_2 H, r19_1 H]
  simp only [Ideal.mulf_def, Ideal.addf_def, ← EReal.coe_mul, ← EReal.coe_add]
  exact congrArg _ (by unfold In.dgate In.dag; ring)
theorem r28 (i : S8320x1024.Idx) : val_main_v28 (F := Ideal) x0 x1 x2 x3 x4 x5 i = ((X.dn (i 0) (i 1) : ℝ) : EReal) := by
  rw [val_main_v28_apply, val_main_v26_apply, val_main_v27_apply,
    Num.sum_eq (f := fun f => X.dup (i 0) f * X.wu (i 1) f) fun k => by rw [r23 H, H.wu, ← EReal.coe_mul]; rfl,
    Num.sum_eq (f := fun f => X.dgate (i 0) f * X.wg (i 1) f) fun k => by rw [r25 H, H.wg, ← EReal.coe_mul]; rfl,
    Ideal.addf_def, ← EReal.coe_add, add_comm]
  rfl
theorem r31 (i : S1x1024.Idx) : val_main_v31 (F := Ideal) x0 x1 x2 x3 x4 x5 i = ((X.dw (i 1) : ℝ) : EReal) := by
  rw [val_main_v31_apply, val_main_v30_apply, val_main_cst_4_apply,
    Num.sum_eq (f := fun t => X.dn t (i 1) * xh (X.h t) (i 1)) fun k => by
      rw [val_main_v29_apply, r12 H, r28 H, Ideal.mulf_def, ← EReal.coe_mul, mul_comm]
      have e0 : idx_main_v30 (idx_main_v31 i) k 0 = k := rfl
      have e1 : idx_main_v30 (idx_main_v31 i) k 1 = i 1 := Fin.ext (by
        have h0 : (i 0).val < 1 := (i 0).isLt
        show (i 0).val * 1024 + (i 1).val = (i 1).val; omega)
      rw [e0, e1],
    Ideal.ofBits_def, Num.w_zero, zero_add_coe]
  rfl
theorem r33 (i : S8320x1024.Idx) : val_main_v33 (F := Ideal) x0 x1 x2 x3 x4 x5 i = ((X.dn (i 0) (i 1) * X.w (i 1) : ℝ) : EReal) := by
  rw [val_main_v33_apply, r28 H, val_main_v32_apply, H.w, Ideal.mulf_def, ← EReal.coe_mul]; rfl
theorem r41 (i : S8320x1.Idx) : val_main_v41 (F := Ideal) x0 x1 x2 x3 x4 x5 i
    = (((∑ e, X.h (i 0) e * (X.dn (i 0) e * X.w e)) * (-(1 / 2) * (rr (X.h (i 0)) / zz (X.h (i 0)))) / 1024 : ℝ) : EReal) := by
  rw [val_main_v41_apply, val_main_v39_apply, val_main_v36_apply, val_main_v35_apply, val_main_cst_5_apply, val_main_v40_apply, val_main_cst_6_apply,
    r10 H, Num.sum_eq (f := fun e => X.h (i 0) e * (X.dn (i 0) e * X.w e)) fun k => by
      rw [val_main_v34_apply, r33 H, H.h, Ideal.mulf_def, ← EReal.coe_mul]
      have e0 : idx_main_v35 (idx_main_v36 i) k 0 = i 0 := Fin.ext (by
        have h1 : (i 1).val < 1 := (i 1).isLt
        show (i 0).val * 1 + (i 1).val = (i 0).val; omega)
      have e1 : idx_main_v35 (idx_main_v36 i) k 1 = k := rfl
      rw [e0, e1]]
  simp only [Ideal.ofBits_def, Ideal.hostDivf_def, Ideal.mulf_def]
  rw [Num.w_zero, w_1024, zero_add_coe, ← EReal.coe_mul, Num.div_eq _ (by norm_num)]
theorem r43 (i : S8320x1024.Idx) : val_main_v43 (F := Ideal) x0 x1 x2 x3 x4 x5 i
    = (((∑ e, X.h (i 0) e * (X.dn (i 0) e * X.w e)) * (-(1 / 2) * (rr (X.h (i 0)) / zz (X.h (i 0)))) / 1024 : ℝ) : EReal) := by
  rw [val_main_v43_apply, val_main_v42_apply, val_main_cst_7_apply, Fin.sum_univ_one, r41 H, Ideal.ofBits_def, Num.w_zero, zero_add_coe]
  rfl
theorem r48 (i : S8320x1024.Idx) : val_main_v48 (F := Ideal) x0 x1 x2 x3 x4 x5 i = ((X.dh (i 0) (i 1) : ℝ) : EReal) := by
  rw [val_main_v48_apply, val_main_v47_apply, val_main_v45_apply, val_main_v38_apply, val_main_v37_apply, val_main_v44_apply, val_main_v46_apply,
    r43 H, r33 H, r7 H, H.h, H.g]
  simp only [Ideal.mulf_def, Ideal.addf_def, ← EReal.coe_mul, ← EReal.coe_add]
  refine congrArg _ ?_
  unfold In.dh
  rw [← normBwd_eq (X.h (i 0)) (fun e => X.dn (i 0) e * X.w e) (i 1)]
  rfl

end

end Cert.FfnRef

end
-- ==== Proof.FfnHost.lean ====
/- The arrays the SwiGLU layer's backward region is entered with, as the host operations leave them. -/
module

public import proofs.«01_k».proof.Proof.FfnRef
public import proofs.«01_k».proof.Proof.Gen.Kernel2Ideal.Frame.Runs
public import Idealize.ShloMosaic.Lib.Claim

@[expose] public section

set_option maxRecDepth 16384

noncomputable section

namespace Cert.Kernel2Ideal.Entry

open Idealize.ShloMosaic Idealize.ShloMosaic.TcCoe Cert.Kernel2Ideal Cert.Kernel2Ideal.Gen Idealize.SL.Sem Idealize.ShloMosaic.StableHlo
open Cert.Reference2Ideal.Read (val_main_v15 val_main_v16 val_main_v19_0 val_main_v19_1 val_main_v19_2)

abbrev Vals := Valuation τ sig (Elt Ideal)

variable (V0 : Vals)

/-- The contents after the first lines of host operations. -/
def w1 : Vals := after hostOps0 V0
def w2 : Vals := after hostOps0_1 (w1 V0)
def w3 : Vals := after hostOps0_2 (w2 V0)
def w4 : Vals := after hostOps0_3 (w3 V0)
def w5 : Vals := after hostOps0_4 (w4 V0)

/-- The arguments the saved derivatives and the weights come from. -/
abbrev a0 : FVec Ideal S8320x1024 .f32 := V0 (Proc.devRef .tc main_arg0)
abbrev a1 : FVec Ideal S1x1024 .f32 := V0 (Proc.devRef .tc main_arg1)
abbrev a2 : FVec Ideal S1024x2816 .f32 := V0 (Proc.devRef .tc main_arg2)
abbrev a3 : FVec Ideal S1024x2816 .f32 := V0 (Proc.devRef .tc main_arg3)
abbrev a4 : FVec Ideal S2816x1024 .f32 := V0 (Proc.devRef .tc main_arg4)

/-- Ones, the cotangent of the gated product. -/
abbrev ones : FVec Ideal S8320x2816 .f32 := broadcastInDim S8320x2816 ![] bcast_S_S8320x2816 (constant (F := Ideal) S_ .f32 0x3F800000#32)

/-- The derivative of the gated product by the gate. -/
def byGate : FVec Ideal S8320x2816 .f32 :=
  let up : FVec Ideal S8320x2816 .f32 := mulf ones (val_main_v16 (F := Ideal) (a0 V0) (a1 V0) (a3 V0))
  addf (mulf up (val_main_v19_2 (F := Ideal) (a0 V0) (a1 V0) (a2 V0)))
    (mulf (mulf (val_main_v15 (F := Ideal) (a0 V0) (a1 V0) (a2 V0)) up) (val_main_v19_1 (F := Ideal) (a0 V0) (a1 V0) (a2 V0)))
/-- The derivative of the gated product by the other factor. -/
def byUp : FVec Ideal S8320x2816 .f32 := mulf (val_main_v19_0 (F := Ideal) (a0 V0) (a1 V0) (a2 V0)) ones

set_option maxHeartbeats 4000000 in
theorem w1_arg2 : w1 V0 (no_index (Proc.devRef .tc main_arg2)) = a2 V0 := by
  unfold w1
  simp only [hostOps0]
  after_results_simp
  all_goals rfl
set_option maxHeartbeats 4000000 in
theorem w1_arg3 : w1 V0 (no_index (Proc.devRef .tc main_arg3)) = a3 V0 := by
  unfold w1
  simp only [hostOps0]
  after_results_simp
  all_goals rfl
set_option maxHeartbeats 4000000 in
theorem w1_arg4 : w1 V0 (no_index (Proc.devRef .tc main_arg4)) = a4 V0 := by
  unfold w1
  simp only [hostOps0]
  after_results_simp
  all_goals rfl
set_option maxHeartbeats 4000000 in
theorem w1_v12 : w1 V0 (no_index (Proc.devRef .tc main_v12)) = val_main_v15 (F := Ideal) (a0 V0) (a1 V0) (a2 V0) := by
  unfold w1
  simp only [hostOps0]
  after_results_simp
  after_results_loop
  all_goals rfl
set_option maxHeartbeats 4000000 in
theorem w1_v13 : w1 V0 (no_index (Proc.devRef .tc main_v13)) = val_main_v16 (F := Ideal) (a0 V0) (a1 V0) (a3 V0) := by
  unfold w1
  simp only [hostOps0]
  after_results_simp
  after_results_loop
  all_goals rfl
set_option maxHeartbeats 4000000 in
theorem w2_arg2 : w2 V0 (no_index (Proc.devRef .tc main_arg2)) = a2 V0 := by
  unfold w2
  simp only [hostOps0_1]
  after_results_simp
  simp only [w1_arg2] <;> rfl
set_option maxHeartbeats 4000000 in
theorem w2_arg3 : w2 V0 (no_index (Proc.devRef .tc main_arg3)) = a3 V0 := by
  unfold w2
  simp only [hostOps0_1]
  after_results_simp
  simp only [w1_arg3] <;> rfl
set_option maxHeartbeats 4000000 in
theorem w2_arg4 : w2 V0 (no_index (Proc.devRef .tc main_arg4)) = a4 V0 := by
  unfold w2
  simp only [hostOps0_1]
  after_results_simp
  simp only [w1_arg4] <;> rfl
set_option maxHeartbeats 4000000 in
theorem w2_v12 : w2 V0 (no_index (Proc.devRef .tc main_v12)) = val_main_v15 (F := Ideal) (a0 V0) (a1 V0) (a2 V0) := by
  unfold w2
  simp only [hostOps0_1]
  after_results_simp
  simp only [w1_v12] <;> rfl
set_option maxHeartbeats 4000000 in
theorem w2_v13 : w2 V0 (no_index (Proc.devRef .tc main_v13)) = val_main_v16 (F := Ideal) (a0 V0) (a1 V0) (a3 V0) := by
  unfold w2
  simp only [hostOps0_1]
  after_results_simp
  simp only [w1_v13] <;> rfl
set_option maxHeartbeats 4000000 in
theorem w2_v14_0 : w2 V0 (no_index (Proc.devRef .tc main_v14_0)) = val_main_v19_0 (F := Ideal) (a0 V0) (a1 V0) (a2 V0) := by
  unfold w2
  simp only [hostOps0_1]
  after_results_simp
  simp only [w1_v12] <;> rfl
set_option maxHeartbeats 4000000 in
theorem w2_v14_1 : w2 V0 (no_index (Proc.devRef .tc main_v14_1)) = val_main_v19_1 (F := Ideal) (a0 V0) (a1 V0) (a2 V0) := by
  unfold w2
  simp only [hostOps0_1]
  after_results_simp
  simp only [w1_v12] <;> rfl
set_option maxHeartbeats 4000000 in
theorem w2_v14_2 : w2 V0 (no_index (Proc.devRef .tc main_v14_2)) = val_main_v19_2 (F := Ideal) (a0 V0) (a1 V0) (a2 V0) := by
  unfold w2
  simp only [hostOps0_1]
  after_results_simp
  simp only [w1_v12] <;> rfl
set_option maxHeartbeats 4000000 in
theorem w3_arg2 : w3 V0 (no_index (Proc.devRef .tc main_arg2)) = a2 V0 := by
  unfold w3
  simp only [hostOps0_2]
  after_results_simp
  simp only [w2_arg2] <;> rfl
set_option maxHeartbeats 4000000 in
theorem w3_arg3 : w3 V0 (no_index (Proc.devRef .tc main_arg3)) = a3 V0 := by
  unfold w3
  simp only [hostOps0_2]
  after_results_simp
  simp only [w2_arg3] <;> rfl
set_option maxHeartbeats 4000000 in
theorem w3_arg4 : w3 V0 (no_index (Proc.devRef .tc main_arg4)) = a4 V0 := by
  unfold w3
  simp only [hostOps0_2]
  after_results_simp
  simp only [w2_arg4] <;> rfl
set_option maxHeartbeats 4000000 in
theorem w3_v12 : w3 V0 (no_index (Proc.devRef .tc main_v12)) = val_main_v15 (F := Ideal) (a0 V0) (a1 V0) (a2 V0) := by
  unfold w3
  simp only [hostOps0_2]
  after_results_simp
  simp only [w2_v12] <;> rfl
set_option maxHeartbeats 4000000 in
theorem w3_v14_1 : w3 V0 (no_index (Proc.devRef .tc main_v14_1)) = val_main_v19_1 (F := Ideal) (a0 V0) (a1 V0) (a2 V0) := by
  unfold w3
  simp only [hostOps0_2]
  after_results_simp
  simp only [w2_v14_1] <;> rfl
set_option maxHeartbeats 4000000 in
theorem w3_v14_2 : w3 V0 (no_index (Proc.devRef .tc main_v14_2)) = val_main_v19_2 (F := Ideal) (a0 V0) (a1 V0) (a2 V0) := by
  unfold w3
  simp only [hostOps0_2]
  after_results_simp
  simp only [w2_v14_2] <;> rfl
set_option maxHeartbeats 4000000 in
theorem w3_v17 : w3 V0 (no_index (Proc.devRef .tc main_v17)) = byUp V0 := by
  unfold w3
  simp only [hostOps0_2]
  after_results_simp
  simp only [w2_v14_0] <;> rfl
set_option maxHeartbeats 4000000 in
theorem w3_v18 : w3 V0 (no_index (Proc.devRef .tc main_v18)) = (mulf ones (val_main_v16 (F := Ideal) (a0 V0) (a1 V0) (a3 V0)) : FVec Ideal S8320x2816 .f32) := by
  unfold w3
  simp only [hostOps0_2]
  after_results_simp
  simp only [w2_v13] <;> rfl
set_option maxHeartbeats 4000000 in
theorem w4_arg2 : w4 V0 (no_index (Proc.devRef .tc main_arg2)) = a2 V0 := by
  unfold w4
  simp only [hostOps0_3]
  after_results_simp
  simp only [w3_arg2] <;> rfl
set_option maxHeartbeats 4000000 in
theorem w4_arg3 : w4 V0 (no_index (Proc.devRef .tc main_arg3)) = a3 V0 := by
  unfold w4
  simp only [hostOps0_3]
  after_results_simp
  simp only [w3_arg3] <;> rfl
set_option maxHeartbeats 4000000 in
theorem w4_arg4 : w4 V0 (no_index (Proc.devRef .tc main_arg4)) = a4 V0 := by
  unfold w4
  simp only [hostOps0_3]
  after_results_simp
  simp only [w3_arg4] <;> rfl
set_option maxHeartbeats 4000000 in
theorem w4_v17 : w4 V0 (no_index (Proc.devRef .tc main_v17)) = byUp V0 := by
  unfold w4
  simp only [hostOps0_3]
  after_results_simp
  simp only [w3_v17] <;> rfl
set_option maxHeartbeats 4000000 in
theorem w4_v19 : w4 V0 (no_index (Proc.devRef .tc main_v19)) = byGate V0 := by
  unfold w4
  simp only [hostOps0_3]
  after_results_simp
  simp only [w3_v12, w3_v18, w3_v14_1, w3_v14_2] <;> rfl
set_option maxHeartbeats 4000000 in
theorem w5_v21 : w5 V0 (no_index (Proc.devRef .tc main_v21)) = (truncf .bf16 (transpose S2816x1024 [1, 0] (a2 V0) transposes_S1024x2816_S2816x1024_1_0 : FVec Ideal S2816x1024 .f32) bitsLt_bf16_f32 : FVec Ideal S2816x1024 .bf16) := by
  unfold w5
  simp only [hostOps0_4]
  after_results_simp
  simp only [w4_arg2] <;> rfl
set_option maxHeartbeats 4000000 in
theorem w5_v23 : w5 V0 (no_index (Proc.devRef .tc main_v23)) = (truncf .bf16 (transpose S2816x1024 [1, 0] (a3 V0) transposes_S1024x2816_S2816x1024_1_0 : FVec Ideal S2816x1024 .f32) bitsLt_bf16_f32 : FVec Ideal S2816x1024 .bf16) := by
  unfold w5
  simp only [hostOps0_4]
  after_results_simp
  simp only [w4_arg3] <;> rfl
set_option maxHeartbeats 4000000 in
theorem w5_v24 : w5 V0 (no_index (Proc.devRef .tc main_v24)) = (truncf .bf16 (byGate V0) bitsLt_bf16_f32 : FVec Ideal S8320x2816 .bf16) := by
  unfold w5
  simp only [hostOps0_4]
  after_results_simp
  simp only [w4_v19] <;> rfl
set_option maxHeartbeats 4000000 in
theorem w5_v25 : w5 V0 (no_index (Proc.devRef .tc main_v25)) = (truncf .bf16 (byUp V0) bitsLt_bf16_f32 : FVec Ideal S8320x2816 .bf16) := by
  unfold w5
  simp only [hostOps0_4]
  after_results_simp
  simp only [w4_v17] <;> rfl
set_option maxHeartbeats 4000000 in
theorem w5_v26 : w5 V0 (no_index (Proc.devRef .tc main_v26)) = (truncf .bf16 (a4 V0) bitsLt_bf16_f32 : FVec Ideal S2816x1024 .bf16) := by
  unfold w5
  simp only [hostOps0_4]
  after_results_simp
  simp only [w4_arg4] <;> rfl

variable (m : (ℓ : Loc nD τ sig) → Buf (Elt Ideal) ℓ) (c : Dev nD)

/-- A buffer as the region finds it. -/
theorem entry (b : Ref sig .tc) : V m c b = w5 (fun b => m (c, b)) (Proc.devRef .tc b) := by
  show after (List.flatten [hostOps0, hostOps0_1, hostOps0_2, hostOps0_3, hostOps0_4]) (fun b => m (c, b)) (Proc.devRef .tc b) = _
  rw [List.flatten_cons, List.flatten_cons, List.flatten_cons, List.flatten_cons, List.flatten_cons, List.flatten_nil, List.append_nil]
  simp only [after_append]
  rfl

end Cert.Kernel2Ideal.Entry

end
-- ==== Proof.FfnUnit.lean ====
/- What one grid point of the SwiGLU layer's backward kernel stores.

   A point treats 320 rows. It halves the incoming gradient, takes its product with the down weights in eleven blocks of
   256 hidden columns and multiplies with the two derivatives of the gated product; from the two gradients so stored it
   takes the gradient of the normed rows, and from that the gain's gradient and the gradient through the norm. -/
module

public import proofs.«01_k».proof.Proof.Gen.Kernel2Ideal.Skeleton
public import Idealize.ShloMosaic.Lib.Pipeline.FrameBody
public import Idealize.ShloMosaic.Lib.Ring

@[expose] public section

noncomputable section

namespace Cert.Kernel2Ideal.Unit

open Idealize.ShloMosaic Idealize.ShloMosaic.TcCoe Cert.Kernel2Ideal Cert.Kernel2Ideal.Gen
open Idealize.SL.Sem

variable {F : FTy → Type} [FloatOps F]

theorem inb_row (c : Fin 11) (a : Fin 2) : (![256 * c.val, 0] : Fin 2 → ℕ) a + S256x1024.size a ≤ S2816x1024.size a := by
  revert c a; decide
theorem inb_col (c : Fin 11) (a : Fin 2) : (![0, 256 * c.val] : Fin 2 → ℕ) a + S320x256.size a ≤ S320x2816.size a := by
  revert c a; decide

/-- Hidden rows, and hidden columns, of block `c`. -/
def rowR (c : Fin 11) : Rect S2816x1024 := Rect.unit ![256 * c.val, 0] S256x1024.size (inb_row c)
def colR (c : Fin 11) : Rect S320x2816 := Rect.unit ![0, 256 * c.val] S320x256.size (inb_col c)
/-- The whole blocks. -/
def tokR : Rect S320x1024 := Rect.unit ![0, 0] S320x1024.size inb_S320x1024_S320x1024_0_0
def gainR : Rect S1x1024 := Rect.unit ![0, 0] S1x1024.size inb_S1x1024_S1x1024_0_0
def hidR : Rect S320x2816 := Rect.unit ![0, 0] S320x2816.size inb_S320x2816_S320x2816_0_0
def matR : Rect S2816x1024 := Rect.unit ![0, 0] S2816x1024.size inb_S2816x1024_S2816x1024_0_0

/-- The halved gradient's product with a block of the down weights, times a derivative. -/
def colBlock (v : FVec F S320x1024 .bf16) (w : Vec F S256x1024 .bf16) (a : Vec F S320x256 .bf16) : FVec F S320x256 .bf16 :=
  truncf .bf16 (mulf (matmul dot_S320x1024_S256x1024_S320x256_1_1_0_0_n_n none v (shapeCast S256x1024 w shapeCasts_S256x1024_S256x1024 : FVec F S256x1024 .bf16)
      (constant S320x256 .f32 0x00000000#32))
    (extf .f32 (shapeCast S320x256 a shapeCasts_S320x256_S320x256 : FVec F S320x256 .bf16) bitsLt_bf16_f32)) bitsLt_bf16_f32

/-- What a point loads. -/
structure Loads (F : FTy → Type) [FloatOps F] where
  g : Vec F S320x1024 .f32
  h : Vec F S320x1024 .f32
  w : Vec F S1x1024 .f32
  dag : Fin 11 → Vec F S320x256 .bf16
  dau : Fin 11 → Vec F S320x256 .bf16
  wg : Vec F S2816x1024 .bf16
  wu : Vec F S2816x1024 .bf16
  wd : Fin 11 → Vec F S256x1024 .bf16

namespace Loads
variable (L : Loads F)

/-- One store of the gate's gradient, and of the up product's. -/
def gatePiece (c : Fin 11) : View.Piece (Elt F) S320x2816 .bf16 := ⟨colR c, colBlock (k0_pay6 L.g) (L.wd c) (L.dag c)⟩
def upPiece (c : Fin 11) : View.Piece (Elt F) S320x2816 .bf16 := ⟨colR c, colBlock (k0_pay6 L.g) (L.wd c) (L.dau c)⟩
/-- All stores of the two, the last first. -/
def gatePieces : List (View.Piece (Elt F) S320x2816 .bf16) := [10, 9, 8, 7, 6, 5, 4, 3, 2, 1, 0].map L.gatePiece
def upPieces : List (View.Piece (Elt F) S320x2816 .bf16) := [10, 9, 8, 7, 6, 5, 4, 3, 2, 1, 0].map L.upPiece
/-- The store of the halved gradient. -/
def dyPieces : List (View.Piece (Elt F) S320x1024 .bf16) := [⟨tokR, k0_pay6 L.g⟩]

variable (a10 a11 : Memref sig .tc .vmem S320x2816 .bf16)

/-- The gradient of the normed rows: the two stored gradients are read back. -/
def dn : FVec F S320x1024 .f32 :=
  k0_pay41 (a10.view.readCov L.gatePieces hidR.toLoadRect) L.wg (a11.view.readCov L.upPieces hidR.toLoadRect) L.wu
/-- The store of the rows' gradient. -/
def dhPieces : List (View.Piece (Elt F) S320x1024 .f32) :=
  [⟨tokR, k0_pay4 L.g (L.dn a10 a11) L.h (k0_pay42 L.h) L.w⟩]
/-- The store of the gain's gradient over what it was. -/
def dwPiece (old : Vec F S1x1024 .f32) : View.Piece (Elt F) S1x1024 .f32 :=
  ⟨gainR, k0_pay3 (L.dn a10 a11) L.h (k0_pay42 L.h) old⟩

end Loads

/-- The first point's store of zeros. -/
def dwFill : List (View.Piece (Elt F) S1x1024 .f32) := [⟨gainR, k0_pay5⟩]

section
variable
  {arg1 : Memref sig .tc .vmem S320x1024 .f32} (harg1 : arg1.IsWhole)
  {arg2 : Memref sig .tc .vmem S320x1024 .f32} (harg2 : arg2.IsWhole)
  {arg3 : Memref sig .tc .vmem S1x1024 .f32} (harg3 : arg3.IsWhole)
  {arg4 : Memref sig .tc .vmem S320x2816 .bf16} (harg4 : arg4.IsWhole)
  {arg5 : Memref sig .tc .vmem S320x2816 .bf16} (harg5 : arg5.IsWhole)
  {arg6 : Memref sig .tc .vmem S2816x1024 .bf16} (harg6 : arg6.IsWhole)
  {arg7 : Memref sig .tc .vmem S2816x1024 .bf16} (harg7 : arg7.IsWhole)
  {arg8 : Memref sig .tc .vmem S2816x1024 .bf16} (harg8 : arg8.IsWhole)
  (x0 x1 : Vec F S320x1024 .f32) (x2 : Vec F S1x1024 .f32) (x3 x4 : Vec F S320x2816 .bf16) (x5 x6 x7 : Vec F S2816x1024 .bf16)

/-- What a point loads from its blocks. -/
def loads : Loads F where
  g := View.readAt (Elt F) arg1.view tokR.toLoadRect (harg1.unread x0)
  h := View.readAt (Elt F) arg2.view tokR.toLoadRect (harg2.unread x1)
  w := View.readAt (Elt F) arg3.view gainR.toLoadRect (harg3.unread x2)
  dag c := View.readAt (Elt F) arg4.view (colR c).toLoadRect (harg4.unread x3)
  dau c := View.readAt (Elt F) arg5.view (colR c).toLoadRect (harg5.unread x4)
  wg := View.readAt (Elt F) arg6.view matR.toLoadRect (harg6.unread x5)
  wu := View.readAt (Elt F) arg7.view matR.toLoadRect (harg7.unread x6)
  wd c := View.readAt (Elt F) arg8.view (rowR c).toLoadRect (harg8.unread x7)

end

end Cert.Kernel2Ideal.Unit

end
-- ==== Proof.FfnValue.lean ====
/- The values of one grid point of the SwiGLU layer's backward kernel, in real numbers. -/
module

public import proofs.«01_k».proof.Proof.FfnUnit
public import proofs.«01_k».proof.Proof.FfnSpec
public import Idealize.ShloMosaic.Lib.KernelVsHost
public import Idealize.ShloMosaic.Lib.ValueLayout
public import Idealize.ShloMosaic.Lib.ValueLayoutCasts
public import Idealize.ShloMosaic.Lib.Pointwise.Contract
public import Idealize.ShloMosaic.Lib.WholeRead
public import Idealize.ShloMosaic.Lib.Pipeline.CanonAppend

@[expose] public section

noncomputable section

namespace Cert.Kernel2Ideal.Unit

open Idealize.ShloMosaic hiding ix1 ix2 ix3 ix4
open Idealize.ShloMosaic.TcCoe Cert.Kernel2Ideal Cert.Kernel2Ideal.Gen Idealize.ShloMosaic.ValueIdx
open Idealize.SL.Sem
open Cert.Ffn (zz rr xh normBwd zz_pos w_1024)

/-- The block holds these reals. -/
def Is {n0 n1 : ℕ} {φ : FTy} (x : FVec Ideal ⟨2, ![n0, n1]⟩ φ) (f : Fin n0 → Fin n1 → ℝ) : Prop :=
  ∀ (r : Fin n0) (d : Fin n1), x (ix2 r d) = ((f r d : ℝ) : EReal)

/-- The row of 1024 holds these reals. -/
def IsRow (x : FVec Ideal S1x1024 .f32) (f : Fin 1024 → ℝ) : Prop := ∀ d, x (ix2 0 d) = ((f d : ℝ) : EReal)

/-- A column of reals, one per row. -/
def IsCol (x : FVec Ideal S320x1 .f32) (f : Fin 320 → ℝ) : Prop := ∀ r : Fin 320, ∀ u : Fin 1, x (ix2 r u) = ((f r : ℝ) : EReal)

theorem half_is {x : FVec Ideal S320x1024 .f32} {f : Fin 320 → Fin 1024 → ℝ} (hx : Is x f) :
    Is (φ := .bf16) (k0_pay6 (F := Ideal) x) fun r d => 1 / 2 * f r d := fun r d => by
  show FloatOps.mulf (Ideal.ofBits .f32 0x3F000000#32) (x (ix2 r d)) = _
  rw [Num.w_half, hx, Ideal.mulf_def, ← EReal.coe_mul]

theorem colBlock_is {v : FVec Ideal S320x1024 .bf16} {w : FVec Ideal S256x1024 .bf16} {a : FVec Ideal S320x256 .bf16}
    {f : Fin 320 → Fin 1024 → ℝ} {p : Fin 256 → Fin 1024 → ℝ} {q : Fin 320 → Fin 256 → ℝ} (hv : Is v f) (hw : Is w p) (ha : Is a q) :
    Is (φ := .bf16) (colBlock (F := Ideal) v w a) fun r k => (∑ d, f r d * p k d) * q r k := fun r k => by
  unfold colBlock
  rw [shapeCast_self, shapeCast_self]
  show FloatOps.mulf (Ideal.matmul _ _ _ _ _) (a (ix2 r k)) = _
  rw [Ideal.matmul_apply₁ _ (a := 1) rfl (K := 1024) rfl, ha, Ideal.mulf_def, EReal.coe_mul]
  refine congrArg (· * _) ((congrArg₂ (· + ·) Num.w_zero (Num.sum_eq (f := fun d => f r d * p k d) fun d => ?_)).trans (by rw [← EReal.coe_add, zero_add]))
  rw [EReal.coe_mul]
  exact congrArg₂ (· * ·) ((congrArg v (by funext z; match z with | ⟨0, _⟩ => rfl | ⟨1, _⟩ => rfl)).trans (hv r d))
    ((congrArg w (by funext z; match z with | ⟨0, _⟩ => rfl | ⟨1, _⟩ => rfl)).trans (hw k d))

theorem nn_is {a : FVec Ideal S320x2816 .bf16} {b : FVec Ideal S2816x1024 .bf16} {f : Fin 320 → Fin 2816 → ℝ} {g : Fin 2816 → Fin 1024 → ℝ}
    (ha : Is a f) (hb : Is b g) :
    Is (φ := .f32) (matmul dot_S320x2816_S2816x1024_S320x1024_1_0_0_1_n_n none a b (constant (F := Ideal) S320x1024 .f32 0x00000000#32))
      fun r d => ∑ k, f r k * g k d := fun r d => by
  show Ideal.matmul _ _ _ _ _ = _
  rw [Ideal.matmul_apply₁ _ (a := 1) rfl (K := 2816) rfl]
  refine (congrArg₂ (· + ·) Num.w_zero (Num.sum_eq (f := fun k => f r k * g k d) fun k => ?_)).trans (by rw [← EReal.coe_add, zero_add])
  rw [EReal.coe_mul]
  exact congrArg₂ (· * ·) ((congrArg a (by funext z; match z with | ⟨0, _⟩ => rfl | ⟨1, _⟩ => rfl)).trans (ha r k))
    ((congrArg b (by funext z; match z with | ⟨0, _⟩ => rfl | ⟨1, _⟩ => rfl)).trans (hb k d))

theorem products_is {a b : FVec Ideal S320x2816 .bf16} {p q : FVec Ideal S2816x1024 .bf16} {fa fb : Fin 320 → Fin 2816 → ℝ}
    {gp gq : Fin 2816 → Fin 1024 → ℝ} (ha : Is a fa) (hb : Is b fb) (hp : Is p gp) (hq : Is q gq) :
    Is (φ := .f32) (k0_pay41 (F := Ideal) a p b q) fun r d => (∑ k, fa r k * gp k d) + ∑ k, fb r k * gq k d := fun r d => by
  unfold k0_pay41
  dsimp only
  rw [shapeCast_self, shapeCast_self, shapeCast_self, shapeCast_self]
  show FloatOps.addf _ _ = _
  rw [nn_is ha hp r d, nn_is hb hq r d, Ideal.addf_def, ← EReal.coe_add]

/-- The mean of each row, as a column. -/
theorem rowMean_is {x : FVec Ideal S320x1024 .f32} {f : Fin 320 → Fin 1024 → ℝ} (hx : Is x f) :
    IsCol (divf (shapeCast S320x1 (multiReduction .add [1] S320 x 0x00000000#32 reduces_S320x1024_S320 (.inl rfl) rfl : FVec Ideal S320 .f32) shapeCasts_S320_S320x1 : FVec Ideal S320x1 .f32)
      (broadcast S320x1 (Scalar.ofBits (F := Ideal) .f32 0x44800000#32))) fun r => (∑ d, f r d) / 1024 := fun r u => by
  show FloatOps.divf _ _ = _
  rw [shapeCast_a_a1_apply]
  have e : (∑ k : Fin 1024, x (reduces_S320x1024_S320.lift (ix1 r) k)) = ((∑ d, f r d : ℝ) : EReal) :=
    Num.sum_eq fun k => by rw [← hx r k]; congr 1; funext a; match a with | ⟨0, _⟩ => rfl | ⟨1, _⟩ => rfl
  refine (congrArg₂ FloatOps.divf ((Ideal.multiReduction_add_single _ _ _ _ _ _).trans e) w_1024).trans ?_
  exact Num.div_eq _ (by norm_num)

theorem spread_is {x : FVec Ideal S320x1 .f32} {f : Fin 320 → ℝ} (hx : IsCol x f) :
    Is (φ := .f32) (broadcastTo S320x1024 x broadcasts_S320x1_S320x1024) fun r _ => f r := fun r d => by
  rw [broadcastTo_apply x broadcasts_S320x1_S320x1024 (ix2 r d) (ix2 r 0) (fun a => by match a with | ⟨0, _⟩ => rfl | ⟨1, _⟩ => rfl)]
  exact hx r 0

theorem mul_is {x y : FVec Ideal S320x1024 .f32} {f g : Fin 320 → Fin 1024 → ℝ} (hx : Is x f) (hy : Is y g) :
    Is (φ := .f32) (mulf x y) fun r d => f r d * g r d := fun r d => by
  show FloatOps.mulf _ _ = _
  rw [hx, hy, Ideal.mulf_def, EReal.coe_mul]
theorem add_is {x y : FVec Ideal S320x1024 .f32} {f g : Fin 320 → Fin 1024 → ℝ} (hx : Is x f) (hy : Is y g) :
    Is (φ := .f32) (addf x y) fun r d => f r d + g r d := fun r d => by
  show FloatOps.addf _ _ = _
  rw [hx, hy, Ideal.addf_def, EReal.coe_add]
theorem sub_is {x y : FVec Ideal S320x1024 .f32} {f g : Fin 320 → Fin 1024 → ℝ} (hx : Is x f) (hy : Is y g) :
    Is (φ := .f32) (subf x y) fun r d => f r d - g r d := fun r d => by
  show FloatOps.subf _ _ = _
  rw [hx, hy, Ideal.subf_def, EReal.coe_sub]

/-- The mean squares with the norm's constant. -/
theorem squares_is {x : FVec Ideal S320x1024 .f32} {f : Fin 320 → Fin 1024 → ℝ} (hx : Is x f) :
    IsCol (k0_pay42 (F := Ideal) x) fun r => zz (f r) := fun r u => by
  unfold k0_pay42
  dsimp only
  refine (congrArg₂ FloatOps.addf (rowMean_is (mul_is hx hx) r u) Num.w_eps).trans ?_
  rw [Ideal.addf_def, ← EReal.coe_add]; rfl

section
variable {x dn g : FVec Ideal S320x1024 .f32} {v : FVec Ideal S320x1 .f32} {f fn fg : Fin 320 → Fin 1024 → ℝ}
  (hx : Is x f) (hv : IsCol v fun r => zz (f r))

include hv in
theorem root_is : IsCol (k0_pay1 (F := Ideal) v) fun r => rr (f r) := fun r u => by
  show Ideal.rsqrt (v (ix2 r u)) = _
  rw [hv, Num.rsqrt_eq (zz_pos _)]; rfl

include hx hv in
theorem normed_is : Is (φ := .f32) (k0_pay2 (F := Ideal) x v) fun r d => xh (f r) d := mul_is hx (spread_is (root_is hv))

include hx hv in
theorem gain_is (hn : Is dn fn) {old : FVec Ideal S1x1024 .f32} {fo : Fin 1024 → ℝ} (ho : IsRow old fo) :
    IsRow (k0_pay3 (F := Ideal) dn x v old) fun d => fo d + ∑ r, fn r d * xh (f r) d := fun d => by
  unfold k0_pay3
  dsimp only
  rw [shapeCast_self]
  show FloatOps.addf _ _ = _
  rw [ho, shapeCast_a_1a_apply, Ideal.addf_def, EReal.coe_add]
  refine congrArg (_ + ·) ((Ideal.multiReduction_add_single _ _ _ _ _ _).trans ?_)
  exact Num.sum_eq fun k => by
    rw [← mul_is hn (normed_is hx hv) k d]; congr 1; funext a; match a with | ⟨0, _⟩ => rfl | ⟨1, _⟩ => rfl

include hx hv in
theorem rows_is (hn : Is dn fn) (hg : Is g fg) {w : FVec Ideal S1x1024 .f32} {fw : Fin 1024 → ℝ} (hw : IsRow w fw) :
    Is (φ := .f32) (k0_pay4 (F := Ideal) g dn x v w) fun r d => normBwd (f r) (fun e => fn r e * fw e) d + fg r d := by
  have hwb : Is (φ := .f32) (broadcastTo S320x1024 w broadcasts_S1x1024_S320x1024) fun _ d => fw d := fun r d => by
    rw [broadcastTo_1b_ab_apply, hw]
  have hy := mul_is hn hwb
  have hm := rowMean_is (mul_is hy (normed_is hx hv))
  exact add_is (mul_is (spread_is (root_is hv)) (sub_is hy (mul_is (normed_is hx hv) (spread_is hm)))) hg

end

/-- The reals of a point: the incoming gradient, the rows, the gain, the derivatives of the gated product, the weights. -/
structure Reals where
  g : Fin 320 → Fin 1024 → ℝ
  h : Fin 320 → Fin 1024 → ℝ
  w : Fin 1024 → ℝ
  dag : Fin 320 → Fin 2816 → ℝ
  dau : Fin 320 → Fin 2816 → ℝ
  wg : Fin 2816 → Fin 1024 → ℝ
  wu : Fin 2816 → Fin 1024 → ℝ
  wd : Fin 2816 → Fin 1024 → ℝ

namespace Reals
variable (R : Reals)

def dy (r : Fin 320) (d : Fin 1024) : ℝ := 1 / 2 * R.g r d
def dact (r : Fin 320) (f : Fin 2816) : ℝ := ∑ d, R.dy r d * R.wd f d
def dgate (r : Fin 320) (f : Fin 2816) : ℝ := R.dact r f * R.dag r f
def dup (r : Fin 320) (f : Fin 2816) : ℝ := R.dact r f * R.dau r f
def dn (r : Fin 320) (d : Fin 1024) : ℝ := (∑ f, R.dgate r f * R.wg f d) + ∑ f, R.dup r f * R.wu f d
def dw (d : Fin 1024) : ℝ := ∑ r, R.dn r d * xh (R.h r) d
def dh (r : Fin 320) (d : Fin 1024) : ℝ := normBwd (R.h r) (fun e => R.dn r e * R.w e) d + R.g r d

end Reals

/-- Hidden column `k` of block `c`. -/
def hid (c : Fin 11) (k : Fin 256) : Fin 2816 := ⟨256 * c.val + k.val, by omega⟩

/-- What is loaded holds these reals. -/
structure Reads (L : Loads Ideal) (R : Reals) : Prop where
  g : Is (φ := .f32) L.g R.g
  h : Is (φ := .f32) L.h R.h
  w : IsRow L.w R.w
  dag : ∀ c, Is (φ := .bf16) (L.dag c) fun r k => R.dag r (hid c k)
  dau : ∀ c, Is (φ := .bf16) (L.dau c) fun r k => R.dau r (hid c k)
  wg : Is (φ := .bf16) L.wg R.wg
  wu : Is (φ := .bf16) L.wu R.wu
  wd : ∀ c, Is (φ := .bf16) (L.wd c) fun k d => R.wd (hid c k) d

/-! ## The rectangles -/

theorem colR_idx (c : Fin 11) (r : Fin 320) (k : Fin 256) : (colR c).toLoadRect.idx (ix2 r k) = ix2 r (hid c k) := by
  funext a
  match a with
  | ⟨0, _⟩ => exact Fin.ext (by show 0 + 1 * r.val = r.val; omega)
  | ⟨1, _⟩ => exact Fin.ext (by show 256 * c.val + 1 * k.val = 256 * c.val + k.val; omega)
theorem rowR_idx (c : Fin 11) (k : Fin 256) (d : Fin 1024) : (rowR c).toLoadRect.idx (ix2 k d) = ix2 (hid c k) d := by
  funext a
  match a with
  | ⟨0, _⟩ => exact Fin.ext (by show 256 * c.val + 1 * k.val = 256 * c.val + k.val; omega)
  | ⟨1, _⟩ => exact Fin.ext (by show 0 + 1 * d.val = d.val; omega)
theorem tokR_idx (r : Fin 320) (d : Fin 1024) : tokR.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)
theorem gainR_idx (d : Fin 1024) : gainR.toLoadRect.idx (ix2 0 d) = ix2 0 d := by
  funext a
  match a with
  | ⟨0, _⟩ => rfl
  | ⟨1, _⟩ => exact Fin.ext (by show 0 + 1 * d.val = d.val; omega)
theorem hidR_idx (r : Fin 320) (f : Fin 2816) : hidR.toLoadRect.idx (ix2 r f) = ix2 r f := by
  funext a
  match a with
  | ⟨0, _⟩ => exact Fin.ext (by show 0 + 1 * r.val = r.val; omega)
  | ⟨1, _⟩ => exact Fin.ext (by show 0 + 1 * f.val = f.val; omega)
theorem matR_idx (f : Fin 2816) (d : Fin 1024) : matR.toLoadRect.idx (ix2 f d) = ix2 f d := by
  funext a
  match a with
  | ⟨0, _⟩ => exact Fin.ext (by show 0 + 1 * f.val = f.val; omega)
  | ⟨1, _⟩ => exact Fin.ext (by show 0 + 1 * d.val = d.val; omega)

theorem mem_of_emb {s : Shape} (r : Rect s) {i : s.Idx} (x : r.shape.Idx) (h : r.emb x = i) : i ∈ r.set := by
  rw [← r.map_emb_univ, ← h]; exact Finset.mem_map_of_mem _ (Finset.mem_univ _)

theorem index2 {a b : ℕ} (x : (⟨2, ![a, b]⟩ : Shape).Idx) : ∃ (r : Fin a) (d : Fin b), x = ix2 r d :=
  ⟨x 0, x 1, by funext z; match z with | ⟨0, _⟩ => rfl | ⟨1, _⟩ => rfl⟩

section
variable
  {arg1 : Memref sig .tc .vmem S320x1024 .f32} (harg1 : arg1.IsWhole)
  {arg2 : Memref sig .tc .vmem S320x1024 .f32} (harg2 : arg2.IsWhole)
  {arg3 : Memref sig .tc .vmem S1x1024 .f32} (harg3 : arg3.IsWhole)
  {arg4 : Memref sig .tc .vmem S320x2816 .bf16} (harg4 : arg4.IsWhole)
  {arg5 : Memref sig .tc .vmem S320x2816 .bf16} (harg5 : arg5.IsWhole)
  {arg6 : Memref sig .tc .vmem S2816x1024 .bf16} (harg6 : arg6.IsWhole)
  {arg7 : Memref sig .tc .vmem S2816x1024 .bf16} (harg7 : arg7.IsWhole)
  {arg8 : Memref sig .tc .vmem S2816x1024 .bf16} (harg8 : arg8.IsWhole)
  (x0 x1 : FVec Ideal S320x1024 .f32) (x2 : FVec Ideal S1x1024 .f32) (x3 x4 : FVec Ideal S320x2816 .bf16) (x5 x6 x7 : FVec Ideal S2816x1024 .bf16)
  {R : Reals}

/-- The eight blocks of a point hold these reals. -/
structure Blocks (R : Reals) (x0 x1 : FVec Ideal S320x1024 .f32) (x2 : FVec Ideal S1x1024 .f32) (x3 x4 : FVec Ideal S320x2816 .bf16)
    (x5 x6 x7 : FVec Ideal S2816x1024 .bf16) : Prop where
  g : Is x0 R.g
  h : Is x1 R.h
  w : IsRow x2 R.w
  dag : Is x3 R.dag
  dau : Is x4 R.dau
  wg : Is x5 R.wg
  wu : Is x6 R.wu
  wd : Is x7 R.wd

theorem reads_loads (B : Blocks R x0 x1 x2 x3 x4 x5 x6 x7) :
    Reads (loads (F := Ideal) harg1 harg2 harg3 harg4 harg5 harg6 harg7 harg8 x0 x1 x2 x3 x4 x5 x6 x7) R where
  g r d := ((harg1.readAt_unread _ _ _).trans (congrArg x0 (tokR_idx r d))).trans (B.g r d)
  h r d := ((harg2.readAt_unread _ _ _).trans (congrArg x1 (tokR_idx r d))).trans (B.h r d)
  w d := ((harg3.readAt_unread _ _ _).trans (congrArg x2 (gainR_idx d))).trans (B.w d)
  dag c r k := ((harg4.readAt_unread _ _ _).trans (congrArg x3 (colR_idx c r k))).trans (B.dag r (hid c k))
  dau c r k := ((harg5.readAt_unread _ _ _).trans (congrArg x4 (colR_idx c r k))).trans (B.dau r (hid c k))
  wg f d := ((harg6.readAt_unread _ _ _).trans (congrArg x5 (matR_idx f d))).trans (B.wg f d)
  wu f d := ((harg7.readAt_unread _ _ _).trans (congrArg x6 (matR_idx f d))).trans (B.wu f d)
  wd c k d := ((harg8.readAt_unread _ _ _).trans (congrArg x7 (rowR_idx c k d))).trans (B.wd (hid c k) d)

end

/-! ## The stores -/

section
variable {L : Loads Ideal} {R : Reals} (H : Reads L R)

theorem mem_all (c : Fin 11) : c ∈ ([10, 9, 8, 7, 6, 5, 4, 3, 2, 1, 0] : List (Fin 11)) := by revert c; decide

theorem hid_surj (f : Fin 2816) : ∃ c k, f = hid c k :=
  ⟨⟨f.val / 256, by omega⟩, ⟨f.val % 256, Nat.mod_lt _ (by norm_num)⟩, Fin.ext (by show f.val = 256 * (f.val / 256) + f.val % 256; omega)⟩

include H

theorem canon_gate (r : Fin 320) (f : Fin 2816) : View.canon L.gatePieces (ix2 r f) = ((R.dgate r f : ℝ) : EReal) := by
  obtain ⟨c, k, rfl⟩ := hid_surj f
  refine View.canon_apply_of_pieces (Val := Elt Ideal) (e := .bf16) (fun i : S320x2816.Idx => (((R.dgate (i 0) (i 1) : ℝ) : EReal) : Ideal .bf16))
    L.gatePieces (fun q hq x => ?_) (ix2 r (hid c k)) ⟨L.gatePiece c, List.mem_map.mpr ⟨c, mem_all c, rfl⟩, mem_of_emb _ (ix2 r k) (colR_idx c r k)⟩
  obtain ⟨c, -, rfl⟩ := List.mem_map.mp hq
  obtain ⟨r, k, rfl⟩ := index2 (a := 320) (b := 256) x
  have e : (L.gatePiece c).1.emb (ix2 r k) = ix2 r (hid c k) := colR_idx c r k
  rw [e]
  exact colBlock_is (half_is H.g) (H.wd c) (H.dag c) r k

theorem canon_up (r : Fin 320) (f : Fin 2816) : View.canon L.upPieces (ix2 r f) = ((R.dup r f : ℝ) : EReal) := by
  obtain ⟨c, k, rfl⟩ := hid_surj f
  refine View.canon_apply_of_pieces (Val := Elt Ideal) (e := .bf16) (fun i : S320x2816.Idx => (((R.dup (i 0) (i 1) : ℝ) : EReal) : Ideal .bf16))
    L.upPieces (fun q hq x => ?_) (ix2 r (hid c k)) ⟨L.upPiece c, List.mem_map.mpr ⟨c, mem_all c, rfl⟩, mem_of_emb _ (ix2 r k) (colR_idx c r k)⟩
  obtain ⟨c, -, rfl⟩ := List.mem_map.mp hq
  obtain ⟨r, k, rfl⟩ := index2 (a := 320) (b := 256) x
  have e : (L.upPiece c).1.emb (ix2 r k) = ix2 r (hid c k) := colR_idx c r k
  rw [e]
  exact colBlock_is (half_is H.g) (H.wd c) (H.dau c) r k

theorem canon_dy (r : Fin 320) (d : Fin 1024) : View.canon L.dyPieces (ix2 r d) = ((R.dy r d : ℝ) : EReal) := by
  refine View.canon_apply_of_pieces (Val := Elt Ideal) (e := .bf16) (fun i : S320x1024.Idx => (((R.dy (i 0) (i 1) : ℝ) : EReal) : Ideal .bf16))
    L.dyPieces (fun q hq x => ?_) (ix2 r d) ⟨_, List.mem_singleton.mpr rfl, mem_of_emb _ (ix2 r d) (tokR_idx r d)⟩
  obtain rfl := List.mem_singleton.mp hq
  obtain ⟨r, d, rfl⟩ := index2 (a := 320) (b := 1024) x
  have e : tokR.emb (ix2 r d) = ix2 r d := tokR_idx r d
  show k0_pay6 (F := Ideal) L.g (ix2 r d) = _
  rw [e]
  exact half_is H.g r d

variable (a10 a11 : Memref sig .tc .vmem S320x2816 .bf16)

theorem dn_is : Is (φ := .f32) (L.dn a10 a11) R.dn :=
  products_is (fa := R.dgate) (fb := R.dup)
    (fun r f => by
      refine (congrFun (View.readCov_eq_canon' a10.view L.gatePieces hidR.toLoadRect) (ix2 r f)).trans ?_
      show View.canon _ _ = _
      rw [hidR_idx, canon_gate H])
    (fun r f => by
      refine (congrFun (View.readCov_eq_canon' a11.view L.upPieces hidR.toLoadRect) (ix2 r f)).trans ?_
      show View.canon _ _ = _
      rw [hidR_idx, canon_up H])
    H.wg H.wu

theorem canon_dh (r : Fin 320) (d : Fin 1024) : View.canon (L.dhPieces a10 a11) (ix2 r d) = ((R.dh r d : ℝ) : EReal) := by
  refine View.canon_apply_of_pieces (Val := Elt Ideal) (e := .f32) (fun i : S320x1024.Idx => (((R.dh (i 0) (i 1) : ℝ) : EReal) : Ideal .f32))
    (L.dhPieces a10 a11) (fun q hq x => ?_) (ix2 r d) ⟨_, List.mem_singleton.mpr rfl, mem_of_emb _ (ix2 r d) (tokR_idx r d)⟩
  obtain rfl := List.mem_singleton.mp hq
  obtain ⟨r, d, rfl⟩ := index2 (a := 320) (b := 1024) x
  have e : tokR.emb (ix2 r d) = ix2 r d := tokR_idx r d
  show k0_pay4 (F := Ideal) L.g (L.dn a10 a11) L.h (k0_pay42 L.h) L.w (ix2 r d) = _
  rw [e]
  exact rows_is H.h (squares_is H.h) (dn_is H a10 a11) H.g H.w r d

theorem canon_dw {old : FVec Ideal S1x1024 .f32} {fo : Fin 1024 → ℝ} (ho : IsRow old fo) (L' : List (View.Piece (Elt Ideal) S1x1024 .f32)) :
    IsRow (View.canon (L.dwPiece a10 a11 old :: L')) fun d => fo d + R.dw d := fun d => by
  refine View.canon_append_of_pieces (Val := Elt Ideal) (e := .f32) (fun i : S1x1024.Idx => (((fo (i 1) + R.dw (i 1) : ℝ) : EReal) : Ideal .f32))
    L' [L.dwPiece a10 a11 old] (fun q hq x => ?_) (ix2 0 d) ⟨_, List.mem_singleton.mpr rfl, mem_of_emb _ (ix2 0 d) (gainR_idx d)⟩
  obtain rfl := List.mem_singleton.mp hq
  obtain ⟨u, d, rfl⟩ := index2 (a := 1) (b := 1024) x
  obtain rfl : u = 0 := Subsingleton.elim _ _
  have e : (L.dwPiece a10 a11 old).1.emb (ix2 0 d) = ix2 0 d := gainR_idx d
  rw [e]
  exact gain_is H.h (squares_is H.h) (dn_is H a10 a11) ho d

omit H in
theorem canon_fill (a13 : Memref sig .tc .vmem S1x1024 .f32) : IsRow (a13.view.readCov (dwFill (F := Ideal)) gainR.toLoadRect) fun _ => 0 := fun d => by
  refine (congrFun (View.readCov_eq_canon' a13.view dwFill gainR.toLoadRect) (ix2 0 d)).trans ?_
  show View.canon _ _ = _
  rw [gainR_idx]
  refine View.canon_apply_of_pieces (Val := Elt Ideal) (e := .f32) (fun _ => ((0 : ℝ) : EReal)) dwFill (fun p hp x => ?_) (ix2 0 d)
    ⟨_, List.mem_singleton.mpr rfl, mem_of_emb _ (ix2 0 d) (gainR_idx d)⟩
  obtain rfl := List.mem_singleton.mp hp
  exact Num.w_zero

end

end Cert.Kernel2Ideal.Unit

end
-- ==== Proof.FfnMatchFirst.lean ====
/- The stores of the first point's run are those that `FfnUnit` states. -/
module

public import proofs.«01_k».proof.Proof.FfnUnit
public import proofs.«01_k».proof.Proof.Gen.Kernel2Ideal.Frame

@[expose] public section

noncomputable section

namespace Cert.Kernel2Ideal.Unit

open Idealize.ShloMosaic Idealize.ShloMosaic.TcCoe Cert.Kernel2Ideal Cert.Kernel2Ideal.Gen
open Idealize.SL.Sem

variable {F : FTy → Type} [FloatOps F]

variable (c : Dev nD) (i : grid0.Coords)
  {arg1 : Memref sig .tc .vmem S320x1024 .f32} (harg1 : arg1.IsWhole)
  {arg2 : Memref sig .tc .vmem S320x1024 .f32} (harg2 : arg2.IsWhole)
  {arg3 : Memref sig .tc .vmem S1x1024 .f32} (harg3 : arg3.IsWhole)
  {arg4 : Memref sig .tc .vmem S320x2816 .bf16} (harg4 : arg4.IsWhole)
  {arg5 : Memref sig .tc .vmem S320x2816 .bf16} (harg5 : arg5.IsWhole)
  {arg6 : Memref sig .tc .vmem S2816x1024 .bf16} (harg6 : arg6.IsWhole)
  {arg7 : Memref sig .tc .vmem S2816x1024 .bf16} (harg7 : arg7.IsWhole)
  {arg8 : Memref sig .tc .vmem S2816x1024 .bf16} (harg8 : arg8.IsWhole)
  {arg9 : Memref sig .tc .vmem S320x1024 .f32} (harg9 : arg9.IsWhole)
  {arg10 : Memref sig .tc .vmem S320x2816 .bf16} (harg10 : arg10.IsWhole)
  {arg11 : Memref sig .tc .vmem S320x2816 .bf16} (harg11 : arg11.IsWhole)
  {arg12 : Memref sig .tc .vmem S320x1024 .bf16} (harg12 : arg12.IsWhole)
  {arg13 : Memref sig .tc .vmem S1x1024 .f32} (harg13 : arg13.IsWhole)
  (x0 x1 : Vec F S320x1024 .f32) (x2 : Vec F S1x1024 .f32) (x3 x4 : Vec F S320x2816 .bf16) (x5 x6 x7 : Vec F S2816x1024 .bf16) (xo12 : Vec F S1x1024 .f32)

set_option maxHeartbeats 40000000 in
theorem runA_dy (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7).2.2.2.1 = (loads harg1 harg2 harg3 harg4 harg5 harg6 harg7 harg8 x0 x1 x2 x3 x4 x5 x6 x7).dyPieces := by
  rfl

set_option maxHeartbeats 40000000 in
theorem runA_gate (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7).2.1 = (loads harg1 harg2 harg3 harg4 harg5 harg6 harg7 harg8 x0 x1 x2 x3 x4 x5 x6 x7).gatePieces := by
  rfl

set_option maxHeartbeats 40000000 in
theorem runA_up (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7).2.2.1 = (loads harg1 harg2 harg3 harg4 harg5 harg6 harg7 harg8 x0 x1 x2 x3 x4 x5 x6 x7).upPieces := by
  rfl

set_option maxHeartbeats 40000000 in
theorem runA_dh (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7).1 = (loads harg1 harg2 harg3 harg4 harg5 harg6 harg7 harg8 x0 x1 x2 x3 x4 x5 x6 x7).dhPieces arg10 arg11 := by
  rfl

set_option maxHeartbeats 40000000 in
theorem runA_dw (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7).2.2.2.2.1 = (loads harg1 harg2 harg3 harg4 harg5 harg6 harg7 harg8 x0 x1 x2 x3 x4 x5 x6 x7).dwPiece arg10 arg11 (arg13.view.readCov dwFill gainR.toLoadRect) :: dwFill := by
  rfl

end Cert.Kernel2Ideal.Unit

end
-- ==== Proof.FfnMatchLater.lean ====
/- The stores of a later point's run are those that `FfnUnit` states. -/
module

public import proofs.«01_k».proof.Proof.FfnUnit
public import proofs.«01_k».proof.Proof.Gen.Kernel2Ideal.Frame

@[expose] public section

noncomputable section

namespace Cert.Kernel2Ideal.Unit

open Idealize.ShloMosaic Idealize.ShloMosaic.TcCoe Cert.Kernel2Ideal Cert.Kernel2Ideal.Gen
open Idealize.SL.Sem

variable {F : FTy → Type} [FloatOps F]

variable (c : Dev nD) (i : grid0.Coords)
  {arg1 : Memref sig .tc .vmem S320x1024 .f32} (harg1 : arg1.IsWhole)
  {arg2 : Memref sig .tc .vmem S320x1024 .f32} (harg2 : arg2.IsWhole)
  {arg3 : Memref sig .tc .vmem S1x1024 .f32} (harg3 : arg3.IsWhole)
  {arg4 : Memref sig .tc .vmem S320x2816 .bf16} (harg4 : arg4.IsWhole)
  {arg5 : Memref sig .tc .vmem S320x2816 .bf16} (harg5 : arg5.IsWhole)
  {arg6 : Memref sig .tc .vmem S2816x1024 .bf16} (harg6 : arg6.IsWhole)
  {arg7 : Memref sig .tc .vmem S2816x1024 .bf16} (harg7 : arg7.IsWhole)
  {arg8 : Memref sig .tc .vmem S2816x1024 .bf16} (harg8 : arg8.IsWhole)
  {arg9 : Memref sig .tc .vmem S320x1024 .f32} (harg9 : arg9.IsWhole)
  {arg10 : Memref sig .tc .vmem S320x2816 .bf16} (harg10 : arg10.IsWhole)
  {arg11 : Memref sig .tc .vmem S320x2816 .bf16} (harg11 : arg11.IsWhole)
  {arg12 : Memref sig .tc .vmem S320x1024 .bf16} (harg12 : arg12.IsWhole)
  {arg13 : Memref sig .tc .vmem S1x1024 .f32} (harg13 : arg13.IsWhole)
  (x0 x1 : Vec F S320x1024 .f32) (x2 : Vec F S1x1024 .f32) (x3 x4 : Vec F S320x2816 .bf16) (x5 x6 x7 : Vec F S2816x1024 .bf16) (xo12 : Vec F S1x1024 .f32)

set_option maxHeartbeats 40000000 in
theorem runB_dy (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12).2.2.2.1 = (loads harg1 harg2 harg3 harg4 harg5 harg6 harg7 harg8 x0 x1 x2 x3 x4 x5 x6 x7).dyPieces := by
  rfl

set_option maxHeartbeats 40000000 in
theorem runB_gate (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12).2.1 = (loads harg1 harg2 harg3 harg4 harg5 harg6 harg7 harg8 x0 x1 x2 x3 x4 x5 x6 x7).gatePieces := by
  rfl

set_option maxHeartbeats 40000000 in
theorem runB_up (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12).2.2.1 = (loads harg1 harg2 harg3 harg4 harg5 harg6 harg7 harg8 x0 x1 x2 x3 x4 x5 x6 x7).upPieces := by
  rfl

set_option maxHeartbeats 40000000 in
theorem runB_dh (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12).1 = (loads harg1 harg2 harg3 harg4 harg5 harg6 harg7 harg8 x0 x1 x2 x3 x4 x5 x6 x7).dhPieces arg10 arg11 := by
  rfl

set_option maxHeartbeats 40000000 in
theorem runB_dw (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12).2.2.2.2.1 = (loads harg1 harg2 harg3 harg4 harg5 harg6 harg7 harg8 x0 x1 x2 x3 x4 x5 x6 x7).dwPiece arg10 arg11 (View.readAt (Elt F) arg13.view gainR.toLoadRect (harg13.unread xo12)) :: [] := by
  rfl

end Cert.Kernel2Ideal.Unit

end
-- ==== Proof.FfnSteps.lean ====
/- What one grid point of the SwiGLU layer's backward kernel leaves, in real numbers. -/
module

public import proofs.«01_k».proof.Proof.FfnValue
public import proofs.«01_k».proof.Proof.FfnMatchFirst
public import proofs.«01_k».proof.Proof.FfnMatchLater

@[expose] public section

noncomputable section

namespace Cert.Kernel2Ideal.Unit

open Idealize.ShloMosaic hiding ix1 ix2 ix3 ix4
open Idealize.ShloMosaic.TcCoe Cert.Kernel2Ideal Cert.Kernel2Ideal.Gen Idealize.ShloMosaic.ValueIdx
open Idealize.SL.Sem

variable (c : Dev nD) (i : grid0.Coords)
  (arg1 : Memref sig .tc .vmem S320x1024 .f32) (harg1 : arg1.IsWhole)
  (arg2 : Memref sig .tc .vmem S320x1024 .f32) (harg2 : arg2.IsWhole)
  (arg3 : Memref sig .tc .vmem S1x1024 .f32) (harg3 : arg3.IsWhole)
  (arg4 : Memref sig .tc .vmem S320x2816 .bf16) (harg4 : arg4.IsWhole)
  (arg5 : Memref sig .tc .vmem S320x2816 .bf16) (harg5 : arg5.IsWhole)
  (arg6 : Memref sig .tc .vmem S2816x1024 .bf16) (harg6 : arg6.IsWhole)
  (arg7 : Memref sig .tc .vmem S2816x1024 .bf16) (harg7 : arg7.IsWhole)
  (arg8 : Memref sig .tc .vmem S2816x1024 .bf16) (harg8 : arg8.IsWhole)
  (arg9 : Memref sig .tc .vmem S320x1024 .f32) (harg9 : arg9.IsWhole)
  (arg10 : Memref sig .tc .vmem S320x2816 .bf16) (harg10 : arg10.IsWhole)
  (arg11 : Memref sig .tc .vmem S320x2816 .bf16) (harg11 : arg11.IsWhole)
  (arg12 : Memref sig .tc .vmem S320x1024 .bf16) (harg12 : arg12.IsWhole)
  (arg13 : Memref sig .tc .vmem S1x1024 .f32) (harg13 : arg13.IsWhole)
  {x0 x1 : FVec Ideal S320x1024 .f32} {x2 : FVec Ideal S1x1024 .f32} {x3 x4 : FVec Ideal S320x2816 .bf16} {x5 x6 x7 : FVec Ideal S2816x1024 .bf16}
  {R : Reals} (B : Blocks R x0 x1 x2 x3 x4 x5 x6 x7)

include B

/-! The first point. -/

section first
variable (hc : cond0_0 i)

theorem first_dh : Is (φ := .f32) (out0_A_8 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7) R.dh := fun r d => by
  unfold out0_A_8
  rw [View.read_writes_junk_eq_canon, runA_dh]
  exact canon_dh (reads_loads harg1 harg2 harg3 harg4 harg5 harg6 harg7 harg8 x0 x1 x2 x3 x4 x5 x6 x7 B) arg10 arg11 r d

theorem first_gate : Is (φ := .bf16) (out0_A_9 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7) R.dgate := fun r d => by
  unfold out0_A_9
  rw [View.read_writes_junk_eq_canon, runA_gate]
  exact canon_gate (reads_loads harg1 harg2 harg3 harg4 harg5 harg6 harg7 harg8 x0 x1 x2 x3 x4 x5 x6 x7 B) r d

theorem first_up : Is (φ := .bf16) (out0_A_10 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7) R.dup := fun r d => by
  unfold out0_A_10
  rw [View.read_writes_junk_eq_canon, runA_up]
  exact canon_up (reads_loads harg1 harg2 harg3 harg4 harg5 harg6 harg7 harg8 x0 x1 x2 x3 x4 x5 x6 x7 B) r d

theorem first_dy : Is (φ := .bf16) (out0_A_11 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7) R.dy := fun r d => by
  unfold out0_A_11
  rw [View.read_writes_junk_eq_canon, runA_dy]
  exact canon_dy (reads_loads harg1 harg2 harg3 harg4 harg5 harg6 harg7 harg8 x0 x1 x2 x3 x4 x5 x6 x7 B) r d

theorem first_dw : IsRow (out0_A_12 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7) fun d => 0 + R.dw d := by
  unfold out0_A_12
  rw [View.read_writes_junk_eq_canon, runA_dw]
  exact canon_dw (reads_loads harg1 harg2 harg3 harg4 harg5 harg6 harg7 harg8 x0 x1 x2 x3 x4 x5 x6 x7 B) arg10 arg11 (canon_fill arg13) dwFill

end first

/-! A later point. -/

section later
variable (hc : ¬cond0_0 i) {xo12 : FVec Ideal S1x1024 .f32}

theorem later_dh : Is (φ := .f32) (out0_B_8 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12) R.dh := fun r d => by
  unfold out0_B_8
  rw [View.read_writes_junk_eq_canon, runB_dh]
  exact canon_dh (reads_loads harg1 harg2 harg3 harg4 harg5 harg6 harg7 harg8 x0 x1 x2 x3 x4 x5 x6 x7 B) arg10 arg11 r d

theorem later_gate : Is (φ := .bf16) (out0_B_9 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12) R.dgate := fun r d => by
  unfold out0_B_9
  rw [View.read_writes_junk_eq_canon, runB_gate]
  exact canon_gate (reads_loads harg1 harg2 harg3 harg4 harg5 harg6 harg7 harg8 x0 x1 x2 x3 x4 x5 x6 x7 B) r d

theorem later_up : Is (φ := .bf16) (out0_B_10 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12) R.dup := fun r d => by
  unfold out0_B_10
  rw [View.read_writes_junk_eq_canon, runB_up]
  exact canon_up (reads_loads harg1 harg2 harg3 harg4 harg5 harg6 harg7 harg8 x0 x1 x2 x3 x4 x5 x6 x7 B) r d

theorem later_dy : Is (φ := .bf16) (out0_B_11 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12) R.dy := fun r d => by
  unfold out0_B_11
  rw [View.read_writes_junk_eq_canon, runB_dy]
  exact canon_dy (reads_loads harg1 harg2 harg3 harg4 harg5 harg6 harg7 harg8 x0 x1 x2 x3 x4 x5 x6 x7 B) r d

theorem later_dw {f : Fin 1024 → ℝ} (hf : IsRow xo12 f) : IsRow (out0_B_12 (F := Ideal) c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo12) fun d => f d + R.dw d := by
  unfold out0_B_12
  rw [View.read_writes_junk_eq_canon, runB_dw]
  exact canon_dw (reads_loads harg1 harg2 harg3 harg4 harg5 harg6 harg7 harg8 x0 x1 x2 x3 x4 x5 x6 x7 B) arg10 arg11 (fun d => ((harg13.readAt_unread _ _ _).trans (congrArg xo12 (gainR_idx d))).trans (hf d)) []

end later

end Cert.Kernel2Ideal.Unit

end
-- ==== Proof.FfnChain.lean ====
/- The walk over the twenty-six points: what each leaves in its blocks and in the gain's gradient. -/
module

public import proofs.«01_k».proof.Proof.FfnSteps

@[expose] public section

noncomputable section

namespace Cert.Kernel2Ideal.Unit

open Idealize.ShloMosaic hiding ix1 ix2 ix3 ix4
open Idealize.ShloMosaic.TcCoe Cert.Kernel2Ideal Cert.Kernel2Ideal.Gen Idealize.ShloMosaic.ValueIdx
open Idealize.SL.Sem
open Cert.Ffn (In xh)

/-- Row `r` of point `n`'s blocks. -/
def tok (n : ℕ) (r : Fin 320) : Fin 8320 := ⟨(320 * n + r.val) % 8320, Nat.mod_lt _ (by norm_num)⟩

theorem tok_val {n : ℕ} (hn : n < 26) (r : Fin 320) : (tok n r).val = 320 * n + r.val := by
  show (320 * n + r.val) % 8320 = _
  omega

/-- The reals of point `n`. -/
def point (X : In) (n : ℕ) : Reals where
  g r := X.g (tok n r)
  h r := X.h (tok n r)
  w := X.w
  dag r := X.dag (tok n r)
  dau r := X.dau (tok n r)
  wg f d := X.wg d f
  wu f d := X.wu d f
  wd := X.wd

/-- The twenty-six points' shares of the gain's gradient add up to it. -/
theorem dw_total (X : In) (d : Fin 1024) : ∑ n ∈ Finset.range 26, (point X n).dw d = X.dw d := by
  have e : ∑ n : Fin 26, (point X n.val).dw d = X.dw d := by
    show ∑ n : Fin 26, ∑ r : Fin 320, X.dn (tok n.val r) d * xh (X.h (tok n.val r)) d = ∑ t : Fin 8320, X.dn t d * xh (X.h t) d
    rw [← Fintype.sum_prod_type' (f := fun (n : Fin 26) (r : Fin 320) => X.dn (tok n.val r) d * xh (X.h (tok n.val r)) d)]
    refine Fintype.sum_equiv (finProdFinEquiv : Fin 26 × Fin 320 ≃ Fin (26 * 320)) _ (fun t : Fin 8320 => X.dn t d * xh (X.h t) d) fun p => ?_
    have hp : tok p.1.val p.2 = (finProdFinEquiv p : Fin (26 * 320)) := Fin.ext (by rw [tok_val p.1.isLt]; show _ = p.2.val + 320 * p.1.val; omega)
    rw [hp]
  rw [← e, Finset.sum_range]

variable (m : (ℓ : Loc nD τ sig) → Buf (Elt Ideal) ℓ) (c : Dev nD) (X : In)

/-- The blocks every point finds are those of the arrays' rows. -/
def BlocksAt : Prop := ∀ t : Fin cfg0.N, Blocks (point X t.val) (iblk m c 0 t) (iblk m c 1 t) (iblk m c 2 t) (iblk m c 3 t) (iblk m c 4 t) (iblk m c 5 t) (iblk m c 6 t) (iblk m c 7 t)

/-- What a point leaves. -/
structure Left (n : ℕ) (x : Vec Ideal S320x1024 .f32 × Vec Ideal S320x2816 .bf16 × Vec Ideal S320x2816 .bf16 × Vec Ideal S320x1024 .bf16 × Vec Ideal S1x1024 .f32) : Prop where
  dh : Is (φ := .f32) x.1 (point X n).dh
  gate : Is (φ := .bf16) x.2.1 (point X n).dgate
  up : Is (φ := .bf16) x.2.2.1 (point X n).dup
  dy : Is (φ := .bf16) x.2.2.2.1 (point X n).dy
  dw : IsRow x.2.2.2.2 fun d => ∑ s ∈ Finset.range (n + 1), (point X s).dw d

variable {m c X}

theorem dh_first (t : Fin cfg0.N) (h0 : t.val % 26 = 0) {R : Reals} (B : Blocks R (iblk m c 0 t) (iblk m c 1 t) (iblk m c 2 t) (iblk m c 3 t) (iblk m c 4 t) (iblk m c 5 t) (iblk m c 6 t) (iblk m c 7 t)) : Is (φ := .f32) (outsAt0 m c t.val t.isLt).1 R.dh := by
  rw [outsAt0_A m c t h0]
  dsimp only
  exact first_dh c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B ((hcond0_0 t).mpr h0)

theorem gate_first (t : Fin cfg0.N) (h0 : t.val % 26 = 0) {R : Reals} (B : Blocks R (iblk m c 0 t) (iblk m c 1 t) (iblk m c 2 t) (iblk m c 3 t) (iblk m c 4 t) (iblk m c 5 t) (iblk m c 6 t) (iblk m c 7 t)) : Is (φ := .bf16) (outsAt0 m c t.val t.isLt).2.1 R.dgate := by
  rw [outsAt0_A m c t h0]
  dsimp only
  exact first_gate c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B ((hcond0_0 t).mpr h0)

theorem up_first (t : Fin cfg0.N) (h0 : t.val % 26 = 0) {R : Reals} (B : Blocks R (iblk m c 0 t) (iblk m c 1 t) (iblk m c 2 t) (iblk m c 3 t) (iblk m c 4 t) (iblk m c 5 t) (iblk m c 6 t) (iblk m c 7 t)) : Is (φ := .bf16) (outsAt0 m c t.val t.isLt).2.2.1 R.dup := by
  rw [outsAt0_A m c t h0]
  dsimp only
  exact first_up c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B ((hcond0_0 t).mpr h0)

theorem dy_first (t : Fin cfg0.N) (h0 : t.val % 26 = 0) {R : Reals} (B : Blocks R (iblk m c 0 t) (iblk m c 1 t) (iblk m c 2 t) (iblk m c 3 t) (iblk m c 4 t) (iblk m c 5 t) (iblk m c 6 t) (iblk m c 7 t)) : Is (φ := .bf16) (outsAt0 m c t.val t.isLt).2.2.2.1 R.dy := by
  rw [outsAt0_A m c t h0]
  dsimp only
  exact first_dy c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B ((hcond0_0 t).mpr h0)

theorem dw_first (t : Fin cfg0.N) (h0 : t.val % 26 = 0) {R : Reals} (B : Blocks R (iblk m c 0 t) (iblk m c 1 t) (iblk m c 2 t) (iblk m c 3 t) (iblk m c 4 t) (iblk m c 5 t) (iblk m c 6 t) (iblk m c 7 t)) : IsRow (outsAt0 m c t.val t.isLt).2.2.2.2 fun d => 0 + R.dw d := by
  rw [outsAt0_A m c t h0]
  dsimp only
  exact first_dw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B ((hcond0_0 t).mpr h0)

theorem dh_later (t : Fin cfg0.N) (h0 : ¬t.val % 26 = 0) {R : Reals} (B : Blocks R (iblk m c 0 t) (iblk m c 1 t) (iblk m c 2 t) (iblk m c 3 t) (iblk m c 4 t) (iblk m c 5 t) (iblk m c 6 t) (iblk m c 7 t)) : Is (φ := .f32) (outsAt0 m c t.val t.isLt).1 R.dh := by
  rw [outsAt0_B m c t h0]
  dsimp only
  exact later_dh c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B (fun h => h0 ((hcond0_0 t).mp h))

theorem gate_later (t : Fin cfg0.N) (h0 : ¬t.val % 26 = 0) {R : Reals} (B : Blocks R (iblk m c 0 t) (iblk m c 1 t) (iblk m c 2 t) (iblk m c 3 t) (iblk m c 4 t) (iblk m c 5 t) (iblk m c 6 t) (iblk m c 7 t)) : Is (φ := .bf16) (outsAt0 m c t.val t.isLt).2.1 R.dgate := by
  rw [outsAt0_B m c t h0]
  dsimp only
  exact later_gate c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B (fun h => h0 ((hcond0_0 t).mp h))

theorem up_later (t : Fin cfg0.N) (h0 : ¬t.val % 26 = 0) {R : Reals} (B : Blocks R (iblk m c 0 t) (iblk m c 1 t) (iblk m c 2 t) (iblk m c 3 t) (iblk m c 4 t) (iblk m c 5 t) (iblk m c 6 t) (iblk m c 7 t)) : Is (φ := .bf16) (outsAt0 m c t.val t.isLt).2.2.1 R.dup := by
  rw [outsAt0_B m c t h0]
  dsimp only
  exact later_up c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B (fun h => h0 ((hcond0_0 t).mp h))

theorem dy_later (t : Fin cfg0.N) (h0 : ¬t.val % 26 = 0) {R : Reals} (B : Blocks R (iblk m c 0 t) (iblk m c 1 t) (iblk m c 2 t) (iblk m c 3 t) (iblk m c 4 t) (iblk m c 5 t) (iblk m c 6 t) (iblk m c 7 t)) : Is (φ := .bf16) (outsAt0 m c t.val t.isLt).2.2.2.1 R.dy := by
  rw [outsAt0_B m c t h0]
  dsimp only
  exact later_dy c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B (fun h => h0 ((hcond0_0 t).mp h))

theorem dw_later (t : Fin cfg0.N) (h0 : ¬t.val % 26 = 0) (hp : t.val - 1 < cfg0.N) {R : Reals} (B : Blocks R (iblk m c 0 t) (iblk m c 1 t) (iblk m c 2 t) (iblk m c 3 t) (iblk m c 4 t) (iblk m c 5 t) (iblk m c 6 t) (iblk m c 7 t))
    {f : Fin 1024 → ℝ} (hf : IsRow (outsAt0 m c (t.val - 1) hp).2.2.2.2 f) : IsRow (outsAt0 m c t.val t.isLt).2.2.2.2 fun d => f d + R.dw d := by
  rw [outsAt0_B m c t h0]
  dsimp only
  exact later_dw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) B (fun h => h0 ((hcond0_0 t).mp h)) hf

theorem left (hB : BlocksAt m c X) : ∀ n (hn : n < cfg0.N), Left X n (outsAt0 m c n hn)
  | 0, hn => by
    have B := hB ⟨0, hn⟩
    refine ⟨dh_first ⟨0, hn⟩ rfl B, gate_first ⟨0, hn⟩ rfl B, up_first ⟨0, hn⟩ rfl B, dy_first ⟨0, hn⟩ rfl B,
      fun d => (dw_first ⟨0, hn⟩ rfl B d).trans (congrArg Real.toEReal ?_)⟩
    show 0 + _ = ∑ s ∈ Finset.range (0 + 1), (point X s).dw d
    rw [Finset.sum_range_one, zero_add]
  | n + 1, hn => by
    have hN := lt_of_lt_of_eq hn (show cfg0.N = 26 from N_0)
    have h0 : ¬(n + 1) % 26 = 0 := by omega
    have ih := left hB n (by omega)
    have B := hB ⟨n + 1, hn⟩
    refine ⟨dh_later ⟨n + 1, hn⟩ h0 B, gate_later ⟨n + 1, hn⟩ h0 B, up_later ⟨n + 1, hn⟩ h0 B, dy_later ⟨n + 1, hn⟩ h0 B,
      fun d => (dw_later ⟨n + 1, hn⟩ h0 _ B ih.dw d).trans ?_⟩
    exact congrArg Real.toEReal (Finset.sum_range_succ (fun s => (point X s).dw d) (n + 1)).symm

end Cert.Kernel2Ideal.Unit

end
-- ==== Proof.FfnBlockRead.lean ====
/- The blocks a grid point of the SwiGLU layer's backward kernel finds, in real numbers. -/
module

public import proofs.«01_k».proof.Proof.FfnHost
public import proofs.«01_k».proof.Proof.FfnChain
public import proofs.«01_k».proof.Proof.Gen.Kernel2Ideal.Points

@[expose] public section

set_option maxRecDepth 16384

noncomputable section

namespace Cert.Kernel2Ideal.Entry

open Idealize.ShloMosaic hiding ix1 ix2 ix3 ix4
open Idealize.ShloMosaic.TcCoe Cert.Kernel2Ideal Cert.Kernel2Ideal.Gen Cert.Kernel2Ideal.Unit Idealize.ShloMosaic.ValueIdx
open Idealize.SL.Sem
open Cert.Ffn (In)
open Cert.FfnRef (Holds r15 r16 r19_0 r19_1 r19_2)

/-- The block each window is on: point `t` has the `t`-th block of rows. -/
theorem places : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = 0 ∧ win0_12.index t 1 = 0) :=
  (by decide +kernel : ∀ t : Fin grid0.N, _)

variable {m : (ℓ : Loc nD τ sig) → Buf (Elt Ideal) ℓ} {c : Dev nD} {X : In}

/-- The contents the region is launched with. -/
abbrev V0 (m : (ℓ : Loc nD τ sig) → Buf (Elt Ideal) ℓ) (c : Dev nD) : Vals := fun b => m (c, b)

variable (H : Holds X (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))
include H

theorem byGate_read (i : S8320x2816.Idx) : byGate (V0 m c) i = ((X.dag (i 0) (i 1) : ℝ) : EReal) := by
  have e1 := r15 H i
  have e2 := r16 H i
  have e3 := r19_1 H i
  have e4 := r19_2 H i
  show FloatOps.addf (FloatOps.mulf (FloatOps.mulf (Ideal.ofBits .f32 0x3F800000#32) _) _) (FloatOps.mulf (FloatOps.mulf _ (FloatOps.mulf (Ideal.ofBits .f32 0x3F800000#32) _)) _) = _
  refine (congrArg₂ FloatOps.addf (congrArg₂ FloatOps.mulf (congrArg₂ FloatOps.mulf Num.w_one e2) e4)
    (congrArg₂ FloatOps.mulf (congrArg₂ FloatOps.mulf e1 (congrArg₂ FloatOps.mulf Num.w_one e2)) e3)).trans ?_
  simp only [Ideal.mulf_def, Ideal.addf_def, ← EReal.coe_mul, ← EReal.coe_add, one_mul]
  rfl

theorem byUp_read (i : S8320x2816.Idx) : byUp (V0 m c) i = ((X.dau (i 0) (i 1) : ℝ) : EReal) := by
  have e1 := r19_0 H i
  refine (congrArg₂ FloatOps.mulf e1 Num.w_one).trans ?_
  rw [Ideal.mulf_def, ← EReal.coe_mul, mul_one]

theorem block0 (t : Fin cfg0.N) : Is (φ := .f32) (iblk m c 0 t) (point X t.val).g := fun r d => by
  obtain ⟨hp, -⟩ := places t
  have ht : t.val < 26 := lt_of_lt_of_eq t.isLt (show cfg0.N = 26 from N_0)
  have key : ∀ i : S8320x1024.Idx, i = ix2 (tok t.val r) d → V m c main_arg5 i = ((X.g (tok t.val r) d : ℝ) : EReal) := fun i hi => by
    subst hi
    generalize hj : (ix2 (tok t.val r) d : S8320x1024.Idx) = i
    have e : V m c main_arg5 i = ((X.g (i 0) (i 1) : ℝ) : EReal) := by rw [V_main_arg5]; exact H.g i
    rw [e, ← hj]
  refine key _ (funext fun a => Fin.ext ?_)
  match a with
  | ⟨0, _⟩ => show win0_0.index t 0 * 320 + 1 * r.val = (tok t.val r).val; rw [hp.1, tok_val ht]; omega
  | ⟨1, _⟩ => show win0_0.index t 1 * 1024 + 1 * d.val = d.val; rw [hp.2]; omega

theorem block1 (t : Fin cfg0.N) : Is (φ := .f32) (iblk m c 1 t) (point X t.val).h := fun r d => by
  obtain ⟨-, hp, -⟩ := places t
  have ht : t.val < 26 := lt_of_lt_of_eq t.isLt (show cfg0.N = 26 from N_0)
  have key : ∀ i : S8320x1024.Idx, i = ix2 (tok t.val r) d → V m c main_arg0 i = ((X.h (tok t.val r) d : ℝ) : EReal) := fun i hi => by
    subst hi
    generalize hj : (ix2 (tok t.val r) d : S8320x1024.Idx) = i
    have e : V m c main_arg0 i = ((X.h (i 0) (i 1) : ℝ) : EReal) := by rw [V_main_arg0]; exact H.h i
    rw [e, ← hj]
  refine key _ (funext fun a => Fin.ext ?_)
  match a with
  | ⟨0, _⟩ => show win0_1.index t 0 * 320 + 1 * r.val = (tok t.val r).val; rw [hp.1, tok_val ht]; omega
  | ⟨1, _⟩ => show win0_1.index t 1 * 1024 + 1 * d.val = d.val; rw [hp.2]; omega

theorem block3 (t : Fin cfg0.N) : Is (φ := .bf16) (iblk m c 3 t) (point X t.val).dag := fun r d => by
  obtain ⟨-, -, -, hp, -⟩ := places t
  have ht : t.val < 26 := lt_of_lt_of_eq t.isLt (show cfg0.N = 26 from N_0)
  have key : ∀ i : S8320x2816.Idx, i = ix2 (tok t.val r) d → V m c main_v24 i = ((X.dag (tok t.val r) d : ℝ) : EReal) := fun i hi => by
    subst hi
    generalize hj : (ix2 (tok t.val r) d : S8320x2816.Idx) = i
    have e : V m c main_v24 i = ((X.dag (i 0) (i 1) : ℝ) : EReal) := by rw [entry, w5_v24]; exact byGate_read H i
    rw [e, ← hj]
  refine key _ (funext fun a => Fin.ext ?_)
  match a with
  | ⟨0, _⟩ => show win0_3.index t 0 * 320 + 1 * r.val = (tok t.val r).val; rw [hp.1, tok_val ht]; omega
  | ⟨1, _⟩ => show win0_3.index t 1 * 2816 + 1 * d.val = d.val; rw [hp.2]; omega

theorem block4 (t : Fin cfg0.N) : Is (φ := .bf16) (iblk m c 4 t) (point X t.val).dau := fun r d => by
  obtain ⟨-, -, -, -, hp, -⟩ := places t
  have ht : t.val < 26 := lt_of_lt_of_eq t.isLt (show cfg0.N = 26 from N_0)
  have key : ∀ i : S8320x2816.Idx, i = ix2 (tok t.val r) d → V m c main_v25 i = ((X.dau (tok t.val r) d : ℝ) : EReal) := fun i hi => by
    subst hi
    generalize hj : (ix2 (tok t.val r) d : S8320x2816.Idx) = i
    have e : V m c main_v25 i = ((X.dau (i 0) (i 1) : ℝ) : EReal) := by rw [entry, w5_v25]; exact byUp_read H i
    rw [e, ← hj]
  refine key _ (funext fun a => Fin.ext ?_)
  match a with
  | ⟨0, _⟩ => show win0_4.index t 0 * 320 + 1 * r.val = (tok t.val r).val; rw [hp.1, tok_val ht]; omega
  | ⟨1, _⟩ => show win0_4.index t 1 * 2816 + 1 * d.val = d.val; rw [hp.2]; omega

theorem block2 (t : Fin cfg0.N) : IsRow (iblk m c 2 t) X.w := fun d => by
  obtain ⟨-, -, hp, -⟩ := places t
  have key : ∀ i : S1x1024.Idx, (i 1 : Fin 1024) = d → V m c main_arg1 i = ((X.w d : ℝ) : EReal) := fun i hi => by
    rw [V_main_arg1, H.w, hi]
  exact key _ (Fin.ext (by show win0_2.index t 1 * 1024 + 1 * d.val = d.val; rw [hp.2]; omega))

theorem block5 (t : Fin cfg0.N) : Is (φ := .bf16) (iblk m c 5 t) fun f d => X.wg d f := fun f d => by
  obtain ⟨-, -, -, -, -, hp, -⟩ := places t
  have key : ∀ i : S2816x1024.Idx, i = ix2 f d → V m c main_v21 i = ((X.wg d f : ℝ) : EReal) := fun i hi => by
    subst hi
    rw [entry, w5_v21]
    refine (transpose_apply _ _ _ (ix2 f d) (ix2 d f) fun a => ?_).trans (H.wg (ix2 d f))
    match a with
    | ⟨0, _⟩ => rfl
    | ⟨1, _⟩ => rfl
  refine key _ (funext fun a => Fin.ext ?_)
  match a with
  | ⟨0, _⟩ => show win0_5.index t 0 * 2816 + 1 * f.val = f.val; rw [hp.1]; omega
  | ⟨1, _⟩ => show win0_5.index t 1 * 1024 + 1 * d.val = d.val; rw [hp.2]; omega

theorem block6 (t : Fin cfg0.N) : Is (φ := .bf16) (iblk m c 6 t) fun f d => X.wu d f := fun f d => by
  obtain ⟨-, -, -, -, -, -, hp, -⟩ := places t
  have key : ∀ i : S2816x1024.Idx, i = ix2 f d → V m c main_v23 i = ((X.wu d f : ℝ) : EReal) := fun i hi => by
    subst hi
    rw [entry, w5_v23]
    refine (transpose_apply _ _ _ (ix2 f d) (ix2 d f) fun a => ?_).trans (H.wu (ix2 d f))
    match a with
    | ⟨0, _⟩ => rfl
    | ⟨1, _⟩ => rfl
  refine key _ (funext fun a => Fin.ext ?_)
  match a with
  | ⟨0, _⟩ => show win0_6.index t 0 * 2816 + 1 * f.val = f.val; rw [hp.1]; omega
  | ⟨1, _⟩ => show win0_6.index t 1 * 1024 + 1 * d.val = d.val; rw [hp.2]; omega

theorem block7 (t : Fin cfg0.N) : Is (φ := .bf16) (iblk m c 7 t) X.wd := fun f d => by
  obtain ⟨-, -, -, -, -, -, -, hp, -⟩ := places t
  have key : ∀ i : S2816x1024.Idx, i = ix2 f d → V m c main_v26 i = ((X.wd f d : ℝ) : EReal) := fun i hi => by
    subst hi
    rw [entry, w5_v26]
    exact H.wd (ix2 f d)
  refine key _ (funext fun a => Fin.ext ?_)
  match a with
  | ⟨0, _⟩ => show win0_7.index t 0 * 2816 + 1 * f.val = f.val; rw [hp.1]; omega
  | ⟨1, _⟩ => show win0_7.index t 1 * 1024 + 1 * d.val = d.val; rw [hp.2]; omega

/-- All eight blocks of every point. -/
theorem blocks : BlocksAt m c X := fun t =>
  ⟨block0 H t, block1 H t, block2 H t, block3 H t, block4 H t, block5 H t, block6 H t, block7 H t⟩

end Cert.Kernel2Ideal.Entry

end
-- ==== Proof.FfnFinal.lean ====
/- The five results the SwiGLU layer's backward kernel leaves, in real numbers. -/
module

public import proofs.«01_k».proof.Proof.FfnBlockRead
public import proofs.«01_k».proof.Proof.Gen.Kernel2Ideal.Value

@[expose] public section

set_option maxRecDepth 16384

noncomputable section

namespace Cert.Kernel2Ideal.Entry

open Idealize.ShloMosaic hiding ix1 ix2 ix3 ix4
open Idealize.ShloMosaic.TcCoe Cert.Kernel2Ideal Cert.Kernel2Ideal.Gen Cert.Kernel2Ideal.Unit Idealize.ShloMosaic.ValueIdx
open Idealize.SL.Sem
open Cert.Ffn (In)
open Cert.FfnRef (Holds)

variable {m : (ℓ : Loc nD τ sig) → Buf (Elt Ideal) ℓ} {c : Dev nD} {X : In}
variable (H : Holds X (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))

/-- The point a row belongs to. -/
theorem row_point (s : Fin 8320) : ∃ (t : Fin cfg0.N) (r : Fin 320), s.val = 320 * t.val + r.val ∧ tok t.val r = s := by
  have hN : cfg0.N = 26 := N_0
  have hs : s.val / 320 < 26 := by omega
  refine ⟨⟨s.val / 320, by rw [hN]; omega⟩, ⟨s.val % 320, Nat.mod_lt _ (by norm_num)⟩, ?_, Fin.ext ?_⟩
  · show s.val = 320 * (s.val / 320) + s.val % 320; omega
  · rw [tok_val hs]; show 320 * (s.val / 320) + s.val % 320 = s.val; omega

include H

theorem dh_read (i : S8320x1024.Idx) : (dats m 0 c).arrAt 8 cfg0.N i = ((X.dh (i 0) (i 1) : ℝ) : EReal) := by
  obtain ⟨t, r, hr, ht⟩ := row_point (i 0)
  obtain ⟨-, -, -, -, -, -, -, -, hp, -⟩ := places t
  have e := congrFun (Value.blocks8 m c t (flush0_8 t)) (ix2 r (i 1))
  rw [Value.flushed8] at e
  have e2 : _ = ((X.dh (tok t.val r) (i 1) : ℝ) : EReal) := (left (blocks H) t.val t.isLt).dh r (i 1)
  rw [ht] at e2
  refine Eq.trans ?_ (e.trans e2)
  refine congrArg ((dats m 0 c).arrAt 8 cfg0.N) (funext fun a => Fin.ext ?_)
  match a with
  | ⟨0, _⟩ => show (i 0).val = win0_8.index t 0 * 320 + 1 * r.val; rw [hp.1, hr]; omega
  | ⟨1, _⟩ => show (i 1).val = win0_8.index t 1 * 1024 + 1 * (i 1).val; rw [hp.2]; omega

theorem gate_read (i : S8320x2816.Idx) : (dats m 0 c).arrAt 9 cfg0.N i = ((X.dgate (i 0) (i 1) : ℝ) : EReal) := by
  obtain ⟨t, r, hr, ht⟩ := row_point (i 0)
  obtain ⟨-, -, -, -, -, -, -, -, -, hp, -⟩ := places t
  have e := congrFun (Value.blocks9 m c t (flush0_9 t)) (ix2 r (i 1))
  rw [Value.flushed9] at e
  have e2 : _ = ((X.dgate (tok t.val r) (i 1) : ℝ) : EReal) := (left (blocks H) t.val t.isLt).gate r (i 1)
  rw [ht] at e2
  refine Eq.trans ?_ (e.trans e2)
  refine congrArg ((dats m 0 c).arrAt 9 cfg0.N) (funext fun a => Fin.ext ?_)
  match a with
  | ⟨0, _⟩ => show (i 0).val = win0_9.index t 0 * 320 + 1 * r.val; rw [hp.1, hr]; omega
  | ⟨1, _⟩ => show (i 1).val = win0_9.index t 1 * 2816 + 1 * (i 1).val; rw [hp.2]; omega

theorem up_read (i : S8320x2816.Idx) : (dats m 0 c).arrAt 10 cfg0.N i = ((X.dup (i 0) (i 1) : ℝ) : EReal) := by
  obtain ⟨t, r, hr, ht⟩ := row_point (i 0)
  obtain ⟨-, -, -, -, -, -, -, -, -, -, hp, -⟩ := places t
  have e := congrFun (Value.blocks10 m c t (flush0_10 t)) (ix2 r (i 1))
  rw [Value.flushed10] at e
  have e2 : _ = ((X.dup (tok t.val r) (i 1) : ℝ) : EReal) := (left (blocks H) t.val t.isLt).up r (i 1)
  rw [ht] at e2
  refine Eq.trans ?_ (e.trans e2)
  refine congrArg ((dats m 0 c).arrAt 10 cfg0.N) (funext fun a => Fin.ext ?_)
  match a with
  | ⟨0, _⟩ => show (i 0).val = win0_10.index t 0 * 320 + 1 * r.val; rw [hp.1, hr]; omega
  | ⟨1, _⟩ => show (i 1).val = win0_10.index t 1 * 2816 + 1 * (i 1).val; rw [hp.2]; omega

theorem dy_read (i : S8320x1024.Idx) : (dats m 0 c).arrAt 11 cfg0.N i = ((X.dy (i 0) (i 1) : ℝ) : EReal) := by
  obtain ⟨t, r, hr, ht⟩ := row_point (i 0)
  obtain ⟨-, -, -, -, -, -, -, -, -, -, -, hp, -⟩ := places t
  have e := congrFun (Value.blocks11 m c t (flush0_11 t)) (ix2 r (i 1))
  rw [Value.flushed11] at e
  have e2 : _ = ((X.dy (tok t.val r) (i 1) : ℝ) : EReal) := (left (blocks H) t.val t.isLt).dy r (i 1)
  rw [ht] at e2
  refine Eq.trans ?_ (e.trans e2)
  refine congrArg ((dats m 0 c).arrAt 11 cfg0.N) (funext fun a => Fin.ext ?_)
  match a with
  | ⟨0, _⟩ => show (i 0).val = win0_11.index t 0 * 320 + 1 * r.val; rw [hp.1, hr]; omega
  | ⟨1, _⟩ => show (i 1).val = win0_11.index t 1 * 1024 + 1 * (i 1).val; rw [hp.2]; omega

omit H in
/-- Only the last point writes the gain's gradient back. -/
theorem once (t t' : Fin cfg0.N) (h : (cfg0.win 12).flush t = true) (h' : (cfg0.win 12).flush t' = true) : t = t' := by
  have h1 := (flush0_12 t).mp h
  have h2 := (flush0_12 t').mp h'
  have h3 := lt_of_lt_of_eq t.isLt (show cfg0.N = 26 from N_0)
  have h4 := lt_of_lt_of_eq t'.isLt (show cfg0.N = 26 from N_0)
  exact Fin.ext (by omega)

theorem dw_last (t : Fin cfg0.N) (ht : t.val = 25) (d : Fin 1024) :
    ((cfg0.win 12).cut (grid0.coords t) ((outsAt0 m c t.val t.isLt).2.2.2.2) : FVec Ideal S1x1024 .f32) (ix2 0 d) = ((X.dw d : ℝ) : EReal) := by
  refine ((left (blocks H) t.val t.isLt).dw d).trans (congrArg (fun x : ℝ => (x : EReal)) ?_)
  show ∑ s ∈ Finset.range (t.val + 1), (point X s).dw d = _
  rw [ht]
  exact dw_total X d

theorem dw_array (t : Fin cfg0.N) (ht : t.val = 25) (i : S1x1024.Idx) :
    (dats m 0 c).arrAt 12 cfg0.N i = ((X.dw (i 1) : ℝ) : EReal) := by
  have hf : (cfg0.win 12).flush t = true := (flush0_12 t).mpr (by rw [ht])
  obtain ⟨-, -, -, -, -, -, -, -, -, -, -, -, hp⟩ := places t
  have e := congrFun ((dats m 0 c).read_blk_arrAt_eq_flushed 12 (fun t t' h h' hne => absurd (once t t' h h') hne) cfg0.N t t.isLt hf) (ix2 0 (i 1))
  rw [Value.flushed12] at e
  refine Eq.trans ?_ (e.trans (dw_last H t ht (i 1)))
  refine congrArg ((dats m 0 c).arrAt 12 cfg0.N) (funext fun a => Fin.ext ?_)
  match a with
  | ⟨0, _⟩ => show (i 0).val = win0_12.index t 0 * 1 + 1 * 0; rw [hp.1]; have : (i 0).val < 1 := (i 0).isLt; omega
  | ⟨1, _⟩ => show (i 1).val = win0_12.index t 1 * 1024 + 1 * (i 1).val; rw [hp.2]; omega

theorem dw_read (i : S1x1024.Idx) : (dats m 0 c).arrAt 12 cfg0.N i = ((X.dw (i 1) : ℝ) : EReal) :=
  dw_array H ⟨25, by rw [show cfg0.N = 26 from N_0]; decide⟩ rfl i

end Cert.Kernel2Ideal.Entry

end
-- ==== Proof.FfnInputs.lean ====
/- What the second precondition says: the six arrays hold real numbers. -/
module

public import proofs.«01_k».proof.Pre_finite2
public import proofs.«01_k».proof.Proof.Gen.Pre_finite2
public import proofs.«01_k».proof.Proof.FfnRef
public import Idealize.ShloMosaic.Lib.ReduceAll
public import Idealize.ShloMosaic.Lib.Pointwise.Select

@[expose] public section

noncomputable section

namespace Cert.FfnInputs

open Idealize.ShloMosaic hiding ix1 ix2 ix3 ix4
open Idealize.ShloMosaic.ValueIdx Cert.Pre_finite2
open Cert.FfnRef (Holds)
open Cert.Ffn (In)

instance : Subsingleton S_.Idx := ⟨fun a b => funext fun k => k.elim0⟩

/-- A value whose absolute value is below infinity is a real number. -/
theorem real_of_abs_lt (x : EReal) (h : FloatOps.cmpf .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h1 : Ideal.cmp .olt (max x (-x)) (Ideal.ofBits .f32 0x7F800000#32) = 1#1 := h
  rw [htop] at h1
  have h2 := max_lt_iff.mp ((Ideal.cmp_olt_eq_one _ _).mp h1)
  refine (EReal.coe_toReal h2.1.ne fun hb => ?_).symm
  rw [hb] at h2
  exact absurd h2.2 (by simp)

variable (x0 : FVec Ideal S8320x1024 .f32) (x1 : FVec Ideal S1x1024 .f32) (x2 x3 : FVec Ideal S1024x2816 .f32) (x4 : FVec Ideal S2816x1024 .f32) (x5 : FVec Ideal S8320x1024 .f32)

/-- The real numbers the six arrays hold. -/
def reals : In where
  h t d := EReal.toReal (x0 (ix2 (n0 := 8320) (n1 := 1024) t d))
  w d := EReal.toReal (x1 (ix2 (n0 := 1) (n1 := 1024) 0 d))
  wg d f := EReal.toReal (x2 (ix2 (n0 := 1024) (n1 := 2816) d f))
  wu d f := EReal.toReal (x3 (ix2 (n0 := 1024) (n1 := 2816) d f))
  wd f d := EReal.toReal (x4 (ix2 (n0 := 2816) (n1 := 1024) f d))
  g t d := EReal.toReal (x5 (ix2 (n0 := 8320) (n1 := 1024) t d))

/-- An entry named by its two coordinates. -/
theorem named {a b : ℕ} (x : FVec Ideal ⟨2, ![a, b]⟩ .f32) (i : (⟨2, ![a, b]⟩ : Shape).Idx) (r : Fin a) (hr : r = i 0)
    (h : x i = ((EReal.toReal (x i) : ℝ) : EReal)) : x i = ((EReal.toReal (x (ix2 (n0 := a) (n1 := b) r (i 1))) : ℝ) : EReal) := by
  subst hr
  refine h.trans (congrArg (fun y : EReal => ((EReal.toReal y : ℝ) : EReal)) (congrArg x (funext fun a => ?_)))
  match a with
  | ⟨0, _⟩ => rfl
  | ⟨1, _⟩ => rfl

/-- Under the precondition the six arrays hold real numbers. -/
theorem holds (e : Cert.Pre_finite2.fn (F := Ideal) x0 x1 x2 x3 x4 x5 = fun _ => 1#1) : Holds (reals x0 x1 x2 x3 x4 x5) x0 x1 x2 x3 x4 x5 := by
  have e1 := congrFun e (fun k => k.elim0)
  dsimp only [Cert.Pre_finite2.fn] at e1
  have s5 := IntOp.andi_eq_one.mp e1
  have s4 := IntOp.andi_eq_one.mp s5.1
  have s3 := IntOp.andi_eq_one.mp s4.1
  have s2 := IntOp.andi_eq_one.mp s3.1
  have s1 := IntOp.andi_eq_one.mp s2.1
  have p0 := Host.reduce_andi_all _ _ _ _ _ s1.1
  have p1 := Host.reduce_andi_all _ _ _ _ _ s1.2
  have p2 := Host.reduce_andi_all _ _ _ _ _ s2.2
  have p3 := Host.reduce_andi_all _ _ _ _ _ s3.2
  have p4 := Host.reduce_andi_all _ _ _ _ _ s4.2
  have p5 := Host.reduce_andi_all _ _ _ _ _ s5.2
  exact ⟨fun i => named x0 i (i 0) rfl (real_of_abs_lt _ (p0 i)),
    fun i => named x1 i (0 : Fin 1) (Subsingleton.elim _ _) (real_of_abs_lt _ (p1 i)),
    fun i => named x2 i (i 0) rfl (real_of_abs_lt _ (p2 i)), fun i => named x3 i (i 0) rfl (real_of_abs_lt _ (p3 i)),
    fun i => named x4 i (i 0) rfl (real_of_abs_lt _ (p4 i)), fun i => named x5 i (i 0) rfl (real_of_abs_lt _ (p5 i))⟩

end Cert.FfnInputs

end
-- ==== Proof.FfnAgree.lean ====
/- Both programs of the SwiGLU layer's backward pass leave the same five arrays. -/
module

public import proofs.«01_k».proof.Proof.FfnFinal
public import proofs.«01_k».proof.Proof.FfnInputs

@[expose] public section

noncomputable section

namespace Cert.FfnAgree

open Idealize.ShloMosaic Idealize.ShloMosaic.TcCoe Idealize.SL.Sem
open Cert.Kernel2Ideal Cert.Kernel2Ideal.Gen Cert.Kernel2Ideal.Entry
open Cert.Reference2Ideal.Read (val_main_v48 val_main_v49 val_main_v50 val_main_v51 val_main_v31)

variable {m : (ℓ : Loc nD τ sig) → Buf (Elt Ideal) ℓ} {c : Dev nD}
variable (e : Cert.Pre_finite2.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1)
include e

/-- The gradient of the layer's input. -/
theorem rows : val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 8 cfg0.N := by
  have H := Cert.FfnInputs.holds _ _ _ _ _ _ e
  funext i
  exact (Cert.FfnRef.r48 H i).trans (dh_read H i).symm

/-- The gradient of the gate. -/
theorem gates : val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 9 cfg0.N := by
  have H := Cert.FfnInputs.holds _ _ _ _ _ _ e
  funext i
  exact (Cert.FfnRef.r25 H i).trans (gate_read H i).symm

/-- The gradient of the other factor. -/
theorem ups : val_main_v50 (F := Ideal) (m ((c : Thread nD τ).loc main_arg0)) (m ((c : Thread nD τ).loc main_arg1)) (m ((c : Thread nD τ).loc main_arg2)) (m ((c : Thread nD τ).loc main_arg4)) (m ((c : Thread nD τ).loc main_arg5)) = (dats m 0 c).arrAt 10 cfg0.N := by
  have H := Cert.FfnInputs.holds _ _ _ _ _ _ e
  funext i
  exact (Cert.FfnRef.r23 H i).trans (up_read H i).symm

/-- The gradient of the layer's output, scaled. -/
theorem outs : val_main_v51 (F := Ideal) (m ((c : Thread nD τ).loc main_arg5)) = (dats m 0 c).arrAt 11 cfg0.N := by
  have H := Cert.FfnInputs.holds _ _ _ _ _ _ e
  funext i
  exact (Cert.FfnRef.r18 H i).trans (dy_read H i).symm

/-- The gradient of the gain. -/
theorem gains : val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 12 cfg0.N := by
  have H := Cert.FfnInputs.holds _ _ _ _ _ _ e
  funext i
  exact (Cert.FfnRef.r31 H i).trans (dw_read H i).symm

end Cert.FfnAgree

end
-- ==== Proof.GradTiles.lean ====
/- How the weight gradient's kernel turns the second factor: 13 tiles of 640 rows pass through two slots and are stored
   transposed, side by side. -/
module

public import Idealize.ShloMosaic.Lib.Pipeline.FrameBody
public import Idealize.ShloMosaic.Lib.Pipeline.CanonAppend
public import Idealize.ShloMosaic.Lib.KernelVsHost
public import Idealize.ShloMosaic.Lib.ValueLayout
public import Idealize.ShloMosaic.Lib.ValueLayoutCasts
public import Idealize.ShloMosaic.Lib.Ring

@[expose] public section

noncomputable section

namespace Cert.Grad

open Idealize.ShloMosaic
open Idealize.ShloMosaic.TcCoe Idealize.ShloMosaic.ValueIdx Idealize.SL.Sem

/-- The second factor, a tile of it, the same without the unit axis, turned, the two slots, and all tiles turned. -/
abbrev Whole : Shape := ⟨3, ![1, 8320, 1024]⟩
abbrev Tile : Shape := ⟨3, ![1, 640, 1024]⟩
abbrev Flat : Shape := ⟨2, ![640, 1024]⟩
abbrev Turned : Shape := ⟨2, ![1024, 640]⟩
abbrev Slots : Shape := ⟨3, ![2, 640, 1024]⟩
abbrev Side : Shape := ⟨2, ![1024, 8320]⟩

variable {F : FTy → Type} [FloatOps F]

theorem inb_slot (k : Fin 2) (a : Fin 3) : (![k.val, 0, 0] : Fin 3 → ℕ) a + Tile.size a ≤ Slots.size a := by
  revert k a; decide
theorem inb_src (r : Fin 13) (a : Fin 3) : (![0, 640 * r.val, 0] : Fin 3 → ℕ) a + Tile.size a ≤ Whole.size a := by
  revert r a; decide
theorem inb_col (r : Fin 13) (a : Fin 2) : (![0, 640 * r.val] : Fin 2 → ℕ) a + Turned.size a ≤ Side.size a := by
  revert r a; decide

/-- A slot, the rows of a tile, and the columns it is stored in. -/
def slotR (k : Fin 2) : Rect Slots := Rect.unit ![k.val, 0, 0] Tile.size (inb_slot k)
def srcR (r : Fin 13) : Rect Whole := Rect.unit ![0, 640 * r.val, 0] Tile.size (inb_src r)
def colR (r : Fin 13) : Rect Side := Rect.unit ![0, 640 * r.val] Turned.size (inb_col r)

/-- The slot of a tile: they alternate. -/
def par (r : Fin 13) : Fin 2 := ⟨r.val % 2, Nat.mod_lt _ (by norm_num)⟩

theorem inb_all (n m : ℕ) (a : Fin 2) : (![0, 0] : Fin 2 → ℕ) a + (⟨2, ![n, m]⟩ : Shape).size a ≤ (⟨2, ![n, m]⟩ : Shape).size a := by
  match a with
  | ⟨0, _⟩ => exact (Nat.zero_add _).le
  | ⟨1, _⟩ => exact (Nat.zero_add _).le

/-- All of a block. -/
def allR (n m : ℕ) : Rect ⟨2, ![n, m]⟩ := Rect.unit ![0, 0] (⟨2, ![n, m]⟩ : Shape).size (inb_all n m)

/-- Tile `r` of the second factor. -/
def tile (b : Vec F Whole .bf16) (r : Fin 13) : Vec F Tile .bf16 := fun j => b ((srcR r).emb j)

/-- The arrival of tile `r` in its slot. -/
def arrival (b : Vec F Whole .bf16) (r : Fin 13) : View.Piece (Elt F) Slots .bf16 := ⟨slotR (par r), tile b r⟩

/-- The arrivals before tile `r` is read, the last first. The next tile has been sent for by then. -/
def arrivals (b : Vec F Whole .bf16) : Fin 13 → List (View.Piece (Elt F) Slots .bf16)
  | 0 => [1, 0].map (arrival b)
  | 1 => [2, 1, 0].map (arrival b)
  | 2 => [3, 2, 1, 0].map (arrival b)
  | 3 => [4, 3, 2, 1, 0].map (arrival b)
  | 4 => [5, 4, 3, 2, 1, 0].map (arrival b)
  | 5 => [6, 5, 4, 3, 2, 1, 0].map (arrival b)
  | 6 => [7, 6, 5, 4, 3, 2, 1, 0].map (arrival b)
  | 7 => [8, 7, 6, 5, 4, 3, 2, 1, 0].map (arrival b)
  | 8 => [9, 8, 7, 6, 5, 4, 3, 2, 1, 0].map (arrival b)
  | 9 => [10, 9, 8, 7, 6, 5, 4, 3, 2, 1, 0].map (arrival b)
  | 10 => [11, 10, 9, 8, 7, 6, 5, 4, 3, 2, 1, 0].map (arrival b)
  | 11 => [12, 11, 10, 9, 8, 7, 6, 5, 4, 3, 2, 1, 0].map (arrival b)
  | 12 => [12, 11, 10, 9, 8, 7, 6, 5, 4, 3, 2, 1, 0].map (arrival b)

/-- A tile turned. -/
def turn (x : Vec F Tile .bf16) : FVec F Turned .bf16 :=
  shapeCast Turned (transpose Turned [1, 0] (shapeCast Flat x rfl : FVec F Flat .bf16) (by decide) : FVec F Turned .bf16) rfl

section
variable {sig : RefSig} (stage : Memref sig .tc .vmem Slots .bf16)

/-- The store of tile `r`, turned, read out of its slot. -/
def piece (b : Vec F Whole .bf16) (r : Fin 13) : View.Piece (Elt F) Side .bf16 :=
  ⟨colR r, turn (stage.view.readCov (arrivals b r) (slotR (par r)).toLoadRect)⟩

/-- All of them, the last first. -/
def pieces (b : Vec F Whole .bf16) : List (View.Piece (Elt F) Side .bf16) :=
  [12, 11, 10, 9, 8, 7, 6, 5, 4, 3, 2, 1, 0].map (piece stage b)

end

end Cert.Grad

end
-- ==== Proof.GradTurned.lean ====
/- What the turned second factor holds once all its tiles are stored. -/
module

public import proofs.«01_k».proof.Proof.GradTiles
public import Idealize.ShloMosaic.Lib.WholeRead

@[expose] public section

noncomputable section

namespace Cert.Grad

open Idealize.ShloMosaic
open Idealize.ShloMosaic.TcCoe Idealize.ShloMosaic.ValueIdx Idealize.SL.Sem

variable {F : FTy → Type} [FloatOps F] {sig : RefSig} (stage : Memref sig .tc .vmem Slots .bf16) (b : Vec F Whole .bf16)

/-- The two slots share nothing. -/
theorem slots_apart (k k' : Fin 2) (h : k ≠ k') : Disjoint (slotR k).set (slotR k').toLoadRect.set := by
  refine Finset.disjoint_left.mpr fun i h1 h2 => h (Fin.ext ?_)
  obtain ⟨j, hj, e⟩ := (LoadRect.mem_set _).mp h1 0
  obtain ⟨j', hj', e'⟩ := (LoadRect.mem_set _).mp h2 0
  have z : j < 1 := hj
  have z' : j' < 1 := hj'
  have u : (i 0).val = k.val + 1 * j := e
  have u' : (i 0).val = k'.val + 1 * j' := e'
  omega

/-- A tile that arrived last is read. -/
theorem read_last (r : Fin 13) (L : List (View.Piece (Elt F) Slots .bf16)) :
    stage.view.readCov (arrival b r :: L) (slotR (par r)).toLoadRect = tile b r :=
  View.readCov_cons_toLoadRect stage.view (slotR (par r)) (tile b r) L

/-- So is one after which another arrived in the other slot. -/
theorem read_before (r q : Fin 13) (h : par q ≠ par r) (L : List (View.Piece (Elt F) Slots .bf16)) :
    stage.view.readCov (arrival b q :: arrival b r :: L) (slotR (par r)).toLoadRect = tile b r :=
  (View.readCov_cons_of_disjoint stage.view (arrival b q) (arrival b r :: L) (slotR (par r)).toLoadRect (slots_apart _ _ h)).trans (read_last stage b r L)

/-- What is turned is the tile. -/
theorem read_tile : ∀ r : Fin 13, stage.view.readCov (arrivals b r) (slotR (par r)).toLoadRect = tile b r
  | 0 => read_before stage b 0 1 (by decide) _
  | 1 => read_before stage b 1 2 (by decide) _
  | 2 => read_before stage b 2 3 (by decide) _
  | 3 => read_before stage b 3 4 (by decide) _
  | 4 => read_before stage b 4 5 (by decide) _
  | 5 => read_before stage b 5 6 (by decide) _
  | 6 => read_before stage b 6 7 (by decide) _
  | 7 => read_before stage b 7 8 (by decide) _
  | 8 => read_before stage b 8 9 (by decide) _
  | 9 => read_before stage b 9 10 (by decide) _
  | 10 => read_before stage b 10 11 (by decide) _
  | 11 => read_before stage b 11 12 (by decide) _
  | 12 => read_last stage b 12 _

/-- Row `s` of tile `r`, among all rows. -/
def row (r : Fin 13) (s : Fin 640) : Fin 8320 := ⟨640 * r.val + s.val, by omega⟩

theorem row_surj (s : Fin 8320) : ∃ r k, row r k = s :=
  ⟨⟨s.val / 640, by omega⟩, ⟨s.val % 640, Nat.mod_lt _ (by norm_num)⟩, Fin.ext (by show 640 * (s.val / 640) + s.val % 640 = s.val; omega)⟩

theorem colR_emb (r : Fin 13) (k : Fin 1024) (s : Fin 640) : (colR r).emb (ix2 k s) = ix2 k (row r s) := by
  funext a
  match a with
  | ⟨0, _⟩ => exact Fin.ext (by show 0 + 1 * k.val = k.val; omega)
  | ⟨1, _⟩ => exact Fin.ext (by show 640 * r.val + 1 * s.val = 640 * r.val + s.val; omega)

theorem tile_apply (r : Fin 13) (s : Fin 640) (k : Fin 1024) : tile b r (ix3 0 s k) = b (ix3 0 (row r s) k) := by
  refine congrArg b (funext fun a => Fin.ext ?_)
  match a with
  | ⟨0, _⟩ => show 0 + 1 * 0 = 0; omega
  | ⟨1, _⟩ => show 640 * r.val + 1 * s.val = 640 * r.val + s.val; omega
  | ⟨2, _⟩ => show 0 + 1 * k.val = k.val; omega

theorem turn_apply (x : Vec F Tile .bf16) (k : Fin 1024) (s : Fin 640) : turn x (ix2 k s) = x (ix3 0 s k) := by
  unfold turn
  rw [shapeCast_self]
  exact (transpose_ix2_apply _ _ k s).trans (shapeCast_1ab_ab_apply _ _ s k)

theorem mem_of_emb {s : Shape} (r : Rect s) {i : s.Idx} (x : r.shape.Idx) (h : r.emb x = i) : i ∈ r.set := by
  rw [← r.map_emb_univ, ← h]; exact Finset.mem_map_of_mem _ (Finset.mem_univ _)

theorem index2 {n m : ℕ} (x : (⟨2, ![n, m]⟩ : Shape).Idx) : ∃ (r : Fin n) (d : Fin m), x = ix2 r d :=
  ⟨x 0, x 1, by funext z; match z with | ⟨0, _⟩ => rfl | ⟨1, _⟩ => rfl⟩

theorem mem_all (r : Fin 13) : r ∈ ([12, 11, 10, 9, 8, 7, 6, 5, 4, 3, 2, 1, 0] : List (Fin 13)) := by revert r; decide

/-- The stores leave the second factor turned. -/
theorem turned (k : Fin 1024) (s : Fin 8320) : View.canon (pieces stage b) (ix2 k s) = b (ix3 0 s k) := by
  obtain ⟨r, s, rfl⟩ := row_surj s
  refine View.canon_apply_of_pieces (Val := Elt F) (e := .bf16) (fun i : Side.Idx => b (ix3 0 (i 1) (i 0)))
    (pieces stage b) (fun q hq x => ?_) (ix2 k (row r s)) ⟨piece stage b r, List.mem_map.mpr ⟨r, mem_all r, rfl⟩, mem_of_emb _ (ix2 k s) (colR_emb r k s)⟩
  obtain ⟨r, -, rfl⟩ := List.mem_map.mp hq
  obtain ⟨k, s, rfl⟩ := index2 (n := 1024) (m := 640) x
  have e : (piece stage b r).1.emb (ix2 k s) = ix2 k (row r s) := colR_emb r k s
  rw [e]
  show turn (stage.view.readCov (arrivals b r) (slotR (par r)).toLoadRect) (ix2 k s) = _
  rw [read_tile, turn_apply, tile_apply]

theorem allR_idx {n m : ℕ} (r : Fin n) (d : Fin m) : (allR n m).toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)

/-- Reading all of a buffer reads what its stores leave. -/
theorem read_all {n m : ℕ} (v : Memref sig .tc .vmem ⟨2, ![n, m]⟩ .bf16)
    (L : List (View.Piece (Elt F) ⟨2, ![n, m]⟩ .bf16)) (r : Fin n) (d : Fin m) :
    v.view.readCov L (allR n m).toLoadRect (ix2 r d) = View.canon L (ix2 r d) := by
  rw [View.readCov_eq_canon']
  exact congrArg (View.canon L) (allR_idx r d)

/-- Reading all of a buffer so stored gives the second factor turned. -/
theorem read_turned (bt : Memref sig .tc .vmem Side .bf16) (k : Fin 1024) (s : Fin 8320) :
    bt.view.readCov (pieces stage b) (allR 1024 8320).toLoadRect (ix2 k s) = b (ix3 0 s k) :=
  (read_all bt (pieces stage b) k s).trans (turned stage b k s)

/-- Storing all of a block leaves what is stored. -/
theorem canon_whole {n m : ℕ} (w : Vec F ⟨2, ![n, m]⟩ .bf16) (r : Fin n) (d : Fin m) :
    View.canon [(⟨allR n m, w⟩ : View.Piece (Elt F) ⟨2, ![n, m]⟩ .bf16)] (ix2 r d) = w (ix2 r d) := by
  refine (congrArg (View.canon _) (allR_idx r d).symm).trans ?_
  exact View.canon_cons_emb (Val := Elt F) (e := .bf16) (allR n m) w [] (ix2 r d)

/-- Reading all of a buffer that is given whole gives its contents. -/
theorem read_whole {n m : ℕ} (v : Memref sig .tc .vmem ⟨2, ![n, m]⟩ .bf16) (hv : v.IsWhole) (x : Vec F ⟨2, ![n, m]⟩ .bf16) (r : Fin n) (d : Fin m) :
    View.readAt (Elt F) v.view (allR n m).toLoadRect (hv.unread x) (ix2 r d) = x (ix2 r d) :=
  (hv.readAt_unread (Val := Elt F) x (allR n m).toLoadRect (ix2 r d)).trans (congrArg x (allR_idx r d))

end Cert.Grad

end
-- ==== Proof.GradMatch.lean ====
/- The stores of the weight gradient's run, for the gate and the up product, are those that `GradTiles` states. -/
module

public import proofs.«01_k».proof.Proof.GradTiles
public import proofs.«01_k».proof.Proof.Gen.Kernel3Ideal.Frame

@[expose] public section

noncomputable section

namespace Cert.Kernel3Ideal.Grad

open Idealize.ShloMosaic Idealize.ShloMosaic.TcCoe Cert.Kernel3Ideal Cert.Kernel3Ideal.Gen
open Idealize.SL.Sem
open Cert.Grad (allR pieces)

variable {F : FTy → Type} [FloatOps F]

variable (c : Dev nD) (i : grid0.Coords)
  (arg1 : Memref sig .tc .vmem S8320x256 .bf16) (harg1 : arg1.IsWhole)
  (arg2 : Memref sig .tc .vmem S8320x256 .bf16) (harg2 : arg2.IsWhole)
  (arg4 : Memref sig .tc .vmem S256x1024 .bf16) (harg4 : arg4.IsWhole)
  (arg5 : Memref sig .tc .vmem S256x1024 .bf16) (harg5 : arg5.IsWhole)
  (arg6 : Memref sig .tc .vmem S1024x8320 .bf16) (harg6 : arg6.IsWhole)
  (arg7 : Memref sig .tc .vmem S2x640x1024 .bf16) (harg7 : arg7.IsWhole)
  (x0 x1 : Vec F S8320x256 .bf16) (xs : Vec F S1024x8320 .bf16) (b : Vec F S1x8320x1024 .bf16)

/-- A block of columns as it is read, and the store of its product with the turned factor. -/
abbrev cols (v : Memref sig .tc .vmem S8320x256 .bf16) (hv : v.IsWhole) (x : Vec F S8320x256 .bf16) : Vec F S8320x256 .bf16 :=
  View.readAt (Elt F) v.view (allR 8320 256).toLoadRect (hv.unread x)
abbrev stored (u : Vec F S1024x8320 .bf16) (a : Vec F S8320x256 .bf16) : List (View.Piece (Elt F) S256x1024 .bf16) :=
  [⟨allR 256 1024, k0_pay3 u a⟩]

set_option maxHeartbeats 40000000 in
theorem runA_turned (hc : cond0_0 i) : (kernelRun0_A c i arg1 harg1 arg2 harg2 arg4 harg4 arg5 harg5 arg6 harg6 arg7 harg7 hc x0 x1 b).2.2.1 = pieces arg7 b := by
  rfl

set_option maxHeartbeats 40000000 in
theorem runA_gate (hc : cond0_0 i) : (kernelRun0_A c i arg1 harg1 arg2 harg2 arg4 harg4 arg5 harg5 arg6 harg6 arg7 harg7 hc x0 x1 b).1
    = stored (arg6.view.readCov (pieces arg7 b) (allR 1024 8320).toLoadRect) (cols arg1 harg1 x0) := by
  rfl

set_option maxHeartbeats 40000000 in
theorem runA_up (hc : cond0_0 i) : (kernelRun0_A c i arg1 harg1 arg2 harg2 arg4 harg4 arg5 harg5 arg6 harg6 arg7 harg7 hc x0 x1 b).2.1
    = stored (arg6.view.readCov (pieces arg7 b) (allR 1024 8320).toLoadRect) (cols arg2 harg2 x1) := by
  rfl

set_option maxHeartbeats 40000000 in
theorem runB_gate (hc : ¬cond0_0 i) : (kernelRun0_B c i arg1 harg1 arg2 harg2 arg4 harg4 arg5 harg5 arg6 harg6 arg7 harg7 hc x0 x1 xs b).1
    = stored (View.readAt (Elt F) arg6.view (allR 1024 8320).toLoadRect (harg6.unread xs)) (cols arg1 harg1 x0) := by
  rfl

set_option maxHeartbeats 40000000 in
theorem runB_up (hc : ¬cond0_0 i) : (kernelRun0_B c i arg1 harg1 arg2 harg2 arg4 harg4 arg5 harg5 arg6 harg6 arg7 harg7 hc x0 x1 xs b).2.1
    = stored (View.readAt (Elt F) arg6.view (allR 1024 8320).toLoadRect (harg6.unread xs)) (cols arg2 harg2 x1) := by
  rfl

end Cert.Kernel3Ideal.Grad

end
-- ==== Proof.GradUnit.lean ====
/- What a grid point of the weight gradient for the gate and the up product leaves. -/
module

public import proofs.«01_k».proof.Proof.GradTurned
public import proofs.«01_k».proof.Proof.GradMatch
public import Idealize.ShloMosaic.Lib.Pointwise.Contract
public import proofs.«01_k».proof.Proof.Num

@[expose] public section

set_option maxRecDepth 16384

noncomputable section

namespace Cert.Kernel3Ideal.Grad

open Idealize.ShloMosaic hiding ix1 ix2 ix3 ix4
open Idealize.ShloMosaic.TcCoe Cert.Kernel3Ideal Cert.Kernel3Ideal.Gen Idealize.ShloMosaic.ValueIdx
open Idealize.SL.Sem
open Cert.Grad (allR pieces read_turned turned canon_whole read_whole)

/-- The product of the turned factor with a block of columns, turned back. -/
theorem product (u : FVec Ideal S1024x8320 .bf16) (a : FVec Ideal S8320x256 .bf16) (f : Fin 256) (k : Fin 1024) :
    k0_pay3 (F := Ideal) u a (ix2 f k) = ∑ s : Fin 8320, u (ix2 k s) * a (ix2 s f) := by
  unfold k0_pay3
  rw [shapeCast_self]
  show transpose S256x1024 [1, 0] (matmul dot_S1024x8320_S8320x256_S1024x256_1_0_0_1_n_n none u a (constant (F := Ideal) S1024x256 .f32 0x00000000#32) : FVec Ideal S1024x256 .f32)
    transposes_S1024x256_p1_0_S256x1024 (ix2 f k) = _
  refine (transpose_ix2_apply _ _ f k).trans ?_
  show Ideal.matmul _ _ _ _ _ = _
  rw [Ideal.matmul_apply₁ _ (a := 1) rfl (K := 8320) rfl]
  refine (congrArg₂ (· + ·) Num.w_zero (Finset.sum_congr rfl fun s _ => ?_)).trans (zero_add _)
  exact congrArg₂ (· * ·) (congrArg u (by funext z; match z with | ⟨0, _⟩ => rfl | ⟨1, _⟩ => rfl))
    (congrArg a (by funext z; match z with | ⟨0, _⟩ => rfl | ⟨1, _⟩ => rfl))

variable (c : Dev nD) (i : grid0.Coords)
  (arg1 : Memref sig .tc .vmem S8320x256 .bf16) (harg1 : arg1.IsWhole)
  (arg2 : Memref sig .tc .vmem S8320x256 .bf16) (harg2 : arg2.IsWhole)
  (arg4 : Memref sig .tc .vmem S256x1024 .bf16) (harg4 : arg4.IsWhole)
  (arg5 : Memref sig .tc .vmem S256x1024 .bf16) (harg5 : arg5.IsWhole)
  (arg6 : Memref sig .tc .vmem S1024x8320 .bf16) (harg6 : arg6.IsWhole)
  (arg7 : Memref sig .tc .vmem S2x640x1024 .bf16) (harg7 : arg7.IsWhole)
  (x0 x1 : FVec Ideal S8320x256 .bf16) (xs : FVec Ideal S1024x8320 .bf16) (b : FVec Ideal S1x8320x1024 .bf16)

/-! The first point. -/

section first
variable (hc : cond0_0 i)

theorem first_gate (f : Fin 256) (k : Fin 1024) :
    out0_A_2 (F := Ideal) c i arg1 harg1 arg2 harg2 arg4 harg4 arg5 harg5 arg6 harg6 arg7 harg7 hc x0 x1 b (ix2 f k)
      = ∑ s : Fin 8320, b (ix3 0 s k) * x0 (ix2 s f) := by
  unfold out0_A_2
  rw [View.read_writes_junk_eq_canon, runA_gate]
  refine (canon_whole (F := Ideal) _ f k).trans ((product _ _ f k).trans (Finset.sum_congr rfl fun s _ => congrArg₂ (· * ·) ?_ ?_))
  · exact read_turned (F := Ideal) arg7 b arg6 k s
  · exact read_whole (F := Ideal) arg1 harg1 x0 s f

theorem first_up (f : Fin 256) (k : Fin 1024) :
    out0_A_3 (F := Ideal) c i arg1 harg1 arg2 harg2 arg4 harg4 arg5 harg5 arg6 harg6 arg7 harg7 hc x0 x1 b (ix2 f k)
      = ∑ s : Fin 8320, b (ix3 0 s k) * x1 (ix2 s f) := by
  unfold out0_A_3
  rw [View.read_writes_junk_eq_canon, runA_up]
  refine (canon_whole (F := Ideal) _ f k).trans ((product _ _ f k).trans (Finset.sum_congr rfl fun s _ => congrArg₂ (· * ·) ?_ ?_))
  · exact read_turned (F := Ideal) arg7 b arg6 k s
  · exact read_whole (F := Ideal) arg2 harg2 x1 s f

theorem first_turned (k : Fin 1024) (s : Fin 8320) :
    sout0_A_0 (F := Ideal) c i arg1 harg1 arg2 harg2 arg4 harg4 arg5 harg5 arg6 harg6 arg7 harg7 hc x0 x1 b (ix2 k s) = b (ix3 0 s k) := by
  unfold sout0_A_0
  rw [View.read_writes_junk_eq_canon, runA_turned]
  exact turned (F := Ideal) arg7 b k s

end first

/-! A later point. -/

section later
variable (hc : ¬cond0_0 i)

theorem later_gate (f : Fin 256) (k : Fin 1024) :
    out0_B_2 (F := Ideal) c i arg1 harg1 arg2 harg2 arg4 harg4 arg5 harg5 arg6 harg6 arg7 harg7 hc x0 x1 xs b (ix2 f k)
      = ∑ s : Fin 8320, xs (ix2 k s) * x0 (ix2 s f) := by
  unfold out0_B_2
  rw [View.read_writes_junk_eq_canon, runB_gate]
  refine (canon_whole (F := Ideal) _ f k).trans ((product _ _ f k).trans (Finset.sum_congr rfl fun s _ => congrArg₂ (· * ·) ?_ ?_))
  · exact read_whole (F := Ideal) arg6 harg6 xs k s
  · exact read_whole (F := Ideal) arg1 harg1 x0 s f

theorem later_up (f : Fin 256) (k : Fin 1024) :
    out0_B_3 (F := Ideal) c i arg1 harg1 arg2 harg2 arg4 harg4 arg5 harg5 arg6 harg6 arg7 harg7 hc x0 x1 xs b (ix2 f k)
      = ∑ s : Fin 8320, xs (ix2 k s) * x1 (ix2 s f) := by
  unfold out0_B_3
  rw [View.read_writes_junk_eq_canon, runB_up]
  refine (canon_whole (F := Ideal) _ f k).trans ((product _ _ f k).trans (Finset.sum_congr rfl fun s _ => congrArg₂ (· * ·) ?_ ?_))
  · exact read_whole (F := Ideal) arg6 harg6 xs k s
  · exact read_whole (F := Ideal) arg2 harg2 x1 s f

end later

end Cert.Kernel3Ideal.Grad

end
-- ==== Proof.GradWalk.lean ====
/- The walk over the eleven points of the weight gradient for the gate and the up product. -/
module

public import proofs.«01_k».proof.Proof.GradUnit

@[expose] public section

noncomputable section

namespace Cert.Kernel3Ideal.Grad

open Idealize.ShloMosaic hiding ix1 ix2 ix3 ix4
open Idealize.ShloMosaic.TcCoe Cert.Kernel3Ideal Cert.Kernel3Ideal.Gen Idealize.ShloMosaic.ValueIdx
open Idealize.SL.Sem

variable (m : (ℓ : Loc nD τ sig) → Buf (Elt Ideal) ℓ) (c : Dev nD)

/-- The second factor as the region finds it. -/
abbrev factor : FVec Ideal S1x8320x1024 .bf16 := V m c main_v15
/-- The two blocks of columns of point `t`. -/
abbrev colsGate (t : Fin cfg0.N) : FVec Ideal S8320x256 .bf16 := iblk m c 0 t
abbrev colsUp (t : Fin cfg0.N) : FVec Ideal S8320x256 .bf16 := iblk m c 1 t

variable {m c}

theorem kept_first (t : Fin cfg0.N) (h0 : t.val % 11 = 0) (k : Fin 1024) (s : Fin 8320) :
    (outsAt0 m c t.val t.isLt).2.2 (ix2 k s) = factor m c (ix3 0 s k) := by
  rw [outsAt0_A m c t h0]
  dsimp only
  exact first_turned c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (colsGate m c t) (colsUp m c t) (factor m c) ((hcond0_0 t).mpr h0) k s

theorem kept_later (t : Fin cfg0.N) (h0 : ¬t.val % 11 = 0) :
    (outsAt0 m c t.val t.isLt).2.2 = (outsAt0 m c (t.val - 1) (Nat.lt_of_le_of_lt (Nat.sub_le _ _) t.isLt)).2.2 := by
  rw [outsAt0_B m c t h0]
  rfl

/-- After every point the scratch holds the second factor turned. -/
theorem kept (k : Fin 1024) (s : Fin 8320) : ∀ n (hn : n < cfg0.N), (outsAt0 m c n hn).2.2 (ix2 k s) = factor m c (ix3 0 s k)
  | 0, hn => kept_first ⟨0, hn⟩ rfl k s
  | n + 1, hn => by
    have hN := lt_of_lt_of_eq hn (show cfg0.N = 11 from N_0)
    exact (congrFun (kept_later (m := m) (c := c) ⟨n + 1, hn⟩ (by show ¬(n + 1) % 11 = 0; omega)) (ix2 k s)).trans (kept k s n (by omega))

theorem gate_at (t : Fin cfg0.N) (f : Fin 256) (k : Fin 1024) :
    (outsAt0 m c t.val t.isLt).1 (ix2 f k) = ∑ s : Fin 8320, factor m c (ix3 0 s k) * colsGate m c t (ix2 s f) := by
  by_cases h0 : t.val % 11 = 0
  · rw [outsAt0_A m c t h0]
    dsimp only
    exact first_gate c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (colsGate m c t) (colsUp m c t) (factor m c) ((hcond0_0 t).mpr h0) f k
  · rw [outsAt0_B m c t h0]
    dsimp only
    refine (later_gate c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (colsGate m c t) (colsUp m c t) _ (factor m c) (fun h => h0 ((hcond0_0 t).mp h)) f k).trans (Finset.sum_congr rfl fun s _ => congrArg (· * _) ?_)
    exact kept k s _ _

theorem up_at (t : Fin cfg0.N) (f : Fin 256) (k : Fin 1024) :
    (outsAt0 m c t.val t.isLt).2.1 (ix2 f k) = ∑ s : Fin 8320, factor m c (ix3 0 s k) * colsUp m c t (ix2 s f) := by
  by_cases h0 : t.val % 11 = 0
  · rw [outsAt0_A m c t h0]
    dsimp only
    exact first_up c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (colsGate m c t) (colsUp m c t) (factor m c) ((hcond0_0 t).mpr h0) f k
  · rw [outsAt0_B m c t h0]
    dsimp only
    refine (later_up c (grid0.coords t) (ms0_0 t) (hs0_0 t) (ms0_1 t) (hs0_1 t) (ms0_2 t) (hs0_2 t) (ms0_3 t) (hs0_3 t) scM0_0 (Memref.isWhole_whole _) scM0_1 (Memref.isWhole_whole _)
      (colsGate m c t) (colsUp m c t) _ (factor m c) (fun h => h0 ((hcond0_0 t).mp h)) f k).trans (Finset.sum_congr rfl fun s _ => congrArg (· * _) ?_)
    exact kept k s _ _

end Cert.Kernel3Ideal.Grad

end
-- ==== Proof.GradHost.lean ====
/- The arrays the weight gradient for the gate and the up product is entered with. -/
module

public import proofs.«01_k».proof.Proof.GradWalk
public import proofs.«01_k».proof.Proof.Gen.Reference3Ideal.Read
public import Idealize.ShloMosaic.Lib.Claim

@[expose] public section

set_option maxRecDepth 16384

noncomputable section

namespace Cert.Kernel3Ideal.Grad

open Idealize.ShloMosaic Idealize.ShloMosaic.TcCoe Cert.Kernel3Ideal Cert.Kernel3Ideal.Gen Idealize.SL.Sem Idealize.ShloMosaic.StableHlo
open Cert.Reference3Ideal.Read (val_main_v11)

variable (V0 : Valuation τ sig (Elt Ideal))

/-- The contents after the host operations. -/
def w : Valuation τ sig (Elt Ideal) := after hostOps0 V0

set_option maxHeartbeats 4000000 in
theorem w_gate : w V0 (no_index (Proc.devRef .tc main_v12)) = (truncf .bf16 (V0 (Proc.devRef .tc main_arg2) : FVec Ideal S8320x2816 .f32) bitsLt_bf16_f32 : FVec Ideal S8320x2816 .bf16) := by
  unfold w
  simp only [hostOps0]
  after_results_simp
  after_results_loop
  all_goals rfl

set_option maxHeartbeats 4000000 in
theorem w_up : w V0 (no_index (Proc.devRef .tc main_v13)) = (truncf .bf16 (V0 (Proc.devRef .tc main_arg3) : FVec Ideal S8320x2816 .f32) bitsLt_bf16_f32 : FVec Ideal S8320x2816 .bf16) := by
  unfold w
  simp only [hostOps0]
  after_results_simp
  after_results_loop
  all_goals rfl

set_option maxHeartbeats 4000000 in
theorem w_factor : w V0 (no_index (Proc.devRef .tc main_v15))
    = broadcastInDim S1x8320x1024 ![1, 2] bcast_S8320x1024_S1x8320x1024_1_2
        (truncf .bf16 (val_main_v11 (F := Ideal) (V0 (Proc.devRef .tc main_arg0)) (V0 (Proc.devRef .tc main_arg1)) : FVec Ideal S8320x1024 .f32) bitsLt_bf16_f32 : FVec Ideal S8320x1024 .bf16) := by
  unfold w
  simp only [hostOps0]
  after_results_simp
  after_results_loop
  all_goals rfl

end Cert.Kernel3Ideal.Grad

end
-- ==== Proof.GradFinal.lean ====
/- The two weight gradients the kernel leaves for the gate and the up product, and that the reference gives the same. -/
module

public import proofs.«01_k».proof.Proof.GradHost
public import proofs.«01_k».proof.Proof.Gen.Kernel3Ideal.Points
public import proofs.«01_k».proof.Proof.Gen.Kernel3Ideal.Value

@[expose] public section

set_option maxRecDepth 16384

noncomputable section

namespace Cert.Kernel3Ideal.Grad

open Idealize.ShloMosaic hiding ix1 ix2 ix3 ix4
open Idealize.ShloMosaic.TcCoe Cert.Kernel3Ideal Cert.Kernel3Ideal.Gen Idealize.ShloMosaic.ValueIdx
open Idealize.SL.Sem
open Cert.Reference3Ideal.Read (val_main_v11 val_main_v20 val_main_v22 val_main_v20_apply val_main_v19_apply val_main_v18_apply val_main_v17_apply
  val_main_v22_apply val_main_v21_apply val_main_v16_apply val_main_v15_apply)

/-- The block each window is on: point `t` has the `t`-th block of columns, and of rows of the result. -/
theorem places : ∀ t : Fin cfg0.N,
    (win0_0.index t 0 = 0 ∧ win0_0.index t 1 = t.val)
    ∧ (win0_1.index t 0 = 0 ∧ win0_1.index t 1 = t.val)
    ∧ (win0_2.index t 0 = t.val ∧ win0_2.index t 1 = 0)
    ∧ (win0_3.index t 0 = t.val ∧ win0_3.index t 1 = 0) :=
  (by decide +kernel : ∀ t : Fin grid0.N, _)

variable {m : (ℓ : Loc nD τ sig) → Buf (Elt Ideal) ℓ} {c : Dev nD}

/-- The four arguments. -/
abbrev inH (m : (ℓ : Loc nD τ sig) → Buf (Elt Ideal) ℓ) (c : Dev nD) : FVec Ideal S8320x1024 .f32 := m ((c : Thread nD τ).loc main_arg0)
abbrev inW (m : (ℓ : Loc nD τ sig) → Buf (Elt Ideal) ℓ) (c : Dev nD) : FVec Ideal S1x1024 .f32 := m ((c : Thread nD τ).loc main_arg1)
abbrev inGate (m : (ℓ : Loc nD τ sig) → Buf (Elt Ideal) ℓ) (c : Dev nD) : FVec Ideal S8320x2816 .f32 := m ((c : Thread nD τ).loc main_arg2)
abbrev inUp (m : (ℓ : Loc nD τ sig) → Buf (Elt Ideal) ℓ) (c : Dev nD) : FVec Ideal S8320x2816 .f32 := m ((c : Thread nD τ).loc main_arg3)

/-- The second factor is the normed rows. -/
theorem factor_read (s : Fin 8320) (k : Fin 1024) : factor m c (ix3 0 s k) = val_main_v11 (F := Ideal) (inH m c) (inW m c) (ix2 s k) := by
  refine (congrFun (w_factor fun b => m (c, b)) (ix3 0 s k)).trans (congrArg (val_main_v11 (F := Ideal) (inH m c) (inW m c)) (funext fun a => ?_))
  match a with
  | ⟨0, _⟩ => rfl
  | ⟨1, _⟩ => rfl

/-- Column `f` of point `n`'s block. -/
def col (n : ℕ) (f : Fin 256) : Fin 2816 := ⟨(256 * n + f.val) % 2816, Nat.mod_lt _ (by norm_num)⟩

theorem col_val {n : ℕ} (hn : n < 11) (f : Fin 256) : (col n f).val = 256 * n + f.val := by
  show (256 * n + f.val) % 2816 = _
  omega

/-- The point a column belongs to. -/
theorem col_point (q : Fin 2816) : ∃ (t : Fin cfg0.N) (f : Fin 256), q.val = 256 * t.val + f.val ∧ col t.val f = q := by
  have hN : cfg0.N = 11 := N_0
  have hs : q.val / 256 < 11 := by omega
  refine ⟨⟨q.val / 256, by rw [hN]; omega⟩, ⟨q.val % 256, Nat.mod_lt _ (by norm_num)⟩, ?_, Fin.ext ?_⟩
  · show q.val = 256 * (q.val / 256) + q.val % 256; omega
  · rw [col_val hs]; show 256 * (q.val / 256) + q.val % 256 = q.val; omega

theorem colsGate_read (t : Fin cfg0.N) (s : Fin 8320) (f : Fin 256) : colsGate m c t (ix2 s f) = inGate m c (ix2 s (col t.val f)) := by
  obtain ⟨hp, -⟩ := places t
  have ht : t.val < 11 := lt_of_lt_of_eq t.isLt (show cfg0.N = 11 from N_0)
  have key : ∀ i : S8320x2816.Idx, i = ix2 s (col t.val f) → V m c main_v12 i = inGate m c (ix2 s (col t.val f)) := fun i hi => by
    subst hi
    exact congrFun (w_gate fun b => m (c, b)) _
  refine key _ (funext fun a => Fin.ext ?_)
  match a with
  | ⟨0, _⟩ => show win0_0.index t 0 * 8320 + 1 * s.val = s.val; rw [hp.1]; omega
  | ⟨1, _⟩ => show win0_0.index t 1 * 256 + 1 * f.val = (col t.val f).val; rw [hp.2, col_val ht]; omega

theorem colsUp_read (t : Fin cfg0.N) (s : Fin 8320) (f : Fin 256) : colsUp m c t (ix2 s f) = inUp m c (ix2 s (col t.val f)) := by
  obtain ⟨-, hp, -⟩ := places t
  have ht : t.val < 11 := lt_of_lt_of_eq t.isLt (show cfg0.N = 11 from N_0)
  have key : ∀ i : S8320x2816.Idx, i = ix2 s (col t.val f) → V m c main_v13 i = inUp m c (ix2 s (col t.val f)) := fun i hi => by
    subst hi
    exact congrFun (w_up fun b => m (c, b)) _
  refine key _ (funext fun a => Fin.ext ?_)
  match a with
  | ⟨0, _⟩ => show win0_1.index t 0 * 8320 + 1 * s.val = s.val; rw [hp.1]; omega
  | ⟨1, _⟩ => show win0_1.index t 1 * 256 + 1 * f.val = (col t.val f).val; rw [hp.2, col_val ht]; omega

theorem gate_read (i : S2816x1024.Idx) : (dats m 0 c).arrAt 2 cfg0.N i
    = ∑ s : Fin 8320, val_main_v11 (F := Ideal) (inH m c) (inW m c) (ix2 s (i 1)) * inGate m c (ix2 s (i 0)) := by
  obtain ⟨t, f, hf, ht⟩ := col_point (i 0)
  obtain ⟨-, -, hp, -⟩ := places t
  have e := congrFun (Value.blocks2 m c t (flush0_2 t)) (ix2 f (i 1))
  rw [Value.flushed2] at e
  have e2 : _ = _ := gate_at (m := m) (c := c) t f (i 1)
  refine Eq.trans ?_ (e.trans (e2.trans (Finset.sum_congr rfl fun s _ => congrArg₂ (· * ·) (factor_read s (i 1)) ((colsGate_read t s f).trans (by rw [ht])))))
  refine congrArg ((dats m 0 c).arrAt 2 cfg0.N) (funext fun a => Fin.ext ?_)
  match a with
  | ⟨0, _⟩ => show (i 0).val = win0_2.index t 0 * 256 + 1 * f.val; rw [hp.1, hf]; omega
  | ⟨1, _⟩ => show (i 1).val = win0_2.index t 1 * 1024 + 1 * (i 1).val; rw [hp.2]; omega

theorem up_read (i : S2816x1024.Idx) : (dats m 0 c).arrAt 3 cfg0.N i
    = ∑ s : Fin 8320, val_main_v11 (F := Ideal) (inH m c) (inW m c) (ix2 s (i 1)) * inUp m c (ix2 s (i 0)) := by
  obtain ⟨t, f, hf, ht⟩ := col_point (i 0)
  obtain ⟨-, -, -, hp⟩ := places t
  have e := congrFun (Value.blocks3 m c t (flush0_3 t)) (ix2 f (i 1))
  rw [Value.flushed3] at e
  have e2 : _ = _ := up_at (m := m) (c := c) t f (i 1)
  refine Eq.trans ?_ (e.trans (e2.trans (Finset.sum_congr rfl fun s _ => congrArg₂ (· * ·) (factor_read s (i 1)) ((colsUp_read t s f).trans (by rw [ht])))))
  refine congrArg ((dats m 0 c).arrAt 3 cfg0.N) (funext fun a => Fin.ext ?_)
  match a with
  | ⟨0, _⟩ => show (i 0).val = win0_3.index t 0 * 256 + 1 * f.val; rw [hp.1, hf]; omega
  | ⟨1, _⟩ => show (i 1).val = win0_3.index t 1 * 1024 + 1 * (i 1).val; rw [hp.2]; omega

/-- The gradient of the gate's weights is the reference's. -/
theorem gate_agrees : val_main_v20 (F := Ideal) (inH m c) (inW m c) (inGate m c) = (dats m 0 c).arrAt 2 cfg0.N := by
  funext i
  refine Eq.trans ?_ (gate_read i).symm
  refine (val_main_v20_apply (F := Ideal) _ _ _ i).trans ((val_main_v19_apply (F := Ideal) _ _ _ i).trans ((val_main_v18_apply (F := Ideal) _ _ _ _).trans
    ((val_main_v17_apply _ _ _ _).trans (Finset.sum_congr rfl fun s _ => ?_))))
  refine (mul_comm _ _).trans (congrArg₂ (· * ·) (congrArg (val_main_v11 (F := Ideal) (inH m c) (inW m c)) (funext fun a => ?_)) (congrArg (inGate m c) (funext fun a => ?_)))
  all_goals match a with
    | ⟨0, _⟩ => rfl
    | ⟨1, _⟩ => rfl

/-- The gradient of the up product's weights is the reference's. -/
theorem up_agrees : val_main_v22 (F := Ideal) (inH m c) (inW m c) (inUp m c) = (dats m 0 c).arrAt 3 cfg0.N := by
  funext i
  refine Eq.trans ?_ (up_read i).symm
  refine (val_main_v22_apply (F := Ideal) _ _ _ i).trans ((val_main_v21_apply (F := Ideal) _ _ _ i).trans ((val_main_v16_apply (F := Ideal) _ _ _ _).trans
    ((val_main_v15_apply _ _ _ _).trans (Finset.sum_congr rfl fun s _ => ?_))))
  refine (mul_comm _ _).trans (congrArg₂ (· * ·) (congrArg (val_main_v11 (F := Ideal) (inH m c) (inW m c)) (funext fun a => ?_)) (congrArg (inUp m c) (funext fun a => ?_)))
  all_goals match a with
    | ⟨0, _⟩ => rfl
    | ⟨1, _⟩ => rfl

end Cert.Kernel3Ideal.Grad

end
-- ==== Proof.GradDownMatch.lean ====
/- The stores of the weight gradient's run, for the down product, are those that `GradTiles` states. -/
module

public import proofs.«01_k».proof.Proof.GradTiles
public import proofs.«01_k».proof.Proof.Gen.Kernel4Ideal.Frame

@[expose] public section

noncomputable section

namespace Cert.Kernel4Ideal.Grad

open Idealize.ShloMosaic Idealize.ShloMosaic.TcCoe Cert.Kernel4Ideal Cert.Kernel4Ideal.Gen
open Idealize.SL.Sem
open Cert.Grad (allR pieces)

variable {F : FTy → Type} [FloatOps F]

variable (c : Dev nD) (i : grid0.Coords)
  (arg1 : Memref sig .tc .vmem S8320x256 .bf16) (harg1 : arg1.IsWhole)
  (arg3 : Memref sig .tc .vmem S256x1024 .bf16) (harg3 : arg3.IsWhole)
  (arg4 : Memref sig .tc .vmem S1024x8320 .bf16) (harg4 : arg4.IsWhole)
  (arg5 : Memref sig .tc .vmem S2x640x1024 .bf16) (harg5 : arg5.IsWhole)
  (x0 : Vec F S8320x256 .bf16) (xs : Vec F S1024x8320 .bf16) (b : Vec F S1x8320x1024 .bf16)

/-- A block of columns as it is read, and the store of its product with the turned factor. -/
abbrev cols (v : Memref sig .tc .vmem S8320x256 .bf16) (hv : v.IsWhole) (x : Vec F S8320x256 .bf16) : Vec F S8320x256 .bf16 :=
  View.readAt (Elt F) v.view (allR 8320 256).toLoadRect (hv.unread x)
abbrev stored (u : Vec F S1024x8320 .bf16) (a : Vec F S8320x256 .bf16) : List (View.Piece (Elt F) S256x1024 .bf16) :=
  [⟨allR 256 1024, k0_pay3 u a⟩]

set_option maxHeartbeats 40000000 in
theorem runA_turned (hc : cond0_0 i) : (kernelRun0_A c i arg1 harg1 arg3 harg3 arg4 harg4 arg5 harg5 hc x0 b).2.1 = pieces arg5 b := by
  rfl

set_option maxHeartbeats 40000000 in
theorem runA_down (hc : cond0_0 i) : (kernelRun0_A c i arg1 harg1 arg3 harg3 arg4 harg4 arg5 harg5 hc x0 b).1
    = stored (arg4.view.readCov (pieces arg5 b) (allR 1024 8320).toLoadRect) (cols arg1 harg1 x0) := by
  rfl

set_option maxHeartbeats 40000000 in
theorem runB_down (hc : ¬cond0_0 i) : (kernelRun0_B c i arg1 harg1 arg3 harg3 arg4 harg4 arg5 harg5 hc x0 xs b).1
    = stored (View.readAt (Elt F) arg4.view (allR 1024 8320).toLoadRect (harg4.unread xs)) (cols arg1 harg1 x0) := by
  rfl

end Cert.Kernel4Ideal.Grad

end
-- ==== Proof.GradDownUnit.lean ====
/- What a grid point of the weight gradient for the down product leaves. -/
module

public import proofs.«01_k».proof.Proof.GradTurned
public import proofs.«01_k».proof.Proof.GradDownMatch
public import Idealize.ShloMosaic.Lib.Pointwise.Contract
public import proofs.«01_k».proof.Proof.Num

@[expose] public section

set_option maxRecDepth 16384

noncomputable section

namespace Cert.Kernel4Ideal.Grad

open Idealize.ShloMosaic hiding ix1 ix2 ix3 ix4
open Idealize.ShloMosaic.TcCoe Cert.Kernel4Ideal Cert.Kernel4Ideal.Gen Idealize.ShloMosaic.ValueIdx
open Idealize.SL.Sem
open Cert.Grad (allR pieces read_turned turned canon_whole read_whole)

/-- The product of the turned factor with a block of columns, turned back. -/
theorem product (u : FVec Ideal S1024x8320 .bf16) (a : FVec Ideal S8320x256 .bf16) (f : Fin 256) (k : Fin 1024) :
    k0_pay3 (F := Ideal) u a (ix2 f k) = ∑ s : Fin 8320, u (ix2 k s) * a (ix2 s f) := by
  unfold k0_pay3
  rw [shapeCast_self]
  show transpose S256x1024 [1, 0] (matmul dot_S1024x8320_S8320x256_S1024x256_1_0_0_1_n_n none u a (constant (F := Ideal) S1024x256 .f32 0x00000000#32) : FVec Ideal S1024x256 .f32)
    transposes_S1024x256_p1_0_S256x1024 (ix2 f k) = _
  refine (transpose_ix2_apply _ _ f k).trans ?_
  show Ideal.matmul _ _ _ _ _ = _
  rw [Ideal.matmul_apply₁ _ (a := 1) rfl (K := 8320) rfl]
  refine (congrArg₂ (· + ·) Num.w_zero (Finset.sum_congr rfl fun s _ => ?_)).trans (zero_add _)
  exact congrArg₂ (· * ·) (congrArg u (by funext z; match z with | ⟨0, _⟩ => rfl | ⟨1, _⟩ => rfl))
    (congrArg a (by funext z; match z with | ⟨0, _⟩ => rfl | ⟨1, _⟩ => rfl))

variable (c : Dev nD) (i : grid0.Coords)
  (arg1 : Memref sig .tc .vmem S8320x256 .bf16) (harg1 : arg1.IsWhole)
  (arg3 : Memref sig .tc .vmem S256x1024 .bf16) (harg3 : arg3.IsWhole)
  (arg4 : Memref sig .tc .vmem S1024x8320 .bf16) (harg4 : arg4.IsWhole)
  (arg5 : Memref sig .tc .vmem S2x640x1024 .bf16) (harg5 : arg5.IsWhole)
  (x0 : FVec Ideal S8320x256 .bf16) (xs : FVec Ideal S1024x8320 .bf16) (b : FVec Ideal S1x8320x1024 .bf16)

/-! The first point. -/

section first
variable (hc : cond0_0 i)

theorem first_down (f : Fin 256) (k : Fin 1024) :
    out0_A_1 (F := Ideal) c i arg1 harg1 arg3 harg3 arg4 harg4 arg5 harg5 hc x0 b (ix2 f k)
      = ∑ s : Fin 8320, b (ix3 0 s k) * x0 (ix2 s f) := by
  unfold out0_A_1
  rw [View.read_writes_junk_eq_canon, runA_down]
  refine (canon_whole (F := Ideal) _ f k).trans ((product _ _ f k).trans (Finset.sum_congr rfl fun s _ => congrArg₂ (· * ·) ?_ ?_))
  · exact read_turned (F := Ideal) arg5 b arg4 k s
  · exact read_whole (F := Ideal) arg1 harg1 x0 s f

theorem first_turned (k : Fin 1024) (s : Fin 8320) :
    sout0_A_0 (F := Ideal) c i arg1 harg1 arg3 harg3 arg4 harg4 arg5 harg5 hc x0 b (ix2 k s) = b (ix3 0 s k) := by
  unfold sout0_A_0
  rw [View.read_writes_junk_eq_canon, runA_turned]
  exact turned (F := Ideal) arg5 b k s

end first

/-! A later point. -/

section later
variable (hc : ¬cond0_0 i)

theorem later_down (f : Fin 256) (k : Fin 1024) :
    out0_B_1 (F := Ideal) c i arg1 harg1 arg3 harg3 arg4 harg4 arg5 harg5 hc x0 xs b (ix2 f k)
      = ∑ s : Fin 8320, xs (ix2 k s) * x0 (ix2 s f) := by
  unfold out0_B_1
  rw [View.read_writes_junk_eq_canon, runB_down]
  refine (canon_whole (F := Ideal) _ f k).trans ((product _ _ f k).trans (Finset.sum_congr rfl fun s _ => congrArg₂ (· * ·) ?_ ?_))
  · exact read_whole (F := Ideal) arg4 harg4 xs k s
  · exact read_whole (F := Ideal) arg1 harg1 x0 s f

end later

end Cert.Kernel4Ideal.Grad

end
-- ==== Proof.GradDownWalk.lean ====
/- The walk over the eleven points of the weight gradient for the down product. -/
module

public import proofs.«01_k».proof.Proof.GradDownUnit

@[expose] public section

noncomputable section

namespace Cert.Kernel4Ideal.Grad

open Idealize.ShloMosaic hiding ix1 ix2 ix3 ix4
open Idealize.ShloMosaic.TcCoe Cert.Kernel4Ideal Cert.Kernel4Ideal.Gen Idealize.ShloMosaic.ValueIdx
open Idealize.SL.Sem

variable (m : (ℓ : Loc nD τ sig) → Buf (Elt Ideal) ℓ) (c : Dev nD)

/-- The second factor as the region finds it. -/
abbrev factor : FVec Ideal S1x8320x1024 .bf16 := V m c main_v6
/-- The block of columns of point `t`. -/
abbrev colsAt (t : Fin cfg0.N) : FVec Ideal S8320x256 .bf16 := iblk m c 0 t

variable {m c}

theorem kept_first (t : Fin cfg0.N) (h0 : t.val % 11 = 0) (k : Fin 1024) (s : Fin 8320) :
    (outsAt0 m c t.val t.isLt).2 (ix2 k s) = factor m c (ix3 0 s k) := by
  rw [outsAt0_A m c t h0]
  dsimp only
  exact first_turned c (grid0.coords t) (ms0_0 t) (hs0_0 t) (ms0_1 t) (hs0_1 t) scM0_0 (Memref.isWhole_whole _) scM0_1 (Memref.isWhole_whole _)
    (colsAt m c t) (factor m c) ((hcond0_0 t).mpr h0) k s

theorem kept_later (t : Fin cfg0.N) (h0 : ¬t.val % 11 = 0) :
    (outsAt0 m c t.val t.isLt).2 = (outsAt0 m c (t.val - 1) (Nat.lt_of_le_of_lt (Nat.sub_le _ _) t.isLt)).2 := by
  rw [outsAt0_B m c t h0]
  rfl

/-- After every point the scratch holds the second factor turned. -/
theorem kept (k : Fin 1024) (s : Fin 8320) : ∀ n (hn : n < cfg0.N), (outsAt0 m c n hn).2 (ix2 k s) = factor m c (ix3 0 s k)
  | 0, hn => kept_first ⟨0, hn⟩ rfl k s
  | n + 1, hn => by
    have hN := lt_of_lt_of_eq hn (show cfg0.N = 11 from N_0)
    exact (congrFun (kept_later (m := m) (c := c) ⟨n + 1, hn⟩ (by show ¬(n + 1) % 11 = 0; omega)) (ix2 k s)).trans (kept k s n (by omega))

theorem down_at (t : Fin cfg0.N) (f : Fin 256) (k : Fin 1024) :
    (outsAt0 m c t.val t.isLt).1 (ix2 f k) = ∑ s : Fin 8320, factor m c (ix3 0 s k) * colsAt m c t (ix2 s f) := by
  by_cases h0 : t.val % 11 = 0
  · rw [outsAt0_A m c t h0]
    dsimp only
    exact first_down c (grid0.coords t) (ms0_0 t) (hs0_0 t) (ms0_1 t) (hs0_1 t) scM0_0 (Memref.isWhole_whole _) scM0_1 (Memref.isWhole_whole _)
      (colsAt m c t) (factor m c) ((hcond0_0 t).mpr h0) f k
  · rw [outsAt0_B m c t h0]
    dsimp only
    refine (later_down c (grid0.coords t) (ms0_0 t) (hs0_0 t) (ms0_1 t) (hs0_1 t) scM0_0 (Memref.isWhole_whole _) scM0_1 (Memref.isWhole_whole _)
      (colsAt m c t) _ (factor m c) (fun h => h0 ((hcond0_0 t).mp h)) f k).trans (Finset.sum_congr rfl fun s _ => congrArg (· * _) ?_)
    exact kept k s _ _

end Cert.Kernel4Ideal.Grad

end
-- ==== Proof.GradDownHost.lean ====
/- The arrays the weight gradient for the down product is entered with. -/
module

public import proofs.«01_k».proof.Proof.GradDownWalk
public import proofs.«01_k».proof.Proof.Gen.Reference4Ideal.Read
public import Idealize.ShloMosaic.Lib.Claim

@[expose] public section

set_option maxRecDepth 16384

noncomputable section

namespace Cert.Kernel4Ideal.Grad

open Idealize.ShloMosaic Idealize.ShloMosaic.TcCoe Cert.Kernel4Ideal Cert.Kernel4Ideal.Gen Idealize.SL.Sem Idealize.ShloMosaic.StableHlo
open Cert.Reference4Ideal.Read (val_main_v0 val_main_v1 val_main_v7)

variable (V0 : Valuation τ sig (Elt Ideal))

/-- The contents after the lines of the gate, and after all host operations. -/
def w1 : Valuation τ sig (Elt Ideal) := after hostOps0 V0
def w2 : Valuation τ sig (Elt Ideal) := after hostOps0_1 (w1 V0)

set_option maxHeartbeats 4000000 in
theorem w1_silu : w1 V0 (no_index (Proc.devRef .tc main_v0)) = val_main_v0 (F := Ideal) (V0 (Proc.devRef .tc main_arg0)) := by
  unfold w1
  simp only [hostOps0]
  after_results_simp
  after_results_loop
  all_goals rfl

set_option maxHeartbeats 4000000 in
theorem w1_arg1 : w1 V0 (no_index (Proc.devRef .tc main_arg1)) = V0 (Proc.devRef .tc main_arg1) := by
  unfold w1
  simp only [hostOps0]
  after_results_simp
  all_goals rfl

set_option maxHeartbeats 4000000 in
theorem w1_arg2 : w1 V0 (no_index (Proc.devRef .tc main_arg2)) = V0 (Proc.devRef .tc main_arg2) := by
  unfold w1
  simp only [hostOps0]
  after_results_simp
  all_goals rfl

set_option maxHeartbeats 4000000 in
theorem w2_down : w2 V0 (no_index (Proc.devRef .tc main_v4))
    = (truncf .bf16 (val_main_v1 (F := Ideal) (V0 (Proc.devRef .tc main_arg0)) (V0 (Proc.devRef .tc main_arg1)) : FVec Ideal S8320x2816 .f32) bitsLt_bf16_f32 : FVec Ideal S8320x2816 .bf16) := by
  unfold w2
  simp only [hostOps0_1]
  after_results_simp
  after_results_loop
  rw [w1_silu, w1_arg1]
  all_goals rfl

set_option maxHeartbeats 4000000 in
theorem w2_factor : w2 V0 (no_index (Proc.devRef .tc main_v6))
    = broadcastInDim S1x8320x1024 ![1, 2] bcast_S8320x1024_S1x8320x1024_1_2
        (truncf .bf16 (val_main_v7 (F := Ideal) (V0 (Proc.devRef .tc main_arg2)) : FVec Ideal S8320x1024 .f32) bitsLt_bf16_f32 : FVec Ideal S8320x1024 .bf16) := by
  unfold w2
  simp only [hostOps0_1]
  after_results_simp
  after_results_loop
  rw [w1_arg2]
  all_goals rfl

end Cert.Kernel4Ideal.Grad

end
-- ==== Proof.GradDownFinal.lean ====
/- The weight gradient the kernel leaves for the down product, and that the reference gives the same. -/
module

public import proofs.«01_k».proof.Proof.GradDownHost
public import proofs.«01_k».proof.Proof.Gen.Kernel4Ideal.Points
public import proofs.«01_k».proof.Proof.Gen.Kernel4Ideal.Value

@[expose] public section

set_option maxRecDepth 16384

noncomputable section

namespace Cert.Kernel4Ideal.Grad

open Idealize.ShloMosaic hiding ix1 ix2 ix3 ix4
open Idealize.ShloMosaic.TcCoe Cert.Kernel4Ideal Cert.Kernel4Ideal.Gen Idealize.ShloMosaic.ValueIdx
open Idealize.SL.Sem
open Cert.Reference4Ideal.Read (val_main_v1 val_main_v7 val_main_v10 val_main_v10_apply val_main_v9_apply val_main_v8_apply)

/-- The block each window is on: point `t` has the `t`-th block of columns, and of rows of the result. -/
theorem places : ∀ t : Fin cfg0.N,
    (win0_0.index t 0 = 0 ∧ win0_0.index t 1 = t.val)
    ∧ (win0_1.index t 0 = t.val ∧ win0_1.index t 1 = 0) :=
  (by decide +kernel : ∀ t : Fin grid0.N, _)

variable {m : (ℓ : Loc nD τ sig) → Buf (Elt Ideal) ℓ} {c : Dev nD}

/-- The three arguments. -/
abbrev inGate (m : (ℓ : Loc nD τ sig) → Buf (Elt Ideal) ℓ) (c : Dev nD) : FVec Ideal S8320x2816 .f32 := m ((c : Thread nD τ).loc main_arg0)
abbrev inUp (m : (ℓ : Loc nD τ sig) → Buf (Elt Ideal) ℓ) (c : Dev nD) : FVec Ideal S8320x2816 .f32 := m ((c : Thread nD τ).loc main_arg1)
abbrev inOut (m : (ℓ : Loc nD τ sig) → Buf (Elt Ideal) ℓ) (c : Dev nD) : FVec Ideal S8320x1024 .f32 := m ((c : Thread nD τ).loc main_arg2)

/-- A buffer as the region finds it. -/
theorem entry (b : Ref sig .tc) : V m c b = w2 (fun b => m (c, b)) (Proc.devRef .tc b) := by
  show StableHlo.after (List.flatten [hostOps0, hostOps0_1]) (fun b => m (c, b)) (Proc.devRef .tc b) = _
  rw [List.flatten_cons, List.flatten_cons, List.flatten_nil, List.append_nil]
  simp only [StableHlo.after_append]
  rfl

/-- The second factor is the halved gradient. -/
theorem factor_read (s : Fin 8320) (k : Fin 1024) : factor m c (ix3 0 s k) = val_main_v7 (F := Ideal) (inOut m c) (ix2 s k) := by
  refine (congrFun ((entry main_v6).trans (w2_factor fun b => m (c, b))) (ix3 0 s k)).trans (congrArg (val_main_v7 (F := Ideal) (inOut m c)) (funext fun a => ?_))
  match a with
  | ⟨0, _⟩ => rfl
  | ⟨1, _⟩ => rfl

/-- Column `f` of point `n`'s block. -/
def col (n : ℕ) (f : Fin 256) : Fin 2816 := ⟨(256 * n + f.val) % 2816, Nat.mod_lt _ (by norm_num)⟩

theorem col_val {n : ℕ} (hn : n < 11) (f : Fin 256) : (col n f).val = 256 * n + f.val := by
  show (256 * n + f.val) % 2816 = _
  omega

/-- The point a column belongs to. -/
theorem col_point (q : Fin 2816) : ∃ (t : Fin cfg0.N) (f : Fin 256), q.val = 256 * t.val + f.val ∧ col t.val f = q := by
  have hN : cfg0.N = 11 := N_0
  have hs : q.val / 256 < 11 := by omega
  refine ⟨⟨q.val / 256, by rw [hN]; omega⟩, ⟨q.val % 256, Nat.mod_lt _ (by norm_num)⟩, ?_, Fin.ext ?_⟩
  · show q.val = 256 * (q.val / 256) + q.val % 256; omega
  · rw [col_val hs]; show 256 * (q.val / 256) + q.val % 256 = q.val; omega

theorem colsAt_read (t : Fin cfg0.N) (s : Fin 8320) (f : Fin 256) : colsAt m c t (ix2 s f) = val_main_v1 (F := Ideal) (inGate m c) (inUp m c) (ix2 s (col t.val f)) := by
  obtain ⟨hp, -⟩ := places t
  have ht : t.val < 11 := lt_of_lt_of_eq t.isLt (show cfg0.N = 11 from N_0)
  have key : ∀ i : S8320x2816.Idx, i = ix2 s (col t.val f) → V m c main_v4 i = val_main_v1 (F := Ideal) (inGate m c) (inUp m c) (ix2 s (col t.val f)) := fun i hi => by
    subst hi
    exact congrFun ((entry main_v4).trans (w2_down fun b => m (c, b))) _
  refine key _ (funext fun a => Fin.ext ?_)
  match a with
  | ⟨0, _⟩ => show win0_0.index t 0 * 8320 + 1 * s.val = s.val; rw [hp.1]; omega
  | ⟨1, _⟩ => show win0_0.index t 1 * 256 + 1 * f.val = (col t.val f).val; rw [hp.2, col_val ht]; omega

theorem down_read (i : S2816x1024.Idx) : (dats m 0 c).arrAt 1 cfg0.N i
    = ∑ s : Fin 8320, val_main_v7 (F := Ideal) (inOut m c) (ix2 s (i 1)) * val_main_v1 (F := Ideal) (inGate m c) (inUp m c) (ix2 s (i 0)) := by
  obtain ⟨t, f, hf, ht⟩ := col_point (i 0)
  obtain ⟨-, hp⟩ := places t
  have e := congrFun (Value.blocks1 m c t (flush0_1 t)) (ix2 f (i 1))
  rw [Value.flushed1] at e
  have e2 : _ = _ := down_at (m := m) (c := c) t f (i 1)
  refine Eq.trans ?_ (e.trans (e2.trans (Finset.sum_congr rfl fun s _ => congrArg₂ (· * ·) (factor_read s (i 1)) ((colsAt_read t s f).trans (by rw [ht])))))
  refine congrArg ((dats m 0 c).arrAt 1 cfg0.N) (funext fun a => Fin.ext ?_)
  match a with
  | ⟨0, _⟩ => show (i 0).val = win0_1.index t 0 * 256 + 1 * f.val; rw [hp.1, hf]; omega
  | ⟨1, _⟩ => show (i 1).val = win0_1.index t 1 * 1024 + 1 * (i 1).val; rw [hp.2]; omega

/-- The gradient of the down product's weights is the reference's. -/
theorem down_agrees : val_main_v10 (F := Ideal) (inGate m c) (inUp m c) (inOut m c) = (dats m 0 c).arrAt 1 cfg0.N := by
  funext i
  refine Eq.trans ?_ (down_read i).symm
  refine (val_main_v10_apply (F := Ideal) _ _ _ i).trans ((val_main_v9_apply (F := Ideal) _ _ _ i).trans
    ((val_main_v8_apply _ _ _ _).trans (Finset.sum_congr rfl fun s _ => ?_)))
  refine congrArg₂ (· * ·) (congrArg (val_main_v7 (F := Ideal) (inOut m c)) (funext fun a => ?_)) (congrArg (val_main_v1 (F := Ideal) (inGate m c) (inUp m c)) (funext fun a => ?_))
  all_goals match a with
    | ⟨0, _⟩ => rfl
    | ⟨1, _⟩ => rfl

end Cert.Kernel4Ideal.Grad

end
-- ==== Proof.ActUnit.lean ====
/- What one grid point of the first SwiGLU layer's gate and up gradients stores.

   A point treats 320 rows. It takes the halved gradient's product with the down weights in eleven blocks of 256 hidden
   columns and multiplies each with the two derivatives of the gated product. -/
module

public import proofs.«01_k».proof.Proof.Gen.Kernel5Ideal.Frame
public import proofs.«01_k».proof.Proof.Num
public import Idealize.ShloMosaic.Lib.KernelVsHost
public import Idealize.ShloMosaic.Lib.Pointwise.Contract

@[expose] public section

noncomputable section

namespace Cert.Kernel5Ideal.Act

open Idealize.ShloMosaic hiding ix1 ix2 ix3 ix4
open Idealize.ShloMosaic.TcCoe Cert.Kernel5Ideal Cert.Kernel5Ideal.Gen Idealize.ShloMosaic.ValueIdx
open Idealize.SL.Sem

theorem inb_row (c : Fin 11) (a : Fin 2) : (![256 * c.val, 0] : Fin 2 → ℕ) a + S256x1024.size a ≤ S2816x1024.size a := by
  revert c a; decide
theorem inb_col (c : Fin 11) (a : Fin 2) : (![0, 256 * c.val] : Fin 2 → ℕ) a + S320x256.size a ≤ S320x2816.size a := by
  revert c a; decide

/-- Hidden rows, and hidden columns, of block `c`; the whole block of the gradient. -/
def rowR (c : Fin 11) : Rect S2816x1024 := Rect.unit ![256 * c.val, 0] S256x1024.size (inb_row c)
def colR (c : Fin 11) : Rect S320x2816 := Rect.unit ![0, 256 * c.val] S320x256.size (inb_col c)
def tokR : Rect S320x1024 := Rect.unit ![0, 0] S320x1024.size inb_S320x1024_S320x1024_0_0

section
variable {F : FTy → Type} [FloatOps F]

/-- The halved gradient's product with a block of the down weights, times a derivative. -/
def colBlock (v : Vec F S320x1024 .bf16) (w : Vec F S256x1024 .bf16) (a : Vec F S320x256 .bf16) : FVec F S320x256 .bf16 :=
  truncf .bf16 (mulf (matmul dot_S320x1024_S256x1024_S320x256_1_1_0_0_n_n none (shapeCast S320x1024 v shapeCasts_S320x1024_S320x1024 : FVec F S320x1024 .bf16)
      (shapeCast S256x1024 w shapeCasts_S256x1024_S256x1024 : FVec F S256x1024 .bf16) (constant S320x256 .f32 0x00000000#32))
    (extf .f32 (shapeCast S320x256 a shapeCasts_S320x256_S320x256 : FVec F S320x256 .bf16) bitsLt_bf16_f32)) bitsLt_bf16_f32

/-- One store, and all of them, the last first: `x0` the halved gradient, `a` a derivative, `x3` the down weights. -/
def piece (x0 : Vec F S320x1024 .bf16) (a : Vec F S320x2816 .bf16) (x3 : Vec F S2816x1024 .bf16) (c : Fin 11) : View.Piece (Elt F) S320x2816 .bf16 :=
  ⟨colR c, colBlock (View.ld x0 tokR) (View.ld x3 (rowR c)) (View.ld a (colR c))⟩
def pieces (x0 : Vec F S320x1024 .bf16) (a : Vec F S320x2816 .bf16) (x3 : Vec F S2816x1024 .bf16) : List (View.Piece (Elt F) S320x2816 .bf16) :=
  [10, 9, 8, 7, 6, 5, 4, 3, 2, 1, 0].map (piece x0 a x3)

variable (x0 : Vec F S320x1024 .bf16) (x1 x2 : Vec F S320x2816 .bf16) (x3 : Vec F S2816x1024 .bf16)

set_option maxHeartbeats 40000000 in
theorem out4_eq : out0_4 x0 x1 x2 x3 = View.canon (pieces x0 x1 x3) := by
  rfl
set_option maxHeartbeats 40000000 in
theorem out5_eq : out0_5 x0 x1 x2 x3 = View.canon (pieces x0 x2 x3) := by
  rfl

end

/-- The block holds these reals. -/
def Is {n0 n1 : ℕ} {φ : FTy} (x : FVec Ideal ⟨2, ![n0, n1]⟩ φ) (f : Fin n0 → Fin n1 → ℝ) : Prop :=
  ∀ (r : Fin n0) (d : Fin n1), x (ix2 r d) = ((f r d : ℝ) : EReal)

theorem colBlock_is {v : FVec Ideal S320x1024 .bf16} {w : FVec Ideal S256x1024 .bf16} {a : FVec Ideal S320x256 .bf16}
    {f : Fin 320 → Fin 1024 → ℝ} {p : Fin 256 → Fin 1024 → ℝ} {q : Fin 320 → Fin 256 → ℝ} (hv : Is v f) (hw : Is w p) (ha : Is a q) :
    Is (φ := .bf16) (colBlock (F := Ideal) v w a) fun r k => (∑ d, f r d * p k d) * q r k := fun r k => by
  unfold colBlock
  rw [shapeCast_self, shapeCast_self, shapeCast_self]
  show FloatOps.mulf (Ideal.matmul _ _ _ _ _) (a (ix2 r k)) = _
  rw [Ideal.matmul_apply₁ _ (a := 1) rfl (K := 1024) rfl, ha, Ideal.mulf_def, EReal.coe_mul]
  refine congrArg (· * _) ((congrArg₂ (· + ·) Num.w_zero (Num.sum_eq (f := fun d => f r d * p k d) fun d => ?_)).trans (by rw [← EReal.coe_add, zero_add]))
  rw [EReal.coe_mul]
  exact congrArg₂ (· * ·) ((congrArg v (by funext z; match z with | ⟨0, _⟩ => rfl | ⟨1, _⟩ => rfl)).trans (hv r d))
    ((congrArg w (by funext z; match z with | ⟨0, _⟩ => rfl | ⟨1, _⟩ => rfl)).trans (hw k d))

/-- Hidden column `k` of block `c`. -/
def hid (c : Fin 11) (k : Fin 256) : Fin 2816 := ⟨256 * c.val + k.val, by omega⟩

theorem hid_surj (f : Fin 2816) : ∃ c k, f = hid c k :=
  ⟨⟨f.val / 256, by omega⟩, ⟨f.val % 256, Nat.mod_lt _ (by norm_num)⟩, Fin.ext (by show f.val = 256 * (f.val / 256) + f.val % 256; omega)⟩

theorem mem_all (c : Fin 11) : c ∈ ([10, 9, 8, 7, 6, 5, 4, 3, 2, 1, 0] : List (Fin 11)) := by revert c; decide

theorem colR_idx (c : Fin 11) (r : Fin 320) (k : Fin 256) : (colR c).toLoadRect.idx (ix2 r k) = ix2 r (hid c k) := by
  funext a
  match a with
  | ⟨0, _⟩ => exact Fin.ext (by show 0 + 1 * r.val = r.val; omega)
  | ⟨1, _⟩ => exact Fin.ext (by show 256 * c.val + 1 * k.val = 256 * c.val + k.val; omega)
theorem rowR_idx (c : Fin 11) (k : Fin 256) (d : Fin 1024) : (rowR c).toLoadRect.idx (ix2 k d) = ix2 (hid c k) d := by
  funext a
  match a with
  | ⟨0, _⟩ => exact Fin.ext (by show 256 * c.val + 1 * k.val = 256 * c.val + k.val; omega)
  | ⟨1, _⟩ => exact Fin.ext (by show 0 + 1 * d.val = d.val; omega)
theorem tokR_idx (r : Fin 320) (d : Fin 1024) : tokR.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)

theorem mem_of_emb {s : Shape} (r : Rect s) {i : s.Idx} (x : r.shape.Idx) (h : r.emb x = i) : i ∈ r.set := by
  rw [← r.map_emb_univ, ← h]; exact Finset.mem_map_of_mem _ (Finset.mem_univ _)

theorem index2 {a b : ℕ} (x : (⟨2, ![a, b]⟩ : Shape).Idx) : ∃ (r : Fin a) (d : Fin b), x = ix2 r d :=
  ⟨x 0, x 1, by funext z; match z with | ⟨0, _⟩ => rfl | ⟨1, _⟩ => rfl⟩

/-- What a point stores from blocks that hold reals. -/
theorem canon_is {x0 : FVec Ideal S320x1024 .bf16} {a : FVec Ideal S320x2816 .bf16} {x3 : FVec Ideal S2816x1024 .bf16}
    {y : Fin 320 → Fin 1024 → ℝ} {q : Fin 320 → Fin 2816 → ℝ} {w : Fin 2816 → Fin 1024 → ℝ} (h0 : Is x0 y) (ha : Is a q) (h3 : Is x3 w)
    (r : Fin 320) (f : Fin 2816) :
    View.canon (pieces (F := Ideal) x0 a x3) (ix2 r f) = (((∑ d, y r d * w f d) * q r f : ℝ) : EReal) := by
  obtain ⟨c, k, rfl⟩ := hid_surj f
  refine View.canon_apply_of_pieces (Val := Elt Ideal) (e := .bf16)
    (fun i : S320x2816.Idx => ((((∑ d, y (i 0) d * w (i 1) d) * q (i 0) (i 1) : ℝ) : EReal) : Ideal .bf16))
    (pieces (F := Ideal) x0 a x3) (fun p hp x => ?_) (ix2 r (hid c k))
    ⟨piece x0 a x3 c, List.mem_map.mpr ⟨c, mem_all c, rfl⟩, mem_of_emb _ (ix2 r k) (colR_idx c r k)⟩
  obtain ⟨c, -, rfl⟩ := List.mem_map.mp hp
  obtain ⟨r, k, rfl⟩ := index2 (a := 320) (b := 256) x
  have e : (piece (F := Ideal) x0 a x3 c).1.emb (ix2 r k) = ix2 r (hid c k) := colR_idx c r k
  rw [e]
  exact colBlock_is (f := y) (p := fun k d => w (hid c k) d) (q := fun r k => q r (hid c k))
    (fun r d => (congrArg x0 (tokR_idx r d)).trans (h0 r d))
    (fun k d => (congrArg x3 (rowR_idx c k d)).trans (h3 (hid c k) d))
    (fun r k => (congrArg a (colR_idx c r k)).trans (ha r (hid c k))) r k

end Cert.Kernel5Ideal.Act

end
-- ==== Proof.ActRef.lean ====
/- The reference of the first SwiGLU layer's gate and up gradients, read in real numbers. -/
module

public import proofs.«01_k».proof.Proof.Num
public import proofs.«01_k».proof.Proof.Gen.Reference5Ideal.Read
public import Idealize.ShloMosaic.Lib.IdealHost
public import Idealize.ShloMosaic.Lib.KernelVsHost

@[expose] public section

noncomputable section

namespace Cert.ActRef

open Cert.Reference5Ideal Cert.Reference5Ideal.Read Idealize.ShloMosaic

/-- The finite inputs: the gate and up products, the down weights, the incoming gradient. -/
structure In where
  gate : Fin 8320 → Fin 2816 → ℝ
  up : Fin 8320 → Fin 2816 → ℝ
  wd : Fin 2816 → Fin 1024 → ℝ
  g : Fin 8320 → Fin 1024 → ℝ

namespace In
variable (X : In)

/-- The logistic function of the gate. -/
def s (t : Fin 8320) (f : Fin 2816) : ℝ := (1 + Real.exp (-X.gate t f))⁻¹
/-- The derivatives of the gated product in the gate and in the up product. -/
def dag (t : Fin 8320) (f : Fin 2816) : ℝ := X.up t f * X.s t f + X.gate t f * X.up t f * (X.s t f * (1 - X.s t f))
def dau (t : Fin 8320) (f : Fin 2816) : ℝ := X.gate t f * X.s t f
/-- The halved gradient and the gradient of the gated product. -/
def dy (t : Fin 8320) (d : Fin 1024) : ℝ := 1 / 2 * X.g t d
def dact (t : Fin 8320) (f : Fin 2816) : ℝ := ∑ d, X.dy t d * X.wd f d
def dgate (t : Fin 8320) (f : Fin 2816) : ℝ := X.dact t f * X.dag t f
def dup (t : Fin 8320) (f : Fin 2816) : ℝ := X.dact t f * X.dau t f

end In

/-- The arguments hold the finite inputs `X`. -/
structure Holds (X : In) (x0 x1 : S8320x2816.Idx → EReal) (x2 : S2816x1024.Idx → EReal) (x3 : S8320x1024.Idx → EReal) : Prop where
  gate : ∀ i : S8320x2816.Idx, x0 i = ((X.gate (i 0) (i 1) : ℝ) : EReal)
  up : ∀ i : S8320x2816.Idx, x1 i = ((X.up (i 0) (i 1) : ℝ) : EReal)
  wd : ∀ i : S2816x1024.Idx, x2 i = ((X.wd (i 0) (i 1) : ℝ) : EReal)
  g : ∀ i : S8320x1024.Idx, x3 i = ((X.g (i 0) (i 1) : ℝ) : EReal)

variable {X : In} {x0 x1 : S8320x2816.Idx → EReal} {x2 : S2816x1024.Idx → EReal} {x3 : S8320x1024.Idx → EReal} (H : Holds X x0 x1 x2 x3)
include H

theorem r1 (i : S8320x1024.Idx) : val_main_v1 (F := Ideal) x3 i = ((X.dy (i 0) (i 1) : ℝ) : EReal) := by
  rw [val_main_v1_apply, val_main_v0_apply, val_main_cst_apply, H.g, Ideal.ofBits_def, Num.w_half, Ideal.mulf_def, ← EReal.coe_mul]; rfl
theorem r2_2 (i : S8320x2816.Idx) : val_main_v2_2 (F := Ideal) x0 i = ((X.s (i 0) (i 1) : ℝ) : EReal) := by
  rw [val_main_v2_2_apply, val_main_call0_v4_apply, val_main_call0_cst_0_apply, val_main_call0_v3_apply, val_main_call0_v2_apply,
    val_main_call0_cst_apply, val_main_call0_v1_apply, val_main_call0_v0_apply, H.gate]
  simp only [Ideal.ofBits_def, Ideal.hostDivf_def, Ideal.addf_def, Ideal.hostUnary_exp_def, Ideal.hostNegf_def, Ideal.negf_def]
  rw [Num.w_one, ← EReal.coe_neg, Ideal.exp_coe, ← EReal.coe_add, Num.div_eq _ (by positivity), one_div]; rfl
theorem r2_1 (i : S8320x2816.Idx) : val_main_v2_1 (F := Ideal) x0 i = ((X.s (i 0) (i 1) * (1 - X.s (i 0) (i 1)) : ℝ) : EReal) := by
  rw [val_main_v2_1_apply, r2_2 H, val_main_call0_v7_apply, val_main_call0_v6_apply, val_main_call0_cst_1_apply, r2_2 H,
    Ideal.ofBits_def, Num.w_one, Ideal.subf_def, ← EReal.coe_sub, Ideal.mulf_def, ← EReal.coe_mul]
theorem r2_0 (i : S8320x2816.Idx) : val_main_v2_0 (F := Ideal) x0 i = ((X.dau (i 0) (i 1) : ℝ) : EReal) := by
  rw [val_main_v2_0_apply, H.gate, r2_2 H, Ideal.mulf_def, ← EReal.coe_mul]; rfl
theorem r5 (i : S8320x2816.Idx) : val_main_v5 (F := Ideal) x2 x3 i = ((X.dact (i 0) (i 1) : ℝ) : EReal) := by
  rw [val_main_v5_apply]
  exact Num.sum_eq fun k => by rw [r1 H, H.wd, ← EReal.coe_mul]; rfl
theorem r6 (i : S8320x2816.Idx) : val_main_v6 (F := Ideal) x0 x2 x3 i = ((X.dup (i 0) (i 1) : ℝ) : EReal) := by
  rw [val_main_v6_apply, r2_0 H, r5 H, Ideal.mulf_def, ← EReal.coe_mul, mul_comm]; rfl
theorem r8 (i : S8320x2816.Idx) : val_main_v8 (F := Ideal) x0 x1 x2 x3 i = ((X.dgate (i 0) (i 1) : ℝ) : EReal) := by
  rw [val_main_v8_apply, val_main_call1_v1_apply, val_main_call1_v2_apply, val_main_call1_v0_apply, val_main_v7_apply, H.gate, H.up, r5 H,
    r2_2 H, r2_1 H]
  simp only [Ideal.mulf_def, Ideal.addf_def, ← EReal.coe_mul, ← EReal.coe_add]
  exact congrArg _ (by unfold In.dgate In.dag; ring)

end Cert.ActRef

end
-- ==== Proof.ActHost.lean ====
/- The arrays the first SwiGLU layer's gate and up gradients are entered with, as the host operations leave them. -/
module

public import proofs.«01_k».proof.Proof.ActRef
public import proofs.«01_k».proof.Proof.Gen.Kernel5Ideal.Frame
public import Idealize.ShloMosaic.Lib.Claim

@[expose] public section

set_option maxRecDepth 16384

noncomputable section

namespace Cert.Kernel5Ideal.Entry

open Idealize.ShloMosaic Idealize.ShloMosaic.TcCoe Cert.Kernel5Ideal Cert.Kernel5Ideal.Gen Idealize.SL.Sem Idealize.ShloMosaic.StableHlo
open Cert.Reference5Ideal.Read (val_main_v1 val_main_v2_0 val_main_v2_1 val_main_v2_2)

abbrev Vals := Valuation τ sig (Elt Ideal)

variable (V0 : Vals)

/-- The contents after the first lines of host operations. -/
def w1 : Vals := after hostOps0 V0
def w2 : Vals := after hostOps0_1 (w1 V0)
def w3 : Vals := after hostOps0_2 (w2 V0)
def w4 : Vals := after hostOps0_3 (w3 V0)

/-- The arguments. -/
abbrev a0 : FVec Ideal S8320x2816 .f32 := V0 (Proc.devRef .tc main_arg0)
abbrev a1 : FVec Ideal S8320x2816 .f32 := V0 (Proc.devRef .tc main_arg1)
abbrev a2 : FVec Ideal S2816x1024 .f32 := V0 (Proc.devRef .tc main_arg2)
abbrev a3 : FVec Ideal S8320x1024 .f32 := V0 (Proc.devRef .tc main_arg3)

/-- Ones, the cotangent of the gated product. -/
abbrev ones : FVec Ideal S8320x2816 .f32 := broadcastInDim S8320x2816 ![] bcast_S_S8320x2816 (constant (F := Ideal) S_ .f32 0x3F800000#32)

/-- The derivative of the gated product by the gate. -/
def byGate : FVec Ideal S8320x2816 .f32 :=
  let up : FVec Ideal S8320x2816 .f32 := mulf ones (a1 V0)
  addf (mulf up (val_main_v2_2 (F := Ideal) (a0 V0))) (mulf (mulf (a0 V0) up) (val_main_v2_1 (F := Ideal) (a0 V0)))
/-- The derivative of the gated product by the other factor. -/
def byUp : FVec Ideal S8320x2816 .f32 := mulf (val_main_v2_0 (F := Ideal) (a0 V0)) ones

set_option maxHeartbeats 4000000 in
theorem w1_arg0 : w1 V0 (no_index (Proc.devRef .tc main_arg0)) = a0 V0 := by
  unfold w1
  simp only [hostOps0]
  after_results_simp
  after_results_loop
  all_goals rfl
set_option maxHeartbeats 4000000 in
theorem w1_arg1 : w1 V0 (no_index (Proc.devRef .tc main_arg1)) = a1 V0 := by
  unfold w1
  simp only [hostOps0]
  after_results_simp
  after_results_loop
  all_goals rfl
set_option maxHeartbeats 4000000 in
theorem w1_arg2 : w1 V0 (no_index (Proc.devRef .tc main_arg2)) = a2 V0 := by
  unfold w1
  simp only [hostOps0]
  after_results_simp
  after_results_loop
  all_goals rfl
set_option maxHeartbeats 4000000 in
theorem w1_arg3 : w1 V0 (no_index (Proc.devRef .tc main_arg3)) = a3 V0 := by
  unfold w1
  simp only [hostOps0]
  after_results_simp
  after_results_loop
  all_goals rfl
set_option maxHeartbeats 4000000 in
theorem w1_v0_0 : w1 V0 (no_index (Proc.devRef .tc main_v0_0)) = val_main_v2_0 (F := Ideal) (a0 V0) := by
  unfold w1
  simp only [hostOps0]
  after_results_simp
  after_results_loop
  all_goals rfl
set_option maxHeartbeats 4000000 in
theorem w1_v0_1 : w1 V0 (no_index (Proc.devRef .tc main_v0_1)) = val_main_v2_1 (F := Ideal) (a0 V0) := by
  unfold w1
  simp only [hostOps0]
  after_results_simp
  after_results_loop
  all_goals rfl
set_option maxHeartbeats 4000000 in
theorem w1_v0_2 : w1 V0 (no_index (Proc.devRef .tc main_v0_2)) = val_main_v2_2 (F := Ideal) (a0 V0) := by
  unfold w1
  simp only [hostOps0]
  after_results_simp
  after_results_loop
  all_goals rfl
set_option maxHeartbeats 4000000 in
theorem w2_arg0 : w2 V0 (no_index (Proc.devRef .tc main_arg0)) = a0 V0 := by
  unfold w2
  simp only [hostOps0_1]
  after_results_simp
  simp only [w1_arg0] <;> rfl
set_option maxHeartbeats 4000000 in
theorem w2_arg2 : w2 V0 (no_index (Proc.devRef .tc main_arg2)) = a2 V0 := by
  unfold w2
  simp only [hostOps0_1]
  after_results_simp
  simp only [w1_arg2] <;> rfl
set_option maxHeartbeats 4000000 in
theorem w2_arg3 : w2 V0 (no_index (Proc.devRef .tc main_arg3)) = a3 V0 := by
  unfold w2
  simp only [hostOps0_1]
  after_results_simp
  simp only [w1_arg3] <;> rfl
set_option maxHeartbeats 4000000 in
theorem w2_v0_1 : w2 V0 (no_index (Proc.devRef .tc main_v0_1)) = val_main_v2_1 (F := Ideal) (a0 V0) := by
  unfold w2
  simp only [hostOps0_1]
  after_results_simp
  simp only [w1_v0_1] <;> rfl
set_option maxHeartbeats 4000000 in
theorem w2_v0_2 : w2 V0 (no_index (Proc.devRef .tc main_v0_2)) = val_main_v2_2 (F := Ideal) (a0 V0) := by
  unfold w2
  simp only [hostOps0_1]
  after_results_simp
  simp only [w1_v0_2] <;> rfl
set_option maxHeartbeats 4000000 in
theorem w2_v3 : w2 V0 (no_index (Proc.devRef .tc main_v3)) = byUp V0 := by
  unfold w2
  simp only [hostOps0_1]
  after_results_simp
  simp only [w1_v0_0] <;> rfl
set_option maxHeartbeats 4000000 in
theorem w2_v4 : w2 V0 (no_index (Proc.devRef .tc main_v4)) = (mulf ones (a1 V0) : FVec Ideal S8320x2816 .f32) := by
  unfold w2
  simp only [hostOps0_1]
  after_results_simp
  simp only [w1_arg1] <;> rfl
set_option maxHeartbeats 4000000 in
theorem w3_arg2 : w3 V0 (no_index (Proc.devRef .tc main_arg2)) = a2 V0 := by
  unfold w3
  simp only [hostOps0_2]
  after_results_simp
  simp only [w2_arg2] <;> rfl
set_option maxHeartbeats 4000000 in
theorem w3_arg3 : w3 V0 (no_index (Proc.devRef .tc main_arg3)) = a3 V0 := by
  unfold w3
  simp only [hostOps0_2]
  after_results_simp
  simp only [w2_arg3] <;> rfl
set_option maxHeartbeats 4000000 in
theorem w3_v3 : w3 V0 (no_index (Proc.devRef .tc main_v3)) = byUp V0 := by
  unfold w3
  simp only [hostOps0_2]
  after_results_simp
  simp only [w2_v3] <;> rfl
set_option maxHeartbeats 4000000 in
theorem w3_v5 : w3 V0 (no_index (Proc.devRef .tc main_v5)) = byGate V0 := by
  unfold w3
  simp only [hostOps0_2]
  after_results_simp
  simp only [w2_arg0, w2_v4, w2_v0_1, w2_v0_2] <;> rfl
set_option maxHeartbeats 4000000 in
theorem w4_v8 : w4 V0 (no_index (Proc.devRef .tc main_v8)) = (truncf .bf16 (val_main_v1 (F := Ideal) (a3 V0)) bitsLt_bf16_f32 : FVec Ideal S8320x1024 .bf16) := by
  unfold w4
  simp only [hostOps0_3]
  after_results_simp
  simp only [w3_arg3] <;> rfl
set_option maxHeartbeats 4000000 in
theorem w4_v9 : w4 V0 (no_index (Proc.devRef .tc main_v9)) = (truncf .bf16 (byGate V0) bitsLt_bf16_f32 : FVec Ideal S8320x2816 .bf16) := by
  unfold w4
  simp only [hostOps0_3]
  after_results_simp
  simp only [w3_v5] <;> rfl
set_option maxHeartbeats 4000000 in
theorem w4_v10 : w4 V0 (no_index (Proc.devRef .tc main_v10)) = (truncf .bf16 (byUp V0) bitsLt_bf16_f32 : FVec Ideal S8320x2816 .bf16) := by
  unfold w4
  simp only [hostOps0_3]
  after_results_simp
  simp only [w3_v3] <;> rfl
set_option maxHeartbeats 4000000 in
theorem w4_v11 : w4 V0 (no_index (Proc.devRef .tc main_v11)) = (truncf .bf16 (a2 V0) bitsLt_bf16_f32 : FVec Ideal S2816x1024 .bf16) := by
  unfold w4
  simp only [hostOps0_3]
  after_results_simp
  simp only [w3_arg2] <;> rfl

variable (m : (ℓ : Loc nD τ sig) → Buf (Elt Ideal) ℓ) (c : Dev nD)

/-- A buffer as the region finds it. -/
theorem entry (b : Ref sig .tc) : V m c b = w4 (fun b => m (c, b)) (Proc.devRef .tc b) := by
  show after (List.flatten [hostOps0, hostOps0_1, hostOps0_2, hostOps0_3]) (fun b => m (c, b)) (Proc.devRef .tc b) = _
  rw [List.flatten_cons, List.flatten_cons, List.flatten_cons, List.flatten_cons, List.flatten_nil, List.append_nil]
  simp only [after_append]
  rfl

end Cert.Kernel5Ideal.Entry

end
-- ==== Proof.ActInputs.lean ====
/- What the precondition of the first SwiGLU layer's gate and up gradients says: the four arrays hold real numbers. -/
module

public import proofs.«01_k».proof.Pre_finite5
public import proofs.«01_k».proof.Proof.Gen.Pre_finite5
public import proofs.«01_k».proof.Proof.ActRef
public import Idealize.ShloMosaic.Lib.ReduceAll
public import Idealize.ShloMosaic.Lib.Pointwise.Select

@[expose] public section

noncomputable section

namespace Cert.ActInputs

open Idealize.ShloMosaic hiding ix1 ix2 ix3 ix4
open Idealize.ShloMosaic.ValueIdx Cert.Pre_finite5
open Cert.ActRef (Holds In)

instance : Subsingleton S_.Idx := ⟨fun a b => funext fun k => k.elim0⟩

/-- A value whose absolute value is below infinity is a real number. -/
theorem real_of_abs_lt (x : EReal) (h : FloatOps.cmpf .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h1 : Ideal.cmp .olt (max x (-x)) (Ideal.ofBits .f32 0x7F800000#32) = 1#1 := h
  rw [htop] at h1
  have h2 := max_lt_iff.mp ((Ideal.cmp_olt_eq_one _ _).mp h1)
  refine (EReal.coe_toReal h2.1.ne fun hb => ?_).symm
  rw [hb] at h2
  exact absurd h2.2 (by simp)

variable (x0 x1 : FVec Ideal S8320x2816 .f32) (x2 : FVec Ideal S2816x1024 .f32) (x3 : FVec Ideal S8320x1024 .f32)

/-- The real numbers the four arrays hold. -/
def reals : In where
  gate t f := EReal.toReal (x0 (ix2 (n0 := 8320) (n1 := 2816) t f))
  up t f := EReal.toReal (x1 (ix2 (n0 := 8320) (n1 := 2816) t f))
  wd f d := EReal.toReal (x2 (ix2 (n0 := 2816) (n1 := 1024) f d))
  g t d := EReal.toReal (x3 (ix2 (n0 := 8320) (n1 := 1024) t d))

/-- An entry named by its two coordinates. -/
theorem named {a b : ℕ} (x : FVec Ideal ⟨2, ![a, b]⟩ .f32) (i : (⟨2, ![a, b]⟩ : Shape).Idx)
    (h : x i = ((EReal.toReal (x i) : ℝ) : EReal)) : x i = ((EReal.toReal (x (ix2 (n0 := a) (n1 := b) (i 0) (i 1))) : ℝ) : EReal) := by
  refine h.trans (congrArg (fun y : EReal => ((EReal.toReal y : ℝ) : EReal)) (congrArg x (funext fun a => ?_)))
  match a with
  | ⟨0, _⟩ => rfl
  | ⟨1, _⟩ => rfl

/-- Under the precondition the four arrays hold real numbers. -/
theorem holds (e : Cert.Pre_finite5.fn (F := Ideal) x0 x1 x2 x3 = fun _ => 1#1) : Holds (reals x0 x1 x2 x3) x0 x1 x2 x3 := by
  have e1 := congrFun e (fun k => k.elim0)
  dsimp only [Cert.Pre_finite5.fn, Cert.Pre_finite5.fn_part1] at e1
  have s3 := IntOp.andi_eq_one.mp e1
  have s2 := IntOp.andi_eq_one.mp s3.1
  have s1 := IntOp.andi_eq_one.mp s2.1
  have p0 := Host.reduce_andi_all _ _ _ _ _ s1.1
  have p1 := Host.reduce_andi_all _ _ _ _ _ s1.2
  have p2 := Host.reduce_andi_all _ _ _ _ _ s2.2
  have p3 := Host.reduce_andi_all _ _ _ _ _ s3.2
  exact ⟨fun i => named x0 i (real_of_abs_lt _ (p0 i)), fun i => named x1 i (real_of_abs_lt _ (p1 i)),
    fun i => named x2 i (real_of_abs_lt _ (p2 i)), fun i => named x3 i (real_of_abs_lt _ (p3 i))⟩

end Cert.ActInputs

end
-- ==== Proof.ActFinal.lean ====
/- The two arrays the first SwiGLU layer's gate and up gradients leave, and that the reference gives the same. -/
module

public import proofs.«01_k».proof.Proof.ActUnit
public import proofs.«01_k».proof.Proof.ActHost
public import proofs.«01_k».proof.Proof.ActInputs
public import proofs.«01_k».proof.Proof.Gen.Kernel5Ideal.Points
public import proofs.«01_k».proof.Proof.Gen.Kernel5Ideal.Value

@[expose] public section

set_option maxRecDepth 16384

noncomputable section

namespace Cert.Kernel5Ideal.Entry

open Idealize.ShloMosaic hiding ix1 ix2 ix3 ix4
open Idealize.ShloMosaic.TcCoe Cert.Kernel5Ideal Cert.Kernel5Ideal.Gen Cert.Kernel5Ideal.Act Idealize.ShloMosaic.ValueIdx
open Idealize.SL.Sem
open Cert.ActRef (In Holds r1 r2_0 r2_1 r2_2)
open Cert.Reference5Ideal.Read (val_main_v9 val_main_v10)

/-- The block each window is on: point `t` has the `t`-th block of rows. -/
theorem places : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) :=
  (by decide +kernel : ∀ t : Fin grid0.N, _)

/-- Row `r` of point `t`. -/
def tok (t : ℕ) (r : Fin 320) : Fin 8320 := ⟨(320 * t + r.val) % 8320, Nat.mod_lt _ (by norm_num)⟩
theorem tok_val {t : ℕ} (h : t < 26) (r : Fin 320) : (tok t r).val = 320 * t + r.val := Nat.mod_eq_of_lt (by omega)

/-- The point a row belongs to. -/
theorem row_point (s : Fin 8320) : ∃ (t : Fin cfg0.N) (r : Fin 320), s.val = 320 * t.val + r.val ∧ tok t.val r = s := by
  have hN : cfg0.N = 26 := N_0
  have hs : s.val / 320 < 26 := by omega
  refine ⟨⟨s.val / 320, by rw [hN]; omega⟩, ⟨s.val % 320, Nat.mod_lt _ (by norm_num)⟩, ?_, Fin.ext ?_⟩
  · show s.val = 320 * (s.val / 320) + s.val % 320; omega
  · rw [tok_val hs]; show 320 * (s.val / 320) + s.val % 320 = s.val; omega

variable {m : (ℓ : Loc nD τ sig) → Buf (Elt Ideal) ℓ} {c : Dev nD} {X : In}

/-- The contents the region is launched with. -/
abbrev V0 (m : (ℓ : Loc nD τ sig) → Buf (Elt Ideal) ℓ) (c : Dev nD) : Vals := fun b => m (c, b)

section
variable (H : Holds X (m ((c : Thread nD τ).loc main_arg0)) (m ((c : Thread nD τ).loc main_arg1)) (m ((c : Thread nD τ).loc main_arg2))
  (m ((c : Thread nD τ).loc main_arg3)))
include H

theorem byGate_read (i : S8320x2816.Idx) : byGate (V0 m c) i = ((X.dag (i 0) (i 1) : ℝ) : EReal) := by
  have e1 := H.gate i
  have e2 := H.up i
  have e3 := r2_1 H i
  have e4 := r2_2 H i
  show FloatOps.addf (FloatOps.mulf (FloatOps.mulf (Ideal.ofBits .f32 0x3F800000#32) _) _) (FloatOps.mulf (FloatOps.mulf _ (FloatOps.mulf (Ideal.ofBits .f32 0x3F800000#32) _)) _) = _
  refine (congrArg₂ FloatOps.addf (congrArg₂ FloatOps.mulf (congrArg₂ FloatOps.mulf Num.w_one e2) e4)
    (congrArg₂ FloatOps.mulf (congrArg₂ FloatOps.mulf e1 (congrArg₂ FloatOps.mulf Num.w_one e2)) e3)).trans ?_
  simp only [Ideal.mulf_def, Ideal.addf_def, ← EReal.coe_mul, ← EReal.coe_add, one_mul]
  rfl

theorem byUp_read (i : S8320x2816.Idx) : byUp (V0 m c) i = ((X.dau (i 0) (i 1) : ℝ) : EReal) := by
  have e1 := r2_0 H i
  refine (congrArg₂ FloatOps.mulf e1 Num.w_one).trans ?_
  rw [Ideal.mulf_def, ← EReal.coe_mul, mul_one]

theorem block0 (t : Fin cfg0.N) : Is (φ := .bf16) (iblk m c 0 t) fun r d => X.dy (tok t.val r) d := fun r d => by
  obtain ⟨hp, -⟩ := places t
  have ht : t.val < 26 := lt_of_lt_of_eq t.isLt (show cfg0.N = 26 from N_0)
  have key : ∀ i : S8320x1024.Idx, i = ix2 (tok t.val r) d → V m c main_v8 i = ((X.dy (tok t.val r) d : ℝ) : EReal) := fun i hi => by
    subst hi
    generalize hj : (ix2 (tok t.val r) d : S8320x1024.Idx) = i
    have e : V m c main_v8 i = ((X.dy (i 0) (i 1) : ℝ) : EReal) := by rw [entry, w4_v8]; exact r1 H i
    rw [e, ← hj]
  refine key _ (funext fun a => Fin.ext ?_)
  match a with
  | ⟨0, _⟩ => show win0_0.index t 0 * 320 + 1 * r.val = (tok t.val r).val; rw [hp.1, tok_val ht]; omega
  | ⟨1, _⟩ => show win0_0.index t 1 * 1024 + 1 * d.val = d.val; rw [hp.2]; omega

theorem block1 (t : Fin cfg0.N) : Is (φ := .bf16) (iblk m c 1 t) fun r f => X.dag (tok t.val r) f := fun r d => by
  obtain ⟨-, hp, -⟩ := places t
  have ht : t.val < 26 := lt_of_lt_of_eq t.isLt (show cfg0.N = 26 from N_0)
  have key : ∀ i : S8320x2816.Idx, i = ix2 (tok t.val r) d → V m c main_v9 i = ((X.dag (tok t.val r) d : ℝ) : EReal) := fun i hi => by
    subst hi
    generalize hj : (ix2 (tok t.val r) d : S8320x2816.Idx) = i
    have e : V m c main_v9 i = ((X.dag (i 0) (i 1) : ℝ) : EReal) := by rw [entry, w4_v9]; exact byGate_read H i
    rw [e, ← hj]
  refine key _ (funext fun a => Fin.ext ?_)
  match a with
  | ⟨0, _⟩ => show win0_1.index t 0 * 320 + 1 * r.val = (tok t.val r).val; rw [hp.1, tok_val ht]; omega
  | ⟨1, _⟩ => show win0_1.index t 1 * 2816 + 1 * d.val = d.val; rw [hp.2]; omega

theorem block2 (t : Fin cfg0.N) : Is (φ := .bf16) (iblk m c 2 t) fun r f => X.dau (tok t.val r) f := fun r d => by
  obtain ⟨-, -, hp, -⟩ := places t
  have ht : t.val < 26 := lt_of_lt_of_eq t.isLt (show cfg0.N = 26 from N_0)
  have key : ∀ i : S8320x2816.Idx, i = ix2 (tok t.val r) d → V m c main_v10 i = ((X.dau (tok t.val r) d : ℝ) : EReal) := fun i hi => by
    subst hi
    generalize hj : (ix2 (tok t.val r) d : S8320x2816.Idx) = i
    have e : V m c main_v10 i = ((X.dau (i 0) (i 1) : ℝ) : EReal) := by rw [entry, w4_v10]; exact byUp_read H i
    rw [e, ← hj]
  refine key _ (funext fun a => Fin.ext ?_)
  match a with
  | ⟨0, _⟩ => show win0_2.index t 0 * 320 + 1 * r.val = (tok t.val r).val; rw [hp.1, tok_val ht]; omega
  | ⟨1, _⟩ => show win0_2.index t 1 * 2816 + 1 * d.val = d.val; rw [hp.2]; omega

theorem block3 (t : Fin cfg0.N) : Is (φ := .bf16) (iblk m c 3 t) X.wd := fun f d => by
  obtain ⟨-, -, -, hp, -⟩ := places t
  have key : ∀ i : S2816x1024.Idx, i = ix2 f d → V m c main_v11 i = ((X.wd f d : ℝ) : EReal) := fun i hi => by
    subst hi
    rw [entry, w4_v11]
    exact H.wd (ix2 f d)
  refine key _ (funext fun a => Fin.ext ?_)
  match a with
  | ⟨0, _⟩ => show win0_3.index t 0 * 2816 + 1 * f.val = f.val; rw [hp.1]; omega
  | ⟨1, _⟩ => show win0_3.index t 1 * 1024 + 1 * d.val = d.val; rw [hp.2]; omega

theorem gate_read (i : S8320x2816.Idx) : (dats m 0 c).arrAt 4 cfg0.N i = ((X.dgate (i 0) (i 1) : ℝ) : EReal) := by
  obtain ⟨t, r, hr, ht⟩ := row_point (i 0)
  obtain ⟨-, -, -, -, hp, -⟩ := places t
  have e := congrFun (Value.blocks4 m c t (flush0_4 t)) (ix2 r (i 1))
  rw [Value.flushed4, out4_eq] at e
  have e2 : _ = ((X.dgate (tok t.val r) (i 1) : ℝ) : EReal) := canon_is (block0 H t) (block1 H t) (block3 H t) r (i 1)
  rw [ht] at e2
  refine Eq.trans ?_ (e.trans e2)
  refine congrArg ((dats m 0 c).arrAt 4 cfg0.N) (funext fun a => Fin.ext ?_)
  match a with
  | ⟨0, _⟩ => show (i 0).val = win0_4.index t 0 * 320 + 1 * r.val; rw [hp.1, hr]; omega
  | ⟨1, _⟩ => show (i 1).val = win0_4.index t 1 * 2816 + 1 * (i 1).val; rw [hp.2]; omega

theorem up_read (i : S8320x2816.Idx) : (dats m 0 c).arrAt 5 cfg0.N i = ((X.dup (i 0) (i 1) : ℝ) : EReal) := by
  obtain ⟨t, r, hr, ht⟩ := row_point (i 0)
  obtain ⟨-, -, -, -, -, hp⟩ := places t
  have e := congrFun (Value.blocks5 m c t (flush0_5 t)) (ix2 r (i 1))
  rw [Value.flushed5, out5_eq] at e
  have e2 : _ = ((X.dup (tok t.val r) (i 1) : ℝ) : EReal) := canon_is (block0 H t) (block2 H t) (block3 H t) r (i 1)
  rw [ht] at e2
  refine Eq.trans ?_ (e.trans e2)
  refine congrArg ((dats m 0 c).arrAt 5 cfg0.N) (funext fun a => Fin.ext ?_)
  match a with
  | ⟨0, _⟩ => show (i 0).val = win0_5.index t 0 * 320 + 1 * r.val; rw [hp.1, hr]; omega
  | ⟨1, _⟩ => show (i 1).val = win0_5.index t 1 * 2816 + 1 * (i 1).val; rw [hp.2]; omega

end

variable (e : Cert.Pre_finite5.fn (F := Ideal) (m ((c : Thread nD τ).loc main_arg0)) (m ((c : Thread nD τ).loc main_arg1)) (m ((c : Thread nD τ).loc main_arg2)) (m ((c : Thread nD τ).loc main_arg3)) = fun _ => 1#1)
include e

/-- The gradient of the gate. -/
theorem gates : val_main_v9 (F := Ideal) (m ((c : Thread nD τ).loc main_arg0)) (m ((c : Thread nD τ).loc main_arg1)) (m ((c : Thread nD τ).loc main_arg2)) (m ((c : Thread nD τ).loc main_arg3)) = (dats m 0 c).arrAt 4 cfg0.N := by
  have H := Cert.ActInputs.holds _ _ _ _ e
  funext i
  exact (Cert.ActRef.r8 H i).trans (gate_read H i).symm

/-- The gradient of the other factor. -/
theorem ups : val_main_v10 (F := Ideal) (m ((c : Thread nD τ).loc main_arg0)) (m ((c : Thread nD τ).loc main_arg2)) (m ((c : Thread nD τ).loc main_arg3)) = (dats m 0 c).arrAt 5 cfg0.N := by
  have H := Cert.ActInputs.holds _ _ _ _ e
  funext i
  exact (Cert.ActRef.r6 H i).trans (up_read H i).symm

end Cert.Kernel5Ideal.Entry

end
-- ==== Proof.InpSpec.lean ====
/- What the backward pass of the mixer layer's input projection computes, in real numbers.

   The layer norms a row and takes its product with the projection's weights; the row itself also goes past the layer. -/
module

public import proofs.«01_k».proof.Proof.FfnSpec

@[expose] public section

noncomputable section

namespace Cert.Inp

open Finset
open Cert.Ffn (xh normBwd)

/-- The finite inputs: the rows, the norm's gain, the projection, the gradient of its result, the gradient that goes past the layer. -/
structure In where
  h : Fin 8320 → Fin 1024 → ℝ
  w : Fin 1024 → ℝ
  win : Fin 1024 → Fin 2560 → ℝ
  dp : Fin 8320 → Fin 2560 → ℝ
  dres : Fin 8320 → Fin 1024 → ℝ

namespace In

variable (X : In)

/-- The gradients of the normed rows, of the gain, of the rows, and half of the last. -/
def dn (t : Fin 8320) (d : Fin 1024) : ℝ := ∑ k, X.dp t k * X.win d k
def dw (d : Fin 1024) : ℝ := ∑ t, X.dn t d * xh (X.h t) d
def dh (t : Fin 8320) (d : Fin 1024) : ℝ := normBwd (X.h t) (fun e => X.dn t e * X.w e) d + X.dres t d
def df (t : Fin 8320) (d : Fin 1024) : ℝ := 1 / 2 * X.dh t d

end In

end Cert.Inp

end
-- ==== Proof.InpRef.lean ====
/- The reference of the input projection's backward pass, read in real numbers. -/
module

public import proofs.«01_k».proof.Proof.InpSpec
public import proofs.«01_k».proof.Proof.Gen.Reference6Ideal.Read
public import Idealize.ShloMosaic.Lib.IdealHost
public import Idealize.ShloMosaic.Lib.KernelVsHost

@[expose] public section

noncomputable section

namespace Cert.InpRef

open Cert.Reference6Ideal Cert.Reference6Ideal.Read Idealize.ShloMosaic Cert.Inp
open Cert.Ffn (zz rr xh zz_pos w_1024 normBwd_eq)

/-- The arguments hold the finite inputs `X`. -/
structure Holds (X : In) (x0 : S8320x1024.Idx → EReal) (x1 : S1x1024.Idx → EReal) (x2 : S1024x2560.Idx → EReal)
    (x3 : S8320x2560.Idx → EReal) (x4 : S8320x1024.Idx → EReal) : Prop where
  h : ∀ i : S8320x1024.Idx, x0 i = ((X.h (i 0) (i 1) : ℝ) : EReal)
  w : ∀ i : S1x1024.Idx, x1 i = ((X.w (i 1) : ℝ) : EReal)
  win : ∀ i : S1024x2560.Idx, x2 i = ((X.win (i 0) (i 1) : ℝ) : EReal)
  dp : ∀ i : S8320x2560.Idx, x3 i = ((X.dp (i 0) (i 1) : ℝ) : EReal)
  dres : ∀ i : S8320x1024.Idx, x4 i = ((X.dres (i 0) (i 1) : ℝ) : EReal)

theorem zero_add_coe (a : ℝ) : ((0 : ℝ) : EReal) + (a : EReal) = (a : EReal) := by rw [← EReal.coe_add, zero_add]

section

variable {X : In} {x0 : S8320x1024.Idx → EReal} {x1 : S1x1024.Idx → EReal} {x2 : S1024x2560.Idx → EReal}
  {x3 : S8320x2560.Idx → EReal} {x4 : S8320x1024.Idx → EReal} (H : Holds X x0 x1 x2 x3 x4)
include H

theorem r6 (i : S8320x1.Idx) : val_main_v6 (F := Ideal) x0 i = ((zz (X.h (i 0)) : ℝ) : EReal) := by
  rw [val_main_v6_apply, val_main_v4_apply, val_main_v2_apply, val_main_v1_apply, val_main_cst_apply, val_main_v3_apply, val_main_cst_0_apply,
    val_main_v5_apply, val_main_cst_1_apply,
    Num.sum_eq (f := fun d => X.h (i 0) d * X.h (i 0) d) fun k => by
      rw [val_main_v0_apply, H.h, Ideal.mulf_def, ← EReal.coe_mul]; rfl]
  simp only [Ideal.ofBits_def, Ideal.hostDivf_def, Ideal.addf_def]
  rw [Num.w_zero, w_1024, Num.w_eps, zero_add_coe, Num.div_eq _ (by norm_num), ← EReal.coe_add]; rfl
theorem r7 (i : S8320x1.Idx) : val_main_v7 (F := Ideal) x0 i = ((rr (X.h (i 0)) : ℝ) : EReal) := by
  rw [val_main_v7_apply, r6 H, Ideal.hostUnary_rsqrt_def, Num.rsqrt_eq (zz_pos _)]; rfl
theorem r10 (i : S8320x1.Idx) : val_main_v10 (F := Ideal) x0 i = ((-(1 / 2) * (rr (X.h (i 0)) / zz (X.h (i 0))) : ℝ) : EReal) := by
  rw [val_main_v10_apply, val_main_v9_apply, val_main_cst_2_apply, val_main_v8_apply, r7 H, r6 H, Ideal.hostDivf_def,
    Num.div_eq _ (zz_pos _).ne', Ideal.ofBits_def, Num.w_neg_half, Ideal.mulf_def, ← EReal.coe_mul]
theorem r12 (i : S8320x1024.Idx) : val_main_v12 (F := Ideal) x0 i = ((xh (X.h (i 0)) (i 1) : ℝ) : EReal) := by
  rw [val_main_v12_apply, val_main_v11_apply, r7 H, H.h, Ideal.mulf_def, ← EReal.coe_mul]; rfl
theorem r16 (i : S8320x1024.Idx) : val_main_v16 (F := Ideal) x2 x3 i = ((X.dn (i 0) (i 1) : ℝ) : EReal) := by
  rw [val_main_v16_apply]
  exact Num.sum_eq fun k => by rw [H.dp, H.win, ← EReal.coe_mul]; rfl
theorem r19 (i : S1x1024.Idx) : val_main_v19 (F := Ideal) x0 x2 x3 i = ((X.dw (i 1) : ℝ) : EReal) := by
  rw [val_main_v19_apply, val_main_v18_apply, val_main_cst_3_apply,
    Num.sum_eq (f := fun t => X.dn t (i 1) * xh (X.h t) (i 1)) fun k => by
      rw [val_main_v17_apply, r12 H, r16 H, Ideal.mulf_def, ← EReal.coe_mul, mul_comm]
      have e0 : idx_main_v18 (idx_main_v19 i) k 0 = k := rfl
      have e1 : idx_main_v18 (idx_main_v19 i) k 1 = i 1 := Fin.ext (by
        have h0 : (i 0).val < 1 := (i 0).isLt
        show (i 0).val * 1024 + (i 1).val = (i 1).val; omega)
      rw [e0, e1],
    Ideal.ofBits_def, Num.w_zero, zero_add_coe]
  rfl
theorem r21 (i : S8320x1024.Idx) : val_main_v21 (F := Ideal) x1 x2 x3 i = ((X.dn (i 0) (i 1) * X.w (i 1) : ℝ) : EReal) := by
  rw [val_main_v21_apply, r16 H, val_main_v20_apply, H.w, Ideal.mulf_def, ← EReal.coe_mul]; rfl
theorem r29 (i : S8320x1.Idx) : val_main_v29 (F := Ideal) x0 x1 x2 x3 i
    = (((∑ e, X.h (i 0) e * (X.dn (i 0) e * X.w e)) * (-(1 / 2) * (rr (X.h (i 0)) / zz (X.h (i 0)))) / 1024 : ℝ) : EReal) := by
  rw [val_main_v29_apply, val_main_v27_apply, val_main_v24_apply, val_main_v23_apply, val_main_cst_4_apply, val_main_v28_apply, val_main_cst_5_apply,
    r10 H, Num.sum_eq (f := fun e => X.h (i 0) e * (X.dn (i 0) e * X.w e)) fun k => by
      rw [val_main_v22_apply, r21 H, H.h, Ideal.mulf_def, ← EReal.coe_mul]
      have e0 : idx_main_v23 (idx_main_v24 i) k 0 = i 0 := Fin.ext (by
        have h1 : (i 1).val < 1 := (i 1).isLt
        show (i 0).val * 1 + (i 1).val = (i 0).val; omega)
      have e1 : idx_main_v23 (idx_main_v24 i) k 1 = k := rfl
      rw [e0, e1]]
  simp only [Ideal.ofBits_def, Ideal.hostDivf_def, Ideal.mulf_def]
  rw [Num.w_zero, w_1024, zero_add_coe, ← EReal.coe_mul, Num.div_eq _ (by norm_num)]
theorem r31 (i : S8320x1024.Idx) : val_main_v31 (F := Ideal) x0 x1 x2 x3 i
    = (((∑ e, X.h (i 0) e * (X.dn (i 0) e * X.w e)) * (-(1 / 2) * (rr (X.h (i 0)) / zz (X.h (i 0)))) / 1024 : ℝ) : EReal) := by
  rw [val_main_v31_apply, val_main_v30_apply, val_main_cst_6_apply, Fin.sum_univ_one, r29 H, Ideal.ofBits_def, Num.w_zero, zero_add_coe]
  rfl
theorem r36 (i : S8320x1024.Idx) : val_main_v36 (F := Ideal) x0 x1 x2 x3 x4 i = ((X.dh (i 0) (i 1) : ℝ) : EReal) := by
  rw [val_main_v36_apply, val_main_v35_apply, val_main_v33_apply, val_main_v26_apply, val_main_v25_apply, val_main_v32_apply, val_main_v34_apply,
    r31 H, r21 H, r7 H, H.h, H.dres]
  simp only [Ideal.mulf_def, Ideal.addf_def, ← EReal.coe_mul, ← EReal.coe_add]
  refine congrArg _ ?_
  unfold In.dh
  rw [← normBwd_eq (X.h (i 0)) (fun e => X.dn (i 0) e * X.w e) (i 1)]
  rfl
theorem r39 (i : S8320x1024.Idx) : val_main_v39 (F := Ideal) x0 x1 x2 x3 x4 i = ((X.df (i 0) (i 1) : ℝ) : EReal) := by
  show val_main_v38 (F := Ideal) x0 x1 x2 x3 x4 i = _
  rw [val_main_v38_apply, val_main_v37_apply, val_main_cst_7_apply, r36 H, Ideal.ofBits_def, Num.w_half, Ideal.mulf_def, ← EReal.coe_mul]; rfl

end

end Cert.InpRef

end
-- ==== Proof.InpHost.lean ====
/- The arrays the input projection's backward region is entered with, as the host operations leave them. -/
module

public import proofs.«01_k».proof.Proof.InpRef
public import proofs.«01_k».proof.Proof.Gen.Kernel6Ideal.Frame.Runs
public import Idealize.ShloMosaic.Lib.Claim

@[expose] public section

set_option maxRecDepth 16384

noncomputable section

namespace Cert.Kernel6Ideal.Entry

open Idealize.ShloMosaic Idealize.ShloMosaic.TcCoe Cert.Kernel6Ideal Cert.Kernel6Ideal.Gen Idealize.SL.Sem Idealize.ShloMosaic.StableHlo

abbrev Vals := Valuation τ sig (Elt Ideal)

variable (V0 : Vals)

/-- The contents after the host operations. -/
def w1 : Vals := after hostOps0 V0

abbrev a2 : FVec Ideal S1024x2560 .f32 := V0 (Proc.devRef .tc main_arg2)
abbrev a3 : FVec Ideal S8320x2560 .f32 := V0 (Proc.devRef .tc main_arg3)

set_option maxHeartbeats 4000000 in
theorem w1_v1 : w1 V0 (no_index (Proc.devRef .tc main_v1)) = (truncf .bf16 (transpose S2560x1024 [1, 0] (a2 V0) transposes_S1024x2560_S2560x1024_1_0 : FVec Ideal S2560x1024 .f32) bitsLt_bf16_f32 : FVec Ideal S2560x1024 .bf16) := by
  unfold w1
  simp only [hostOps0]
  after_results_simp
  all_goals rfl
set_option maxHeartbeats 4000000 in
theorem w1_v3 : w1 V0 (no_index (Proc.devRef .tc main_v3)) = (truncf .bf16 (extractStridedSlice S8320x2048 ![0, 0] (a3 V0) slices_S8320x2560_S8320x2048_0_0 : FVec Ideal S8320x2048 .f32) bitsLt_bf16_f32 : FVec Ideal S8320x2048 .bf16) := by
  unfold w1
  simp only [hostOps0]
  after_results_simp
  all_goals rfl
set_option maxHeartbeats 4000000 in
theorem w1_v5 : w1 V0 (no_index (Proc.devRef .tc main_v5)) = (truncf .bf16 (extractStridedSlice S8320x512 ![0, 2048] (a3 V0) slices_S8320x2560_S8320x512_0_2048 : FVec Ideal S8320x512 .f32) bitsLt_bf16_f32 : FVec Ideal S8320x512 .bf16) := by
  unfold w1
  simp only [hostOps0]
  after_results_simp
  all_goals rfl

variable (m : (ℓ : Loc nD τ sig) → Buf (Elt Ideal) ℓ) (c : Dev nD)

/-- A buffer as the region finds it. -/
theorem entry (b : Ref sig .tc) : V m c b = w1 (fun b => m (c, b)) (Proc.devRef .tc b) := rfl

end Cert.Kernel6Ideal.Entry

end
-- ==== Proof.InpUnit.lean ====
/- What one grid point of the input projection's backward kernel stores.

   A point treats 640 rows. The gradient of the normed rows is the sum of two products, one with the first 2048 rows of the
   transposed projection and one with the other 512; from it come the gain's gradient and the gradient through the norm. -/
module

public import proofs.«01_k».proof.Proof.Gen.Kernel6Ideal.Skeleton
public import Idealize.ShloMosaic.Lib.Pipeline.FrameBody
public import Idealize.ShloMosaic.Lib.Ring

@[expose] public section

noncomputable section

namespace Cert.Kernel6Ideal.Unit

open Idealize.ShloMosaic Idealize.ShloMosaic.TcCoe Cert.Kernel6Ideal Cert.Kernel6Ideal.Gen
open Idealize.SL.Sem

variable {F : FTy → Type} [FloatOps F]

/-- The whole blocks, and the two parts of the projection. -/
def tokR : Rect S640x1024 := Rect.unit ![0, 0] S640x1024.size inb_S640x1024_S640x1024_0_0
def gainR : Rect S1x1024 := Rect.unit ![0, 0] S1x1024.size inb_S1x1024_S1x1024_0_0
def qkvgR : Rect S640x2048 := Rect.unit ![0, 0] S640x2048.size inb_S640x2048_S640x2048_0_0
def uR : Rect S640x512 := Rect.unit ![0, 0] S640x512.size inb_S640x512_S640x512_0_0
def topR : Rect S2560x1024 := Rect.unit ![0, 0] S2048x1024.size inb_S2560x1024_S2048x1024_0_0
def botR : Rect S2560x1024 := Rect.unit ![2048, 0] S512x1024.size inb_S2560x1024_S512x1024_2048_0

/-- What a point loads. -/
structure Loads (F : FTy → Type) [FloatOps F] where
  qkvg : Vec F S640x2048 .bf16
  u : Vec F S640x512 .bf16
  top : Vec F S2048x1024 .bf16
  bot : Vec F S512x1024 .bf16
  h : Vec F S640x1024 .f32
  w : Vec F S1x1024 .f32
  dres : Vec F S640x1024 .f32

namespace Loads
variable (L : Loads F)

/-- The gradient of the normed rows. -/
def dn : FVec F S640x1024 .f32 := k0_pay4 L.qkvg L.top L.u L.bot
/-- The stores of the rows' gradient, of its half, and of the gain's gradient over what it was. -/
def dhPieces : List (View.Piece (Elt F) S640x1024 .f32) := [⟨tokR, k0_pay1 L.dn (k0_pay5 L.h) (k0_pay6 L.h) L.w L.dres⟩]
def dfPieces : List (View.Piece (Elt F) S640x1024 .bf16) := [⟨tokR, k0_pay2 L.dn (k0_pay5 L.h) (k0_pay6 L.h) L.w L.dres⟩]
def dwPiece (old : Vec F S1x1024 .f32) : View.Piece (Elt F) S1x1024 .f32 := ⟨gainR, k0_pay7 L.qkvg L.top L.u L.bot L.h old⟩

end Loads

/-- The first point's store of zeros. -/
def dwFill : List (View.Piece (Elt F) S1x1024 .f32) := [⟨gainR, k0_pay3⟩]

variable
  {arg1 : Memref sig .tc .vmem S640x2048 .bf16} (harg1 : arg1.IsWhole)
  {arg2 : Memref sig .tc .vmem S640x512 .bf16} (harg2 : arg2.IsWhole)
  {arg3 : Memref sig .tc .vmem S2560x1024 .bf16} (harg3 : arg3.IsWhole)
  {arg4 : Memref sig .tc .vmem S640x1024 .f32} (harg4 : arg4.IsWhole)
  {arg5 : Memref sig .tc .vmem S1x1024 .f32} (harg5 : arg5.IsWhole)
  {arg6 : Memref sig .tc .vmem S640x1024 .f32} (harg6 : arg6.IsWhole)
  (x0 : Vec F S640x2048 .bf16) (x1 : Vec F S640x512 .bf16) (x2 : Vec F S2560x1024 .bf16) (x3 : Vec F S640x1024 .f32) (x4 : Vec F S1x1024 .f32) (x5 : Vec F S640x1024 .f32)

/-- What a point loads from its blocks. -/
def loads : Loads F where
  qkvg := View.readAt (Elt F) arg1.view qkvgR.toLoadRect (harg1.unread x0)
  u := View.readAt (Elt F) arg2.view uR.toLoadRect (harg2.unread x1)
  top := View.readAt (Elt F) arg3.view topR.toLoadRect (harg3.unread x2)
  bot := View.readAt (Elt F) arg3.view botR.toLoadRect (harg3.unread x2)
  h := View.readAt (Elt F) arg4.view tokR.toLoadRect (harg4.unread x3)
  w := View.readAt (Elt F) arg5.view gainR.toLoadRect (harg5.unread x4)
  dres := View.readAt (Elt F) arg6.view tokR.toLoadRect (harg6.unread x5)

end Cert.Kernel6Ideal.Unit

end
-- ==== Proof.InpValue.lean ====
/- The values of one grid point of the input projection's backward kernel, in real numbers. -/
module

public import proofs.«01_k».proof.Proof.InpUnit
public import proofs.«01_k».proof.Proof.InpSpec
public import Idealize.ShloMosaic.Lib.KernelVsHost
public import Idealize.ShloMosaic.Lib.ValueLayout
public import Idealize.ShloMosaic.Lib.ValueLayoutCasts
public import Idealize.ShloMosaic.Lib.Pointwise.Contract
public import Idealize.ShloMosaic.Lib.WholeRead
public import Idealize.ShloMosaic.Lib.Pipeline.CanonAppend

@[expose] public section

noncomputable section

namespace Cert.Kernel6Ideal.Unit

open Idealize.ShloMosaic hiding ix1 ix2 ix3 ix4
open Idealize.ShloMosaic.TcCoe Cert.Kernel6Ideal Cert.Kernel6Ideal.Gen Idealize.ShloMosaic.ValueIdx
open Idealize.SL.Sem
open Cert.Ffn (zz rr xh normBwd zz_pos w_1024)

/-- The block holds these reals. -/
def Is {n0 n1 : ℕ} {φ : FTy} (x : FVec Ideal ⟨2, ![n0, n1]⟩ φ) (f : Fin n0 → Fin n1 → ℝ) : Prop :=
  ∀ (r : Fin n0) (d : Fin n1), x (ix2 r d) = ((f r d : ℝ) : EReal)

/-- The row of 1024 holds these reals. -/
def IsRow (x : FVec Ideal S1x1024 .f32) (f : Fin 1024 → ℝ) : Prop := ∀ d, x (ix2 0 d) = ((f d : ℝ) : EReal)

/-- A column of reals, one per row. -/
def IsCol (x : FVec Ideal S640x1 .f32) (f : Fin 640 → ℝ) : Prop := ∀ r : Fin 640, ∀ u : Fin 1, x (ix2 r u) = ((f r : ℝ) : EReal)

theorem nn2048_is {a : FVec Ideal S640x2048 .bf16} {b : FVec Ideal S2048x1024 .bf16} {f : Fin 640 → Fin 2048 → ℝ} {g : Fin 2048 → Fin 1024 → ℝ}
    (ha : Is a f) (hb : Is b g) :
    Is (φ := .f32) (matmul dot_S640x2048_S2048x1024_S640x1024_1_0_0_1_n_n none a b (constant (F := Ideal) S640x1024 .f32 0x00000000#32))
      fun r d => ∑ k, f r k * g k d := fun r d => by
  show Ideal.matmul _ _ _ _ _ = _
  rw [Ideal.matmul_apply₁ _ (a := 1) rfl (K := 2048) rfl]
  refine (congrArg₂ (· + ·) Num.w_zero (Num.sum_eq (f := fun k => f r k * g k d) fun k => ?_)).trans (by rw [← EReal.coe_add, zero_add])
  rw [EReal.coe_mul]
  exact congrArg₂ (· * ·) ((congrArg a (by funext z; match z with | ⟨0, _⟩ => rfl | ⟨1, _⟩ => rfl)).trans (ha r k))
    ((congrArg b (by funext z; match z with | ⟨0, _⟩ => rfl | ⟨1, _⟩ => rfl)).trans (hb k d))

theorem nn512_is {a : FVec Ideal S640x512 .bf16} {b : FVec Ideal S512x1024 .bf16} {f : Fin 640 → Fin 512 → ℝ} {g : Fin 512 → Fin 1024 → ℝ}
    (ha : Is a f) (hb : Is b g) :
    Is (φ := .f32) (matmul dot_S640x512_S512x1024_S640x1024_1_0_0_1_n_n none a b (constant (F := Ideal) S640x1024 .f32 0x00000000#32))
      fun r d => ∑ k, f r k * g k d := fun r d => by
  show Ideal.matmul _ _ _ _ _ = _
  rw [Ideal.matmul_apply₁ _ (a := 1) rfl (K := 512) rfl]
  refine (congrArg₂ (· + ·) Num.w_zero (Num.sum_eq (f := fun k => f r k * g k d) fun k => ?_)).trans (by rw [← EReal.coe_add, zero_add])
  rw [EReal.coe_mul]
  exact congrArg₂ (· * ·) ((congrArg a (by funext z; match z with | ⟨0, _⟩ => rfl | ⟨1, _⟩ => rfl)).trans (ha r k))
    ((congrArg b (by funext z; match z with | ⟨0, _⟩ => rfl | ⟨1, _⟩ => rfl)).trans (hb k d))

/-- The mean of each row, as a column. -/
theorem rowMean_is {x : FVec Ideal S640x1024 .f32} {f : Fin 640 → Fin 1024 → ℝ} (hx : Is x f) :
    IsCol (divf (shapeCast S640x1 (multiReduction .add [1] S640 x 0x00000000#32 reduces_S640x1024_S640 (.inl rfl) rfl : FVec Ideal S640 .f32) shapeCasts_S640_S640x1 : FVec Ideal S640x1 .f32)
      (broadcast S640x1 (Scalar.ofBits (F := Ideal) .f32 0x44800000#32))) fun r => (∑ d, f r d) / 1024 := fun r u => by
  show FloatOps.divf _ _ = _
  rw [shapeCast_a_a1_apply]
  have e : (∑ k : Fin 1024, x (reduces_S640x1024_S640.lift (ix1 r) k)) = ((∑ d, f r d : ℝ) : EReal) :=
    Num.sum_eq fun k => by rw [← hx r k]; congr 1; funext a; match a with | ⟨0, _⟩ => rfl | ⟨1, _⟩ => rfl
  refine (congrArg₂ FloatOps.divf ((Ideal.multiReduction_add_single _ _ _ _ _ _).trans e) w_1024).trans ?_
  exact Num.div_eq _ (by norm_num)

theorem spread_is {x : FVec Ideal S640x1 .f32} {f : Fin 640 → ℝ} (hx : IsCol x f) :
    Is (φ := .f32) (broadcastTo S640x1024 x broadcasts_S640x1_S640x1024) fun r _ => f r := fun r d => by
  rw [broadcastTo_apply x broadcasts_S640x1_S640x1024 (ix2 r d) (ix2 r 0) (fun a => by match a with | ⟨0, _⟩ => rfl | ⟨1, _⟩ => rfl)]
  exact hx r 0

theorem mul_is {x y : FVec Ideal S640x1024 .f32} {f g : Fin 640 → Fin 1024 → ℝ} (hx : Is x f) (hy : Is y g) :
    Is (φ := .f32) (mulf x y) fun r d => f r d * g r d := fun r d => by
  show FloatOps.mulf _ _ = _
  rw [hx, hy, Ideal.mulf_def, EReal.coe_mul]
theorem add_is {x y : FVec Ideal S640x1024 .f32} {f g : Fin 640 → Fin 1024 → ℝ} (hx : Is x f) (hy : Is y g) :
    Is (φ := .f32) (addf x y) fun r d => f r d + g r d := fun r d => by
  show FloatOps.addf _ _ = _
  rw [hx, hy, Ideal.addf_def, EReal.coe_add]
theorem sub_is {x y : FVec Ideal S640x1024 .f32} {f g : Fin 640 → Fin 1024 → ℝ} (hx : Is x f) (hy : Is y g) :
    Is (φ := .f32) (subf x y) fun r d => f r d - g r d := fun r d => by
  show FloatOps.subf _ _ = _
  rw [hx, hy, Ideal.subf_def, EReal.coe_sub]

/-- The two parts of a hidden index: the first 2048, and the other 512. -/
def topK (k : Fin 2048) : Fin 2560 := ⟨k.val, by omega⟩
def botK (k : Fin 512) : Fin 2560 := ⟨2048 + k.val, by omega⟩

theorem sum_parts (f : Fin 2560 → ℝ) : (∑ k, f (topK k)) + ∑ k, f (botK k) = ∑ k, f k :=
  (Fin.sum_univ_add (a := 2048) (b := 512) f).symm

theorem products_is {a : FVec Ideal S640x2048 .bf16} {p : FVec Ideal S2048x1024 .bf16} {b : FVec Ideal S640x512 .bf16} {q : FVec Ideal S512x1024 .bf16}
    {f : Fin 640 → Fin 2560 → ℝ} {g : Fin 2560 → Fin 1024 → ℝ} (ha : Is a fun r k => f r (topK k)) (hp : Is p fun k d => g (topK k) d)
    (hb : Is b fun r k => f r (botK k)) (hq : Is q fun k d => g (botK k) d) :
    Is (φ := .f32) (k0_pay4 (F := Ideal) a p b q) fun r d => ∑ k, f r k * g k d := fun r d => by
  unfold k0_pay4
  dsimp only
  rw [shapeCast_self, shapeCast_self, shapeCast_self, shapeCast_self]
  show FloatOps.addf _ _ = _
  rw [nn2048_is ha hp r d, nn512_is hb hq r d, Ideal.addf_def, ← EReal.coe_add, ← sum_parts]

section
variable {x dn g : FVec Ideal S640x1024 .f32} {f fn fg : Fin 640 → Fin 1024 → ℝ} (hx : Is x f)

include hx in
theorem root_is : IsCol (k0_pay5 (F := Ideal) x) fun r => rr (f r) := fun r u => by
  have e : FloatOps.addf (F := Ideal) (φ := .f32) _ (Scalar.ofBits (F := Ideal) .f32 0x358637BD#32) = ((zz (f r) : ℝ) : EReal) :=
    (congrArg₂ FloatOps.addf (rowMean_is (mul_is hx hx) r u) Num.w_eps).trans (by rw [Ideal.addf_def, ← EReal.coe_add]; rfl)
  refine (congrArg Ideal.rsqrt e).trans ?_
  rw [Num.rsqrt_eq (zz_pos _)]; rfl

include hx in
theorem normed_is : Is (φ := .f32) (k0_pay6 (F := Ideal) x) fun r d => xh (f r) d := mul_is hx (spread_is (root_is hx))

include hx in
theorem gain_is {a : FVec Ideal S640x2048 .bf16} {p : FVec Ideal S2048x1024 .bf16} {b : FVec Ideal S640x512 .bf16} {q : FVec Ideal S512x1024 .bf16}
    (hn : Is (φ := .f32) (k0_pay4 (F := Ideal) a p b q) fn) {old : FVec Ideal S1x1024 .f32} {fo : Fin 1024 → ℝ} (ho : IsRow old fo) :
    IsRow (k0_pay7 (F := Ideal) a p b q x old) fun d => fo d + ∑ r, fn r d * xh (f r) d := fun d => by
  unfold k0_pay7
  dsimp only
  rw [shapeCast_self]
  show FloatOps.addf _ _ = _
  rw [ho, shapeCast_a_1a_apply, Ideal.addf_def, EReal.coe_add]
  refine congrArg (_ + ·) ((Ideal.multiReduction_add_single _ _ _ _ _ _).trans ?_)
  exact Num.sum_eq fun k => by
    rw [← mul_is hn (normed_is hx) k d]; congr 1; funext a; match a with | ⟨0, _⟩ => rfl | ⟨1, _⟩ => rfl

include hx in
theorem rows_is (hn : Is dn fn) (hg : Is g fg) {w : FVec Ideal S1x1024 .f32} {fw : Fin 1024 → ℝ} (hw : IsRow w fw) :
    Is (φ := .f32) (k0_pay1 (F := Ideal) dn (k0_pay5 x) (k0_pay6 x) w g) fun r d => normBwd (f r) (fun e => fn r e * fw e) d + fg r d := by
  have hwb : Is (φ := .f32) (broadcastTo S640x1024 w broadcasts_S1x1024_S640x1024) fun _ d => fw d := fun r d => by
    rw [broadcastTo_1b_ab_apply, hw]
  have hy := mul_is hn hwb
  have hm := rowMean_is (mul_is hy (normed_is hx))
  exact add_is (mul_is (spread_is (root_is hx)) (sub_is hy (mul_is (normed_is hx) (spread_is hm)))) hg

include hx in
theorem half_is (hn : Is dn fn) (hg : Is g fg) {w : FVec Ideal S1x1024 .f32} {fw : Fin 1024 → ℝ} (hw : IsRow w fw) :
    Is (φ := .bf16) (k0_pay2 (F := Ideal) dn (k0_pay5 x) (k0_pay6 x) w g) fun r d => 1 / 2 * (normBwd (f r) (fun e => fn r e * fw e) d + fg r d) := fun r d => by
  refine (congrArg₂ FloatOps.mulf Num.w_half (rows_is hx hn hg hw r d)).trans ?_
  rw [Ideal.mulf_def, ← EReal.coe_mul]

end

/-- The reals of a point: the gradient of the projection's result, the transposed projection, the rows, the gain, the gradient that
    goes past the layer. -/
structure Reals where
  dp : Fin 640 → Fin 2560 → ℝ
  win : Fin 2560 → Fin 1024 → ℝ
  h : Fin 640 → Fin 1024 → ℝ
  w : Fin 1024 → ℝ
  dres : Fin 640 → Fin 1024 → ℝ

namespace Reals
variable (R : Reals)

def dn (r : Fin 640) (d : Fin 1024) : ℝ := ∑ k, R.dp r k * R.win k d
def dw (d : Fin 1024) : ℝ := ∑ r, R.dn r d * xh (R.h r) d
def dh (r : Fin 640) (d : Fin 1024) : ℝ := normBwd (R.h r) (fun e => R.dn r e * R.w e) d + R.dres r d
def df (r : Fin 640) (d : Fin 1024) : ℝ := 1 / 2 * R.dh r d

end Reals

/-- What is loaded holds these reals. -/
structure Reads (L : Loads Ideal) (R : Reals) : Prop where
  qkvg : Is (φ := .bf16) L.qkvg fun r k => R.dp r (topK k)
  u : Is (φ := .bf16) L.u fun r k => R.dp r (botK k)
  top : Is (φ := .bf16) L.top fun k d => R.win (topK k) d
  bot : Is (φ := .bf16) L.bot fun k d => R.win (botK k) d
  h : Is (φ := .f32) L.h R.h
  w : IsRow L.w R.w
  dres : Is (φ := .f32) L.dres R.dres

/-! ## The rectangles -/

theorem tokR_idx (r : Fin 640) (d : Fin 1024) : tokR.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)
theorem gainR_idx (d : Fin 1024) : gainR.toLoadRect.idx (ix2 0 d) = ix2 0 d := by
  funext a
  match a with
  | ⟨0, _⟩ => rfl
  | ⟨1, _⟩ => exact Fin.ext (by show 0 + 1 * d.val = d.val; omega)
theorem qkvgR_idx (r : Fin 640) (k : Fin 2048) : qkvgR.toLoadRect.idx (ix2 r k) = ix2 r k := by
  funext a
  match a with
  | ⟨0, _⟩ => exact Fin.ext (by show 0 + 1 * r.val = r.val; omega)
  | ⟨1, _⟩ => exact Fin.ext (by show 0 + 1 * k.val = k.val; omega)
theorem uR_idx (r : Fin 640) (k : Fin 512) : uR.toLoadRect.idx (ix2 r k) = ix2 r k := by
  funext a
  match a with
  | ⟨0, _⟩ => exact Fin.ext (by show 0 + 1 * r.val = r.val; omega)
  | ⟨1, _⟩ => exact Fin.ext (by show 0 + 1 * k.val = k.val; omega)
theorem topR_idx (k : Fin 2048) (d : Fin 1024) : topR.toLoadRect.idx (ix2 k d) = ix2 (topK k) d := by
  funext a
  match a with
  | ⟨0, _⟩ => exact Fin.ext (by show 0 + 1 * k.val = k.val; omega)
  | ⟨1, _⟩ => exact Fin.ext (by show 0 + 1 * d.val = d.val; omega)
theorem botR_idx (k : Fin 512) (d : Fin 1024) : botR.toLoadRect.idx (ix2 k d) = ix2 (botK k) d := by
  funext a
  match a with
  | ⟨0, _⟩ => exact Fin.ext (by show 2048 + 1 * k.val = 2048 + k.val; omega)
  | ⟨1, _⟩ => exact Fin.ext (by show 0 + 1 * d.val = d.val; omega)

theorem mem_of_emb {s : Shape} (r : Rect s) {i : s.Idx} (x : r.shape.Idx) (h : r.emb x = i) : i ∈ r.set := by
  rw [← r.map_emb_univ, ← h]; exact Finset.mem_map_of_mem _ (Finset.mem_univ _)

theorem index2 {a b : ℕ} (x : (⟨2, ![a, b]⟩ : Shape).Idx) : ∃ (r : Fin a) (d : Fin b), x = ix2 r d :=
  ⟨x 0, x 1, by funext z; match z with | ⟨0, _⟩ => rfl | ⟨1, _⟩ => rfl⟩

section
variable
  {arg1 : Memref sig .tc .vmem S640x2048 .bf16} (harg1 : arg1.IsWhole)
  {arg2 : Memref sig .tc .vmem S640x512 .bf16} (harg2 : arg2.IsWhole)
  {arg3 : Memref sig .tc .vmem S2560x1024 .bf16} (harg3 : arg3.IsWhole)
  {arg4 : Memref sig .tc .vmem S640x1024 .f32} (harg4 : arg4.IsWhole)
  {arg5 : Memref sig .tc .vmem S1x1024 .f32} (harg5 : arg5.IsWhole)
  {arg6 : Memref sig .tc .vmem S640x1024 .f32} (harg6 : arg6.IsWhole)
  (x0 : FVec Ideal S640x2048 .bf16) (x1 : FVec Ideal S640x512 .bf16) (x2 : FVec Ideal S2560x1024 .bf16) (x3 : FVec Ideal S640x1024 .f32) (x4 : FVec Ideal S1x1024 .f32) (x5 : FVec Ideal S640x1024 .f32)
  {R : Reals}

/-- The six blocks of a point hold these reals. -/
structure Blocks (R : Reals) (x0 : FVec Ideal S640x2048 .bf16) (x1 : FVec Ideal S640x512 .bf16) (x2 : FVec Ideal S2560x1024 .bf16) (x3 : FVec Ideal S640x1024 .f32) (x4 : FVec Ideal S1x1024 .f32) (x5 : FVec Ideal S640x1024 .f32) : Prop where
  qkvg : Is x0 fun r k => R.dp r (topK k)
  u : Is x1 fun r k => R.dp r (botK k)
  win : Is x2 R.win
  h : Is x3 R.h
  w : IsRow x4 R.w
  dres : Is x5 R.dres

theorem reads_loads (B : Blocks R x0 x1 x2 x3 x4 x5) : Reads (loads (F := Ideal) harg1 harg2 harg3 harg4 harg5 harg6 x0 x1 x2 x3 x4 x5) R where
  qkvg r k := ((harg1.readAt_unread _ _ _).trans (congrArg x0 (qkvgR_idx r k))).trans (B.qkvg r k)
  u r k := ((harg2.readAt_unread _ _ _).trans (congrArg x1 (uR_idx r k))).trans (B.u r k)
  top k d := ((harg3.readAt_unread _ _ _).trans (congrArg x2 (topR_idx k d))).trans (B.win (topK k) d)
  bot k d := ((harg3.readAt_unread _ _ _).trans (congrArg x2 (botR_idx k d))).trans (B.win (botK k) d)
  h r d := ((harg4.readAt_unread _ _ _).trans (congrArg x3 (tokR_idx r d))).trans (B.h r d)
  w d := ((harg5.readAt_unread _ _ _).trans (congrArg x4 (gainR_idx d))).trans (B.w d)
  dres r d := ((harg6.readAt_unread _ _ _).trans (congrArg x5 (tokR_idx r d))).trans (B.dres r d)

end

/-! ## The stores -/

section
variable {L : Loads Ideal} {R : Reals} (H : Reads L R)

include H

theorem dn_is : Is (φ := .f32) L.dn R.dn := products_is (f := R.dp) (g := R.win) H.qkvg H.top H.u H.bot

theorem canon_dh (r : Fin 640) (d : Fin 1024) : View.canon L.dhPieces (ix2 r d) = ((R.dh r d : ℝ) : EReal) := by
  refine View.canon_apply_of_pieces (Val := Elt Ideal) (e := .f32) (fun i : S640x1024.Idx => (((R.dh (i 0) (i 1) : ℝ) : EReal) : Ideal .f32))
    L.dhPieces (fun q hq x => ?_) (ix2 r d) ⟨_, List.mem_singleton.mpr rfl, mem_of_emb _ (ix2 r d) (tokR_idx r d)⟩
  obtain rfl := List.mem_singleton.mp hq
  obtain ⟨r, d, rfl⟩ := index2 (a := 640) (b := 1024) x
  have e : tokR.emb (ix2 r d) = ix2 r d := tokR_idx r d
  show k0_pay1 (F := Ideal) L.dn (k0_pay5 L.h) (k0_pay6 L.h) L.w L.dres (ix2 r d) = _
  rw [e]
  exact rows_is H.h (dn_is H) H.dres H.w r d

theorem canon_df (r : Fin 640) (d : Fin 1024) : View.canon L.dfPieces (ix2 r d) = ((R.df r d : ℝ) : EReal) := by
  refine View.canon_apply_of_pieces (Val := Elt Ideal) (e := .bf16) (fun i : S640x1024.Idx => (((R.df (i 0) (i 1) : ℝ) : EReal) : Ideal .bf16))
    L.dfPieces (fun q hq x => ?_) (ix2 r d) ⟨_, List.mem_singleton.mpr rfl, mem_of_emb _ (ix2 r d) (tokR_idx r d)⟩
  obtain rfl := List.mem_singleton.mp hq
  obtain ⟨r, d, rfl⟩ := index2 (a := 640) (b := 1024) x
  have e : tokR.emb (ix2 r d) = ix2 r d := tokR_idx r d
  show k0_pay2 (F := Ideal) L.dn (k0_pay5 L.h) (k0_pay6 L.h) L.w L.dres (ix2 r d) = _
  rw [e]
  exact half_is H.h (dn_is H) H.dres H.w r d

theorem canon_dw {old : FVec Ideal S1x1024 .f32} {fo : Fin 1024 → ℝ} (ho : IsRow old fo) (L' : List (View.Piece (Elt Ideal) S1x1024 .f32)) :
    IsRow (View.canon (L.dwPiece old :: L')) fun d => fo d + R.dw d := fun d => by
  refine View.canon_append_of_pieces (Val := Elt Ideal) (e := .f32) (fun i : S1x1024.Idx => (((fo (i 1) + R.dw (i 1) : ℝ) : EReal) : Ideal .f32))
    L' [L.dwPiece old] (fun q hq x => ?_) (ix2 0 d) ⟨_, List.mem_singleton.mpr rfl, mem_of_emb _ (ix2 0 d) (gainR_idx d)⟩
  obtain rfl := List.mem_singleton.mp hq
  obtain ⟨u, d, rfl⟩ := index2 (a := 1) (b := 1024) x
  obtain rfl : u = 0 := Subsingleton.elim _ _
  have e : (L.dwPiece old).1.emb (ix2 0 d) = ix2 0 d := gainR_idx d
  rw [e]
  exact gain_is H.h (dn_is H) ho d

omit H in
theorem canon_fill (a13 : Memref sig .tc .vmem S1x1024 .f32) : IsRow (a13.view.readCov (dwFill (F := Ideal)) gainR.toLoadRect) fun _ => 0 := fun d => by
  refine (congrFun (View.readCov_eq_canon' a13.view dwFill gainR.toLoadRect) (ix2 0 d)).trans ?_
  show View.canon _ _ = _
  rw [gainR_idx]
  refine View.canon_apply_of_pieces (Val := Elt Ideal) (e := .f32) (fun _ => ((0 : ℝ) : EReal)) dwFill (fun p hp x => ?_) (ix2 0 d)
    ⟨_, List.mem_singleton.mpr rfl, mem_of_emb _ (ix2 0 d) (gainR_idx d)⟩
  obtain rfl := List.mem_singleton.mp hp
  exact Num.w_zero

end

end Cert.Kernel6Ideal.Unit

end
-- ==== Proof.InpMatch.lean ====
/- The stores of a point's run are those that `InpUnit` states. -/
module

public import proofs.«01_k».proof.Proof.InpUnit
public import proofs.«01_k».proof.Proof.Gen.Kernel6Ideal.Frame

@[expose] public section

noncomputable section

namespace Cert.Kernel6Ideal.Unit

open Idealize.ShloMosaic Idealize.ShloMosaic.TcCoe Cert.Kernel6Ideal Cert.Kernel6Ideal.Gen
open Idealize.SL.Sem

variable {F : FTy → Type} [FloatOps F]

variable (c : Dev nD) (i : grid0.Coords)
  {arg1 : Memref sig .tc .vmem S640x2048 .bf16} (harg1 : arg1.IsWhole)
  {arg2 : Memref sig .tc .vmem S640x512 .bf16} (harg2 : arg2.IsWhole)
  {arg3 : Memref sig .tc .vmem S2560x1024 .bf16} (harg3 : arg3.IsWhole)
  {arg4 : Memref sig .tc .vmem S640x1024 .f32} (harg4 : arg4.IsWhole)
  {arg5 : Memref sig .tc .vmem S1x1024 .f32} (harg5 : arg5.IsWhole)
  {arg6 : Memref sig .tc .vmem S640x1024 .f32} (harg6 : arg6.IsWhole)
  {arg7 : Memref sig .tc .vmem S640x1024 .f32} (harg7 : arg7.IsWhole)
  {arg8 : Memref sig .tc .vmem S1x1024 .f32} (harg8 : arg8.IsWhole)
  {arg9 : Memref sig .tc .vmem S640x1024 .bf16} (harg9 : arg9.IsWhole)
  (x0 : Vec F S640x2048 .bf16) (x1 : Vec F S640x512 .bf16) (x2 : Vec F S2560x1024 .bf16) (x3 : Vec F S640x1024 .f32) (x4 : Vec F S1x1024 .f32) (x5 : Vec F S640x1024 .f32) (xo7 : Vec F S1x1024 .f32)

set_option maxHeartbeats 4000000 in
theorem runA_dh (hc : cond0_0 i) : (kernelRun0_A c i arg1 harg1 arg2 harg2 arg3 harg3 arg4 harg4 arg5 harg5 arg6 harg6 arg7 harg7 arg8 harg8 arg9 harg9 hc x0 x1 x2 x3 x4 x5).1 = (loads harg1 harg2 harg3 harg4 harg5 harg6 x0 x1 x2 x3 x4 x5).dhPieces := by
  rfl

set_option maxHeartbeats 4000000 in
theorem runA_dw (hc : cond0_0 i) : (kernelRun0_A c i arg1 harg1 arg2 harg2 arg3 harg3 arg4 harg4 arg5 harg5 arg6 harg6 arg7 harg7 arg8 harg8 arg9 harg9 hc x0 x1 x2 x3 x4 x5).2.1 = (loads harg1 harg2 harg3 harg4 harg5 harg6 x0 x1 x2 x3 x4 x5).dwPiece (arg8.view.readCov dwFill gainR.toLoadRect) :: dwFill := by
  rfl

set_option maxHeartbeats 4000000 in
theorem runA_df (hc : cond0_0 i) : (kernelRun0_A c i arg1 harg1 arg2 harg2 arg3 harg3 arg4 harg4 arg5 harg5 arg6 harg6 arg7 harg7 arg8 harg8 arg9 harg9 hc x0 x1 x2 x3 x4 x5).2.2.1 = (loads harg1 harg2 harg3 harg4 harg5 harg6 x0 x1 x2 x3 x4 x5).dfPieces := by
  rfl

set_option maxHeartbeats 4000000 in
theorem runB_dh (hc : ¬cond0_0 i) : (kernelRun0_B c i arg1 harg1 arg2 harg2 arg3 harg3 arg4 harg4 arg5 harg5 arg6 harg6 arg7 harg7 arg8 harg8 arg9 harg9 hc x0 x1 x2 x3 x4 x5 xo7).1 = (loads harg1 harg2 harg3 harg4 harg5 harg6 x0 x1 x2 x3 x4 x5).dhPieces := by
  rfl

set_option maxHeartbeats 4000000 in
theorem runB_dw (hc : ¬cond0_0 i) : (kernelRun0_B c i arg1 harg1 arg2 harg2 arg3 harg3 arg4 harg4 arg5 harg5 arg6 harg6 arg7 harg7 arg8 harg8 arg9 harg9 hc x0 x1 x2 x3 x4 x5 xo7).2.1 = (loads harg1 harg2 harg3 harg4 harg5 harg6 x0 x1 x2 x3 x4 x5).dwPiece (View.readAt (Elt F) arg8.view gainR.toLoadRect (harg8.unread xo7)) :: [] := by
  rfl

set_option maxHeartbeats 4000000 in
theorem runB_df (hc : ¬cond0_0 i) : (kernelRun0_B c i arg1 harg1 arg2 harg2 arg3 harg3 arg4 harg4 arg5 harg5 arg6 harg6 arg7 harg7 arg8 harg8 arg9 harg9 hc x0 x1 x2 x3 x4 x5 xo7).2.2.1 = (loads harg1 harg2 harg3 harg4 harg5 harg6 x0 x1 x2 x3 x4 x5).dfPieces := by
  rfl

end Cert.Kernel6Ideal.Unit

end
-- ==== Proof.InpChain.lean ====
/- The walk over the thirteen points: what each leaves in its blocks and in the gain's gradient. -/
module

public import proofs.«01_k».proof.Proof.InpValue
public import proofs.«01_k».proof.Proof.InpMatch

@[expose] public section

noncomputable section

namespace Cert.Kernel6Ideal.Unit

open Idealize.ShloMosaic hiding ix1 ix2 ix3 ix4
open Idealize.ShloMosaic.TcCoe Cert.Kernel6Ideal Cert.Kernel6Ideal.Gen Idealize.ShloMosaic.ValueIdx
open Idealize.SL.Sem
open Cert.Ffn (xh)
open Cert.Inp (In)

variable (m : (ℓ : Loc nD τ sig) → Buf (Elt Ideal) ℓ) (c : Dev nD) (X : In)

/-- Row `r` of point `n`'s blocks. -/
def tok (n : ℕ) (r : Fin 640) : Fin 8320 := ⟨(640 * n + r.val) % 8320, Nat.mod_lt _ (by norm_num)⟩

theorem tok_val {n : ℕ} (hn : n < 13) (r : Fin 640) : (tok n r).val = 640 * n + r.val := by
  show (640 * n + r.val) % 8320 = _
  omega

/-- The reals of point `n`. -/
def point (X : In) (n : ℕ) : Reals where
  dp r := X.dp (tok n r)
  win k d := X.win d k
  h r := X.h (tok n r)
  w := X.w
  dres r := X.dres (tok n r)

/-- The thirteen points' shares of the gain's gradient add up to it. -/
theorem dw_total (X : In) (d : Fin 1024) : ∑ n ∈ Finset.range 13, (point X n).dw d = X.dw d := by
  have e : ∑ n : Fin 13, (point X n.val).dw d = X.dw d := by
    show ∑ n : Fin 13, ∑ r : Fin 640, X.dn (tok n.val r) d * xh (X.h (tok n.val r)) d = ∑ t : Fin 8320, X.dn t d * xh (X.h t) d
    rw [← Fintype.sum_prod_type' (f := fun (n : Fin 13) (r : Fin 640) => X.dn (tok n.val r) d * xh (X.h (tok n.val r)) d)]
    refine Fintype.sum_equiv (finProdFinEquiv : Fin 13 × Fin 640 ≃ Fin (13 * 640)) _ (fun t : Fin 8320 => X.dn t d * xh (X.h t) d) fun p => ?_
    have hp : tok p.1.val p.2 = (finProdFinEquiv p : Fin (13 * 640)) := Fin.ext (by rw [tok_val p.1.isLt]; show _ = p.2.val + 640 * p.1.val; omega)
    rw [hp]
  rw [← e, Finset.sum_range]

/-- The blocks every point finds are those of the arrays' rows. -/
def BlocksAt : Prop := ∀ t : Fin cfg0.N, Blocks (point X t.val) (iblk m c 0 t) (iblk m c 1 t) (iblk m c 2 t) (iblk m c 3 t) (iblk m c 4 t) (iblk m c 5 t)

/-- What a point leaves. -/
structure Left (n : ℕ) (x : Vec Ideal S640x1024 .f32 × Vec Ideal S1x1024 .f32 × Vec Ideal S640x1024 .bf16) : Prop where
  dh : Is (φ := .f32) x.1 (point X n).dh
  dw : IsRow x.2.1 fun d => ∑ s ∈ Finset.range (n + 1), (point X s).dw d
  df : Is (φ := .bf16) x.2.2 (point X n).df

variable {m c X}

theorem dh_first (t : Fin cfg0.N) (h0 : t.val % 13 = 0) {R : Reals} (B : Blocks R (iblk m c 0 t) (iblk m c 1 t) (iblk m c 2 t) (iblk m c 3 t) (iblk m c 4 t) (iblk m c 5 t)) :
    Is (φ := .f32) (outsAt0 m c t.val t.isLt).1 R.dh := fun r d => by
  rw [outsAt0_A m c t h0]
  dsimp only
  unfold out0_A_6
  rw [View.read_writes_junk_eq_canon, runA_dh]
  exact canon_dh (reads_loads (hs0_0 t) (hs0_1 t) (hs0_2 t) (hs0_3 t) (hs0_4 t) (hs0_5 t) _ _ _ _ _ _ B) r d

theorem dw_first (t : Fin cfg0.N) (h0 : t.val % 13 = 0) {R : Reals} (B : Blocks R (iblk m c 0 t) (iblk m c 1 t) (iblk m c 2 t) (iblk m c 3 t) (iblk m c 4 t) (iblk m c 5 t)) :
    IsRow (outsAt0 m c t.val t.isLt).2.1 fun d => 0 + R.dw d := fun d => by
  rw [outsAt0_A m c t h0]
  dsimp only
  unfold out0_A_7
  rw [View.read_writes_junk_eq_canon, runA_dw]
  exact canon_dw (reads_loads (hs0_0 t) (hs0_1 t) (hs0_2 t) (hs0_3 t) (hs0_4 t) (hs0_5 t) _ _ _ _ _ _ B) (canon_fill (ms0_7 t)) dwFill d

theorem df_first (t : Fin cfg0.N) (h0 : t.val % 13 = 0) {R : Reals} (B : Blocks R (iblk m c 0 t) (iblk m c 1 t) (iblk m c 2 t) (iblk m c 3 t) (iblk m c 4 t) (iblk m c 5 t)) :
    Is (φ := .bf16) (outsAt0 m c t.val t.isLt).2.2 R.df := fun r d => by
  rw [outsAt0_A m c t h0]
  dsimp only
  unfold out0_A_8
  rw [View.read_writes_junk_eq_canon, runA_df]
  exact canon_df (reads_loads (hs0_0 t) (hs0_1 t) (hs0_2 t) (hs0_3 t) (hs0_4 t) (hs0_5 t) _ _ _ _ _ _ B) r d

theorem dh_later (t : Fin cfg0.N) (h0 : ¬t.val % 13 = 0) {R : Reals} (B : Blocks R (iblk m c 0 t) (iblk m c 1 t) (iblk m c 2 t) (iblk m c 3 t) (iblk m c 4 t) (iblk m c 5 t)) :
    Is (φ := .f32) (outsAt0 m c t.val t.isLt).1 R.dh := fun r d => by
  rw [outsAt0_B m c t h0]
  dsimp only
  unfold out0_B_6
  rw [View.read_writes_junk_eq_canon, runB_dh]
  exact canon_dh (reads_loads (hs0_0 t) (hs0_1 t) (hs0_2 t) (hs0_3 t) (hs0_4 t) (hs0_5 t) _ _ _ _ _ _ B) r d

theorem dw_later (t : Fin cfg0.N) (h0 : ¬t.val % 13 = 0) (hp : t.val - 1 < cfg0.N) {R : Reals} (B : Blocks R (iblk m c 0 t) (iblk m c 1 t) (iblk m c 2 t) (iblk m c 3 t) (iblk m c 4 t) (iblk m c 5 t))
    {f : Fin 1024 → ℝ} (hf : IsRow (outsAt0 m c (t.val - 1) hp).2.1 f) :
    IsRow (outsAt0 m c t.val t.isLt).2.1 fun d => f d + R.dw d := fun d => by
  rw [outsAt0_B m c t h0]
  dsimp only
  unfold out0_B_7
  rw [View.read_writes_junk_eq_canon, runB_dw]
  exact canon_dw (reads_loads (hs0_0 t) (hs0_1 t) (hs0_2 t) (hs0_3 t) (hs0_4 t) (hs0_5 t) _ _ _ _ _ _ B) (fun d => (((hs0_7 t).readAt_unread _ _ _).trans (congrArg _ (gainR_idx d))).trans (hf d)) [] d

theorem df_later (t : Fin cfg0.N) (h0 : ¬t.val % 13 = 0) {R : Reals} (B : Blocks R (iblk m c 0 t) (iblk m c 1 t) (iblk m c 2 t) (iblk m c 3 t) (iblk m c 4 t) (iblk m c 5 t)) :
    Is (φ := .bf16) (outsAt0 m c t.val t.isLt).2.2 R.df := fun r d => by
  rw [outsAt0_B m c t h0]
  dsimp only
  unfold out0_B_8
  rw [View.read_writes_junk_eq_canon, runB_df]
  exact canon_df (reads_loads (hs0_0 t) (hs0_1 t) (hs0_2 t) (hs0_3 t) (hs0_4 t) (hs0_5 t) _ _ _ _ _ _ B) r d

theorem left (hB : BlocksAt m c X) : ∀ n (hn : n < cfg0.N), Left X n (outsAt0 m c n hn)
  | 0, hn => by
    have B := hB ⟨0, hn⟩
    refine ⟨dh_first ⟨0, hn⟩ rfl B, fun d => (dw_first ⟨0, hn⟩ rfl B d).trans (congrArg Real.toEReal ?_), df_first ⟨0, hn⟩ rfl B⟩
    show 0 + _ = ∑ s ∈ Finset.range (0 + 1), (point X s).dw d
    rw [Finset.sum_range_one, zero_add]
  | n + 1, hn => by
    have hN := lt_of_lt_of_eq hn (show cfg0.N = 13 from N_0)
    have h0 : ¬(n + 1) % 13 = 0 := by omega
    have ih := left hB n (by omega)
    have B := hB ⟨n + 1, hn⟩
    refine ⟨dh_later ⟨n + 1, hn⟩ h0 B, fun d => (dw_later ⟨n + 1, hn⟩ h0 _ B ih.dw d).trans ?_, df_later ⟨n + 1, hn⟩ h0 B⟩
    exact congrArg Real.toEReal (Finset.sum_range_succ (fun s => (point X s).dw d) (n + 1)).symm

end Cert.Kernel6Ideal.Unit

end
-- ==== Proof.InpInputs.lean ====
/- What the precondition of the input projection's backward pass says: the five arrays hold real numbers. -/
module

public import proofs.«01_k».proof.Pre_finite6
public import proofs.«01_k».proof.Proof.Gen.Pre_finite6
public import proofs.«01_k».proof.Proof.InpRef
public import Idealize.ShloMosaic.Lib.ReduceAll
public import Idealize.ShloMosaic.Lib.Pointwise.Select

@[expose] public section

noncomputable section

namespace Cert.InpInputs

open Idealize.ShloMosaic hiding ix1 ix2 ix3 ix4
open Idealize.ShloMosaic.ValueIdx Cert.Pre_finite6
open Cert.InpRef (Holds)
open Cert.Inp (In)

instance : Subsingleton S_.Idx := ⟨fun a b => funext fun k => k.elim0⟩

/-- A value whose absolute value is below infinity is a real number. -/
theorem real_of_abs_lt (x : EReal) (h : FloatOps.cmpf .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h1 : Ideal.cmp .olt (max x (-x)) (Ideal.ofBits .f32 0x7F800000#32) = 1#1 := h
  rw [htop] at h1
  have h2 := max_lt_iff.mp ((Ideal.cmp_olt_eq_one _ _).mp h1)
  refine (EReal.coe_toReal h2.1.ne fun hb => ?_).symm
  rw [hb] at h2
  exact absurd h2.2 (by simp)

variable (x0 : FVec Ideal S8320x1024 .f32) (x1 : FVec Ideal S1x1024 .f32) (x2 : FVec Ideal S1024x2560 .f32) (x3 : FVec Ideal S8320x2560 .f32) (x4 : FVec Ideal S8320x1024 .f32)

/-- The real numbers the five arrays hold. -/
def reals : In where
  h t d := EReal.toReal (x0 (ix2 (n0 := 8320) (n1 := 1024) t d))
  w d := EReal.toReal (x1 (ix2 (n0 := 1) (n1 := 1024) 0 d))
  win d k := EReal.toReal (x2 (ix2 (n0 := 1024) (n1 := 2560) d k))
  dp t k := EReal.toReal (x3 (ix2 (n0 := 8320) (n1 := 2560) t k))
  dres t d := EReal.toReal (x4 (ix2 (n0 := 8320) (n1 := 1024) t d))

/-- An entry named by its two coordinates. -/
theorem named {a b : ℕ} (x : FVec Ideal ⟨2, ![a, b]⟩ .f32) (i : (⟨2, ![a, b]⟩ : Shape).Idx) (r : Fin a) (hr : r = i 0)
    (h : x i = ((EReal.toReal (x i) : ℝ) : EReal)) : x i = ((EReal.toReal (x (ix2 (n0 := a) (n1 := b) r (i 1))) : ℝ) : EReal) := by
  subst hr
  refine h.trans (congrArg (fun y : EReal => ((EReal.toReal y : ℝ) : EReal)) (congrArg x (funext fun a => ?_)))
  match a with
  | ⟨0, _⟩ => rfl
  | ⟨1, _⟩ => rfl

/-- Under the precondition the five arrays hold real numbers. -/
theorem holds (e : Cert.Pre_finite6.fn (F := Ideal) x0 x1 x2 x3 x4 = fun _ => 1#1) : Holds (reals x0 x1 x2 x3 x4) x0 x1 x2 x3 x4 := by
  have e1 := congrFun e (fun k => k.elim0)
  dsimp only [Cert.Pre_finite6.fn, Cert.Pre_finite6.fn_part1] at e1
  have s4 := IntOp.andi_eq_one.mp e1
  have s3 := IntOp.andi_eq_one.mp s4.1
  have s2 := IntOp.andi_eq_one.mp s3.1
  have s1 := IntOp.andi_eq_one.mp s2.1
  have p0 := Host.reduce_andi_all _ _ _ _ _ s1.1
  have p1 := Host.reduce_andi_all _ _ _ _ _ s1.2
  have p2 := Host.reduce_andi_all _ _ _ _ _ s2.2
  have p3 := Host.reduce_andi_all _ _ _ _ _ s3.2
  have p4 := Host.reduce_andi_all _ _ _ _ _ s4.2
  exact ⟨fun i => named x0 i (i 0) rfl (real_of_abs_lt _ (p0 i)),
    fun i => named x1 i (0 : Fin 1) (Subsingleton.elim _ _) (real_of_abs_lt _ (p1 i)),
    fun i => named x2 i (i 0) rfl (real_of_abs_lt _ (p2 i)), fun i => named x3 i (i 0) rfl (real_of_abs_lt _ (p3 i)),
    fun i => named x4 i (i 0) rfl (real_of_abs_lt _ (p4 i))⟩

end Cert.InpInputs

end
-- ==== Proof.InpFinal.lean ====
/- The three results of the input projection's backward kernel, in real numbers, and that the reference leaves the same. -/
module

public import proofs.«01_k».proof.Proof.InpHost
public import proofs.«01_k».proof.Proof.InpChain
public import proofs.«01_k».proof.Proof.InpInputs
public import proofs.«01_k».proof.Proof.Gen.Kernel6Ideal.Points
public import proofs.«01_k».proof.Proof.Gen.Kernel6Ideal.Value

@[expose] public section

set_option maxRecDepth 16384

noncomputable section

namespace Cert.Kernel6Ideal.Entry

open Idealize.ShloMosaic hiding ix1 ix2 ix3 ix4
open Idealize.ShloMosaic.TcCoe Cert.Kernel6Ideal Cert.Kernel6Ideal.Gen Cert.Kernel6Ideal.Unit Idealize.ShloMosaic.ValueIdx
open Idealize.SL.Sem
open Cert.Inp (In)
open Cert.InpRef (Holds)
open Cert.Reference6Ideal.Read (val_main_v36 val_main_v19 val_main_v39)

/-- The block each window is on: point `t` has the `t`-th block of rows. -/
theorem places : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = t.val ∧ win0_8.index t 1 = 0) :=
  (by decide +kernel : ∀ t : Fin grid0.N, _)

variable {m : (ℓ : Loc nD τ sig) → Buf (Elt Ideal) ℓ} {c : Dev nD} {X : In}

/-- The point a row belongs to. -/
theorem row_point (s : Fin 8320) : ∃ (t : Fin cfg0.N) (r : Fin 640), s.val = 640 * t.val + r.val ∧ tok t.val r = s := by
  have hN : cfg0.N = 13 := N_0
  have hs : s.val / 640 < 13 := by omega
  refine ⟨⟨s.val / 640, by rw [hN]; omega⟩, ⟨s.val % 640, Nat.mod_lt _ (by norm_num)⟩, ?_, Fin.ext ?_⟩
  · show s.val = 640 * (s.val / 640) + s.val % 640; omega
  · rw [tok_val hs]; show 640 * (s.val / 640) + s.val % 640 = s.val; omega

section
variable (H : Holds X (m ((c : Thread nD τ).loc main_arg0)) (m ((c : Thread nD τ).loc main_arg1)) (m ((c : Thread nD τ).loc main_arg2))
  (m ((c : Thread nD τ).loc main_arg3)) (m ((c : Thread nD τ).loc main_arg4)))
include H

theorem block3 (t : Fin cfg0.N) : Is (φ := .f32) (iblk m c 3 t) (point X t.val).h := fun r d => by
  obtain ⟨-, -, -, hp, -⟩ := places t
  have ht : t.val < 13 := lt_of_lt_of_eq t.isLt (show cfg0.N = 13 from N_0)
  have key : ∀ i : S8320x1024.Idx, i = ix2 (tok t.val r) d → V m c main_arg0 i = ((X.h (tok t.val r) d : ℝ) : EReal) := fun i hi => by
    subst hi
    generalize hj : (ix2 (tok t.val r) d : S8320x1024.Idx) = i
    have e : V m c main_arg0 i = ((X.h (i 0) (i 1) : ℝ) : EReal) := by rw [V_main_arg0]; exact H.h i
    rw [e, ← hj]
  refine key _ (funext fun a => Fin.ext ?_)
  match a with
  | ⟨0, _⟩ => show win0_3.index t 0 * 640 + 1 * r.val = (tok t.val r).val; rw [hp.1, tok_val ht]; omega
  | ⟨1, _⟩ => show win0_3.index t 1 * 1024 + 1 * d.val = d.val; rw [hp.2]; omega

theorem block5 (t : Fin cfg0.N) : Is (φ := .f32) (iblk m c 5 t) (point X t.val).dres := fun r d => by
  obtain ⟨-, -, -, -, -, hp, -⟩ := places t
  have ht : t.val < 13 := lt_of_lt_of_eq t.isLt (show cfg0.N = 13 from N_0)
  have key : ∀ i : S8320x1024.Idx, i = ix2 (tok t.val r) d → V m c main_arg4 i = ((X.dres (tok t.val r) d : ℝ) : EReal) := fun i hi => by
    subst hi
    generalize hj : (ix2 (tok t.val r) d : S8320x1024.Idx) = i
    have e : V m c main_arg4 i = ((X.dres (i 0) (i 1) : ℝ) : EReal) := by rw [V_main_arg4]; exact H.dres i
    rw [e, ← hj]
  refine key _ (funext fun a => Fin.ext ?_)
  match a with
  | ⟨0, _⟩ => show win0_5.index t 0 * 640 + 1 * r.val = (tok t.val r).val; rw [hp.1, tok_val ht]; omega
  | ⟨1, _⟩ => show win0_5.index t 1 * 1024 + 1 * d.val = d.val; rw [hp.2]; omega

theorem block0 (t : Fin cfg0.N) : Is (φ := .bf16) (iblk m c 0 t) fun r k => (point X t.val).dp r (topK k) := fun r d => by
  obtain ⟨hp, -⟩ := places t
  have ht : t.val < 13 := lt_of_lt_of_eq t.isLt (show cfg0.N = 13 from N_0)
  have key : ∀ i : S8320x2048.Idx, i = ix2 (tok t.val r) d → V m c main_v3 i = ((X.dp (tok t.val r) (topK d) : ℝ) : EReal) := fun i hi => by
    subst hi
    rw [entry, w1_v3]
    generalize hs : tok t.val r = s
    refine (extractStridedSlice_apply _ _ slices_S8320x2560_S8320x2048_0_0 (ix2 s d) (ix2 s (topK d)) fun a => ?_).trans (H.dp (ix2 s (topK d)))
    match a with
    | ⟨0, _⟩ => show s.val = 0 + s.val; omega
    | ⟨1, _⟩ => show d.val = 0 + d.val; omega
  refine key _ (funext fun a => Fin.ext ?_)
  match a with
  | ⟨0, _⟩ => show win0_0.index t 0 * 640 + 1 * r.val = (tok t.val r).val; rw [hp.1, tok_val ht]; omega
  | ⟨1, _⟩ => show win0_0.index t 1 * 2048 + 1 * d.val = d.val; rw [hp.2]; omega

theorem block1 (t : Fin cfg0.N) : Is (φ := .bf16) (iblk m c 1 t) fun r k => (point X t.val).dp r (botK k) := fun r d => by
  obtain ⟨-, hp, -⟩ := places t
  have ht : t.val < 13 := lt_of_lt_of_eq t.isLt (show cfg0.N = 13 from N_0)
  have key : ∀ i : S8320x512.Idx, i = ix2 (tok t.val r) d → V m c main_v5 i = ((X.dp (tok t.val r) (botK d) : ℝ) : EReal) := fun i hi => by
    subst hi
    rw [entry, w1_v5]
    generalize hs : tok t.val r = s
    refine (extractStridedSlice_apply _ _ slices_S8320x2560_S8320x512_0_2048 (ix2 s d) (ix2 s (botK d)) fun a => ?_).trans (H.dp (ix2 s (botK d)))
    match a with
    | ⟨0, _⟩ => show s.val = 0 + s.val; omega
    | ⟨1, _⟩ => rfl
  refine key _ (funext fun a => Fin.ext ?_)
  match a with
  | ⟨0, _⟩ => show win0_1.index t 0 * 640 + 1 * r.val = (tok t.val r).val; rw [hp.1, tok_val ht]; omega
  | ⟨1, _⟩ => show win0_1.index t 1 * 512 + 1 * d.val = d.val; rw [hp.2]; omega

theorem block2 (t : Fin cfg0.N) : Is (φ := .bf16) (iblk m c 2 t) fun k d => X.win d k := fun k d => by
  obtain ⟨-, -, hp, -⟩ := places t
  have key : ∀ i : S2560x1024.Idx, i = ix2 k d → V m c main_v1 i = ((X.win d k : ℝ) : EReal) := fun i hi => by
    subst hi
    rw [entry, w1_v1]
    refine (transpose_apply _ _ _ (ix2 k d) (ix2 d k) fun a => ?_).trans (H.win (ix2 d k))
    match a with
    | ⟨0, _⟩ => rfl
    | ⟨1, _⟩ => rfl
  refine key _ (funext fun a => Fin.ext ?_)
  match a with
  | ⟨0, _⟩ => show win0_2.index t 0 * 2560 + 1 * k.val = k.val; rw [hp.1]; omega
  | ⟨1, _⟩ => show win0_2.index t 1 * 1024 + 1 * d.val = d.val; rw [hp.2]; omega

theorem block4 (t : Fin cfg0.N) : IsRow (iblk m c 4 t) X.w := fun d => by
  obtain ⟨-, -, -, -, hp, -⟩ := places t
  have key : ∀ i : S1x1024.Idx, (i 1 : Fin 1024) = d → V m c main_arg1 i = ((X.w d : ℝ) : EReal) := fun i hi => by
    rw [V_main_arg1, H.w, hi]
  exact key _ (Fin.ext (by show win0_4.index t 1 * 1024 + 1 * d.val = d.val; rw [hp.2]; omega))

/-- All six blocks of every point. -/
theorem blocks : BlocksAt m c X := fun t => ⟨block0 H t, block1 H t, block2 H t, block3 H t, block4 H t, block5 H t⟩

theorem dh_read (i : S8320x1024.Idx) : (dats m 0 c).arrAt 6 cfg0.N i = ((X.dh (i 0) (i 1) : ℝ) : EReal) := by
  obtain ⟨t, r, hr, ht⟩ := row_point (i 0)
  obtain ⟨-, -, -, -, -, -, hp, -⟩ := places t
  have e := congrFun (Value.blocks6 m c t (flush0_6 t)) (ix2 r (i 1))
  rw [Value.flushed6] at e
  have e2 : _ = ((X.dh (tok t.val r) (i 1) : ℝ) : EReal) := (left (blocks H) t.val t.isLt).dh r (i 1)
  rw [ht] at e2
  refine Eq.trans ?_ (e.trans e2)
  refine congrArg ((dats m 0 c).arrAt 6 cfg0.N) (funext fun a => Fin.ext ?_)
  match a with
  | ⟨0, _⟩ => show (i 0).val = win0_6.index t 0 * 640 + 1 * r.val; rw [hp.1, hr]; omega
  | ⟨1, _⟩ => show (i 1).val = win0_6.index t 1 * 1024 + 1 * (i 1).val; rw [hp.2]; omega

theorem df_read (i : S8320x1024.Idx) : (dats m 0 c).arrAt 8 cfg0.N i = ((X.df (i 0) (i 1) : ℝ) : EReal) := by
  obtain ⟨t, r, hr, ht⟩ := row_point (i 0)
  obtain ⟨-, -, -, -, -, -, -, -, hp⟩ := places t
  have e := congrFun (Value.blocks8 m c t (flush0_8 t)) (ix2 r (i 1))
  rw [Value.flushed8] at e
  have e2 : _ = ((X.df (tok t.val r) (i 1) : ℝ) : EReal) := (left (blocks H) t.val t.isLt).df r (i 1)
  rw [ht] at e2
  refine Eq.trans ?_ (e.trans e2)
  refine congrArg ((dats m 0 c).arrAt 8 cfg0.N) (funext fun a => Fin.ext ?_)
  match a with
  | ⟨0, _⟩ => show (i 0).val = win0_8.index t 0 * 640 + 1 * r.val; rw [hp.1, hr]; omega
  | ⟨1, _⟩ => show (i 1).val = win0_8.index t 1 * 1024 + 1 * (i 1).val; rw [hp.2]; omega

omit H in
/-- Only the last point writes the gain's gradient back. -/
theorem once (t t' : Fin cfg0.N) (h : (cfg0.win 7).flush t = true) (h' : (cfg0.win 7).flush t' = true) : t = t' := by
  have h1 := (flush0_7 t).mp h
  have h2 := (flush0_7 t').mp h'
  have h3 := lt_of_lt_of_eq t.isLt (show cfg0.N = 13 from N_0)
  have h4 := lt_of_lt_of_eq t'.isLt (show cfg0.N = 13 from N_0)
  exact Fin.ext (by omega)

theorem dw_last (t : Fin cfg0.N) (ht : t.val = 12) (d : Fin 1024) :
    ((cfg0.win 7).cut (grid0.coords t) ((outsAt0 m c t.val t.isLt).2.1) : FVec Ideal S1x1024 .f32) (ix2 0 d) = ((X.dw d : ℝ) : EReal) := by
  refine ((left (blocks H) t.val t.isLt).dw d).trans (congrArg (fun x : ℝ => (x : EReal)) ?_)
  show ∑ s ∈ Finset.range (t.val + 1), (point X s).dw d = _
  rw [ht]
  exact dw_total X d

theorem dw_array (t : Fin cfg0.N) (ht : t.val = 12) (i : S1x1024.Idx) :
    (dats m 0 c).arrAt 7 cfg0.N i = ((X.dw (i 1) : ℝ) : EReal) := by
  have hf : (cfg0.win 7).flush t = true := (flush0_7 t).mpr (by rw [ht])
  obtain ⟨-, -, -, -, -, -, -, hp, -⟩ := places t
  have e := congrFun ((dats m 0 c).read_blk_arrAt_eq_flushed 7 (fun t t' h h' hne => absurd (once t t' h h') hne) cfg0.N t t.isLt hf) (ix2 0 (i 1))
  rw [Value.flushed7] at e
  refine Eq.trans ?_ (e.trans (dw_last H t ht (i 1)))
  refine congrArg ((dats m 0 c).arrAt 7 cfg0.N) (funext fun a => Fin.ext ?_)
  match a with
  | ⟨0, _⟩ => show (i 0).val = win0_7.index t 0 * 1 + 1 * 0; rw [hp.1]; have : (i 0).val < 1 := (i 0).isLt; omega
  | ⟨1, _⟩ => show (i 1).val = win0_7.index t 1 * 1024 + 1 * (i 1).val; rw [hp.2]; omega

theorem dw_read (i : S1x1024.Idx) : (dats m 0 c).arrAt 7 cfg0.N i = ((X.dw (i 1) : ℝ) : EReal) :=
  dw_array H ⟨12, by rw [show cfg0.N = 13 from N_0]; decide⟩ rfl i

end

variable (e : Cert.Pre_finite6.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1)
include e

/-- The gradient of the rows. -/
theorem rows : val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 6 cfg0.N := by
  have H := Cert.InpInputs.holds _ _ _ _ _ e
  funext i
  exact (Cert.InpRef.r36 H i).trans (dh_read H i).symm

/-- The gradient of the gain. -/
theorem gains : val_main_v19 (F := Ideal) (m ((c : Thread nD τ).loc main_arg0)) (m ((c : Thread nD τ).loc main_arg2)) (m ((c : Thread nD τ).loc main_arg3)) = (dats m 0 c).arrAt 7 cfg0.N := by
  have H := Cert.InpInputs.holds _ _ _ _ _ e
  funext i
  exact (Cert.InpRef.r19 H i).trans (dw_read H i).symm

/-- Half of the rows' gradient. -/
theorem halves : val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 8 cfg0.N := by
  have H := Cert.InpInputs.holds _ _ _ _ _ e
  funext i
  exact (Cert.InpRef.r39 H i).trans (df_read H i).symm

end Cert.Kernel6Ideal.Entry

end
-- ==== Proof.Rows.lean ====
/- The rows of the mixer layer's calls, 13 points of 640, and sums taken apart. -/
module

public import proofs.«01_k».proof.Proof.Num
public import Idealize.ShloMosaic.Lib.KernelVsHost
public import Idealize.ShloMosaic.Lib.Pointwise.Contract
public import Idealize.ShloMosaic.Lib.IdealHost
public import Idealize.ShloMosaic.Lib.ValueLayout
public import Idealize.ShloMosaic.Lib.ValueLayoutCasts
public import Idealize.ShloMosaic.Lib.Pipeline.FrameBody
public import Idealize.ShloMosaic.Lib.Ring
public import Idealize.ShloMosaic.Lib.WholeRead

@[expose] public section

set_option maxRecDepth 16384

noncomputable section

namespace Cert.Rows

open Idealize.ShloMosaic hiding ix1 ix2 ix3 ix4
open Idealize.ShloMosaic.ValueIdx

/-- Row `r` of point `t`. -/
def tok (t : ℕ) (r : Fin 640) : Fin 8320 := ⟨(640 * t + r.val) % 8320, Nat.mod_lt _ (by norm_num)⟩
theorem tok_val {t : ℕ} (h : t < 13) (r : Fin 640) : (tok t r).val = 640 * t + r.val := Nat.mod_eq_of_lt (by omega)

/-- The point a row belongs to. -/
theorem row_point (s : Fin 8320) : ∃ (t : ℕ) (r : Fin 640), t < 13 ∧ s.val = 640 * t + r.val ∧ tok t r = s := by
  have hs : s.val / 640 < 13 := by omega
  refine ⟨s.val / 640, ⟨s.val % 640, Nat.mod_lt _ (by norm_num)⟩, hs, ?_, Fin.ext ?_⟩
  · show s.val = 640 * (s.val / 640) + s.val % 640; omega
  · rw [tok_val hs]; show 640 * (s.val / 640) + s.val % 640 = s.val; omega

variable {M : Type} [AddCommMonoid M]

/-- A sum over all rows, point by point. -/
theorem sum_rows (f : Fin 8320 → M) : ∑ s, f s = ∑ t ∈ Finset.range 13, ∑ r : Fin 640, f (tok t r) := by
  rw [Finset.sum_range, ← Fintype.sum_prod_type']
  refine (Equiv.sum_comp (finProdFinEquiv : Fin 13 × Fin 640 ≃ Fin (13 * 640)) f).symm.trans ?_
  refine Finset.sum_congr rfl fun p _ => congrArg f (Fin.ext ?_)
  show p.2.val + 640 * p.1.val = (640 * p.1.val + p.2.val) % 8320
  omega

/-- The two halves of the mixing width. -/
def lo (k : Fin 512) : Fin 1024 := ⟨k.val, by omega⟩
def hi (k : Fin 512) : Fin 1024 := ⟨512 + k.val, by omega⟩

theorem sum_halves (f : Fin 1024 → M) : ∑ k, f k = ∑ k, f (lo k) + ∑ k, f (hi k) := Fin.sum_univ_add (a := 512) (b := 512) (f : Fin (512 + 512) → M)

/-- An axis of the mixing width lies in one of the halves. -/
theorem half (k : Fin 1024) : (∃ j, lo j = k) ∨ ∃ j, hi j = k := by
  by_cases h : k.val < 512
  · exact .inl ⟨⟨k.val, h⟩, rfl⟩
  · exact .inr ⟨⟨k.val - 512, by omega⟩, Fin.ext (by show 512 + (k.val - 512) = k.val; omega)⟩

section
variable {α : Type} (x y : (⟨2, ![8320, 512]⟩ : Shape).Idx → α)
  (h : Shape.Concatenates [(⟨2, ![8320, 512]⟩ : Shape), ⟨2, ![8320, 512]⟩] ⟨2, ![8320, 1024]⟩ 1)

/-- The two head groups side by side, read in either half. -/
theorem side_lo (s : Fin 8320) (k : Fin 512) : concatenate (⟨2, ![8320, 1024]⟩ : Shape) 1 [⟨_, x⟩, ⟨_, y⟩] h (ix2 s (lo k)) = x (ix2 s k) :=
  concatenate_pair_apply_left 1 x y h (ix2 s (lo k)) rfl (ix2 s k) fun b => by
    match b with
    | ⟨0, _⟩ => rfl
    | ⟨1, _⟩ => rfl
theorem side_hi (s : Fin 8320) (k : Fin 512) : concatenate (⟨2, ![8320, 1024]⟩ : Shape) 1 [⟨_, x⟩, ⟨_, y⟩] h (ix2 s (hi k)) = y (ix2 s k) :=
  concatenate_pair_apply_right 1 x y h (ix2 s (hi k)) rfl rfl (ix2 s k)
    (fun b hb => by
      match b with
      | ⟨0, _⟩ => rfl
      | ⟨1, _⟩ => exact absurd rfl hb)
    (Nat.add_comm _ _)
end

theorem inb_all (n m : ℕ) (a : Fin 2) : (![0, 0] : Fin 2 → ℕ) a + (⟨2, ![n, m]⟩ : Shape).size a ≤ (⟨2, ![n, m]⟩ : Shape).size a := by
  match a with
  | ⟨0, _⟩ => exact (Nat.zero_add _).le
  | ⟨1, _⟩ => exact (Nat.zero_add _).le

/-- All of a block. -/
def allR (n m : ℕ) : Rect ⟨2, ![n, m]⟩ := Rect.unit ![0, 0] (⟨2, ![n, m]⟩ : Shape).size (inb_all n m)

theorem allR_idx {n m : ℕ} (r : Fin n) (d : Fin m) : (allR n m).toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)

section
variable {F : FTy → Type} [FloatOps F] {e : EltTy} {sig : RefSig}

/-- Storing all of a block leaves what is stored. -/
theorem canon_all {n m : ℕ} (w : Vec F ⟨2, ![n, m]⟩ e) (r : Fin n) (d : Fin m) :
    View.canon [(⟨allR n m, w⟩ : View.Piece (Elt F) ⟨2, ![n, m]⟩ e)] (ix2 r d) = w (ix2 r d) := by
  refine (congrArg (View.canon _) (allR_idx r d).symm).trans ?_
  exact View.canon_cons_emb (Val := Elt F) (e := e) (allR n m) w [] (ix2 r d)

/-- Reading all of a buffer that is given whole gives its contents. -/
theorem read_all {n m : ℕ} (v : Memref sig .tc .vmem ⟨2, ![n, m]⟩ e) (hv : v.IsWhole) (x : Vec F ⟨2, ![n, m]⟩ e) (r : Fin n) (d : Fin m) :
    View.readAt (Elt F) v.view (allR n m).toLoadRect (hv.unread x) (ix2 r d) = x (ix2 r d) :=
  (hv.readAt_unread (Val := Elt F) x (allR n m).toLoadRect (ix2 r d)).trans (congrArg x (allR_idx r d))

/-- Reading all of a buffer reads what its stores leave. -/
theorem read_cov {n m : ℕ} (v : Memref sig .tc .vmem ⟨2, ![n, m]⟩ e) (L : List (View.Piece (Elt F) ⟨2, ![n, m]⟩ e)) (r : Fin n) (d : Fin m) :
    v.view.readCov L (allR n m).toLoadRect (ix2 r d) = View.canon L (ix2 r d) := by
  refine (congrFun (View.readCov_eq_canon' v.view L (allR n m).toLoadRect) (ix2 r d)).trans ?_
  exact congrArg (View.canon L) (allR_idx r d)
end

theorem index2 {a b : ℕ} (x : (⟨2, ![a, b]⟩ : Shape).Idx) : ∃ (r : Fin a) (d : Fin b), x = ix2 r d :=
  ⟨x 0, x 1, by funext z; match z with | ⟨0, _⟩ => rfl | ⟨1, _⟩ => rfl⟩

end Cert.Rows

end
-- ==== Proof.WInUnit.lean ====
/- What one point stores of the gradient of the input projection's weight: the rows of the accumulator in two parts. -/
module

public import proofs.«01_k».proof.Proof.Rows
public import proofs.«01_k».proof.Proof.Gen.Kernel7Ideal.Frame

@[expose] public section

set_option maxRecDepth 16384

noncomputable section

namespace Cert.Kernel7Ideal.Turn

open Idealize.ShloMosaic hiding ix1 ix2 ix3 ix4
open Idealize.ShloMosaic.TcCoe Cert.Kernel7Ideal Cert.Kernel7Ideal.Gen Idealize.ShloMosaic.ValueIdx
open Idealize.SL.Sem
open Cert.Rows

/-- The two parts of the weight's rows. -/
def top (k : Fin 2048) : Fin 2560 := ⟨k.val, by omega⟩
def bot (k : Fin 512) : Fin 2560 := ⟨2048 + k.val, by omega⟩

theorem part (q : Fin 2560) : (∃ j, top j = q) ∨ ∃ j, bot j = q := by
  by_cases h : q.val < 2048
  · exact .inl ⟨⟨q.val, h⟩, rfl⟩
  · exact .inr ⟨⟨q.val - 2048, by omega⟩, Fin.ext (by show 2048 + (q.val - 2048) = q.val; omega)⟩

def topR : Rect S2560x1024 := Rect.unit ![0, 0] S2048x1024.size inb_S2560x1024_S2048x1024_0_0
def botR : Rect S2560x1024 := Rect.unit ![2048, 0] S512x1024.size inb_S2560x1024_S512x1024_2048_0

theorem topR_idx (k : Fin 2048) (d : Fin 1024) : topR.toLoadRect.idx (ix2 k d) = ix2 (top k) d := by
  funext a
  match a with
  | ⟨0, _⟩ => exact Fin.ext (by show 0 + 1 * k.val = k.val; omega)
  | ⟨1, _⟩ => exact Fin.ext (by show 0 + 1 * d.val = d.val; omega)
theorem botR_idx (k : Fin 512) (d : Fin 1024) : botR.toLoadRect.idx (ix2 k d) = ix2 (bot k) d := by
  funext a
  match a with
  | ⟨0, _⟩ => exact Fin.ext (by show 2048 + 1 * k.val = 2048 + k.val; omega)
  | ⟨1, _⟩ => exact Fin.ext (by show 0 + 1 * d.val = d.val; omega)

theorem not_bot (k : Fin 2048) (d : Fin 1024) : (ix2 (top k) d : S2560x1024.Idx) ∉ botR.set := fun h => by
  rw [← botR.map_emb_univ] at h
  obtain ⟨x, -, hx⟩ := Finset.mem_map.mp h
  have e : 2048 + 1 * (x 0).val = k.val := congrArg (fun y : S2560x1024.Idx => (y 0).val) hx
  have := k.isLt
  omega
theorem not_top (k : Fin 512) (d : Fin 1024) : (ix2 (bot k) d : S2560x1024.Idx) ∉ topR.set := fun h => by
  rw [← topR.map_emb_univ] at h
  obtain ⟨x, -, hx⟩ := Finset.mem_map.mp h
  have e : 0 + 1 * (x 0).val = 2048 + k.val := congrArg (fun y : S2560x1024.Idx => (y 0).val) hx
  have : (x 0).val < 2048 := (x 0).isLt
  omega

section
variable {F : FTy → Type} [FloatOps F]

/-- The first point's store of zeros, and a point's two stores over what was there. -/
def fill : List (View.Piece (Elt F) S2560x1024 .f32) := [⟨allR 2560 1024, k0_pay1⟩]
def topPiece (n : Vec F S640x1024 .bf16) (a : Vec F S640x2048 .bf16) (o : Vec F S2048x1024 .f32) : View.Piece (Elt F) S2560x1024 .f32 := ⟨topR, k0_pay3 n o a⟩
def botPiece (n : Vec F S640x1024 .bf16) (b : Vec F S640x512 .bf16) (o : Vec F S512x1024 .f32) : View.Piece (Elt F) S2560x1024 .f32 := ⟨botR, k0_pay4 n o b⟩

variable (c : Dev nD) (i : grid0.Coords)
  (arg1 : Memref sig .tc .vmem S640x1024 .bf16) (harg1 : arg1.IsWhole)
  (arg2 : Memref sig .tc .vmem S640x2048 .bf16) (harg2 : arg2.IsWhole)
  (arg3 : Memref sig .tc .vmem S640x512 .bf16) (harg3 : arg3.IsWhole)
  (arg4 : Memref sig .tc .vmem S2560x1024 .bf16) (harg4 : arg4.IsWhole)
  (arg5 : Memref sig .tc .vmem S2560x1024 .f32) (harg5 : arg5.IsWhole)
  (x0 : Vec F S640x1024 .bf16) (x1 : Vec F S640x2048 .bf16) (x2 : Vec F S640x512 .bf16) (xs : Vec F S2560x1024 .f32)

set_option maxHeartbeats 4000000 in
theorem runA_acc (h0 : cond0_0 i) (h1 : ¬cond0_1 i) : (kernelRun0_A c i arg1 harg1 arg2 harg2 arg3 harg3 arg4 harg4 arg5 harg5 h0 h1 x0 x1 x2).2.1
    = botPiece (View.readAt (Elt F) arg1.view (allR 640 1024).toLoadRect (harg1.unread x0)) (View.readAt (Elt F) arg3.view (allR 640 512).toLoadRect (harg3.unread x2)) (arg5.view.readCov (topPiece (View.readAt (Elt F) arg1.view (allR 640 1024).toLoadRect (harg1.unread x0)) (View.readAt (Elt F) arg2.view (allR 640 2048).toLoadRect (harg2.unread x1)) (arg5.view.readCov fill topR.toLoadRect) :: fill) botR.toLoadRect)
      :: topPiece (View.readAt (Elt F) arg1.view (allR 640 1024).toLoadRect (harg1.unread x0)) (View.readAt (Elt F) arg2.view (allR 640 2048).toLoadRect (harg2.unread x1)) (arg5.view.readCov fill topR.toLoadRect) :: fill := by
  rfl

set_option maxHeartbeats 4000000 in
theorem runB_acc (h0 : ¬cond0_0 i) (h1 : ¬cond0_1 i) : (kernelRun0_B c i arg1 harg1 arg2 harg2 arg3 harg3 arg4 harg4 arg5 harg5 h0 h1 x0 x1 x2 xs).2.1
    = [botPiece (View.readAt (Elt F) arg1.view (allR 640 1024).toLoadRect (harg1.unread x0)) (View.readAt (Elt F) arg3.view (allR 640 512).toLoadRect (harg3.unread x2)) (View.readAt (Elt F) arg5.view botR.toLoadRect (harg5.unread xs)),
      topPiece (View.readAt (Elt F) arg1.view (allR 640 1024).toLoadRect (harg1.unread x0)) (View.readAt (Elt F) arg2.view (allR 640 2048).toLoadRect (harg2.unread x1)) (View.readAt (Elt F) arg5.view topR.toLoadRect (harg5.unread xs))] := by
  rfl

set_option maxHeartbeats 4000000 in
theorem runC_acc (h0 : ¬cond0_0 i) (h1 : cond0_1 i) : (kernelRun0_C c i arg1 harg1 arg2 harg2 arg3 harg3 arg4 harg4 arg5 harg5 h0 h1 x0 x1 x2 xs).2.1
    = [botPiece (View.readAt (Elt F) arg1.view (allR 640 1024).toLoadRect (harg1.unread x0)) (View.readAt (Elt F) arg3.view (allR 640 512).toLoadRect (harg3.unread x2)) (View.readAt (Elt F) arg5.view botR.toLoadRect (harg5.unread xs)),
      topPiece (View.readAt (Elt F) arg1.view (allR 640 1024).toLoadRect (harg1.unread x0)) (View.readAt (Elt F) arg2.view (allR 640 2048).toLoadRect (harg2.unread x1)) (View.readAt (Elt F) arg5.view topR.toLoadRect (harg5.unread xs))] := by
  rfl

set_option maxHeartbeats 4000000 in
theorem runC_out (h0 : ¬cond0_0 i) (h1 : cond0_1 i) : (kernelRun0_C c i arg1 harg1 arg2 harg2 arg3 harg3 arg4 harg4 arg5 harg5 h0 h1 x0 x1 x2 xs).1
    = [⟨allR 2560 1024, k0_pay5 (arg5.view.readCov [botPiece (View.readAt (Elt F) arg1.view (allR 640 1024).toLoadRect (harg1.unread x0)) (View.readAt (Elt F) arg3.view (allR 640 512).toLoadRect (harg3.unread x2)) (View.readAt (Elt F) arg5.view botR.toLoadRect (harg5.unread xs)),
      topPiece (View.readAt (Elt F) arg1.view (allR 640 1024).toLoadRect (harg1.unread x0)) (View.readAt (Elt F) arg2.view (allR 640 2048).toLoadRect (harg2.unread x1)) (View.readAt (Elt F) arg5.view topR.toLoadRect (harg5.unread xs))] (allR 2560 1024).toLoadRect)⟩] := by
  rfl

end

/-- A point's share of a part. -/
theorem product_top (v : FVec Ideal S640x2048 .bf16) (u : FVec Ideal S640x1024 .bf16) (k : Fin 2048) (d : Fin 1024) :
    matmul dot_S640x2048_S640x1024_S2048x1024_0_0_1_1_n_n none v u (constant (F := Ideal) S2048x1024 .f32 0x00000000#32) (ix2 k d)
      = ∑ r : Fin 640, v (ix2 r k) * u (ix2 r d) := by
  show Ideal.matmul _ _ _ _ _ = _
  rw [Ideal.matmul_apply₁ _ (a := 0) rfl (K := 640) rfl]
  refine (congrArg₂ (· + ·) Num.w_zero (Finset.sum_congr rfl fun k _ => ?_)).trans (zero_add _)
  exact congrArg₂ (· * ·) (congrArg v (by funext z; match z with | ⟨0, _⟩ => rfl | ⟨1, _⟩ => rfl))
    (congrArg u (by funext z; match z with | ⟨0, _⟩ => rfl | ⟨1, _⟩ => rfl))
theorem product_bot (v : FVec Ideal S640x512 .bf16) (u : FVec Ideal S640x1024 .bf16) (k : Fin 512) (d : Fin 1024) :
    matmul dot_S640x512_S640x1024_S512x1024_0_0_1_1_n_n none v u (constant (F := Ideal) S512x1024 .f32 0x00000000#32) (ix2 k d)
      = ∑ r : Fin 640, v (ix2 r k) * u (ix2 r d) := by
  show Ideal.matmul _ _ _ _ _ = _
  rw [Ideal.matmul_apply₁ _ (a := 0) rfl (K := 640) rfl]
  refine (congrArg₂ (· + ·) Num.w_zero (Finset.sum_congr rfl fun k _ => ?_)).trans (zero_add _)
  exact congrArg₂ (· * ·) (congrArg v (by funext z; match z with | ⟨0, _⟩ => rfl | ⟨1, _⟩ => rfl))
    (congrArg u (by funext z; match z with | ⟨0, _⟩ => rfl | ⟨1, _⟩ => rfl))

theorem top_at (n : FVec Ideal S640x1024 .bf16) (o : FVec Ideal S2048x1024 .f32) (a : FVec Ideal S640x2048 .bf16) (k : Fin 2048) (d : Fin 1024) :
    k0_pay3 (F := Ideal) n o a (ix2 k d) = o (ix2 k d) + ∑ r : Fin 640, a (ix2 r k) * n (ix2 r d) := by
  unfold k0_pay3 k0_pay2
  simp only [shapeCast_self]
  show FloatOps.addf (o (ix2 k d)) _ = _
  rw [Ideal.addf_def]
  exact congrArg (o (ix2 k d) + ·) (product_top _ _ k d)
theorem bot_at (n : FVec Ideal S640x1024 .bf16) (o : FVec Ideal S512x1024 .f32) (a : FVec Ideal S640x512 .bf16) (k : Fin 512) (d : Fin 1024) :
    k0_pay4 (F := Ideal) n o a (ix2 k d) = o (ix2 k d) + ∑ r : Fin 640, a (ix2 r k) * n (ix2 r d) := by
  unfold k0_pay4 k0_pay2
  simp only [shapeCast_self]
  show FloatOps.addf (o (ix2 k d)) _ = _
  rw [Ideal.addf_def]
  exact congrArg (o (ix2 k d) + ·) (product_bot _ _ k d)

/-- A store of a part leaves what is stored there. -/
theorem canon_top (w : Vec Ideal S2048x1024 .f32) (L : List (View.Piece (Elt Ideal) S2560x1024 .f32)) (k : Fin 2048) (d : Fin 1024) :
    View.canon ((⟨topR, w⟩ : View.Piece (Elt Ideal) S2560x1024 .f32) :: L) (ix2 (top k) d) = w (ix2 k d) := by
  refine (congrArg (View.canon _) (topR_idx k d).symm).trans ?_
  exact View.canon_cons_emb (Val := Elt Ideal) (e := .f32) topR w L (ix2 k d)
theorem canon_bot (w : Vec Ideal S512x1024 .f32) (L : List (View.Piece (Elt Ideal) S2560x1024 .f32)) (k : Fin 512) (d : Fin 1024) :
    View.canon ((⟨botR, w⟩ : View.Piece (Elt Ideal) S2560x1024 .f32) :: L) (ix2 (bot k) d) = w (ix2 k d) := by
  refine (congrArg (View.canon _) (botR_idx k d).symm).trans ?_
  exact View.canon_cons_emb (Val := Elt Ideal) (e := .f32) botR w L (ix2 k d)
theorem canon_skip (w : Vec Ideal S512x1024 .f32) (L : List (View.Piece (Elt Ideal) S2560x1024 .f32)) (k : Fin 2048) (d : Fin 1024) :
    View.canon ((⟨botR, w⟩ : View.Piece (Elt Ideal) S2560x1024 .f32) :: L) (ix2 (top k) d) = View.canon L (ix2 (top k) d) :=
  View.canon_cons_of_not_mem (Val := Elt Ideal) (e := .f32) ⟨botR, w⟩ L (not_bot k d)
theorem canon_under (w : Vec Ideal S2048x1024 .f32) (L : List (View.Piece (Elt Ideal) S2560x1024 .f32)) (k : Fin 512) (d : Fin 1024) :
    View.canon ((⟨topR, w⟩ : View.Piece (Elt Ideal) S2560x1024 .f32) :: L) (ix2 (bot k) d) = View.canon L (ix2 (bot k) d) :=
  View.canon_cons_of_not_mem (Val := Elt Ideal) (e := .f32) ⟨topR, w⟩ L (not_top k d)

/-- A point's two stores add its share to what was there. -/
theorem stepped (n : FVec Ideal S640x1024 .bf16) (a : FVec Ideal S640x2048 .bf16) (b : FVec Ideal S640x512 .bf16) (o : FVec Ideal S2048x1024 .f32) (p : FVec Ideal S512x1024 .f32)
    (L : List (View.Piece (Elt Ideal) S2560x1024 .f32)) {f : Fin 2560 → Fin 1024 → EReal} {A : Fin 640 → Fin 2560 → EReal} {N : Fin 640 → Fin 1024 → EReal}
    (hn : ∀ r d, n (ix2 r d) = N r d) (ha : ∀ r k, a (ix2 r k) = A r (top k)) (hb : ∀ r k, b (ix2 r k) = A r (bot k))
    (ho : ∀ k d, o (ix2 k d) = f (top k) d) (hp : ∀ k d, p (ix2 k d) = f (bot k) d) (q : Fin 2560) (d : Fin 1024) :
    View.canon (botPiece (F := Ideal) n b p :: topPiece n a o :: L) (ix2 q d) = f q d + ∑ r, A r q * N r d := by
  rcases part q with ⟨k, rfl⟩ | ⟨k, rfl⟩
  · refine (canon_skip _ _ k d).trans ?_
    refine (canon_top _ L k d).trans ((top_at n o a k d).trans ?_)
    exact congrArg₂ (· + ·) (ho k d) (Finset.sum_congr rfl fun r _ => congrArg₂ (· * ·) (ha r k) (hn r d))
  · refine (canon_bot _ _ k d).trans ((bot_at n p b k d).trans ?_)
    exact congrArg₂ (· + ·) (hp k d) (Finset.sum_congr rfl fun r _ => congrArg₂ (· * ·) (hb r k) (hn r d))

theorem fill_at (q : Fin 2560) (d : Fin 1024) : View.canon (fill (F := Ideal)) (ix2 q d) = (0 : EReal) := by
  refine (canon_all (F := Ideal) (e := .f32) (k0_pay1 (F := Ideal)) q d).trans ?_
  unfold k0_pay1
  simp only [shapeCast_self]
  exact Num.w_zero

/-- What is stored at the last point: the sum. -/
theorem final_at (x : FVec Ideal S2560x1024 .f32) (q : Fin 2560) (d : Fin 1024) : k0_pay5 (F := Ideal) x (ix2 q d) = x (ix2 q d) := by
  unfold k0_pay5
  rfl

/-- Reading a part of what the stores leave. -/
theorem cov_top (v : Memref sig .tc .vmem S2560x1024 .f32) (L : List (View.Piece (Elt Ideal) S2560x1024 .f32)) (k : Fin 2048) (d : Fin 1024) :
    v.view.readCov L topR.toLoadRect (ix2 k d) = View.canon L (ix2 (top k) d) :=
  (congrFun (View.readCov_eq_canon' v.view L topR.toLoadRect) (ix2 k d)).trans (congrArg (View.canon L) (topR_idx k d))
theorem cov_bot (v : Memref sig .tc .vmem S2560x1024 .f32) (L : List (View.Piece (Elt Ideal) S2560x1024 .f32)) (k : Fin 512) (d : Fin 1024) :
    v.view.readCov L botR.toLoadRect (ix2 k d) = View.canon L (ix2 (bot k) d) :=
  (congrFun (View.readCov_eq_canon' v.view L botR.toLoadRect) (ix2 k d)).trans (congrArg (View.canon L) (botR_idx k d))
theorem old_top (v : Memref sig .tc .vmem S2560x1024 .f32) (hv : v.IsWhole) (x : FVec Ideal S2560x1024 .f32) (k : Fin 2048) (d : Fin 1024) :
    View.readAt (Elt Ideal) v.view topR.toLoadRect (hv.unread x) (ix2 k d) = x (ix2 (top k) d) :=
  (hv.readAt_unread (Val := Elt Ideal) x topR.toLoadRect (ix2 k d)).trans (congrArg x (topR_idx k d))
theorem old_bot (v : Memref sig .tc .vmem S2560x1024 .f32) (hv : v.IsWhole) (x : FVec Ideal S2560x1024 .f32) (k : Fin 512) (d : Fin 1024) :
    View.readAt (Elt Ideal) v.view botR.toLoadRect (hv.unread x) (ix2 k d) = x (ix2 (bot k) d) :=
  (hv.readAt_unread (Val := Elt Ideal) x botR.toLoadRect (ix2 k d)).trans (congrArg x (botR_idx k d))

end Cert.Kernel7Ideal.Turn

end
-- ==== Proof.WInWalk.lean ====
/- The walk over the points of the gradient of the input projection's weight: what the accumulator holds, and what is written back. -/
module

public import proofs.«01_k».proof.Proof.WInUnit
public import proofs.«01_k».proof.Proof.Gen.Kernel7Ideal.Points

@[expose] public section

set_option maxRecDepth 16384

noncomputable section

namespace Cert.Kernel7Ideal.Turn

open Idealize.ShloMosaic hiding ix1 ix2 ix3 ix4
open Idealize.ShloMosaic.TcCoe Cert.Kernel7Ideal Cert.Kernel7Ideal.Gen Idealize.ShloMosaic.ValueIdx
open Idealize.SL.Sem
open Cert.Rows

variable {m : (ℓ : Loc nD τ sig) → Buf (Elt Ideal) ℓ} {c : Dev nD}

/-- The blocks of a point, as rows of the two factors. -/
structure Blocks (A : Fin 640 → Fin 2560 → EReal) (N : Fin 640 → Fin 1024 → EReal) (n : FVec Ideal S640x1024 .bf16) (a : FVec Ideal S640x2048 .bf16) (b : FVec Ideal S640x512 .bf16) : Prop where
  n : ∀ r d, n (ix2 r d) = N r d
  a : ∀ r k, a (ix2 r k) = A r (top k)
  b : ∀ r k, b (ix2 r k) = A r (bot k)

variable {A : Fin 640 → Fin 2560 → EReal} {N : Fin 640 → Fin 1024 → EReal}

theorem first (t : Fin cfg0.N) (h0 : t.val % 13 = 0) (B : Blocks A N (iblk m c 0 t) (iblk m c 1 t) (iblk m c 2 t)) (q : Fin 2560) (d : Fin 1024) :
    (outsAt0 m c t.val t.isLt).2 (ix2 q d) = 0 + ∑ r, A r q * N r d := by
  rw [outsAt0_A m c t h0 (by omega)]
  dsimp only
  unfold sout0_A_0
  rw [View.read_writes_junk_eq_canon, runA_acc]
  refine stepped _ _ _ _ _ _ (f := fun _ _ => 0) (fun r d => (read_all (F := Ideal) _ (hs0_0 t) _ r d).trans (B.n r d))
    (fun r k => (read_all (F := Ideal) _ (hs0_1 t) _ r k).trans (B.a r k)) (fun r k => (read_all (F := Ideal) _ (hs0_2 t) _ r k).trans (B.b r k))
    (fun k d => (cov_top _ _ k d).trans (fill_at _ d)) (fun k d => (cov_bot _ _ k d).trans ?_) q d
  exact (canon_under _ _ k d).trans (fill_at _ d)

theorem mid (t : Fin cfg0.N) (h0 : ¬t.val % 13 = 0) (h1 : ¬t.val % 13 = 12) (B : Blocks A N (iblk m c 0 t) (iblk m c 1 t) (iblk m c 2 t)) (q : Fin 2560) (d : Fin 1024) :
    (outsAt0 m c t.val t.isLt).2 (ix2 q d) = (outsAt0 m c (t.val - 1) (Nat.lt_of_le_of_lt (Nat.sub_le _ _) t.isLt)).2 (ix2 q d) + ∑ r, A r q * N r d := by
  rw [outsAt0_B m c t h0 h1]
  dsimp only
  unfold sout0_B_0
  rw [View.read_writes_junk_eq_canon, runB_acc]
  exact stepped _ _ _ _ _ _ (f := fun q d => (outsAt0 m c (t.val - 1) (Nat.lt_of_le_of_lt (Nat.sub_le _ _) t.isLt)).2 (ix2 q d))
    (fun r d => (read_all (F := Ideal) _ (hs0_0 t) _ r d).trans (B.n r d))
    (fun r k => (read_all (F := Ideal) _ (hs0_1 t) _ r k).trans (B.a r k)) (fun r k => (read_all (F := Ideal) _ (hs0_2 t) _ r k).trans (B.b r k))
    (fun k d => old_top _ _ _ k d) (fun k d => old_bot _ _ _ k d) q d

/-- The last point adds its share, and stores the sum. -/
theorem last (t : Fin cfg0.N) (h1 : t.val % 13 = 12) (B : Blocks A N (iblk m c 0 t) (iblk m c 1 t) (iblk m c 2 t)) (q : Fin 2560) (d : Fin 1024) :
    (outsAt0 m c t.val t.isLt).1 (ix2 q d) = (outsAt0 m c (t.val - 1) (Nat.lt_of_le_of_lt (Nat.sub_le _ _) t.isLt)).2 (ix2 q d) + ∑ r, A r q * N r d := by
  rw [outsAt0_C m c t (by omega) h1]
  dsimp only
  unfold out0_C_3
  rw [View.read_writes_junk_eq_canon, runC_out]
  refine (canon_all (F := Ideal) (e := .bf16) _ q d).trans ((final_at _ q d).trans ?_)
  refine (read_cov (F := Ideal) (e := .f32) _ _ q d).trans ?_
  exact stepped _ _ _ _ _ _ (f := fun q d => (outsAt0 m c (t.val - 1) (Nat.lt_of_le_of_lt (Nat.sub_le _ _) t.isLt)).2 (ix2 q d))
    (fun r d => (read_all (F := Ideal) _ (hs0_0 t) _ r d).trans (B.n r d))
    (fun r k => (read_all (F := Ideal) _ (hs0_1 t) _ r k).trans (B.a r k)) (fun r k => (read_all (F := Ideal) _ (hs0_2 t) _ r k).trans (B.b r k))
    (fun k d => old_top _ _ _ k d) (fun k d => old_bot _ _ _ k d) q d

variable {A : Fin 8320 → Fin 2560 → EReal} {N : Fin 8320 → Fin 1024 → EReal}
  (hB : ∀ t : Fin cfg0.N, Blocks (fun r => A (tok t.val r)) (fun r => N (tok t.val r)) (iblk m c 0 t) (iblk m c 1 t) (iblk m c 2 t))

include hB in
/-- What the accumulator holds after a point. -/
theorem kept (q : Fin 2560) (d : Fin 1024) : ∀ n (hn : n < cfg0.N), n < 12 → (outsAt0 m c n hn).2 (ix2 q d) = ∑ s ∈ Finset.range (n + 1), ∑ r : Fin 640, A (tok s r) q * N (tok s r) d
  | 0, hn, _ => by
    refine (first ⟨0, hn⟩ rfl (hB ⟨0, hn⟩) q d).trans ?_
    rw [Finset.sum_range_one, zero_add]
  | n + 1, hn, h => by
    refine (mid ⟨n + 1, hn⟩ (by show ¬(n + 1) % 13 = 0; omega) (by show ¬(n + 1) % 13 = 12; omega) (hB ⟨n + 1, hn⟩) q d).trans ?_
    refine (congrArg (· + _) (kept q d n (by omega) (by omega))).trans ?_
    exact (Finset.sum_range_succ (fun s => ∑ r : Fin 640, A (tok s r) q * N (tok s r) d) (n + 1)).symm

include hB in
theorem stored (t : Fin cfg0.N) (ht : t.val = 12) (q : Fin 2560) (d : Fin 1024) :
    (outsAt0 m c t.val t.isLt).1 (ix2 q d) = ∑ s : Fin 8320, A s q * N s d := by
  refine (last t (by rw [ht]) (hB t) q d).trans ?_
  rw [sum_rows (fun s => A s q * N s d), Finset.sum_range_succ]
  refine congrArg₂ (· + ·) ((kept hB q d (t.val - 1) (Nat.lt_of_le_of_lt (Nat.sub_le _ _) t.isLt) (by omega)).trans ?_) ?_
  · rw [ht]
  · rw [ht]

/-- Only the last point writes the weight's gradient back. -/
theorem once (t t' : Fin cfg0.N) (h : (cfg0.win 3).flush t = true) (h' : (cfg0.win 3).flush t' = true) : t = t' := by
  have h1 := (flush0_3 t).mp h
  have h2 := (flush0_3 t').mp h'
  have h3 := lt_of_lt_of_eq t.isLt (show cfg0.N = 13 from N_0)
  have h4 := lt_of_lt_of_eq t'.isLt (show cfg0.N = 13 from N_0)
  exact Fin.ext (by omega)

end Cert.Kernel7Ideal.Turn

end
-- ==== Proof.WInFinal.lean ====
/- The arrays the host prepares for the gradient of the input projection's weight, and that the call leaves what the reference does. -/
module

public import proofs.«01_k».proof.Proof.WInWalk
public import proofs.«01_k».proof.Proof.Gen.Kernel7Ideal.Value
public import proofs.«01_k».proof.Proof.Gen.Reference7Ideal.Read
public import Idealize.ShloMosaic.Lib.Claim

@[expose] public section

set_option maxRecDepth 16384

noncomputable section

namespace Cert.Kernel7Ideal.Turn

open Idealize.ShloMosaic hiding ix1 ix2 ix3 ix4
open Idealize.ShloMosaic.TcCoe Cert.Kernel7Ideal Cert.Kernel7Ideal.Gen Idealize.ShloMosaic.ValueIdx
open Idealize.SL.Sem
open Cert.Rows
open Cert.Reference7Ideal.Read (val_main_v11 val_main_v14_apply val_main_v15_apply val_main_v16_apply val_main_v17 val_main_v17_apply)

variable (V0 : Valuation τ sig (Elt Ideal))

/-- The contents after the host operations. -/
def w1 : Valuation τ sig (Elt Ideal) := StableHlo.after hostOps0 V0

set_option maxHeartbeats 4000000 in
theorem w1_v13 : w1 V0 (no_index (Proc.devRef .tc main_v13)) = (truncf .bf16 (extractStridedSlice S8320x2048 ![0, 0] (V0 (Proc.devRef .tc main_arg2) : FVec Ideal S8320x2560 .f32) slices_S8320x2560_S8320x2048_0_0 : FVec Ideal S8320x2048 .f32) bitsLt_bf16_f32 : FVec Ideal S8320x2048 .bf16) := by
  unfold w1
  simp only [hostOps0]
  after_results_simp
  all_goals rfl
set_option maxHeartbeats 4000000 in
theorem w1_v15 : w1 V0 (no_index (Proc.devRef .tc main_v15)) = (truncf .bf16 (extractStridedSlice S8320x512 ![0, 2048] (V0 (Proc.devRef .tc main_arg2) : FVec Ideal S8320x2560 .f32) slices_S8320x2560_S8320x512_0_2048 : FVec Ideal S8320x512 .f32) bitsLt_bf16_f32 : FVec Ideal S8320x512 .bf16) := by
  unfold w1
  simp only [hostOps0]
  after_results_simp
  all_goals rfl
set_option maxHeartbeats 4000000 in
theorem w1_v16 : w1 V0 (no_index (Proc.devRef .tc main_v16)) = (truncf .bf16 (val_main_v11 (F := Ideal) (V0 (Proc.devRef .tc main_arg0)) (V0 (Proc.devRef .tc main_arg1)) : FVec Ideal S8320x1024 .f32) bitsLt_bf16_f32 : FVec Ideal S8320x1024 .bf16) := by
  unfold w1
  simp only [hostOps0]
  after_results_simp
  all_goals rfl

variable {m : (ℓ : Loc nD τ sig) → Buf (Elt Ideal) ℓ} {c : Dev nD}

/-- The three arguments. -/
abbrev inH (m : (ℓ : Loc nD τ sig) → Buf (Elt Ideal) ℓ) (c : Dev nD) : FVec Ideal S8320x1024 .f32 := m ((c : Thread nD τ).loc main_arg0)
abbrev inN (m : (ℓ : Loc nD τ sig) → Buf (Elt Ideal) ℓ) (c : Dev nD) : FVec Ideal S1x1024 .f32 := m ((c : Thread nD τ).loc main_arg1)
abbrev inP (m : (ℓ : Loc nD τ sig) → Buf (Elt Ideal) ℓ) (c : Dev nD) : FVec Ideal S8320x2560 .f32 := m ((c : Thread nD τ).loc main_arg2)

/-- A buffer as the region finds it. -/
theorem entry (b : Ref sig .tc) : V m c b = w1 (fun b => m (c, b)) (Proc.devRef .tc b) := rfl

/-- The block each window is on. -/
theorem places : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0) :=
  (by decide +kernel : ∀ t : Fin grid0.N, _)

theorem block0 (t : Fin cfg0.N) (r : Fin 640) (d : Fin 1024) : iblk m c 0 t (ix2 r d) = val_main_v11 (F := Ideal) (inH m c) (inN m c) (ix2 (tok t.val r) d) := by
  obtain ⟨hp, -⟩ := places t
  have ht : t.val < 13 := lt_of_lt_of_eq t.isLt (show cfg0.N = 13 from N_0)
  have key : ∀ i : S8320x1024.Idx, i = ix2 (tok t.val r) d → V m c main_v16 i = val_main_v11 (F := Ideal) (inH m c) (inN m c) (ix2 (tok t.val r) d) := fun i hi => by
    subst hi
    exact congrFun ((entry main_v16).trans (w1_v16 fun b => m (c, b))) _
  refine key _ (funext fun a => Fin.ext ?_)
  match a with
  | ⟨0, _⟩ => show win0_0.index t 0 * 640 + 1 * r.val = (tok t.val r).val; rw [hp.1, tok_val ht]; omega
  | ⟨1, _⟩ => show win0_0.index t 1 * 1024 + 1 * d.val = d.val; rw [hp.2]; omega

theorem block1 (t : Fin cfg0.N) (r : Fin 640) (d : Fin 2048) : iblk m c 1 t (ix2 r d) = inP m c (ix2 (tok t.val r) (top d)) := by
  obtain ⟨-, hp, -⟩ := places t
  have ht : t.val < 13 := lt_of_lt_of_eq t.isLt (show cfg0.N = 13 from N_0)
  have key : ∀ i : S8320x2048.Idx, i = ix2 (tok t.val r) d → V m c main_v13 i = inP m c (ix2 (tok t.val r) (top d)) := fun i hi => by
    subst hi
    rw [entry, w1_v13]
    generalize hs : tok t.val r = s
    refine extractStridedSlice_apply _ _ slices_S8320x2560_S8320x2048_0_0 (ix2 s d) (ix2 s (top d)) fun a => ?_
    match a with
    | ⟨0, _⟩ => show s.val = 0 + s.val; omega
    | ⟨1, _⟩ => show d.val = 0 + d.val; omega
  refine key _ (funext fun a => Fin.ext ?_)
  match a with
  | ⟨0, _⟩ => show win0_1.index t 0 * 640 + 1 * r.val = (tok t.val r).val; rw [hp.1, tok_val ht]; omega
  | ⟨1, _⟩ => show win0_1.index t 1 * 2048 + 1 * d.val = d.val; rw [hp.2]; omega

theorem block2 (t : Fin cfg0.N) (r : Fin 640) (d : Fin 512) : iblk m c 2 t (ix2 r d) = inP m c (ix2 (tok t.val r) (bot d)) := by
  obtain ⟨-, -, hp, -⟩ := places t
  have ht : t.val < 13 := lt_of_lt_of_eq t.isLt (show cfg0.N = 13 from N_0)
  have key : ∀ i : S8320x512.Idx, i = ix2 (tok t.val r) d → V m c main_v15 i = inP m c (ix2 (tok t.val r) (bot d)) := fun i hi => by
    subst hi
    rw [entry, w1_v15]
    generalize hs : tok t.val r = s
    refine extractStridedSlice_apply _ _ slices_S8320x2560_S8320x512_0_2048 (ix2 s d) (ix2 s (bot d)) fun a => ?_
    match a with
    | ⟨0, _⟩ => show s.val = 0 + s.val; omega
    | ⟨1, _⟩ => rfl
  refine key _ (funext fun a => Fin.ext ?_)
  match a with
  | ⟨0, _⟩ => show win0_2.index t 0 * 640 + 1 * r.val = (tok t.val r).val; rw [hp.1, tok_val ht]; omega
  | ⟨1, _⟩ => show win0_2.index t 1 * 512 + 1 * d.val = d.val; rw [hp.2]; omega

/-- The weight's gradient that the call leaves. -/
theorem turned_at (t : Fin cfg0.N) (ht : t.val = 12) (i : S2560x1024.Idx) : (dats m 0 c).arrAt 3 cfg0.N i = ∑ s : Fin 8320, inP m c (ix2 s (i 0)) * val_main_v11 (F := Ideal) (inH m c) (inN m c) (ix2 s (i 1)) := by
  have hf : (cfg0.win 3).flush t = true := (flush0_3 t).mpr (by rw [ht])
  obtain ⟨-, -, -, hp⟩ := places t
  have e := congrFun ((dats m 0 c).read_blk_arrAt_eq_flushed 3 (fun t t' h h' hne => absurd (once t t' h h') hne) cfg0.N t t.isLt hf) (ix2 (i 0) (i 1))
  rw [Value.flushed3] at e
  have e2 : _ = ∑ s : Fin 8320, inP m c (ix2 s (i 0)) * val_main_v11 (F := Ideal) (inH m c) (inN m c) (ix2 s (i 1)) := stored (m := m) (c := c) (A := fun s q => inP m c (ix2 s q)) (N := fun s d => val_main_v11 (F := Ideal) (inH m c) (inN m c) (ix2 s d)) (fun t => ⟨block0 t, block1 t, block2 t⟩) t ht (i 0) (i 1)
  refine Eq.trans ?_ (e.trans e2)
  refine congrArg ((dats m 0 c).arrAt 3 cfg0.N) (funext fun a => Fin.ext ?_)
  match a with
  | ⟨0, _⟩ => show (i 0).val = win0_3.index t 0 * 2560 + 1 * (i 0).val; rw [hp.1]; omega
  | ⟨1, _⟩ => show (i 1).val = win0_3.index t 1 * 1024 + 1 * (i 1).val; rw [hp.2]; omega

theorem turned_read (i : S2560x1024.Idx) : (dats m 0 c).arrAt 3 cfg0.N i = ∑ s : Fin 8320, inP m c (ix2 s (i 0)) * val_main_v11 (F := Ideal) (inH m c) (inN m c) (ix2 s (i 1)) :=
  turned_at ⟨12, by rw [show cfg0.N = 13 from N_0]; decide⟩ rfl i

/-- It is the reference's. -/
theorem agrees : val_main_v17 (F := Ideal) (inH m c) (inN m c) (inP m c) = (dats m 0 c).arrAt 3 cfg0.N := by
  funext i
  refine Eq.trans ?_ (turned_read i).symm
  refine (val_main_v17_apply (F := Ideal) _ _ _ i).trans ((val_main_v16_apply (F := Ideal) _ _ _ i).trans ((val_main_v15_apply (F := Ideal) _ _ _ _).trans
    ((val_main_v14_apply _ _ _ _).trans (Finset.sum_congr rfl fun s _ => ?_))))
  refine congrArg₂ (· * ·) (congrArg (inP m c) (funext fun a => ?_)) (congrArg (val_main_v11 (F := Ideal) (inH m c) (inN m c)) (funext fun a => ?_))
  all_goals match a with
    | ⟨0, _⟩ => rfl
    | ⟨1, _⟩ => rfl

end Cert.Kernel7Ideal.Turn

end
-- ==== Proof.OutBackUnit.lean ====
/- What one point stores of the gradient through the output projection: the rows of the accumulator in two parts. -/
module

public import proofs.«01_k».proof.Proof.Rows
public import proofs.«01_k».proof.Proof.Gen.Kernel8Ideal.Frame

@[expose] public section

set_option maxRecDepth 16384

noncomputable section

namespace Cert.Kernel8Ideal.Turn

open Idealize.ShloMosaic hiding ix1 ix2 ix3 ix4
open Idealize.ShloMosaic.TcCoe Cert.Kernel8Ideal Cert.Kernel8Ideal.Gen Idealize.ShloMosaic.ValueIdx
open Idealize.SL.Sem
open Cert.Rows

/-- The two parts of the weight's rows. -/
def top (k : Fin 512) : Fin 1024 := ⟨k.val, by omega⟩
def bot (k : Fin 512) : Fin 1024 := ⟨512 + k.val, by omega⟩

theorem part (q : Fin 1024) : (∃ j, top j = q) ∨ ∃ j, bot j = q := by
  by_cases h : q.val < 512
  · exact .inl ⟨⟨q.val, h⟩, rfl⟩
  · exact .inr ⟨⟨q.val - 512, by omega⟩, Fin.ext (by show 512 + (q.val - 512) = q.val; omega)⟩

def topR : Rect S1024x1024 := Rect.unit ![0, 0] S512x1024.size inb_S1024x1024_S512x1024_0_0
def botR : Rect S1024x1024 := Rect.unit ![512, 0] S512x1024.size inb_S1024x1024_S512x1024_512_0

theorem topR_idx (k : Fin 512) (d : Fin 1024) : topR.toLoadRect.idx (ix2 k d) = ix2 (top k) d := by
  funext a
  match a with
  | ⟨0, _⟩ => exact Fin.ext (by show 0 + 1 * k.val = k.val; omega)
  | ⟨1, _⟩ => exact Fin.ext (by show 0 + 1 * d.val = d.val; omega)
theorem botR_idx (k : Fin 512) (d : Fin 1024) : botR.toLoadRect.idx (ix2 k d) = ix2 (bot k) d := by
  funext a
  match a with
  | ⟨0, _⟩ => exact Fin.ext (by show 512 + 1 * k.val = 512 + k.val; omega)
  | ⟨1, _⟩ => exact Fin.ext (by show 0 + 1 * d.val = d.val; omega)

theorem not_bot (k : Fin 512) (d : Fin 1024) : (ix2 (top k) d : S1024x1024.Idx) ∉ botR.set := fun h => by
  rw [← botR.map_emb_univ] at h
  obtain ⟨x, -, hx⟩ := Finset.mem_map.mp h
  have e : 512 + 1 * (x 0).val = k.val := congrArg (fun y : S1024x1024.Idx => (y 0).val) hx
  have := k.isLt
  omega
theorem not_top (k : Fin 512) (d : Fin 1024) : (ix2 (bot k) d : S1024x1024.Idx) ∉ topR.set := fun h => by
  rw [← topR.map_emb_univ] at h
  obtain ⟨x, -, hx⟩ := Finset.mem_map.mp h
  have e : 0 + 1 * (x 0).val = 512 + k.val := congrArg (fun y : S1024x1024.Idx => (y 0).val) hx
  have : (x 0).val < 512 := (x 0).isLt
  omega

section
variable {F : FTy → Type} [FloatOps F]

/-- The first point's store of zeros, and a point's two stores over what was there. -/
def fill : List (View.Piece (Elt F) S1024x1024 .f32) := [⟨allR 1024 1024, k0_pay1⟩]
def topPiece (n : Vec F S640x1024 .f32) (a : Vec F S640x512 .bf16) (o : Vec F S512x1024 .f32) : View.Piece (Elt F) S1024x1024 .f32 := ⟨topR, k0_pay4 n o a⟩
def botPiece (n : Vec F S640x1024 .f32) (b : Vec F S640x512 .bf16) (o : Vec F S512x1024 .f32) : View.Piece (Elt F) S1024x1024 .f32 := ⟨botR, k0_pay5 n o b⟩

variable (c : Dev nD) (i : grid0.Coords)
  (arg1 : Memref sig .tc .vmem S640x1024 .f32) (harg1 : arg1.IsWhole)
  (arg2 : Memref sig .tc .vmem S1024x1024 .bf16) (harg2 : arg2.IsWhole)
  (arg3 : Memref sig .tc .vmem S640x512 .bf16) (harg3 : arg3.IsWhole)
  (arg4 : Memref sig .tc .vmem S640x512 .bf16) (harg4 : arg4.IsWhole)
  (arg5 : Memref sig .tc .vmem S640x1024 .f32) (harg5 : arg5.IsWhole)
  (arg6 : Memref sig .tc .vmem S1024x1024 .bf16) (harg6 : arg6.IsWhole)
  (arg7 : Memref sig .tc .vmem S1024x1024 .f32) (harg7 : arg7.IsWhole)
  (x0 : Vec F S640x1024 .f32) (x1 : Vec F S1024x1024 .bf16) (x2 : Vec F S640x512 .bf16) (x3 : Vec F S640x512 .bf16) (xs : Vec F S1024x1024 .f32)

set_option maxHeartbeats 4000000 in
theorem runA_acc (h0 : cond0_0 i) (h1 : ¬cond0_1 i) : (kernelRun0_A c i arg1 harg1 arg2 harg2 arg3 harg3 arg4 harg4 arg5 harg5 arg6 harg6 arg7 harg7 h0 h1 x0 x1 x2 x3).2.2.1
    = botPiece (View.readAt (Elt F) arg1.view (allR 640 1024).toLoadRect (harg1.unread x0)) (View.readAt (Elt F) arg4.view (allR 640 512).toLoadRect (harg4.unread x3)) (arg7.view.readCov (topPiece (View.readAt (Elt F) arg1.view (allR 640 1024).toLoadRect (harg1.unread x0)) (View.readAt (Elt F) arg3.view (allR 640 512).toLoadRect (harg3.unread x2)) (arg7.view.readCov fill topR.toLoadRect) :: fill) botR.toLoadRect)
      :: topPiece (View.readAt (Elt F) arg1.view (allR 640 1024).toLoadRect (harg1.unread x0)) (View.readAt (Elt F) arg3.view (allR 640 512).toLoadRect (harg3.unread x2)) (arg7.view.readCov fill topR.toLoadRect) :: fill := by
  rfl

set_option maxHeartbeats 4000000 in
theorem runB_acc (h0 : ¬cond0_0 i) (h1 : ¬cond0_1 i) : (kernelRun0_B c i arg1 harg1 arg2 harg2 arg3 harg3 arg4 harg4 arg5 harg5 arg6 harg6 arg7 harg7 h0 h1 x0 x1 x2 x3 xs).2.2.1
    = [botPiece (View.readAt (Elt F) arg1.view (allR 640 1024).toLoadRect (harg1.unread x0)) (View.readAt (Elt F) arg4.view (allR 640 512).toLoadRect (harg4.unread x3)) (View.readAt (Elt F) arg7.view botR.toLoadRect (harg7.unread xs)),
      topPiece (View.readAt (Elt F) arg1.view (allR 640 1024).toLoadRect (harg1.unread x0)) (View.readAt (Elt F) arg3.view (allR 640 512).toLoadRect (harg3.unread x2)) (View.readAt (Elt F) arg7.view topR.toLoadRect (harg7.unread xs))] := by
  rfl

set_option maxHeartbeats 4000000 in
theorem runC_acc (h0 : ¬cond0_0 i) (h1 : cond0_1 i) : (kernelRun0_C c i arg1 harg1 arg2 harg2 arg3 harg3 arg4 harg4 arg5 harg5 arg6 harg6 arg7 harg7 h0 h1 x0 x1 x2 x3 xs).2.2.1
    = [botPiece (View.readAt (Elt F) arg1.view (allR 640 1024).toLoadRect (harg1.unread x0)) (View.readAt (Elt F) arg4.view (allR 640 512).toLoadRect (harg4.unread x3)) (View.readAt (Elt F) arg7.view botR.toLoadRect (harg7.unread xs)),
      topPiece (View.readAt (Elt F) arg1.view (allR 640 1024).toLoadRect (harg1.unread x0)) (View.readAt (Elt F) arg3.view (allR 640 512).toLoadRect (harg3.unread x2)) (View.readAt (Elt F) arg7.view topR.toLoadRect (harg7.unread xs))] := by
  rfl

set_option maxHeartbeats 4000000 in
theorem runC_out (h0 : ¬cond0_0 i) (h1 : cond0_1 i) : (kernelRun0_C c i arg1 harg1 arg2 harg2 arg3 harg3 arg4 harg4 arg5 harg5 arg6 harg6 arg7 harg7 h0 h1 x0 x1 x2 x3 xs).2.1
    = [⟨allR 1024 1024, k0_pay6 (arg7.view.readCov [botPiece (View.readAt (Elt F) arg1.view (allR 640 1024).toLoadRect (harg1.unread x0)) (View.readAt (Elt F) arg4.view (allR 640 512).toLoadRect (harg4.unread x3)) (View.readAt (Elt F) arg7.view botR.toLoadRect (harg7.unread xs)),
      topPiece (View.readAt (Elt F) arg1.view (allR 640 1024).toLoadRect (harg1.unread x0)) (View.readAt (Elt F) arg3.view (allR 640 512).toLoadRect (harg3.unread x2)) (View.readAt (Elt F) arg7.view topR.toLoadRect (harg7.unread xs))] (allR 1024 1024).toLoadRect)⟩] := by
  rfl

set_option maxHeartbeats 4000000 in
theorem runA_mix (h0 : cond0_0 i) (h1 : ¬cond0_1 i) : (kernelRun0_A c i arg1 harg1 arg2 harg2 arg3 harg3 arg4 harg4 arg5 harg5 arg6 harg6 arg7 harg7 h0 h1 x0 x1 x2 x3).1 = [⟨allR 640 1024, k0_pay3 (View.readAt (Elt F) arg1.view (allR 640 1024).toLoadRect (harg1.unread x0)) (View.readAt (Elt F) arg2.view (allR 1024 1024).toLoadRect (harg2.unread x1))⟩] := by
  rfl

set_option maxHeartbeats 4000000 in
theorem runB_mix (h0 : ¬cond0_0 i) (h1 : ¬cond0_1 i) : (kernelRun0_B c i arg1 harg1 arg2 harg2 arg3 harg3 arg4 harg4 arg5 harg5 arg6 harg6 arg7 harg7 h0 h1 x0 x1 x2 x3 xs).1 = [⟨allR 640 1024, k0_pay3 (View.readAt (Elt F) arg1.view (allR 640 1024).toLoadRect (harg1.unread x0)) (View.readAt (Elt F) arg2.view (allR 1024 1024).toLoadRect (harg2.unread x1))⟩] := by
  rfl

set_option maxHeartbeats 4000000 in
theorem runC_mix (h0 : ¬cond0_0 i) (h1 : cond0_1 i) : (kernelRun0_C c i arg1 harg1 arg2 harg2 arg3 harg3 arg4 harg4 arg5 harg5 arg6 harg6 arg7 harg7 h0 h1 x0 x1 x2 x3 xs).1 = [⟨allR 640 1024, k0_pay3 (View.readAt (Elt F) arg1.view (allR 640 1024).toLoadRect (harg1.unread x0)) (View.readAt (Elt F) arg2.view (allR 1024 1024).toLoadRect (harg2.unread x1))⟩] := by
  rfl

end

/-- A point's share of a part. -/
theorem product_top (v : FVec Ideal S640x512 .bf16) (u : FVec Ideal S640x1024 .bf16) (k : Fin 512) (d : Fin 1024) :
    matmul dot_S640x512_S640x1024_S512x1024_0_0_1_1_n_n none v u (constant (F := Ideal) S512x1024 .f32 0x00000000#32) (ix2 k d)
      = ∑ r : Fin 640, v (ix2 r k) * u (ix2 r d) := by
  show Ideal.matmul _ _ _ _ _ = _
  rw [Ideal.matmul_apply₁ _ (a := 0) rfl (K := 640) rfl]
  refine (congrArg₂ (· + ·) Num.w_zero (Finset.sum_congr rfl fun k _ => ?_)).trans (zero_add _)
  exact congrArg₂ (· * ·) (congrArg v (by funext z; match z with | ⟨0, _⟩ => rfl | ⟨1, _⟩ => rfl))
    (congrArg u (by funext z; match z with | ⟨0, _⟩ => rfl | ⟨1, _⟩ => rfl))

theorem top_at (n : FVec Ideal S640x1024 .f32) (o : FVec Ideal S512x1024 .f32) (a : FVec Ideal S640x512 .bf16) (k : Fin 512) (d : Fin 1024) :
    k0_pay4 (F := Ideal) n o a (ix2 k d) = o (ix2 k d) + ∑ r : Fin 640, a (ix2 r k) * n (ix2 r d) := by
  unfold k0_pay4 k0_pay2
  simp only [shapeCast_self]
  show FloatOps.addf (o (ix2 k d)) _ = _
  rw [Ideal.addf_def]
  exact congrArg (o (ix2 k d) + ·) (product_top _ _ k d)
theorem bot_at (n : FVec Ideal S640x1024 .f32) (o : FVec Ideal S512x1024 .f32) (a : FVec Ideal S640x512 .bf16) (k : Fin 512) (d : Fin 1024) :
    k0_pay5 (F := Ideal) n o a (ix2 k d) = o (ix2 k d) + ∑ r : Fin 640, a (ix2 r k) * n (ix2 r d) := by
  unfold k0_pay5 k0_pay2
  simp only [shapeCast_self]
  show FloatOps.addf (o (ix2 k d)) _ = _
  rw [Ideal.addf_def]
  exact congrArg (o (ix2 k d) + ·) (product_top _ _ k d)

/-- A store of a part leaves what is stored there. -/
theorem canon_top (w : Vec Ideal S512x1024 .f32) (L : List (View.Piece (Elt Ideal) S1024x1024 .f32)) (k : Fin 512) (d : Fin 1024) :
    View.canon ((⟨topR, w⟩ : View.Piece (Elt Ideal) S1024x1024 .f32) :: L) (ix2 (top k) d) = w (ix2 k d) := by
  refine (congrArg (View.canon _) (topR_idx k d).symm).trans ?_
  exact View.canon_cons_emb (Val := Elt Ideal) (e := .f32) topR w L (ix2 k d)
theorem canon_bot (w : Vec Ideal S512x1024 .f32) (L : List (View.Piece (Elt Ideal) S1024x1024 .f32)) (k : Fin 512) (d : Fin 1024) :
    View.canon ((⟨botR, w⟩ : View.Piece (Elt Ideal) S1024x1024 .f32) :: L) (ix2 (bot k) d) = w (ix2 k d) := by
  refine (congrArg (View.canon _) (botR_idx k d).symm).trans ?_
  exact View.canon_cons_emb (Val := Elt Ideal) (e := .f32) botR w L (ix2 k d)
theorem canon_skip (w : Vec Ideal S512x1024 .f32) (L : List (View.Piece (Elt Ideal) S1024x1024 .f32)) (k : Fin 512) (d : Fin 1024) :
    View.canon ((⟨botR, w⟩ : View.Piece (Elt Ideal) S1024x1024 .f32) :: L) (ix2 (top k) d) = View.canon L (ix2 (top k) d) :=
  View.canon_cons_of_not_mem (Val := Elt Ideal) (e := .f32) ⟨botR, w⟩ L (not_bot k d)
theorem canon_under (w : Vec Ideal S512x1024 .f32) (L : List (View.Piece (Elt Ideal) S1024x1024 .f32)) (k : Fin 512) (d : Fin 1024) :
    View.canon ((⟨topR, w⟩ : View.Piece (Elt Ideal) S1024x1024 .f32) :: L) (ix2 (bot k) d) = View.canon L (ix2 (bot k) d) :=
  View.canon_cons_of_not_mem (Val := Elt Ideal) (e := .f32) ⟨topR, w⟩ L (not_top k d)

/-- A point's two stores add its share to what was there. -/
theorem stepped (n : FVec Ideal S640x1024 .f32) (a : FVec Ideal S640x512 .bf16) (b : FVec Ideal S640x512 .bf16) (o : FVec Ideal S512x1024 .f32) (p : FVec Ideal S512x1024 .f32)
    (L : List (View.Piece (Elt Ideal) S1024x1024 .f32)) {f : Fin 1024 → Fin 1024 → EReal} {A : Fin 640 → Fin 1024 → EReal} {N : Fin 640 → Fin 1024 → EReal}
    (hn : ∀ r d, n (ix2 r d) = N r d) (ha : ∀ r k, a (ix2 r k) = A r (top k)) (hb : ∀ r k, b (ix2 r k) = A r (bot k))
    (ho : ∀ k d, o (ix2 k d) = f (top k) d) (hp : ∀ k d, p (ix2 k d) = f (bot k) d) (q : Fin 1024) (d : Fin 1024) :
    View.canon (botPiece (F := Ideal) n b p :: topPiece n a o :: L) (ix2 q d) = f q d + ∑ r, A r q * N r d := by
  rcases part q with ⟨k, rfl⟩ | ⟨k, rfl⟩
  · refine (canon_skip _ _ k d).trans ?_
    refine (canon_top _ L k d).trans ((top_at n o a k d).trans ?_)
    exact congrArg₂ (· + ·) (ho k d) (Finset.sum_congr rfl fun r _ => congrArg₂ (· * ·) (ha r k) (hn r d))
  · refine (canon_bot _ _ k d).trans ((bot_at n p b k d).trans ?_)
    exact congrArg₂ (· + ·) (hp k d) (Finset.sum_congr rfl fun r _ => congrArg₂ (· * ·) (hb r k) (hn r d))

theorem fill_at (q : Fin 1024) (d : Fin 1024) : View.canon (fill (F := Ideal)) (ix2 q d) = (0 : EReal) := by
  refine (canon_all (F := Ideal) (e := .f32) (k0_pay1 (F := Ideal)) q d).trans ?_
  unfold k0_pay1
  simp only [shapeCast_self]
  exact Num.w_zero

/-- What is stored at the last point: the sum. -/
theorem final_at (x : FVec Ideal S1024x1024 .f32) (q : Fin 1024) (d : Fin 1024) : k0_pay6 (F := Ideal) x (ix2 q d) = x (ix2 q d) := by
  unfold k0_pay6
  rfl

/-- Reading a part of what the stores leave. -/
theorem cov_top (v : Memref sig .tc .vmem S1024x1024 .f32) (L : List (View.Piece (Elt Ideal) S1024x1024 .f32)) (k : Fin 512) (d : Fin 1024) :
    v.view.readCov L topR.toLoadRect (ix2 k d) = View.canon L (ix2 (top k) d) :=
  (congrFun (View.readCov_eq_canon' v.view L topR.toLoadRect) (ix2 k d)).trans (congrArg (View.canon L) (topR_idx k d))
theorem cov_bot (v : Memref sig .tc .vmem S1024x1024 .f32) (L : List (View.Piece (Elt Ideal) S1024x1024 .f32)) (k : Fin 512) (d : Fin 1024) :
    v.view.readCov L botR.toLoadRect (ix2 k d) = View.canon L (ix2 (bot k) d) :=
  (congrFun (View.readCov_eq_canon' v.view L botR.toLoadRect) (ix2 k d)).trans (congrArg (View.canon L) (botR_idx k d))
theorem old_top (v : Memref sig .tc .vmem S1024x1024 .f32) (hv : v.IsWhole) (x : FVec Ideal S1024x1024 .f32) (k : Fin 512) (d : Fin 1024) :
    View.readAt (Elt Ideal) v.view topR.toLoadRect (hv.unread x) (ix2 k d) = x (ix2 (top k) d) :=
  (hv.readAt_unread (Val := Elt Ideal) x topR.toLoadRect (ix2 k d)).trans (congrArg x (topR_idx k d))
theorem old_bot (v : Memref sig .tc .vmem S1024x1024 .f32) (hv : v.IsWhole) (x : FVec Ideal S1024x1024 .f32) (k : Fin 512) (d : Fin 1024) :
    View.readAt (Elt Ideal) v.view botR.toLoadRect (hv.unread x) (ix2 k d) = x (ix2 (bot k) d) :=
  (hv.readAt_unread (Val := Elt Ideal) x botR.toLoadRect (ix2 k d)).trans (congrArg x (botR_idx k d))

end Cert.Kernel8Ideal.Turn

end
-- ==== Proof.OutBackWalk.lean ====
/- The walk over the points of the gradient through the output projection: what the accumulator holds, and what is written back. -/
module

public import proofs.«01_k».proof.Proof.OutBackUnit
public import proofs.«01_k».proof.Proof.Gen.Kernel8Ideal.Points

@[expose] public section

set_option maxRecDepth 16384

noncomputable section

namespace Cert.Kernel8Ideal.Turn

open Idealize.ShloMosaic hiding ix1 ix2 ix3 ix4
open Idealize.ShloMosaic.TcCoe Cert.Kernel8Ideal Cert.Kernel8Ideal.Gen Idealize.ShloMosaic.ValueIdx
open Idealize.SL.Sem
open Cert.Rows

variable {m : (ℓ : Loc nD τ sig) → Buf (Elt Ideal) ℓ} {c : Dev nD}

/-- The blocks of a point, as rows of the two factors. -/
structure Blocks (A : Fin 640 → Fin 1024 → EReal) (N : Fin 640 → Fin 1024 → EReal) (n : FVec Ideal S640x1024 .f32) (a : FVec Ideal S640x512 .bf16) (b : FVec Ideal S640x512 .bf16) : Prop where
  n : ∀ r d, n (ix2 r d) = N r d
  a : ∀ r k, a (ix2 r k) = A r (top k)
  b : ∀ r k, b (ix2 r k) = A r (bot k)

variable {A : Fin 640 → Fin 1024 → EReal} {N : Fin 640 → Fin 1024 → EReal}

theorem first (t : Fin cfg0.N) (h0 : t.val % 13 = 0) (B : Blocks A N (iblk m c 0 t) (iblk m c 2 t) (iblk m c 3 t)) (q : Fin 1024) (d : Fin 1024) :
    (outsAt0 m c t.val t.isLt).2.2 (ix2 q d) = 0 + ∑ r, A r q * N r d := by
  rw [outsAt0_A m c t h0 (by omega)]
  dsimp only
  unfold sout0_A_0
  rw [View.read_writes_junk_eq_canon, runA_acc]
  refine stepped _ _ _ _ _ _ (f := fun _ _ => 0) (fun r d => (read_all (F := Ideal) _ (hs0_0 t) _ r d).trans (B.n r d))
    (fun r k => (read_all (F := Ideal) _ (hs0_2 t) _ r k).trans (B.a r k)) (fun r k => (read_all (F := Ideal) _ (hs0_3 t) _ r k).trans (B.b r k))
    (fun k d => (cov_top _ _ k d).trans (fill_at _ d)) (fun k d => (cov_bot _ _ k d).trans ?_) q d
  exact (canon_under _ _ k d).trans (fill_at _ d)

theorem mid (t : Fin cfg0.N) (h0 : ¬t.val % 13 = 0) (h1 : ¬t.val % 13 = 12) (B : Blocks A N (iblk m c 0 t) (iblk m c 2 t) (iblk m c 3 t)) (q : Fin 1024) (d : Fin 1024) :
    (outsAt0 m c t.val t.isLt).2.2 (ix2 q d) = (outsAt0 m c (t.val - 1) (Nat.lt_of_le_of_lt (Nat.sub_le _ _) t.isLt)).2.2 (ix2 q d) + ∑ r, A r q * N r d := by
  rw [outsAt0_B m c t h0 h1]
  dsimp only
  unfold sout0_B_0
  rw [View.read_writes_junk_eq_canon, runB_acc]
  exact stepped _ _ _ _ _ _ (f := fun q d => (outsAt0 m c (t.val - 1) (Nat.lt_of_le_of_lt (Nat.sub_le _ _) t.isLt)).2.2 (ix2 q d))
    (fun r d => (read_all (F := Ideal) _ (hs0_0 t) _ r d).trans (B.n r d))
    (fun r k => (read_all (F := Ideal) _ (hs0_2 t) _ r k).trans (B.a r k)) (fun r k => (read_all (F := Ideal) _ (hs0_3 t) _ r k).trans (B.b r k))
    (fun k d => old_top _ _ _ k d) (fun k d => old_bot _ _ _ k d) q d

/-- The last point adds its share, and stores the sum. -/
theorem last (t : Fin cfg0.N) (h1 : t.val % 13 = 12) (B : Blocks A N (iblk m c 0 t) (iblk m c 2 t) (iblk m c 3 t)) (q : Fin 1024) (d : Fin 1024) :
    (outsAt0 m c t.val t.isLt).2.1 (ix2 q d) = (outsAt0 m c (t.val - 1) (Nat.lt_of_le_of_lt (Nat.sub_le _ _) t.isLt)).2.2 (ix2 q d) + ∑ r, A r q * N r d := by
  rw [outsAt0_C m c t (by omega) h1]
  dsimp only
  unfold out0_C_5
  rw [View.read_writes_junk_eq_canon, runC_out]
  refine (canon_all (F := Ideal) (e := .bf16) _ q d).trans ((final_at _ q d).trans ?_)
  refine (read_cov (F := Ideal) (e := .f32) _ _ q d).trans ?_
  exact stepped _ _ _ _ _ _ (f := fun q d => (outsAt0 m c (t.val - 1) (Nat.lt_of_le_of_lt (Nat.sub_le _ _) t.isLt)).2.2 (ix2 q d))
    (fun r d => (read_all (F := Ideal) _ (hs0_0 t) _ r d).trans (B.n r d))
    (fun r k => (read_all (F := Ideal) _ (hs0_2 t) _ r k).trans (B.a r k)) (fun r k => (read_all (F := Ideal) _ (hs0_3 t) _ r k).trans (B.b r k))
    (fun k d => old_top _ _ _ k d) (fun k d => old_bot _ _ _ k d) q d

variable {A : Fin 8320 → Fin 1024 → EReal} {N : Fin 8320 → Fin 1024 → EReal}
  (hB : ∀ t : Fin cfg0.N, Blocks (fun r => A (tok t.val r)) (fun r => N (tok t.val r)) (iblk m c 0 t) (iblk m c 2 t) (iblk m c 3 t))

include hB in
/-- What the accumulator holds after a point. -/
theorem kept (q : Fin 1024) (d : Fin 1024) : ∀ n (hn : n < cfg0.N), n < 12 → (outsAt0 m c n hn).2.2 (ix2 q d) = ∑ s ∈ Finset.range (n + 1), ∑ r : Fin 640, A (tok s r) q * N (tok s r) d
  | 0, hn, _ => by
    refine (first ⟨0, hn⟩ rfl (hB ⟨0, hn⟩) q d).trans ?_
    rw [Finset.sum_range_one, zero_add]
  | n + 1, hn, h => by
    refine (mid ⟨n + 1, hn⟩ (by show ¬(n + 1) % 13 = 0; omega) (by show ¬(n + 1) % 13 = 12; omega) (hB ⟨n + 1, hn⟩) q d).trans ?_
    refine (congrArg (· + _) (kept q d n (by omega) (by omega))).trans ?_
    exact (Finset.sum_range_succ (fun s => ∑ r : Fin 640, A (tok s r) q * N (tok s r) d) (n + 1)).symm

include hB in
theorem stored (t : Fin cfg0.N) (ht : t.val = 12) (q : Fin 1024) (d : Fin 1024) :
    (outsAt0 m c t.val t.isLt).2.1 (ix2 q d) = ∑ s : Fin 8320, A s q * N s d := by
  refine (last t (by rw [ht]) (hB t) q d).trans ?_
  rw [sum_rows (fun s => A s q * N s d), Finset.sum_range_succ]
  refine congrArg₂ (· + ·) ((kept hB q d (t.val - 1) (Nat.lt_of_le_of_lt (Nat.sub_le _ _) t.isLt) (by omega)).trans ?_) ?_
  · rw [ht]
  · rw [ht]

/-- Only the last point writes the weight's gradient back. -/
theorem once (t t' : Fin cfg0.N) (h : (cfg0.win 5).flush t = true) (h' : (cfg0.win 5).flush t' = true) : t = t' := by
  have h1 := (flush0_5 t).mp h
  have h2 := (flush0_5 t').mp h'
  have h3 := lt_of_lt_of_eq t.isLt (show cfg0.N = 13 from N_0)
  have h4 := lt_of_lt_of_eq t'.isLt (show cfg0.N = 13 from N_0)
  exact Fin.ext (by omega)

/-- A point's rows of the gradient of the mixing. -/
theorem mix_product (v : FVec Ideal S640x1024 .bf16) (u : FVec Ideal S1024x1024 .bf16) (r : Fin 640) (d : Fin 1024) :
    matmul dot_S640x1024_S1024x1024_S640x1024_1_1_0_0_n_n none v u (constant (F := Ideal) S640x1024 .f32 0x00000000#32) (ix2 r d)
      = ∑ k : Fin 1024, v (ix2 r k) * u (ix2 d k) := by
  show Ideal.matmul _ _ _ _ _ = _
  rw [Ideal.matmul_apply₁ _ (a := 1) rfl (K := 1024) rfl]
  refine (congrArg₂ (· + ·) Num.w_zero (Finset.sum_congr rfl fun k _ => ?_)).trans (zero_add _)
  exact congrArg₂ (· * ·) (congrArg v (by funext z; match z with | ⟨0, _⟩ => rfl | ⟨1, _⟩ => rfl))
    (congrArg u (by funext z; match z with | ⟨0, _⟩ => rfl | ⟨1, _⟩ => rfl))

theorem mix_pay (n : FVec Ideal S640x1024 .f32) (u : FVec Ideal S1024x1024 .bf16) (r : Fin 640) (d : Fin 1024) :
    k0_pay3 (F := Ideal) n u (ix2 r d) = ∑ k : Fin 1024, n (ix2 r k) * u (ix2 d k) := by
  unfold k0_pay3 k0_pay2
  simp only [shapeCast_self]
  exact mix_product _ _ r d

/-- A product of two extended reals. -/
abbrev times (x y : EReal) : EReal := x * y

theorem mix_at (t : Fin cfg0.N) (r : Fin 640) (d : Fin 1024) :
    (outsAt0 m c t.val t.isLt).1 (ix2 r d) = ∑ k : Fin 1024, times (iblk m c 0 t (ix2 r k)) (iblk m c 1 t (ix2 d k)) := by
  by_cases h0 : t.val % 13 = 0
  · rw [outsAt0_A m c t h0 (by omega)]
    dsimp only
    unfold out0_A_4
    rw [View.read_writes_junk_eq_canon, runA_mix]
    refine (canon_all (F := Ideal) (e := .f32) _ r d).trans ((mix_pay _ _ r d).trans (Finset.sum_congr rfl fun k _ => congrArg₂ (· * ·) ?_ ?_))
    · exact read_all (F := Ideal) _ (hs0_0 t) _ r k
    · exact read_all (F := Ideal) _ (hs0_1 t) _ d k
  by_cases h1 : t.val % 13 = 12
  · rw [outsAt0_C m c t h0 h1]
    dsimp only
    unfold out0_C_4
    rw [View.read_writes_junk_eq_canon, runC_mix]
    refine (canon_all (F := Ideal) (e := .f32) _ r d).trans ((mix_pay _ _ r d).trans (Finset.sum_congr rfl fun k _ => congrArg₂ (· * ·) ?_ ?_))
    · exact read_all (F := Ideal) _ (hs0_0 t) _ r k
    · exact read_all (F := Ideal) _ (hs0_1 t) _ d k
  · rw [outsAt0_B m c t h0 h1]
    dsimp only
    unfold out0_B_4
    rw [View.read_writes_junk_eq_canon, runB_mix]
    refine (canon_all (F := Ideal) (e := .f32) _ r d).trans ((mix_pay _ _ r d).trans (Finset.sum_congr rfl fun k _ => congrArg₂ (· * ·) ?_ ?_))
    · exact read_all (F := Ideal) _ (hs0_0 t) _ r k
    · exact read_all (F := Ideal) _ (hs0_1 t) _ d k

end Cert.Kernel8Ideal.Turn

end
-- ==== Proof.OutBackFinal.lean ====
/- The arrays the host prepares for the gradient through the output projection, and that the call leaves what the reference does. -/
module

public import proofs.«01_k».proof.Proof.OutBackWalk
public import proofs.«01_k».proof.Proof.Gen.Kernel8Ideal.Value
public import proofs.«01_k».proof.Proof.Gen.Reference8Ideal.Read
public import Idealize.ShloMosaic.Lib.Claim

@[expose] public section

set_option maxRecDepth 16384

noncomputable section

namespace Cert.Kernel8Ideal.Turn

open Idealize.ShloMosaic hiding ix1 ix2 ix3 ix4
open Idealize.ShloMosaic.TcCoe Cert.Kernel8Ideal Cert.Kernel8Ideal.Gen Idealize.ShloMosaic.ValueIdx
open Idealize.SL.Sem
open Cert.Rows
open Cert.Reference8Ideal.Read (val_main_v0 val_main_v2_apply val_main_v3_apply val_main_v4 val_main_v4_apply val_main_v5 val_main_v5_apply)

variable (V0 : Valuation τ sig (Elt Ideal))

/-- The contents after the host operations. -/
def w1 : Valuation τ sig (Elt Ideal) := StableHlo.after hostOps0 V0

set_option maxHeartbeats 4000000 in
theorem w1_v0 : w1 V0 (no_index (Proc.devRef .tc main_v0)) = (truncf .bf16 (V0 (Proc.devRef .tc main_arg2) : FVec Ideal S1024x1024 .f32) bitsLt_bf16_f32 : FVec Ideal S1024x1024 .bf16) := by
  unfold w1
  simp only [hostOps0]
  after_results_simp
  all_goals rfl
set_option maxHeartbeats 4000000 in
theorem w1_v1 : w1 V0 (no_index (Proc.devRef .tc main_v1)) = (truncf .bf16 (V0 (Proc.devRef .tc main_arg0) : FVec Ideal S8320x512 .f32) bitsLt_bf16_f32 : FVec Ideal S8320x512 .bf16) := by
  unfold w1
  simp only [hostOps0]
  after_results_simp
  all_goals rfl
set_option maxHeartbeats 4000000 in
theorem w1_v2 : w1 V0 (no_index (Proc.devRef .tc main_v2)) = (truncf .bf16 (V0 (Proc.devRef .tc main_arg1) : FVec Ideal S8320x512 .f32) bitsLt_bf16_f32 : FVec Ideal S8320x512 .bf16) := by
  unfold w1
  simp only [hostOps0]
  after_results_simp
  all_goals rfl

variable {m : (ℓ : Loc nD τ sig) → Buf (Elt Ideal) ℓ} {c : Dev nD}

/-- The four arguments. -/
abbrev inRet (m : (ℓ : Loc nD τ sig) → Buf (Elt Ideal) ℓ) (c : Dev nD) : FVec Ideal S8320x512 .f32 := m ((c : Thread nD τ).loc main_arg0)
abbrev inSsm (m : (ℓ : Loc nD τ sig) → Buf (Elt Ideal) ℓ) (c : Dev nD) : FVec Ideal S8320x512 .f32 := m ((c : Thread nD τ).loc main_arg1)
abbrev inW (m : (ℓ : Loc nD τ sig) → Buf (Elt Ideal) ℓ) (c : Dev nD) : FVec Ideal S1024x1024 .f32 := m ((c : Thread nD τ).loc main_arg2)
abbrev inG (m : (ℓ : Loc nD τ sig) → Buf (Elt Ideal) ℓ) (c : Dev nD) : FVec Ideal S8320x1024 .f32 := m ((c : Thread nD τ).loc main_arg3)

/-- A buffer as the region finds it. -/
theorem entry (b : Ref sig .tc) : V m c b = w1 (fun b => m (c, b)) (Proc.devRef .tc b) := rfl

/-- The block each window is on. -/
theorem places : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0) :=
  (by decide +kernel : ∀ t : Fin grid0.N, _)

theorem block0 (t : Fin cfg0.N) (r : Fin 640) (d : Fin 1024) : iblk m c 0 t (ix2 r d) = inG m c (ix2 (tok t.val r) d) := by
  obtain ⟨hp, -⟩ := places t
  have ht : t.val < 13 := lt_of_lt_of_eq t.isLt (show cfg0.N = 13 from N_0)
  have key : ∀ i : S8320x1024.Idx, i = ix2 (tok t.val r) d → V m c main_arg3 i = inG m c (ix2 (tok t.val r) d) := fun i hi => by
    subst hi
    exact congrFun (V_main_arg3 m c) _
  refine key _ (funext fun a => Fin.ext ?_)
  match a with
  | ⟨0, _⟩ => show win0_0.index t 0 * 640 + 1 * r.val = (tok t.val r).val; rw [hp.1, tok_val ht]; omega
  | ⟨1, _⟩ => show win0_0.index t 1 * 1024 + 1 * d.val = d.val; rw [hp.2]; omega

theorem block1 (t : Fin cfg0.N) (r : Fin 1024) (d : Fin 1024) : iblk m c 1 t (ix2 r d) = inW m c (ix2 r d) := by
  obtain ⟨-, hp, -⟩ := places t
  have key : ∀ i : S1024x1024.Idx, i = ix2 r d → V m c main_v0 i = inW m c (ix2 r d) := fun i hi => by
    subst hi
    exact congrFun ((entry main_v0).trans (w1_v0 fun b => m (c, b))) _
  refine key _ (funext fun a => Fin.ext ?_)
  match a with
  | ⟨0, _⟩ => show win0_1.index t 0 * 1024 + 1 * r.val = r.val; rw [hp.1]; omega
  | ⟨1, _⟩ => show win0_1.index t 1 * 1024 + 1 * d.val = d.val; rw [hp.2]; omega

theorem block2 (t : Fin cfg0.N) (r : Fin 640) (d : Fin 512) : iblk m c 2 t (ix2 r d) = val_main_v0 (F := Ideal) (inRet m c) (inSsm m c) (ix2 (tok t.val r) (top d)) := by
  obtain ⟨-, -, hp, -⟩ := places t
  have ht : t.val < 13 := lt_of_lt_of_eq t.isLt (show cfg0.N = 13 from N_0)
  have key : ∀ i : S8320x512.Idx, i = ix2 (tok t.val r) d → V m c main_v1 i = val_main_v0 (F := Ideal) (inRet m c) (inSsm m c) (ix2 (tok t.val r) (top d)) := fun i hi => by
    subst hi
    exact (congrFun ((entry main_v1).trans (w1_v1 fun b => m (c, b))) _).trans (side_lo (inRet m c) (inSsm m c) _ _ d).symm
  refine key _ (funext fun a => Fin.ext ?_)
  match a with
  | ⟨0, _⟩ => show win0_2.index t 0 * 640 + 1 * r.val = (tok t.val r).val; rw [hp.1, tok_val ht]; omega
  | ⟨1, _⟩ => show win0_2.index t 1 * 512 + 1 * d.val = d.val; rw [hp.2]; omega

theorem block3 (t : Fin cfg0.N) (r : Fin 640) (d : Fin 512) : iblk m c 3 t (ix2 r d) = val_main_v0 (F := Ideal) (inRet m c) (inSsm m c) (ix2 (tok t.val r) (bot d)) := by
  obtain ⟨-, -, -, hp, -⟩ := places t
  have ht : t.val < 13 := lt_of_lt_of_eq t.isLt (show cfg0.N = 13 from N_0)
  have key : ∀ i : S8320x512.Idx, i = ix2 (tok t.val r) d → V m c main_v2 i = val_main_v0 (F := Ideal) (inRet m c) (inSsm m c) (ix2 (tok t.val r) (bot d)) := fun i hi => by
    subst hi
    exact (congrFun ((entry main_v2).trans (w1_v2 fun b => m (c, b))) _).trans (side_hi (inRet m c) (inSsm m c) _ _ d).symm
  refine key _ (funext fun a => Fin.ext ?_)
  match a with
  | ⟨0, _⟩ => show win0_3.index t 0 * 640 + 1 * r.val = (tok t.val r).val; rw [hp.1, tok_val ht]; omega
  | ⟨1, _⟩ => show win0_3.index t 1 * 512 + 1 * d.val = d.val; rw [hp.2]; omega

/-- The weight's gradient that the call leaves. -/
theorem turned_at (t : Fin cfg0.N) (ht : t.val = 12) (i : S1024x1024.Idx) : (dats m 0 c).arrAt 5 cfg0.N i = ∑ s : Fin 8320, val_main_v0 (F := Ideal) (inRet m c) (inSsm m c) (ix2 s (i 0)) * inG m c (ix2 s (i 1)) := by
  have hf : (cfg0.win 5).flush t = true := (flush0_5 t).mpr (by rw [ht])
  obtain ⟨-, -, -, -, -, hp⟩ := places t
  have e := congrFun ((dats m 0 c).read_blk_arrAt_eq_flushed 5 (fun t t' h h' hne => absurd (once t t' h h') hne) cfg0.N t t.isLt hf) (ix2 (i 0) (i 1))
  rw [Value.flushed5] at e
  have e2 : _ = ∑ s : Fin 8320, val_main_v0 (F := Ideal) (inRet m c) (inSsm m c) (ix2 s (i 0)) * inG m c (ix2 s (i 1)) := stored (m := m) (c := c) (A := fun s q => val_main_v0 (F := Ideal) (inRet m c) (inSsm m c) (ix2 s q)) (N := fun s d => inG m c (ix2 s d)) (fun t => ⟨block0 t, block2 t, block3 t⟩) t ht (i 0) (i 1)
  refine Eq.trans ?_ (e.trans e2)
  refine congrArg ((dats m 0 c).arrAt 5 cfg0.N) (funext fun a => Fin.ext ?_)
  match a with
  | ⟨0, _⟩ => show (i 0).val = win0_5.index t 0 * 1024 + 1 * (i 0).val; rw [hp.1]; omega
  | ⟨1, _⟩ => show (i 1).val = win0_5.index t 1 * 1024 + 1 * (i 1).val; rw [hp.2]; omega

theorem turned_read (i : S1024x1024.Idx) : (dats m 0 c).arrAt 5 cfg0.N i = ∑ s : Fin 8320, val_main_v0 (F := Ideal) (inRet m c) (inSsm m c) (ix2 s (i 0)) * inG m c (ix2 s (i 1)) :=
  turned_at ⟨12, by rw [show cfg0.N = 13 from N_0]; decide⟩ rfl i

/-- It is the reference's. -/
theorem weight : val_main_v5 (F := Ideal) (inRet m c) (inSsm m c) (inG m c) = (dats m 0 c).arrAt 5 cfg0.N := by
  funext i
  refine Eq.trans ?_ (turned_read i).symm
  refine (val_main_v5_apply (F := Ideal) _ _ _ i).trans ((val_main_v3_apply (F := Ideal) _ _ _ i).trans
    ((val_main_v2_apply _ _ _ _).trans (Finset.sum_congr rfl fun s _ => ?_)))
  refine (mul_comm _ _).trans (congrArg₂ (· * ·) (congrArg (val_main_v0 (F := Ideal) (inRet m c) (inSsm m c)) (funext fun a => ?_)) (congrArg (inG m c) (funext fun a => ?_)))
  all_goals match a with
    | ⟨0, _⟩ => rfl
    | ⟨1, _⟩ => rfl

/-- The gradient of the mixing that the call leaves. -/
theorem mix_read (i : S8320x1024.Idx) : (dats m 0 c).arrAt 4 cfg0.N i = ∑ k : Fin 1024, inG m c (ix2 (i 0) k) * inW m c (ix2 (i 1) k) := by
  obtain ⟨n, r, hn, hr, hs⟩ := row_point (i 0)
  have ht' : n < cfg0.N := lt_of_lt_of_eq hn (show 13 = cfg0.N from N_0.symm)
  generalize ht : (⟨n, ht'⟩ : Fin cfg0.N) = t
  have hv : t.val = n := by rw [← ht]
  obtain ⟨-, -, -, -, hp, -⟩ := places t
  have e := congrFun (Value.blocks4 m c t (flush0_4 t)) (ix2 r (i 1))
  rw [Value.flushed4] at e
  have e2 : _ = ∑ k : Fin 1024, inG m c (ix2 (tok t.val r) k) * inW m c (ix2 (i 1) k) := (mix_at t r (i 1)).trans (Finset.sum_congr rfl fun k _ => congrArg₂ (· * ·) (block0 t r k) (block1 t (i 1) k))
  have hs' : tok t.val r = i 0 := (congrArg (fun n => tok n r) hv).trans hs
  refine Eq.trans ?_ (e.trans (e2.trans (congrArg (fun s : Fin 8320 => ∑ k : Fin 1024, inG m c (ix2 s k) * inW m c (ix2 (i 1) k)) hs')))
  refine congrArg ((dats m 0 c).arrAt 4 cfg0.N) (funext fun a => Fin.ext ?_)
  match a with
  | ⟨0, _⟩ => show (i 0).val = win0_4.index t 0 * 640 + 1 * r.val; rw [hp.1, hr, hv]; omega
  | ⟨1, _⟩ => show (i 1).val = win0_4.index t 1 * 1024 + 1 * (i 1).val; rw [hp.2]; omega

/-- It is the reference's. -/
theorem mix : val_main_v4 (F := Ideal) (inW m c) (inG m c) = (dats m 0 c).arrAt 4 cfg0.N := by
  funext i
  refine Eq.trans ?_ (mix_read i).symm
  refine (val_main_v4_apply _ _ i).trans (Finset.sum_congr rfl fun s _ => ?_)
  refine congrArg₂ (· * ·) (congrArg (inG m c) (funext fun a => ?_)) (congrArg (inW m c) (funext fun a => ?_))
  all_goals match a with
    | ⟨0, _⟩ => rfl
    | ⟨1, _⟩ => rfl

end Cert.Kernel8Ideal.Turn

end
-- ==== Proof.ProjIn.lean ====
/- The input projection: what one point stores, what the call leaves, and that the reference leaves the same. -/
module

public import proofs.«01_k».proof.Proof.Rows
public import proofs.«01_k».proof.Proof.Gen.Kernel9Ideal.Frame
public import proofs.«01_k».proof.Proof.Gen.Kernel9Ideal.Points
public import proofs.«01_k».proof.Proof.Gen.Kernel9Ideal.Value
public import proofs.«01_k».proof.Proof.Gen.Reference9Ideal.Read
public import Idealize.ShloMosaic.Lib.Claim

@[expose] public section

set_option maxRecDepth 16384

noncomputable section

namespace Cert.Kernel9Ideal.Proj

open Idealize.ShloMosaic hiding ix1 ix2 ix3 ix4
open Idealize.ShloMosaic.TcCoe Cert.Kernel9Ideal Cert.Kernel9Ideal.Gen Idealize.ShloMosaic.ValueIdx
open Idealize.SL.Sem
open Cert.Rows
open Cert.Reference9Ideal.Read (val_main_v0 val_main_v1 val_main_v2 val_main_v3 val_main_v4 val_main_v5 val_main_v6 val_main_v7 val_main_v8 val_main_v9 val_main_v10 val_main_v11 val_main_v12 val_main_v13 val_main_v14)

/-- An entry of a normed row: the row `f`, the entry's gain `w`. -/
def nrm (f : Fin 1024 → EReal) (w : EReal) (d : Fin 1024) : EReal :=
  f d * Ideal.rsqrt (FloatOps.addf (F := Ideal) (φ := .f32) (FloatOps.divf (F := Ideal) (φ := .f32) (∑ k, f k * f k) (Scalar.ofBits (F := Ideal) .f32 0x44800000#32))
    (Scalar.ofBits (F := Ideal) .f32 0x358637BD#32)) * w

/-- A point's normed rows. -/
theorem norm_at (x : FVec Ideal S640x1024 .f32) (w : FVec Ideal S1x1024 .f32) (r : Fin 640) (d : Fin 1024) :
    k0_pay1 (F := Ideal) x w (ix2 r d) = nrm (fun k => x (ix2 r k)) (w (ix2 0 d)) d := by
  unfold k0_pay1
  show FloatOps.mulf (FloatOps.mulf (x (ix2 r d)) (broadcastTo S640x1024 _ _ (ix2 r d))) (broadcastTo S640x1024 _ _ (ix2 r d)) = _
  rw [broadcastTo_1b_ab_apply, broadcastTo_apply _ broadcasts_S640x1_S640x1024 (ix2 r d) (ix2 r 0) (fun a => by match a with | ⟨0, _⟩ => rfl | ⟨1, _⟩ => rfl)]
  refine congrArg₂ FloatOps.mulf (congrArg₂ FloatOps.mulf rfl (congrArg Ideal.rsqrt (congrArg₂ FloatOps.addf (congrArg₂ FloatOps.divf ?_ rfl) rfl))) rfl
  rw [shapeCast_a_a1_apply]
  refine (Ideal.multiReduction_add_single _ _ _ _ _ _).trans (Finset.sum_congr rfl fun k _ => ?_)
  have e : reduces_S640x1024_S640.lift (ix1 r) k = ix2 r k := by funext a; match a with | ⟨0, _⟩ => rfl | ⟨1, _⟩ => rfl
  rw [e]
  rfl

/-- The reference's normed rows. -/
theorem norm_ref (h : FVec Ideal S8320x1024 .f32) (w : FVec Ideal S1x1024 .f32) (s : Fin 8320) (d : Fin 1024) :
    val_main_v11 (F := Ideal) h w (ix2 s d) = nrm (fun k => h (ix2 s k)) (w (ix2 0 d)) d := by
  rw [Cert.Reference9Ideal.Read.val_main_v11_apply, Cert.Reference9Ideal.Read.val_main_v9_apply, Cert.Reference9Ideal.Read.val_main_v10_apply,
    Cert.Reference9Ideal.Read.val_main_v8_apply, Cert.Reference9Ideal.Read.val_main_v7_apply, Cert.Reference9Ideal.Read.val_main_v6_apply,
    Cert.Reference9Ideal.Read.val_main_v5_apply, Cert.Reference9Ideal.Read.val_main_v4_apply, Cert.Reference9Ideal.Read.val_main_v3_apply,
    Cert.Reference9Ideal.Read.val_main_v2_apply, Cert.Reference9Ideal.Read.val_main_v1_apply, Ideal.hostDivf_def]
  refine congrArg₂ FloatOps.mulf (congrArg₂ FloatOps.mulf rfl (congrArg Ideal.rsqrt (congrArg₂ FloatOps.addf (congrArg₂ Ideal.div ?_ rfl) rfl))) (congrArg w ?_)
  · refine (congrArg₂ (· + ·) Num.w_zero (Finset.sum_congr rfl fun k _ => ?_)).trans (zero_add _)
    have e : Cert.Reference9Ideal.Read.idx_main_v1 (Cert.Reference9Ideal.Read.idx_main_v2 (Cert.Reference9Ideal.Read.idx_main_v8 (ix2 s d))) k = ix2 s k := by
      funext a; match a with | ⟨0, _⟩ => rfl | ⟨1, _⟩ => rfl
    rw [e]
    rfl
  · funext a; match a with | ⟨0, _⟩ => rfl | ⟨1, _⟩ => rfl

/-- The product of a point's rows with the turned weight. -/
theorem product (v : FVec Ideal S640x1024 .bf16) (u : FVec Ideal S2560x1024 .bf16) (r : Fin 640) (d : Fin 2560) :
    matmul dot_S640x1024_S2560x1024_S640x2560_1_1_0_0_n_n none v u (constant (F := Ideal) S640x2560 .f32 0x00000000#32) (ix2 r d)
      = ∑ k : Fin 1024, v (ix2 r k) * u (ix2 d k) := by
  show Ideal.matmul _ _ _ _ _ = _
  rw [Ideal.matmul_apply₁ _ (a := 1) rfl (K := 1024) rfl]
  refine (congrArg₂ (· + ·) Num.w_zero (Finset.sum_congr rfl fun k _ => ?_)).trans (zero_add _)
  exact congrArg₂ (· * ·) (congrArg v (by funext z; match z with | ⟨0, _⟩ => rfl | ⟨1, _⟩ => rfl))
    (congrArg u (by funext z; match z with | ⟨0, _⟩ => rfl | ⟨1, _⟩ => rfl))

theorem r0_0_idx (r : Fin 640) (d : Fin 1024) : r0_0.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)
theorem r0_1_idx (r : Fin 1) (d : Fin 1024) : r0_1.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)
theorem r0_2_idx (r : Fin 2560) (d : Fin 1024) : r0_2.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)
theorem r0_3_idx (r : Fin 640) (d : Fin 2560) : r0_3.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)

/-- What one point stores of the normed rows. -/
theorem normed_at (x0 : FVec Ideal S640x1024 .f32) (x1 : FVec Ideal S1x1024 .f32) (x2 : FVec Ideal S2560x1024 .bf16) (r : Fin 640) (d : Fin 1024) :
    out0_4 (F := Ideal) x0 x1 x2 (ix2 r d) = nrm (fun k => x0 (ix2 r k)) (x1 (ix2 0 d)) d := by
  have e : r0_0.emb (ix2 r d) = ix2 r d := r0_0_idx r d
  unfold out0_4
  refine (congrArg _ e.symm).trans ((View.canon_cons_emb _ _ _ _).trans ((norm_at _ _ r d).trans ?_))
  exact congrArg₂ (nrm · · d) (funext fun k => congrArg x0 (r0_0_idx r k)) (congrArg x1 (r0_1_idx 0 d))

/-- What one point stores of the projection. -/
theorem proj_at (x0 : FVec Ideal S640x1024 .f32) (x1 : FVec Ideal S1x1024 .f32) (x2 : FVec Ideal S2560x1024 .bf16) (r : Fin 640) (d : Fin 2560) :
    out0_3 (F := Ideal) x0 x1 x2 (ix2 r d) = ∑ k : Fin 1024, nrm (fun k => x0 (ix2 r k)) (x1 (ix2 0 k)) k * x2 (ix2 d k) := by
  have e : r0_3.emb (ix2 r d) = ix2 r d := r0_3_idx r d
  unfold out0_3
  refine (congrArg _ e.symm).trans ((View.canon_cons_emb _ _ _ _).trans ?_)
  unfold k0_pay2
  rw [shapeCast_self]
  refine (product _ _ r d).trans (Finset.sum_congr rfl fun k _ => congrArg₂ (· * ·) ((norm_at _ _ r k).trans ?_) (congrArg x2 (r0_2_idx d k)))
  exact congrArg₂ (nrm · · k) (funext fun k => congrArg x0 (r0_0_idx r k)) (congrArg x1 (r0_1_idx 0 k))

/-! What the host prepares. -/

variable (V0 : Valuation τ sig (Elt Ideal))

/-- The contents after the host operations. -/
def w1 : Valuation τ sig (Elt Ideal) := StableHlo.after hostOps0 V0

set_option maxHeartbeats 4000000 in
theorem w1_v1 : w1 V0 (no_index (Proc.devRef .tc main_v1)) = (truncf .bf16 (transpose S2560x1024 [1, 0] (V0 (Proc.devRef .tc main_arg2) : FVec Ideal S1024x2560 .f32) transposes_S1024x2560_S2560x1024_1_0 : FVec Ideal S2560x1024 .f32) bitsLt_bf16_f32 : FVec Ideal S2560x1024 .bf16) := by
  unfold w1
  simp only [hostOps0]
  after_results_simp
  all_goals rfl

variable {m : (ℓ : Loc nD τ sig) → Buf (Elt Ideal) ℓ} {c : Dev nD}

/-- The three arguments. -/
abbrev inH (m : (ℓ : Loc nD τ sig) → Buf (Elt Ideal) ℓ) (c : Dev nD) : FVec Ideal S8320x1024 .f32 := m ((c : Thread nD τ).loc main_arg0)
abbrev inN (m : (ℓ : Loc nD τ sig) → Buf (Elt Ideal) ℓ) (c : Dev nD) : FVec Ideal S1x1024 .f32 := m ((c : Thread nD τ).loc main_arg1)
abbrev inW (m : (ℓ : Loc nD τ sig) → Buf (Elt Ideal) ℓ) (c : Dev nD) : FVec Ideal S1024x2560 .f32 := m ((c : Thread nD τ).loc main_arg2)

/-- A buffer as the region finds it. -/
theorem entry (b : Ref sig .tc) : V m c b = w1 (fun b => m (c, b)) (Proc.devRef .tc b) := rfl

/-- The block each window is on. -/
theorem places : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0) :=
  (by decide +kernel : ∀ t : Fin grid0.N, _)

theorem block0 (t : Fin cfg0.N) (r : Fin 640) (d : Fin 1024) : iblk m c 0 t (ix2 r d) = inH m c (ix2 (tok t.val r) d) := by
  obtain ⟨hp, -⟩ := places t
  have ht : t.val < 13 := lt_of_lt_of_eq t.isLt (show cfg0.N = 13 from N_0)
  have key : ∀ i : S8320x1024.Idx, i = ix2 (tok t.val r) d → V m c main_arg0 i = inH m c (ix2 (tok t.val r) d) := fun i hi => by
    subst hi
    exact congrFun (V_main_arg0 m c) _
  refine key _ (funext fun a => Fin.ext ?_)
  match a with
  | ⟨0, _⟩ => show win0_0.index t 0 * 640 + 1 * r.val = (tok t.val r).val; rw [hp.1, tok_val ht]; omega
  | ⟨1, _⟩ => show win0_0.index t 1 * 1024 + 1 * d.val = d.val; rw [hp.2]; omega

theorem block1 (t : Fin cfg0.N) (r : Fin 1) (d : Fin 1024) : iblk m c 1 t (ix2 r d) = inN m c (ix2 r d) := by
  obtain ⟨-, hp, -⟩ := places t
  have key : ∀ i : S1x1024.Idx, i = ix2 r d → V m c main_arg1 i = inN m c (ix2 r d) := fun i hi => by
    subst hi
    exact congrFun (V_main_arg1 m c) _
  refine key _ (funext fun a => Fin.ext ?_)
  match a with
  | ⟨0, _⟩ => show win0_1.index t 0 * 1 + 1 * r.val = r.val; rw [hp.1]; omega
  | ⟨1, _⟩ => show win0_1.index t 1 * 1024 + 1 * d.val = d.val; rw [hp.2]; omega

theorem block2 (t : Fin cfg0.N) (r : Fin 2560) (d : Fin 1024) : iblk m c 2 t (ix2 r d) = inW m c (ix2 d r) := by
  obtain ⟨-, -, hp, -⟩ := places t
  have key : ∀ i : S2560x1024.Idx, i = ix2 r d → V m c main_v1 i = inW m c (ix2 d r) := fun i hi => by
    subst hi
    exact (congrFun ((entry main_v1).trans (w1_v1 fun b => m (c, b))) _).trans (transpose_ix2_apply _ _ r d)
  refine key _ (funext fun a => Fin.ext ?_)
  match a with
  | ⟨0, _⟩ => show win0_2.index t 0 * 2560 + 1 * r.val = r.val; rw [hp.1]; omega
  | ⟨1, _⟩ => show win0_2.index t 1 * 1024 + 1 * d.val = d.val; rw [hp.2]; omega

theorem normed_read (i : S8320x1024.Idx) : (dats m 0 c).arrAt 4 cfg0.N i = nrm (fun k => inH m c (ix2 (i 0) k)) (inN m c (ix2 0 (i 1))) (i 1) := by
  obtain ⟨n, r, hn, hr, hs⟩ := row_point (i 0)
  have ht' : n < cfg0.N := lt_of_lt_of_eq hn (show 13 = cfg0.N from N_0.symm)
  generalize ht : (⟨n, ht'⟩ : Fin cfg0.N) = t
  have hv : t.val = n := by rw [← ht]
  obtain ⟨-, -, -, -, hp⟩ := places t
  have e := congrFun (Value.blocks4 m c t (flush0_4 t)) (ix2 r (i 1))
  rw [Value.flushed4] at e
  have e2 : _ = nrm (fun k => inH m c (ix2 (tok t.val r) k)) (inN m c (ix2 0 (i 1))) (i 1) := (normed_at _ _ (iblk m c 2 t) r (i 1)).trans
    (congrArg₂ (nrm · · (i 1)) (funext fun k => block0 t r k) (block1 t 0 (i 1)))
  have hs' : tok t.val r = i 0 := (congrArg (fun n => tok n r) hv).trans hs
  refine Eq.trans ?_ (e.trans (e2.trans (congrArg (fun s : Fin 8320 => nrm (fun k => inH m c (ix2 s k)) (inN m c (ix2 0 (i 1))) (i 1)) hs')))
  refine congrArg ((dats m 0 c).arrAt 4 cfg0.N) (funext fun a => Fin.ext ?_)
  match a with
  | ⟨0, _⟩ => show (i 0).val = win0_4.index t 0 * 640 + 1 * r.val; rw [hp.1, hr, hv]; omega
  | ⟨1, _⟩ => show (i 1).val = win0_4.index t 1 * 1024 + 1 * (i 1).val; rw [hp.2]; omega

theorem proj_read (i : S8320x2560.Idx) : (dats m 0 c).arrAt 3 cfg0.N i = ∑ k : Fin 1024, nrm (fun k => inH m c (ix2 (i 0) k)) (inN m c (ix2 0 k)) k * inW m c (ix2 k (i 1)) := by
  obtain ⟨n, r, hn, hr, hs⟩ := row_point (i 0)
  have ht' : n < cfg0.N := lt_of_lt_of_eq hn (show 13 = cfg0.N from N_0.symm)
  generalize ht : (⟨n, ht'⟩ : Fin cfg0.N) = t
  have hv : t.val = n := by rw [← ht]
  obtain ⟨-, -, -, hp, -⟩ := places t
  have e := congrFun (Value.blocks3 m c t (flush0_3 t)) (ix2 r (i 1))
  rw [Value.flushed3] at e
  have e2 : _ = ∑ k : Fin 1024, nrm (fun k => inH m c (ix2 (tok t.val r) k)) (inN m c (ix2 0 k)) k * inW m c (ix2 k (i 1)) := (proj_at _ _ _ r (i 1)).trans
    (Finset.sum_congr rfl fun k _ => congrArg₂ (· * ·) (congrArg₂ (nrm · · k) (funext fun k => block0 t r k) (block1 t 0 k)) (block2 t (i 1) k))
  have hs' : tok t.val r = i 0 := (congrArg (fun n => tok n r) hv).trans hs
  refine Eq.trans ?_ (e.trans (e2.trans (congrArg (fun s : Fin 8320 => ∑ k : Fin 1024, nrm (fun k => inH m c (ix2 s k)) (inN m c (ix2 0 k)) k * inW m c (ix2 k (i 1))) hs')))
  refine congrArg ((dats m 0 c).arrAt 3 cfg0.N) (funext fun a => Fin.ext ?_)
  match a with
  | ⟨0, _⟩ => show (i 0).val = win0_3.index t 0 * 640 + 1 * r.val; rw [hp.1, hr, hv]; omega
  | ⟨1, _⟩ => show (i 1).val = win0_3.index t 1 * 2560 + 1 * (i 1).val; rw [hp.2]; omega

/-- The normed rows the call leaves are the reference's. -/
theorem normed : val_main_v14 (F := Ideal) (inH m c) (inN m c) = (dats m 0 c).arrAt 4 cfg0.N := by
  funext i
  refine Eq.trans ?_ (normed_read i).symm
  obtain ⟨s, d, rfl⟩ := index2 (a := 8320) (b := 1024) i
  exact (Cert.Reference9Ideal.Read.val_main_v14_apply (F := Ideal) _ _ _).trans (norm_ref (inH m c) (inN m c) s d)

/-- The projection the call leaves is the reference's. -/
theorem proj : val_main_v13 (F := Ideal) (inH m c) (inN m c) (inW m c) = (dats m 0 c).arrAt 3 cfg0.N := by
  funext i
  refine Eq.trans ?_ (proj_read i).symm
  obtain ⟨s, d, rfl⟩ := index2 (a := 8320) (b := 2560) i
  refine (Cert.Reference9Ideal.Read.val_main_v13_apply (F := Ideal) _ _ _ _).trans ((Cert.Reference9Ideal.Read.val_main_v12_apply _ _ _ _).trans
    (Finset.sum_congr rfl fun k _ => congrArg₂ (· * ·) ?_ ?_))
  · refine (congrArg (val_main_v11 (F := Ideal) (inH m c) (inN m c)) ?_).trans (norm_ref (inH m c) (inN m c) s k)
    funext z; match z with | ⟨0, _⟩ => rfl | ⟨1, _⟩ => rfl
  · exact congrArg (inW m c) (by funext z; match z with | ⟨0, _⟩ => rfl | ⟨1, _⟩ => rfl)

end Cert.Kernel9Ideal.Proj

end
-- ==== Proof.ProjOut.lean ====
/- The output projection: what one point stores, what the call leaves, and that the reference leaves the same. -/
module

public import proofs.«01_k».proof.Proof.Rows
public import proofs.«01_k».proof.Proof.Gen.Kernel10Ideal.Frame
public import proofs.«01_k».proof.Proof.Gen.Kernel10Ideal.Points
public import proofs.«01_k».proof.Proof.Gen.Kernel10Ideal.Value
public import proofs.«01_k».proof.Proof.Gen.Reference10Ideal.Read
public import Idealize.ShloMosaic.Lib.Claim

@[expose] public section

set_option maxRecDepth 16384

noncomputable section

namespace Cert.Kernel10Ideal.Proj

open Idealize.ShloMosaic hiding ix1 ix2 ix3 ix4
open Idealize.ShloMosaic.TcCoe Cert.Kernel10Ideal Cert.Kernel10Ideal.Gen Idealize.ShloMosaic.ValueIdx
open Idealize.SL.Sem
open Cert.Rows
open Cert.Reference10Ideal.Read (val_main_v0 val_main_v1 val_main_v2 val_main_v1_apply val_main_v2_apply)

/-- A product of a block of 640 rows with half of the weights. -/
theorem product (v : FVec Ideal S640x512 .bf16) (u : FVec Ideal S512x1024 .bf16) (r : Fin 640) (d : Fin 1024) :
    matmul dot_S640x512_S512x1024_S640x1024_1_0_0_1_n_n none v u (constant (F := Ideal) S640x1024 .f32 0x00000000#32) (ix2 r d)
      = ∑ k : Fin 512, v (ix2 r k) * u (ix2 k d) := by
  show Ideal.matmul _ _ _ _ _ = _
  rw [Ideal.matmul_apply₁ _ (a := 1) rfl (K := 512) rfl]
  refine (congrArg₂ (· + ·) Num.w_zero (Finset.sum_congr rfl fun k _ => ?_)).trans (zero_add _)
  exact congrArg₂ (· * ·) (congrArg v (by funext z; match z with | ⟨0, _⟩ => rfl | ⟨1, _⟩ => rfl))
    (congrArg u (by funext z; match z with | ⟨0, _⟩ => rfl | ⟨1, _⟩ => rfl))

theorem r0_0_idx (r : Fin 640) (d : Fin 1024) : r0_0.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)
theorem r0_1_idx (r : Fin 640) (d : Fin 512) : r0_1.toLoadRect.idx (ix2 r d) = ix2 r d := by
  funext a
  match a with
  | ⟨0, _⟩ => exact Fin.ext (by show 0 + 1 * r.val = r.val; omega)
  | ⟨1, _⟩ => exact Fin.ext (by show 0 + 1 * d.val = d.val; omega)
theorem r0_2_idx (k : Fin 512) (d : Fin 1024) : r0_2.toLoadRect.idx (ix2 k d) = ix2 (lo k) d := by
  funext a
  match a with
  | ⟨0, _⟩ => exact Fin.ext (by show 0 + 1 * k.val = k.val; omega)
  | ⟨1, _⟩ => exact Fin.ext (by show 0 + 1 * d.val = d.val; omega)
theorem r0_3_idx (k : Fin 512) (d : Fin 1024) : r0_3.toLoadRect.idx (ix2 k d) = ix2 (hi k) d := by
  funext a
  match a with
  | ⟨0, _⟩ => exact Fin.ext (by show 512 + 1 * k.val = 512 + k.val; omega)
  | ⟨1, _⟩ => exact Fin.ext (by show 0 + 1 * d.val = d.val; omega)

/-- What one point stores. -/
theorem point_at (x0 x1 : FVec Ideal S640x512 .bf16) (x2 : FVec Ideal S1024x1024 .bf16) (x3 : FVec Ideal S640x1024 .f32) (r : Fin 640) (d : Fin 1024) :
    out0_4 (F := Ideal) x0 x1 x2 x3 (ix2 r d)
      = x3 (ix2 r d) + ∑ k : Fin 512, x0 (ix2 r k) * x2 (ix2 (lo k) d) + ∑ k : Fin 512, x1 (ix2 r k) * x2 (ix2 (hi k) d) := by
  have e : r0_0.emb (ix2 r d) = ix2 r d := r0_0_idx r d
  unfold out0_4
  refine (congrArg _ e.symm).trans ((View.canon_cons_emb _ _ _ _).trans ?_)
  unfold k0_pay1
  simp only [shapeCast_self]
  show FloatOps.addf (FloatOps.addf (x3 (r0_0.toLoadRect.idx (ix2 r d))) (Ideal.matmul _ _ _ _ (ix2 r d))) (Ideal.matmul _ _ _ _ (ix2 r d)) = _
  rw [Ideal.addf_def, Ideal.addf_def]
  refine congrArg₂ (· + ·) (congrArg₂ (· + ·) (congrArg x3 (r0_0_idx r d)) ((product _ _ r d).trans ?_)) ((product _ _ r d).trans ?_)
  · exact Finset.sum_congr rfl fun k _ => congrArg₂ (· * ·) (congrArg x0 (r0_1_idx r k)) (congrArg x2 (r0_2_idx k d))
  · exact Finset.sum_congr rfl fun k _ => congrArg₂ (· * ·) (congrArg x1 (r0_1_idx r k)) (congrArg x2 (r0_3_idx k d))

/-! What the host prepares. -/

variable (V0 : Valuation τ sig (Elt Ideal))

/-- The contents after the host operations. -/
def w1 : Valuation τ sig (Elt Ideal) := StableHlo.after hostOps0 V0

set_option maxHeartbeats 4000000 in
theorem w1_v0 : w1 V0 (no_index (Proc.devRef .tc main_v0)) = (truncf .bf16 (V0 (Proc.devRef .tc main_arg1) : FVec Ideal S8320x512 .f32) bitsLt_bf16_f32 : FVec Ideal S8320x512 .bf16) := by
  unfold w1
  simp only [hostOps0]
  after_results_simp
  all_goals rfl
set_option maxHeartbeats 4000000 in
theorem w1_v1 : w1 V0 (no_index (Proc.devRef .tc main_v1)) = (truncf .bf16 (V0 (Proc.devRef .tc main_arg2) : FVec Ideal S8320x512 .f32) bitsLt_bf16_f32 : FVec Ideal S8320x512 .bf16) := by
  unfold w1
  simp only [hostOps0]
  after_results_simp
  all_goals rfl
set_option maxHeartbeats 4000000 in
theorem w1_v2 : w1 V0 (no_index (Proc.devRef .tc main_v2)) = (truncf .bf16 (V0 (Proc.devRef .tc main_arg3) : FVec Ideal S1024x1024 .f32) bitsLt_bf16_f32 : FVec Ideal S1024x1024 .bf16) := by
  unfold w1
  simp only [hostOps0]
  after_results_simp
  all_goals rfl

variable {m : (ℓ : Loc nD τ sig) → Buf (Elt Ideal) ℓ} {c : Dev nD}

/-- The four arguments. -/
abbrev inH (m : (ℓ : Loc nD τ sig) → Buf (Elt Ideal) ℓ) (c : Dev nD) : FVec Ideal S8320x1024 .f32 := m ((c : Thread nD τ).loc main_arg0)
abbrev inRet (m : (ℓ : Loc nD τ sig) → Buf (Elt Ideal) ℓ) (c : Dev nD) : FVec Ideal S8320x512 .f32 := m ((c : Thread nD τ).loc main_arg1)
abbrev inSsm (m : (ℓ : Loc nD τ sig) → Buf (Elt Ideal) ℓ) (c : Dev nD) : FVec Ideal S8320x512 .f32 := m ((c : Thread nD τ).loc main_arg2)
abbrev inW (m : (ℓ : Loc nD τ sig) → Buf (Elt Ideal) ℓ) (c : Dev nD) : FVec Ideal S1024x1024 .f32 := m ((c : Thread nD τ).loc main_arg3)

/-- A buffer as the region finds it. -/
theorem entry (b : Ref sig .tc) : V m c b = w1 (fun b => m (c, b)) (Proc.devRef .tc b) := rfl

/-- The block each window is on. -/
theorem places : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0) :=
  (by decide +kernel : ∀ t : Fin grid0.N, _)

theorem block0 (t : Fin cfg0.N) (r : Fin 640) (d : Fin 512) : iblk m c 0 t (ix2 r d) = inRet m c (ix2 (tok t.val r) d) := by
  obtain ⟨hp, -⟩ := places t
  have ht : t.val < 13 := lt_of_lt_of_eq t.isLt (show cfg0.N = 13 from N_0)
  have key : ∀ i : S8320x512.Idx, i = ix2 (tok t.val r) d → V m c main_v0 i = inRet m c (ix2 (tok t.val r) d) := fun i hi => by
    subst hi
    exact congrFun ((entry main_v0).trans (w1_v0 fun b => m (c, b))) _
  refine key _ (funext fun a => Fin.ext ?_)
  match a with
  | ⟨0, _⟩ => show win0_0.index t 0 * 640 + 1 * r.val = (tok t.val r).val; rw [hp.1, tok_val ht]; omega
  | ⟨1, _⟩ => show win0_0.index t 1 * 512 + 1 * d.val = d.val; rw [hp.2]; omega

theorem block1 (t : Fin cfg0.N) (r : Fin 640) (d : Fin 512) : iblk m c 1 t (ix2 r d) = inSsm m c (ix2 (tok t.val r) d) := by
  obtain ⟨-, hp, -⟩ := places t
  have ht : t.val < 13 := lt_of_lt_of_eq t.isLt (show cfg0.N = 13 from N_0)
  have key : ∀ i : S8320x512.Idx, i = ix2 (tok t.val r) d → V m c main_v1 i = inSsm m c (ix2 (tok t.val r) d) := fun i hi => by
    subst hi
    exact congrFun ((entry main_v1).trans (w1_v1 fun b => m (c, b))) _
  refine key _ (funext fun a => Fin.ext ?_)
  match a with
  | ⟨0, _⟩ => show win0_1.index t 0 * 640 + 1 * r.val = (tok t.val r).val; rw [hp.1, tok_val ht]; omega
  | ⟨1, _⟩ => show win0_1.index t 1 * 512 + 1 * d.val = d.val; rw [hp.2]; omega

theorem block2 (t : Fin cfg0.N) (r : Fin 1024) (d : Fin 1024) : iblk m c 2 t (ix2 r d) = inW m c (ix2 r d) := by
  obtain ⟨-, -, hp, -⟩ := places t
  have key : ∀ i : S1024x1024.Idx, i = ix2 r d → V m c main_v2 i = inW m c (ix2 r d) := fun i hi => by
    subst hi
    exact congrFun ((entry main_v2).trans (w1_v2 fun b => m (c, b))) _
  refine key _ (funext fun a => Fin.ext ?_)
  match a with
  | ⟨0, _⟩ => show win0_2.index t 0 * 1024 + 1 * r.val = r.val; rw [hp.1]; omega
  | ⟨1, _⟩ => show win0_2.index t 1 * 1024 + 1 * d.val = d.val; rw [hp.2]; omega

theorem block3 (t : Fin cfg0.N) (r : Fin 640) (d : Fin 1024) : iblk m c 3 t (ix2 r d) = inH m c (ix2 (tok t.val r) d) := by
  obtain ⟨-, -, -, hp, -⟩ := places t
  have ht : t.val < 13 := lt_of_lt_of_eq t.isLt (show cfg0.N = 13 from N_0)
  have key : ∀ i : S8320x1024.Idx, i = ix2 (tok t.val r) d → V m c main_arg0 i = inH m c (ix2 (tok t.val r) d) := fun i hi => by
    subst hi
    exact congrFun (V_main_arg0 m c) _
  refine key _ (funext fun a => Fin.ext ?_)
  match a with
  | ⟨0, _⟩ => show win0_3.index t 0 * 640 + 1 * r.val = (tok t.val r).val; rw [hp.1, tok_val ht]; omega
  | ⟨1, _⟩ => show win0_3.index t 1 * 1024 + 1 * d.val = d.val; rw [hp.2]; omega

theorem rows_read (i : S8320x1024.Idx) : (dats m 0 c).arrAt 4 cfg0.N i = inH m c (ix2 (i 0) (i 1)) + ∑ k : Fin 512, inRet m c (ix2 (i 0) k) * inW m c (ix2 (lo k) (i 1)) + ∑ k : Fin 512, inSsm m c (ix2 (i 0) k) * inW m c (ix2 (hi k) (i 1)) := by
  obtain ⟨n, r, hn, hr, hs⟩ := row_point (i 0)
  have ht' : n < cfg0.N := lt_of_lt_of_eq hn (show 13 = cfg0.N from N_0.symm)
  generalize ht : (⟨n, ht'⟩ : Fin cfg0.N) = t
  have hv : t.val = n := by rw [← ht]
  obtain ⟨-, -, -, -, hp⟩ := places t
  have e := congrFun (Value.blocks4 m c t (flush0_4 t)) (ix2 r (i 1))
  rw [Value.flushed4] at e
  have e2 : _ = inH m c (ix2 (tok t.val r) (i 1)) + ∑ k : Fin 512, inRet m c (ix2 (tok t.val r) k) * inW m c (ix2 (lo k) (i 1)) + ∑ k : Fin 512, inSsm m c (ix2 (tok t.val r) k) * inW m c (ix2 (hi k) (i 1)) := (point_at _ _ _ _ r (i 1)).trans
    (congrArg₂ (· + ·) (congrArg₂ (· + ·) (block3 t r (i 1)) (Finset.sum_congr rfl fun k _ => congrArg₂ (· * ·) (block0 t r k) (block2 t (lo k) (i 1))))
      (Finset.sum_congr rfl fun k _ => congrArg₂ (· * ·) (block1 t r k) (block2 t (hi k) (i 1))))
  have hs' : tok t.val r = i 0 := (congrArg (fun n => tok n r) hv).trans hs
  refine Eq.trans ?_ (e.trans (e2.trans (congrArg (fun s : Fin 8320 => inH m c (ix2 s (i 1)) + ∑ k : Fin 512, inRet m c (ix2 s k) * inW m c (ix2 (lo k) (i 1)) + ∑ k : Fin 512, inSsm m c (ix2 s k) * inW m c (ix2 (hi k) (i 1))) hs')))
  refine congrArg ((dats m 0 c).arrAt 4 cfg0.N) (funext fun a => Fin.ext ?_)
  match a with
  | ⟨0, _⟩ => show (i 0).val = win0_4.index t 0 * 640 + 1 * r.val; rw [hp.1, hr, hv]; omega
  | ⟨1, _⟩ => show (i 1).val = win0_4.index t 1 * 1024 + 1 * (i 1).val; rw [hp.2]; omega

/-- The rows the call leaves are the reference's. -/
theorem rows : val_main_v2 (F := Ideal) (inH m c) (inRet m c) (inSsm m c) (inW m c) = (dats m 0 c).arrAt 4 cfg0.N := by
  funext i
  refine Eq.trans ?_ (rows_read i).symm
  obtain ⟨s, d, rfl⟩ := index2 (a := 8320) (b := 1024) i
  rw [val_main_v2_apply, val_main_v1_apply, Ideal.addf_def, sum_halves, ← add_assoc]
  refine congrArg₂ (· + ·) (congrArg₂ (· + ·) rfl (Finset.sum_congr rfl fun k _ => congrArg₂ (· * ·) ?_ ?_)) (Finset.sum_congr rfl fun k _ => congrArg₂ (· * ·) ?_ ?_)
  · refine (congrArg (val_main_v0 (F := Ideal) (inRet m c) (inSsm m c)) ?_).trans (side_lo (inRet m c) (inSsm m c) _ s k)
    funext z; match z with | ⟨0, _⟩ => rfl | ⟨1, _⟩ => rfl
  · exact congrArg (inW m c) (by funext z; match z with | ⟨0, _⟩ => rfl | ⟨1, _⟩ => rfl)
  · refine (congrArg (val_main_v0 (F := Ideal) (inRet m c) (inSsm m c)) ?_).trans (side_hi (inRet m c) (inSsm m c) _ s k)
    funext z; match z with | ⟨0, _⟩ => rfl | ⟨1, _⟩ => rfl
  · exact congrArg (inW m c) (by funext z; match z with | ⟨0, _⟩ => rfl | ⟨1, _⟩ => rfl)

end Cert.Kernel10Ideal.Proj

end
-- ==== Proof.FirstDown.lean ====
/- The step calls the same kernel for the two layers' down weight: the two programs are the same, but for the names. So what is
   proved of the second layer's call holds of the first layer's. -/
module

public import proofs.«01_k».proof.Defs
public import proofs.«01_k».proof.Proof.Gen.Kernel4Ideal
public import proofs.«01_k».proof.Proof.Gen.Kernel11Ideal
public import proofs.«01_k».proof.Proof.Gen.Reference4Ideal
public import proofs.«01_k».proof.Proof.Gen.Reference11Ideal

@[expose] public section

set_option maxRecDepth 16384

noncomputable section

namespace Cert.FirstDown

open Idealize.ShloMosaic Idealize.ShloMosaic.TcCoe Idealize.SL.Sem

set_option maxHeartbeats 4000000 in
/-- The host's text. -/
theorem main_eq : Cert.Kernel11Ideal.main (F := Ideal) = Cert.Kernel4Ideal.main := rfl

set_option maxHeartbeats 4000000 in
/-- The kernel's text. -/
theorem body_eq : Cert.Kernel11Ideal.cc0_ffn1_down_grad (F := Ideal) = Cert.Kernel4Ideal.cc0_ffn2_down_grad := rfl

set_option maxHeartbeats 4000000 in
theorem labels_eq : Cert.Kernel11Ideal.defs₀ (F := Ideal) = Cert.Kernel4Ideal.defs₀ := by
  unfold Cert.Kernel11Ideal.defs₀ Cert.Kernel4Ideal.defs₀
  refine congrArg Defs.onTc (funext fun l => funext fun x => ?_)
  match l, x with
  | ⟨0, _⟩, (t, s) => rfl

set_option maxHeartbeats 4000000 in
/-- The kernel's text, run over its grid. -/
theorem defs_eq : Cert.Kernel11Ideal.defs (F := Ideal) = Cert.Kernel4Ideal.defs := congrArg (Pipeline.defs Cert.Kernel4Ideal.pcfgs) labels_eq

set_option maxHeartbeats 4000000 in
/-- The first layer's call leaves what its reference does, as the second layer's leaves what its own does. -/
theorem agrees (h : Cert.algebraic_Kernel4Ideal_Reference4Ideal) : Cert.algebraic_Kernel11Ideal_Reference11Ideal := by
  intro m ρ m' ρ' hp hagree
  obtain ⟨v, hk, hr⟩ := h m ρ m' ρ' hp hagree
  refine ⟨v, ?_, hr⟩
  rw [defs_eq]
  exact hk

end Cert.FirstDown

end
-- ==== Proof.FirstGate.lean ====
/- The step calls the same kernel for the two layers' gate and up weights: the two programs are the same, but for the names. So what is
   proved of the second layer's call holds of the first layer's. -/
module

public import proofs.«01_k».proof.Defs
public import proofs.«01_k».proof.Proof.Gen.Kernel3Ideal
public import proofs.«01_k».proof.Proof.Gen.Kernel12Ideal
public import proofs.«01_k».proof.Proof.Gen.Reference3Ideal
public import proofs.«01_k».proof.Proof.Gen.Reference12Ideal

@[expose] public section

set_option maxRecDepth 16384

noncomputable section

namespace Cert.FirstGate

open Idealize.ShloMosaic Idealize.ShloMosaic.TcCoe Idealize.SL.Sem

set_option maxHeartbeats 4000000 in
/-- The host's text. -/
theorem main_eq : Cert.Kernel12Ideal.main (F := Ideal) = Cert.Kernel3Ideal.main := rfl

set_option maxHeartbeats 4000000 in
/-- The kernel's text. -/
theorem body_eq : Cert.Kernel12Ideal.cc0_ffn1_gate_up_grad (F := Ideal) = Cert.Kernel3Ideal.cc0_ffn2_gate_up_grad := rfl

set_option maxHeartbeats 4000000 in
theorem labels_eq : Cert.Kernel12Ideal.defs₀ (F := Ideal) = Cert.Kernel3Ideal.defs₀ := by
  unfold Cert.Kernel12Ideal.defs₀ Cert.Kernel3Ideal.defs₀
  refine congrArg Defs.onTc (funext fun l => funext fun x => ?_)
  match l, x with
  | ⟨0, _⟩, (t, s) => rfl

set_option maxHeartbeats 4000000 in
/-- The kernel's text, run over its grid. -/
theorem defs_eq : Cert.Kernel12Ideal.defs (F := Ideal) = Cert.Kernel3Ideal.defs := congrArg (Pipeline.defs Cert.Kernel3Ideal.pcfgs) labels_eq

set_option maxHeartbeats 4000000 in
/-- The first layer's call leaves what its reference does, as the second layer's leaves what its own does. -/
theorem agrees (h : Cert.algebraic_Kernel3Ideal_Reference3Ideal) : Cert.algebraic_Kernel12Ideal_Reference12Ideal := by
  intro m ρ m' ρ' hp hagree
  obtain ⟨v, v2, hk, hr⟩ := h m ρ m' ρ' hp hagree
  refine ⟨v, v2, ?_, hr⟩
  rw [defs_eq]
  exact hk

end Cert.FirstGate

end
-- ==== Proof.lean ====
/- The claims of all the pairs of programs. The kernels' frames are one generated run each; a reference is a straight
   line of operations and declares no semaphore. The real and the printed decay constants are named, word by word. The
   values agree because both programs leave the gradients of `Cert.Spec.In`, in real numbers (`Cert.Agree`), and those
   of `Cert.Ffn.In` (`Cert.FfnAgree`), and because the gradients of the weights are the same sums over the rows
   (`Cert.Kernel3Ideal.Grad`, `Cert.Kernel4Ideal.Grad`, `Cert.Kernel7Ideal.Turn`, `Cert.Kernel8Ideal.Turn`); the first
   layer's weights' gradients are the second layer's text on other arrays (`Cert.FirstDown`, `Cert.FirstGate`); those of
   the first layer's gated product agree entry by entry (`Cert.Kernel5Ideal.Entry`), and so do the forward projections
   (`Cert.Kernel9Ideal.Proj`, `Cert.Kernel10Ideal.Proj`). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Agree
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Pre_finite2
public import proofs.«01_k».proof.Proof.FfnAgree
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.GradFinal
public import proofs.«01_k».proof.Proof.GradDownFinal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.ActFinal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.InpFinal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.WInFinal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.OutBackFinal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.ProjIn
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.ProjOut
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.FirstDown
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.FirstGate
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Each decay constant is the word the program prints, read as the real number it is named after. -/
theorem preserves : Cert.preserves_Kernel_KernelIdeal :=
  ⟨IdealRules.named_const.statement Cert.KernelIdeal.κ "log_g0" .f32 _ _ rfl,
    IdealRules.named_const.statement Cert.KernelIdeal.κ "log_g1" .f32 _ _ rfl,
    IdealRules.named_const.statement Cert.KernelIdeal.κ "log_g2" .f32 _ _ rfl,
    IdealRules.named_const.statement Cert.KernelIdeal.κ "log_g3" .f32 _ _ rfl,
    IdealRules.named_const.statement Cert.KernelIdeal.κ "g_chunk0" .f32 _ _ rfl,
    IdealRules.named_const.statement Cert.KernelIdeal.κ "g_chunk1" .f32 _ _ rfl,
    IdealRules.named_const.statement Cert.KernelIdeal.κ "g_chunk2" .f32 _ _ rfl,
    IdealRules.named_const.statement Cert.KernelIdeal.κ "g_chunk3" .f32 _ _ rfl⟩

/-- The kernel and the reference end with the same two arrays. -/
theorem algebraic : Cert.algebraic_KernelIdeal_ReferenceIdeal_pre_finite := by
  intro m ρ m' ρ' hpre hagree
  refine ⟨fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks (F := Ideal) m ρ, ?_⟩
  refine (θ_run Cert.ReferenceIdeal.defs _ _).mono (fun r h c => ⟨?_, ?_, (h c).2.2⟩)
    (Cert.ReferenceIdeal.Value.run (F := Ideal) m' ρ')
  · refine ((h c).1.trans (Cert.ReferenceIdeal.Read.val_main_v219_eq _)).trans (Eq.trans ?_ (Cert.Agree.projections (hpre c)))
    obtain ⟨e0, e1, e2⟩ := hagree c
    rw [← e0, ← e1, ← e2]
  · refine ((h c).2.1.trans (Cert.ReferenceIdeal.Read.val_main_v143_eq _)).trans (Eq.trans ?_ (Cert.Agree.gains (hpre c)))
    obtain ⟨e0, e1, e2⟩ := hagree c
    rw [← e0, ← e2]

/-! The backward pass of the SwiGLU layer. -/

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m ρ)

/-- The kernel and the reference end with the same five arrays. -/
theorem algebraic2 : Cert.algebraic_Kernel2Ideal_Reference2Ideal_pre_finite2 := by
  intro m ρ m' ρ' hpre hagree
  refine ⟨fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    Cert.Kernel2Ideal.Value.run_blocks (F := Ideal) m ρ, ?_⟩
  refine (θ_run Cert.Reference2Ideal.defs _ _).mono (fun r h c => ⟨?_, ?_, ?_, ?_, ?_, (h c).2.2.2.2.2⟩)
    (Cert.Reference2Ideal.Value.run (F := Ideal) m' ρ')
  · refine ((h c).1.trans (Cert.Reference2Ideal.Read.val_main_v48_eq _ _)).trans (Eq.trans ?_ (Cert.FfnAgree.rows (hpre c)))
    obtain ⟨e0, e1, e2, e3, e4, e5⟩ := hagree c
    rw [← e0, ← e1, ← e2, ← e3, ← e4, ← e5]
  · refine ((h c).2.1.trans (Cert.Reference2Ideal.Read.val_main_v49_eq _ _)).trans (Eq.trans ?_ (Cert.FfnAgree.gates (hpre c)))
    obtain ⟨e0, e1, e2, e3, e4, e5⟩ := hagree c
    rw [← e0, ← e1, ← e2, ← e3, ← e4, ← e5]
  · refine ((h c).2.2.1.trans (Cert.Reference2Ideal.Read.val_main_v50_eq _ _ _ _ _)).trans (Eq.trans ?_ (Cert.FfnAgree.ups (hpre c)))
    obtain ⟨e0, e1, e2, e3, e4, e5⟩ := hagree c
    rw [← e0, ← e1, ← e2, ← e4, ← e5]
  · refine ((h c).2.2.2.1.trans (Cert.Reference2Ideal.Read.val_main_v51_eq _)).trans (Eq.trans ?_ (Cert.FfnAgree.outs (hpre c)))
    obtain ⟨e0, e1, e2, e3, e4, e5⟩ := hagree c
    rw [← e5]
  · refine ((h c).2.2.2.2.1.trans (Cert.Reference2Ideal.Read.val_main_v31_eq _ _)).trans (Eq.trans ?_ (Cert.FfnAgree.gains (hpre c)))
    obtain ⟨e0, e1, e2, e3, e4, e5⟩ := hagree c
    rw [← e0, ← e1, ← e2, ← e3, ← e4, ← e5]

/-! The gradients of the layer's weights. -/

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The kernel and the reference end with the same two arrays. -/
theorem algebraic3 : Cert.algebraic_Kernel3Ideal_Reference3Ideal := by
  intro m ρ m' ρ' _ hagree
  refine ⟨fun c => (Cert.Kernel3Ideal.Gen.dats m 0 c).arrAt 2 Cert.Kernel3Ideal.cfg0.N,
    fun c => (Cert.Kernel3Ideal.Gen.dats m 0 c).arrAt 3 Cert.Kernel3Ideal.cfg0.N,
    Cert.Kernel3Ideal.Value.run_blocks (F := Ideal) m ρ, ?_⟩
  refine (θ_run Cert.Reference3Ideal.defs _ _).mono (fun r h c => ⟨?_, ?_, (h c).2.2⟩)
    (Cert.Reference3Ideal.Value.run (F := Ideal) m' ρ')
  · refine ((h c).1.trans (Cert.Reference3Ideal.Read.val_main_v20_eq _ _ _)).trans (Eq.trans ?_ Cert.Kernel3Ideal.Grad.gate_agrees)
    obtain ⟨e0, e1, e2, e3⟩ := hagree c
    rw [e0, e1, e2]
  · refine ((h c).2.1.trans (Cert.Reference3Ideal.Read.val_main_v22_eq _ _ _)).trans (Eq.trans ?_ Cert.Kernel3Ideal.Grad.up_agrees)
    obtain ⟨e0, e1, e2, e3⟩ := hagree c
    rw [e0, e1, e3]

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The kernel and the reference end with the same array. -/
theorem algebraic4 : Cert.algebraic_Kernel4Ideal_Reference4Ideal := by
  intro m ρ m' ρ' _ hagree
  refine ⟨fun c => (Cert.Kernel4Ideal.Gen.dats m 0 c).arrAt 1 Cert.Kernel4Ideal.cfg0.N,
    Cert.Kernel4Ideal.Value.run_blocks (F := Ideal) m ρ, ?_⟩
  refine (θ_run Cert.Reference4Ideal.defs _ _).mono (fun r h c => ⟨?_, (h c).2⟩)
    (Cert.Reference4Ideal.Value.run (F := Ideal) m' ρ')
  refine ((h c).1.trans (Cert.Reference4Ideal.Read.val_main_v10_eq _ _ _)).trans (Eq.trans ?_ Cert.Kernel4Ideal.Grad.down_agrees)
  obtain ⟨e0, e1, e2⟩ := hagree c
  rw [e0, e1, e2]

/-! The gradients of the first layer's gate and up products. -/

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- The kernel and the reference end with the same two arrays. -/
theorem algebraic5 : Cert.algebraic_Kernel5Ideal_Reference5Ideal_pre_finite5 := by
  intro m ρ m' ρ' hpre hagree
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks (F := Ideal) m ρ, ?_⟩
  refine (θ_run Cert.Reference5Ideal.defs _ _).mono (fun r h c => ⟨?_, ?_, (h c).2.2⟩)
    (Cert.Reference5Ideal.Value.run (F := Ideal) m' ρ')
  · refine ((h c).1.trans (Cert.Reference5Ideal.Read.val_main_v9_eq _ _ _ _)).trans (Eq.trans ?_ (Cert.Kernel5Ideal.Entry.gates (hpre c)))
    obtain ⟨e0, e1, e2, e3⟩ := hagree c
    rw [e0, e1, e2, e3]
  · refine ((h c).2.1.trans (Cert.Reference5Ideal.Read.val_main_v10_eq _ _ _)).trans (Eq.trans ?_ (Cert.Kernel5Ideal.Entry.ups (hpre c)))
    obtain ⟨e0, e1, e2, e3⟩ := hagree c
    rw [e0, e2, e3]

/-! The gradient through the input projection. -/

theorem frame_p6 : Cert.quiescent_Kernel6 := fun m ρ _ => Cert.Kernel6.Gen.frame m ρ

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

/-- The kernel and the reference end with the same three arrays. -/
theorem algebraic6 : Cert.algebraic_Kernel6Ideal_Reference6Ideal_pre_finite6 := by
  intro m ρ m' ρ' hpre hagree
  refine ⟨fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    Cert.Kernel6Ideal.Value.run_blocks (F := Ideal) m ρ, ?_⟩
  refine (θ_run Cert.Reference6Ideal.defs _ _).mono (fun r h c => ⟨?_, ?_, ?_, (h c).2.2.2⟩)
    (Cert.Reference6Ideal.Value.run (F := Ideal) m' ρ')
  · refine ((h c).1.trans (Cert.Reference6Ideal.Read.val_main_v36_eq _ _)).trans (Eq.trans ?_ (Cert.Kernel6Ideal.Entry.rows (hpre c)))
    obtain ⟨e0, e1, e2, e3, e4⟩ := hagree c
    rw [e0, e1, e2, e3, e4]
  · refine ((h c).2.1.trans (Cert.Reference6Ideal.Read.val_main_v19_eq _ _ _)).trans (Eq.trans ?_ (Cert.Kernel6Ideal.Entry.gains (hpre c)))
    obtain ⟨e0, e1, e2, e3, e4⟩ := hagree c
    rw [e0, e2, e3]
  · refine ((h c).2.2.1.trans (Cert.Reference6Ideal.Read.val_main_v39_eq _ _)).trans (Eq.trans ?_ (Cert.Kernel6Ideal.Entry.halves (hpre c)))
    obtain ⟨e0, e1, e2, e3, e4⟩ := hagree c
    rw [e0, e1, e2, e3, e4]

/-! The gradient of the input projection's weight. -/

theorem frame_p7 : Cert.quiescent_Kernel7 := fun m ρ _ => Cert.Kernel7.Gen.frame m ρ

theorem frame_pi7 : Cert.quiescent_Kernel7Ideal := fun m ρ _ => Cert.Kernel7Ideal.Gen.frame m ρ

theorem frame_ri7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The kernel and the reference end with the same array. -/
theorem algebraic7 : Cert.algebraic_Kernel7Ideal_Reference7Ideal := by
  intro m ρ m' ρ' _ hagree
  refine ⟨fun c => (Cert.Kernel7Ideal.Gen.dats m 0 c).arrAt 3 Cert.Kernel7Ideal.cfg0.N,
    Cert.Kernel7Ideal.Value.run_blocks (F := Ideal) m ρ, ?_⟩
  refine (θ_run Cert.Reference7Ideal.defs _ _).mono (fun r h c => ⟨?_, (h c).2⟩)
    (Cert.Reference7Ideal.Value.run (F := Ideal) m' ρ')
  refine ((h c).1.trans (Cert.Reference7Ideal.Read.val_main_v17_eq _ _ _)).trans (Eq.trans ?_ Cert.Kernel7Ideal.Turn.agrees)
  obtain ⟨e0, e1, e2⟩ := hagree c
  rw [e0, e1, e2]

/-! The gradient through the output projection. -/

theorem frame_p8 : Cert.quiescent_Kernel8 := fun m ρ _ => Cert.Kernel8.Gen.frame m ρ

theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

/-- The kernel and the reference end with the same two arrays. -/
theorem algebraic8 : Cert.algebraic_Kernel8Ideal_Reference8Ideal := by
  intro m ρ m' ρ' _ hagree
  refine ⟨fun c => (Cert.Kernel8Ideal.Gen.dats m 0 c).arrAt 4 Cert.Kernel8Ideal.cfg0.N,
    fun c => (Cert.Kernel8Ideal.Gen.dats m 0 c).arrAt 5 Cert.Kernel8Ideal.cfg0.N,
    Cert.Kernel8Ideal.Value.run_blocks (F := Ideal) m ρ, ?_⟩
  refine (θ_run Cert.Reference8Ideal.defs _ _).mono (fun r h c => ⟨?_, ?_, (h c).2.2⟩)
    (Cert.Reference8Ideal.Value.run (F := Ideal) m' ρ')
  · refine ((h c).1.trans (Cert.Reference8Ideal.Read.val_main_v4_eq _ _)).trans (Eq.trans ?_ Cert.Kernel8Ideal.Turn.mix)
    obtain ⟨e0, e1, e2, e3⟩ := hagree c
    rw [e2, e3]
  · refine ((h c).2.1.trans (Cert.Reference8Ideal.Read.val_main_v5_eq _ _ _)).trans (Eq.trans ?_ Cert.Kernel8Ideal.Turn.weight)
    obtain ⟨e0, e1, e2, e3⟩ := hagree c
    rw [e0, e1, e3]

/-! The input projection. -/

theorem frame_p9 : Cert.quiescent_Kernel9 := fun m ρ _ => Cert.Kernel9.Gen.frame m ρ

theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

/-- The kernel and the reference end with the same two arrays. -/
theorem algebraic9 : Cert.algebraic_Kernel9Ideal_Reference9Ideal := by
  intro m ρ m' ρ' _ hagree
  refine ⟨fun c => (Cert.Kernel9Ideal.Gen.dats m 0 c).arrAt 3 Cert.Kernel9Ideal.cfg0.N,
    fun c => (Cert.Kernel9Ideal.Gen.dats m 0 c).arrAt 4 Cert.Kernel9Ideal.cfg0.N,
    Cert.Kernel9Ideal.Value.run_blocks (F := Ideal) m ρ, ?_⟩
  refine (θ_run Cert.Reference9Ideal.defs _ _).mono (fun r h c => ⟨?_, ?_, (h c).2.2⟩)
    (Cert.Reference9Ideal.Value.run (F := Ideal) m' ρ')
  · refine ((h c).1.trans (Cert.Reference9Ideal.Read.val_main_v13_eq _ _ _)).trans (Eq.trans ?_ Cert.Kernel9Ideal.Proj.proj)
    obtain ⟨e0, e1, e2⟩ := hagree c
    rw [e0, e1, e2]
  · refine ((h c).2.1.trans (Cert.Reference9Ideal.Read.val_main_v14_eq _ _)).trans (Eq.trans ?_ Cert.Kernel9Ideal.Proj.normed)
    obtain ⟨e0, e1, e2⟩ := hagree c
    rw [e0, e1]

/-! The output projection. -/

theorem frame_p10 : Cert.quiescent_Kernel10 := fun m ρ _ => Cert.Kernel10.Gen.frame m ρ

theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The kernel and the reference end with the same array. -/
theorem algebraic10 : Cert.algebraic_Kernel10Ideal_Reference10Ideal := by
  intro m ρ m' ρ' _ hagree
  refine ⟨fun c => (Cert.Kernel10Ideal.Gen.dats m 0 c).arrAt 4 Cert.Kernel10Ideal.cfg0.N,
    Cert.Kernel10Ideal.Value.run_blocks (F := Ideal) m ρ, ?_⟩
  refine (θ_run Cert.Reference10Ideal.defs _ _).mono (fun r h c => ⟨?_, (h c).2⟩)
    (Cert.Reference10Ideal.Value.run (F := Ideal) m' ρ')
  refine ((h c).1.trans (Cert.Reference10Ideal.Read.val_main_v2_eq _ _ _ _)).trans (Eq.trans ?_ Cert.Kernel10Ideal.Proj.rows)
  obtain ⟨e0, e1, e2, e3⟩ := hagree c
  rw [e0, e1, e2, e3]

/-! The gradient of the first layer's down weight. -/

theorem frame_p11 : Cert.quiescent_Kernel11 := fun m ρ _ => Cert.Kernel11.Gen.frame m ρ

theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The call is the second layer's, made on the first layer's arrays. -/
theorem algebraic11 : Cert.algebraic_Kernel11Ideal_Reference11Ideal := Cert.FirstDown.agrees algebraic4

/-! The gradients of the first layer's gate and up weights. -/

theorem frame_p12 : Cert.quiescent_Kernel12 := fun m ρ _ => Cert.Kernel12.Gen.frame m ρ

theorem frame_pi12 : Cert.quiescent_Kernel12Ideal := fun m ρ _ => Cert.Kernel12Ideal.Gen.frame m ρ

theorem frame_ri12 : Cert.quiescent_Reference12Ideal := fun m ρ _ =>
  (θ_run Cert.Reference12Ideal.defs _ _).mono
    (fun r h => ⟨fun c => (h c).2.2, Idealize.ShloMosaic.sem_eq_zero_of_no_sems (by decide) r.2⟩)
    (Cert.Reference12Ideal.Value.run (F := Ideal) m ρ)

/-- The call is the second layer's, made on the first layer's arrays. -/
theorem algebraic12 : Cert.algebraic_Kernel12Ideal_Reference12Ideal := Cert.FirstGate.agrees algebraic3

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.Pre_finite2.Gen.facts, Cert.Pre_finite5.Gen.facts, Cert.Pre_finite6.Gen.facts,
  frame_p, frame_pi, fun m ρ _ => frame_pi m ρ trivial, frame_ri, fun m ρ _ => frame_ri m ρ trivial,
  frame_p2, frame_pi2, fun m ρ _ => frame_pi2 m ρ trivial, frame_ri2, fun m ρ _ => frame_ri2 m ρ trivial,
  frame_p3, frame_pi3, frame_ri3, frame_p4, frame_pi4, frame_ri4,
  frame_p5, frame_pi5, fun m ρ _ => frame_pi5 m ρ trivial, frame_ri5, fun m ρ _ => frame_ri5 m ρ trivial,
  frame_p6, frame_pi6, fun m ρ _ => frame_pi6 m ρ trivial, frame_ri6, fun m ρ _ => frame_ri6 m ρ trivial,
  frame_p7, frame_pi7, frame_ri7,
  frame_p8, frame_pi8, frame_ri8,
  frame_p9, frame_pi9, frame_ri9,
  frame_p10, frame_pi10, frame_ri10,
  frame_p11, frame_pi11, frame_ri11,
  frame_p12, frame_pi12, frame_ri12,
  preserves, algebraic, trivial, algebraic2, trivial, algebraic3, trivial, algebraic4, trivial, algebraic5,
  trivial, algebraic6, trivial, algebraic7, trivial, algebraic8, trivial, algebraic9, trivial, algebraic10,
  trivial, algebraic11, trivial, algebraic12⟩

end Cert.Proof

end
